-- ==== Defs.lean ====
def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvKernelIdeal_finite_conv [hPre_finite_conv : Cert.Pre_finite_conv.Facts] (m : (ℓ : Loc Cert.ConvKernelIdeal.nD Cert.ConvKernelIdeal.τ Cert.ConvKernelIdeal.sig) → Buf (Elt Ideal) ℓ) : Prop :=
  ∀ c : Dev Cert.ConvKernelIdeal.nD,
    (Cert.Pre_finite_conv.fn (F := Ideal) (m ((c.tc : Thread Cert.ConvKernelIdeal.nD Cert.ConvKernelIdeal.τ).loc Cert.ConvKernelIdeal.main_arg0)) (m ((c.tc : Thread Cert.ConvKernelIdeal.nD Cert.ConvKernelIdeal.τ).loc Cert.ConvKernelIdeal.main_arg1)) (m ((c.tc : Thread Cert.ConvKernelIdeal.nD Cert.ConvKernelIdeal.τ).loc Cert.ConvKernelIdeal.main_arg2)) (m ((c.tc : Thread Cert.ConvKernelIdeal.nD Cert.ConvKernelIdeal.τ).loc Cert.ConvKernelIdeal.main_arg3))) = (fun _ => 1#1)

def Pre_ConvReferenceIdeal (m : (ℓ : Loc Cert.ConvReferenceIdeal.nD Cert.ConvReferenceIdeal.τ Cert.ConvReferenceIdeal.sig) → Buf (Elt Ideal) ℓ) : Prop :=
  True

def Pre_ConvReferenceIdeal_finite_conv [hPre_finite_conv : Cert.Pre_finite_conv.Facts] (m : (ℓ : Loc Cert.ConvReferenceIdeal.nD Cert.ConvReferenceIdeal.τ Cert.ConvReferenceIdeal.sig) → Buf (Elt Ideal) ℓ) : Prop :=
  ∀ c : Dev Cert.ConvReferenceIdeal.nD,
    (Cert.Pre_finite_conv.fn (F := Ideal) (m ((c.tc : Thread Cert.ConvReferenceIdeal.nD Cert.ConvReferenceIdeal.τ).loc Cert.ConvReferenceIdeal.main_arg0)) (m ((c.tc : Thread Cert.ConvReferenceIdeal.nD Cert.ConvReferenceIdeal.τ).loc Cert.ConvReferenceIdeal.main_arg1)) (m ((c.tc : Thread Cert.ConvReferenceIdeal.nD Cert.ConvReferenceIdeal.τ).loc Cert.ConvReferenceIdeal.main_arg2)) (m ((c.tc : Thread Cert.ConvReferenceIdeal.nD Cert.ConvReferenceIdeal.τ).loc Cert.ConvReferenceIdeal.main_arg3))) = (fun _ => 1#1)

def Pre_DtKernel (m : (ℓ : Loc Cert.DtKernel.nD Cert.DtKernel.τ Cert.DtKernel.sig) → Buf (Elt Bits) ℓ) : Prop :=
  True

def Pre_DtKernelIdeal (m : (ℓ : Loc Cert.DtKernelIdeal.nD Cert.DtKernelIdeal.τ Cert.DtKernelIdeal.sig) → Buf (Elt Ideal) ℓ) : Prop :=
  True

def Pre_DtReferenceIdeal (m : (ℓ : Loc Cert.DtReferenceIdeal.nD Cert.DtReferenceIdeal.τ Cert.DtReferenceIdeal.sig) → Buf (Elt Ideal) ℓ) : Prop :=
  True

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_finite_gate [hPre_finite_gate : Cert.Pre_finite_gate.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 = (fun _ => 1#1)
    ∧ (Cert.Pre_finite_gate.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2 = (fun _ => 1#1)

def Pre_GateReferenceIdeal (m : (ℓ : Loc Cert.GateReferenceIdeal.nD Cert.GateReferenceIdeal.τ Cert.GateReferenceIdeal.sig) → Buf (Elt Ideal) ℓ) : Prop :=
  True

def Pre_GateReferenceIdeal_finite_gate [hPre_finite_gate : Cert.Pre_finite_gate.Facts] (m : (ℓ : Loc Cert.GateReferenceIdeal.nD Cert.GateReferenceIdeal.τ Cert.GateReferenceIdeal.sig) → Buf (Elt Ideal) ℓ) : Prop :=
  ∀ c : Dev Cert.GateReferenceIdeal.nD,
    (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).1 = (fun _ => 1#1)
    ∧ (Cert.Pre_finite_gate.fn (F := Ideal) (m ((c.tc : Thread Cert.GateReferenceIdeal.nD Cert.GateReferenceIdeal.τ).loc Cert.GateReferenceIdeal.main_arg0)) (m ((c.tc : Thread Cert.GateReferenceIdeal.nD Cert.GateReferenceIdeal.τ).loc Cert.GateReferenceIdeal.main_arg1)) (m ((c.tc : Thread Cert.GateReferenceIdeal.nD Cert.GateReferenceIdeal.τ).loc Cert.GateReferenceIdeal.main_arg2)) (m ((c.tc : Thread Cert.GateReferenceIdeal.nD Cert.GateReferenceIdeal.τ).loc Cert.GateReferenceIdeal.main_arg3))).2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite_ffn [hPre_finite_ffn : Cert.Pre_finite_ffn.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.1 = (fun _ => 1#1)
    ∧ (Cert.Pre_finite_ffn.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))).2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite_ffn [hPre_finite_ffn : Cert.Pre_finite_ffn.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.1 = (fun _ => 1#1)
    ∧ (Cert.Pre_finite_ffn.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))).2.2 = (fun _ => 1#1)

def Pre_LnKernel (m : (ℓ : Loc Cert.LnKernel.nD Cert.LnKernel.τ Cert.LnKernel.sig) → Buf (Elt Bits) ℓ) : Prop :=
  True

def Pre_LnKernelIdeal (m : (ℓ : Loc Cert.LnKernelIdeal.nD Cert.LnKernelIdeal.τ Cert.LnKernelIdeal.sig) → Buf (Elt Ideal) ℓ) : Prop :=
  True

def Pre_LnKernelIdeal_finite_ln [hPre_finite_ln : Cert.Pre_finite_ln.Facts] (m : (ℓ : Loc Cert.LnKernelIdeal.nD Cert.LnKernelIdeal.τ Cert.LnKernelIdeal.sig) → Buf (Elt Ideal) ℓ) : Prop :=
  ∀ c : Dev Cert.LnKernelIdeal.nD,
    (Cert.Pre_finite_ln.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4))).1 = (fun _ => 1#1)
    ∧ (Cert.Pre_finite_ln.fn (F := Ideal) (m ((c.tc : Thread Cert.LnKernelIdeal.nD Cert.LnKernelIdeal.τ).loc Cert.LnKernelIdeal.main_arg0)) (m ((c.tc : Thread Cert.LnKernelIdeal.nD Cert.LnKernelIdeal.τ).loc Cert.LnKernelIdeal.main_arg1)) (m ((c.tc : Thread Cert.LnKernelIdeal.nD Cert.LnKernelIdeal.τ).loc Cert.LnKernelIdeal.main_arg2)) (m ((c.tc : Thread Cert.LnKernelIdeal.nD Cert.LnKernelIdeal.τ).loc Cert.LnKernelIdeal.main_arg3)) (m ((c.tc : Thread Cert.LnKernelIdeal.nD Cert.LnKernelIdeal.τ).loc Cert.LnKernelIdeal.main_arg4))).2 = (fun _ => 1#1)

def Pre_LnReferenceIdeal (m : (ℓ : Loc Cert.LnReferenceIdeal.nD Cert.LnReferenceIdeal.τ Cert.LnReferenceIdeal.sig) → Buf (Elt Ideal) ℓ) : Prop :=
  True

def Pre_LnReferenceIdeal_finite_ln [hPre_finite_ln : Cert.Pre_finite_ln.Facts] (m : (ℓ : Loc Cert.LnReferenceIdeal.nD Cert.LnReferenceIdeal.τ Cert.LnReferenceIdeal.sig) → Buf (Elt Ideal) ℓ) : Prop :=
  ∀ c : Dev Cert.LnReferenceIdeal.nD,
    (Cert.Pre_finite_ln.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))).1 = (fun _ => 1#1)
    ∧ (Cert.Pre_finite_ln.fn (F := Ideal) (m ((c.tc : Thread Cert.LnReferenceIdeal.nD Cert.LnReferenceIdeal.τ).loc Cert.LnReferenceIdeal.main_arg0)) (m ((c.tc : Thread Cert.LnReferenceIdeal.nD Cert.LnReferenceIdeal.τ).loc Cert.LnReferenceIdeal.main_arg1)) (m ((c.tc : Thread Cert.LnReferenceIdeal.nD Cert.LnReferenceIdeal.τ).loc Cert.LnReferenceIdeal.main_arg2)) (m ((c.tc : Thread Cert.LnReferenceIdeal.nD Cert.LnReferenceIdeal.τ).loc Cert.LnReferenceIdeal.main_arg3)) (m ((c.tc : Thread Cert.LnReferenceIdeal.nD Cert.LnReferenceIdeal.τ).loc Cert.LnReferenceIdeal.main_arg4))).2 = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaReferenceIdeal (m : (ℓ : Loc Cert.MlaReferenceIdeal.nD Cert.MlaReferenceIdeal.τ Cert.MlaReferenceIdeal.sig) → Buf (Elt Ideal) ℓ) : Prop :=
  True

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostReferenceIdeal (m : (ℓ : Loc Cert.PostReferenceIdeal.nD Cert.PostReferenceIdeal.τ Cert.PostReferenceIdeal.sig) → Buf (Elt Ideal) ℓ) : Prop :=
  True

def Pre_FoxfKernel (m : (ℓ : Loc Cert.FoxfKernel.nD Cert.FoxfKernel.τ Cert.FoxfKernel.sig) → Buf (Elt Bits) ℓ) : Prop :=
  True

def Pre_FoxfKernelIdeal (m : (ℓ : Loc Cert.FoxfKernelIdeal.nD Cert.FoxfKernelIdeal.τ Cert.FoxfKernelIdeal.sig) → Buf (Elt Ideal) ℓ) : Prop :=
  True

def Pre_FoxfKernelIdeal_finite_foxf [hPre_finite_foxf : Cert.Pre_finite_foxf.Facts] (m : (ℓ : Loc Cert.FoxfKernelIdeal.nD Cert.FoxfKernelIdeal.τ Cert.FoxfKernelIdeal.sig) → Buf (Elt Ideal) ℓ) : Prop :=
  ∀ c : Dev Cert.FoxfKernelIdeal.nD,
    (Cert.Pre_finite_foxf.fn (F := Ideal) (m ((c.tc : Thread Cert.FoxfKernelIdeal.nD Cert.FoxfKernelIdeal.τ).loc Cert.FoxfKernelIdeal.main_arg0)) (m ((c.tc : Thread Cert.FoxfKernelIdeal.nD Cert.FoxfKernelIdeal.τ).loc Cert.FoxfKernelIdeal.main_arg1)) (m ((c.tc : Thread Cert.FoxfKernelIdeal.nD Cert.FoxfKernelIdeal.τ).loc Cert.FoxfKernelIdeal.main_arg2)) (m ((c.tc : Thread Cert.FoxfKernelIdeal.nD Cert.FoxfKernelIdeal.τ).loc Cert.FoxfKernelIdeal.main_arg3))).1 = (fun _ => 1#1)
    ∧ (Cert.Pre_finite_foxf.fn (F := Ideal) (m ((c.tc : Thread Cert.FoxfKernelIdeal.nD Cert.FoxfKernelIdeal.τ).loc Cert.FoxfKernelIdeal.main_arg0)) (m ((c.tc : Thread Cert.FoxfKernelIdeal.nD Cert.FoxfKernelIdeal.τ).loc Cert.FoxfKernelIdeal.main_arg1)) (m ((c.tc : Thread Cert.FoxfKernelIdeal.nD Cert.FoxfKernelIdeal.τ).loc Cert.FoxfKernelIdeal.main_arg2)) (m ((c.tc : Thread Cert.FoxfKernelIdeal.nD Cert.FoxfKernelIdeal.τ).loc Cert.FoxfKernelIdeal.main_arg3))).2.1 = (fun _ => 1#1)
    ∧ (Cert.Pre_finite_foxf.fn (F := Ideal) (m ((c.tc : Thread Cert.FoxfKernelIdeal.nD Cert.FoxfKernelIdeal.τ).loc Cert.FoxfKernelIdeal.main_arg0)) (m ((c.tc : Thread Cert.FoxfKernelIdeal.nD Cert.FoxfKernelIdeal.τ).loc Cert.FoxfKernelIdeal.main_arg1)) (m ((c.tc : Thread Cert.FoxfKernelIdeal.nD Cert.FoxfKernelIdeal.τ).loc Cert.FoxfKernelIdeal.main_arg2)) (m ((c.tc : Thread Cert.FoxfKernelIdeal.nD Cert.FoxfKernelIdeal.τ).loc Cert.FoxfKernelIdeal.main_arg3))).2.2 = (fun _ => 1#1)

def Pre_FoxfReferenceIdeal (m : (ℓ : Loc Cert.FoxfReferenceIdeal.nD Cert.FoxfReferenceIdeal.τ Cert.FoxfReferenceIdeal.sig) → Buf (Elt Ideal) ℓ) : Prop :=
  True

def Pre_FoxfReferenceIdeal_finite_foxf [hPre_finite_foxf : Cert.Pre_finite_foxf.Facts] (m : (ℓ : Loc Cert.FoxfReferenceIdeal.nD Cert.FoxfReferenceIdeal.τ Cert.FoxfReferenceIdeal.sig) → Buf (Elt Ideal) ℓ) : Prop :=
  ∀ c : Dev Cert.FoxfReferenceIdeal.nD,
    (Cert.Pre_finite_foxf.fn (F := Ideal) (m ((c.tc : Thread Cert.FoxfReferenceIdeal.nD Cert.FoxfReferenceIdeal.τ).loc Cert.FoxfReferenceIdeal.main_arg0)) (m ((c.tc : Thread Cert.FoxfReferenceIdeal.nD Cert.FoxfReferenceIdeal.τ).loc Cert.FoxfReferenceIdeal.main_arg1)) (m ((c.tc : Thread Cert.FoxfReferenceIdeal.nD Cert.FoxfReferenceIdeal.τ).loc Cert.FoxfReferenceIdeal.main_arg2)) (m ((c.tc : Thread Cert.FoxfReferenceIdeal.nD Cert.FoxfReferenceIdeal.τ).loc Cert.FoxfReferenceIdeal.main_arg3))).1 = (fun _ => 1#1)
    ∧ (Cert.Pre_finite_foxf.fn (F := Ideal) (m ((c.tc : Thread Cert.FoxfReferenceIdeal.nD Cert.FoxfReferenceIdeal.τ).loc Cert.FoxfReferenceIdeal.main_arg0)) (m ((c.tc : Thread Cert.FoxfReferenceIdeal.nD Cert.FoxfReferenceIdeal.τ).loc Cert.FoxfReferenceIdeal.main_arg1)) (m ((c.tc : Thread Cert.FoxfReferenceIdeal.nD Cert.FoxfReferenceIdeal.τ).loc Cert.FoxfReferenceIdeal.main_arg2)) (m ((c.tc : Thread Cert.FoxfReferenceIdeal.nD Cert.FoxfReferenceIdeal.τ).loc Cert.FoxfReferenceIdeal.main_arg3))).2.1 = (fun _ => 1#1)
    ∧ (Cert.Pre_finite_foxf.fn (F := Ideal) (m ((c.tc : Thread Cert.FoxfReferenceIdeal.nD Cert.FoxfReferenceIdeal.τ).loc Cert.FoxfReferenceIdeal.main_arg0)) (m ((c.tc : Thread Cert.FoxfReferenceIdeal.nD Cert.FoxfReferenceIdeal.τ).loc Cert.FoxfReferenceIdeal.main_arg1)) (m ((c.tc : Thread Cert.FoxfReferenceIdeal.nD Cert.FoxfReferenceIdeal.τ).loc Cert.FoxfReferenceIdeal.main_arg2)) (m ((c.tc : Thread Cert.FoxfReferenceIdeal.nD Cert.FoxfReferenceIdeal.τ).loc Cert.FoxfReferenceIdeal.main_arg3))).2.2 = (fun _ => 1#1)

def Pre_AttfKernel (m : (ℓ : Loc Cert.AttfKernel.nD Cert.AttfKernel.τ Cert.AttfKernel.sig) → Buf (Elt Bits) ℓ) : Prop :=
  True

def Pre_AttfKernelIdeal (m : (ℓ : Loc Cert.AttfKernelIdeal.nD Cert.AttfKernelIdeal.τ Cert.AttfKernelIdeal.sig) → Buf (Elt Ideal) ℓ) : Prop :=
  True

def Pre_AttfKernelIdeal_finite_attf [hPre_finite_attf : Cert.Pre_finite_attf.Facts] (m : (ℓ : Loc Cert.AttfKernelIdeal.nD Cert.AttfKernelIdeal.τ Cert.AttfKernelIdeal.sig) → Buf (Elt Ideal) ℓ) : Prop :=
  ∀ c : Dev Cert.AttfKernelIdeal.nD,
    (Cert.Pre_finite_attf.fn (F := Ideal) (m ((c.tc : Thread Cert.AttfKernelIdeal.nD Cert.AttfKernelIdeal.τ).loc Cert.AttfKernelIdeal.main_arg0)) (m ((c.tc : Thread Cert.AttfKernelIdeal.nD Cert.AttfKernelIdeal.τ).loc Cert.AttfKernelIdeal.main_arg1)) (m ((c.tc : Thread Cert.AttfKernelIdeal.nD Cert.AttfKernelIdeal.τ).loc Cert.AttfKernelIdeal.main_arg2)) (m ((c.tc : Thread Cert.AttfKernelIdeal.nD Cert.AttfKernelIdeal.τ).loc Cert.AttfKernelIdeal.main_arg3)) (m ((c.tc : Thread Cert.AttfKernelIdeal.nD Cert.AttfKernelIdeal.τ).loc Cert.AttfKernelIdeal.main_arg4))).1 = (fun _ => 1#1)
    ∧ (Cert.Pre_finite_attf.fn (F := Ideal) (m ((c.tc : Thread Cert.AttfKernelIdeal.nD Cert.AttfKernelIdeal.τ).loc Cert.AttfKernelIdeal.main_arg0)) (m ((c.tc : Thread Cert.AttfKernelIdeal.nD Cert.AttfKernelIdeal.τ).loc Cert.AttfKernelIdeal.main_arg1)) (m ((c.tc : Thread Cert.AttfKernelIdeal.nD Cert.AttfKernelIdeal.τ).loc Cert.AttfKernelIdeal.main_arg2)) (m ((c.tc : Thread Cert.AttfKernelIdeal.nD Cert.AttfKernelIdeal.τ).loc Cert.AttfKernelIdeal.main_arg3)) (m ((c.tc : Thread Cert.AttfKernelIdeal.nD Cert.AttfKernelIdeal.τ).loc Cert.AttfKernelIdeal.main_arg4))).2.1 = (fun _ => 1#1)
    ∧ (Cert.Pre_finite_attf.fn (F := Ideal) (m ((c.tc : Thread Cert.AttfKernelIdeal.nD Cert.AttfKernelIdeal.τ).loc Cert.AttfKernelIdeal.main_arg0)) (m ((c.tc : Thread Cert.AttfKernelIdeal.nD Cert.AttfKernelIdeal.τ).loc Cert.AttfKernelIdeal.main_arg1)) (m ((c.tc : Thread Cert.AttfKernelIdeal.nD Cert.AttfKernelIdeal.τ).loc Cert.AttfKernelIdeal.main_arg2)) (m ((c.tc : Thread Cert.AttfKernelIdeal.nD Cert.AttfKernelIdeal.τ).loc Cert.AttfKernelIdeal.main_arg3)) (m ((c.tc : Thread Cert.AttfKernelIdeal.nD Cert.AttfKernelIdeal.τ).loc Cert.AttfKernelIdeal.main_arg4))).2.2.1 = (fun _ => 1#1)
    ∧ (Cert.Pre_finite_attf.fn (F := Ideal) (m ((c.tc : Thread Cert.AttfKernelIdeal.nD Cert.AttfKernelIdeal.τ).loc Cert.AttfKernelIdeal.main_arg0)) (m ((c.tc : Thread Cert.AttfKernelIdeal.nD Cert.AttfKernelIdeal.τ).loc Cert.AttfKernelIdeal.main_arg1)) (m ((c.tc : Thread Cert.AttfKernelIdeal.nD Cert.AttfKernelIdeal.τ).loc Cert.AttfKernelIdeal.main_arg2)) (m ((c.tc : Thread Cert.AttfKernelIdeal.nD Cert.AttfKernelIdeal.τ).loc Cert.AttfKernelIdeal.main_arg3)) (m ((c.tc : Thread Cert.AttfKernelIdeal.nD Cert.AttfKernelIdeal.τ).loc Cert.AttfKernelIdeal.main_arg4))).2.2.2 = (fun _ => 1#1)

def Pre_AttfReferenceIdeal (m : (ℓ : Loc Cert.AttfReferenceIdeal.nD Cert.AttfReferenceIdeal.τ Cert.AttfReferenceIdeal.sig) → Buf (Elt Ideal) ℓ) : Prop :=
  True

def Pre_AttfReferenceIdeal_finite_attf [hPre_finite_attf : Cert.Pre_finite_attf.Facts] (m : (ℓ : Loc Cert.AttfReferenceIdeal.nD Cert.AttfReferenceIdeal.τ Cert.AttfReferenceIdeal.sig) → Buf (Elt Ideal) ℓ) : Prop :=
  ∀ c : Dev Cert.AttfReferenceIdeal.nD,
    (Cert.Pre_finite_attf.fn (F := Ideal) (m ((c.tc : Thread Cert.AttfReferenceIdeal.nD Cert.AttfReferenceIdeal.τ).loc Cert.AttfReferenceIdeal.main_arg0)) (m ((c.tc : Thread Cert.AttfReferenceIdeal.nD Cert.AttfReferenceIdeal.τ).loc Cert.AttfReferenceIdeal.main_arg1)) (m ((c.tc : Thread Cert.AttfReferenceIdeal.nD Cert.AttfReferenceIdeal.τ).loc Cert.AttfReferenceIdeal.main_arg2)) (m ((c.tc : Thread Cert.AttfReferenceIdeal.nD Cert.AttfReferenceIdeal.τ).loc Cert.AttfReferenceIdeal.main_arg3)) (m ((c.tc : Thread Cert.AttfReferenceIdeal.nD Cert.AttfReferenceIdeal.τ).loc Cert.AttfReferenceIdeal.main_arg4))).1 = (fun _ => 1#1)
    ∧ (Cert.Pre_finite_attf.fn (F := Ideal) (m ((c.tc : Thread Cert.AttfReferenceIdeal.nD Cert.AttfReferenceIdeal.τ).loc Cert.AttfReferenceIdeal.main_arg0)) (m ((c.tc : Thread Cert.AttfReferenceIdeal.nD Cert.AttfReferenceIdeal.τ).loc Cert.AttfReferenceIdeal.main_arg1)) (m ((c.tc : Thread Cert.AttfReferenceIdeal.nD Cert.AttfReferenceIdeal.τ).loc Cert.AttfReferenceIdeal.main_arg2)) (m ((c.tc : Thread Cert.AttfReferenceIdeal.nD Cert.AttfReferenceIdeal.τ).loc Cert.AttfReferenceIdeal.main_arg3)) (m ((c.tc : Thread Cert.AttfReferenceIdeal.nD Cert.AttfReferenceIdeal.τ).loc Cert.AttfReferenceIdeal.main_arg4))).2.1 = (fun _ => 1#1)
    ∧ (Cert.Pre_finite_attf.fn (F := Ideal) (m ((c.tc : Thread Cert.AttfReferenceIdeal.nD Cert.AttfReferenceIdeal.τ).loc Cert.AttfReferenceIdeal.main_arg0)) (m ((c.tc : Thread Cert.AttfReferenceIdeal.nD Cert.AttfReferenceIdeal.τ).loc Cert.AttfReferenceIdeal.main_arg1)) (m ((c.tc : Thread Cert.AttfReferenceIdeal.nD Cert.AttfReferenceIdeal.τ).loc Cert.AttfReferenceIdeal.main_arg2)) (m ((c.tc : Thread Cert.AttfReferenceIdeal.nD Cert.AttfReferenceIdeal.τ).loc Cert.AttfReferenceIdeal.main_arg3)) (m ((c.tc : Thread Cert.AttfReferenceIdeal.nD Cert.AttfReferenceIdeal.τ).loc Cert.AttfReferenceIdeal.main_arg4))).2.2.1 = (fun _ => 1#1)
    ∧ (Cert.Pre_finite_attf.fn (F := Ideal) (m ((c.tc : Thread Cert.AttfReferenceIdeal.nD Cert.AttfReferenceIdeal.τ).loc Cert.AttfReferenceIdeal.main_arg0)) (m ((c.tc : Thread Cert.AttfReferenceIdeal.nD Cert.AttfReferenceIdeal.τ).loc Cert.AttfReferenceIdeal.main_arg1)) (m ((c.tc : Thread Cert.AttfReferenceIdeal.nD Cert.AttfReferenceIdeal.τ).loc Cert.AttfReferenceIdeal.main_arg2)) (m ((c.tc : Thread Cert.AttfReferenceIdeal.nD Cert.AttfReferenceIdeal.τ).loc Cert.AttfReferenceIdeal.main_arg3)) (m ((c.tc : Thread Cert.AttfReferenceIdeal.nD Cert.AttfReferenceIdeal.τ).loc Cert.AttfReferenceIdeal.main_arg4))).2.2.2 = (fun _ => 1#1)

def Pre_RopefKernel (m : (ℓ : Loc Cert.RopefKernel.nD Cert.RopefKernel.τ Cert.RopefKernel.sig) → Buf (Elt Bits) ℓ) : Prop :=
  True

def Pre_RopefKernelIdeal (m : (ℓ : Loc Cert.RopefKernelIdeal.nD Cert.RopefKernelIdeal.τ Cert.RopefKernelIdeal.sig) → Buf (Elt Ideal) ℓ) : Prop :=
  True

def Pre_RopefReferenceIdeal (m : (ℓ : Loc Cert.RopefReferenceIdeal.nD Cert.RopefReferenceIdeal.τ Cert.RopefReferenceIdeal.sig) → Buf (Elt Ideal) ℓ) : Prop :=
  True

def Pre_MlafKernel (m : (ℓ : Loc Cert.MlafKernel.nD Cert.MlafKernel.τ Cert.MlafKernel.sig) → Buf (Elt Bits) ℓ) : Prop :=
  True

def Pre_MlafKernelIdeal (m : (ℓ : Loc Cert.MlafKernelIdeal.nD Cert.MlafKernelIdeal.τ Cert.MlafKernelIdeal.sig) → Buf (Elt Ideal) ℓ) : Prop :=
  True

def Pre_MlafReferenceIdeal (m : (ℓ : Loc Cert.MlafReferenceIdeal.nD Cert.MlafReferenceIdeal.τ Cert.MlafReferenceIdeal.sig) → Buf (Elt Ideal) ℓ) : Prop :=
  True

def Pre_PostfKernel (m : (ℓ : Loc Cert.PostfKernel.nD Cert.PostfKernel.τ Cert.PostfKernel.sig) → Buf (Elt Bits) ℓ) : Prop :=
  True

def Pre_PostfKernelIdeal (m : (ℓ : Loc Cert.PostfKernelIdeal.nD Cert.PostfKernelIdeal.τ Cert.PostfKernelIdeal.sig) → Buf (Elt Ideal) ℓ) : Prop :=
  True

def Pre_PostfReferenceIdeal (m : (ℓ : Loc Cert.PostfReferenceIdeal.nD Cert.PostfReferenceIdeal.τ Cert.PostfReferenceIdeal.sig) → Buf (Elt Ideal) ℓ) : Prop :=
  True

def Pre_FfnfKernel (m : (ℓ : Loc Cert.FfnfKernel.nD Cert.FfnfKernel.τ Cert.FfnfKernel.sig) → Buf (Elt Bits) ℓ) : Prop :=
  True

def Pre_FfnfKernelIdeal (m : (ℓ : Loc Cert.FfnfKernelIdeal.nD Cert.FfnfKernelIdeal.τ Cert.FfnfKernelIdeal.sig) → Buf (Elt Ideal) ℓ) : Prop :=
  True

def Pre_FfnfReferenceIdeal (m : (ℓ : Loc Cert.FfnfReferenceIdeal.nD Cert.FfnfReferenceIdeal.τ Cert.FfnfReferenceIdeal.sig) → Buf (Elt Ideal) ℓ) : Prop :=
  True

def Pre_DtfKernel (m : (ℓ : Loc Cert.DtfKernel.nD Cert.DtfKernel.τ Cert.DtfKernel.sig) → Buf (Elt Bits) ℓ) : Prop :=
  True

def Pre_DtfKernelIdeal (m : (ℓ : Loc Cert.DtfKernelIdeal.nD Cert.DtfKernelIdeal.τ Cert.DtfKernelIdeal.sig) → Buf (Elt Ideal) ℓ) : Prop :=
  True

def Pre_DtfReferenceIdeal (m : (ℓ : Loc Cert.DtfReferenceIdeal.nD Cert.DtfReferenceIdeal.τ Cert.DtfReferenceIdeal.sig) → Buf (Elt Ideal) ℓ) : Prop :=
  True

def Pre_GatefKernel (m : (ℓ : Loc Cert.GatefKernel.nD Cert.GatefKernel.τ Cert.GatefKernel.sig) → Buf (Elt Bits) ℓ) : Prop :=
  True

def Pre_GatefKernelIdeal (m : (ℓ : Loc Cert.GatefKernelIdeal.nD Cert.GatefKernelIdeal.τ Cert.GatefKernelIdeal.sig) → Buf (Elt Ideal) ℓ) : Prop :=
  True

def Pre_GatefKernelIdeal_finite_gatef [hPre_finite_gatef : Cert.Pre_finite_gatef.Facts] (m : (ℓ : Loc Cert.GatefKernelIdeal.nD Cert.GatefKernelIdeal.τ Cert.GatefKernelIdeal.sig) → Buf (Elt Ideal) ℓ) : Prop :=
  ∀ c : Dev Cert.GatefKernelIdeal.nD,
    (Cert.Pre_finite_gatef.fn (F := Ideal) (m ((c.tc : Thread Cert.GatefKernelIdeal.nD Cert.GatefKernelIdeal.τ).loc Cert.GatefKernelIdeal.main_arg0)) (m ((c.tc : Thread Cert.GatefKernelIdeal.nD Cert.GatefKernelIdeal.τ).loc Cert.GatefKernelIdeal.main_arg1))).1 = (fun _ => 1#1)
    ∧ (Cert.Pre_finite_gatef.fn (F := Ideal) (m ((c.tc : Thread Cert.GatefKernelIdeal.nD Cert.GatefKernelIdeal.τ).loc Cert.GatefKernelIdeal.main_arg0)) (m ((c.tc : Thread Cert.GatefKernelIdeal.nD Cert.GatefKernelIdeal.τ).loc Cert.GatefKernelIdeal.main_arg1))).2 = (fun _ => 1#1)

def Pre_GatefReferenceIdeal (m : (ℓ : Loc Cert.GatefReferenceIdeal.nD Cert.GatefReferenceIdeal.τ Cert.GatefReferenceIdeal.sig) → Buf (Elt Ideal) ℓ) : Prop :=
  True

def Pre_GatefReferenceIdeal_finite_gatef [hPre_finite_gatef : Cert.Pre_finite_gatef.Facts] (m : (ℓ : Loc Cert.GatefReferenceIdeal.nD Cert.GatefReferenceIdeal.τ Cert.GatefReferenceIdeal.sig) → Buf (Elt Ideal) ℓ) : Prop :=
  ∀ c : Dev Cert.GatefReferenceIdeal.nD,
    (Cert.Pre_finite_gatef.fn (F := Ideal) (m ((c.tc : Thread Cert.GatefReferenceIdeal.nD Cert.GatefReferenceIdeal.τ).loc Cert.GatefReferenceIdeal.main_arg0)) (m ((c.tc : Thread Cert.GatefReferenceIdeal.nD Cert.GatefReferenceIdeal.τ).loc Cert.GatefReferenceIdeal.main_arg1))).1 = (fun _ => 1#1)
    ∧ (Cert.Pre_finite_gatef.fn (F := Ideal) (m ((c.tc : Thread Cert.GatefReferenceIdeal.nD Cert.GatefReferenceIdeal.τ).loc Cert.GatefReferenceIdeal.main_arg0)) (m ((c.tc : Thread Cert.GatefReferenceIdeal.nD Cert.GatefReferenceIdeal.τ).loc Cert.GatefReferenceIdeal.main_arg1))).2 = (fun _ => 1#1)

def Pre_ConvfKernel (m : (ℓ : Loc Cert.ConvfKernel.nD Cert.ConvfKernel.τ Cert.ConvfKernel.sig) → Buf (Elt Bits) ℓ) : Prop :=
  True

def Pre_ConvfKernelIdeal (m : (ℓ : Loc Cert.ConvfKernelIdeal.nD Cert.ConvfKernelIdeal.τ Cert.ConvfKernelIdeal.sig) → Buf (Elt Ideal) ℓ) : Prop :=
  True

def Pre_ConvfReferenceIdeal (m : (ℓ : Loc Cert.ConvfReferenceIdeal.nD Cert.ConvfReferenceIdeal.τ Cert.ConvfReferenceIdeal.sig) → Buf (Elt Ideal) ℓ) : Prop :=
  True

def Pre_MixKernel (m : (ℓ : Loc Cert.MixKernel.nD Cert.MixKernel.τ Cert.MixKernel.sig) → Buf (Elt Bits) ℓ) : Prop :=
  True

def Pre_MixKernelIdeal (m : (ℓ : Loc Cert.MixKernelIdeal.nD Cert.MixKernelIdeal.τ Cert.MixKernelIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_DownfKernel (m : (ℓ : Loc Cert.DownfKernel.nD Cert.DownfKernel.τ Cert.DownfKernel.sig) → Buf (Elt Bits) ℓ) : Prop :=
  True

def Pre_DownfKernelIdeal (m : (ℓ : Loc Cert.DownfKernelIdeal.nD Cert.DownfKernelIdeal.τ Cert.DownfKernelIdeal.sig) → Buf (Elt Ideal) ℓ) : Prop :=
  True

def Pre_DownfReferenceIdeal (m : (ℓ : Loc Cert.DownfReferenceIdeal.nD Cert.DownfReferenceIdeal.τ Cert.DownfReferenceIdeal.sig) → Buf (Elt Ideal) ℓ) : Prop :=
  True

def Pre_GudxKernel (m : (ℓ : Loc Cert.GudxKernel.nD Cert.GudxKernel.τ Cert.GudxKernel.sig) → Buf (Elt Bits) ℓ) : Prop :=
  True

def Pre_GudxKernelIdeal (m : (ℓ : Loc Cert.GudxKernelIdeal.nD Cert.GudxKernelIdeal.τ Cert.GudxKernelIdeal.sig) → Buf (Elt Ideal) ℓ) : Prop :=
  True

def Pre_GudxReferenceIdeal (m : (ℓ : Loc Cert.GudxReferenceIdeal.nD Cert.GudxReferenceIdeal.τ Cert.GudxReferenceIdeal.sig) → Buf (Elt Ideal) ℓ) : Prop :=
  True

def Pre_GudwKernel (m : (ℓ : Loc Cert.GudwKernel.nD Cert.GudwKernel.τ Cert.GudwKernel.sig) → Buf (Elt Bits) ℓ) : Prop :=
  True

def Pre_GudwKernelIdeal (m : (ℓ : Loc Cert.GudwKernelIdeal.nD Cert.GudwKernelIdeal.τ Cert.GudwKernelIdeal.sig) → Buf (Elt Ideal) ℓ) : Prop :=
  True

def Pre_GudwReferenceIdeal (m : (ℓ : Loc Cert.GudwReferenceIdeal.nD Cert.GudwReferenceIdeal.τ Cert.GudwReferenceIdeal.sig) → Buf (Elt Ideal) ℓ) : Prop :=
  True

def Pre_OutdxKernel (m : (ℓ : Loc Cert.OutdxKernel.nD Cert.OutdxKernel.τ Cert.OutdxKernel.sig) → Buf (Elt Bits) ℓ) : Prop :=
  True

def Pre_OutdxKernelIdeal (m : (ℓ : Loc Cert.OutdxKernelIdeal.nD Cert.OutdxKernelIdeal.τ Cert.OutdxKernelIdeal.sig) → Buf (Elt Ideal) ℓ) : Prop :=
  True

def Pre_OutdxReferenceIdeal (m : (ℓ : Loc Cert.OutdxReferenceIdeal.nD Cert.OutdxReferenceIdeal.τ Cert.OutdxReferenceIdeal.sig) → Buf (Elt Ideal) ℓ) : Prop :=
  True

def Pre_DowndwKernel (m : (ℓ : Loc Cert.DowndwKernel.nD Cert.DowndwKernel.τ Cert.DowndwKernel.sig) → Buf (Elt Bits) ℓ) : Prop :=
  True

def Pre_DowndwKernelIdeal (m : (ℓ : Loc Cert.DowndwKernelIdeal.nD Cert.DowndwKernelIdeal.τ Cert.DowndwKernelIdeal.sig) → Buf (Elt Ideal) ℓ) : Prop :=
  True

def Pre_DowndwReferenceIdeal (m : (ℓ : Loc Cert.DowndwReferenceIdeal.nD Cert.DowndwReferenceIdeal.τ Cert.DowndwReferenceIdeal.sig) → Buf (Elt Ideal) ℓ) : Prop :=
  True

def Pre_AdamKernel (m : (ℓ : Loc Cert.AdamKernel.nD Cert.AdamKernel.τ Cert.AdamKernel.sig) → Buf (Elt Bits) ℓ) : Prop :=
  True

def Pre_AdamKernelIdeal (m : (ℓ : Loc Cert.AdamKernelIdeal.nD Cert.AdamKernelIdeal.τ Cert.AdamKernelIdeal.sig) → Buf (Elt Ideal) ℓ) : Prop :=
  True

def Pre_AdamReferenceIdeal (m : (ℓ : Loc Cert.AdamReferenceIdeal.nD Cert.AdamReferenceIdeal.τ Cert.AdamReferenceIdeal.sig) → Buf (Elt Ideal) ℓ) : Prop :=
  True

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1)
      ∧ r.2.mem ((c.tc : Thread Cert.RopeKernel.nD Cert.RopeKernel.τ).loc Cert.RopeKernel.main_arg2) = m ((c.tc : Thread Cert.RopeKernel.nD Cert.RopeKernel.τ).loc Cert.RopeKernel.main_arg2)
      ∧ r.2.mem ((c.tc : Thread Cert.RopeKernel.nD Cert.RopeKernel.τ).loc Cert.RopeKernel.main_arg3) = m ((c.tc : Thread Cert.RopeKernel.nD Cert.RopeKernel.τ).loc Cert.RopeKernel.main_arg3))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
      ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
      ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1)
      ∧ r.2.mem ((c.tc : Thread Cert.RopeReferenceIdeal.nD Cert.RopeReferenceIdeal.τ).loc Cert.RopeReferenceIdeal.main_arg2) = m ((c.tc : Thread Cert.RopeReferenceIdeal.nD Cert.RopeReferenceIdeal.τ).loc Cert.RopeReferenceIdeal.main_arg2)
      ∧ r.2.mem ((c.tc : Thread Cert.RopeReferenceIdeal.nD Cert.RopeReferenceIdeal.τ).loc Cert.RopeReferenceIdeal.main_arg3) = m ((c.tc : Thread Cert.RopeReferenceIdeal.nD Cert.RopeReferenceIdeal.τ).loc Cert.RopeReferenceIdeal.main_arg3))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1)
      ∧ r.2.mem ((c.tc : Thread Cert.ConvKernel.nD Cert.ConvKernel.τ).loc Cert.ConvKernel.main_arg2) = m ((c.tc : Thread Cert.ConvKernel.nD Cert.ConvKernel.τ).loc Cert.ConvKernel.main_arg2)
      ∧ r.2.mem ((c.tc : Thread Cert.ConvKernel.nD Cert.ConvKernel.τ).loc Cert.ConvKernel.main_arg3) = m ((c.tc : Thread Cert.ConvKernel.nD Cert.ConvKernel.τ).loc Cert.ConvKernel.main_arg3))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvKernelIdeal_pre_finite_conv [hConvKernelIdeal : Cert.ConvKernelIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal_finite_conv m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
      ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
      ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ r.2.sem = fun _ => 0)

def quiescent_ConvReferenceIdeal [hConvReferenceIdeal : Cert.ConvReferenceIdeal.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_ConvReferenceIdeal_pre_finite_conv [hConvReferenceIdeal : Cert.ConvReferenceIdeal.Facts] [hPre_finite_conv : Cert.Pre_finite_conv.Facts] : Prop :=
  ∀ (m : (ℓ : Loc Cert.ConvReferenceIdeal.nD Cert.ConvReferenceIdeal.τ Cert.ConvReferenceIdeal.sig) → Buf (Elt Ideal) ℓ) (g : Dev Cert.ConvReferenceIdeal.nD → PrngReg), Pre_ConvReferenceIdeal_finite_conv m →
    θ_run (Cert.ConvReferenceIdeal.defs (F := Ideal)) (onTc (τ := Cert.ConvReferenceIdeal.τ) (Cert.ConvReferenceIdeal.main (F := Ideal))) ⟨m, fun _ => 0, g⟩ (fun r => (∀ c : Dev Cert.ConvReferenceIdeal.nD,
      r.2.mem ((c.tc : Thread Cert.ConvReferenceIdeal.nD Cert.ConvReferenceIdeal.τ).loc Cert.ConvReferenceIdeal.main_arg0) = m ((c.tc : Thread Cert.ConvReferenceIdeal.nD Cert.ConvReferenceIdeal.τ).loc Cert.ConvReferenceIdeal.main_arg0)
      ∧ r.2.mem ((c.tc : Thread Cert.ConvReferenceIdeal.nD Cert.ConvReferenceIdeal.τ).loc Cert.ConvReferenceIdeal.main_arg1) = m ((c.tc : Thread Cert.ConvReferenceIdeal.nD Cert.ConvReferenceIdeal.τ).loc Cert.ConvReferenceIdeal.main_arg1)
      ∧ r.2.mem ((c.tc : Thread Cert.ConvReferenceIdeal.nD Cert.ConvReferenceIdeal.τ).loc Cert.ConvReferenceIdeal.main_arg2) = m ((c.tc : Thread Cert.ConvReferenceIdeal.nD Cert.ConvReferenceIdeal.τ).loc Cert.ConvReferenceIdeal.main_arg2)
      ∧ r.2.mem ((c.tc : Thread Cert.ConvReferenceIdeal.nD Cert.ConvReferenceIdeal.τ).loc Cert.ConvReferenceIdeal.main_arg3) = m ((c.tc : Thread Cert.ConvReferenceIdeal.nD Cert.ConvReferenceIdeal.τ).loc Cert.ConvReferenceIdeal.main_arg3))
      ∧ r.2.sem = fun _ => 0)

def quiescent_DtKernel [hDtKernel : Cert.DtKernel.Facts] : Prop :=
  ∀ (m : (ℓ : Loc Cert.DtKernel.nD Cert.DtKernel.τ Cert.DtKernel.sig) → Buf (Elt Bits) ℓ) (g : Dev Cert.DtKernel.nD → PrngReg), Pre_DtKernel m →
    θ_run (Cert.DtKernel.defs (F := Bits)) (onTc (τ := Cert.DtKernel.τ) (Cert.DtKernel.main (F := Bits))) ⟨m, fun _ => 0, g⟩ (fun r => (∀ c : Dev Cert.DtKernel.nD,
      r.2.mem ((c.tc : Thread Cert.DtKernel.nD Cert.DtKernel.τ).loc Cert.DtKernel.main_arg0) = m ((c.tc : Thread Cert.DtKernel.nD Cert.DtKernel.τ).loc Cert.DtKernel.main_arg0)
      ∧ r.2.mem ((c.tc : Thread Cert.DtKernel.nD Cert.DtKernel.τ).loc Cert.DtKernel.main_arg1) = m ((c.tc : Thread Cert.DtKernel.nD Cert.DtKernel.τ).loc Cert.DtKernel.main_arg1)
      ∧ r.2.mem ((c.tc : Thread Cert.DtKernel.nD Cert.DtKernel.τ).loc Cert.DtKernel.main_arg2) = m ((c.tc : Thread Cert.DtKernel.nD Cert.DtKernel.τ).loc Cert.DtKernel.main_arg2)
      ∧ r.2.mem ((c.tc : Thread Cert.DtKernel.nD Cert.DtKernel.τ).loc Cert.DtKernel.main_arg3) = m ((c.tc : Thread Cert.DtKernel.nD Cert.DtKernel.τ).loc Cert.DtKernel.main_arg3))
      ∧ r.2.sem = fun _ => 0)

def quiescent_DtKernelIdeal [hDtKernelIdeal : Cert.DtKernelIdeal.Facts] : Prop :=
  ∀ (m : (ℓ : Loc Cert.DtKernelIdeal.nD Cert.DtKernelIdeal.τ Cert.DtKernelIdeal.sig) → Buf (Elt Ideal) ℓ) (g : Dev Cert.DtKernelIdeal.nD → PrngReg), Pre_DtKernelIdeal m →
    θ_run (Cert.DtKernelIdeal.defs (F := Ideal)) (onTc (τ := Cert.DtKernelIdeal.τ) (Cert.DtKernelIdeal.main (F := Ideal))) ⟨m, fun _ => 0, g⟩ (fun r => (∀ c : Dev Cert.DtKernelIdeal.nD,
      r.2.mem ((c.tc : Thread Cert.DtKernelIdeal.nD Cert.DtKernelIdeal.τ).loc Cert.DtKernelIdeal.main_arg0) = m ((c.tc : Thread Cert.DtKernelIdeal.nD Cert.DtKernelIdeal.τ).loc Cert.DtKernelIdeal.main_arg0)
      ∧ r.2.mem ((c.tc : Thread Cert.DtKernelIdeal.nD Cert.DtKernelIdeal.τ).loc Cert.DtKernelIdeal.main_arg1) = m ((c.tc : Thread Cert.DtKernelIdeal.nD Cert.DtKernelIdeal.τ).loc Cert.DtKernelIdeal.main_arg1)
      ∧ r.2.mem ((c.tc : Thread Cert.DtKernelIdeal.nD Cert.DtKernelIdeal.τ).loc Cert.DtKernelIdeal.main_arg2) = m ((c.tc : Thread Cert.DtKernelIdeal.nD Cert.DtKernelIdeal.τ).loc Cert.DtKernelIdeal.main_arg2)
      ∧ r.2.mem ((c.tc : Thread Cert.DtKernelIdeal.nD Cert.DtKernelIdeal.τ).loc Cert.DtKernelIdeal.main_arg3) = m ((c.tc : Thread Cert.DtKernelIdeal.nD Cert.DtKernelIdeal.τ).loc Cert.DtKernelIdeal.main_arg3))
      ∧ r.2.sem = fun _ => 0)

def quiescent_DtReferenceIdeal [hDtReferenceIdeal : Cert.DtReferenceIdeal.Facts] : Prop :=
  ∀ (m : (ℓ : Loc Cert.DtReferenceIdeal.nD Cert.DtReferenceIdeal.τ Cert.DtReferenceIdeal.sig) → Buf (Elt Ideal) ℓ) (g : Dev Cert.DtReferenceIdeal.nD → PrngReg), Pre_DtReferenceIdeal m →
    θ_run (Cert.DtReferenceIdeal.defs (F := Ideal)) (onTc (τ := Cert.DtReferenceIdeal.τ) (Cert.DtReferenceIdeal.main (F := Ideal))) ⟨m, fun _ => 0, g⟩ (fun r => (∀ c : Dev Cert.DtReferenceIdeal.nD,
      r.2.mem ((c.tc : Thread Cert.DtReferenceIdeal.nD Cert.DtReferenceIdeal.τ).loc Cert.DtReferenceIdeal.main_arg0) = m ((c.tc : Thread Cert.DtReferenceIdeal.nD Cert.DtReferenceIdeal.τ).loc Cert.DtReferenceIdeal.main_arg0)
      ∧ r.2.mem ((c.tc : Thread Cert.DtReferenceIdeal.nD Cert.DtReferenceIdeal.τ).loc Cert.DtReferenceIdeal.main_arg1) = m ((c.tc : Thread Cert.DtReferenceIdeal.nD Cert.DtReferenceIdeal.τ).loc Cert.DtReferenceIdeal.main_arg1)
      ∧ r.2.mem ((c.tc : Thread Cert.DtReferenceIdeal.nD Cert.DtReferenceIdeal.τ).loc Cert.DtReferenceIdeal.main_arg2) = m ((c.tc : Thread Cert.DtReferenceIdeal.nD Cert.DtReferenceIdeal.τ).loc Cert.DtReferenceIdeal.main_arg2)
      ∧ r.2.mem ((c.tc : Thread Cert.DtReferenceIdeal.nD Cert.DtReferenceIdeal.τ).loc Cert.DtReferenceIdeal.main_arg3) = m ((c.tc : Thread Cert.DtReferenceIdeal.nD Cert.DtReferenceIdeal.τ).loc Cert.DtReferenceIdeal.main_arg3))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_finite_gate [hGateKernelIdeal : Cert.GateKernelIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_finite_gate m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_GateReferenceIdeal_pre_finite_gate [hGateReferenceIdeal : Cert.GateReferenceIdeal.Facts] [hPre_finite_gate : Cert.Pre_finite_gate.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal_finite_gate m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite_ffn [hFfnKernelIdeal : Cert.FfnKernelIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite_ffn m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite_ffn [hFfnReferenceIdeal : Cert.FfnReferenceIdeal.Facts] [hPre_finite_ffn : Cert.Pre_finite_ffn.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite_ffn m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_LnKernel [hLnKernel : Cert.LnKernel.Facts] : Prop :=
  ∀ (m : (ℓ : Loc Cert.LnKernel.nD Cert.LnKernel.τ Cert.LnKernel.sig) → Buf (Elt Bits) ℓ) (g : Dev Cert.LnKernel.nD → PrngReg), Pre_LnKernel m →
    θ_run (Cert.LnKernel.defs (F := Bits)) (onTc (τ := Cert.LnKernel.τ) (Cert.LnKernel.main (F := Bits))) ⟨m, fun _ => 0, g⟩ (fun r => (∀ c : Dev Cert.LnKernel.nD,
      r.2.mem ((c.tc : Thread Cert.LnKernel.nD Cert.LnKernel.τ).loc Cert.LnKernel.main_arg0) = m ((c.tc : Thread Cert.LnKernel.nD Cert.LnKernel.τ).loc Cert.LnKernel.main_arg0)
      ∧ r.2.mem ((c.tc : Thread Cert.LnKernel.nD Cert.LnKernel.τ).loc Cert.LnKernel.main_arg1) = m ((c.tc : Thread Cert.LnKernel.nD Cert.LnKernel.τ).loc Cert.LnKernel.main_arg1)
      ∧ r.2.mem ((c.tc : Thread Cert.LnKernel.nD Cert.LnKernel.τ).loc Cert.LnKernel.main_arg2) = m ((c.tc : Thread Cert.LnKernel.nD Cert.LnKernel.τ).loc Cert.LnKernel.main_arg2)
      ∧ r.2.mem ((c.tc : Thread Cert.LnKernel.nD Cert.LnKernel.τ).loc Cert.LnKernel.main_arg3) = m ((c.tc : Thread Cert.LnKernel.nD Cert.LnKernel.τ).loc Cert.LnKernel.main_arg3)
      ∧ r.2.mem ((c.tc : Thread Cert.LnKernel.nD Cert.LnKernel.τ).loc Cert.LnKernel.main_arg4) = m ((c.tc : Thread Cert.LnKernel.nD Cert.LnKernel.τ).loc Cert.LnKernel.main_arg4))
      ∧ r.2.sem = fun _ => 0)

def quiescent_LnKernelIdeal [hLnKernelIdeal : Cert.LnKernelIdeal.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ r.2.sem = fun _ => 0)

def quiescent_LnKernelIdeal_pre_finite_ln [hLnKernelIdeal : Cert.LnKernelIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg), Pre_LnKernelIdeal_finite_ln m →
    θ_run (Cert.LnKernelIdeal.defs (F := Ideal)) (onTc (τ := Cert.LnKernelIdeal.τ) (Cert.LnKernelIdeal.main (F := Ideal))) ⟨m, fun _ => 0, g⟩ (fun r => (∀ c : Dev Cert.LnKernelIdeal.nD,
      r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
      ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
      ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
      ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
      ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ r.2.sem = fun _ => 0)

def quiescent_LnReferenceIdeal [hLnReferenceIdeal : Cert.LnReferenceIdeal.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_LnReferenceIdeal_pre_finite_ln [hLnReferenceIdeal : Cert.LnReferenceIdeal.Facts] [hPre_finite_ln : Cert.Pre_finite_ln.Facts] : Prop :=
  ∀ (m : (ℓ : Loc Cert.LnReferenceIdeal.nD Cert.LnReferenceIdeal.τ Cert.LnReferenceIdeal.sig) → Buf (Elt Ideal) ℓ) (g : Dev Cert.LnReferenceIdeal.nD → PrngReg), Pre_LnReferenceIdeal_finite_ln m →
    θ_run (Cert.LnReferenceIdeal.defs (F := Ideal)) (onTc (τ := Cert.LnReferenceIdeal.τ) (Cert.LnReferenceIdeal.main (F := Ideal))) ⟨m, fun _ => 0, g⟩ (fun r => (∀ c : Dev Cert.LnReferenceIdeal.nD,
      r.2.mem ((c.tc : Thread Cert.LnReferenceIdeal.nD Cert.LnReferenceIdeal.τ).loc Cert.LnReferenceIdeal.main_arg0) = m ((c.tc : Thread Cert.LnReferenceIdeal.nD Cert.LnReferenceIdeal.τ).loc Cert.LnReferenceIdeal.main_arg0)
      ∧ r.2.mem ((c.tc : Thread Cert.LnReferenceIdeal.nD Cert.LnReferenceIdeal.τ).loc Cert.LnReferenceIdeal.main_arg1) = m ((c.tc : Thread Cert.LnReferenceIdeal.nD Cert.LnReferenceIdeal.τ).loc Cert.LnReferenceIdeal.main_arg1)
      ∧ r.2.mem ((c.tc : Thread Cert.LnReferenceIdeal.nD Cert.LnReferenceIdeal.τ).loc Cert.LnReferenceIdeal.main_arg2) = m ((c.tc : Thread Cert.LnReferenceIdeal.nD Cert.LnReferenceIdeal.τ).loc Cert.LnReferenceIdeal.main_arg2)
      ∧ r.2.mem ((c.tc : Thread Cert.LnReferenceIdeal.nD Cert.LnReferenceIdeal.τ).loc Cert.LnReferenceIdeal.main_arg3) = m ((c.tc : Thread Cert.LnReferenceIdeal.nD Cert.LnReferenceIdeal.τ).loc Cert.LnReferenceIdeal.main_arg3)
      ∧ r.2.mem ((c.tc : Thread Cert.LnReferenceIdeal.nD Cert.LnReferenceIdeal.τ).loc Cert.LnReferenceIdeal.main_arg4) = m ((c.tc : Thread Cert.LnReferenceIdeal.nD Cert.LnReferenceIdeal.τ).loc Cert.LnReferenceIdeal.main_arg4))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3)
      ∧ r.2.mem ((c.tc : Thread Cert.MlaKernel.nD Cert.MlaKernel.τ).loc Cert.MlaKernel.main_arg4) = m ((c.tc : Thread Cert.MlaKernel.nD Cert.MlaKernel.τ).loc Cert.MlaKernel.main_arg4)
      ∧ r.2.mem ((c.tc : Thread Cert.MlaKernel.nD Cert.MlaKernel.τ).loc Cert.MlaKernel.main_arg5) = m ((c.tc : Thread Cert.MlaKernel.nD Cert.MlaKernel.τ).loc Cert.MlaKernel.main_arg5))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
      ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
      ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3)
      ∧ r.2.mem ((c.tc : Thread Cert.MlaReferenceIdeal.nD Cert.MlaReferenceIdeal.τ).loc Cert.MlaReferenceIdeal.main_arg4) = m ((c.tc : Thread Cert.MlaReferenceIdeal.nD Cert.MlaReferenceIdeal.τ).loc Cert.MlaReferenceIdeal.main_arg4)
      ∧ r.2.mem ((c.tc : Thread Cert.MlaReferenceIdeal.nD Cert.MlaReferenceIdeal.τ).loc Cert.MlaReferenceIdeal.main_arg5) = m ((c.tc : Thread Cert.MlaReferenceIdeal.nD Cert.MlaReferenceIdeal.τ).loc Cert.MlaReferenceIdeal.main_arg5))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5))
      ∧ r.2.sem = fun _ => 0)

def quiescent_FoxfKernel [hFoxfKernel : Cert.FoxfKernel.Facts] : Prop :=
  ∀ (m : (ℓ : Loc Cert.FoxfKernel.nD Cert.FoxfKernel.τ Cert.FoxfKernel.sig) → Buf (Elt Bits) ℓ) (g : Dev Cert.FoxfKernel.nD → PrngReg), Pre_FoxfKernel m →
    θ_run (Cert.FoxfKernel.defs (F := Bits)) (onTc (τ := Cert.FoxfKernel.τ) (Cert.FoxfKernel.main (F := Bits))) ⟨m, fun _ => 0, g⟩ (fun r => (∀ c : Dev Cert.FoxfKernel.nD,
      r.2.mem ((c.tc : Thread Cert.FoxfKernel.nD Cert.FoxfKernel.τ).loc Cert.FoxfKernel.main_arg0) = m ((c.tc : Thread Cert.FoxfKernel.nD Cert.FoxfKernel.τ).loc Cert.FoxfKernel.main_arg0)
      ∧ r.2.mem ((c.tc : Thread Cert.FoxfKernel.nD Cert.FoxfKernel.τ).loc Cert.FoxfKernel.main_arg1) = m ((c.tc : Thread Cert.FoxfKernel.nD Cert.FoxfKernel.τ).loc Cert.FoxfKernel.main_arg1)
      ∧ r.2.mem ((c.tc : Thread Cert.FoxfKernel.nD Cert.FoxfKernel.τ).loc Cert.FoxfKernel.main_arg2) = m ((c.tc : Thread Cert.FoxfKernel.nD Cert.FoxfKernel.τ).loc Cert.FoxfKernel.main_arg2)
      ∧ r.2.mem ((c.tc : Thread Cert.FoxfKernel.nD Cert.FoxfKernel.τ).loc Cert.FoxfKernel.main_arg3) = m ((c.tc : Thread Cert.FoxfKernel.nD Cert.FoxfKernel.τ).loc Cert.FoxfKernel.main_arg3))
      ∧ r.2.sem = fun _ => 0)

def quiescent_FoxfKernelIdeal [hFoxfKernelIdeal : Cert.FoxfKernelIdeal.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg), Pre_FoxfKernelIdeal m →
    θ_run (Cert.FoxfKernelIdeal.defs (F := Ideal)) (onTc (τ := Cert.FoxfKernelIdeal.τ) (Cert.FoxfKernelIdeal.main (F := Ideal))) ⟨m, fun _ => 0, g⟩ (fun r => (∀ c : Dev Cert.FoxfKernelIdeal.nD,
      r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
      ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1)
      ∧ r.2.mem ((c.tc : Thread Cert.FoxfKernelIdeal.nD Cert.FoxfKernelIdeal.τ).loc Cert.FoxfKernelIdeal.main_arg2) = m ((c.tc : Thread Cert.FoxfKernelIdeal.nD Cert.FoxfKernelIdeal.τ).loc Cert.FoxfKernelIdeal.main_arg2)
      ∧ r.2.mem ((c.tc : Thread Cert.FoxfKernelIdeal.nD Cert.FoxfKernelIdeal.τ).loc Cert.FoxfKernelIdeal.main_arg3) = m ((c.tc : Thread Cert.FoxfKernelIdeal.nD Cert.FoxfKernelIdeal.τ).loc Cert.FoxfKernelIdeal.main_arg3))
      ∧ r.2.sem = fun _ => 0)

def quiescent_FoxfKernelIdeal_pre_finite_foxf [hFoxfKernelIdeal : Cert.FoxfKernelIdeal.Facts] [hPre_finite_foxf : Cert.Pre_finite_foxf.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg), Pre_FoxfKernelIdeal_finite_foxf m →
    θ_run (Cert.FoxfKernelIdeal.defs (F := Ideal)) (onTc (τ := Cert.FoxfKernelIdeal.τ) (Cert.FoxfKernelIdeal.main (F := Ideal))) ⟨m, fun _ => 0, g⟩ (fun r => (∀ c : Dev Cert.FoxfKernelIdeal.nD,
      r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
      ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1)
      ∧ r.2.mem ((c.tc : Thread Cert.FoxfKernelIdeal.nD Cert.FoxfKernelIdeal.τ).loc Cert.FoxfKernelIdeal.main_arg2) = m ((c.tc : Thread Cert.FoxfKernelIdeal.nD Cert.FoxfKernelIdeal.τ).loc Cert.FoxfKernelIdeal.main_arg2)
      ∧ r.2.mem ((c.tc : Thread Cert.FoxfKernelIdeal.nD Cert.FoxfKernelIdeal.τ).loc Cert.FoxfKernelIdeal.main_arg3) = m ((c.tc : Thread Cert.FoxfKernelIdeal.nD Cert.FoxfKernelIdeal.τ).loc Cert.FoxfKernelIdeal.main_arg3))
      ∧ r.2.sem = fun _ => 0)

def quiescent_FoxfReferenceIdeal [hFoxfReferenceIdeal : Cert.FoxfReferenceIdeal.Facts] : Prop :=
  ∀ (m : (ℓ : Loc Cert.FoxfReferenceIdeal.nD Cert.FoxfReferenceIdeal.τ Cert.FoxfReferenceIdeal.sig) → Buf (Elt Ideal) ℓ) (g : Dev Cert.FoxfReferenceIdeal.nD → PrngReg), Pre_FoxfReferenceIdeal m →
    θ_run (Cert.FoxfReferenceIdeal.defs (F := Ideal)) (onTc (τ := Cert.FoxfReferenceIdeal.τ) (Cert.FoxfReferenceIdeal.main (F := Ideal))) ⟨m, fun _ => 0, g⟩ (fun r => (∀ c : Dev Cert.FoxfReferenceIdeal.nD,
      r.2.mem ((c.tc : Thread Cert.FoxfReferenceIdeal.nD Cert.FoxfReferenceIdeal.τ).loc Cert.FoxfReferenceIdeal.main_arg0) = m ((c.tc : Thread Cert.FoxfReferenceIdeal.nD Cert.FoxfReferenceIdeal.τ).loc Cert.FoxfReferenceIdeal.main_arg0)
      ∧ r.2.mem ((c.tc : Thread Cert.FoxfReferenceIdeal.nD Cert.FoxfReferenceIdeal.τ).loc Cert.FoxfReferenceIdeal.main_arg1) = m ((c.tc : Thread Cert.FoxfReferenceIdeal.nD Cert.FoxfReferenceIdeal.τ).loc Cert.FoxfReferenceIdeal.main_arg1)
      ∧ r.2.mem ((c.tc : Thread Cert.FoxfReferenceIdeal.nD Cert.FoxfReferenceIdeal.τ).loc Cert.FoxfReferenceIdeal.main_arg2) = m ((c.tc : Thread Cert.FoxfReferenceIdeal.nD Cert.FoxfReferenceIdeal.τ).loc Cert.FoxfReferenceIdeal.main_arg2)
      ∧ r.2.mem ((c.tc : Thread Cert.FoxfReferenceIdeal.nD Cert.FoxfReferenceIdeal.τ).loc Cert.FoxfReferenceIdeal.main_arg3) = m ((c.tc : Thread Cert.FoxfReferenceIdeal.nD Cert.FoxfReferenceIdeal.τ).loc Cert.FoxfReferenceIdeal.main_arg3))
      ∧ r.2.sem = fun _ => 0)

def quiescent_FoxfReferenceIdeal_pre_finite_foxf [hFoxfReferenceIdeal : Cert.FoxfReferenceIdeal.Facts] [hPre_finite_foxf : Cert.Pre_finite_foxf.Facts] : Prop :=
  ∀ (m : (ℓ : Loc Cert.FoxfReferenceIdeal.nD Cert.FoxfReferenceIdeal.τ Cert.FoxfReferenceIdeal.sig) → Buf (Elt Ideal) ℓ) (g : Dev Cert.FoxfReferenceIdeal.nD → PrngReg), Pre_FoxfReferenceIdeal_finite_foxf m →
    θ_run (Cert.FoxfReferenceIdeal.defs (F := Ideal)) (onTc (τ := Cert.FoxfReferenceIdeal.τ) (Cert.FoxfReferenceIdeal.main (F := Ideal))) ⟨m, fun _ => 0, g⟩ (fun r => (∀ c : Dev Cert.FoxfReferenceIdeal.nD,
      r.2.mem ((c.tc : Thread Cert.FoxfReferenceIdeal.nD Cert.FoxfReferenceIdeal.τ).loc Cert.FoxfReferenceIdeal.main_arg0) = m ((c.tc : Thread Cert.FoxfReferenceIdeal.nD Cert.FoxfReferenceIdeal.τ).loc Cert.FoxfReferenceIdeal.main_arg0)
      ∧ r.2.mem ((c.tc : Thread Cert.FoxfReferenceIdeal.nD Cert.FoxfReferenceIdeal.τ).loc Cert.FoxfReferenceIdeal.main_arg1) = m ((c.tc : Thread Cert.FoxfReferenceIdeal.nD Cert.FoxfReferenceIdeal.τ).loc Cert.FoxfReferenceIdeal.main_arg1)
      ∧ r.2.mem ((c.tc : Thread Cert.FoxfReferenceIdeal.nD Cert.FoxfReferenceIdeal.τ).loc Cert.FoxfReferenceIdeal.main_arg2) = m ((c.tc : Thread Cert.FoxfReferenceIdeal.nD Cert.FoxfReferenceIdeal.τ).loc Cert.FoxfReferenceIdeal.main_arg2)
      ∧ r.2.mem ((c.tc : Thread Cert.FoxfReferenceIdeal.nD Cert.FoxfReferenceIdeal.τ).loc Cert.FoxfReferenceIdeal.main_arg3) = m ((c.tc : Thread Cert.FoxfReferenceIdeal.nD Cert.FoxfReferenceIdeal.τ).loc Cert.FoxfReferenceIdeal.main_arg3))
      ∧ r.2.sem = fun _ => 0)

def quiescent_AttfKernel [hAttfKernel : Cert.AttfKernel.Facts] : Prop :=
  ∀ (m : (ℓ : Loc Cert.AttfKernel.nD Cert.AttfKernel.τ Cert.AttfKernel.sig) → Buf (Elt Bits) ℓ) (g : Dev Cert.AttfKernel.nD → PrngReg), Pre_AttfKernel m →
    θ_run (Cert.AttfKernel.defs (F := Bits)) (onTc (τ := Cert.AttfKernel.τ) (Cert.AttfKernel.main (F := Bits))) ⟨m, fun _ => 0, g⟩ (fun r => (∀ c : Dev Cert.AttfKernel.nD,
      r.2.mem ((c.tc : Thread Cert.AttfKernel.nD Cert.AttfKernel.τ).loc Cert.AttfKernel.main_arg0) = m ((c.tc : Thread Cert.AttfKernel.nD Cert.AttfKernel.τ).loc Cert.AttfKernel.main_arg0)
      ∧ r.2.mem ((c.tc : Thread Cert.AttfKernel.nD Cert.AttfKernel.τ).loc Cert.AttfKernel.main_arg1) = m ((c.tc : Thread Cert.AttfKernel.nD Cert.AttfKernel.τ).loc Cert.AttfKernel.main_arg1)
      ∧ r.2.mem ((c.tc : Thread Cert.AttfKernel.nD Cert.AttfKernel.τ).loc Cert.AttfKernel.main_arg2) = m ((c.tc : Thread Cert.AttfKernel.nD Cert.AttfKernel.τ).loc Cert.AttfKernel.main_arg2)
      ∧ r.2.mem ((c.tc : Thread Cert.AttfKernel.nD Cert.AttfKernel.τ).loc Cert.AttfKernel.main_arg3) = m ((c.tc : Thread Cert.AttfKernel.nD Cert.AttfKernel.τ).loc Cert.AttfKernel.main_arg3)
      ∧ r.2.mem ((c.tc : Thread Cert.AttfKernel.nD Cert.AttfKernel.τ).loc Cert.AttfKernel.main_arg4) = m ((c.tc : Thread Cert.AttfKernel.nD Cert.AttfKernel.τ).loc Cert.AttfKernel.main_arg4))
      ∧ r.2.sem = fun _ => 0)

def quiescent_AttfKernelIdeal [hAttfKernelIdeal : Cert.AttfKernelIdeal.Facts] : Prop :=
  ∀ (m : (ℓ : Loc Cert.AttfKernelIdeal.nD Cert.AttfKernelIdeal.τ Cert.AttfKernelIdeal.sig) → Buf (Elt Ideal) ℓ) (g : Dev Cert.AttfKernelIdeal.nD → PrngReg), Pre_AttfKernelIdeal m →
    θ_run (Cert.AttfKernelIdeal.defs (F := Ideal)) (onTc (τ := Cert.AttfKernelIdeal.τ) (Cert.AttfKernelIdeal.main (F := Ideal))) ⟨m, fun _ => 0, g⟩ (fun r => (∀ c : Dev Cert.AttfKernelIdeal.nD,
      r.2.mem ((c.tc : Thread Cert.AttfKernelIdeal.nD Cert.AttfKernelIdeal.τ).loc Cert.AttfKernelIdeal.main_arg0) = m ((c.tc : Thread Cert.AttfKernelIdeal.nD Cert.AttfKernelIdeal.τ).loc Cert.AttfKernelIdeal.main_arg0)
      ∧ r.2.mem ((c.tc : Thread Cert.AttfKernelIdeal.nD Cert.AttfKernelIdeal.τ).loc Cert.AttfKernelIdeal.main_arg1) = m ((c.tc : Thread Cert.AttfKernelIdeal.nD Cert.AttfKernelIdeal.τ).loc Cert.AttfKernelIdeal.main_arg1)
      ∧ r.2.mem ((c.tc : Thread Cert.AttfKernelIdeal.nD Cert.AttfKernelIdeal.τ).loc Cert.AttfKernelIdeal.main_arg2) = m ((c.tc : Thread Cert.AttfKernelIdeal.nD Cert.AttfKernelIdeal.τ).loc Cert.AttfKernelIdeal.main_arg2)
      ∧ r.2.mem ((c.tc : Thread Cert.AttfKernelIdeal.nD Cert.AttfKernelIdeal.τ).loc Cert.AttfKernelIdeal.main_arg3) = m ((c.tc : Thread Cert.AttfKernelIdeal.nD Cert.AttfKernelIdeal.τ).loc Cert.AttfKernelIdeal.main_arg3)
      ∧ r.2.mem ((c.tc : Thread Cert.AttfKernelIdeal.nD Cert.AttfKernelIdeal.τ).loc Cert.AttfKernelIdeal.main_arg4) = m ((c.tc : Thread Cert.AttfKernelIdeal.nD Cert.AttfKernelIdeal.τ).loc Cert.AttfKernelIdeal.main_arg4))
      ∧ r.2.sem = fun _ => 0)

def quiescent_AttfKernelIdeal_pre_finite_attf [hAttfKernelIdeal : Cert.AttfKernelIdeal.Facts] [hPre_finite_attf : Cert.Pre_finite_attf.Facts] : Prop :=
  ∀ (m : (ℓ : Loc Cert.AttfKernelIdeal.nD Cert.AttfKernelIdeal.τ Cert.AttfKernelIdeal.sig) → Buf (Elt Ideal) ℓ) (g : Dev Cert.AttfKernelIdeal.nD → PrngReg), Pre_AttfKernelIdeal_finite_attf m →
    θ_run (Cert.AttfKernelIdeal.defs (F := Ideal)) (onTc (τ := Cert.AttfKernelIdeal.τ) (Cert.AttfKernelIdeal.main (F := Ideal))) ⟨m, fun _ => 0, g⟩ (fun r => (∀ c : Dev Cert.AttfKernelIdeal.nD,
      r.2.mem ((c.tc : Thread Cert.AttfKernelIdeal.nD Cert.AttfKernelIdeal.τ).loc Cert.AttfKernelIdeal.main_arg0) = m ((c.tc : Thread Cert.AttfKernelIdeal.nD Cert.AttfKernelIdeal.τ).loc Cert.AttfKernelIdeal.main_arg0)
      ∧ r.2.mem ((c.tc : Thread Cert.AttfKernelIdeal.nD Cert.AttfKernelIdeal.τ).loc Cert.AttfKernelIdeal.main_arg1) = m ((c.tc : Thread Cert.AttfKernelIdeal.nD Cert.AttfKernelIdeal.τ).loc Cert.AttfKernelIdeal.main_arg1)
      ∧ r.2.mem ((c.tc : Thread Cert.AttfKernelIdeal.nD Cert.AttfKernelIdeal.τ).loc Cert.AttfKernelIdeal.main_arg2) = m ((c.tc : Thread Cert.AttfKernelIdeal.nD Cert.AttfKernelIdeal.τ).loc Cert.AttfKernelIdeal.main_arg2)
      ∧ r.2.mem ((c.tc : Thread Cert.AttfKernelIdeal.nD Cert.AttfKernelIdeal.τ).loc Cert.AttfKernelIdeal.main_arg3) = m ((c.tc : Thread Cert.AttfKernelIdeal.nD Cert.AttfKernelIdeal.τ).loc Cert.AttfKernelIdeal.main_arg3)
      ∧ r.2.mem ((c.tc : Thread Cert.AttfKernelIdeal.nD Cert.AttfKernelIdeal.τ).loc Cert.AttfKernelIdeal.main_arg4) = m ((c.tc : Thread Cert.AttfKernelIdeal.nD Cert.AttfKernelIdeal.τ).loc Cert.AttfKernelIdeal.main_arg4))
      ∧ r.2.sem = fun _ => 0)

def quiescent_AttfReferenceIdeal [hAttfReferenceIdeal : Cert.AttfReferenceIdeal.Facts] : Prop :=
  ∀ (m : (ℓ : Loc Cert.AttfReferenceIdeal.nD Cert.AttfReferenceIdeal.τ Cert.AttfReferenceIdeal.sig) → Buf (Elt Ideal) ℓ) (g : Dev Cert.AttfReferenceIdeal.nD → PrngReg), Pre_AttfReferenceIdeal m →
    θ_run (Cert.AttfReferenceIdeal.defs (F := Ideal)) (onTc (τ := Cert.AttfReferenceIdeal.τ) (Cert.AttfReferenceIdeal.main (F := Ideal))) ⟨m, fun _ => 0, g⟩ (fun r => (∀ c : Dev Cert.AttfReferenceIdeal.nD,
      r.2.mem ((c.tc : Thread Cert.AttfReferenceIdeal.nD Cert.AttfReferenceIdeal.τ).loc Cert.AttfReferenceIdeal.main_arg0) = m ((c.tc : Thread Cert.AttfReferenceIdeal.nD Cert.AttfReferenceIdeal.τ).loc Cert.AttfReferenceIdeal.main_arg0)
      ∧ r.2.mem ((c.tc : Thread Cert.AttfReferenceIdeal.nD Cert.AttfReferenceIdeal.τ).loc Cert.AttfReferenceIdeal.main_arg1) = m ((c.tc : Thread Cert.AttfReferenceIdeal.nD Cert.AttfReferenceIdeal.τ).loc Cert.AttfReferenceIdeal.main_arg1)
      ∧ r.2.mem ((c.tc : Thread Cert.AttfReferenceIdeal.nD Cert.AttfReferenceIdeal.τ).loc Cert.AttfReferenceIdeal.main_arg2) = m ((c.tc : Thread Cert.AttfReferenceIdeal.nD Cert.AttfReferenceIdeal.τ).loc Cert.AttfReferenceIdeal.main_arg2)
      ∧ r.2.mem ((c.tc : Thread Cert.AttfReferenceIdeal.nD Cert.AttfReferenceIdeal.τ).loc Cert.AttfReferenceIdeal.main_arg3) = m ((c.tc : Thread Cert.AttfReferenceIdeal.nD Cert.AttfReferenceIdeal.τ).loc Cert.AttfReferenceIdeal.main_arg3)
      ∧ r.2.mem ((c.tc : Thread Cert.AttfReferenceIdeal.nD Cert.AttfReferenceIdeal.τ).loc Cert.AttfReferenceIdeal.main_arg4) = m ((c.tc : Thread Cert.AttfReferenceIdeal.nD Cert.AttfReferenceIdeal.τ).loc Cert.AttfReferenceIdeal.main_arg4))
      ∧ r.2.sem = fun _ => 0)

def quiescent_AttfReferenceIdeal_pre_finite_attf [hAttfReferenceIdeal : Cert.AttfReferenceIdeal.Facts] [hPre_finite_attf : Cert.Pre_finite_attf.Facts] : Prop :=
  ∀ (m : (ℓ : Loc Cert.AttfReferenceIdeal.nD Cert.AttfReferenceIdeal.τ Cert.AttfReferenceIdeal.sig) → Buf (Elt Ideal) ℓ) (g : Dev Cert.AttfReferenceIdeal.nD → PrngReg), Pre_AttfReferenceIdeal_finite_attf m →
    θ_run (Cert.AttfReferenceIdeal.defs (F := Ideal)) (onTc (τ := Cert.AttfReferenceIdeal.τ) (Cert.AttfReferenceIdeal.main (F := Ideal))) ⟨m, fun _ => 0, g⟩ (fun r => (∀ c : Dev Cert.AttfReferenceIdeal.nD,
      r.2.mem ((c.tc : Thread Cert.AttfReferenceIdeal.nD Cert.AttfReferenceIdeal.τ).loc Cert.AttfReferenceIdeal.main_arg0) = m ((c.tc : Thread Cert.AttfReferenceIdeal.nD Cert.AttfReferenceIdeal.τ).loc Cert.AttfReferenceIdeal.main_arg0)
      ∧ r.2.mem ((c.tc : Thread Cert.AttfReferenceIdeal.nD Cert.AttfReferenceIdeal.τ).loc Cert.AttfReferenceIdeal.main_arg1) = m ((c.tc : Thread Cert.AttfReferenceIdeal.nD Cert.AttfReferenceIdeal.τ).loc Cert.AttfReferenceIdeal.main_arg1)
      ∧ r.2.mem ((c.tc : Thread Cert.AttfReferenceIdeal.nD Cert.AttfReferenceIdeal.τ).loc Cert.AttfReferenceIdeal.main_arg2) = m ((c.tc : Thread Cert.AttfReferenceIdeal.nD Cert.AttfReferenceIdeal.τ).loc Cert.AttfReferenceIdeal.main_arg2)
      ∧ r.2.mem ((c.tc : Thread Cert.AttfReferenceIdeal.nD Cert.AttfReferenceIdeal.τ).loc Cert.AttfReferenceIdeal.main_arg3) = m ((c.tc : Thread Cert.AttfReferenceIdeal.nD Cert.AttfReferenceIdeal.τ).loc Cert.AttfReferenceIdeal.main_arg3)
      ∧ r.2.mem ((c.tc : Thread Cert.AttfReferenceIdeal.nD Cert.AttfReferenceIdeal.τ).loc Cert.AttfReferenceIdeal.main_arg4) = m ((c.tc : Thread Cert.AttfReferenceIdeal.nD Cert.AttfReferenceIdeal.τ).loc Cert.AttfReferenceIdeal.main_arg4))
      ∧ r.2.sem = fun _ => 0)

def quiescent_RopefKernel [hRopefKernel : Cert.RopefKernel.Facts] : Prop :=
  ∀ (m : (ℓ : Loc Cert.RopefKernel.nD Cert.RopefKernel.τ Cert.RopefKernel.sig) → Buf (Elt Bits) ℓ) (g : Dev Cert.RopefKernel.nD → PrngReg), Pre_RopefKernel m →
    θ_run (Cert.RopefKernel.defs (F := Bits)) (onTc (τ := Cert.RopefKernel.τ) (Cert.RopefKernel.main (F := Bits))) ⟨m, fun _ => 0, g⟩ (fun r => (∀ c : Dev Cert.RopefKernel.nD,
      r.2.mem ((c.tc : Thread Cert.RopefKernel.nD Cert.RopefKernel.τ).loc Cert.RopefKernel.main_arg0) = m ((c.tc : Thread Cert.RopefKernel.nD Cert.RopefKernel.τ).loc Cert.RopefKernel.main_arg0)
      ∧ r.2.mem ((c.tc : Thread Cert.RopefKernel.nD Cert.RopefKernel.τ).loc Cert.RopefKernel.main_arg1) = m ((c.tc : Thread Cert.RopefKernel.nD Cert.RopefKernel.τ).loc Cert.RopefKernel.main_arg1)
      ∧ r.2.mem ((c.tc : Thread Cert.RopefKernel.nD Cert.RopefKernel.τ).loc Cert.RopefKernel.main_arg2) = m ((c.tc : Thread Cert.RopefKernel.nD Cert.RopefKernel.τ).loc Cert.RopefKernel.main_arg2)
      ∧ r.2.mem ((c.tc : Thread Cert.RopefKernel.nD Cert.RopefKernel.τ).loc Cert.RopefKernel.main_arg3) = m ((c.tc : Thread Cert.RopefKernel.nD Cert.RopefKernel.τ).loc Cert.RopefKernel.main_arg3))
      ∧ r.2.sem = fun _ => 0)

def quiescent_RopefKernelIdeal [hRopefKernelIdeal : Cert.RopefKernelIdeal.Facts] : Prop :=
  ∀ (m : (ℓ : Loc Cert.RopefKernelIdeal.nD Cert.RopefKernelIdeal.τ Cert.RopefKernelIdeal.sig) → Buf (Elt Ideal) ℓ) (g : Dev Cert.RopefKernelIdeal.nD → PrngReg), Pre_RopefKernelIdeal m →
    θ_run (Cert.RopefKernelIdeal.defs (F := Ideal)) (onTc (τ := Cert.RopefKernelIdeal.τ) (Cert.RopefKernelIdeal.main (F := Ideal))) ⟨m, fun _ => 0, g⟩ (fun r => (∀ c : Dev Cert.RopefKernelIdeal.nD,
      r.2.mem ((c.tc : Thread Cert.RopefKernelIdeal.nD Cert.RopefKernelIdeal.τ).loc Cert.RopefKernelIdeal.main_arg0) = m ((c.tc : Thread Cert.RopefKernelIdeal.nD Cert.RopefKernelIdeal.τ).loc Cert.RopefKernelIdeal.main_arg0)
      ∧ r.2.mem ((c.tc : Thread Cert.RopefKernelIdeal.nD Cert.RopefKernelIdeal.τ).loc Cert.RopefKernelIdeal.main_arg1) = m ((c.tc : Thread Cert.RopefKernelIdeal.nD Cert.RopefKernelIdeal.τ).loc Cert.RopefKernelIdeal.main_arg1)
      ∧ r.2.mem ((c.tc : Thread Cert.RopefKernelIdeal.nD Cert.RopefKernelIdeal.τ).loc Cert.RopefKernelIdeal.main_arg2) = m ((c.tc : Thread Cert.RopefKernelIdeal.nD Cert.RopefKernelIdeal.τ).loc Cert.RopefKernelIdeal.main_arg2)
      ∧ r.2.mem ((c.tc : Thread Cert.RopefKernelIdeal.nD Cert.RopefKernelIdeal.τ).loc Cert.RopefKernelIdeal.main_arg3) = m ((c.tc : Thread Cert.RopefKernelIdeal.nD Cert.RopefKernelIdeal.τ).loc Cert.RopefKernelIdeal.main_arg3))
      ∧ r.2.sem = fun _ => 0)

def quiescent_RopefReferenceIdeal [hRopefReferenceIdeal : Cert.RopefReferenceIdeal.Facts] : Prop :=
  ∀ (m : (ℓ : Loc Cert.RopefReferenceIdeal.nD Cert.RopefReferenceIdeal.τ Cert.RopefReferenceIdeal.sig) → Buf (Elt Ideal) ℓ) (g : Dev Cert.RopefReferenceIdeal.nD → PrngReg), Pre_RopefReferenceIdeal m →
    θ_run (Cert.RopefReferenceIdeal.defs (F := Ideal)) (onTc (τ := Cert.RopefReferenceIdeal.τ) (Cert.RopefReferenceIdeal.main (F := Ideal))) ⟨m, fun _ => 0, g⟩ (fun r => (∀ c : Dev Cert.RopefReferenceIdeal.nD,
      r.2.mem ((c.tc : Thread Cert.RopefReferenceIdeal.nD Cert.RopefReferenceIdeal.τ).loc Cert.RopefReferenceIdeal.main_arg0) = m ((c.tc : Thread Cert.RopefReferenceIdeal.nD Cert.RopefReferenceIdeal.τ).loc Cert.RopefReferenceIdeal.main_arg0)
      ∧ r.2.mem ((c.tc : Thread Cert.RopefReferenceIdeal.nD Cert.RopefReferenceIdeal.τ).loc Cert.RopefReferenceIdeal.main_arg1) = m ((c.tc : Thread Cert.RopefReferenceIdeal.nD Cert.RopefReferenceIdeal.τ).loc Cert.RopefReferenceIdeal.main_arg1)
      ∧ r.2.mem ((c.tc : Thread Cert.RopefReferenceIdeal.nD Cert.RopefReferenceIdeal.τ).loc Cert.RopefReferenceIdeal.main_arg2) = m ((c.tc : Thread Cert.RopefReferenceIdeal.nD Cert.RopefReferenceIdeal.τ).loc Cert.RopefReferenceIdeal.main_arg2)
      ∧ r.2.mem ((c.tc : Thread Cert.RopefReferenceIdeal.nD Cert.RopefReferenceIdeal.τ).loc Cert.RopefReferenceIdeal.main_arg3) = m ((c.tc : Thread Cert.RopefReferenceIdeal.nD Cert.RopefReferenceIdeal.τ).loc Cert.RopefReferenceIdeal.main_arg3))
      ∧ r.2.sem = fun _ => 0)

def quiescent_MlafKernel [hMlafKernel : Cert.MlafKernel.Facts] : Prop :=
  ∀ (m : (ℓ : Loc Cert.MlafKernel.nD Cert.MlafKernel.τ Cert.MlafKernel.sig) → Buf (Elt Bits) ℓ) (g : Dev Cert.MlafKernel.nD → PrngReg), Pre_MlafKernel m →
    θ_run (Cert.MlafKernel.defs (F := Bits)) (onTc (τ := Cert.MlafKernel.τ) (Cert.MlafKernel.main (F := Bits))) ⟨m, fun _ => 0, g⟩ (fun r => (∀ c : Dev Cert.MlafKernel.nD,
      r.2.mem ((c.tc : Thread Cert.MlafKernel.nD Cert.MlafKernel.τ).loc Cert.MlafKernel.main_arg0) = m ((c.tc : Thread Cert.MlafKernel.nD Cert.MlafKernel.τ).loc Cert.MlafKernel.main_arg0)
      ∧ r.2.mem ((c.tc : Thread Cert.MlafKernel.nD Cert.MlafKernel.τ).loc Cert.MlafKernel.main_arg1) = m ((c.tc : Thread Cert.MlafKernel.nD Cert.MlafKernel.τ).loc Cert.MlafKernel.main_arg1)
      ∧ r.2.mem ((c.tc : Thread Cert.MlafKernel.nD Cert.MlafKernel.τ).loc Cert.MlafKernel.main_arg2) = m ((c.tc : Thread Cert.MlafKernel.nD Cert.MlafKernel.τ).loc Cert.MlafKernel.main_arg2)
      ∧ r.2.mem ((c.tc : Thread Cert.MlafKernel.nD Cert.MlafKernel.τ).loc Cert.MlafKernel.main_arg3) = m ((c.tc : Thread Cert.MlafKernel.nD Cert.MlafKernel.τ).loc Cert.MlafKernel.main_arg3))
      ∧ r.2.sem = fun _ => 0)

def quiescent_MlafKernelIdeal [hMlafKernelIdeal : Cert.MlafKernelIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2)
      ∧ r.2.mem ((c.tc : Thread Cert.MlafKernelIdeal.nD Cert.MlafKernelIdeal.τ).loc Cert.MlafKernelIdeal.main_arg3) = m ((c.tc : Thread Cert.MlafKernelIdeal.nD Cert.MlafKernelIdeal.τ).loc Cert.MlafKernelIdeal.main_arg3))
      ∧ r.2.sem = fun _ => 0)

def quiescent_MlafReferenceIdeal [hMlafReferenceIdeal : Cert.MlafReferenceIdeal.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2)
      ∧ r.2.mem ((c.tc : Thread Cert.MlafReferenceIdeal.nD Cert.MlafReferenceIdeal.τ).loc Cert.MlafReferenceIdeal.main_arg3) = m ((c.tc : Thread Cert.MlafReferenceIdeal.nD Cert.MlafReferenceIdeal.τ).loc Cert.MlafReferenceIdeal.main_arg3))
      ∧ r.2.sem = fun _ => 0)

def quiescent_PostfKernel [hPostfKernel : Cert.PostfKernel.Facts] : Prop :=
  ∀ (m : (ℓ : Loc Cert.PostfKernel.nD Cert.PostfKernel.τ Cert.PostfKernel.sig) → Buf (Elt Bits) ℓ) (g : Dev Cert.PostfKernel.nD → PrngReg), Pre_PostfKernel m →
    θ_run (Cert.PostfKernel.defs (F := Bits)) (onTc (τ := Cert.PostfKernel.τ) (Cert.PostfKernel.main (F := Bits))) ⟨m, fun _ => 0, g⟩ (fun r => (∀ c : Dev Cert.PostfKernel.nD,
      r.2.mem ((c.tc : Thread Cert.PostfKernel.nD Cert.PostfKernel.τ).loc Cert.PostfKernel.main_arg0) = m ((c.tc : Thread Cert.PostfKernel.nD Cert.PostfKernel.τ).loc Cert.PostfKernel.main_arg0)
      ∧ r.2.mem ((c.tc : Thread Cert.PostfKernel.nD Cert.PostfKernel.τ).loc Cert.PostfKernel.main_arg1) = m ((c.tc : Thread Cert.PostfKernel.nD Cert.PostfKernel.τ).loc Cert.PostfKernel.main_arg1)
      ∧ r.2.mem ((c.tc : Thread Cert.PostfKernel.nD Cert.PostfKernel.τ).loc Cert.PostfKernel.main_arg2) = m ((c.tc : Thread Cert.PostfKernel.nD Cert.PostfKernel.τ).loc Cert.PostfKernel.main_arg2)
      ∧ r.2.mem ((c.tc : Thread Cert.PostfKernel.nD Cert.PostfKernel.τ).loc Cert.PostfKernel.main_arg3) = m ((c.tc : Thread Cert.PostfKernel.nD Cert.PostfKernel.τ).loc Cert.PostfKernel.main_arg3)
      ∧ r.2.mem ((c.tc : Thread Cert.PostfKernel.nD Cert.PostfKernel.τ).loc Cert.PostfKernel.main_arg4) = m ((c.tc : Thread Cert.PostfKernel.nD Cert.PostfKernel.τ).loc Cert.PostfKernel.main_arg4))
      ∧ r.2.sem = fun _ => 0)

def quiescent_PostfKernelIdeal [hPostfKernelIdeal : Cert.PostfKernelIdeal.Facts] : Prop :=
  ∀ (m : (ℓ : Loc Cert.PostfKernelIdeal.nD Cert.PostfKernelIdeal.τ Cert.PostfKernelIdeal.sig) → Buf (Elt Ideal) ℓ) (g : Dev Cert.PostfKernelIdeal.nD → PrngReg), Pre_PostfKernelIdeal m →
    θ_run (Cert.PostfKernelIdeal.defs (F := Ideal)) (onTc (τ := Cert.PostfKernelIdeal.τ) (Cert.PostfKernelIdeal.main (F := Ideal))) ⟨m, fun _ => 0, g⟩ (fun r => (∀ c : Dev Cert.PostfKernelIdeal.nD,
      r.2.mem ((c.tc : Thread Cert.PostfKernelIdeal.nD Cert.PostfKernelIdeal.τ).loc Cert.PostfKernelIdeal.main_arg0) = m ((c.tc : Thread Cert.PostfKernelIdeal.nD Cert.PostfKernelIdeal.τ).loc Cert.PostfKernelIdeal.main_arg0)
      ∧ r.2.mem ((c.tc : Thread Cert.PostfKernelIdeal.nD Cert.PostfKernelIdeal.τ).loc Cert.PostfKernelIdeal.main_arg1) = m ((c.tc : Thread Cert.PostfKernelIdeal.nD Cert.PostfKernelIdeal.τ).loc Cert.PostfKernelIdeal.main_arg1)
      ∧ r.2.mem ((c.tc : Thread Cert.PostfKernelIdeal.nD Cert.PostfKernelIdeal.τ).loc Cert.PostfKernelIdeal.main_arg2) = m ((c.tc : Thread Cert.PostfKernelIdeal.nD Cert.PostfKernelIdeal.τ).loc Cert.PostfKernelIdeal.main_arg2)
      ∧ r.2.mem ((c.tc : Thread Cert.PostfKernelIdeal.nD Cert.PostfKernelIdeal.τ).loc Cert.PostfKernelIdeal.main_arg3) = m ((c.tc : Thread Cert.PostfKernelIdeal.nD Cert.PostfKernelIdeal.τ).loc Cert.PostfKernelIdeal.main_arg3)
      ∧ r.2.mem ((c.tc : Thread Cert.PostfKernelIdeal.nD Cert.PostfKernelIdeal.τ).loc Cert.PostfKernelIdeal.main_arg4) = m ((c.tc : Thread Cert.PostfKernelIdeal.nD Cert.PostfKernelIdeal.τ).loc Cert.PostfKernelIdeal.main_arg4))
      ∧ r.2.sem = fun _ => 0)

def quiescent_PostfReferenceIdeal [hPostfReferenceIdeal : Cert.PostfReferenceIdeal.Facts] : Prop :=
  ∀ (m : (ℓ : Loc Cert.PostfReferenceIdeal.nD Cert.PostfReferenceIdeal.τ Cert.PostfReferenceIdeal.sig) → Buf (Elt Ideal) ℓ) (g : Dev Cert.PostfReferenceIdeal.nD → PrngReg), Pre_PostfReferenceIdeal m →
    θ_run (Cert.PostfReferenceIdeal.defs (F := Ideal)) (onTc (τ := Cert.PostfReferenceIdeal.τ) (Cert.PostfReferenceIdeal.main (F := Ideal))) ⟨m, fun _ => 0, g⟩ (fun r => (∀ c : Dev Cert.PostfReferenceIdeal.nD,
      r.2.mem ((c.tc : Thread Cert.PostfReferenceIdeal.nD Cert.PostfReferenceIdeal.τ).loc Cert.PostfReferenceIdeal.main_arg0) = m ((c.tc : Thread Cert.PostfReferenceIdeal.nD Cert.PostfReferenceIdeal.τ).loc Cert.PostfReferenceIdeal.main_arg0)
      ∧ r.2.mem ((c.tc : Thread Cert.PostfReferenceIdeal.nD Cert.PostfReferenceIdeal.τ).loc Cert.PostfReferenceIdeal.main_arg1) = m ((c.tc : Thread Cert.PostfReferenceIdeal.nD Cert.PostfReferenceIdeal.τ).loc Cert.PostfReferenceIdeal.main_arg1)
      ∧ r.2.mem ((c.tc : Thread Cert.PostfReferenceIdeal.nD Cert.PostfReferenceIdeal.τ).loc Cert.PostfReferenceIdeal.main_arg2) = m ((c.tc : Thread Cert.PostfReferenceIdeal.nD Cert.PostfReferenceIdeal.τ).loc Cert.PostfReferenceIdeal.main_arg2)
      ∧ r.2.mem ((c.tc : Thread Cert.PostfReferenceIdeal.nD Cert.PostfReferenceIdeal.τ).loc Cert.PostfReferenceIdeal.main_arg3) = m ((c.tc : Thread Cert.PostfReferenceIdeal.nD Cert.PostfReferenceIdeal.τ).loc Cert.PostfReferenceIdeal.main_arg3)
      ∧ r.2.mem ((c.tc : Thread Cert.PostfReferenceIdeal.nD Cert.PostfReferenceIdeal.τ).loc Cert.PostfReferenceIdeal.main_arg4) = m ((c.tc : Thread Cert.PostfReferenceIdeal.nD Cert.PostfReferenceIdeal.τ).loc Cert.PostfReferenceIdeal.main_arg4))
      ∧ r.2.sem = fun _ => 0)

def quiescent_FfnfKernel [hFfnfKernel : Cert.FfnfKernel.Facts] : Prop :=
  ∀ (m : (ℓ : Loc Cert.FfnfKernel.nD Cert.FfnfKernel.τ Cert.FfnfKernel.sig) → Buf (Elt Bits) ℓ) (g : Dev Cert.FfnfKernel.nD → PrngReg), Pre_FfnfKernel m →
    θ_run (Cert.FfnfKernel.defs (F := Bits)) (onTc (τ := Cert.FfnfKernel.τ) (Cert.FfnfKernel.main (F := Bits))) ⟨m, fun _ => 0, g⟩ (fun r => (∀ c : Dev Cert.FfnfKernel.nD,
      r.2.mem ((c.tc : Thread Cert.FfnfKernel.nD Cert.FfnfKernel.τ).loc Cert.FfnfKernel.main_arg0) = m ((c.tc : Thread Cert.FfnfKernel.nD Cert.FfnfKernel.τ).loc Cert.FfnfKernel.main_arg0)
      ∧ r.2.mem ((c.tc : Thread Cert.FfnfKernel.nD Cert.FfnfKernel.τ).loc Cert.FfnfKernel.main_arg1) = m ((c.tc : Thread Cert.FfnfKernel.nD Cert.FfnfKernel.τ).loc Cert.FfnfKernel.main_arg1)
      ∧ r.2.mem ((c.tc : Thread Cert.FfnfKernel.nD Cert.FfnfKernel.τ).loc Cert.FfnfKernel.main_arg2) = m ((c.tc : Thread Cert.FfnfKernel.nD Cert.FfnfKernel.τ).loc Cert.FfnfKernel.main_arg2))
      ∧ r.2.sem = fun _ => 0)

def quiescent_FfnfKernelIdeal [hFfnfKernelIdeal : Cert.FfnfKernelIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg), Pre_FfnfKernelIdeal m →
    θ_run (Cert.FfnfKernelIdeal.defs (F := Ideal)) (onTc (τ := Cert.FfnfKernelIdeal.τ) (Cert.FfnfKernelIdeal.main (F := Ideal))) ⟨m, fun _ => 0, g⟩ (fun r => (∀ c : Dev Cert.FfnfKernelIdeal.nD,
      r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
      ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
      ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2))
      ∧ r.2.sem = fun _ => 0)

def quiescent_FfnfReferenceIdeal [hFfnfReferenceIdeal : Cert.FfnfReferenceIdeal.Facts] : Prop :=
  ∀ (m : (ℓ : Loc Cert.FfnfReferenceIdeal.nD Cert.FfnfReferenceIdeal.τ Cert.FfnfReferenceIdeal.sig) → Buf (Elt Ideal) ℓ) (g : Dev Cert.FfnfReferenceIdeal.nD → PrngReg), Pre_FfnfReferenceIdeal m →
    θ_run (Cert.FfnfReferenceIdeal.defs (F := Ideal)) (onTc (τ := Cert.FfnfReferenceIdeal.τ) (Cert.FfnfReferenceIdeal.main (F := Ideal))) ⟨m, fun _ => 0, g⟩ (fun r => (∀ c : Dev Cert.FfnfReferenceIdeal.nD,
      r.2.mem ((c.tc : Thread Cert.FfnfReferenceIdeal.nD Cert.FfnfReferenceIdeal.τ).loc Cert.FfnfReferenceIdeal.main_arg0) = m ((c.tc : Thread Cert.FfnfReferenceIdeal.nD Cert.FfnfReferenceIdeal.τ).loc Cert.FfnfReferenceIdeal.main_arg0)
      ∧ r.2.mem ((c.tc : Thread Cert.FfnfReferenceIdeal.nD Cert.FfnfReferenceIdeal.τ).loc Cert.FfnfReferenceIdeal.main_arg1) = m ((c.tc : Thread Cert.FfnfReferenceIdeal.nD Cert.FfnfReferenceIdeal.τ).loc Cert.FfnfReferenceIdeal.main_arg1)
      ∧ r.2.mem ((c.tc : Thread Cert.FfnfReferenceIdeal.nD Cert.FfnfReferenceIdeal.τ).loc Cert.FfnfReferenceIdeal.main_arg2) = m ((c.tc : Thread Cert.FfnfReferenceIdeal.nD Cert.FfnfReferenceIdeal.τ).loc Cert.FfnfReferenceIdeal.main_arg2))
      ∧ r.2.sem = fun _ => 0)

def quiescent_DtfKernel [hDtfKernel : Cert.DtfKernel.Facts] : Prop :=
  ∀ (m : (ℓ : Loc Cert.DtfKernel.nD Cert.DtfKernel.τ Cert.DtfKernel.sig) → Buf (Elt Bits) ℓ) (g : Dev Cert.DtfKernel.nD → PrngReg), Pre_DtfKernel m →
    θ_run (Cert.DtfKernel.defs (F := Bits)) (onTc (τ := Cert.DtfKernel.τ) (Cert.DtfKernel.main (F := Bits))) ⟨m, fun _ => 0, g⟩ (fun r => (∀ c : Dev Cert.DtfKernel.nD,
      r.2.mem ((c.tc : Thread Cert.DtfKernel.nD Cert.DtfKernel.τ).loc Cert.DtfKernel.main_arg0) = m ((c.tc : Thread Cert.DtfKernel.nD Cert.DtfKernel.τ).loc Cert.DtfKernel.main_arg0)
      ∧ r.2.mem ((c.tc : Thread Cert.DtfKernel.nD Cert.DtfKernel.τ).loc Cert.DtfKernel.main_arg1) = m ((c.tc : Thread Cert.DtfKernel.nD Cert.DtfKernel.τ).loc Cert.DtfKernel.main_arg1))
      ∧ r.2.sem = fun _ => 0)

def quiescent_DtfKernelIdeal [hDtfKernelIdeal : Cert.DtfKernelIdeal.Facts] : Prop :=
  ∀ (m : (ℓ : Loc Cert.DtfKernelIdeal.nD Cert.DtfKernelIdeal.τ Cert.DtfKernelIdeal.sig) → Buf (Elt Ideal) ℓ) (g : Dev Cert.DtfKernelIdeal.nD → PrngReg), Pre_DtfKernelIdeal m →
    θ_run (Cert.DtfKernelIdeal.defs (F := Ideal)) (onTc (τ := Cert.DtfKernelIdeal.τ) (Cert.DtfKernelIdeal.main (F := Ideal))) ⟨m, fun _ => 0, g⟩ (fun r => (∀ c : Dev Cert.DtfKernelIdeal.nD,
      r.2.mem ((c.tc : Thread Cert.DtfKernelIdeal.nD Cert.DtfKernelIdeal.τ).loc Cert.DtfKernelIdeal.main_arg0) = m ((c.tc : Thread Cert.DtfKernelIdeal.nD Cert.DtfKernelIdeal.τ).loc Cert.DtfKernelIdeal.main_arg0)
      ∧ r.2.mem ((c.tc : Thread Cert.DtfKernelIdeal.nD Cert.DtfKernelIdeal.τ).loc Cert.DtfKernelIdeal.main_arg1) = m ((c.tc : Thread Cert.DtfKernelIdeal.nD Cert.DtfKernelIdeal.τ).loc Cert.DtfKernelIdeal.main_arg1))
      ∧ r.2.sem = fun _ => 0)

def quiescent_DtfReferenceIdeal [hDtfReferenceIdeal : Cert.DtfReferenceIdeal.Facts] : Prop :=
  ∀ (m : (ℓ : Loc Cert.DtfReferenceIdeal.nD Cert.DtfReferenceIdeal.τ Cert.DtfReferenceIdeal.sig) → Buf (Elt Ideal) ℓ) (g : Dev Cert.DtfReferenceIdeal.nD → PrngReg), Pre_DtfReferenceIdeal m →
    θ_run (Cert.DtfReferenceIdeal.defs (F := Ideal)) (onTc (τ := Cert.DtfReferenceIdeal.τ) (Cert.DtfReferenceIdeal.main (F := Ideal))) ⟨m, fun _ => 0, g⟩ (fun r => (∀ c : Dev Cert.DtfReferenceIdeal.nD,
      r.2.mem ((c.tc : Thread Cert.DtfReferenceIdeal.nD Cert.DtfReferenceIdeal.τ).loc Cert.DtfReferenceIdeal.main_arg0) = m ((c.tc : Thread Cert.DtfReferenceIdeal.nD Cert.DtfReferenceIdeal.τ).loc Cert.DtfReferenceIdeal.main_arg0)
      ∧ r.2.mem ((c.tc : Thread Cert.DtfReferenceIdeal.nD Cert.DtfReferenceIdeal.τ).loc Cert.DtfReferenceIdeal.main_arg1) = m ((c.tc : Thread Cert.DtfReferenceIdeal.nD Cert.DtfReferenceIdeal.τ).loc Cert.DtfReferenceIdeal.main_arg1))
      ∧ r.2.sem = fun _ => 0)

def quiescent_GatefKernel [hGatefKernel : Cert.GatefKernel.Facts] : Prop :=
  ∀ (m : (ℓ : Loc Cert.GatefKernel.nD Cert.GatefKernel.τ Cert.GatefKernel.sig) → Buf (Elt Bits) ℓ) (g : Dev Cert.GatefKernel.nD → PrngReg), Pre_GatefKernel m →
    θ_run (Cert.GatefKernel.defs (F := Bits)) (onTc (τ := Cert.GatefKernel.τ) (Cert.GatefKernel.main (F := Bits))) ⟨m, fun _ => 0, g⟩ (fun r => (∀ c : Dev Cert.GatefKernel.nD,
      r.2.mem ((c.tc : Thread Cert.GatefKernel.nD Cert.GatefKernel.τ).loc Cert.GatefKernel.main_arg0) = m ((c.tc : Thread Cert.GatefKernel.nD Cert.GatefKernel.τ).loc Cert.GatefKernel.main_arg0)
      ∧ r.2.mem ((c.tc : Thread Cert.GatefKernel.nD Cert.GatefKernel.τ).loc Cert.GatefKernel.main_arg1) = m ((c.tc : Thread Cert.GatefKernel.nD Cert.GatefKernel.τ).loc Cert.GatefKernel.main_arg1))
      ∧ r.2.sem = fun _ => 0)

def quiescent_GatefKernelIdeal [hGatefKernelIdeal : Cert.GatefKernelIdeal.Facts] : Prop :=
  ∀ (m : (ℓ : Loc Cert.GatefKernelIdeal.nD Cert.GatefKernelIdeal.τ Cert.GatefKernelIdeal.sig) → Buf (Elt Ideal) ℓ) (g : Dev Cert.GatefKernelIdeal.nD → PrngReg), Pre_GatefKernelIdeal m →
    θ_run (Cert.GatefKernelIdeal.defs (F := Ideal)) (onTc (τ := Cert.GatefKernelIdeal.τ) (Cert.GatefKernelIdeal.main (F := Ideal))) ⟨m, fun _ => 0, g⟩ (fun r => (∀ c : Dev Cert.GatefKernelIdeal.nD,
      r.2.mem ((c.tc : Thread Cert.GatefKernelIdeal.nD Cert.GatefKernelIdeal.τ).loc Cert.GatefKernelIdeal.main_arg0) = m ((c.tc : Thread Cert.GatefKernelIdeal.nD Cert.GatefKernelIdeal.τ).loc Cert.GatefKernelIdeal.main_arg0)
      ∧ r.2.mem ((c.tc : Thread Cert.GatefKernelIdeal.nD Cert.GatefKernelIdeal.τ).loc Cert.GatefKernelIdeal.main_arg1) = m ((c.tc : Thread Cert.GatefKernelIdeal.nD Cert.GatefKernelIdeal.τ).loc Cert.GatefKernelIdeal.main_arg1))
      ∧ r.2.sem = fun _ => 0)

def quiescent_GatefKernelIdeal_pre_finite_gatef [hGatefKernelIdeal : Cert.GatefKernelIdeal.Facts] [hPre_finite_gatef : Cert.Pre_finite_gatef.Facts] : Prop :=
  ∀ (m : (ℓ : Loc Cert.GatefKernelIdeal.nD Cert.GatefKernelIdeal.τ Cert.GatefKernelIdeal.sig) → Buf (Elt Ideal) ℓ) (g : Dev Cert.GatefKernelIdeal.nD → PrngReg), Pre_GatefKernelIdeal_finite_gatef m →
    θ_run (Cert.GatefKernelIdeal.defs (F := Ideal)) (onTc (τ := Cert.GatefKernelIdeal.τ) (Cert.GatefKernelIdeal.main (F := Ideal))) ⟨m, fun _ => 0, g⟩ (fun r => (∀ c : Dev Cert.GatefKernelIdeal.nD,
      r.2.mem ((c.tc : Thread Cert.GatefKernelIdeal.nD Cert.GatefKernelIdeal.τ).loc Cert.GatefKernelIdeal.main_arg0) = m ((c.tc : Thread Cert.GatefKernelIdeal.nD Cert.GatefKernelIdeal.τ).loc Cert.GatefKernelIdeal.main_arg0)
      ∧ r.2.mem ((c.tc : Thread Cert.GatefKernelIdeal.nD Cert.GatefKernelIdeal.τ).loc Cert.GatefKernelIdeal.main_arg1) = m ((c.tc : Thread Cert.GatefKernelIdeal.nD Cert.GatefKernelIdeal.τ).loc Cert.GatefKernelIdeal.main_arg1))
      ∧ r.2.sem = fun _ => 0)

def quiescent_GatefReferenceIdeal [hGatefReferenceIdeal : Cert.GatefReferenceIdeal.Facts] : Prop :=
  ∀ (m : (ℓ : Loc Cert.GatefReferenceIdeal.nD Cert.GatefReferenceIdeal.τ Cert.GatefReferenceIdeal.sig) → Buf (Elt Ideal) ℓ) (g : Dev Cert.GatefReferenceIdeal.nD → PrngReg), Pre_GatefReferenceIdeal m →
    θ_run (Cert.GatefReferenceIdeal.defs (F := Ideal)) (onTc (τ := Cert.GatefReferenceIdeal.τ) (Cert.GatefReferenceIdeal.main (F := Ideal))) ⟨m, fun _ => 0, g⟩ (fun r => (∀ c : Dev Cert.GatefReferenceIdeal.nD,
      r.2.mem ((c.tc : Thread Cert.GatefReferenceIdeal.nD Cert.GatefReferenceIdeal.τ).loc Cert.GatefReferenceIdeal.main_arg0) = m ((c.tc : Thread Cert.GatefReferenceIdeal.nD Cert.GatefReferenceIdeal.τ).loc Cert.GatefReferenceIdeal.main_arg0)
      ∧ r.2.mem ((c.tc : Thread Cert.GatefReferenceIdeal.nD Cert.GatefReferenceIdeal.τ).loc Cert.GatefReferenceIdeal.main_arg1) = m ((c.tc : Thread Cert.GatefReferenceIdeal.nD Cert.GatefReferenceIdeal.τ).loc Cert.GatefReferenceIdeal.main_arg1))
      ∧ r.2.sem = fun _ => 0)

def quiescent_GatefReferenceIdeal_pre_finite_gatef [hGatefReferenceIdeal : Cert.GatefReferenceIdeal.Facts] [hPre_finite_gatef : Cert.Pre_finite_gatef.Facts] : Prop :=
  ∀ (m : (ℓ : Loc Cert.GatefReferenceIdeal.nD Cert.GatefReferenceIdeal.τ Cert.GatefReferenceIdeal.sig) → Buf (Elt Ideal) ℓ) (g : Dev Cert.GatefReferenceIdeal.nD → PrngReg), Pre_GatefReferenceIdeal_finite_gatef m →
    θ_run (Cert.GatefReferenceIdeal.defs (F := Ideal)) (onTc (τ := Cert.GatefReferenceIdeal.τ) (Cert.GatefReferenceIdeal.main (F := Ideal))) ⟨m, fun _ => 0, g⟩ (fun r => (∀ c : Dev Cert.GatefReferenceIdeal.nD,
      r.2.mem ((c.tc : Thread Cert.GatefReferenceIdeal.nD Cert.GatefReferenceIdeal.τ).loc Cert.GatefReferenceIdeal.main_arg0) = m ((c.tc : Thread Cert.GatefReferenceIdeal.nD Cert.GatefReferenceIdeal.τ).loc Cert.GatefReferenceIdeal.main_arg0)
      ∧ r.2.mem ((c.tc : Thread Cert.GatefReferenceIdeal.nD Cert.GatefReferenceIdeal.τ).loc Cert.GatefReferenceIdeal.main_arg1) = m ((c.tc : Thread Cert.GatefReferenceIdeal.nD Cert.GatefReferenceIdeal.τ).loc Cert.GatefReferenceIdeal.main_arg1))
      ∧ r.2.sem = fun _ => 0)

def quiescent_ConvfKernel [hConvfKernel : Cert.ConvfKernel.Facts] : Prop :=
  ∀ (m : (ℓ : Loc Cert.ConvfKernel.nD Cert.ConvfKernel.τ Cert.ConvfKernel.sig) → Buf (Elt Bits) ℓ) (g : Dev Cert.ConvfKernel.nD → PrngReg), Pre_ConvfKernel m →
    θ_run (Cert.ConvfKernel.defs (F := Bits)) (onTc (τ := Cert.ConvfKernel.τ) (Cert.ConvfKernel.main (F := Bits))) ⟨m, fun _ => 0, g⟩ (fun r => (∀ c : Dev Cert.ConvfKernel.nD,
      r.2.mem ((c.tc : Thread Cert.ConvfKernel.nD Cert.ConvfKernel.τ).loc Cert.ConvfKernel.main_arg0) = m ((c.tc : Thread Cert.ConvfKernel.nD Cert.ConvfKernel.τ).loc Cert.ConvfKernel.main_arg0)
      ∧ r.2.mem ((c.tc : Thread Cert.ConvfKernel.nD Cert.ConvfKernel.τ).loc Cert.ConvfKernel.main_arg1) = m ((c.tc : Thread Cert.ConvfKernel.nD Cert.ConvfKernel.τ).loc Cert.ConvfKernel.main_arg1)
      ∧ r.2.mem ((c.tc : Thread Cert.ConvfKernel.nD Cert.ConvfKernel.τ).loc Cert.ConvfKernel.main_arg2) = m ((c.tc : Thread Cert.ConvfKernel.nD Cert.ConvfKernel.τ).loc Cert.ConvfKernel.main_arg2))
      ∧ r.2.sem = fun _ => 0)

def quiescent_ConvfKernelIdeal [hConvfKernelIdeal : Cert.ConvfKernelIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg), Pre_ConvfKernelIdeal m →
    θ_run (Cert.ConvfKernelIdeal.defs (F := Ideal)) (onTc (τ := Cert.ConvfKernelIdeal.τ) (Cert.ConvfKernelIdeal.main (F := Ideal))) ⟨m, fun _ => 0, g⟩ (fun r => (∀ c : Dev Cert.ConvfKernelIdeal.nD,
      r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
      ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
      ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ r.2.sem = fun _ => 0)

def quiescent_ConvfReferenceIdeal [hConvfReferenceIdeal : Cert.ConvfReferenceIdeal.Facts] : Prop :=
  ∀ (m : (ℓ : Loc Cert.ConvfReferenceIdeal.nD Cert.ConvfReferenceIdeal.τ Cert.ConvfReferenceIdeal.sig) → Buf (Elt Ideal) ℓ) (g : Dev Cert.ConvfReferenceIdeal.nD → PrngReg), Pre_ConvfReferenceIdeal m →
    θ_run (Cert.ConvfReferenceIdeal.defs (F := Ideal)) (onTc (τ := Cert.ConvfReferenceIdeal.τ) (Cert.ConvfReferenceIdeal.main (F := Ideal))) ⟨m, fun _ => 0, g⟩ (fun r => (∀ c : Dev Cert.ConvfReferenceIdeal.nD,
      r.2.mem ((c.tc : Thread Cert.ConvfReferenceIdeal.nD Cert.ConvfReferenceIdeal.τ).loc Cert.ConvfReferenceIdeal.main_arg0) = m ((c.tc : Thread Cert.ConvfReferenceIdeal.nD Cert.ConvfReferenceIdeal.τ).loc Cert.ConvfReferenceIdeal.main_arg0)
      ∧ r.2.mem ((c.tc : Thread Cert.ConvfReferenceIdeal.nD Cert.ConvfReferenceIdeal.τ).loc Cert.ConvfReferenceIdeal.main_arg1) = m ((c.tc : Thread Cert.ConvfReferenceIdeal.nD Cert.ConvfReferenceIdeal.τ).loc Cert.ConvfReferenceIdeal.main_arg1)
      ∧ r.2.mem ((c.tc : Thread Cert.ConvfReferenceIdeal.nD Cert.ConvfReferenceIdeal.τ).loc Cert.ConvfReferenceIdeal.main_arg2) = m ((c.tc : Thread Cert.ConvfReferenceIdeal.nD Cert.ConvfReferenceIdeal.τ).loc Cert.ConvfReferenceIdeal.main_arg2))
      ∧ r.2.sem = fun _ => 0)

def quiescent_MixKernel [hMixKernel : Cert.MixKernel.Facts] : Prop :=
  ∀ (m : (ℓ : Loc Cert.MixKernel.nD Cert.MixKernel.τ Cert.MixKernel.sig) → Buf (Elt Bits) ℓ) (g : Dev Cert.MixKernel.nD → PrngReg), Pre_MixKernel m →
    θ_run (Cert.MixKernel.defs (F := Bits)) (onTc (τ := Cert.MixKernel.τ) (Cert.MixKernel.main (F := Bits))) ⟨m, fun _ => 0, g⟩ (fun r => (∀ c : Dev Cert.MixKernel.nD,
      r.2.mem ((c.tc : Thread Cert.MixKernel.nD Cert.MixKernel.τ).loc Cert.MixKernel.main_arg0) = m ((c.tc : Thread Cert.MixKernel.nD Cert.MixKernel.τ).loc Cert.MixKernel.main_arg0)
      ∧ r.2.mem ((c.tc : Thread Cert.MixKernel.nD Cert.MixKernel.τ).loc Cert.MixKernel.main_arg1) = m ((c.tc : Thread Cert.MixKernel.nD Cert.MixKernel.τ).loc Cert.MixKernel.main_arg1)
      ∧ r.2.mem ((c.tc : Thread Cert.MixKernel.nD Cert.MixKernel.τ).loc Cert.MixKernel.main_arg2) = m ((c.tc : Thread Cert.MixKernel.nD Cert.MixKernel.τ).loc Cert.MixKernel.main_arg2)
      ∧ r.2.mem ((c.tc : Thread Cert.MixKernel.nD Cert.MixKernel.τ).loc Cert.MixKernel.main_arg3) = m ((c.tc : Thread Cert.MixKernel.nD Cert.MixKernel.τ).loc Cert.MixKernel.main_arg3)
      ∧ r.2.mem ((c.tc : Thread Cert.MixKernel.nD Cert.MixKernel.τ).loc Cert.MixKernel.main_arg4) = m ((c.tc : Thread Cert.MixKernel.nD Cert.MixKernel.τ).loc Cert.MixKernel.main_arg4))
      ∧ r.2.sem = fun _ => 0)

def quiescent_MixKernelIdeal [hMixKernelIdeal : Cert.MixKernelIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg), Pre_MixKernelIdeal m →
    θ_run (Cert.MixKernelIdeal.defs (F := Ideal)) (onTc (τ := Cert.MixKernelIdeal.τ) (Cert.MixKernelIdeal.main (F := Ideal))) ⟨m, fun _ => 0, g⟩ (fun r => (∀ c : Dev Cert.MixKernelIdeal.nD,
      r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
      ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
      ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
      ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
      ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4))
      ∧ r.2.sem = fun _ => 0)

def quiescent_DownfKernel [hDownfKernel : Cert.DownfKernel.Facts] : Prop :=
  ∀ (m : (ℓ : Loc Cert.DownfKernel.nD Cert.DownfKernel.τ Cert.DownfKernel.sig) → Buf (Elt Bits) ℓ) (g : Dev Cert.DownfKernel.nD → PrngReg), Pre_DownfKernel m →
    θ_run (Cert.DownfKernel.defs (F := Bits)) (onTc (τ := Cert.DownfKernel.τ) (Cert.DownfKernel.main (F := Bits))) ⟨m, fun _ => 0, g⟩ (fun r => (∀ c : Dev Cert.DownfKernel.nD,
      r.2.mem ((c.tc : Thread Cert.DownfKernel.nD Cert.DownfKernel.τ).loc Cert.DownfKernel.main_arg0) = m ((c.tc : Thread Cert.DownfKernel.nD Cert.DownfKernel.τ).loc Cert.DownfKernel.main_arg0)
      ∧ r.2.mem ((c.tc : Thread Cert.DownfKernel.nD Cert.DownfKernel.τ).loc Cert.DownfKernel.main_arg1) = m ((c.tc : Thread Cert.DownfKernel.nD Cert.DownfKernel.τ).loc Cert.DownfKernel.main_arg1)
      ∧ r.2.mem ((c.tc : Thread Cert.DownfKernel.nD Cert.DownfKernel.τ).loc Cert.DownfKernel.main_arg2) = m ((c.tc : Thread Cert.DownfKernel.nD Cert.DownfKernel.τ).loc Cert.DownfKernel.main_arg2)
      ∧ r.2.mem ((c.tc : Thread Cert.DownfKernel.nD Cert.DownfKernel.τ).loc Cert.DownfKernel.main_arg3) = m ((c.tc : Thread Cert.DownfKernel.nD Cert.DownfKernel.τ).loc Cert.DownfKernel.main_arg3)
      ∧ r.2.mem ((c.tc : Thread Cert.DownfKernel.nD Cert.DownfKernel.τ).loc Cert.DownfKernel.main_arg4) = m ((c.tc : Thread Cert.DownfKernel.nD Cert.DownfKernel.τ).loc Cert.DownfKernel.main_arg4))
      ∧ r.2.sem = fun _ => 0)

def quiescent_DownfKernelIdeal [hDownfKernelIdeal : Cert.DownfKernelIdeal.Facts] : Prop :=
  ∀ (m : (ℓ : Loc Cert.DownfKernelIdeal.nD Cert.DownfKernelIdeal.τ Cert.DownfKernelIdeal.sig) → Buf (Elt Ideal) ℓ) (g : Dev Cert.DownfKernelIdeal.nD → PrngReg), Pre_DownfKernelIdeal m →
    θ_run (Cert.DownfKernelIdeal.defs (F := Ideal)) (onTc (τ := Cert.DownfKernelIdeal.τ) (Cert.DownfKernelIdeal.main (F := Ideal))) ⟨m, fun _ => 0, g⟩ (fun r => (∀ c : Dev Cert.DownfKernelIdeal.nD,
      r.2.mem ((c.tc : Thread Cert.DownfKernelIdeal.nD Cert.DownfKernelIdeal.τ).loc Cert.DownfKernelIdeal.main_arg0) = m ((c.tc : Thread Cert.DownfKernelIdeal.nD Cert.DownfKernelIdeal.τ).loc Cert.DownfKernelIdeal.main_arg0)
      ∧ r.2.mem ((c.tc : Thread Cert.DownfKernelIdeal.nD Cert.DownfKernelIdeal.τ).loc Cert.DownfKernelIdeal.main_arg1) = m ((c.tc : Thread Cert.DownfKernelIdeal.nD Cert.DownfKernelIdeal.τ).loc Cert.DownfKernelIdeal.main_arg1)
      ∧ r.2.mem ((c.tc : Thread Cert.DownfKernelIdeal.nD Cert.DownfKernelIdeal.τ).loc Cert.DownfKernelIdeal.main_arg2) = m ((c.tc : Thread Cert.DownfKernelIdeal.nD Cert.DownfKernelIdeal.τ).loc Cert.DownfKernelIdeal.main_arg2)
      ∧ r.2.mem ((c.tc : Thread Cert.DownfKernelIdeal.nD Cert.DownfKernelIdeal.τ).loc Cert.DownfKernelIdeal.main_arg3) = m ((c.tc : Thread Cert.DownfKernelIdeal.nD Cert.DownfKernelIdeal.τ).loc Cert.DownfKernelIdeal.main_arg3)
      ∧ r.2.mem ((c.tc : Thread Cert.DownfKernelIdeal.nD Cert.DownfKernelIdeal.τ).loc Cert.DownfKernelIdeal.main_arg4) = m ((c.tc : Thread Cert.DownfKernelIdeal.nD Cert.DownfKernelIdeal.τ).loc Cert.DownfKernelIdeal.main_arg4))
      ∧ r.2.sem = fun _ => 0)

def quiescent_DownfReferenceIdeal [hDownfReferenceIdeal : Cert.DownfReferenceIdeal.Facts] : Prop :=
  ∀ (m : (ℓ : Loc Cert.DownfReferenceIdeal.nD Cert.DownfReferenceIdeal.τ Cert.DownfReferenceIdeal.sig) → Buf (Elt Ideal) ℓ) (g : Dev Cert.DownfReferenceIdeal.nD → PrngReg), Pre_DownfReferenceIdeal m →
    θ_run (Cert.DownfReferenceIdeal.defs (F := Ideal)) (onTc (τ := Cert.DownfReferenceIdeal.τ) (Cert.DownfReferenceIdeal.main (F := Ideal))) ⟨m, fun _ => 0, g⟩ (fun r => (∀ c : Dev Cert.DownfReferenceIdeal.nD,
      r.2.mem ((c.tc : Thread Cert.DownfReferenceIdeal.nD Cert.DownfReferenceIdeal.τ).loc Cert.DownfReferenceIdeal.main_arg0) = m ((c.tc : Thread Cert.DownfReferenceIdeal.nD Cert.DownfReferenceIdeal.τ).loc Cert.DownfReferenceIdeal.main_arg0)
      ∧ r.2.mem ((c.tc : Thread Cert.DownfReferenceIdeal.nD Cert.DownfReferenceIdeal.τ).loc Cert.DownfReferenceIdeal.main_arg1) = m ((c.tc : Thread Cert.DownfReferenceIdeal.nD Cert.DownfReferenceIdeal.τ).loc Cert.DownfReferenceIdeal.main_arg1)
      ∧ r.2.mem ((c.tc : Thread Cert.DownfReferenceIdeal.nD Cert.DownfReferenceIdeal.τ).loc Cert.DownfReferenceIdeal.main_arg2) = m ((c.tc : Thread Cert.DownfReferenceIdeal.nD Cert.DownfReferenceIdeal.τ).loc Cert.DownfReferenceIdeal.main_arg2)
      ∧ r.2.mem ((c.tc : Thread Cert.DownfReferenceIdeal.nD Cert.DownfReferenceIdeal.τ).loc Cert.DownfReferenceIdeal.main_arg3) = m ((c.tc : Thread Cert.DownfReferenceIdeal.nD Cert.DownfReferenceIdeal.τ).loc Cert.DownfReferenceIdeal.main_arg3)
      ∧ r.2.mem ((c.tc : Thread Cert.DownfReferenceIdeal.nD Cert.DownfReferenceIdeal.τ).loc Cert.DownfReferenceIdeal.main_arg4) = m ((c.tc : Thread Cert.DownfReferenceIdeal.nD Cert.DownfReferenceIdeal.τ).loc Cert.DownfReferenceIdeal.main_arg4))
      ∧ r.2.sem = fun _ => 0)

def quiescent_GudxKernel [hGudxKernel : Cert.GudxKernel.Facts] : Prop :=
  ∀ (m : (ℓ : Loc Cert.GudxKernel.nD Cert.GudxKernel.τ Cert.GudxKernel.sig) → Buf (Elt Bits) ℓ) (g : Dev Cert.GudxKernel.nD → PrngReg), Pre_GudxKernel m →
    θ_run (Cert.GudxKernel.defs (F := Bits)) (onTc (τ := Cert.GudxKernel.τ) (Cert.GudxKernel.main (F := Bits))) ⟨m, fun _ => 0, g⟩ (fun r => (∀ c : Dev Cert.GudxKernel.nD,
      r.2.mem ((c.tc : Thread Cert.GudxKernel.nD Cert.GudxKernel.τ).loc Cert.GudxKernel.main_arg0) = m ((c.tc : Thread Cert.GudxKernel.nD Cert.GudxKernel.τ).loc Cert.GudxKernel.main_arg0)
      ∧ r.2.mem ((c.tc : Thread Cert.GudxKernel.nD Cert.GudxKernel.τ).loc Cert.GudxKernel.main_arg1) = m ((c.tc : Thread Cert.GudxKernel.nD Cert.GudxKernel.τ).loc Cert.GudxKernel.main_arg1)
      ∧ r.2.mem ((c.tc : Thread Cert.GudxKernel.nD Cert.GudxKernel.τ).loc Cert.GudxKernel.main_arg2) = m ((c.tc : Thread Cert.GudxKernel.nD Cert.GudxKernel.τ).loc Cert.GudxKernel.main_arg2)
      ∧ r.2.mem ((c.tc : Thread Cert.GudxKernel.nD Cert.GudxKernel.τ).loc Cert.GudxKernel.main_arg3) = m ((c.tc : Thread Cert.GudxKernel.nD Cert.GudxKernel.τ).loc Cert.GudxKernel.main_arg3)
      ∧ r.2.mem ((c.tc : Thread Cert.GudxKernel.nD Cert.GudxKernel.τ).loc Cert.GudxKernel.main_arg4) = m ((c.tc : Thread Cert.GudxKernel.nD Cert.GudxKernel.τ).loc Cert.GudxKernel.main_arg4)
      ∧ r.2.mem ((c.tc : Thread Cert.GudxKernel.nD Cert.GudxKernel.τ).loc Cert.GudxKernel.main_arg5) = m ((c.tc : Thread Cert.GudxKernel.nD Cert.GudxKernel.τ).loc Cert.GudxKernel.main_arg5))
      ∧ r.2.sem = fun _ => 0)

def quiescent_GudxKernelIdeal [hGudxKernelIdeal : Cert.GudxKernelIdeal.Facts] : Prop :=
  ∀ (m : (ℓ : Loc Cert.GudxKernelIdeal.nD Cert.GudxKernelIdeal.τ Cert.GudxKernelIdeal.sig) → Buf (Elt Ideal) ℓ) (g : Dev Cert.GudxKernelIdeal.nD → PrngReg), Pre_GudxKernelIdeal m →
    θ_run (Cert.GudxKernelIdeal.defs (F := Ideal)) (onTc (τ := Cert.GudxKernelIdeal.τ) (Cert.GudxKernelIdeal.main (F := Ideal))) ⟨m, fun _ => 0, g⟩ (fun r => (∀ c : Dev Cert.GudxKernelIdeal.nD,
      r.2.mem ((c.tc : Thread Cert.GudxKernelIdeal.nD Cert.GudxKernelIdeal.τ).loc Cert.GudxKernelIdeal.main_arg0) = m ((c.tc : Thread Cert.GudxKernelIdeal.nD Cert.GudxKernelIdeal.τ).loc Cert.GudxKernelIdeal.main_arg0)
      ∧ r.2.mem ((c.tc : Thread Cert.GudxKernelIdeal.nD Cert.GudxKernelIdeal.τ).loc Cert.GudxKernelIdeal.main_arg1) = m ((c.tc : Thread Cert.GudxKernelIdeal.nD Cert.GudxKernelIdeal.τ).loc Cert.GudxKernelIdeal.main_arg1)
      ∧ r.2.mem ((c.tc : Thread Cert.GudxKernelIdeal.nD Cert.GudxKernelIdeal.τ).loc Cert.GudxKernelIdeal.main_arg2) = m ((c.tc : Thread Cert.GudxKernelIdeal.nD Cert.GudxKernelIdeal.τ).loc Cert.GudxKernelIdeal.main_arg2)
      ∧ r.2.mem ((c.tc : Thread Cert.GudxKernelIdeal.nD Cert.GudxKernelIdeal.τ).loc Cert.GudxKernelIdeal.main_arg3) = m ((c.tc : Thread Cert.GudxKernelIdeal.nD Cert.GudxKernelIdeal.τ).loc Cert.GudxKernelIdeal.main_arg3)
      ∧ r.2.mem ((c.tc : Thread Cert.GudxKernelIdeal.nD Cert.GudxKernelIdeal.τ).loc Cert.GudxKernelIdeal.main_arg4) = m ((c.tc : Thread Cert.GudxKernelIdeal.nD Cert.GudxKernelIdeal.τ).loc Cert.GudxKernelIdeal.main_arg4)
      ∧ r.2.mem ((c.tc : Thread Cert.GudxKernelIdeal.nD Cert.GudxKernelIdeal.τ).loc Cert.GudxKernelIdeal.main_arg5) = m ((c.tc : Thread Cert.GudxKernelIdeal.nD Cert.GudxKernelIdeal.τ).loc Cert.GudxKernelIdeal.main_arg5))
      ∧ r.2.sem = fun _ => 0)

def quiescent_GudxReferenceIdeal [hGudxReferenceIdeal : Cert.GudxReferenceIdeal.Facts] : Prop :=
  ∀ (m : (ℓ : Loc Cert.GudxReferenceIdeal.nD Cert.GudxReferenceIdeal.τ Cert.GudxReferenceIdeal.sig) → Buf (Elt Ideal) ℓ) (g : Dev Cert.GudxReferenceIdeal.nD → PrngReg), Pre_GudxReferenceIdeal m →
    θ_run (Cert.GudxReferenceIdeal.defs (F := Ideal)) (onTc (τ := Cert.GudxReferenceIdeal.τ) (Cert.GudxReferenceIdeal.main (F := Ideal))) ⟨m, fun _ => 0, g⟩ (fun r => (∀ c : Dev Cert.GudxReferenceIdeal.nD,
      r.2.mem ((c.tc : Thread Cert.GudxReferenceIdeal.nD Cert.GudxReferenceIdeal.τ).loc Cert.GudxReferenceIdeal.main_arg0) = m ((c.tc : Thread Cert.GudxReferenceIdeal.nD Cert.GudxReferenceIdeal.τ).loc Cert.GudxReferenceIdeal.main_arg0)
      ∧ r.2.mem ((c.tc : Thread Cert.GudxReferenceIdeal.nD Cert.GudxReferenceIdeal.τ).loc Cert.GudxReferenceIdeal.main_arg1) = m ((c.tc : Thread Cert.GudxReferenceIdeal.nD Cert.GudxReferenceIdeal.τ).loc Cert.GudxReferenceIdeal.main_arg1)
      ∧ r.2.mem ((c.tc : Thread Cert.GudxReferenceIdeal.nD Cert.GudxReferenceIdeal.τ).loc Cert.GudxReferenceIdeal.main_arg2) = m ((c.tc : Thread Cert.GudxReferenceIdeal.nD Cert.GudxReferenceIdeal.τ).loc Cert.GudxReferenceIdeal.main_arg2)
      ∧ r.2.mem ((c.tc : Thread Cert.GudxReferenceIdeal.nD Cert.GudxReferenceIdeal.τ).loc Cert.GudxReferenceIdeal.main_arg3) = m ((c.tc : Thread Cert.GudxReferenceIdeal.nD Cert.GudxReferenceIdeal.τ).loc Cert.GudxReferenceIdeal.main_arg3)
      ∧ r.2.mem ((c.tc : Thread Cert.GudxReferenceIdeal.nD Cert.GudxReferenceIdeal.τ).loc Cert.GudxReferenceIdeal.main_arg4) = m ((c.tc : Thread Cert.GudxReferenceIdeal.nD Cert.GudxReferenceIdeal.τ).loc Cert.GudxReferenceIdeal.main_arg4)
      ∧ r.2.mem ((c.tc : Thread Cert.GudxReferenceIdeal.nD Cert.GudxReferenceIdeal.τ).loc Cert.GudxReferenceIdeal.main_arg5) = m ((c.tc : Thread Cert.GudxReferenceIdeal.nD Cert.GudxReferenceIdeal.τ).loc Cert.GudxReferenceIdeal.main_arg5))
      ∧ r.2.sem = fun _ => 0)

def quiescent_GudwKernel [hGudwKernel : Cert.GudwKernel.Facts] : Prop :=
  ∀ (m : (ℓ : Loc Cert.GudwKernel.nD Cert.GudwKernel.τ Cert.GudwKernel.sig) → Buf (Elt Bits) ℓ) (g : Dev Cert.GudwKernel.nD → PrngReg), Pre_GudwKernel m →
    θ_run (Cert.GudwKernel.defs (F := Bits)) (onTc (τ := Cert.GudwKernel.τ) (Cert.GudwKernel.main (F := Bits))) ⟨m, fun _ => 0, g⟩ (fun r => (∀ c : Dev Cert.GudwKernel.nD,
      r.2.mem ((c.tc : Thread Cert.GudwKernel.nD Cert.GudwKernel.τ).loc Cert.GudwKernel.main_arg0) = m ((c.tc : Thread Cert.GudwKernel.nD Cert.GudwKernel.τ).loc Cert.GudwKernel.main_arg0)
      ∧ r.2.mem ((c.tc : Thread Cert.GudwKernel.nD Cert.GudwKernel.τ).loc Cert.GudwKernel.main_arg1) = m ((c.tc : Thread Cert.GudwKernel.nD Cert.GudwKernel.τ).loc Cert.GudwKernel.main_arg1)
      ∧ r.2.mem ((c.tc : Thread Cert.GudwKernel.nD Cert.GudwKernel.τ).loc Cert.GudwKernel.main_arg2) = m ((c.tc : Thread Cert.GudwKernel.nD Cert.GudwKernel.τ).loc Cert.GudwKernel.main_arg2)
      ∧ r.2.mem ((c.tc : Thread Cert.GudwKernel.nD Cert.GudwKernel.τ).loc Cert.GudwKernel.main_arg3) = m ((c.tc : Thread Cert.GudwKernel.nD Cert.GudwKernel.τ).loc Cert.GudwKernel.main_arg3)
      ∧ r.2.mem ((c.tc : Thread Cert.GudwKernel.nD Cert.GudwKernel.τ).loc Cert.GudwKernel.main_arg4) = m ((c.tc : Thread Cert.GudwKernel.nD Cert.GudwKernel.τ).loc Cert.GudwKernel.main_arg4))
      ∧ r.2.sem = fun _ => 0)

def quiescent_GudwKernelIdeal [hGudwKernelIdeal : Cert.GudwKernelIdeal.Facts] : Prop :=
  ∀ (m : (ℓ : Loc Cert.GudwKernelIdeal.nD Cert.GudwKernelIdeal.τ Cert.GudwKernelIdeal.sig) → Buf (Elt Ideal) ℓ) (g : Dev Cert.GudwKernelIdeal.nD → PrngReg), Pre_GudwKernelIdeal m →
    θ_run (Cert.GudwKernelIdeal.defs (F := Ideal)) (onTc (τ := Cert.GudwKernelIdeal.τ) (Cert.GudwKernelIdeal.main (F := Ideal))) ⟨m, fun _ => 0, g⟩ (fun r => (∀ c : Dev Cert.GudwKernelIdeal.nD,
      r.2.mem ((c.tc : Thread Cert.GudwKernelIdeal.nD Cert.GudwKernelIdeal.τ).loc Cert.GudwKernelIdeal.main_arg0) = m ((c.tc : Thread Cert.GudwKernelIdeal.nD Cert.GudwKernelIdeal.τ).loc Cert.GudwKernelIdeal.main_arg0)
      ∧ r.2.mem ((c.tc : Thread Cert.GudwKernelIdeal.nD Cert.GudwKernelIdeal.τ).loc Cert.GudwKernelIdeal.main_arg1) = m ((c.tc : Thread Cert.GudwKernelIdeal.nD Cert.GudwKernelIdeal.τ).loc Cert.GudwKernelIdeal.main_arg1)
      ∧ r.2.mem ((c.tc : Thread Cert.GudwKernelIdeal.nD Cert.GudwKernelIdeal.τ).loc Cert.GudwKernelIdeal.main_arg2) = m ((c.tc : Thread Cert.GudwKernelIdeal.nD Cert.GudwKernelIdeal.τ).loc Cert.GudwKernelIdeal.main_arg2)
      ∧ r.2.mem ((c.tc : Thread Cert.GudwKernelIdeal.nD Cert.GudwKernelIdeal.τ).loc Cert.GudwKernelIdeal.main_arg3) = m ((c.tc : Thread Cert.GudwKernelIdeal.nD Cert.GudwKernelIdeal.τ).loc Cert.GudwKernelIdeal.main_arg3)
      ∧ r.2.mem ((c.tc : Thread Cert.GudwKernelIdeal.nD Cert.GudwKernelIdeal.τ).loc Cert.GudwKernelIdeal.main_arg4) = m ((c.tc : Thread Cert.GudwKernelIdeal.nD Cert.GudwKernelIdeal.τ).loc Cert.GudwKernelIdeal.main_arg4))
      ∧ r.2.sem = fun _ => 0)

def quiescent_GudwReferenceIdeal [hGudwReferenceIdeal : Cert.GudwReferenceIdeal.Facts] : Prop :=
  ∀ (m : (ℓ : Loc Cert.GudwReferenceIdeal.nD Cert.GudwReferenceIdeal.τ Cert.GudwReferenceIdeal.sig) → Buf (Elt Ideal) ℓ) (g : Dev Cert.GudwReferenceIdeal.nD → PrngReg), Pre_GudwReferenceIdeal m →
    θ_run (Cert.GudwReferenceIdeal.defs (F := Ideal)) (onTc (τ := Cert.GudwReferenceIdeal.τ) (Cert.GudwReferenceIdeal.main (F := Ideal))) ⟨m, fun _ => 0, g⟩ (fun r => (∀ c : Dev Cert.GudwReferenceIdeal.nD,
      r.2.mem ((c.tc : Thread Cert.GudwReferenceIdeal.nD Cert.GudwReferenceIdeal.τ).loc Cert.GudwReferenceIdeal.main_arg0) = m ((c.tc : Thread Cert.GudwReferenceIdeal.nD Cert.GudwReferenceIdeal.τ).loc Cert.GudwReferenceIdeal.main_arg0)
      ∧ r.2.mem ((c.tc : Thread Cert.GudwReferenceIdeal.nD Cert.GudwReferenceIdeal.τ).loc Cert.GudwReferenceIdeal.main_arg1) = m ((c.tc : Thread Cert.GudwReferenceIdeal.nD Cert.GudwReferenceIdeal.τ).loc Cert.GudwReferenceIdeal.main_arg1)
      ∧ r.2.mem ((c.tc : Thread Cert.GudwReferenceIdeal.nD Cert.GudwReferenceIdeal.τ).loc Cert.GudwReferenceIdeal.main_arg2) = m ((c.tc : Thread Cert.GudwReferenceIdeal.nD Cert.GudwReferenceIdeal.τ).loc Cert.GudwReferenceIdeal.main_arg2)
      ∧ r.2.mem ((c.tc : Thread Cert.GudwReferenceIdeal.nD Cert.GudwReferenceIdeal.τ).loc Cert.GudwReferenceIdeal.main_arg3) = m ((c.tc : Thread Cert.GudwReferenceIdeal.nD Cert.GudwReferenceIdeal.τ).loc Cert.GudwReferenceIdeal.main_arg3)
      ∧ r.2.mem ((c.tc : Thread Cert.GudwReferenceIdeal.nD Cert.GudwReferenceIdeal.τ).loc Cert.GudwReferenceIdeal.main_arg4) = m ((c.tc : Thread Cert.GudwReferenceIdeal.nD Cert.GudwReferenceIdeal.τ).loc Cert.GudwReferenceIdeal.main_arg4))
      ∧ r.2.sem = fun _ => 0)

def quiescent_OutdxKernel [hOutdxKernel : Cert.OutdxKernel.Facts] : Prop :=
  ∀ (m : (ℓ : Loc Cert.OutdxKernel.nD Cert.OutdxKernel.τ Cert.OutdxKernel.sig) → Buf (Elt Bits) ℓ) (g : Dev Cert.OutdxKernel.nD → PrngReg), Pre_OutdxKernel m →
    θ_run (Cert.OutdxKernel.defs (F := Bits)) (onTc (τ := Cert.OutdxKernel.τ) (Cert.OutdxKernel.main (F := Bits))) ⟨m, fun _ => 0, g⟩ (fun r => (∀ c : Dev Cert.OutdxKernel.nD,
      r.2.mem ((c.tc : Thread Cert.OutdxKernel.nD Cert.OutdxKernel.τ).loc Cert.OutdxKernel.main_arg0) = m ((c.tc : Thread Cert.OutdxKernel.nD Cert.OutdxKernel.τ).loc Cert.OutdxKernel.main_arg0)
      ∧ r.2.mem ((c.tc : Thread Cert.OutdxKernel.nD Cert.OutdxKernel.τ).loc Cert.OutdxKernel.main_arg1) = m ((c.tc : Thread Cert.OutdxKernel.nD Cert.OutdxKernel.τ).loc Cert.OutdxKernel.main_arg1)
      ∧ r.2.mem ((c.tc : Thread Cert.OutdxKernel.nD Cert.OutdxKernel.τ).loc Cert.OutdxKernel.main_arg2) = m ((c.tc : Thread Cert.OutdxKernel.nD Cert.OutdxKernel.τ).loc Cert.OutdxKernel.main_arg2))
      ∧ r.2.sem = fun _ => 0)

def quiescent_OutdxKernelIdeal [hOutdxKernelIdeal : Cert.OutdxKernelIdeal.Facts] : Prop :=
  ∀ (m : (ℓ : Loc Cert.OutdxKernelIdeal.nD Cert.OutdxKernelIdeal.τ Cert.OutdxKernelIdeal.sig) → Buf (Elt Ideal) ℓ) (g : Dev Cert.OutdxKernelIdeal.nD → PrngReg), Pre_OutdxKernelIdeal m →
    θ_run (Cert.OutdxKernelIdeal.defs (F := Ideal)) (onTc (τ := Cert.OutdxKernelIdeal.τ) (Cert.OutdxKernelIdeal.main (F := Ideal))) ⟨m, fun _ => 0, g⟩ (fun r => (∀ c : Dev Cert.OutdxKernelIdeal.nD,
      r.2.mem ((c.tc : Thread Cert.OutdxKernelIdeal.nD Cert.OutdxKernelIdeal.τ).loc Cert.OutdxKernelIdeal.main_arg0) = m ((c.tc : Thread Cert.OutdxKernelIdeal.nD Cert.OutdxKernelIdeal.τ).loc Cert.OutdxKernelIdeal.main_arg0)
      ∧ r.2.mem ((c.tc : Thread Cert.OutdxKernelIdeal.nD Cert.OutdxKernelIdeal.τ).loc Cert.OutdxKernelIdeal.main_arg1) = m ((c.tc : Thread Cert.OutdxKernelIdeal.nD Cert.OutdxKernelIdeal.τ).loc Cert.OutdxKernelIdeal.main_arg1)
      ∧ r.2.mem ((c.tc : Thread Cert.OutdxKernelIdeal.nD Cert.OutdxKernelIdeal.τ).loc Cert.OutdxKernelIdeal.main_arg2) = m ((c.tc : Thread Cert.OutdxKernelIdeal.nD Cert.OutdxKernelIdeal.τ).loc Cert.OutdxKernelIdeal.main_arg2))
      ∧ r.2.sem = fun _ => 0)

def quiescent_OutdxReferenceIdeal [hOutdxReferenceIdeal : Cert.OutdxReferenceIdeal.Facts] : Prop :=
  ∀ (m : (ℓ : Loc Cert.OutdxReferenceIdeal.nD Cert.OutdxReferenceIdeal.τ Cert.OutdxReferenceIdeal.sig) → Buf (Elt Ideal) ℓ) (g : Dev Cert.OutdxReferenceIdeal.nD → PrngReg), Pre_OutdxReferenceIdeal m →
    θ_run (Cert.OutdxReferenceIdeal.defs (F := Ideal)) (onTc (τ := Cert.OutdxReferenceIdeal.τ) (Cert.OutdxReferenceIdeal.main (F := Ideal))) ⟨m, fun _ => 0, g⟩ (fun r => (∀ c : Dev Cert.OutdxReferenceIdeal.nD,
      r.2.mem ((c.tc : Thread Cert.OutdxReferenceIdeal.nD Cert.OutdxReferenceIdeal.τ).loc Cert.OutdxReferenceIdeal.main_arg0) = m ((c.tc : Thread Cert.OutdxReferenceIdeal.nD Cert.OutdxReferenceIdeal.τ).loc Cert.OutdxReferenceIdeal.main_arg0)
      ∧ r.2.mem ((c.tc : Thread Cert.OutdxReferenceIdeal.nD Cert.OutdxReferenceIdeal.τ).loc Cert.OutdxReferenceIdeal.main_arg1) = m ((c.tc : Thread Cert.OutdxReferenceIdeal.nD Cert.OutdxReferenceIdeal.τ).loc Cert.OutdxReferenceIdeal.main_arg1)
      ∧ r.2.mem ((c.tc : Thread Cert.OutdxReferenceIdeal.nD Cert.OutdxReferenceIdeal.τ).loc Cert.OutdxReferenceIdeal.main_arg2) = m ((c.tc : Thread Cert.OutdxReferenceIdeal.nD Cert.OutdxReferenceIdeal.τ).loc Cert.OutdxReferenceIdeal.main_arg2))
      ∧ r.2.sem = fun _ => 0)

def quiescent_DowndwKernel [hDowndwKernel : Cert.DowndwKernel.Facts] : Prop :=
  ∀ (m : (ℓ : Loc Cert.DowndwKernel.nD Cert.DowndwKernel.τ Cert.DowndwKernel.sig) → Buf (Elt Bits) ℓ) (g : Dev Cert.DowndwKernel.nD → PrngReg), Pre_DowndwKernel m →
    θ_run (Cert.DowndwKernel.defs (F := Bits)) (onTc (τ := Cert.DowndwKernel.τ) (Cert.DowndwKernel.main (F := Bits))) ⟨m, fun _ => 0, g⟩ (fun r => (∀ c : Dev Cert.DowndwKernel.nD,
      r.2.mem ((c.tc : Thread Cert.DowndwKernel.nD Cert.DowndwKernel.τ).loc Cert.DowndwKernel.main_arg0) = m ((c.tc : Thread Cert.DowndwKernel.nD Cert.DowndwKernel.τ).loc Cert.DowndwKernel.main_arg0)
      ∧ r.2.mem ((c.tc : Thread Cert.DowndwKernel.nD Cert.DowndwKernel.τ).loc Cert.DowndwKernel.main_arg1) = m ((c.tc : Thread Cert.DowndwKernel.nD Cert.DowndwKernel.τ).loc Cert.DowndwKernel.main_arg1)
      ∧ r.2.mem ((c.tc : Thread Cert.DowndwKernel.nD Cert.DowndwKernel.τ).loc Cert.DowndwKernel.main_arg2) = m ((c.tc : Thread Cert.DowndwKernel.nD Cert.DowndwKernel.τ).loc Cert.DowndwKernel.main_arg2))
      ∧ r.2.sem = fun _ => 0)

def quiescent_DowndwKernelIdeal [hDowndwKernelIdeal : Cert.DowndwKernelIdeal.Facts] : Prop :=
  ∀ (m : (ℓ : Loc Cert.DowndwKernelIdeal.nD Cert.DowndwKernelIdeal.τ Cert.DowndwKernelIdeal.sig) → Buf (Elt Ideal) ℓ) (g : Dev Cert.DowndwKernelIdeal.nD → PrngReg), Pre_DowndwKernelIdeal m →
    θ_run (Cert.DowndwKernelIdeal.defs (F := Ideal)) (onTc (τ := Cert.DowndwKernelIdeal.τ) (Cert.DowndwKernelIdeal.main (F := Ideal))) ⟨m, fun _ => 0, g⟩ (fun r => (∀ c : Dev Cert.DowndwKernelIdeal.nD,
      r.2.mem ((c.tc : Thread Cert.DowndwKernelIdeal.nD Cert.DowndwKernelIdeal.τ).loc Cert.DowndwKernelIdeal.main_arg0) = m ((c.tc : Thread Cert.DowndwKernelIdeal.nD Cert.DowndwKernelIdeal.τ).loc Cert.DowndwKernelIdeal.main_arg0)
      ∧ r.2.mem ((c.tc : Thread Cert.DowndwKernelIdeal.nD Cert.DowndwKernelIdeal.τ).loc Cert.DowndwKernelIdeal.main_arg1) = m ((c.tc : Thread Cert.DowndwKernelIdeal.nD Cert.DowndwKernelIdeal.τ).loc Cert.DowndwKernelIdeal.main_arg1)
      ∧ r.2.mem ((c.tc : Thread Cert.DowndwKernelIdeal.nD Cert.DowndwKernelIdeal.τ).loc Cert.DowndwKernelIdeal.main_arg2) = m ((c.tc : Thread Cert.DowndwKernelIdeal.nD Cert.DowndwKernelIdeal.τ).loc Cert.DowndwKernelIdeal.main_arg2))
      ∧ r.2.sem = fun _ => 0)

def quiescent_DowndwReferenceIdeal [hDowndwReferenceIdeal : Cert.DowndwReferenceIdeal.Facts] : Prop :=
  ∀ (m : (ℓ : Loc Cert.DowndwReferenceIdeal.nD Cert.DowndwReferenceIdeal.τ Cert.DowndwReferenceIdeal.sig) → Buf (Elt Ideal) ℓ) (g : Dev Cert.DowndwReferenceIdeal.nD → PrngReg), Pre_DowndwReferenceIdeal m →
    θ_run (Cert.DowndwReferenceIdeal.defs (F := Ideal)) (onTc (τ := Cert.DowndwReferenceIdeal.τ) (Cert.DowndwReferenceIdeal.main (F := Ideal))) ⟨m, fun _ => 0, g⟩ (fun r => (∀ c : Dev Cert.DowndwReferenceIdeal.nD,
      r.2.mem ((c.tc : Thread Cert.DowndwReferenceIdeal.nD Cert.DowndwReferenceIdeal.τ).loc Cert.DowndwReferenceIdeal.main_arg0) = m ((c.tc : Thread Cert.DowndwReferenceIdeal.nD Cert.DowndwReferenceIdeal.τ).loc Cert.DowndwReferenceIdeal.main_arg0)
      ∧ r.2.mem ((c.tc : Thread Cert.DowndwReferenceIdeal.nD Cert.DowndwReferenceIdeal.τ).loc Cert.DowndwReferenceIdeal.main_arg1) = m ((c.tc : Thread Cert.DowndwReferenceIdeal.nD Cert.DowndwReferenceIdeal.τ).loc Cert.DowndwReferenceIdeal.main_arg1)
      ∧ r.2.mem ((c.tc : Thread Cert.DowndwReferenceIdeal.nD Cert.DowndwReferenceIdeal.τ).loc Cert.DowndwReferenceIdeal.main_arg2) = m ((c.tc : Thread Cert.DowndwReferenceIdeal.nD Cert.DowndwReferenceIdeal.τ).loc Cert.DowndwReferenceIdeal.main_arg2))
      ∧ r.2.sem = fun _ => 0)

def quiescent_AdamKernel [hAdamKernel : Cert.AdamKernel.Facts] : Prop :=
  ∀ (m : (ℓ : Loc Cert.AdamKernel.nD Cert.AdamKernel.τ Cert.AdamKernel.sig) → Buf (Elt Bits) ℓ) (g : Dev Cert.AdamKernel.nD → PrngReg), Pre_AdamKernel m →
    θ_run (Cert.AdamKernel.defs (F := Bits)) (onTc (τ := Cert.AdamKernel.τ) (Cert.AdamKernel.main (F := Bits))) ⟨m, fun _ => 0, g⟩ (fun r => (∀ c : Dev Cert.AdamKernel.nD,
      r.2.mem ((c.tc : Thread Cert.AdamKernel.nD Cert.AdamKernel.τ).loc Cert.AdamKernel.main_arg0) = m ((c.tc : Thread Cert.AdamKernel.nD Cert.AdamKernel.τ).loc Cert.AdamKernel.main_arg0)
      ∧ r.2.mem ((c.tc : Thread Cert.AdamKernel.nD Cert.AdamKernel.τ).loc Cert.AdamKernel.main_arg1) = m ((c.tc : Thread Cert.AdamKernel.nD Cert.AdamKernel.τ).loc Cert.AdamKernel.main_arg1)
      ∧ r.2.mem ((c.tc : Thread Cert.AdamKernel.nD Cert.AdamKernel.τ).loc Cert.AdamKernel.main_arg2) = m ((c.tc : Thread Cert.AdamKernel.nD Cert.AdamKernel.τ).loc Cert.AdamKernel.main_arg2)
      ∧ r.2.mem ((c.tc : Thread Cert.AdamKernel.nD Cert.AdamKernel.τ).loc Cert.AdamKernel.main_arg3) = m ((c.tc : Thread Cert.AdamKernel.nD Cert.AdamKernel.τ).loc Cert.AdamKernel.main_arg3))
      ∧ r.2.sem = fun _ => 0)

def quiescent_AdamKernelIdeal [hAdamKernelIdeal : Cert.AdamKernelIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg), Pre_AdamKernelIdeal m →
    θ_run (Cert.AdamKernelIdeal.defs (F := Ideal)) (onTc (τ := Cert.AdamKernelIdeal.τ) (Cert.AdamKernelIdeal.main (F := Ideal))) ⟨m, fun _ => 0, g⟩ (fun r => (∀ c : Dev Cert.AdamKernelIdeal.nD,
      r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
      ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
      ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
      ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ r.2.sem = fun _ => 0)

def quiescent_AdamReferenceIdeal [hAdamReferenceIdeal : Cert.AdamReferenceIdeal.Facts] : Prop :=
  ∀ (m : (ℓ : Loc Cert.AdamReferenceIdeal.nD Cert.AdamReferenceIdeal.τ Cert.AdamReferenceIdeal.sig) → Buf (Elt Ideal) ℓ) (g : Dev Cert.AdamReferenceIdeal.nD → PrngReg), Pre_AdamReferenceIdeal m →
    θ_run (Cert.AdamReferenceIdeal.defs (F := Ideal)) (onTc (τ := Cert.AdamReferenceIdeal.τ) (Cert.AdamReferenceIdeal.main (F := Ideal))) ⟨m, fun _ => 0, g⟩ (fun r => (∀ c : Dev Cert.AdamReferenceIdeal.nD,
      r.2.mem ((c.tc : Thread Cert.AdamReferenceIdeal.nD Cert.AdamReferenceIdeal.τ).loc Cert.AdamReferenceIdeal.main_arg0) = m ((c.tc : Thread Cert.AdamReferenceIdeal.nD Cert.AdamReferenceIdeal.τ).loc Cert.AdamReferenceIdeal.main_arg0)
      ∧ r.2.mem ((c.tc : Thread Cert.AdamReferenceIdeal.nD Cert.AdamReferenceIdeal.τ).loc Cert.AdamReferenceIdeal.main_arg1) = m ((c.tc : Thread Cert.AdamReferenceIdeal.nD Cert.AdamReferenceIdeal.τ).loc Cert.AdamReferenceIdeal.main_arg1)
      ∧ r.2.mem ((c.tc : Thread Cert.AdamReferenceIdeal.nD Cert.AdamReferenceIdeal.τ).loc Cert.AdamReferenceIdeal.main_arg2) = m ((c.tc : Thread Cert.AdamReferenceIdeal.nD Cert.AdamReferenceIdeal.τ).loc Cert.AdamReferenceIdeal.main_arg2)
      ∧ r.2.mem ((c.tc : Thread Cert.AdamReferenceIdeal.nD Cert.AdamReferenceIdeal.τ).loc Cert.AdamReferenceIdeal.main_arg3) = m ((c.tc : Thread Cert.AdamReferenceIdeal.nD Cert.AdamReferenceIdeal.τ).loc Cert.AdamReferenceIdeal.main_arg3))
      ∧ r.2.sem = fun _ => 0)

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)
      ∧ m' ((c.tc : Thread Cert.RopeReferenceIdeal.nD Cert.RopeReferenceIdeal.τ).loc Cert.RopeReferenceIdeal.main_arg2) = m ((c.tc : Thread Cert.RopeKernelIdeal.nD Cert.RopeKernelIdeal.τ).loc Cert.RopeKernelIdeal.main_arg2)
      ∧ m' ((c.tc : Thread Cert.RopeReferenceIdeal.nD Cert.RopeReferenceIdeal.τ).loc Cert.RopeReferenceIdeal.main_arg3) = m ((c.tc : Thread Cert.RopeKernelIdeal.nD Cert.RopeKernelIdeal.τ).loc Cert.RopeKernelIdeal.main_arg3)) →
    ∃ (v0 : (c : Dev Cert.RopeKernelIdeal.nD) → Buf (Elt Ideal) ((c.tc : Thread Cert.RopeKernelIdeal.nD Cert.RopeKernelIdeal.τ).loc Cert.RopeKernelIdeal.main_v21_0)) (v1 : (c : Dev Cert.RopeKernelIdeal.nD) → Buf (Elt Ideal) ((c.tc : Thread Cert.RopeKernelIdeal.nD Cert.RopeKernelIdeal.τ).loc Cert.RopeKernelIdeal.main_v21_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v21_0) = v0 c
          ∧ r.2.mem ((c.tc : Thread Cert.RopeKernelIdeal.nD Cert.RopeKernelIdeal.τ).loc Cert.RopeKernelIdeal.main_v21_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1)
          ∧ r.2.mem ((c.tc : Thread Cert.RopeKernelIdeal.nD Cert.RopeKernelIdeal.τ).loc Cert.RopeKernelIdeal.main_arg2) = m ((c.tc : Thread Cert.RopeKernelIdeal.nD Cert.RopeKernelIdeal.τ).loc Cert.RopeKernelIdeal.main_arg2)
          ∧ r.2.mem ((c.tc : Thread Cert.RopeKernelIdeal.nD Cert.RopeKernelIdeal.τ).loc Cert.RopeKernelIdeal.main_arg3) = m ((c.tc : Thread Cert.RopeKernelIdeal.nD Cert.RopeKernelIdeal.τ).loc Cert.RopeKernelIdeal.main_arg3))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v64) = v0 c
          ∧ r.2.mem ((c.tc : Thread Cert.RopeReferenceIdeal.nD Cert.RopeReferenceIdeal.τ).loc Cert.RopeReferenceIdeal.main_v69) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1)
          ∧ r.2.mem ((c.tc : Thread Cert.RopeReferenceIdeal.nD Cert.RopeReferenceIdeal.τ).loc Cert.RopeReferenceIdeal.main_arg2) = m' ((c.tc : Thread Cert.RopeReferenceIdeal.nD Cert.RopeReferenceIdeal.τ).loc Cert.RopeReferenceIdeal.main_arg2)
          ∧ r.2.mem ((c.tc : Thread Cert.RopeReferenceIdeal.nD Cert.RopeReferenceIdeal.τ).loc Cert.RopeReferenceIdeal.main_arg3) = m' ((c.tc : Thread Cert.RopeReferenceIdeal.nD Cert.RopeReferenceIdeal.τ).loc Cert.RopeReferenceIdeal.main_arg3))

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v4_0)) (v1 : (c : Dev Cert.LossKernelIdeal.nD) → Buf (Elt Ideal) ((c.tc : Thread Cert.LossKernelIdeal.nD Cert.LossKernelIdeal.τ).loc Cert.LossKernelIdeal.main_v4_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v4_0) = v0 c
          ∧ r.2.mem ((c.tc : Thread Cert.LossKernelIdeal.nD Cert.LossKernelIdeal.τ).loc Cert.LossKernelIdeal.main_v4_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v18) = v0 c
          ∧ r.2.mem ((c.tc : Thread Cert.LossReferenceIdeal.nD Cert.LossReferenceIdeal.τ).loc Cert.LossReferenceIdeal.main_v19) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_ConvKernel_ConvKernelIdeal : Prop :=
  True

def algebraic_ConvKernelIdeal_ConvReferenceIdeal_pre_finite_conv [hConvKernelIdeal : Cert.ConvKernelIdeal.Facts] [hConvReferenceIdeal : Cert.ConvReferenceIdeal.Facts] [hPre_finite_conv : Cert.Pre_finite_conv.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvReferenceIdeal.nD Cert.ConvReferenceIdeal.τ Cert.ConvReferenceIdeal.sig) → Buf (Elt Ideal) ℓ) (g' : Dev Cert.ConvReferenceIdeal.nD → PrngReg), Pre_ConvKernelIdeal_finite_conv m →
    (∀ c : Dev Cert.ConvKernelIdeal.nD,
      m' ((c.tc : Thread Cert.ConvReferenceIdeal.nD Cert.ConvReferenceIdeal.τ).loc Cert.ConvReferenceIdeal.main_arg0) = m ((c.tc : Thread Cert.ConvKernelIdeal.nD Cert.ConvKernelIdeal.τ).loc Cert.ConvKernelIdeal.main_arg0)
      ∧ m' ((c.tc : Thread Cert.ConvReferenceIdeal.nD Cert.ConvReferenceIdeal.τ).loc Cert.ConvReferenceIdeal.main_arg1) = m ((c.tc : Thread Cert.ConvKernelIdeal.nD Cert.ConvKernelIdeal.τ).loc Cert.ConvKernelIdeal.main_arg1)
      ∧ m' ((c.tc : Thread Cert.ConvReferenceIdeal.nD Cert.ConvReferenceIdeal.τ).loc Cert.ConvReferenceIdeal.main_arg2) = m ((c.tc : Thread Cert.ConvKernelIdeal.nD Cert.ConvKernelIdeal.τ).loc Cert.ConvKernelIdeal.main_arg2)
      ∧ m' ((c.tc : Thread Cert.ConvReferenceIdeal.nD Cert.ConvReferenceIdeal.τ).loc Cert.ConvReferenceIdeal.main_arg3) = m ((c.tc : Thread Cert.ConvKernelIdeal.nD Cert.ConvKernelIdeal.τ).loc Cert.ConvKernelIdeal.main_arg3)) →
    ∃ (v0 : (c : Dev Cert.ConvKernelIdeal.nD) → Buf (Elt Ideal) ((c.tc : Thread Cert.ConvKernelIdeal.nD Cert.ConvKernelIdeal.τ).loc Cert.ConvKernelIdeal.main_v5_0)) (v1 : (c : Dev Cert.ConvKernelIdeal.nD) → Buf (Elt Ideal) ((c.tc : Thread Cert.ConvKernelIdeal.nD Cert.ConvKernelIdeal.τ).loc Cert.ConvKernelIdeal.main_v5_1)) (v2 : (c : Dev Cert.ConvKernelIdeal.nD) → Buf (Elt Ideal) ((c.tc : Thread Cert.ConvKernelIdeal.nD Cert.ConvKernelIdeal.τ).loc Cert.ConvKernelIdeal.main_v5_2)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v5_0) = v0 c
          ∧ r.2.mem ((c.tc : Thread Cert.ConvKernelIdeal.nD Cert.ConvKernelIdeal.τ).loc Cert.ConvKernelIdeal.main_v5_1) = v1 c
          ∧ r.2.mem ((c.tc : Thread Cert.ConvKernelIdeal.nD Cert.ConvKernelIdeal.τ).loc Cert.ConvKernelIdeal.main_v5_2) = v2 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1)
          ∧ r.2.mem ((c.tc : Thread Cert.ConvKernelIdeal.nD Cert.ConvKernelIdeal.τ).loc Cert.ConvKernelIdeal.main_arg2) = m ((c.tc : Thread Cert.ConvKernelIdeal.nD Cert.ConvKernelIdeal.τ).loc Cert.ConvKernelIdeal.main_arg2)
          ∧ r.2.mem ((c.tc : Thread Cert.ConvKernelIdeal.nD Cert.ConvKernelIdeal.τ).loc Cert.ConvKernelIdeal.main_arg3) = m ((c.tc : Thread Cert.ConvKernelIdeal.nD Cert.ConvKernelIdeal.τ).loc Cert.ConvKernelIdeal.main_arg3))
      ∧ θ_run (Cert.ConvReferenceIdeal.defs (F := Ideal)) (onTc (τ := Cert.ConvReferenceIdeal.τ) (Cert.ConvReferenceIdeal.main (F := Ideal))) ⟨m', fun _ => 0, g'⟩ (fun r => ∀ c : Dev Cert.ConvReferenceIdeal.nD,
          r.2.mem ((c.tc : Thread Cert.ConvReferenceIdeal.nD Cert.ConvReferenceIdeal.τ).loc Cert.ConvReferenceIdeal.main_v85) = v0 c
          ∧ r.2.mem ((c.tc : Thread Cert.ConvReferenceIdeal.nD Cert.ConvReferenceIdeal.τ).loc Cert.ConvReferenceIdeal.main_v79) = v1 c
          ∧ r.2.mem ((c.tc : Thread Cert.ConvReferenceIdeal.nD Cert.ConvReferenceIdeal.τ).loc Cert.ConvReferenceIdeal.main_v86) = v2 c
          ∧ r.2.mem ((c.tc : Thread Cert.ConvReferenceIdeal.nD Cert.ConvReferenceIdeal.τ).loc Cert.ConvReferenceIdeal.main_arg0) = m' ((c.tc : Thread Cert.ConvReferenceIdeal.nD Cert.ConvReferenceIdeal.τ).loc Cert.ConvReferenceIdeal.main_arg0)
          ∧ r.2.mem ((c.tc : Thread Cert.ConvReferenceIdeal.nD Cert.ConvReferenceIdeal.τ).loc Cert.ConvReferenceIdeal.main_arg1) = m' ((c.tc : Thread Cert.ConvReferenceIdeal.nD Cert.ConvReferenceIdeal.τ).loc Cert.ConvReferenceIdeal.main_arg1)
          ∧ r.2.mem ((c.tc : Thread Cert.ConvReferenceIdeal.nD Cert.ConvReferenceIdeal.τ).loc Cert.ConvReferenceIdeal.main_arg2) = m' ((c.tc : Thread Cert.ConvReferenceIdeal.nD Cert.ConvReferenceIdeal.τ).loc Cert.ConvReferenceIdeal.main_arg2)
          ∧ r.2.mem ((c.tc : Thread Cert.ConvReferenceIdeal.nD Cert.ConvReferenceIdeal.τ).loc Cert.ConvReferenceIdeal.main_arg3) = m' ((c.tc : Thread Cert.ConvReferenceIdeal.nD Cert.ConvReferenceIdeal.τ).loc Cert.ConvReferenceIdeal.main_arg3))

def preserves_DtKernel_DtKernelIdeal : Prop :=
  True

def algebraic_DtKernelIdeal_DtReferenceIdeal [hDtKernelIdeal : Cert.DtKernelIdeal.Facts] [hDtReferenceIdeal : Cert.DtReferenceIdeal.Facts] : Prop :=
  ∀ (m : (ℓ : Loc Cert.DtKernelIdeal.nD Cert.DtKernelIdeal.τ Cert.DtKernelIdeal.sig) → Buf (Elt Ideal) ℓ) (g : Dev Cert.DtKernelIdeal.nD → PrngReg)
    (m' : (ℓ : Loc Cert.DtReferenceIdeal.nD Cert.DtReferenceIdeal.τ Cert.DtReferenceIdeal.sig) → Buf (Elt Ideal) ℓ) (g' : Dev Cert.DtReferenceIdeal.nD → PrngReg), Pre_DtKernelIdeal m →
    (∀ c : Dev Cert.DtKernelIdeal.nD,
      m' ((c.tc : Thread Cert.DtReferenceIdeal.nD Cert.DtReferenceIdeal.τ).loc Cert.DtReferenceIdeal.main_arg0) = m ((c.tc : Thread Cert.DtKernelIdeal.nD Cert.DtKernelIdeal.τ).loc Cert.DtKernelIdeal.main_arg0)
      ∧ m' ((c.tc : Thread Cert.DtReferenceIdeal.nD Cert.DtReferenceIdeal.τ).loc Cert.DtReferenceIdeal.main_arg1) = m ((c.tc : Thread Cert.DtKernelIdeal.nD Cert.DtKernelIdeal.τ).loc Cert.DtKernelIdeal.main_arg1)
      ∧ m' ((c.tc : Thread Cert.DtReferenceIdeal.nD Cert.DtReferenceIdeal.τ).loc Cert.DtReferenceIdeal.main_arg2) = m ((c.tc : Thread Cert.DtKernelIdeal.nD Cert.DtKernelIdeal.τ).loc Cert.DtKernelIdeal.main_arg2)
      ∧ m' ((c.tc : Thread Cert.DtReferenceIdeal.nD Cert.DtReferenceIdeal.τ).loc Cert.DtReferenceIdeal.main_arg3) = m ((c.tc : Thread Cert.DtKernelIdeal.nD Cert.DtKernelIdeal.τ).loc Cert.DtKernelIdeal.main_arg3)) →
    ∃ (v0 : (c : Dev Cert.DtKernelIdeal.nD) → Buf (Elt Ideal) ((c.tc : Thread Cert.DtKernelIdeal.nD Cert.DtKernelIdeal.τ).loc Cert.DtKernelIdeal.main_v9_0)) (v1 : (c : Dev Cert.DtKernelIdeal.nD) → Buf (Elt Ideal) ((c.tc : Thread Cert.DtKernelIdeal.nD Cert.DtKernelIdeal.τ).loc Cert.DtKernelIdeal.main_v9_1)),
      θ_run (Cert.DtKernelIdeal.defs (F := Ideal)) (onTc (τ := Cert.DtKernelIdeal.τ) (Cert.DtKernelIdeal.main (F := Ideal))) ⟨m, fun _ => 0, g⟩ (fun r => ∀ c : Dev Cert.DtKernelIdeal.nD,
          r.2.mem ((c.tc : Thread Cert.DtKernelIdeal.nD Cert.DtKernelIdeal.τ).loc Cert.DtKernelIdeal.main_v9_0) = v0 c
          ∧ r.2.mem ((c.tc : Thread Cert.DtKernelIdeal.nD Cert.DtKernelIdeal.τ).loc Cert.DtKernelIdeal.main_v9_1) = v1 c
          ∧ r.2.mem ((c.tc : Thread Cert.DtKernelIdeal.nD Cert.DtKernelIdeal.τ).loc Cert.DtKernelIdeal.main_arg0) = m ((c.tc : Thread Cert.DtKernelIdeal.nD Cert.DtKernelIdeal.τ).loc Cert.DtKernelIdeal.main_arg0)
          ∧ r.2.mem ((c.tc : Thread Cert.DtKernelIdeal.nD Cert.DtKernelIdeal.τ).loc Cert.DtKernelIdeal.main_arg1) = m ((c.tc : Thread Cert.DtKernelIdeal.nD Cert.DtKernelIdeal.τ).loc Cert.DtKernelIdeal.main_arg1)
          ∧ r.2.mem ((c.tc : Thread Cert.DtKernelIdeal.nD Cert.DtKernelIdeal.τ).loc Cert.DtKernelIdeal.main_arg2) = m ((c.tc : Thread Cert.DtKernelIdeal.nD Cert.DtKernelIdeal.τ).loc Cert.DtKernelIdeal.main_arg2)
          ∧ r.2.mem ((c.tc : Thread Cert.DtKernelIdeal.nD Cert.DtKernelIdeal.τ).loc Cert.DtKernelIdeal.main_arg3) = m ((c.tc : Thread Cert.DtKernelIdeal.nD Cert.DtKernelIdeal.τ).loc Cert.DtKernelIdeal.main_arg3))
      ∧ θ_run (Cert.DtReferenceIdeal.defs (F := Ideal)) (onTc (τ := Cert.DtReferenceIdeal.τ) (Cert.DtReferenceIdeal.main (F := Ideal))) ⟨m', fun _ => 0, g'⟩ (fun r => ∀ c : Dev Cert.DtReferenceIdeal.nD,
          r.2.mem ((c.tc : Thread Cert.DtReferenceIdeal.nD Cert.DtReferenceIdeal.τ).loc Cert.DtReferenceIdeal.main_v13) = v0 c
          ∧ r.2.mem ((c.tc : Thread Cert.DtReferenceIdeal.nD Cert.DtReferenceIdeal.τ).loc Cert.DtReferenceIdeal.main_v15) = v1 c
          ∧ r.2.mem ((c.tc : Thread Cert.DtReferenceIdeal.nD Cert.DtReferenceIdeal.τ).loc Cert.DtReferenceIdeal.main_arg0) = m' ((c.tc : Thread Cert.DtReferenceIdeal.nD Cert.DtReferenceIdeal.τ).loc Cert.DtReferenceIdeal.main_arg0)
          ∧ r.2.mem ((c.tc : Thread Cert.DtReferenceIdeal.nD Cert.DtReferenceIdeal.τ).loc Cert.DtReferenceIdeal.main_arg1) = m' ((c.tc : Thread Cert.DtReferenceIdeal.nD Cert.DtReferenceIdeal.τ).loc Cert.DtReferenceIdeal.main_arg1)
          ∧ r.2.mem ((c.tc : Thread Cert.DtReferenceIdeal.nD Cert.DtReferenceIdeal.τ).loc Cert.DtReferenceIdeal.main_arg2) = m' ((c.tc : Thread Cert.DtReferenceIdeal.nD Cert.DtReferenceIdeal.τ).loc Cert.DtReferenceIdeal.main_arg2)
          ∧ r.2.mem ((c.tc : Thread Cert.DtReferenceIdeal.nD Cert.DtReferenceIdeal.τ).loc Cert.DtReferenceIdeal.main_arg3) = m' ((c.tc : Thread Cert.DtReferenceIdeal.nD Cert.DtReferenceIdeal.τ).loc Cert.DtReferenceIdeal.main_arg3))

def preserves_GateKernel_GateKernelIdeal : Prop :=
  True

def algebraic_GateKernelIdeal_GateReferenceIdeal_pre_finite_gate [hGateKernelIdeal : Cert.GateKernelIdeal.Facts] [hGateReferenceIdeal : Cert.GateReferenceIdeal.Facts] [hPre_finite_gate : Cert.Pre_finite_gate.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal_finite_gate m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v9_0)) (v1 : (c : Dev Cert.GateKernelIdeal.nD) → Buf (Elt Ideal) ((c.tc : Thread Cert.GateKernelIdeal.nD Cert.GateKernelIdeal.τ).loc Cert.GateKernelIdeal.main_v9_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v9_0) = v0 c
          ∧ r.2.mem ((c.tc : Thread Cert.GateKernelIdeal.nD Cert.GateKernelIdeal.τ).loc Cert.GateKernelIdeal.main_v9_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v15) = v0 c
          ∧ r.2.mem ((c.tc : Thread Cert.GateReferenceIdeal.nD Cert.GateReferenceIdeal.τ).loc Cert.GateReferenceIdeal.main_v17) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_FfnKernel_FfnKernelIdeal : Prop :=
  True

def algebraic_FfnKernelIdeal_FfnReferenceIdeal_pre_finite_ffn [hFfnKernelIdeal : Cert.FfnKernelIdeal.Facts] [hFfnReferenceIdeal : Cert.FfnReferenceIdeal.Facts] [hPre_finite_ffn : Cert.Pre_finite_ffn.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite_ffn m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v16_0)) (v1 : (c : Dev Cert.FfnKernelIdeal.nD) → Buf (Elt Ideal) ((c.tc : Thread Cert.FfnKernelIdeal.nD Cert.FfnKernelIdeal.τ).loc Cert.FfnKernelIdeal.main_v16_1)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v16_0) = v0 c
          ∧ r.2.mem ((c.tc : Thread Cert.FfnKernelIdeal.nD Cert.FfnKernelIdeal.τ).loc Cert.FfnKernelIdeal.main_v16_1) = v1 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v12) = v0 c
          ∧ r.2.mem ((c.tc : Thread Cert.FfnReferenceIdeal.nD Cert.FfnReferenceIdeal.τ).loc Cert.FfnReferenceIdeal.main_v18) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_LnKernel_LnKernelIdeal : Prop :=
  True

def algebraic_LnKernelIdeal_LnReferenceIdeal_pre_finite_ln [hLnKernelIdeal : Cert.LnKernelIdeal.Facts] [hLnReferenceIdeal : Cert.LnReferenceIdeal.Facts] [hPre_finite_ln : Cert.Pre_finite_ln.Facts] : Prop :=
  ∀ (m : (ℓ : Loc Cert.LnKernelIdeal.nD Cert.LnKernelIdeal.τ Cert.LnKernelIdeal.sig) → Buf (Elt Ideal) ℓ) (g : Dev Cert.LnKernelIdeal.nD → PrngReg)
    (m' : (ℓ : Loc Cert.LnReferenceIdeal.nD Cert.LnReferenceIdeal.τ Cert.LnReferenceIdeal.sig) → Buf (Elt Ideal) ℓ) (g' : Dev Cert.LnReferenceIdeal.nD → PrngReg), Pre_LnKernelIdeal_finite_ln m →
    (∀ c : Dev Cert.LnKernelIdeal.nD,
      m' ((c.tc : Thread Cert.LnReferenceIdeal.nD Cert.LnReferenceIdeal.τ).loc Cert.LnReferenceIdeal.main_arg0) = m ((c.tc : Thread Cert.LnKernelIdeal.nD Cert.LnKernelIdeal.τ).loc Cert.LnKernelIdeal.main_arg0)
      ∧ m' ((c.tc : Thread Cert.LnReferenceIdeal.nD Cert.LnReferenceIdeal.τ).loc Cert.LnReferenceIdeal.main_arg1) = m ((c.tc : Thread Cert.LnKernelIdeal.nD Cert.LnKernelIdeal.τ).loc Cert.LnKernelIdeal.main_arg1)
      ∧ m' ((c.tc : Thread Cert.LnReferenceIdeal.nD Cert.LnReferenceIdeal.τ).loc Cert.LnReferenceIdeal.main_arg2) = m ((c.tc : Thread Cert.LnKernelIdeal.nD Cert.LnKernelIdeal.τ).loc Cert.LnKernelIdeal.main_arg2)
      ∧ m' ((c.tc : Thread Cert.LnReferenceIdeal.nD Cert.LnReferenceIdeal.τ).loc Cert.LnReferenceIdeal.main_arg3) = m ((c.tc : Thread Cert.LnKernelIdeal.nD Cert.LnKernelIdeal.τ).loc Cert.LnKernelIdeal.main_arg3)
      ∧ m' ((c.tc : Thread Cert.LnReferenceIdeal.nD Cert.LnReferenceIdeal.τ).loc Cert.LnReferenceIdeal.main_arg4) = m ((c.tc : Thread Cert.LnKernelIdeal.nD Cert.LnKernelIdeal.τ).loc Cert.LnKernelIdeal.main_arg4)) →
    ∃ (v0 : (c : Dev Cert.LnKernelIdeal.nD) → Buf (Elt Ideal) ((c.tc : Thread Cert.LnKernelIdeal.nD Cert.LnKernelIdeal.τ).loc Cert.LnKernelIdeal.main_v8_0)) (v1 : (c : Dev Cert.LnKernelIdeal.nD) → Buf (Elt Ideal) ((c.tc : Thread Cert.LnKernelIdeal.nD Cert.LnKernelIdeal.τ).loc Cert.LnKernelIdeal.main_v8_1)) (v2 : (c : Dev Cert.LnKernelIdeal.nD) → Buf (Elt Ideal) ((c.tc : Thread Cert.LnKernelIdeal.nD Cert.LnKernelIdeal.τ).loc Cert.LnKernelIdeal.main_v8_2)) (v3 : (c : Dev Cert.LnKernelIdeal.nD) → Buf (Elt Ideal) ((c.tc : Thread Cert.LnKernelIdeal.nD Cert.LnKernelIdeal.τ).loc Cert.LnKernelIdeal.main_v8_3)),
      θ_run (Cert.LnKernelIdeal.defs (F := Ideal)) (onTc (τ := Cert.LnKernelIdeal.τ) (Cert.LnKernelIdeal.main (F := Ideal))) ⟨m, fun _ => 0, g⟩ (fun r => ∀ c : Dev Cert.LnKernelIdeal.nD,
          r.2.mem ((c.tc : Thread Cert.LnKernelIdeal.nD Cert.LnKernelIdeal.τ).loc Cert.LnKernelIdeal.main_v8_0) = v0 c
          ∧ r.2.mem ((c.tc : Thread Cert.LnKernelIdeal.nD Cert.LnKernelIdeal.τ).loc Cert.LnKernelIdeal.main_v8_1) = v1 c
          ∧ r.2.mem ((c.tc : Thread Cert.LnKernelIdeal.nD Cert.LnKernelIdeal.τ).loc Cert.LnKernelIdeal.main_v8_2) = v2 c
          ∧ r.2.mem ((c.tc : Thread Cert.LnKernelIdeal.nD Cert.LnKernelIdeal.τ).loc Cert.LnKernelIdeal.main_v8_3) = v3 c
          ∧ r.2.mem ((c.tc : Thread Cert.LnKernelIdeal.nD Cert.LnKernelIdeal.τ).loc Cert.LnKernelIdeal.main_arg0) = m ((c.tc : Thread Cert.LnKernelIdeal.nD Cert.LnKernelIdeal.τ).loc Cert.LnKernelIdeal.main_arg0)
          ∧ r.2.mem ((c.tc : Thread Cert.LnKernelIdeal.nD Cert.LnKernelIdeal.τ).loc Cert.LnKernelIdeal.main_arg1) = m ((c.tc : Thread Cert.LnKernelIdeal.nD Cert.LnKernelIdeal.τ).loc Cert.LnKernelIdeal.main_arg1)
          ∧ r.2.mem ((c.tc : Thread Cert.LnKernelIdeal.nD Cert.LnKernelIdeal.τ).loc Cert.LnKernelIdeal.main_arg2) = m ((c.tc : Thread Cert.LnKernelIdeal.nD Cert.LnKernelIdeal.τ).loc Cert.LnKernelIdeal.main_arg2)
          ∧ r.2.mem ((c.tc : Thread Cert.LnKernelIdeal.nD Cert.LnKernelIdeal.τ).loc Cert.LnKernelIdeal.main_arg3) = m ((c.tc : Thread Cert.LnKernelIdeal.nD Cert.LnKernelIdeal.τ).loc Cert.LnKernelIdeal.main_arg3)
          ∧ r.2.mem ((c.tc : Thread Cert.LnKernelIdeal.nD Cert.LnKernelIdeal.τ).loc Cert.LnKernelIdeal.main_arg4) = m ((c.tc : Thread Cert.LnKernelIdeal.nD Cert.LnKernelIdeal.τ).loc Cert.LnKernelIdeal.main_arg4))
      ∧ θ_run (Cert.LnReferenceIdeal.defs (F := Ideal)) (onTc (τ := Cert.LnReferenceIdeal.τ) (Cert.LnReferenceIdeal.main (F := Ideal))) ⟨m', fun _ => 0, g'⟩ (fun r => ∀ c : Dev Cert.LnReferenceIdeal.nD,
          r.2.mem ((c.tc : Thread Cert.LnReferenceIdeal.nD Cert.LnReferenceIdeal.τ).loc Cert.LnReferenceIdeal.main_v75) = v0 c
          ∧ r.2.mem ((c.tc : Thread Cert.LnReferenceIdeal.nD Cert.LnReferenceIdeal.τ).loc Cert.LnReferenceIdeal.main_v78) = v1 c
          ∧ r.2.mem ((c.tc : Thread Cert.LnReferenceIdeal.nD Cert.LnReferenceIdeal.τ).loc Cert.LnReferenceIdeal.main_v79) = v2 c
          ∧ r.2.mem ((c.tc : Thread Cert.LnReferenceIdeal.nD Cert.LnReferenceIdeal.τ).loc Cert.LnReferenceIdeal.main_v80) = v3 c
          ∧ r.2.mem ((c.tc : Thread Cert.LnReferenceIdeal.nD Cert.LnReferenceIdeal.τ).loc Cert.LnReferenceIdeal.main_arg0) = m' ((c.tc : Thread Cert.LnReferenceIdeal.nD Cert.LnReferenceIdeal.τ).loc Cert.LnReferenceIdeal.main_arg0)
          ∧ r.2.mem ((c.tc : Thread Cert.LnReferenceIdeal.nD Cert.LnReferenceIdeal.τ).loc Cert.LnReferenceIdeal.main_arg1) = m' ((c.tc : Thread Cert.LnReferenceIdeal.nD Cert.LnReferenceIdeal.τ).loc Cert.LnReferenceIdeal.main_arg1)
          ∧ r.2.mem ((c.tc : Thread Cert.LnReferenceIdeal.nD Cert.LnReferenceIdeal.τ).loc Cert.LnReferenceIdeal.main_arg2) = m' ((c.tc : Thread Cert.LnReferenceIdeal.nD Cert.LnReferenceIdeal.τ).loc Cert.LnReferenceIdeal.main_arg2)
          ∧ r.2.mem ((c.tc : Thread Cert.LnReferenceIdeal.nD Cert.LnReferenceIdeal.τ).loc Cert.LnReferenceIdeal.main_arg3) = m' ((c.tc : Thread Cert.LnReferenceIdeal.nD Cert.LnReferenceIdeal.τ).loc Cert.LnReferenceIdeal.main_arg3)
          ∧ r.2.mem ((c.tc : Thread Cert.LnReferenceIdeal.nD Cert.LnReferenceIdeal.τ).loc Cert.LnReferenceIdeal.main_arg4) = m' ((c.tc : Thread Cert.LnReferenceIdeal.nD Cert.LnReferenceIdeal.τ).loc Cert.LnReferenceIdeal.main_arg4))

def preserves_MlaKernel_MlaKernelIdeal : Prop :=
  True

def algebraic_MlaKernelIdeal_MlaReferenceIdeal [hMlaKernelIdeal : Cert.MlaKernelIdeal.Facts] [hMlaReferenceIdeal : Cert.MlaReferenceIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)
      ∧ m' ((c.tc : Thread Cert.MlaReferenceIdeal.nD Cert.MlaReferenceIdeal.τ).loc Cert.MlaReferenceIdeal.main_arg4) = m ((c.tc : Thread Cert.MlaKernelIdeal.nD Cert.MlaKernelIdeal.τ).loc Cert.MlaKernelIdeal.main_arg4)
      ∧ m' ((c.tc : Thread Cert.MlaReferenceIdeal.nD Cert.MlaReferenceIdeal.τ).loc Cert.MlaReferenceIdeal.main_arg5) = m ((c.tc : Thread Cert.MlaKernelIdeal.nD Cert.MlaKernelIdeal.τ).loc Cert.MlaKernelIdeal.main_arg5)) →
    ∃ (v0 : (c : Dev Cert.MlaKernelIdeal.nD) → Buf (Elt Ideal) ((c.tc : Thread Cert.MlaKernelIdeal.nD Cert.MlaKernelIdeal.τ).loc Cert.MlaKernelIdeal.main_v10_0)) (v1 : (c : Dev Cert.MlaKernelIdeal.nD) → Buf (Elt Ideal) ((c.tc : Thread Cert.MlaKernelIdeal.nD Cert.MlaKernelIdeal.τ).loc Cert.MlaKernelIdeal.main_v10_1)) (v2 : (c : Dev Cert.MlaKernelIdeal.nD) → Buf (Elt Ideal) ((c.tc : Thread Cert.MlaKernelIdeal.nD Cert.MlaKernelIdeal.τ).loc Cert.MlaKernelIdeal.main_v10_2)) (v3 : (c : Dev Cert.MlaKernelIdeal.nD) → Buf (Elt Ideal) ((c.tc : Thread Cert.MlaKernelIdeal.nD Cert.MlaKernelIdeal.τ).loc Cert.MlaKernelIdeal.main_v10_3)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v10_0) = v0 c
          ∧ r.2.mem ((c.tc : Thread Cert.MlaKernelIdeal.nD Cert.MlaKernelIdeal.τ).loc Cert.MlaKernelIdeal.main_v10_1) = v1 c
          ∧ r.2.mem ((c.tc : Thread Cert.MlaKernelIdeal.nD Cert.MlaKernelIdeal.τ).loc Cert.MlaKernelIdeal.main_v10_2) = v2 c
          ∧ r.2.mem ((c.tc : Thread Cert.MlaKernelIdeal.nD Cert.MlaKernelIdeal.τ).loc Cert.MlaKernelIdeal.main_v10_3) = v3 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3)
          ∧ r.2.mem ((c.tc : Thread Cert.MlaKernelIdeal.nD Cert.MlaKernelIdeal.τ).loc Cert.MlaKernelIdeal.main_arg4) = m ((c.tc : Thread Cert.MlaKernelIdeal.nD Cert.MlaKernelIdeal.τ).loc Cert.MlaKernelIdeal.main_arg4)
          ∧ r.2.mem ((c.tc : Thread Cert.MlaKernelIdeal.nD Cert.MlaKernelIdeal.τ).loc Cert.MlaKernelIdeal.main_arg5) = m ((c.tc : Thread Cert.MlaKernelIdeal.nD Cert.MlaKernelIdeal.τ).loc Cert.MlaKernelIdeal.main_arg5))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v75) = v0 c
          ∧ r.2.mem ((c.tc : Thread Cert.MlaReferenceIdeal.nD Cert.MlaReferenceIdeal.τ).loc Cert.MlaReferenceIdeal.main_v77) = v1 c
          ∧ r.2.mem ((c.tc : Thread Cert.MlaReferenceIdeal.nD Cert.MlaReferenceIdeal.τ).loc Cert.MlaReferenceIdeal.main_v78) = v2 c
          ∧ r.2.mem ((c.tc : Thread Cert.MlaReferenceIdeal.nD Cert.MlaReferenceIdeal.τ).loc Cert.MlaReferenceIdeal.main_v79) = v3 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3)
          ∧ r.2.mem ((c.tc : Thread Cert.MlaReferenceIdeal.nD Cert.MlaReferenceIdeal.τ).loc Cert.MlaReferenceIdeal.main_arg4) = m' ((c.tc : Thread Cert.MlaReferenceIdeal.nD Cert.MlaReferenceIdeal.τ).loc Cert.MlaReferenceIdeal.main_arg4)
          ∧ r.2.mem ((c.tc : Thread Cert.MlaReferenceIdeal.nD Cert.MlaReferenceIdeal.τ).loc Cert.MlaReferenceIdeal.main_arg5) = m' ((c.tc : Thread Cert.MlaReferenceIdeal.nD Cert.MlaReferenceIdeal.τ).loc Cert.MlaReferenceIdeal.main_arg5))

def preserves_PostKernel_PostKernelIdeal : Prop :=
  True

def algebraic_PostKernelIdeal_PostReferenceIdeal [hPostKernelIdeal : Cert.PostKernelIdeal.Facts] [hPostReferenceIdeal : Cert.PostReferenceIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)) →
    ∃ (v0 : (c : Dev Cert.PostKernelIdeal.nD) → Buf (Elt Ideal) ((c.tc : Thread Cert.PostKernelIdeal.nD Cert.PostKernelIdeal.τ).loc Cert.PostKernelIdeal.main_v12_0)) (v1 : (c : Dev Cert.PostKernelIdeal.nD) → Buf (Elt Ideal) ((c.tc : Thread Cert.PostKernelIdeal.nD Cert.PostKernelIdeal.τ).loc Cert.PostKernelIdeal.main_v12_1)) (v2 : (c : Dev Cert.PostKernelIdeal.nD) → Buf (Elt Ideal) ((c.tc : Thread Cert.PostKernelIdeal.nD Cert.PostKernelIdeal.τ).loc Cert.PostKernelIdeal.main_v12_2)) (v3 : (c : Dev Cert.PostKernelIdeal.nD) → Buf (Elt Ideal) ((c.tc : Thread Cert.PostKernelIdeal.nD Cert.PostKernelIdeal.τ).loc Cert.PostKernelIdeal.main_v12_3)) (v4 : (c : Dev Cert.PostKernelIdeal.nD) → Buf (Elt Ideal) ((c.tc : Thread Cert.PostKernelIdeal.nD Cert.PostKernelIdeal.τ).loc Cert.PostKernelIdeal.main_v12_4)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v12_0) = v0 c
          ∧ r.2.mem ((c.tc : Thread Cert.PostKernelIdeal.nD Cert.PostKernelIdeal.τ).loc Cert.PostKernelIdeal.main_v12_1) = v1 c
          ∧ r.2.mem ((c.tc : Thread Cert.PostKernelIdeal.nD Cert.PostKernelIdeal.τ).loc Cert.PostKernelIdeal.main_v12_2) = v2 c
          ∧ r.2.mem ((c.tc : Thread Cert.PostKernelIdeal.nD Cert.PostKernelIdeal.τ).loc Cert.PostKernelIdeal.main_v12_3) = v3 c
          ∧ r.2.mem ((c.tc : Thread Cert.PostKernelIdeal.nD Cert.PostKernelIdeal.τ).loc Cert.PostKernelIdeal.main_v12_4) = v4 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v71) = v0 c
          ∧ r.2.mem ((c.tc : Thread Cert.PostReferenceIdeal.nD Cert.PostReferenceIdeal.τ).loc Cert.PostReferenceIdeal.main_v73) = v1 c
          ∧ r.2.mem ((c.tc : Thread Cert.PostReferenceIdeal.nD Cert.PostReferenceIdeal.τ).loc Cert.PostReferenceIdeal.main_v75) = v2 c
          ∧ r.2.mem ((c.tc : Thread Cert.PostReferenceIdeal.nD Cert.PostReferenceIdeal.τ).loc Cert.PostReferenceIdeal.main_v76) = v3 c
          ∧ r.2.mem ((c.tc : Thread Cert.PostReferenceIdeal.nD Cert.PostReferenceIdeal.τ).loc Cert.PostReferenceIdeal.main_v77) = v4 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5))

def preserves_FoxfKernel_FoxfKernelIdeal : Prop :=
  IdealRules.named_const.Statement Cert.FoxfKernelIdeal.κ "mask" .f32 0xF149F2CA#32 ⊥

def algebraic_FoxfKernelIdeal_FoxfReferenceIdeal_pre_finite_foxf [hFoxfKernelIdeal : Cert.FoxfKernelIdeal.Facts] [hFoxfReferenceIdeal : Cert.FoxfReferenceIdeal.Facts] [hPre_finite_foxf : Cert.Pre_finite_foxf.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg)
    (m' : (ℓ : Loc Cert.FoxfReferenceIdeal.nD Cert.FoxfReferenceIdeal.τ Cert.FoxfReferenceIdeal.sig) → Buf (Elt Ideal) ℓ) (g' : Dev Cert.FoxfReferenceIdeal.nD → PrngReg), Pre_FoxfKernelIdeal_finite_foxf m →
    (∀ c : Dev Cert.FoxfKernelIdeal.nD,
      m' ((c.tc : Thread Cert.FoxfReferenceIdeal.nD Cert.FoxfReferenceIdeal.τ).loc Cert.FoxfReferenceIdeal.main_arg0) = m ((c.tc : Thread Cert.FoxfKernelIdeal.nD Cert.FoxfKernelIdeal.τ).loc Cert.FoxfKernelIdeal.main_arg0)
      ∧ m' ((c.tc : Thread Cert.FoxfReferenceIdeal.nD Cert.FoxfReferenceIdeal.τ).loc Cert.FoxfReferenceIdeal.main_arg1) = m ((c.tc : Thread Cert.FoxfKernelIdeal.nD Cert.FoxfKernelIdeal.τ).loc Cert.FoxfKernelIdeal.main_arg1)
      ∧ m' ((c.tc : Thread Cert.FoxfReferenceIdeal.nD Cert.FoxfReferenceIdeal.τ).loc Cert.FoxfReferenceIdeal.main_arg2) = m ((c.tc : Thread Cert.FoxfKernelIdeal.nD Cert.FoxfKernelIdeal.τ).loc Cert.FoxfKernelIdeal.main_arg2)
      ∧ m' ((c.tc : Thread Cert.FoxfReferenceIdeal.nD Cert.FoxfReferenceIdeal.τ).loc Cert.FoxfReferenceIdeal.main_arg3) = m ((c.tc : Thread Cert.FoxfKernelIdeal.nD Cert.FoxfKernelIdeal.τ).loc Cert.FoxfKernelIdeal.main_arg3)) →
    ∃ (v0 : (c : Dev Cert.FoxfKernelIdeal.nD) → Buf (Elt Ideal) ((c.tc : Thread Cert.FoxfKernelIdeal.nD Cert.FoxfKernelIdeal.τ).loc Cert.FoxfKernelIdeal.main_v11_0)),
      θ_run (Cert.FoxfKernelIdeal.defs (F := Ideal)) (onTc (τ := Cert.FoxfKernelIdeal.τ) (Cert.FoxfKernelIdeal.main (F := Ideal))) ⟨m, fun _ => 0, g⟩ (fun r => ∀ c : Dev Cert.FoxfKernelIdeal.nD,
          r.2.mem ((c.tc : Thread Cert.FoxfKernelIdeal.nD Cert.FoxfKernelIdeal.τ).loc Cert.FoxfKernelIdeal.main_v11_0) = v0 c
          ∧ r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
          ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1)
          ∧ r.2.mem ((c.tc : Thread Cert.FoxfKernelIdeal.nD Cert.FoxfKernelIdeal.τ).loc Cert.FoxfKernelIdeal.main_arg2) = m ((c.tc : Thread Cert.FoxfKernelIdeal.nD Cert.FoxfKernelIdeal.τ).loc Cert.FoxfKernelIdeal.main_arg2)
          ∧ r.2.mem ((c.tc : Thread Cert.FoxfKernelIdeal.nD Cert.FoxfKernelIdeal.τ).loc Cert.FoxfKernelIdeal.main_arg3) = m ((c.tc : Thread Cert.FoxfKernelIdeal.nD Cert.FoxfKernelIdeal.τ).loc Cert.FoxfKernelIdeal.main_arg3))
      ∧ θ_run (Cert.FoxfReferenceIdeal.defs (F := Ideal)) (onTc (τ := Cert.FoxfReferenceIdeal.τ) (Cert.FoxfReferenceIdeal.main (F := Ideal))) ⟨m', fun _ => 0, g'⟩ (fun r => ∀ c : Dev Cert.FoxfReferenceIdeal.nD,
          r.2.mem ((c.tc : Thread Cert.FoxfReferenceIdeal.nD Cert.FoxfReferenceIdeal.τ).loc Cert.FoxfReferenceIdeal.main_v35) = v0 c
          ∧ r.2.mem ((c.tc : Thread Cert.FoxfReferenceIdeal.nD Cert.FoxfReferenceIdeal.τ).loc Cert.FoxfReferenceIdeal.main_arg0) = m' ((c.tc : Thread Cert.FoxfReferenceIdeal.nD Cert.FoxfReferenceIdeal.τ).loc Cert.FoxfReferenceIdeal.main_arg0)
          ∧ r.2.mem ((c.tc : Thread Cert.FoxfReferenceIdeal.nD Cert.FoxfReferenceIdeal.τ).loc Cert.FoxfReferenceIdeal.main_arg1) = m' ((c.tc : Thread Cert.FoxfReferenceIdeal.nD Cert.FoxfReferenceIdeal.τ).loc Cert.FoxfReferenceIdeal.main_arg1)
          ∧ r.2.mem ((c.tc : Thread Cert.FoxfReferenceIdeal.nD Cert.FoxfReferenceIdeal.τ).loc Cert.FoxfReferenceIdeal.main_arg2) = m' ((c.tc : Thread Cert.FoxfReferenceIdeal.nD Cert.FoxfReferenceIdeal.τ).loc Cert.FoxfReferenceIdeal.main_arg2)
          ∧ r.2.mem ((c.tc : Thread Cert.FoxfReferenceIdeal.nD Cert.FoxfReferenceIdeal.τ).loc Cert.FoxfReferenceIdeal.main_arg3) = m' ((c.tc : Thread Cert.FoxfReferenceIdeal.nD Cert.FoxfReferenceIdeal.τ).loc Cert.FoxfReferenceIdeal.main_arg3))

def preserves_AttfKernel_AttfKernelIdeal : Prop :=
  IdealRules.named_const.Statement Cert.AttfKernelIdeal.κ "mask" .f32 0xF149F2CA#32 ⊥

def algebraic_AttfKernelIdeal_AttfReferenceIdeal_pre_finite_attf [hAttfKernelIdeal : Cert.AttfKernelIdeal.Facts] [hAttfReferenceIdeal : Cert.AttfReferenceIdeal.Facts] [hPre_finite_attf : Cert.Pre_finite_attf.Facts] : Prop :=
  ∀ (m : (ℓ : Loc Cert.AttfKernelIdeal.nD Cert.AttfKernelIdeal.τ Cert.AttfKernelIdeal.sig) → Buf (Elt Ideal) ℓ) (g : Dev Cert.AttfKernelIdeal.nD → PrngReg)
    (m' : (ℓ : Loc Cert.AttfReferenceIdeal.nD Cert.AttfReferenceIdeal.τ Cert.AttfReferenceIdeal.sig) → Buf (Elt Ideal) ℓ) (g' : Dev Cert.AttfReferenceIdeal.nD → PrngReg), Pre_AttfKernelIdeal_finite_attf m →
    (∀ c : Dev Cert.AttfKernelIdeal.nD,
      m' ((c.tc : Thread Cert.AttfReferenceIdeal.nD Cert.AttfReferenceIdeal.τ).loc Cert.AttfReferenceIdeal.main_arg0) = m ((c.tc : Thread Cert.AttfKernelIdeal.nD Cert.AttfKernelIdeal.τ).loc Cert.AttfKernelIdeal.main_arg0)
      ∧ m' ((c.tc : Thread Cert.AttfReferenceIdeal.nD Cert.AttfReferenceIdeal.τ).loc Cert.AttfReferenceIdeal.main_arg1) = m ((c.tc : Thread Cert.AttfKernelIdeal.nD Cert.AttfKernelIdeal.τ).loc Cert.AttfKernelIdeal.main_arg1)
      ∧ m' ((c.tc : Thread Cert.AttfReferenceIdeal.nD Cert.AttfReferenceIdeal.τ).loc Cert.AttfReferenceIdeal.main_arg2) = m ((c.tc : Thread Cert.AttfKernelIdeal.nD Cert.AttfKernelIdeal.τ).loc Cert.AttfKernelIdeal.main_arg2)
      ∧ m' ((c.tc : Thread Cert.AttfReferenceIdeal.nD Cert.AttfReferenceIdeal.τ).loc Cert.AttfReferenceIdeal.main_arg3) = m ((c.tc : Thread Cert.AttfKernelIdeal.nD Cert.AttfKernelIdeal.τ).loc Cert.AttfKernelIdeal.main_arg3)
      ∧ m' ((c.tc : Thread Cert.AttfReferenceIdeal.nD Cert.AttfReferenceIdeal.τ).loc Cert.AttfReferenceIdeal.main_arg4) = m ((c.tc : Thread Cert.AttfKernelIdeal.nD Cert.AttfKernelIdeal.τ).loc Cert.AttfKernelIdeal.main_arg4)) →
    ∃ (v0 : (c : Dev Cert.AttfKernelIdeal.nD) → Buf (Elt Ideal) ((c.tc : Thread Cert.AttfKernelIdeal.nD Cert.AttfKernelIdeal.τ).loc Cert.AttfKernelIdeal.main_v23_0)),
      θ_run (Cert.AttfKernelIdeal.defs (F := Ideal)) (onTc (τ := Cert.AttfKernelIdeal.τ) (Cert.AttfKernelIdeal.main (F := Ideal))) ⟨m, fun _ => 0, g⟩ (fun r => ∀ c : Dev Cert.AttfKernelIdeal.nD,
          r.2.mem ((c.tc : Thread Cert.AttfKernelIdeal.nD Cert.AttfKernelIdeal.τ).loc Cert.AttfKernelIdeal.main_v23_0) = v0 c
          ∧ r.2.mem ((c.tc : Thread Cert.AttfKernelIdeal.nD Cert.AttfKernelIdeal.τ).loc Cert.AttfKernelIdeal.main_arg0) = m ((c.tc : Thread Cert.AttfKernelIdeal.nD Cert.AttfKernelIdeal.τ).loc Cert.AttfKernelIdeal.main_arg0)
          ∧ r.2.mem ((c.tc : Thread Cert.AttfKernelIdeal.nD Cert.AttfKernelIdeal.τ).loc Cert.AttfKernelIdeal.main_arg1) = m ((c.tc : Thread Cert.AttfKernelIdeal.nD Cert.AttfKernelIdeal.τ).loc Cert.AttfKernelIdeal.main_arg1)
          ∧ r.2.mem ((c.tc : Thread Cert.AttfKernelIdeal.nD Cert.AttfKernelIdeal.τ).loc Cert.AttfKernelIdeal.main_arg2) = m ((c.tc : Thread Cert.AttfKernelIdeal.nD Cert.AttfKernelIdeal.τ).loc Cert.AttfKernelIdeal.main_arg2)
          ∧ r.2.mem ((c.tc : Thread Cert.AttfKernelIdeal.nD Cert.AttfKernelIdeal.τ).loc Cert.AttfKernelIdeal.main_arg3) = m ((c.tc : Thread Cert.AttfKernelIdeal.nD Cert.AttfKernelIdeal.τ).loc Cert.AttfKernelIdeal.main_arg3)
          ∧ r.2.mem ((c.tc : Thread Cert.AttfKernelIdeal.nD Cert.AttfKernelIdeal.τ).loc Cert.AttfKernelIdeal.main_arg4) = m ((c.tc : Thread Cert.AttfKernelIdeal.nD Cert.AttfKernelIdeal.τ).loc Cert.AttfKernelIdeal.main_arg4))
      ∧ θ_run (Cert.AttfReferenceIdeal.defs (F := Ideal)) (onTc (τ := Cert.AttfReferenceIdeal.τ) (Cert.AttfReferenceIdeal.main (F := Ideal))) ⟨m', fun _ => 0, g'⟩ (fun r => ∀ c : Dev Cert.AttfReferenceIdeal.nD,
          r.2.mem ((c.tc : Thread Cert.AttfReferenceIdeal.nD Cert.AttfReferenceIdeal.τ).loc Cert.AttfReferenceIdeal.main_v29) = v0 c
          ∧ r.2.mem ((c.tc : Thread Cert.AttfReferenceIdeal.nD Cert.AttfReferenceIdeal.τ).loc Cert.AttfReferenceIdeal.main_arg0) = m' ((c.tc : Thread Cert.AttfReferenceIdeal.nD Cert.AttfReferenceIdeal.τ).loc Cert.AttfReferenceIdeal.main_arg0)
          ∧ r.2.mem ((c.tc : Thread Cert.AttfReferenceIdeal.nD Cert.AttfReferenceIdeal.τ).loc Cert.AttfReferenceIdeal.main_arg1) = m' ((c.tc : Thread Cert.AttfReferenceIdeal.nD Cert.AttfReferenceIdeal.τ).loc Cert.AttfReferenceIdeal.main_arg1)
          ∧ r.2.mem ((c.tc : Thread Cert.AttfReferenceIdeal.nD Cert.AttfReferenceIdeal.τ).loc Cert.AttfReferenceIdeal.main_arg2) = m' ((c.tc : Thread Cert.AttfReferenceIdeal.nD Cert.AttfReferenceIdeal.τ).loc Cert.AttfReferenceIdeal.main_arg2)
          ∧ r.2.mem ((c.tc : Thread Cert.AttfReferenceIdeal.nD Cert.AttfReferenceIdeal.τ).loc Cert.AttfReferenceIdeal.main_arg3) = m' ((c.tc : Thread Cert.AttfReferenceIdeal.nD Cert.AttfReferenceIdeal.τ).loc Cert.AttfReferenceIdeal.main_arg3)
          ∧ r.2.mem ((c.tc : Thread Cert.AttfReferenceIdeal.nD Cert.AttfReferenceIdeal.τ).loc Cert.AttfReferenceIdeal.main_arg4) = m' ((c.tc : Thread Cert.AttfReferenceIdeal.nD Cert.AttfReferenceIdeal.τ).loc Cert.AttfReferenceIdeal.main_arg4))

def preserves_RopefKernel_RopefKernelIdeal : Prop :=
  True

def algebraic_RopefKernelIdeal_RopefReferenceIdeal [hRopefKernelIdeal : Cert.RopefKernelIdeal.Facts] [hRopefReferenceIdeal : Cert.RopefReferenceIdeal.Facts] : Prop :=
  ∀ (m : (ℓ : Loc Cert.RopefKernelIdeal.nD Cert.RopefKernelIdeal.τ Cert.RopefKernelIdeal.sig) → Buf (Elt Ideal) ℓ) (g : Dev Cert.RopefKernelIdeal.nD → PrngReg)
    (m' : (ℓ : Loc Cert.RopefReferenceIdeal.nD Cert.RopefReferenceIdeal.τ Cert.RopefReferenceIdeal.sig) → Buf (Elt Ideal) ℓ) (g' : Dev Cert.RopefReferenceIdeal.nD → PrngReg), Pre_RopefKernelIdeal m →
    (∀ c : Dev Cert.RopefKernelIdeal.nD,
      m' ((c.tc : Thread Cert.RopefReferenceIdeal.nD Cert.RopefReferenceIdeal.τ).loc Cert.RopefReferenceIdeal.main_arg0) = m ((c.tc : Thread Cert.RopefKernelIdeal.nD Cert.RopefKernelIdeal.τ).loc Cert.RopefKernelIdeal.main_arg0)
      ∧ m' ((c.tc : Thread Cert.RopefReferenceIdeal.nD Cert.RopefReferenceIdeal.τ).loc Cert.RopefReferenceIdeal.main_arg1) = m ((c.tc : Thread Cert.RopefKernelIdeal.nD Cert.RopefKernelIdeal.τ).loc Cert.RopefKernelIdeal.main_arg1)
      ∧ m' ((c.tc : Thread Cert.RopefReferenceIdeal.nD Cert.RopefReferenceIdeal.τ).loc Cert.RopefReferenceIdeal.main_arg2) = m ((c.tc : Thread Cert.RopefKernelIdeal.nD Cert.RopefKernelIdeal.τ).loc Cert.RopefKernelIdeal.main_arg2)
      ∧ m' ((c.tc : Thread Cert.RopefReferenceIdeal.nD Cert.RopefReferenceIdeal.τ).loc Cert.RopefReferenceIdeal.main_arg3) = m ((c.tc : Thread Cert.RopefKernelIdeal.nD Cert.RopefKernelIdeal.τ).loc Cert.RopefKernelIdeal.main_arg3)) →
    ∃ (v0 : (c : Dev Cert.RopefKernelIdeal.nD) → Buf (Elt Ideal) ((c.tc : Thread Cert.RopefKernelIdeal.nD Cert.RopefKernelIdeal.τ).loc Cert.RopefKernelIdeal.main_v21_0)) (v1 : (c : Dev Cert.RopefKernelIdeal.nD) → Buf (Elt Ideal) ((c.tc : Thread Cert.RopefKernelIdeal.nD Cert.RopefKernelIdeal.τ).loc Cert.RopefKernelIdeal.main_v21_1)),
      θ_run (Cert.RopefKernelIdeal.defs (F := Ideal)) (onTc (τ := Cert.RopefKernelIdeal.τ) (Cert.RopefKernelIdeal.main (F := Ideal))) ⟨m, fun _ => 0, g⟩ (fun r => ∀ c : Dev Cert.RopefKernelIdeal.nD,
          r.2.mem ((c.tc : Thread Cert.RopefKernelIdeal.nD Cert.RopefKernelIdeal.τ).loc Cert.RopefKernelIdeal.main_v21_0) = v0 c
          ∧ r.2.mem ((c.tc : Thread Cert.RopefKernelIdeal.nD Cert.RopefKernelIdeal.τ).loc Cert.RopefKernelIdeal.main_v21_1) = v1 c
          ∧ r.2.mem ((c.tc : Thread Cert.RopefKernelIdeal.nD Cert.RopefKernelIdeal.τ).loc Cert.RopefKernelIdeal.main_arg0) = m ((c.tc : Thread Cert.RopefKernelIdeal.nD Cert.RopefKernelIdeal.τ).loc Cert.RopefKernelIdeal.main_arg0)
          ∧ r.2.mem ((c.tc : Thread Cert.RopefKernelIdeal.nD Cert.RopefKernelIdeal.τ).loc Cert.RopefKernelIdeal.main_arg1) = m ((c.tc : Thread Cert.RopefKernelIdeal.nD Cert.RopefKernelIdeal.τ).loc Cert.RopefKernelIdeal.main_arg1)
          ∧ r.2.mem ((c.tc : Thread Cert.RopefKernelIdeal.nD Cert.RopefKernelIdeal.τ).loc Cert.RopefKernelIdeal.main_arg2) = m ((c.tc : Thread Cert.RopefKernelIdeal.nD Cert.RopefKernelIdeal.τ).loc Cert.RopefKernelIdeal.main_arg2)
          ∧ r.2.mem ((c.tc : Thread Cert.RopefKernelIdeal.nD Cert.RopefKernelIdeal.τ).loc Cert.RopefKernelIdeal.main_arg3) = m ((c.tc : Thread Cert.RopefKernelIdeal.nD Cert.RopefKernelIdeal.τ).loc Cert.RopefKernelIdeal.main_arg3))
      ∧ θ_run (Cert.RopefReferenceIdeal.defs (F := Ideal)) (onTc (τ := Cert.RopefReferenceIdeal.τ) (Cert.RopefReferenceIdeal.main (F := Ideal))) ⟨m', fun _ => 0, g'⟩ (fun r => ∀ c : Dev Cert.RopefReferenceIdeal.nD,
          r.2.mem ((c.tc : Thread Cert.RopefReferenceIdeal.nD Cert.RopefReferenceIdeal.τ).loc Cert.RopefReferenceIdeal.main_v34) = v0 c
          ∧ r.2.mem ((c.tc : Thread Cert.RopefReferenceIdeal.nD Cert.RopefReferenceIdeal.τ).loc Cert.RopefReferenceIdeal.main_v39) = v1 c
          ∧ r.2.mem ((c.tc : Thread Cert.RopefReferenceIdeal.nD Cert.RopefReferenceIdeal.τ).loc Cert.RopefReferenceIdeal.main_arg0) = m' ((c.tc : Thread Cert.RopefReferenceIdeal.nD Cert.RopefReferenceIdeal.τ).loc Cert.RopefReferenceIdeal.main_arg0)
          ∧ r.2.mem ((c.tc : Thread Cert.RopefReferenceIdeal.nD Cert.RopefReferenceIdeal.τ).loc Cert.RopefReferenceIdeal.main_arg1) = m' ((c.tc : Thread Cert.RopefReferenceIdeal.nD Cert.RopefReferenceIdeal.τ).loc Cert.RopefReferenceIdeal.main_arg1)
          ∧ r.2.mem ((c.tc : Thread Cert.RopefReferenceIdeal.nD Cert.RopefReferenceIdeal.τ).loc Cert.RopefReferenceIdeal.main_arg2) = m' ((c.tc : Thread Cert.RopefReferenceIdeal.nD Cert.RopefReferenceIdeal.τ).loc Cert.RopefReferenceIdeal.main_arg2)
          ∧ r.2.mem ((c.tc : Thread Cert.RopefReferenceIdeal.nD Cert.RopefReferenceIdeal.τ).loc Cert.RopefReferenceIdeal.main_arg3) = m' ((c.tc : Thread Cert.RopefReferenceIdeal.nD Cert.RopefReferenceIdeal.τ).loc Cert.RopefReferenceIdeal.main_arg3))

def preserves_MlafKernel_MlafKernelIdeal : Prop :=
  True

def algebraic_MlafKernelIdeal_MlafReferenceIdeal [hMlafKernelIdeal : Cert.MlafKernelIdeal.Facts] [hMlafReferenceIdeal : Cert.MlafReferenceIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg)
    (m' : (ℓ : Loc Cert.MlafReferenceIdeal.nD Cert.MlafReferenceIdeal.τ Cert.MlafReferenceIdeal.sig) → Buf (Elt Ideal) ℓ) (g' : Dev Cert.MlafReferenceIdeal.nD → PrngReg), Pre_MlafKernelIdeal m →
    (∀ c : Dev Cert.MlafKernelIdeal.nD,
      m' ((c.tc : Thread Cert.MlafReferenceIdeal.nD Cert.MlafReferenceIdeal.τ).loc Cert.MlafReferenceIdeal.main_arg0) = m ((c.tc : Thread Cert.MlafKernelIdeal.nD Cert.MlafKernelIdeal.τ).loc Cert.MlafKernelIdeal.main_arg0)
      ∧ m' ((c.tc : Thread Cert.MlafReferenceIdeal.nD Cert.MlafReferenceIdeal.τ).loc Cert.MlafReferenceIdeal.main_arg1) = m ((c.tc : Thread Cert.MlafKernelIdeal.nD Cert.MlafKernelIdeal.τ).loc Cert.MlafKernelIdeal.main_arg1)
      ∧ m' ((c.tc : Thread Cert.MlafReferenceIdeal.nD Cert.MlafReferenceIdeal.τ).loc Cert.MlafReferenceIdeal.main_arg2) = m ((c.tc : Thread Cert.MlafKernelIdeal.nD Cert.MlafKernelIdeal.τ).loc Cert.MlafKernelIdeal.main_arg2)
      ∧ m' ((c.tc : Thread Cert.MlafReferenceIdeal.nD Cert.MlafReferenceIdeal.τ).loc Cert.MlafReferenceIdeal.main_arg3) = m ((c.tc : Thread Cert.MlafKernelIdeal.nD Cert.MlafKernelIdeal.τ).loc Cert.MlafKernelIdeal.main_arg3)) →
    ∃ (v0 : (c : Dev Cert.MlafKernelIdeal.nD) → Buf (Elt Ideal) ((c.tc : Thread Cert.MlafKernelIdeal.nD Cert.MlafKernelIdeal.τ).loc Cert.MlafKernelIdeal.main_v6_0)) (v1 : (c : Dev Cert.MlafKernelIdeal.nD) → Buf (Elt Ideal) ((c.tc : Thread Cert.MlafKernelIdeal.nD Cert.MlafKernelIdeal.τ).loc Cert.MlafKernelIdeal.main_v6_1)),
      θ_run (Cert.MlafKernelIdeal.defs (F := Ideal)) (onTc (τ := Cert.MlafKernelIdeal.τ) (Cert.MlafKernelIdeal.main (F := Ideal))) ⟨m, fun _ => 0, g⟩ (fun r => ∀ c : Dev Cert.MlafKernelIdeal.nD,
          r.2.mem ((c.tc : Thread Cert.MlafKernelIdeal.nD Cert.MlafKernelIdeal.τ).loc Cert.MlafKernelIdeal.main_v6_0) = v0 c
          ∧ r.2.mem ((c.tc : Thread Cert.MlafKernelIdeal.nD Cert.MlafKernelIdeal.τ).loc Cert.MlafKernelIdeal.main_v6_1) = v1 c
          ∧ r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
          ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
          ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2)
          ∧ r.2.mem ((c.tc : Thread Cert.MlafKernelIdeal.nD Cert.MlafKernelIdeal.τ).loc Cert.MlafKernelIdeal.main_arg3) = m ((c.tc : Thread Cert.MlafKernelIdeal.nD Cert.MlafKernelIdeal.τ).loc Cert.MlafKernelIdeal.main_arg3))
      ∧ θ_run (Cert.MlafReferenceIdeal.defs (F := Ideal)) (onTc (τ := Cert.MlafReferenceIdeal.τ) (Cert.MlafReferenceIdeal.main (F := Ideal))) ⟨m', fun _ => 0, g'⟩ (fun r => ∀ c : Dev Cert.MlafReferenceIdeal.nD,
          r.2.mem ((c.tc : Thread Cert.MlafReferenceIdeal.nD Cert.MlafReferenceIdeal.τ).loc Cert.MlafReferenceIdeal.main_v15) = v0 c
          ∧ r.2.mem ((c.tc : Thread Cert.MlafReferenceIdeal.nD Cert.MlafReferenceIdeal.τ).loc Cert.MlafReferenceIdeal.main_v31) = v1 c
          ∧ r.2.mem ((c.tc : Thread Cert.MlafReferenceIdeal.nD Cert.MlafReferenceIdeal.τ).loc Cert.MlafReferenceIdeal.main_arg0) = m' ((c.tc : Thread Cert.MlafReferenceIdeal.nD Cert.MlafReferenceIdeal.τ).loc Cert.MlafReferenceIdeal.main_arg0)
          ∧ r.2.mem ((c.tc : Thread Cert.MlafReferenceIdeal.nD Cert.MlafReferenceIdeal.τ).loc Cert.MlafReferenceIdeal.main_arg1) = m' ((c.tc : Thread Cert.MlafReferenceIdeal.nD Cert.MlafReferenceIdeal.τ).loc Cert.MlafReferenceIdeal.main_arg1)
          ∧ r.2.mem ((c.tc : Thread Cert.MlafReferenceIdeal.nD Cert.MlafReferenceIdeal.τ).loc Cert.MlafReferenceIdeal.main_arg2) = m' ((c.tc : Thread Cert.MlafReferenceIdeal.nD Cert.MlafReferenceIdeal.τ).loc Cert.MlafReferenceIdeal.main_arg2)
          ∧ r.2.mem ((c.tc : Thread Cert.MlafReferenceIdeal.nD Cert.MlafReferenceIdeal.τ).loc Cert.MlafReferenceIdeal.main_arg3) = m' ((c.tc : Thread Cert.MlafReferenceIdeal.nD Cert.MlafReferenceIdeal.τ).loc Cert.MlafReferenceIdeal.main_arg3))

def preserves_PostfKernel_PostfKernelIdeal : Prop :=
  True

def algebraic_PostfKernelIdeal_PostfReferenceIdeal [hPostfKernelIdeal : Cert.PostfKernelIdeal.Facts] [hPostfReferenceIdeal : Cert.PostfReferenceIdeal.Facts] : Prop :=
  ∀ (m : (ℓ : Loc Cert.PostfKernelIdeal.nD Cert.PostfKernelIdeal.τ Cert.PostfKernelIdeal.sig) → Buf (Elt Ideal) ℓ) (g : Dev Cert.PostfKernelIdeal.nD → PrngReg)
    (m' : (ℓ : Loc Cert.PostfReferenceIdeal.nD Cert.PostfReferenceIdeal.τ Cert.PostfReferenceIdeal.sig) → Buf (Elt Ideal) ℓ) (g' : Dev Cert.PostfReferenceIdeal.nD → PrngReg), Pre_PostfKernelIdeal m →
    (∀ c : Dev Cert.PostfKernelIdeal.nD,
      m' ((c.tc : Thread Cert.PostfReferenceIdeal.nD Cert.PostfReferenceIdeal.τ).loc Cert.PostfReferenceIdeal.main_arg0) = m ((c.tc : Thread Cert.PostfKernelIdeal.nD Cert.PostfKernelIdeal.τ).loc Cert.PostfKernelIdeal.main_arg0)
      ∧ m' ((c.tc : Thread Cert.PostfReferenceIdeal.nD Cert.PostfReferenceIdeal.τ).loc Cert.PostfReferenceIdeal.main_arg1) = m ((c.tc : Thread Cert.PostfKernelIdeal.nD Cert.PostfKernelIdeal.τ).loc Cert.PostfKernelIdeal.main_arg1)
      ∧ m' ((c.tc : Thread Cert.PostfReferenceIdeal.nD Cert.PostfReferenceIdeal.τ).loc Cert.PostfReferenceIdeal.main_arg2) = m ((c.tc : Thread Cert.PostfKernelIdeal.nD Cert.PostfKernelIdeal.τ).loc Cert.PostfKernelIdeal.main_arg2)
      ∧ m' ((c.tc : Thread Cert.PostfReferenceIdeal.nD Cert.PostfReferenceIdeal.τ).loc Cert.PostfReferenceIdeal.main_arg3) = m ((c.tc : Thread Cert.PostfKernelIdeal.nD Cert.PostfKernelIdeal.τ).loc Cert.PostfKernelIdeal.main_arg3)
      ∧ m' ((c.tc : Thread Cert.PostfReferenceIdeal.nD Cert.PostfReferenceIdeal.τ).loc Cert.PostfReferenceIdeal.main_arg4) = m ((c.tc : Thread Cert.PostfKernelIdeal.nD Cert.PostfKernelIdeal.τ).loc Cert.PostfKernelIdeal.main_arg4)) →
    ∃ (v0 : (c : Dev Cert.PostfKernelIdeal.nD) → Buf (Elt Ideal) ((c.tc : Thread Cert.PostfKernelIdeal.nD Cert.PostfKernelIdeal.τ).loc Cert.PostfKernelIdeal.main_v10)),
      θ_run (Cert.PostfKernelIdeal.defs (F := Ideal)) (onTc (τ := Cert.PostfKernelIdeal.τ) (Cert.PostfKernelIdeal.main (F := Ideal))) ⟨m, fun _ => 0, g⟩ (fun r => ∀ c : Dev Cert.PostfKernelIdeal.nD,
          r.2.mem ((c.tc : Thread Cert.PostfKernelIdeal.nD Cert.PostfKernelIdeal.τ).loc Cert.PostfKernelIdeal.main_v10) = v0 c
          ∧ r.2.mem ((c.tc : Thread Cert.PostfKernelIdeal.nD Cert.PostfKernelIdeal.τ).loc Cert.PostfKernelIdeal.main_arg0) = m ((c.tc : Thread Cert.PostfKernelIdeal.nD Cert.PostfKernelIdeal.τ).loc Cert.PostfKernelIdeal.main_arg0)
          ∧ r.2.mem ((c.tc : Thread Cert.PostfKernelIdeal.nD Cert.PostfKernelIdeal.τ).loc Cert.PostfKernelIdeal.main_arg1) = m ((c.tc : Thread Cert.PostfKernelIdeal.nD Cert.PostfKernelIdeal.τ).loc Cert.PostfKernelIdeal.main_arg1)
          ∧ r.2.mem ((c.tc : Thread Cert.PostfKernelIdeal.nD Cert.PostfKernelIdeal.τ).loc Cert.PostfKernelIdeal.main_arg2) = m ((c.tc : Thread Cert.PostfKernelIdeal.nD Cert.PostfKernelIdeal.τ).loc Cert.PostfKernelIdeal.main_arg2)
          ∧ r.2.mem ((c.tc : Thread Cert.PostfKernelIdeal.nD Cert.PostfKernelIdeal.τ).loc Cert.PostfKernelIdeal.main_arg3) = m ((c.tc : Thread Cert.PostfKernelIdeal.nD Cert.PostfKernelIdeal.τ).loc Cert.PostfKernelIdeal.main_arg3)
          ∧ r.2.mem ((c.tc : Thread Cert.PostfKernelIdeal.nD Cert.PostfKernelIdeal.τ).loc Cert.PostfKernelIdeal.main_arg4) = m ((c.tc : Thread Cert.PostfKernelIdeal.nD Cert.PostfKernelIdeal.τ).loc Cert.PostfKernelIdeal.main_arg4))
      ∧ θ_run (Cert.PostfReferenceIdeal.defs (F := Ideal)) (onTc (τ := Cert.PostfReferenceIdeal.τ) (Cert.PostfReferenceIdeal.main (F := Ideal))) ⟨m', fun _ => 0, g'⟩ (fun r => ∀ c : Dev Cert.PostfReferenceIdeal.nD,
          r.2.mem ((c.tc : Thread Cert.PostfReferenceIdeal.nD Cert.PostfReferenceIdeal.τ).loc Cert.PostfReferenceIdeal.main_v27) = v0 c
          ∧ r.2.mem ((c.tc : Thread Cert.PostfReferenceIdeal.nD Cert.PostfReferenceIdeal.τ).loc Cert.PostfReferenceIdeal.main_arg0) = m' ((c.tc : Thread Cert.PostfReferenceIdeal.nD Cert.PostfReferenceIdeal.τ).loc Cert.PostfReferenceIdeal.main_arg0)
          ∧ r.2.mem ((c.tc : Thread Cert.PostfReferenceIdeal.nD Cert.PostfReferenceIdeal.τ).loc Cert.PostfReferenceIdeal.main_arg1) = m' ((c.tc : Thread Cert.PostfReferenceIdeal.nD Cert.PostfReferenceIdeal.τ).loc Cert.PostfReferenceIdeal.main_arg1)
          ∧ r.2.mem ((c.tc : Thread Cert.PostfReferenceIdeal.nD Cert.PostfReferenceIdeal.τ).loc Cert.PostfReferenceIdeal.main_arg2) = m' ((c.tc : Thread Cert.PostfReferenceIdeal.nD Cert.PostfReferenceIdeal.τ).loc Cert.PostfReferenceIdeal.main_arg2)
          ∧ r.2.mem ((c.tc : Thread Cert.PostfReferenceIdeal.nD Cert.PostfReferenceIdeal.τ).loc Cert.PostfReferenceIdeal.main_arg3) = m' ((c.tc : Thread Cert.PostfReferenceIdeal.nD Cert.PostfReferenceIdeal.τ).loc Cert.PostfReferenceIdeal.main_arg3)
          ∧ r.2.mem ((c.tc : Thread Cert.PostfReferenceIdeal.nD Cert.PostfReferenceIdeal.τ).loc Cert.PostfReferenceIdeal.main_arg4) = m' ((c.tc : Thread Cert.PostfReferenceIdeal.nD Cert.PostfReferenceIdeal.τ).loc Cert.PostfReferenceIdeal.main_arg4))

def preserves_FfnfKernel_FfnfKernelIdeal : Prop :=
  True

def algebraic_FfnfKernelIdeal_FfnfReferenceIdeal [hFfnfKernelIdeal : Cert.FfnfKernelIdeal.Facts] [hFfnfReferenceIdeal : Cert.FfnfReferenceIdeal.Facts] : Prop :=
  ∀ (m : (ℓ : Loc Cert.FfnfKernelIdeal.nD Cert.FfnfKernelIdeal.τ Cert.FfnfKernelIdeal.sig) → Buf (Elt Ideal) ℓ) (g : Dev Cert.FfnfKernelIdeal.nD → PrngReg)
    (m' : (ℓ : Loc Cert.FfnfReferenceIdeal.nD Cert.FfnfReferenceIdeal.τ Cert.FfnfReferenceIdeal.sig) → Buf (Elt Ideal) ℓ) (g' : Dev Cert.FfnfReferenceIdeal.nD → PrngReg), Pre_FfnfKernelIdeal m →
    (∀ c : Dev Cert.FfnfKernelIdeal.nD,
      m' ((c.tc : Thread Cert.FfnfReferenceIdeal.nD Cert.FfnfReferenceIdeal.τ).loc Cert.FfnfReferenceIdeal.main_arg0) = m ((c.tc : Thread Cert.FfnfKernelIdeal.nD Cert.FfnfKernelIdeal.τ).loc Cert.FfnfKernelIdeal.main_arg0)
      ∧ m' ((c.tc : Thread Cert.FfnfReferenceIdeal.nD Cert.FfnfReferenceIdeal.τ).loc Cert.FfnfReferenceIdeal.main_arg1) = m ((c.tc : Thread Cert.FfnfKernelIdeal.nD Cert.FfnfKernelIdeal.τ).loc Cert.FfnfKernelIdeal.main_arg1)
      ∧ m' ((c.tc : Thread Cert.FfnfReferenceIdeal.nD Cert.FfnfReferenceIdeal.τ).loc Cert.FfnfReferenceIdeal.main_arg2) = m ((c.tc : Thread Cert.FfnfKernelIdeal.nD Cert.FfnfKernelIdeal.τ).loc Cert.FfnfKernelIdeal.main_arg2)) →
    ∃ (v0 : (c : Dev Cert.FfnfKernelIdeal.nD) → Buf (Elt Ideal) ((c.tc : Thread Cert.FfnfKernelIdeal.nD Cert.FfnfKernelIdeal.τ).loc Cert.FfnfKernelIdeal.main_v10_0)) (v1 : (c : Dev Cert.FfnfKernelIdeal.nD) → Buf (Elt Ideal) ((c.tc : Thread Cert.FfnfKernelIdeal.nD Cert.FfnfKernelIdeal.τ).loc Cert.FfnfKernelIdeal.main_v10_1)) (v2 : (c : Dev Cert.FfnfKernelIdeal.nD) → Buf (Elt Ideal) ((c.tc : Thread Cert.FfnfKernelIdeal.nD Cert.FfnfKernelIdeal.τ).loc Cert.FfnfKernelIdeal.main_v10_2)),
      θ_run (Cert.FfnfKernelIdeal.defs (F := Ideal)) (onTc (τ := Cert.FfnfKernelIdeal.τ) (Cert.FfnfKernelIdeal.main (F := Ideal))) ⟨m, fun _ => 0, g⟩ (fun r => ∀ c : Dev Cert.FfnfKernelIdeal.nD,
          r.2.mem ((c.tc : Thread Cert.FfnfKernelIdeal.nD Cert.FfnfKernelIdeal.τ).loc Cert.FfnfKernelIdeal.main_v10_0) = v0 c
          ∧ r.2.mem ((c.tc : Thread Cert.FfnfKernelIdeal.nD Cert.FfnfKernelIdeal.τ).loc Cert.FfnfKernelIdeal.main_v10_1) = v1 c
          ∧ r.2.mem ((c.tc : Thread Cert.FfnfKernelIdeal.nD Cert.FfnfKernelIdeal.τ).loc Cert.FfnfKernelIdeal.main_v10_2) = v2 c
          ∧ r.2.mem ((c.tc : Thread Cert.FfnfKernelIdeal.nD Cert.FfnfKernelIdeal.τ).loc Cert.FfnfKernelIdeal.main_arg0) = m ((c.tc : Thread Cert.FfnfKernelIdeal.nD Cert.FfnfKernelIdeal.τ).loc Cert.FfnfKernelIdeal.main_arg0)
          ∧ r.2.mem ((c.tc : Thread Cert.FfnfKernelIdeal.nD Cert.FfnfKernelIdeal.τ).loc Cert.FfnfKernelIdeal.main_arg1) = m ((c.tc : Thread Cert.FfnfKernelIdeal.nD Cert.FfnfKernelIdeal.τ).loc Cert.FfnfKernelIdeal.main_arg1)
          ∧ r.2.mem ((c.tc : Thread Cert.FfnfKernelIdeal.nD Cert.FfnfKernelIdeal.τ).loc Cert.FfnfKernelIdeal.main_arg2) = m ((c.tc : Thread Cert.FfnfKernelIdeal.nD Cert.FfnfKernelIdeal.τ).loc Cert.FfnfKernelIdeal.main_arg2))
      ∧ θ_run (Cert.FfnfReferenceIdeal.defs (F := Ideal)) (onTc (τ := Cert.FfnfReferenceIdeal.τ) (Cert.FfnfReferenceIdeal.main (F := Ideal))) ⟨m', fun _ => 0, g'⟩ (fun r => ∀ c : Dev Cert.FfnfReferenceIdeal.nD,
          r.2.mem ((c.tc : Thread Cert.FfnfReferenceIdeal.nD Cert.FfnfReferenceIdeal.τ).loc Cert.FfnfReferenceIdeal.main_v8) = v0 c
          ∧ r.2.mem ((c.tc : Thread Cert.FfnfReferenceIdeal.nD Cert.FfnfReferenceIdeal.τ).loc Cert.FfnfReferenceIdeal.main_v13) = v1 c
          ∧ r.2.mem ((c.tc : Thread Cert.FfnfReferenceIdeal.nD Cert.FfnfReferenceIdeal.τ).loc Cert.FfnfReferenceIdeal.main_v19) = v2 c
          ∧ r.2.mem ((c.tc : Thread Cert.FfnfReferenceIdeal.nD Cert.FfnfReferenceIdeal.τ).loc Cert.FfnfReferenceIdeal.main_arg0) = m' ((c.tc : Thread Cert.FfnfReferenceIdeal.nD Cert.FfnfReferenceIdeal.τ).loc Cert.FfnfReferenceIdeal.main_arg0)
          ∧ r.2.mem ((c.tc : Thread Cert.FfnfReferenceIdeal.nD Cert.FfnfReferenceIdeal.τ).loc Cert.FfnfReferenceIdeal.main_arg1) = m' ((c.tc : Thread Cert.FfnfReferenceIdeal.nD Cert.FfnfReferenceIdeal.τ).loc Cert.FfnfReferenceIdeal.main_arg1)
          ∧ r.2.mem ((c.tc : Thread Cert.FfnfReferenceIdeal.nD Cert.FfnfReferenceIdeal.τ).loc Cert.FfnfReferenceIdeal.main_arg2) = m' ((c.tc : Thread Cert.FfnfReferenceIdeal.nD Cert.FfnfReferenceIdeal.τ).loc Cert.FfnfReferenceIdeal.main_arg2))

def preserves_DtfKernel_DtfKernelIdeal : Prop :=
  True

def algebraic_DtfKernelIdeal_DtfReferenceIdeal [hDtfKernelIdeal : Cert.DtfKernelIdeal.Facts] [hDtfReferenceIdeal : Cert.DtfReferenceIdeal.Facts] : Prop :=
  ∀ (m : (ℓ : Loc Cert.DtfKernelIdeal.nD Cert.DtfKernelIdeal.τ Cert.DtfKernelIdeal.sig) → Buf (Elt Ideal) ℓ) (g : Dev Cert.DtfKernelIdeal.nD → PrngReg)
    (m' : (ℓ : Loc Cert.DtfReferenceIdeal.nD Cert.DtfReferenceIdeal.τ Cert.DtfReferenceIdeal.sig) → Buf (Elt Ideal) ℓ) (g' : Dev Cert.DtfReferenceIdeal.nD → PrngReg), Pre_DtfKernelIdeal m →
    (∀ c : Dev Cert.DtfKernelIdeal.nD,
      m' ((c.tc : Thread Cert.DtfReferenceIdeal.nD Cert.DtfReferenceIdeal.τ).loc Cert.DtfReferenceIdeal.main_arg0) = m ((c.tc : Thread Cert.DtfKernelIdeal.nD Cert.DtfKernelIdeal.τ).loc Cert.DtfKernelIdeal.main_arg0)
      ∧ m' ((c.tc : Thread Cert.DtfReferenceIdeal.nD Cert.DtfReferenceIdeal.τ).loc Cert.DtfReferenceIdeal.main_arg1) = m ((c.tc : Thread Cert.DtfKernelIdeal.nD Cert.DtfKernelIdeal.τ).loc Cert.DtfKernelIdeal.main_arg1)) →
    ∃ (v0 : (c : Dev Cert.DtfKernelIdeal.nD) → Buf (Elt Ideal) ((c.tc : Thread Cert.DtfKernelIdeal.nD Cert.DtfKernelIdeal.τ).loc Cert.DtfKernelIdeal.main_v5)) (v1 : (c : Dev Cert.DtfKernelIdeal.nD) → Buf (Elt Ideal) ((c.tc : Thread Cert.DtfKernelIdeal.nD Cert.DtfKernelIdeal.τ).loc Cert.DtfKernelIdeal.main_v6)),
      θ_run (Cert.DtfKernelIdeal.defs (F := Ideal)) (onTc (τ := Cert.DtfKernelIdeal.τ) (Cert.DtfKernelIdeal.main (F := Ideal))) ⟨m, fun _ => 0, g⟩ (fun r => ∀ c : Dev Cert.DtfKernelIdeal.nD,
          r.2.mem ((c.tc : Thread Cert.DtfKernelIdeal.nD Cert.DtfKernelIdeal.τ).loc Cert.DtfKernelIdeal.main_v5) = v0 c
          ∧ r.2.mem ((c.tc : Thread Cert.DtfKernelIdeal.nD Cert.DtfKernelIdeal.τ).loc Cert.DtfKernelIdeal.main_v6) = v1 c
          ∧ r.2.mem ((c.tc : Thread Cert.DtfKernelIdeal.nD Cert.DtfKernelIdeal.τ).loc Cert.DtfKernelIdeal.main_arg0) = m ((c.tc : Thread Cert.DtfKernelIdeal.nD Cert.DtfKernelIdeal.τ).loc Cert.DtfKernelIdeal.main_arg0)
          ∧ r.2.mem ((c.tc : Thread Cert.DtfKernelIdeal.nD Cert.DtfKernelIdeal.τ).loc Cert.DtfKernelIdeal.main_arg1) = m ((c.tc : Thread Cert.DtfKernelIdeal.nD Cert.DtfKernelIdeal.τ).loc Cert.DtfKernelIdeal.main_arg1))
      ∧ θ_run (Cert.DtfReferenceIdeal.defs (F := Ideal)) (onTc (τ := Cert.DtfReferenceIdeal.τ) (Cert.DtfReferenceIdeal.main (F := Ideal))) ⟨m', fun _ => 0, g'⟩ (fun r => ∀ c : Dev Cert.DtfReferenceIdeal.nD,
          r.2.mem ((c.tc : Thread Cert.DtfReferenceIdeal.nD Cert.DtfReferenceIdeal.τ).loc Cert.DtfReferenceIdeal.main_v5) = v0 c
          ∧ r.2.mem ((c.tc : Thread Cert.DtfReferenceIdeal.nD Cert.DtfReferenceIdeal.τ).loc Cert.DtfReferenceIdeal.main_v6) = v1 c
          ∧ r.2.mem ((c.tc : Thread Cert.DtfReferenceIdeal.nD Cert.DtfReferenceIdeal.τ).loc Cert.DtfReferenceIdeal.main_arg0) = m' ((c.tc : Thread Cert.DtfReferenceIdeal.nD Cert.DtfReferenceIdeal.τ).loc Cert.DtfReferenceIdeal.main_arg0)
          ∧ r.2.mem ((c.tc : Thread Cert.DtfReferenceIdeal.nD Cert.DtfReferenceIdeal.τ).loc Cert.DtfReferenceIdeal.main_arg1) = m' ((c.tc : Thread Cert.DtfReferenceIdeal.nD Cert.DtfReferenceIdeal.τ).loc Cert.DtfReferenceIdeal.main_arg1))

def preserves_GatefKernel_GatefKernelIdeal : Prop :=
  True

def algebraic_GatefKernelIdeal_GatefReferenceIdeal_pre_finite_gatef [hGatefKernelIdeal : Cert.GatefKernelIdeal.Facts] [hGatefReferenceIdeal : Cert.GatefReferenceIdeal.Facts] [hPre_finite_gatef : Cert.Pre_finite_gatef.Facts] : Prop :=
  ∀ (m : (ℓ : Loc Cert.GatefKernelIdeal.nD Cert.GatefKernelIdeal.τ Cert.GatefKernelIdeal.sig) → Buf (Elt Ideal) ℓ) (g : Dev Cert.GatefKernelIdeal.nD → PrngReg)
    (m' : (ℓ : Loc Cert.GatefReferenceIdeal.nD Cert.GatefReferenceIdeal.τ Cert.GatefReferenceIdeal.sig) → Buf (Elt Ideal) ℓ) (g' : Dev Cert.GatefReferenceIdeal.nD → PrngReg), Pre_GatefKernelIdeal_finite_gatef m →
    (∀ c : Dev Cert.GatefKernelIdeal.nD,
      m' ((c.tc : Thread Cert.GatefReferenceIdeal.nD Cert.GatefReferenceIdeal.τ).loc Cert.GatefReferenceIdeal.main_arg0) = m ((c.tc : Thread Cert.GatefKernelIdeal.nD Cert.GatefKernelIdeal.τ).loc Cert.GatefKernelIdeal.main_arg0)
      ∧ m' ((c.tc : Thread Cert.GatefReferenceIdeal.nD Cert.GatefReferenceIdeal.τ).loc Cert.GatefReferenceIdeal.main_arg1) = m ((c.tc : Thread Cert.GatefKernelIdeal.nD Cert.GatefKernelIdeal.τ).loc Cert.GatefKernelIdeal.main_arg1)) →
    ∃ (v0 : (c : Dev Cert.GatefKernelIdeal.nD) → Buf (Elt Ideal) ((c.tc : Thread Cert.GatefKernelIdeal.nD Cert.GatefKernelIdeal.τ).loc Cert.GatefKernelIdeal.main_v5)) (v1 : (c : Dev Cert.GatefKernelIdeal.nD) → Buf (Elt Ideal) ((c.tc : Thread Cert.GatefKernelIdeal.nD Cert.GatefKernelIdeal.τ).loc Cert.GatefKernelIdeal.main_v6)),
      θ_run (Cert.GatefKernelIdeal.defs (F := Ideal)) (onTc (τ := Cert.GatefKernelIdeal.τ) (Cert.GatefKernelIdeal.main (F := Ideal))) ⟨m, fun _ => 0, g⟩ (fun r => ∀ c : Dev Cert.GatefKernelIdeal.nD,
          r.2.mem ((c.tc : Thread Cert.GatefKernelIdeal.nD Cert.GatefKernelIdeal.τ).loc Cert.GatefKernelIdeal.main_v5) = v0 c
          ∧ r.2.mem ((c.tc : Thread Cert.GatefKernelIdeal.nD Cert.GatefKernelIdeal.τ).loc Cert.GatefKernelIdeal.main_v6) = v1 c
          ∧ r.2.mem ((c.tc : Thread Cert.GatefKernelIdeal.nD Cert.GatefKernelIdeal.τ).loc Cert.GatefKernelIdeal.main_arg0) = m ((c.tc : Thread Cert.GatefKernelIdeal.nD Cert.GatefKernelIdeal.τ).loc Cert.GatefKernelIdeal.main_arg0)
          ∧ r.2.mem ((c.tc : Thread Cert.GatefKernelIdeal.nD Cert.GatefKernelIdeal.τ).loc Cert.GatefKernelIdeal.main_arg1) = m ((c.tc : Thread Cert.GatefKernelIdeal.nD Cert.GatefKernelIdeal.τ).loc Cert.GatefKernelIdeal.main_arg1))
      ∧ θ_run (Cert.GatefReferenceIdeal.defs (F := Ideal)) (onTc (τ := Cert.GatefReferenceIdeal.τ) (Cert.GatefReferenceIdeal.main (F := Ideal))) ⟨m', fun _ => 0, g'⟩ (fun r => ∀ c : Dev Cert.GatefReferenceIdeal.nD,
          r.2.mem ((c.tc : Thread Cert.GatefReferenceIdeal.nD Cert.GatefReferenceIdeal.τ).loc Cert.GatefReferenceIdeal.main_v6) = v0 c
          ∧ r.2.mem ((c.tc : Thread Cert.GatefReferenceIdeal.nD Cert.GatefReferenceIdeal.τ).loc Cert.GatefReferenceIdeal.main_v7) = v1 c
          ∧ r.2.mem ((c.tc : Thread Cert.GatefReferenceIdeal.nD Cert.GatefReferenceIdeal.τ).loc Cert.GatefReferenceIdeal.main_arg0) = m' ((c.tc : Thread Cert.GatefReferenceIdeal.nD Cert.GatefReferenceIdeal.τ).loc Cert.GatefReferenceIdeal.main_arg0)
          ∧ r.2.mem ((c.tc : Thread Cert.GatefReferenceIdeal.nD Cert.GatefReferenceIdeal.τ).loc Cert.GatefReferenceIdeal.main_arg1) = m' ((c.tc : Thread Cert.GatefReferenceIdeal.nD Cert.GatefReferenceIdeal.τ).loc Cert.GatefReferenceIdeal.main_arg1))

def preserves_ConvfKernel_ConvfKernelIdeal : Prop :=
  True

def algebraic_ConvfKernelIdeal_ConvfReferenceIdeal [hConvfKernelIdeal : Cert.ConvfKernelIdeal.Facts] [hConvfReferenceIdeal : Cert.ConvfReferenceIdeal.Facts] : Prop :=
  ∀ (m : (ℓ : Loc Cert.ConvfKernelIdeal.nD Cert.ConvfKernelIdeal.τ Cert.ConvfKernelIdeal.sig) → Buf (Elt Ideal) ℓ) (g : Dev Cert.ConvfKernelIdeal.nD → PrngReg)
    (m' : (ℓ : Loc Cert.ConvfReferenceIdeal.nD Cert.ConvfReferenceIdeal.τ Cert.ConvfReferenceIdeal.sig) → Buf (Elt Ideal) ℓ) (g' : Dev Cert.ConvfReferenceIdeal.nD → PrngReg), Pre_ConvfKernelIdeal m →
    (∀ c : Dev Cert.ConvfKernelIdeal.nD,
      m' ((c.tc : Thread Cert.ConvfReferenceIdeal.nD Cert.ConvfReferenceIdeal.τ).loc Cert.ConvfReferenceIdeal.main_arg0) = m ((c.tc : Thread Cert.ConvfKernelIdeal.nD Cert.ConvfKernelIdeal.τ).loc Cert.ConvfKernelIdeal.main_arg0)
      ∧ m' ((c.tc : Thread Cert.ConvfReferenceIdeal.nD Cert.ConvfReferenceIdeal.τ).loc Cert.ConvfReferenceIdeal.main_arg1) = m ((c.tc : Thread Cert.ConvfKernelIdeal.nD Cert.ConvfKernelIdeal.τ).loc Cert.ConvfKernelIdeal.main_arg1)
      ∧ m' ((c.tc : Thread Cert.ConvfReferenceIdeal.nD Cert.ConvfReferenceIdeal.τ).loc Cert.ConvfReferenceIdeal.main_arg2) = m ((c.tc : Thread Cert.ConvfKernelIdeal.nD Cert.ConvfKernelIdeal.τ).loc Cert.ConvfKernelIdeal.main_arg2)) →
    ∃ (v0 : (c : Dev Cert.ConvfKernelIdeal.nD) → Buf (Elt Ideal) ((c.tc : Thread Cert.ConvfKernelIdeal.nD Cert.ConvfKernelIdeal.τ).loc Cert.ConvfKernelIdeal.main_v4)),
      θ_run (Cert.ConvfKernelIdeal.defs (F := Ideal)) (onTc (τ := Cert.ConvfKernelIdeal.τ) (Cert.ConvfKernelIdeal.main (F := Ideal))) ⟨m, fun _ => 0, g⟩ (fun r => ∀ c : Dev Cert.ConvfKernelIdeal.nD,
          r.2.mem ((c.tc : Thread Cert.ConvfKernelIdeal.nD Cert.ConvfKernelIdeal.τ).loc Cert.ConvfKernelIdeal.main_v4) = v0 c
          ∧ r.2.mem ((c.tc : Thread Cert.ConvfKernelIdeal.nD Cert.ConvfKernelIdeal.τ).loc Cert.ConvfKernelIdeal.main_arg0) = m ((c.tc : Thread Cert.ConvfKernelIdeal.nD Cert.ConvfKernelIdeal.τ).loc Cert.ConvfKernelIdeal.main_arg0)
          ∧ r.2.mem ((c.tc : Thread Cert.ConvfKernelIdeal.nD Cert.ConvfKernelIdeal.τ).loc Cert.ConvfKernelIdeal.main_arg1) = m ((c.tc : Thread Cert.ConvfKernelIdeal.nD Cert.ConvfKernelIdeal.τ).loc Cert.ConvfKernelIdeal.main_arg1)
          ∧ r.2.mem ((c.tc : Thread Cert.ConvfKernelIdeal.nD Cert.ConvfKernelIdeal.τ).loc Cert.ConvfKernelIdeal.main_arg2) = m ((c.tc : Thread Cert.ConvfKernelIdeal.nD Cert.ConvfKernelIdeal.τ).loc Cert.ConvfKernelIdeal.main_arg2))
      ∧ θ_run (Cert.ConvfReferenceIdeal.defs (F := Ideal)) (onTc (τ := Cert.ConvfReferenceIdeal.τ) (Cert.ConvfReferenceIdeal.main (F := Ideal))) ⟨m', fun _ => 0, g'⟩ (fun r => ∀ c : Dev Cert.ConvfReferenceIdeal.nD,
          r.2.mem ((c.tc : Thread Cert.ConvfReferenceIdeal.nD Cert.ConvfReferenceIdeal.τ).loc Cert.ConvfReferenceIdeal.main_v35) = v0 c
          ∧ r.2.mem ((c.tc : Thread Cert.ConvfReferenceIdeal.nD Cert.ConvfReferenceIdeal.τ).loc Cert.ConvfReferenceIdeal.main_arg0) = m' ((c.tc : Thread Cert.ConvfReferenceIdeal.nD Cert.ConvfReferenceIdeal.τ).loc Cert.ConvfReferenceIdeal.main_arg0)
          ∧ r.2.mem ((c.tc : Thread Cert.ConvfReferenceIdeal.nD Cert.ConvfReferenceIdeal.τ).loc Cert.ConvfReferenceIdeal.main_arg1) = m' ((c.tc : Thread Cert.ConvfReferenceIdeal.nD Cert.ConvfReferenceIdeal.τ).loc Cert.ConvfReferenceIdeal.main_arg1)
          ∧ r.2.mem ((c.tc : Thread Cert.ConvfReferenceIdeal.nD Cert.ConvfReferenceIdeal.τ).loc Cert.ConvfReferenceIdeal.main_arg2) = m' ((c.tc : Thread Cert.ConvfReferenceIdeal.nD Cert.ConvfReferenceIdeal.τ).loc Cert.ConvfReferenceIdeal.main_arg2))

def preserves_MixKernel_MixKernelIdeal : Prop :=
  True

def algebraic_MixKernelIdeal_MixReferenceIdeal [hMixKernelIdeal : Cert.MixKernelIdeal.Facts] [hMixReferenceIdeal : Cert.MixReferenceIdeal.Facts] : Prop :=
  ∀ (m : (ℓ : Loc Cert.MixKernelIdeal.nD Cert.MixKernelIdeal.τ Cert.MixKernelIdeal.sig) → Buf (Elt Ideal) ℓ) (g : Dev Cert.MixKernelIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixKernelIdeal m →
    (∀ c : Dev Cert.MixKernelIdeal.nD,
      m' ((c.tc : Thread Cert.MixReferenceIdeal.nD Cert.MixReferenceIdeal.τ).loc Cert.MixReferenceIdeal.main_arg0) = m ((c.tc : Thread Cert.MixKernelIdeal.nD Cert.MixKernelIdeal.τ).loc Cert.MixKernelIdeal.main_arg0)
      ∧ m' ((c.tc : Thread Cert.MixReferenceIdeal.nD Cert.MixReferenceIdeal.τ).loc Cert.MixReferenceIdeal.main_arg1) = m ((c.tc : Thread Cert.MixKernelIdeal.nD Cert.MixKernelIdeal.τ).loc Cert.MixKernelIdeal.main_arg1)
      ∧ m' ((c.tc : Thread Cert.MixReferenceIdeal.nD Cert.MixReferenceIdeal.τ).loc Cert.MixReferenceIdeal.main_arg2) = m ((c.tc : Thread Cert.MixKernelIdeal.nD Cert.MixKernelIdeal.τ).loc Cert.MixKernelIdeal.main_arg2)
      ∧ m' ((c.tc : Thread Cert.MixReferenceIdeal.nD Cert.MixReferenceIdeal.τ).loc Cert.MixReferenceIdeal.main_arg3) = m ((c.tc : Thread Cert.MixKernelIdeal.nD Cert.MixKernelIdeal.τ).loc Cert.MixKernelIdeal.main_arg3)
      ∧ m' ((c.tc : Thread Cert.MixReferenceIdeal.nD Cert.MixReferenceIdeal.τ).loc Cert.MixReferenceIdeal.main_arg4) = m ((c.tc : Thread Cert.MixKernelIdeal.nD Cert.MixKernelIdeal.τ).loc Cert.MixKernelIdeal.main_arg4)) →
    ∃ (v0 : (c : Dev Cert.MixKernelIdeal.nD) → Buf (Elt Ideal) ((c.tc : Thread Cert.MixKernelIdeal.nD Cert.MixKernelIdeal.τ).loc Cert.MixKernelIdeal.main_v9_0)) (v1 : (c : Dev Cert.MixKernelIdeal.nD) → Buf (Elt Ideal) ((c.tc : Thread Cert.MixKernelIdeal.nD Cert.MixKernelIdeal.τ).loc Cert.MixKernelIdeal.main_v9_1)) (v2 : (c : Dev Cert.MixKernelIdeal.nD) → Buf (Elt Ideal) ((c.tc : Thread Cert.MixKernelIdeal.nD Cert.MixKernelIdeal.τ).loc Cert.MixKernelIdeal.main_v9_2)),
      θ_run (Cert.MixKernelIdeal.defs (F := Ideal)) (onTc (τ := Cert.MixKernelIdeal.τ) (Cert.MixKernelIdeal.main (F := Ideal))) ⟨m, fun _ => 0, g⟩ (fun r => ∀ c : Dev Cert.MixKernelIdeal.nD,
          r.2.mem ((c.tc : Thread Cert.MixKernelIdeal.nD Cert.MixKernelIdeal.τ).loc Cert.MixKernelIdeal.main_v9_0) = v0 c
          ∧ r.2.mem ((c.tc : Thread Cert.MixKernelIdeal.nD Cert.MixKernelIdeal.τ).loc Cert.MixKernelIdeal.main_v9_1) = v1 c
          ∧ r.2.mem ((c.tc : Thread Cert.MixKernelIdeal.nD Cert.MixKernelIdeal.τ).loc Cert.MixKernelIdeal.main_v9_2) = v2 c
          ∧ r.2.mem ((c.tc : Thread Cert.MixKernelIdeal.nD Cert.MixKernelIdeal.τ).loc Cert.MixKernelIdeal.main_arg0) = m ((c.tc : Thread Cert.MixKernelIdeal.nD Cert.MixKernelIdeal.τ).loc Cert.MixKernelIdeal.main_arg0)
          ∧ r.2.mem ((c.tc : Thread Cert.MixKernelIdeal.nD Cert.MixKernelIdeal.τ).loc Cert.MixKernelIdeal.main_arg1) = m ((c.tc : Thread Cert.MixKernelIdeal.nD Cert.MixKernelIdeal.τ).loc Cert.MixKernelIdeal.main_arg1)
          ∧ r.2.mem ((c.tc : Thread Cert.MixKernelIdeal.nD Cert.MixKernelIdeal.τ).loc Cert.MixKernelIdeal.main_arg2) = m ((c.tc : Thread Cert.MixKernelIdeal.nD Cert.MixKernelIdeal.τ).loc Cert.MixKernelIdeal.main_arg2)
          ∧ r.2.mem ((c.tc : Thread Cert.MixKernelIdeal.nD Cert.MixKernelIdeal.τ).loc Cert.MixKernelIdeal.main_arg3) = m ((c.tc : Thread Cert.MixKernelIdeal.nD Cert.MixKernelIdeal.τ).loc Cert.MixKernelIdeal.main_arg3)
          ∧ r.2.mem ((c.tc : Thread Cert.MixKernelIdeal.nD Cert.MixKernelIdeal.τ).loc Cert.MixKernelIdeal.main_arg4) = m ((c.tc : Thread Cert.MixKernelIdeal.nD Cert.MixKernelIdeal.τ).loc Cert.MixKernelIdeal.main_arg4))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v4) = v0 c
          ∧ r.2.mem ((c.tc : Thread Cert.MixReferenceIdeal.nD Cert.MixReferenceIdeal.τ).loc Cert.MixReferenceIdeal.main_v31) = v1 c
          ∧ r.2.mem ((c.tc : Thread Cert.MixReferenceIdeal.nD Cert.MixReferenceIdeal.τ).loc Cert.MixReferenceIdeal.main_v32) = v2 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4))

def preserves_DownfKernel_DownfKernelIdeal : Prop :=
  True

def algebraic_DownfKernelIdeal_DownfReferenceIdeal [hDownfKernelIdeal : Cert.DownfKernelIdeal.Facts] [hDownfReferenceIdeal : Cert.DownfReferenceIdeal.Facts] : Prop :=
  ∀ (m : (ℓ : Loc Cert.DownfKernelIdeal.nD Cert.DownfKernelIdeal.τ Cert.DownfKernelIdeal.sig) → Buf (Elt Ideal) ℓ) (g : Dev Cert.DownfKernelIdeal.nD → PrngReg)
    (m' : (ℓ : Loc Cert.DownfReferenceIdeal.nD Cert.DownfReferenceIdeal.τ Cert.DownfReferenceIdeal.sig) → Buf (Elt Ideal) ℓ) (g' : Dev Cert.DownfReferenceIdeal.nD → PrngReg), Pre_DownfKernelIdeal m →
    (∀ c : Dev Cert.DownfKernelIdeal.nD,
      m' ((c.tc : Thread Cert.DownfReferenceIdeal.nD Cert.DownfReferenceIdeal.τ).loc Cert.DownfReferenceIdeal.main_arg0) = m ((c.tc : Thread Cert.DownfKernelIdeal.nD Cert.DownfKernelIdeal.τ).loc Cert.DownfKernelIdeal.main_arg0)
      ∧ m' ((c.tc : Thread Cert.DownfReferenceIdeal.nD Cert.DownfReferenceIdeal.τ).loc Cert.DownfReferenceIdeal.main_arg1) = m ((c.tc : Thread Cert.DownfKernelIdeal.nD Cert.DownfKernelIdeal.τ).loc Cert.DownfKernelIdeal.main_arg1)
      ∧ m' ((c.tc : Thread Cert.DownfReferenceIdeal.nD Cert.DownfReferenceIdeal.τ).loc Cert.DownfReferenceIdeal.main_arg2) = m ((c.tc : Thread Cert.DownfKernelIdeal.nD Cert.DownfKernelIdeal.τ).loc Cert.DownfKernelIdeal.main_arg2)
      ∧ m' ((c.tc : Thread Cert.DownfReferenceIdeal.nD Cert.DownfReferenceIdeal.τ).loc Cert.DownfReferenceIdeal.main_arg3) = m ((c.tc : Thread Cert.DownfKernelIdeal.nD Cert.DownfKernelIdeal.τ).loc Cert.DownfKernelIdeal.main_arg3)
      ∧ m' ((c.tc : Thread Cert.DownfReferenceIdeal.nD Cert.DownfReferenceIdeal.τ).loc Cert.DownfReferenceIdeal.main_arg4) = m ((c.tc : Thread Cert.DownfKernelIdeal.nD Cert.DownfKernelIdeal.τ).loc Cert.DownfKernelIdeal.main_arg4)) →
    ∃ (v0 : (c : Dev Cert.DownfKernelIdeal.nD) → Buf (Elt Ideal) ((c.tc : Thread Cert.DownfKernelIdeal.nD Cert.DownfKernelIdeal.τ).loc Cert.DownfKernelIdeal.main_v13_0)) (v1 : (c : Dev Cert.DownfKernelIdeal.nD) → Buf (Elt Ideal) ((c.tc : Thread Cert.DownfKernelIdeal.nD Cert.DownfKernelIdeal.τ).loc Cert.DownfKernelIdeal.main_v13_1)) (v2 : (c : Dev Cert.DownfKernelIdeal.nD) → Buf (Elt Ideal) ((c.tc : Thread Cert.DownfKernelIdeal.nD Cert.DownfKernelIdeal.τ).loc Cert.DownfKernelIdeal.main_v13_2)),
      θ_run (Cert.DownfKernelIdeal.defs (F := Ideal)) (onTc (τ := Cert.DownfKernelIdeal.τ) (Cert.DownfKernelIdeal.main (F := Ideal))) ⟨m, fun _ => 0, g⟩ (fun r => ∀ c : Dev Cert.DownfKernelIdeal.nD,
          r.2.mem ((c.tc : Thread Cert.DownfKernelIdeal.nD Cert.DownfKernelIdeal.τ).loc Cert.DownfKernelIdeal.main_v13_0) = v0 c
          ∧ r.2.mem ((c.tc : Thread Cert.DownfKernelIdeal.nD Cert.DownfKernelIdeal.τ).loc Cert.DownfKernelIdeal.main_v13_1) = v1 c
          ∧ r.2.mem ((c.tc : Thread Cert.DownfKernelIdeal.nD Cert.DownfKernelIdeal.τ).loc Cert.DownfKernelIdeal.main_v13_2) = v2 c
          ∧ r.2.mem ((c.tc : Thread Cert.DownfKernelIdeal.nD Cert.DownfKernelIdeal.τ).loc Cert.DownfKernelIdeal.main_arg0) = m ((c.tc : Thread Cert.DownfKernelIdeal.nD Cert.DownfKernelIdeal.τ).loc Cert.DownfKernelIdeal.main_arg0)
          ∧ r.2.mem ((c.tc : Thread Cert.DownfKernelIdeal.nD Cert.DownfKernelIdeal.τ).loc Cert.DownfKernelIdeal.main_arg1) = m ((c.tc : Thread Cert.DownfKernelIdeal.nD Cert.DownfKernelIdeal.τ).loc Cert.DownfKernelIdeal.main_arg1)
          ∧ r.2.mem ((c.tc : Thread Cert.DownfKernelIdeal.nD Cert.DownfKernelIdeal.τ).loc Cert.DownfKernelIdeal.main_arg2) = m ((c.tc : Thread Cert.DownfKernelIdeal.nD Cert.DownfKernelIdeal.τ).loc Cert.DownfKernelIdeal.main_arg2)
          ∧ r.2.mem ((c.tc : Thread Cert.DownfKernelIdeal.nD Cert.DownfKernelIdeal.τ).loc Cert.DownfKernelIdeal.main_arg3) = m ((c.tc : Thread Cert.DownfKernelIdeal.nD Cert.DownfKernelIdeal.τ).loc Cert.DownfKernelIdeal.main_arg3)
          ∧ r.2.mem ((c.tc : Thread Cert.DownfKernelIdeal.nD Cert.DownfKernelIdeal.τ).loc Cert.DownfKernelIdeal.main_arg4) = m ((c.tc : Thread Cert.DownfKernelIdeal.nD Cert.DownfKernelIdeal.τ).loc Cert.DownfKernelIdeal.main_arg4))
      ∧ θ_run (Cert.DownfReferenceIdeal.defs (F := Ideal)) (onTc (τ := Cert.DownfReferenceIdeal.τ) (Cert.DownfReferenceIdeal.main (F := Ideal))) ⟨m', fun _ => 0, g'⟩ (fun r => ∀ c : Dev Cert.DownfReferenceIdeal.nD,
          r.2.mem ((c.tc : Thread Cert.DownfReferenceIdeal.nD Cert.DownfReferenceIdeal.τ).loc Cert.DownfReferenceIdeal.main_v4) = v0 c
          ∧ r.2.mem ((c.tc : Thread Cert.DownfReferenceIdeal.nD Cert.DownfReferenceIdeal.τ).loc Cert.DownfReferenceIdeal.main_v33) = v1 c
          ∧ r.2.mem ((c.tc : Thread Cert.DownfReferenceIdeal.nD Cert.DownfReferenceIdeal.τ).loc Cert.DownfReferenceIdeal.main_v34) = v2 c
          ∧ r.2.mem ((c.tc : Thread Cert.DownfReferenceIdeal.nD Cert.DownfReferenceIdeal.τ).loc Cert.DownfReferenceIdeal.main_arg0) = m' ((c.tc : Thread Cert.DownfReferenceIdeal.nD Cert.DownfReferenceIdeal.τ).loc Cert.DownfReferenceIdeal.main_arg0)
          ∧ r.2.mem ((c.tc : Thread Cert.DownfReferenceIdeal.nD Cert.DownfReferenceIdeal.τ).loc Cert.DownfReferenceIdeal.main_arg1) = m' ((c.tc : Thread Cert.DownfReferenceIdeal.nD Cert.DownfReferenceIdeal.τ).loc Cert.DownfReferenceIdeal.main_arg1)
          ∧ r.2.mem ((c.tc : Thread Cert.DownfReferenceIdeal.nD Cert.DownfReferenceIdeal.τ).loc Cert.DownfReferenceIdeal.main_arg2) = m' ((c.tc : Thread Cert.DownfReferenceIdeal.nD Cert.DownfReferenceIdeal.τ).loc Cert.DownfReferenceIdeal.main_arg2)
          ∧ r.2.mem ((c.tc : Thread Cert.DownfReferenceIdeal.nD Cert.DownfReferenceIdeal.τ).loc Cert.DownfReferenceIdeal.main_arg3) = m' ((c.tc : Thread Cert.DownfReferenceIdeal.nD Cert.DownfReferenceIdeal.τ).loc Cert.DownfReferenceIdeal.main_arg3)
          ∧ r.2.mem ((c.tc : Thread Cert.DownfReferenceIdeal.nD Cert.DownfReferenceIdeal.τ).loc Cert.DownfReferenceIdeal.main_arg4) = m' ((c.tc : Thread Cert.DownfReferenceIdeal.nD Cert.DownfReferenceIdeal.τ).loc Cert.DownfReferenceIdeal.main_arg4))

def preserves_GudxKernel_GudxKernelIdeal : Prop :=
  True

def algebraic_GudxKernelIdeal_GudxReferenceIdeal [hGudxKernelIdeal : Cert.GudxKernelIdeal.Facts] [hGudxReferenceIdeal : Cert.GudxReferenceIdeal.Facts] : Prop :=
  ∀ (m : (ℓ : Loc Cert.GudxKernelIdeal.nD Cert.GudxKernelIdeal.τ Cert.GudxKernelIdeal.sig) → Buf (Elt Ideal) ℓ) (g : Dev Cert.GudxKernelIdeal.nD → PrngReg)
    (m' : (ℓ : Loc Cert.GudxReferenceIdeal.nD Cert.GudxReferenceIdeal.τ Cert.GudxReferenceIdeal.sig) → Buf (Elt Ideal) ℓ) (g' : Dev Cert.GudxReferenceIdeal.nD → PrngReg), Pre_GudxKernelIdeal m →
    (∀ c : Dev Cert.GudxKernelIdeal.nD,
      m' ((c.tc : Thread Cert.GudxReferenceIdeal.nD Cert.GudxReferenceIdeal.τ).loc Cert.GudxReferenceIdeal.main_arg0) = m ((c.tc : Thread Cert.GudxKernelIdeal.nD Cert.GudxKernelIdeal.τ).loc Cert.GudxKernelIdeal.main_arg0)
      ∧ m' ((c.tc : Thread Cert.GudxReferenceIdeal.nD Cert.GudxReferenceIdeal.τ).loc Cert.GudxReferenceIdeal.main_arg1) = m ((c.tc : Thread Cert.GudxKernelIdeal.nD Cert.GudxKernelIdeal.τ).loc Cert.GudxKernelIdeal.main_arg1)
      ∧ m' ((c.tc : Thread Cert.GudxReferenceIdeal.nD Cert.GudxReferenceIdeal.τ).loc Cert.GudxReferenceIdeal.main_arg2) = m ((c.tc : Thread Cert.GudxKernelIdeal.nD Cert.GudxKernelIdeal.τ).loc Cert.GudxKernelIdeal.main_arg2)
      ∧ m' ((c.tc : Thread Cert.GudxReferenceIdeal.nD Cert.GudxReferenceIdeal.τ).loc Cert.GudxReferenceIdeal.main_arg3) = m ((c.tc : Thread Cert.GudxKernelIdeal.nD Cert.GudxKernelIdeal.τ).loc Cert.GudxKernelIdeal.main_arg3)
      ∧ m' ((c.tc : Thread Cert.GudxReferenceIdeal.nD Cert.GudxReferenceIdeal.τ).loc Cert.GudxReferenceIdeal.main_arg4) = m ((c.tc : Thread Cert.GudxKernelIdeal.nD Cert.GudxKernelIdeal.τ).loc Cert.GudxKernelIdeal.main_arg4)
      ∧ m' ((c.tc : Thread Cert.GudxReferenceIdeal.nD Cert.GudxReferenceIdeal.τ).loc Cert.GudxReferenceIdeal.main_arg5) = m ((c.tc : Thread Cert.GudxKernelIdeal.nD Cert.GudxKernelIdeal.τ).loc Cert.GudxKernelIdeal.main_arg5)) →
    ∃ (v0 : (c : Dev Cert.GudxKernelIdeal.nD) → Buf (Elt Ideal) ((c.tc : Thread Cert.GudxKernelIdeal.nD Cert.GudxKernelIdeal.τ).loc Cert.GudxKernelIdeal.main_v22)),
      θ_run (Cert.GudxKernelIdeal.defs (F := Ideal)) (onTc (τ := Cert.GudxKernelIdeal.τ) (Cert.GudxKernelIdeal.main (F := Ideal))) ⟨m, fun _ => 0, g⟩ (fun r => ∀ c : Dev Cert.GudxKernelIdeal.nD,
          r.2.mem ((c.tc : Thread Cert.GudxKernelIdeal.nD Cert.GudxKernelIdeal.τ).loc Cert.GudxKernelIdeal.main_v22) = v0 c
          ∧ r.2.mem ((c.tc : Thread Cert.GudxKernelIdeal.nD Cert.GudxKernelIdeal.τ).loc Cert.GudxKernelIdeal.main_arg0) = m ((c.tc : Thread Cert.GudxKernelIdeal.nD Cert.GudxKernelIdeal.τ).loc Cert.GudxKernelIdeal.main_arg0)
          ∧ r.2.mem ((c.tc : Thread Cert.GudxKernelIdeal.nD Cert.GudxKernelIdeal.τ).loc Cert.GudxKernelIdeal.main_arg1) = m ((c.tc : Thread Cert.GudxKernelIdeal.nD Cert.GudxKernelIdeal.τ).loc Cert.GudxKernelIdeal.main_arg1)
          ∧ r.2.mem ((c.tc : Thread Cert.GudxKernelIdeal.nD Cert.GudxKernelIdeal.τ).loc Cert.GudxKernelIdeal.main_arg2) = m ((c.tc : Thread Cert.GudxKernelIdeal.nD Cert.GudxKernelIdeal.τ).loc Cert.GudxKernelIdeal.main_arg2)
          ∧ r.2.mem ((c.tc : Thread Cert.GudxKernelIdeal.nD Cert.GudxKernelIdeal.τ).loc Cert.GudxKernelIdeal.main_arg3) = m ((c.tc : Thread Cert.GudxKernelIdeal.nD Cert.GudxKernelIdeal.τ).loc Cert.GudxKernelIdeal.main_arg3)
          ∧ r.2.mem ((c.tc : Thread Cert.GudxKernelIdeal.nD Cert.GudxKernelIdeal.τ).loc Cert.GudxKernelIdeal.main_arg4) = m ((c.tc : Thread Cert.GudxKernelIdeal.nD Cert.GudxKernelIdeal.τ).loc Cert.GudxKernelIdeal.main_arg4)
          ∧ r.2.mem ((c.tc : Thread Cert.GudxKernelIdeal.nD Cert.GudxKernelIdeal.τ).loc Cert.GudxKernelIdeal.main_arg5) = m ((c.tc : Thread Cert.GudxKernelIdeal.nD Cert.GudxKernelIdeal.τ).loc Cert.GudxKernelIdeal.main_arg5))
      ∧ θ_run (Cert.GudxReferenceIdeal.defs (F := Ideal)) (onTc (τ := Cert.GudxReferenceIdeal.τ) (Cert.GudxReferenceIdeal.main (F := Ideal))) ⟨m', fun _ => 0, g'⟩ (fun r => ∀ c : Dev Cert.GudxReferenceIdeal.nD,
          r.2.mem ((c.tc : Thread Cert.GudxReferenceIdeal.nD Cert.GudxReferenceIdeal.τ).loc Cert.GudxReferenceIdeal.main_v7) = v0 c
          ∧ r.2.mem ((c.tc : Thread Cert.GudxReferenceIdeal.nD Cert.GudxReferenceIdeal.τ).loc Cert.GudxReferenceIdeal.main_arg0) = m' ((c.tc : Thread Cert.GudxReferenceIdeal.nD Cert.GudxReferenceIdeal.τ).loc Cert.GudxReferenceIdeal.main_arg0)
          ∧ r.2.mem ((c.tc : Thread Cert.GudxReferenceIdeal.nD Cert.GudxReferenceIdeal.τ).loc Cert.GudxReferenceIdeal.main_arg1) = m' ((c.tc : Thread Cert.GudxReferenceIdeal.nD Cert.GudxReferenceIdeal.τ).loc Cert.GudxReferenceIdeal.main_arg1)
          ∧ r.2.mem ((c.tc : Thread Cert.GudxReferenceIdeal.nD Cert.GudxReferenceIdeal.τ).loc Cert.GudxReferenceIdeal.main_arg2) = m' ((c.tc : Thread Cert.GudxReferenceIdeal.nD Cert.GudxReferenceIdeal.τ).loc Cert.GudxReferenceIdeal.main_arg2)
          ∧ r.2.mem ((c.tc : Thread Cert.GudxReferenceIdeal.nD Cert.GudxReferenceIdeal.τ).loc Cert.GudxReferenceIdeal.main_arg3) = m' ((c.tc : Thread Cert.GudxReferenceIdeal.nD Cert.GudxReferenceIdeal.τ).loc Cert.GudxReferenceIdeal.main_arg3)
          ∧ r.2.mem ((c.tc : Thread Cert.GudxReferenceIdeal.nD Cert.GudxReferenceIdeal.τ).loc Cert.GudxReferenceIdeal.main_arg4) = m' ((c.tc : Thread Cert.GudxReferenceIdeal.nD Cert.GudxReferenceIdeal.τ).loc Cert.GudxReferenceIdeal.main_arg4)
          ∧ r.2.mem ((c.tc : Thread Cert.GudxReferenceIdeal.nD Cert.GudxReferenceIdeal.τ).loc Cert.GudxReferenceIdeal.main_arg5) = m' ((c.tc : Thread Cert.GudxReferenceIdeal.nD Cert.GudxReferenceIdeal.τ).loc Cert.GudxReferenceIdeal.main_arg5))

def preserves_GudwKernel_GudwKernelIdeal : Prop :=
  True

def algebraic_GudwKernelIdeal_GudwReferenceIdeal [hGudwKernelIdeal : Cert.GudwKernelIdeal.Facts] [hGudwReferenceIdeal : Cert.GudwReferenceIdeal.Facts] : Prop :=
  ∀ (m : (ℓ : Loc Cert.GudwKernelIdeal.nD Cert.GudwKernelIdeal.τ Cert.GudwKernelIdeal.sig) → Buf (Elt Ideal) ℓ) (g : Dev Cert.GudwKernelIdeal.nD → PrngReg)
    (m' : (ℓ : Loc Cert.GudwReferenceIdeal.nD Cert.GudwReferenceIdeal.τ Cert.GudwReferenceIdeal.sig) → Buf (Elt Ideal) ℓ) (g' : Dev Cert.GudwReferenceIdeal.nD → PrngReg), Pre_GudwKernelIdeal m →
    (∀ c : Dev Cert.GudwKernelIdeal.nD,
      m' ((c.tc : Thread Cert.GudwReferenceIdeal.nD Cert.GudwReferenceIdeal.τ).loc Cert.GudwReferenceIdeal.main_arg0) = m ((c.tc : Thread Cert.GudwKernelIdeal.nD Cert.GudwKernelIdeal.τ).loc Cert.GudwKernelIdeal.main_arg0)
      ∧ m' ((c.tc : Thread Cert.GudwReferenceIdeal.nD Cert.GudwReferenceIdeal.τ).loc Cert.GudwReferenceIdeal.main_arg1) = m ((c.tc : Thread Cert.GudwKernelIdeal.nD Cert.GudwKernelIdeal.τ).loc Cert.GudwKernelIdeal.main_arg1)
      ∧ m' ((c.tc : Thread Cert.GudwReferenceIdeal.nD Cert.GudwReferenceIdeal.τ).loc Cert.GudwReferenceIdeal.main_arg2) = m ((c.tc : Thread Cert.GudwKernelIdeal.nD Cert.GudwKernelIdeal.τ).loc Cert.GudwKernelIdeal.main_arg2)
      ∧ m' ((c.tc : Thread Cert.GudwReferenceIdeal.nD Cert.GudwReferenceIdeal.τ).loc Cert.GudwReferenceIdeal.main_arg3) = m ((c.tc : Thread Cert.GudwKernelIdeal.nD Cert.GudwKernelIdeal.τ).loc Cert.GudwKernelIdeal.main_arg3)
      ∧ m' ((c.tc : Thread Cert.GudwReferenceIdeal.nD Cert.GudwReferenceIdeal.τ).loc Cert.GudwReferenceIdeal.main_arg4) = m ((c.tc : Thread Cert.GudwKernelIdeal.nD Cert.GudwKernelIdeal.τ).loc Cert.GudwKernelIdeal.main_arg4)) →
    ∃ (v0 : (c : Dev Cert.GudwKernelIdeal.nD) → Buf (Elt Ideal) ((c.tc : Thread Cert.GudwKernelIdeal.nD Cert.GudwKernelIdeal.τ).loc Cert.GudwKernelIdeal.main_v15_0)) (v1 : (c : Dev Cert.GudwKernelIdeal.nD) → Buf (Elt Ideal) ((c.tc : Thread Cert.GudwKernelIdeal.nD Cert.GudwKernelIdeal.τ).loc Cert.GudwKernelIdeal.main_v15_1)),
      θ_run (Cert.GudwKernelIdeal.defs (F := Ideal)) (onTc (τ := Cert.GudwKernelIdeal.τ) (Cert.GudwKernelIdeal.main (F := Ideal))) ⟨m, fun _ => 0, g⟩ (fun r => ∀ c : Dev Cert.GudwKernelIdeal.nD,
          r.2.mem ((c.tc : Thread Cert.GudwKernelIdeal.nD Cert.GudwKernelIdeal.τ).loc Cert.GudwKernelIdeal.main_v15_0) = v0 c
          ∧ r.2.mem ((c.tc : Thread Cert.GudwKernelIdeal.nD Cert.GudwKernelIdeal.τ).loc Cert.GudwKernelIdeal.main_v15_1) = v1 c
          ∧ r.2.mem ((c.tc : Thread Cert.GudwKernelIdeal.nD Cert.GudwKernelIdeal.τ).loc Cert.GudwKernelIdeal.main_arg0) = m ((c.tc : Thread Cert.GudwKernelIdeal.nD Cert.GudwKernelIdeal.τ).loc Cert.GudwKernelIdeal.main_arg0)
          ∧ r.2.mem ((c.tc : Thread Cert.GudwKernelIdeal.nD Cert.GudwKernelIdeal.τ).loc Cert.GudwKernelIdeal.main_arg1) = m ((c.tc : Thread Cert.GudwKernelIdeal.nD Cert.GudwKernelIdeal.τ).loc Cert.GudwKernelIdeal.main_arg1)
          ∧ r.2.mem ((c.tc : Thread Cert.GudwKernelIdeal.nD Cert.GudwKernelIdeal.τ).loc Cert.GudwKernelIdeal.main_arg2) = m ((c.tc : Thread Cert.GudwKernelIdeal.nD Cert.GudwKernelIdeal.τ).loc Cert.GudwKernelIdeal.main_arg2)
          ∧ r.2.mem ((c.tc : Thread Cert.GudwKernelIdeal.nD Cert.GudwKernelIdeal.τ).loc Cert.GudwKernelIdeal.main_arg3) = m ((c.tc : Thread Cert.GudwKernelIdeal.nD Cert.GudwKernelIdeal.τ).loc Cert.GudwKernelIdeal.main_arg3)
          ∧ r.2.mem ((c.tc : Thread Cert.GudwKernelIdeal.nD Cert.GudwKernelIdeal.τ).loc Cert.GudwKernelIdeal.main_arg4) = m ((c.tc : Thread Cert.GudwKernelIdeal.nD Cert.GudwKernelIdeal.τ).loc Cert.GudwKernelIdeal.main_arg4))
      ∧ θ_run (Cert.GudwReferenceIdeal.defs (F := Ideal)) (onTc (τ := Cert.GudwReferenceIdeal.τ) (Cert.GudwReferenceIdeal.main (F := Ideal))) ⟨m', fun _ => 0, g'⟩ (fun r => ∀ c : Dev Cert.GudwReferenceIdeal.nD,
          r.2.mem ((c.tc : Thread Cert.GudwReferenceIdeal.nD Cert.GudwReferenceIdeal.τ).loc Cert.GudwReferenceIdeal.main_v12) = v0 c
          ∧ r.2.mem ((c.tc : Thread Cert.GudwReferenceIdeal.nD Cert.GudwReferenceIdeal.τ).loc Cert.GudwReferenceIdeal.main_v15) = v1 c
          ∧ r.2.mem ((c.tc : Thread Cert.GudwReferenceIdeal.nD Cert.GudwReferenceIdeal.τ).loc Cert.GudwReferenceIdeal.main_arg0) = m' ((c.tc : Thread Cert.GudwReferenceIdeal.nD Cert.GudwReferenceIdeal.τ).loc Cert.GudwReferenceIdeal.main_arg0)
          ∧ r.2.mem ((c.tc : Thread Cert.GudwReferenceIdeal.nD Cert.GudwReferenceIdeal.τ).loc Cert.GudwReferenceIdeal.main_arg1) = m' ((c.tc : Thread Cert.GudwReferenceIdeal.nD Cert.GudwReferenceIdeal.τ).loc Cert.GudwReferenceIdeal.main_arg1)
          ∧ r.2.mem ((c.tc : Thread Cert.GudwReferenceIdeal.nD Cert.GudwReferenceIdeal.τ).loc Cert.GudwReferenceIdeal.main_arg2) = m' ((c.tc : Thread Cert.GudwReferenceIdeal.nD Cert.GudwReferenceIdeal.τ).loc Cert.GudwReferenceIdeal.main_arg2)
          ∧ r.2.mem ((c.tc : Thread Cert.GudwReferenceIdeal.nD Cert.GudwReferenceIdeal.τ).loc Cert.GudwReferenceIdeal.main_arg3) = m' ((c.tc : Thread Cert.GudwReferenceIdeal.nD Cert.GudwReferenceIdeal.τ).loc Cert.GudwReferenceIdeal.main_arg3)
          ∧ r.2.mem ((c.tc : Thread Cert.GudwReferenceIdeal.nD Cert.GudwReferenceIdeal.τ).loc Cert.GudwReferenceIdeal.main_arg4) = m' ((c.tc : Thread Cert.GudwReferenceIdeal.nD Cert.GudwReferenceIdeal.τ).loc Cert.GudwReferenceIdeal.main_arg4))

def preserves_OutdxKernel_OutdxKernelIdeal : Prop :=
  True

def algebraic_OutdxKernelIdeal_OutdxReferenceIdeal [hOutdxKernelIdeal : Cert.OutdxKernelIdeal.Facts] [hOutdxReferenceIdeal : Cert.OutdxReferenceIdeal.Facts] : Prop :=
  ∀ (m : (ℓ : Loc Cert.OutdxKernelIdeal.nD Cert.OutdxKernelIdeal.τ Cert.OutdxKernelIdeal.sig) → Buf (Elt Ideal) ℓ) (g : Dev Cert.OutdxKernelIdeal.nD → PrngReg)
    (m' : (ℓ : Loc Cert.OutdxReferenceIdeal.nD Cert.OutdxReferenceIdeal.τ Cert.OutdxReferenceIdeal.sig) → Buf (Elt Ideal) ℓ) (g' : Dev Cert.OutdxReferenceIdeal.nD → PrngReg), Pre_OutdxKernelIdeal m →
    (∀ c : Dev Cert.OutdxKernelIdeal.nD,
      m' ((c.tc : Thread Cert.OutdxReferenceIdeal.nD Cert.OutdxReferenceIdeal.τ).loc Cert.OutdxReferenceIdeal.main_arg0) = m ((c.tc : Thread Cert.OutdxKernelIdeal.nD Cert.OutdxKernelIdeal.τ).loc Cert.OutdxKernelIdeal.main_arg0)
      ∧ m' ((c.tc : Thread Cert.OutdxReferenceIdeal.nD Cert.OutdxReferenceIdeal.τ).loc Cert.OutdxReferenceIdeal.main_arg1) = m ((c.tc : Thread Cert.OutdxKernelIdeal.nD Cert.OutdxKernelIdeal.τ).loc Cert.OutdxKernelIdeal.main_arg1)
      ∧ m' ((c.tc : Thread Cert.OutdxReferenceIdeal.nD Cert.OutdxReferenceIdeal.τ).loc Cert.OutdxReferenceIdeal.main_arg2) = m ((c.tc : Thread Cert.OutdxKernelIdeal.nD Cert.OutdxKernelIdeal.τ).loc Cert.OutdxKernelIdeal.main_arg2)) →
    ∃ (v0 : (c : Dev Cert.OutdxKernelIdeal.nD) → Buf (Elt Ideal) ((c.tc : Thread Cert.OutdxKernelIdeal.nD Cert.OutdxKernelIdeal.τ).loc Cert.OutdxKernelIdeal.main_v5)),
      θ_run (Cert.OutdxKernelIdeal.defs (F := Ideal)) (onTc (τ := Cert.OutdxKernelIdeal.τ) (Cert.OutdxKernelIdeal.main (F := Ideal))) ⟨m, fun _ => 0, g⟩ (fun r => ∀ c : Dev Cert.OutdxKernelIdeal.nD,
          r.2.mem ((c.tc : Thread Cert.OutdxKernelIdeal.nD Cert.OutdxKernelIdeal.τ).loc Cert.OutdxKernelIdeal.main_v5) = v0 c
          ∧ r.2.mem ((c.tc : Thread Cert.OutdxKernelIdeal.nD Cert.OutdxKernelIdeal.τ).loc Cert.OutdxKernelIdeal.main_arg0) = m ((c.tc : Thread Cert.OutdxKernelIdeal.nD Cert.OutdxKernelIdeal.τ).loc Cert.OutdxKernelIdeal.main_arg0)
          ∧ r.2.mem ((c.tc : Thread Cert.OutdxKernelIdeal.nD Cert.OutdxKernelIdeal.τ).loc Cert.OutdxKernelIdeal.main_arg1) = m ((c.tc : Thread Cert.OutdxKernelIdeal.nD Cert.OutdxKernelIdeal.τ).loc Cert.OutdxKernelIdeal.main_arg1)
          ∧ r.2.mem ((c.tc : Thread Cert.OutdxKernelIdeal.nD Cert.OutdxKernelIdeal.τ).loc Cert.OutdxKernelIdeal.main_arg2) = m ((c.tc : Thread Cert.OutdxKernelIdeal.nD Cert.OutdxKernelIdeal.τ).loc Cert.OutdxKernelIdeal.main_arg2))
      ∧ θ_run (Cert.OutdxReferenceIdeal.defs (F := Ideal)) (onTc (τ := Cert.OutdxReferenceIdeal.τ) (Cert.OutdxReferenceIdeal.main (F := Ideal))) ⟨m', fun _ => 0, g'⟩ (fun r => ∀ c : Dev Cert.OutdxReferenceIdeal.nD,
          r.2.mem ((c.tc : Thread Cert.OutdxReferenceIdeal.nD Cert.OutdxReferenceIdeal.τ).loc Cert.OutdxReferenceIdeal.main_v3) = v0 c
          ∧ r.2.mem ((c.tc : Thread Cert.OutdxReferenceIdeal.nD Cert.OutdxReferenceIdeal.τ).loc Cert.OutdxReferenceIdeal.main_arg0) = m' ((c.tc : Thread Cert.OutdxReferenceIdeal.nD Cert.OutdxReferenceIdeal.τ).loc Cert.OutdxReferenceIdeal.main_arg0)
          ∧ r.2.mem ((c.tc : Thread Cert.OutdxReferenceIdeal.nD Cert.OutdxReferenceIdeal.τ).loc Cert.OutdxReferenceIdeal.main_arg1) = m' ((c.tc : Thread Cert.OutdxReferenceIdeal.nD Cert.OutdxReferenceIdeal.τ).loc Cert.OutdxReferenceIdeal.main_arg1)
          ∧ r.2.mem ((c.tc : Thread Cert.OutdxReferenceIdeal.nD Cert.OutdxReferenceIdeal.τ).loc Cert.OutdxReferenceIdeal.main_arg2) = m' ((c.tc : Thread Cert.OutdxReferenceIdeal.nD Cert.OutdxReferenceIdeal.τ).loc Cert.OutdxReferenceIdeal.main_arg2))

def preserves_DowndwKernel_DowndwKernelIdeal : Prop :=
  True

def algebraic_DowndwKernelIdeal_DowndwReferenceIdeal [hDowndwKernelIdeal : Cert.DowndwKernelIdeal.Facts] [hDowndwReferenceIdeal : Cert.DowndwReferenceIdeal.Facts] : Prop :=
  ∀ (m : (ℓ : Loc Cert.DowndwKernelIdeal.nD Cert.DowndwKernelIdeal.τ Cert.DowndwKernelIdeal.sig) → Buf (Elt Ideal) ℓ) (g : Dev Cert.DowndwKernelIdeal.nD → PrngReg)
    (m' : (ℓ : Loc Cert.DowndwReferenceIdeal.nD Cert.DowndwReferenceIdeal.τ Cert.DowndwReferenceIdeal.sig) → Buf (Elt Ideal) ℓ) (g' : Dev Cert.DowndwReferenceIdeal.nD → PrngReg), Pre_DowndwKernelIdeal m →
    (∀ c : Dev Cert.DowndwKernelIdeal.nD,
      m' ((c.tc : Thread Cert.DowndwReferenceIdeal.nD Cert.DowndwReferenceIdeal.τ).loc Cert.DowndwReferenceIdeal.main_arg0) = m ((c.tc : Thread Cert.DowndwKernelIdeal.nD Cert.DowndwKernelIdeal.τ).loc Cert.DowndwKernelIdeal.main_arg0)
      ∧ m' ((c.tc : Thread Cert.DowndwReferenceIdeal.nD Cert.DowndwReferenceIdeal.τ).loc Cert.DowndwReferenceIdeal.main_arg1) = m ((c.tc : Thread Cert.DowndwKernelIdeal.nD Cert.DowndwKernelIdeal.τ).loc Cert.DowndwKernelIdeal.main_arg1)
      ∧ m' ((c.tc : Thread Cert.DowndwReferenceIdeal.nD Cert.DowndwReferenceIdeal.τ).loc Cert.DowndwReferenceIdeal.main_arg2) = m ((c.tc : Thread Cert.DowndwKernelIdeal.nD Cert.DowndwKernelIdeal.τ).loc Cert.DowndwKernelIdeal.main_arg2)) →
    ∃ (v0 : (c : Dev Cert.DowndwKernelIdeal.nD) → Buf (Elt Ideal) ((c.tc : Thread Cert.DowndwKernelIdeal.nD Cert.DowndwKernelIdeal.τ).loc Cert.DowndwKernelIdeal.main_v9)),
      θ_run (Cert.DowndwKernelIdeal.defs (F := Ideal)) (onTc (τ := Cert.DowndwKernelIdeal.τ) (Cert.DowndwKernelIdeal.main (F := Ideal))) ⟨m, fun _ => 0, g⟩ (fun r => ∀ c : Dev Cert.DowndwKernelIdeal.nD,
          r.2.mem ((c.tc : Thread Cert.DowndwKernelIdeal.nD Cert.DowndwKernelIdeal.τ).loc Cert.DowndwKernelIdeal.main_v9) = v0 c
          ∧ r.2.mem ((c.tc : Thread Cert.DowndwKernelIdeal.nD Cert.DowndwKernelIdeal.τ).loc Cert.DowndwKernelIdeal.main_arg0) = m ((c.tc : Thread Cert.DowndwKernelIdeal.nD Cert.DowndwKernelIdeal.τ).loc Cert.DowndwKernelIdeal.main_arg0)
          ∧ r.2.mem ((c.tc : Thread Cert.DowndwKernelIdeal.nD Cert.DowndwKernelIdeal.τ).loc Cert.DowndwKernelIdeal.main_arg1) = m ((c.tc : Thread Cert.DowndwKernelIdeal.nD Cert.DowndwKernelIdeal.τ).loc Cert.DowndwKernelIdeal.main_arg1)
          ∧ r.2.mem ((c.tc : Thread Cert.DowndwKernelIdeal.nD Cert.DowndwKernelIdeal.τ).loc Cert.DowndwKernelIdeal.main_arg2) = m ((c.tc : Thread Cert.DowndwKernelIdeal.nD Cert.DowndwKernelIdeal.τ).loc Cert.DowndwKernelIdeal.main_arg2))
      ∧ θ_run (Cert.DowndwReferenceIdeal.defs (F := Ideal)) (onTc (τ := Cert.DowndwReferenceIdeal.τ) (Cert.DowndwReferenceIdeal.main (F := Ideal))) ⟨m', fun _ => 0, g'⟩ (fun r => ∀ c : Dev Cert.DowndwReferenceIdeal.nD,
          r.2.mem ((c.tc : Thread Cert.DowndwReferenceIdeal.nD Cert.DowndwReferenceIdeal.τ).loc Cert.DowndwReferenceIdeal.main_v6) = v0 c
          ∧ r.2.mem ((c.tc : Thread Cert.DowndwReferenceIdeal.nD Cert.DowndwReferenceIdeal.τ).loc Cert.DowndwReferenceIdeal.main_arg0) = m' ((c.tc : Thread Cert.DowndwReferenceIdeal.nD Cert.DowndwReferenceIdeal.τ).loc Cert.DowndwReferenceIdeal.main_arg0)
          ∧ r.2.mem ((c.tc : Thread Cert.DowndwReferenceIdeal.nD Cert.DowndwReferenceIdeal.τ).loc Cert.DowndwReferenceIdeal.main_arg1) = m' ((c.tc : Thread Cert.DowndwReferenceIdeal.nD Cert.DowndwReferenceIdeal.τ).loc Cert.DowndwReferenceIdeal.main_arg1)
          ∧ r.2.mem ((c.tc : Thread Cert.DowndwReferenceIdeal.nD Cert.DowndwReferenceIdeal.τ).loc Cert.DowndwReferenceIdeal.main_arg2) = m' ((c.tc : Thread Cert.DowndwReferenceIdeal.nD Cert.DowndwReferenceIdeal.τ).loc Cert.DowndwReferenceIdeal.main_arg2))

def preserves_AdamKernel_AdamKernelIdeal : Prop :=
  True

def algebraic_AdamKernelIdeal_AdamReferenceIdeal [hAdamKernelIdeal : Cert.AdamKernelIdeal.Facts] [hAdamReferenceIdeal : Cert.AdamReferenceIdeal.Facts] : Prop :=
  ∀ (m : (ℓ : Loc Cert.AdamKernelIdeal.nD Cert.AdamKernelIdeal.τ Cert.AdamKernelIdeal.sig) → Buf (Elt Ideal) ℓ) (g : Dev Cert.AdamKernelIdeal.nD → PrngReg)
    (m' : (ℓ : Loc Cert.AdamReferenceIdeal.nD Cert.AdamReferenceIdeal.τ Cert.AdamReferenceIdeal.sig) → Buf (Elt Ideal) ℓ) (g' : Dev Cert.AdamReferenceIdeal.nD → PrngReg), Pre_AdamKernelIdeal m →
    (∀ c : Dev Cert.AdamKernelIdeal.nD,
      m' ((c.tc : Thread Cert.AdamReferenceIdeal.nD Cert.AdamReferenceIdeal.τ).loc Cert.AdamReferenceIdeal.main_arg0) = m ((c.tc : Thread Cert.AdamKernelIdeal.nD Cert.AdamKernelIdeal.τ).loc Cert.AdamKernelIdeal.main_arg0)
      ∧ m' ((c.tc : Thread Cert.AdamReferenceIdeal.nD Cert.AdamReferenceIdeal.τ).loc Cert.AdamReferenceIdeal.main_arg1) = m ((c.tc : Thread Cert.AdamKernelIdeal.nD Cert.AdamKernelIdeal.τ).loc Cert.AdamKernelIdeal.main_arg1)
      ∧ m' ((c.tc : Thread Cert.AdamReferenceIdeal.nD Cert.AdamReferenceIdeal.τ).loc Cert.AdamReferenceIdeal.main_arg2) = m ((c.tc : Thread Cert.AdamKernelIdeal.nD Cert.AdamKernelIdeal.τ).loc Cert.AdamKernelIdeal.main_arg2)
      ∧ m' ((c.tc : Thread Cert.AdamReferenceIdeal.nD Cert.AdamReferenceIdeal.τ).loc Cert.AdamReferenceIdeal.main_arg3) = m ((c.tc : Thread Cert.AdamKernelIdeal.nD Cert.AdamKernelIdeal.τ).loc Cert.AdamKernelIdeal.main_arg3)) →
    ∃ (v0 : (c : Dev Cert.AdamKernelIdeal.nD) → Buf (Elt Ideal) ((c.tc : Thread Cert.AdamKernelIdeal.nD Cert.AdamKernelIdeal.τ).loc Cert.AdamKernelIdeal.main_v4_0)) (v1 : (c : Dev Cert.AdamKernelIdeal.nD) → Buf (Elt Ideal) ((c.tc : Thread Cert.AdamKernelIdeal.nD Cert.AdamKernelIdeal.τ).loc Cert.AdamKernelIdeal.main_v4_1)) (v2 : (c : Dev Cert.AdamKernelIdeal.nD) → Buf (Elt Ideal) ((c.tc : Thread Cert.AdamKernelIdeal.nD Cert.AdamKernelIdeal.τ).loc Cert.AdamKernelIdeal.main_v4_2)) (v3 : (c : Dev Cert.AdamKernelIdeal.nD) → Buf (Elt Ideal) ((c.tc : Thread Cert.AdamKernelIdeal.nD Cert.AdamKernelIdeal.τ).loc Cert.AdamKernelIdeal.main_v4_3)),
      θ_run (Cert.AdamKernelIdeal.defs (F := Ideal)) (onTc (τ := Cert.AdamKernelIdeal.τ) (Cert.AdamKernelIdeal.main (F := Ideal))) ⟨m, fun _ => 0, g⟩ (fun r => ∀ c : Dev Cert.AdamKernelIdeal.nD,
          r.2.mem ((c.tc : Thread Cert.AdamKernelIdeal.nD Cert.AdamKernelIdeal.τ).loc Cert.AdamKernelIdeal.main_v4_0) = v0 c
          ∧ r.2.mem ((c.tc : Thread Cert.AdamKernelIdeal.nD Cert.AdamKernelIdeal.τ).loc Cert.AdamKernelIdeal.main_v4_1) = v1 c
          ∧ r.2.mem ((c.tc : Thread Cert.AdamKernelIdeal.nD Cert.AdamKernelIdeal.τ).loc Cert.AdamKernelIdeal.main_v4_2) = v2 c
          ∧ r.2.mem ((c.tc : Thread Cert.AdamKernelIdeal.nD Cert.AdamKernelIdeal.τ).loc Cert.AdamKernelIdeal.main_v4_3) = v3 c
          ∧ r.2.mem ((c.tc : Thread Cert.AdamKernelIdeal.nD Cert.AdamKernelIdeal.τ).loc Cert.AdamKernelIdeal.main_arg0) = m ((c.tc : Thread Cert.AdamKernelIdeal.nD Cert.AdamKernelIdeal.τ).loc Cert.AdamKernelIdeal.main_arg0)
          ∧ r.2.mem ((c.tc : Thread Cert.AdamKernelIdeal.nD Cert.AdamKernelIdeal.τ).loc Cert.AdamKernelIdeal.main_arg1) = m ((c.tc : Thread Cert.AdamKernelIdeal.nD Cert.AdamKernelIdeal.τ).loc Cert.AdamKernelIdeal.main_arg1)
          ∧ r.2.mem ((c.tc : Thread Cert.AdamKernelIdeal.nD Cert.AdamKernelIdeal.τ).loc Cert.AdamKernelIdeal.main_arg2) = m ((c.tc : Thread Cert.AdamKernelIdeal.nD Cert.AdamKernelIdeal.τ).loc Cert.AdamKernelIdeal.main_arg2)
          ∧ r.2.mem ((c.tc : Thread Cert.AdamKernelIdeal.nD Cert.AdamKernelIdeal.τ).loc Cert.AdamKernelIdeal.main_arg3) = m ((c.tc : Thread Cert.AdamKernelIdeal.nD Cert.AdamKernelIdeal.τ).loc Cert.AdamKernelIdeal.main_arg3))
      ∧ θ_run (Cert.AdamReferenceIdeal.defs (F := Ideal)) (onTc (τ := Cert.AdamReferenceIdeal.τ) (Cert.AdamReferenceIdeal.main (F := Ideal))) ⟨m', fun _ => 0, g'⟩ (fun r => ∀ c : Dev Cert.AdamReferenceIdeal.nD,
          r.2.mem ((c.tc : Thread Cert.AdamReferenceIdeal.nD Cert.AdamReferenceIdeal.τ).loc Cert.AdamReferenceIdeal.main_arg1) = v0 c
          ∧ r.2.mem ((c.tc : Thread Cert.AdamReferenceIdeal.nD Cert.AdamReferenceIdeal.τ).loc Cert.AdamReferenceIdeal.main_v23) = v1 c
          ∧ r.2.mem ((c.tc : Thread Cert.AdamReferenceIdeal.nD Cert.AdamReferenceIdeal.τ).loc Cert.AdamReferenceIdeal.main_v4) = v2 c
          ∧ r.2.mem ((c.tc : Thread Cert.AdamReferenceIdeal.nD Cert.AdamReferenceIdeal.τ).loc Cert.AdamReferenceIdeal.main_v10) = v3 c
          ∧ r.2.mem ((c.tc : Thread Cert.AdamReferenceIdeal.nD Cert.AdamReferenceIdeal.τ).loc Cert.AdamReferenceIdeal.main_arg0) = m' ((c.tc : Thread Cert.AdamReferenceIdeal.nD Cert.AdamReferenceIdeal.τ).loc Cert.AdamReferenceIdeal.main_arg0)
          ∧ r.2.mem ((c.tc : Thread Cert.AdamReferenceIdeal.nD Cert.AdamReferenceIdeal.τ).loc Cert.AdamReferenceIdeal.main_arg1) = m' ((c.tc : Thread Cert.AdamReferenceIdeal.nD Cert.AdamReferenceIdeal.τ).loc Cert.AdamReferenceIdeal.main_arg1)
          ∧ r.2.mem ((c.tc : Thread Cert.AdamReferenceIdeal.nD Cert.AdamReferenceIdeal.τ).loc Cert.AdamReferenceIdeal.main_arg2) = m' ((c.tc : Thread Cert.AdamReferenceIdeal.nD Cert.AdamReferenceIdeal.τ).loc Cert.AdamReferenceIdeal.main_arg2)
          ∧ r.2.mem ((c.tc : Thread Cert.AdamReferenceIdeal.nD Cert.AdamReferenceIdeal.τ).loc Cert.AdamReferenceIdeal.main_arg3) = m' ((c.tc : Thread Cert.AdamReferenceIdeal.nD Cert.AdamReferenceIdeal.τ).loc Cert.AdamReferenceIdeal.main_arg3))

def Claim : Prop :=
  ∃ (hRopeKernel : Cert.RopeKernel.Facts) (hRopeKernelIdeal : Cert.RopeKernelIdeal.Facts) (hRopeReferenceIdeal : Cert.RopeReferenceIdeal.Facts) (hLossKernel : Cert.LossKernel.Facts) (hLossKernelIdeal : Cert.LossKernelIdeal.Facts) (hLossReferenceIdeal : Cert.LossReferenceIdeal.Facts) (hConvKernel : Cert.ConvKernel.Facts) (hConvKernelIdeal : Cert.ConvKernelIdeal.Facts) (hConvReferenceIdeal : Cert.ConvReferenceIdeal.Facts) (hDtKernel : Cert.DtKernel.Facts) (hDtKernelIdeal : Cert.DtKernelIdeal.Facts) (hDtReferenceIdeal : Cert.DtReferenceIdeal.Facts) (hGateKernel : Cert.GateKernel.Facts) (hGateKernelIdeal : Cert.GateKernelIdeal.Facts) (hGateReferenceIdeal : Cert.GateReferenceIdeal.Facts) (hFfnKernel : Cert.FfnKernel.Facts) (hFfnKernelIdeal : Cert.FfnKernelIdeal.Facts) (hFfnReferenceIdeal : Cert.FfnReferenceIdeal.Facts) (hLnKernel : Cert.LnKernel.Facts) (hLnKernelIdeal : Cert.LnKernelIdeal.Facts) (hLnReferenceIdeal : Cert.LnReferenceIdeal.Facts) (hMlaKernel : Cert.MlaKernel.Facts) (hMlaKernelIdeal : Cert.MlaKernelIdeal.Facts) (hMlaReferenceIdeal : Cert.MlaReferenceIdeal.Facts) (hPostKernel : Cert.PostKernel.Facts) (hPostKernelIdeal : Cert.PostKernelIdeal.Facts) (hPostReferenceIdeal : Cert.PostReferenceIdeal.Facts) (hFoxfKernel : Cert.FoxfKernel.Facts) (hFoxfKernelIdeal : Cert.FoxfKernelIdeal.Facts) (hFoxfReferenceIdeal : Cert.FoxfReferenceIdeal.Facts) (hAttfKernel : Cert.AttfKernel.Facts) (hAttfKernelIdeal : Cert.AttfKernelIdeal.Facts) (hAttfReferenceIdeal : Cert.AttfReferenceIdeal.Facts) (hRopefKernel : Cert.RopefKernel.Facts) (hRopefKernelIdeal : Cert.RopefKernelIdeal.Facts) (hRopefReferenceIdeal : Cert.RopefReferenceIdeal.Facts) (hMlafKernel : Cert.MlafKernel.Facts) (hMlafKernelIdeal : Cert.MlafKernelIdeal.Facts) (hMlafReferenceIdeal : Cert.MlafReferenceIdeal.Facts) (hPostfKernel : Cert.PostfKernel.Facts) (hPostfKernelIdeal : Cert.PostfKernelIdeal.Facts) (hPostfReferenceIdeal : Cert.PostfReferenceIdeal.Facts) (hFfnfKernel : Cert.FfnfKernel.Facts) (hFfnfKernelIdeal : Cert.FfnfKernelIdeal.Facts) (hFfnfReferenceIdeal : Cert.FfnfReferenceIdeal.Facts) (hDtfKernel : Cert.DtfKernel.Facts) (hDtfKernelIdeal : Cert.DtfKernelIdeal.Facts) (hDtfReferenceIdeal : Cert.DtfReferenceIdeal.Facts) (hGatefKernel : Cert.GatefKernel.Facts) (hGatefKernelIdeal : Cert.GatefKernelIdeal.Facts) (hGatefReferenceIdeal : Cert.GatefReferenceIdeal.Facts) (hConvfKernel : Cert.ConvfKernel.Facts) (hConvfKernelIdeal : Cert.ConvfKernelIdeal.Facts) (hConvfReferenceIdeal : Cert.ConvfReferenceIdeal.Facts) (hMixKernel : Cert.MixKernel.Facts) (hMixKernelIdeal : Cert.MixKernelIdeal.Facts) (hMixReferenceIdeal : Cert.MixReferenceIdeal.Facts) (hDownfKernel : Cert.DownfKernel.Facts) (hDownfKernelIdeal : Cert.DownfKernelIdeal.Facts) (hDownfReferenceIdeal : Cert.DownfReferenceIdeal.Facts) (hGudxKernel : Cert.GudxKernel.Facts) (hGudxKernelIdeal : Cert.GudxKernelIdeal.Facts) (hGudxReferenceIdeal : Cert.GudxReferenceIdeal.Facts) (hGudwKernel : Cert.GudwKernel.Facts) (hGudwKernelIdeal : Cert.GudwKernelIdeal.Facts) (hGudwReferenceIdeal : Cert.GudwReferenceIdeal.Facts) (hOutdxKernel : Cert.OutdxKernel.Facts) (hOutdxKernelIdeal : Cert.OutdxKernelIdeal.Facts) (hOutdxReferenceIdeal : Cert.OutdxReferenceIdeal.Facts) (hDowndwKernel : Cert.DowndwKernel.Facts) (hDowndwKernelIdeal : Cert.DowndwKernelIdeal.Facts) (hDowndwReferenceIdeal : Cert.DowndwReferenceIdeal.Facts) (hAdamKernel : Cert.AdamKernel.Facts) (hAdamKernelIdeal : Cert.AdamKernelIdeal.Facts) (hAdamReferenceIdeal : Cert.AdamReferenceIdeal.Facts) (hPre_finite_conv : Cert.Pre_finite_conv.Facts) (hPre_finite_gate : Cert.Pre_finite_gate.Facts) (hPre_finite_ffn : Cert.Pre_finite_ffn.Facts) (hPre_finite_ln : Cert.Pre_finite_ln.Facts) (hPre_finite_foxf : Cert.Pre_finite_foxf.Facts) (hPre_finite_attf : Cert.Pre_finite_attf.Facts) (hPre_finite_gatef : Cert.Pre_finite_gatef.Facts),
    quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_ConvKernel (hConvKernel := hConvKernel)
    ∧ quiescent_ConvKernelIdeal (hConvKernelIdeal := hConvKernelIdeal)
    ∧ quiescent_ConvKernelIdeal_pre_finite_conv (hConvKernelIdeal := hConvKernelIdeal) (hPre_finite_conv := hPre_finite_conv)
    ∧ quiescent_ConvReferenceIdeal (hConvReferenceIdeal := hConvReferenceIdeal)
    ∧ quiescent_ConvReferenceIdeal_pre_finite_conv (hConvReferenceIdeal := hConvReferenceIdeal) (hPre_finite_conv := hPre_finite_conv)
    ∧ quiescent_DtKernel (hDtKernel := hDtKernel)
    ∧ quiescent_DtKernelIdeal (hDtKernelIdeal := hDtKernelIdeal)
    ∧ quiescent_DtReferenceIdeal (hDtReferenceIdeal := hDtReferenceIdeal)
    ∧ quiescent_GateKernel (hGateKernel := hGateKernel)
    ∧ quiescent_GateKernelIdeal (hGateKernelIdeal := hGateKernelIdeal)
    ∧ quiescent_GateKernelIdeal_pre_finite_gate (hGateKernelIdeal := hGateKernelIdeal) (hPre_finite_gate := hPre_finite_gate)
    ∧ quiescent_GateReferenceIdeal (hGateReferenceIdeal := hGateReferenceIdeal)
    ∧ quiescent_GateReferenceIdeal_pre_finite_gate (hGateReferenceIdeal := hGateReferenceIdeal) (hPre_finite_gate := hPre_finite_gate)
    ∧ quiescent_FfnKernel (hFfnKernel := hFfnKernel)
    ∧ quiescent_FfnKernelIdeal (hFfnKernelIdeal := hFfnKernelIdeal)
    ∧ quiescent_FfnKernelIdeal_pre_finite_ffn (hFfnKernelIdeal := hFfnKernelIdeal) (hPre_finite_ffn := hPre_finite_ffn)
    ∧ quiescent_FfnReferenceIdeal (hFfnReferenceIdeal := hFfnReferenceIdeal)
    ∧ quiescent_FfnReferenceIdeal_pre_finite_ffn (hFfnReferenceIdeal := hFfnReferenceIdeal) (hPre_finite_ffn := hPre_finite_ffn)
    ∧ quiescent_LnKernel (hLnKernel := hLnKernel)
    ∧ quiescent_LnKernelIdeal (hLnKernelIdeal := hLnKernelIdeal)
    ∧ quiescent_LnKernelIdeal_pre_finite_ln (hLnKernelIdeal := hLnKernelIdeal) (hPre_finite_ln := hPre_finite_ln)
    ∧ quiescent_LnReferenceIdeal (hLnReferenceIdeal := hLnReferenceIdeal)
    ∧ quiescent_LnReferenceIdeal_pre_finite_ln (hLnReferenceIdeal := hLnReferenceIdeal) (hPre_finite_ln := hPre_finite_ln)
    ∧ quiescent_MlaKernel (hMlaKernel := hMlaKernel)
    ∧ quiescent_MlaKernelIdeal (hMlaKernelIdeal := hMlaKernelIdeal)
    ∧ quiescent_MlaReferenceIdeal (hMlaReferenceIdeal := hMlaReferenceIdeal)
    ∧ quiescent_PostKernel (hPostKernel := hPostKernel)
    ∧ quiescent_PostKernelIdeal (hPostKernelIdeal := hPostKernelIdeal)
    ∧ quiescent_PostReferenceIdeal (hPostReferenceIdeal := hPostReferenceIdeal)
    ∧ quiescent_FoxfKernel (hFoxfKernel := hFoxfKernel)
    ∧ quiescent_FoxfKernelIdeal (hFoxfKernelIdeal := hFoxfKernelIdeal)
    ∧ quiescent_FoxfKernelIdeal_pre_finite_foxf (hFoxfKernelIdeal := hFoxfKernelIdeal) (hPre_finite_foxf := hPre_finite_foxf)
    ∧ quiescent_FoxfReferenceIdeal (hFoxfReferenceIdeal := hFoxfReferenceIdeal)
    ∧ quiescent_FoxfReferenceIdeal_pre_finite_foxf (hFoxfReferenceIdeal := hFoxfReferenceIdeal) (hPre_finite_foxf := hPre_finite_foxf)
    ∧ quiescent_AttfKernel (hAttfKernel := hAttfKernel)
    ∧ quiescent_AttfKernelIdeal (hAttfKernelIdeal := hAttfKernelIdeal)
    ∧ quiescent_AttfKernelIdeal_pre_finite_attf (hAttfKernelIdeal := hAttfKernelIdeal) (hPre_finite_attf := hPre_finite_attf)
    ∧ quiescent_AttfReferenceIdeal (hAttfReferenceIdeal := hAttfReferenceIdeal)
    ∧ quiescent_AttfReferenceIdeal_pre_finite_attf (hAttfReferenceIdeal := hAttfReferenceIdeal) (hPre_finite_attf := hPre_finite_attf)
    ∧ quiescent_RopefKernel (hRopefKernel := hRopefKernel)
    ∧ quiescent_RopefKernelIdeal (hRopefKernelIdeal := hRopefKernelIdeal)
    ∧ quiescent_RopefReferenceIdeal (hRopefReferenceIdeal := hRopefReferenceIdeal)
    ∧ quiescent_MlafKernel (hMlafKernel := hMlafKernel)
    ∧ quiescent_MlafKernelIdeal (hMlafKernelIdeal := hMlafKernelIdeal)
    ∧ quiescent_MlafReferenceIdeal (hMlafReferenceIdeal := hMlafReferenceIdeal)
    ∧ quiescent_PostfKernel (hPostfKernel := hPostfKernel)
    ∧ quiescent_PostfKernelIdeal (hPostfKernelIdeal := hPostfKernelIdeal)
    ∧ quiescent_PostfReferenceIdeal (hPostfReferenceIdeal := hPostfReferenceIdeal)
    ∧ quiescent_FfnfKernel (hFfnfKernel := hFfnfKernel)
    ∧ quiescent_FfnfKernelIdeal (hFfnfKernelIdeal := hFfnfKernelIdeal)
    ∧ quiescent_FfnfReferenceIdeal (hFfnfReferenceIdeal := hFfnfReferenceIdeal)
    ∧ quiescent_DtfKernel (hDtfKernel := hDtfKernel)
    ∧ quiescent_DtfKernelIdeal (hDtfKernelIdeal := hDtfKernelIdeal)
    ∧ quiescent_DtfReferenceIdeal (hDtfReferenceIdeal := hDtfReferenceIdeal)
    ∧ quiescent_GatefKernel (hGatefKernel := hGatefKernel)
    ∧ quiescent_GatefKernelIdeal (hGatefKernelIdeal := hGatefKernelIdeal)
    ∧ quiescent_GatefKernelIdeal_pre_finite_gatef (hGatefKernelIdeal := hGatefKernelIdeal) (hPre_finite_gatef := hPre_finite_gatef)
    ∧ quiescent_GatefReferenceIdeal (hGatefReferenceIdeal := hGatefReferenceIdeal)
    ∧ quiescent_GatefReferenceIdeal_pre_finite_gatef (hGatefReferenceIdeal := hGatefReferenceIdeal) (hPre_finite_gatef := hPre_finite_gatef)
    ∧ quiescent_ConvfKernel (hConvfKernel := hConvfKernel)
    ∧ quiescent_ConvfKernelIdeal (hConvfKernelIdeal := hConvfKernelIdeal)
    ∧ quiescent_ConvfReferenceIdeal (hConvfReferenceIdeal := hConvfReferenceIdeal)
    ∧ quiescent_MixKernel (hMixKernel := hMixKernel)
    ∧ quiescent_MixKernelIdeal (hMixKernelIdeal := hMixKernelIdeal)
    ∧ quiescent_MixReferenceIdeal (hMixReferenceIdeal := hMixReferenceIdeal)
    ∧ quiescent_DownfKernel (hDownfKernel := hDownfKernel)
    ∧ quiescent_DownfKernelIdeal (hDownfKernelIdeal := hDownfKernelIdeal)
    ∧ quiescent_DownfReferenceIdeal (hDownfReferenceIdeal := hDownfReferenceIdeal)
    ∧ quiescent_GudxKernel (hGudxKernel := hGudxKernel)
    ∧ quiescent_GudxKernelIdeal (hGudxKernelIdeal := hGudxKernelIdeal)
    ∧ quiescent_GudxReferenceIdeal (hGudxReferenceIdeal := hGudxReferenceIdeal)
    ∧ quiescent_GudwKernel (hGudwKernel := hGudwKernel)
    ∧ quiescent_GudwKernelIdeal (hGudwKernelIdeal := hGudwKernelIdeal)
    ∧ quiescent_GudwReferenceIdeal (hGudwReferenceIdeal := hGudwReferenceIdeal)
    ∧ quiescent_OutdxKernel (hOutdxKernel := hOutdxKernel)
    ∧ quiescent_OutdxKernelIdeal (hOutdxKernelIdeal := hOutdxKernelIdeal)
    ∧ quiescent_OutdxReferenceIdeal (hOutdxReferenceIdeal := hOutdxReferenceIdeal)
    ∧ quiescent_DowndwKernel (hDowndwKernel := hDowndwKernel)
    ∧ quiescent_DowndwKernelIdeal (hDowndwKernelIdeal := hDowndwKernelIdeal)
    ∧ quiescent_DowndwReferenceIdeal (hDowndwReferenceIdeal := hDowndwReferenceIdeal)
    ∧ quiescent_AdamKernel (hAdamKernel := hAdamKernel)
    ∧ quiescent_AdamKernelIdeal (hAdamKernelIdeal := hAdamKernelIdeal)
    ∧ quiescent_AdamReferenceIdeal (hAdamReferenceIdeal := hAdamReferenceIdeal)
    ∧ preserves_RopeKernel_RopeKernelIdeal
    ∧ algebraic_RopeKernelIdeal_RopeReferenceIdeal (hRopeKernelIdeal := hRopeKernelIdeal) (hRopeReferenceIdeal := hRopeReferenceIdeal)
    ∧ preserves_LossKernel_LossKernelIdeal
    ∧ algebraic_LossKernelIdeal_LossReferenceIdeal (hLossKernelIdeal := hLossKernelIdeal) (hLossReferenceIdeal := hLossReferenceIdeal)
    ∧ preserves_ConvKernel_ConvKernelIdeal
    ∧ algebraic_ConvKernelIdeal_ConvReferenceIdeal_pre_finite_conv (hConvKernelIdeal := hConvKernelIdeal) (hConvReferenceIdeal := hConvReferenceIdeal) (hPre_finite_conv := hPre_finite_conv)
    ∧ preserves_DtKernel_DtKernelIdeal
    ∧ algebraic_DtKernelIdeal_DtReferenceIdeal (hDtKernelIdeal := hDtKernelIdeal) (hDtReferenceIdeal := hDtReferenceIdeal)
    ∧ preserves_GateKernel_GateKernelIdeal
    ∧ algebraic_GateKernelIdeal_GateReferenceIdeal_pre_finite_gate (hGateKernelIdeal := hGateKernelIdeal) (hGateReferenceIdeal := hGateReferenceIdeal) (hPre_finite_gate := hPre_finite_gate)
    ∧ preserves_FfnKernel_FfnKernelIdeal
    ∧ algebraic_FfnKernelIdeal_FfnReferenceIdeal_pre_finite_ffn (hFfnKernelIdeal := hFfnKernelIdeal) (hFfnReferenceIdeal := hFfnReferenceIdeal) (hPre_finite_ffn := hPre_finite_ffn)
    ∧ preserves_LnKernel_LnKernelIdeal
    ∧ algebraic_LnKernelIdeal_LnReferenceIdeal_pre_finite_ln (hLnKernelIdeal := hLnKernelIdeal) (hLnReferenceIdeal := hLnReferenceIdeal) (hPre_finite_ln := hPre_finite_ln)
    ∧ preserves_MlaKernel_MlaKernelIdeal
    ∧ algebraic_MlaKernelIdeal_MlaReferenceIdeal (hMlaKernelIdeal := hMlaKernelIdeal) (hMlaReferenceIdeal := hMlaReferenceIdeal)
    ∧ preserves_PostKernel_PostKernelIdeal
    ∧ algebraic_PostKernelIdeal_PostReferenceIdeal (hPostKernelIdeal := hPostKernelIdeal) (hPostReferenceIdeal := hPostReferenceIdeal)
    ∧ preserves_FoxfKernel_FoxfKernelIdeal
    ∧ algebraic_FoxfKernelIdeal_FoxfReferenceIdeal_pre_finite_foxf (hFoxfKernelIdeal := hFoxfKernelIdeal) (hFoxfReferenceIdeal := hFoxfReferenceIdeal) (hPre_finite_foxf := hPre_finite_foxf)
    ∧ preserves_AttfKernel_AttfKernelIdeal
    ∧ algebraic_AttfKernelIdeal_AttfReferenceIdeal_pre_finite_attf (hAttfKernelIdeal := hAttfKernelIdeal) (hAttfReferenceIdeal := hAttfReferenceIdeal) (hPre_finite_attf := hPre_finite_attf)
    ∧ preserves_RopefKernel_RopefKernelIdeal
    ∧ algebraic_RopefKernelIdeal_RopefReferenceIdeal (hRopefKernelIdeal := hRopefKernelIdeal) (hRopefReferenceIdeal := hRopefReferenceIdeal)
    ∧ preserves_MlafKernel_MlafKernelIdeal
    ∧ algebraic_MlafKernelIdeal_MlafReferenceIdeal (hMlafKernelIdeal := hMlafKernelIdeal) (hMlafReferenceIdeal := hMlafReferenceIdeal)
    ∧ preserves_PostfKernel_PostfKernelIdeal
    ∧ algebraic_PostfKernelIdeal_PostfReferenceIdeal (hPostfKernelIdeal := hPostfKernelIdeal) (hPostfReferenceIdeal := hPostfReferenceIdeal)
    ∧ preserves_FfnfKernel_FfnfKernelIdeal
    ∧ algebraic_FfnfKernelIdeal_FfnfReferenceIdeal (hFfnfKernelIdeal := hFfnfKernelIdeal) (hFfnfReferenceIdeal := hFfnfReferenceIdeal)
    ∧ preserves_DtfKernel_DtfKernelIdeal
    ∧ algebraic_DtfKernelIdeal_DtfReferenceIdeal (hDtfKernelIdeal := hDtfKernelIdeal) (hDtfReferenceIdeal := hDtfReferenceIdeal)
    ∧ preserves_GatefKernel_GatefKernelIdeal
    ∧ algebraic_GatefKernelIdeal_GatefReferenceIdeal_pre_finite_gatef (hGatefKernelIdeal := hGatefKernelIdeal) (hGatefReferenceIdeal := hGatefReferenceIdeal) (hPre_finite_gatef := hPre_finite_gatef)
    ∧ preserves_ConvfKernel_ConvfKernelIdeal
    ∧ algebraic_ConvfKernelIdeal_ConvfReferenceIdeal (hConvfKernelIdeal := hConvfKernelIdeal) (hConvfReferenceIdeal := hConvfReferenceIdeal)
    ∧ preserves_MixKernel_MixKernelIdeal
    ∧ algebraic_MixKernelIdeal_MixReferenceIdeal (hMixKernelIdeal := hMixKernelIdeal) (hMixReferenceIdeal := hMixReferenceIdeal)
    ∧ preserves_DownfKernel_DownfKernelIdeal
    ∧ algebraic_DownfKernelIdeal_DownfReferenceIdeal (hDownfKernelIdeal := hDownfKernelIdeal) (hDownfReferenceIdeal := hDownfReferenceIdeal)
    ∧ preserves_GudxKernel_GudxKernelIdeal
    ∧ algebraic_GudxKernelIdeal_GudxReferenceIdeal (hGudxKernelIdeal := hGudxKernelIdeal) (hGudxReferenceIdeal := hGudxReferenceIdeal)
    ∧ preserves_GudwKernel_GudwKernelIdeal
    ∧ algebraic_GudwKernelIdeal_GudwReferenceIdeal (hGudwKernelIdeal := hGudwKernelIdeal) (hGudwReferenceIdeal := hGudwReferenceIdeal)
    ∧ preserves_OutdxKernel_OutdxKernelIdeal
    ∧ algebraic_OutdxKernelIdeal_OutdxReferenceIdeal (hOutdxKernelIdeal := hOutdxKernelIdeal) (hOutdxReferenceIdeal := hOutdxReferenceIdeal)
    ∧ preserves_DowndwKernel_DowndwKernelIdeal
    ∧ algebraic_DowndwKernelIdeal_DowndwReferenceIdeal (hDowndwKernelIdeal := hDowndwKernelIdeal) (hDowndwReferenceIdeal := hDowndwReferenceIdeal)
    ∧ preserves_AdamKernel_AdamKernelIdeal
    ∧ algebraic_AdamKernelIdeal_AdamReferenceIdeal (hAdamKernelIdeal := hAdamKernelIdeal) (hAdamReferenceIdeal := hAdamReferenceIdeal)
-- ==== Pre_finite_attf.lean ====
abbrev S1x2064x4x64 : Shape := ⟨4, ![1, 2064, 4, 64]⟩
abbrev S1x2064x4x32 : Shape := ⟨4, ![1, 2064, 4, 32]⟩
abbrev S1x2064x32 : Shape := ⟨3, ![1, 2064, 32]⟩
abbrev S_ : Shape := ⟨0, ![]⟩

class Facts : Prop where
  bcast_S_S1x2064x4x64 : S_.BroadcastsInDim S1x2064x4x64 (![] : Fin 0 → Fin S1x2064x4x64.rank)
  bcast_S_S1x2064x4x32 : S_.BroadcastsInDim S1x2064x4x32 (![] : Fin 0 → Fin S1x2064x4x32.rank)
  bcast_S_S1x2064x32 : S_.BroadcastsInDim S1x2064x32 (![] : Fin 0 → Fin S1x2064x32.rank)

variable [Facts]

def fn {F : FTy → Type} [FloatOps F] (main_arg0 : FVec F S1x2064x4x64 .f32) (main_arg1 : FVec F S1x2064x4x32 .f32) (main_arg2 : FVec F S1x2064x4x64 .f32) (main_arg3 : FVec F S1x2064x32 .f32) (main_arg4 : FVec F S1x2064x4x64 .f32) : IVec S1x2064x4x64 1 × IVec S1x2064x4x32 1 × IVec S1x2064x4x64 1 × IVec S1x2064x32 1 :=
  let main_v0 : FVec F S1x2064x4x64 .f32 := Host.absf main_arg0
  let main_cst : FVec F S_ .f32 := constant S_ .f32 0x7F800000#32
  let main_v1 : FVec F S1x2064x4x64 .f32 := broadcastInDim S1x2064x4x64 ![] bcast_S_S1x2064x4x64 main_cst
  let main_v2 : IVec S1x2064x4x64 1 := cmpf .olt main_v0 main_v1
  let main_v3 : FVec F S1x2064x4x32 .f32 := Host.absf main_arg1
  let main_cst_0 : FVec F S_ .f32 := constant S_ .f32 0x7F800000#32
  let main_v4 : FVec F S1x2064x4x32 .f32 := broadcastInDim S1x2064x4x32 ![] bcast_S_S1x2064x4x32 main_cst_0
  let main_v5 : IVec S1x2064x4x32 1 := cmpf .olt main_v3 main_v4
  let main_v6 : FVec F S1x2064x4x64 .f32 := Host.absf main_arg2
  let main_cst_1 : FVec F S_ .f32 := constant S_ .f32 0x7F800000#32
  let main_v7 : FVec F S1x2064x4x64 .f32 := broadcastInDim S1x2064x4x64 ![] bcast_S_S1x2064x4x64 main_cst_1
  let main_v8 : IVec S1x2064x4x64 1 := cmpf .olt main_v6 main_v7
  let main_v9 : FVec F S1x2064x32 .f32 := Host.absf main_arg3
  let main_cst_2 : FVec F S_ .f32 := constant S_ .f32 0x7F800000#32
  let main_v10 : FVec F S1x2064x32 .f32 := broadcastInDim S1x2064x32 ![] bcast_S_S1x2064x32 main_cst_2
  let main_v11 : IVec S1x2064x32 1 := cmpf .olt main_v9 main_v10
  (main_v2, main_v5, main_v8, main_v11)
-- ==== Pre_finite_conv.lean ====
abbrev S1x2064x768 : Shape := ⟨3, ![1, 2064, 768]⟩
abbrev S4x768 : Shape := ⟨2, ![4, 768]⟩
abbrev S768 : Shape := ⟨1, ![768]⟩
abbrev S_ : Shape := ⟨0, ![]⟩

class Facts : Prop where
  bcast_S_S1x2064x768 : S_.BroadcastsInDim S1x2064x768 (![] : Fin 0 → Fin S1x2064x768.rank)

variable [Facts]

def fn {F : FTy → Type} [FloatOps F] (main_arg0 : FVec F S1x2064x768 .f32) (main_arg1 : FVec F S4x768 .f32) (main_arg2 : FVec F S768 .f32) (main_arg3 : FVec F S1x2064x768 .f32) : IVec S1x2064x768 1 :=
  let main_v0 : FVec F S1x2064x768 .f32 := Host.absf main_arg3
  let main_cst : FVec F S_ .f32 := constant S_ .f32 0x7F800000#32
  let main_v1 : FVec F S1x2064x768 .f32 := broadcastInDim S1x2064x768 ![] bcast_S_S1x2064x768 main_cst
  let main_v2 : IVec S1x2064x768 1 := cmpf .olt main_v0 main_v1
  main_v2
-- ==== Pre_finite_ffn.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S_ : Shape := ⟨0, ![]⟩

class Facts : Prop where
  bcast_S_S1x2064x2816 : S_.BroadcastsInDim S1x2064x2816 (![] : Fin 0 → Fin S1x2064x2816.rank)
  bcast_S_S2816x1024 : S_.BroadcastsInDim S2816x1024 (![] : Fin 0 → Fin S2816x1024.rank)
  bcast_S_S1x2064x1024 : S_.BroadcastsInDim S1x2064x1024 (![] : Fin 0 → Fin S1x2064x1024.rank)

variable [Facts]

def fn {F : FTy → Type} [FloatOps F] (main_arg0 : FVec F S1x2064x2816 .f32) (main_arg1 : FVec F S1x2064x2816 .f32) (main_arg2 : FVec F S2816x1024 .f32) (main_arg3 : FVec F S1x2064x1024 .f32) : IVec S1x2064x2816 1 × IVec S2816x1024 1 × IVec S1x2064x1024 1 :=
  let main_v0 : FVec F S1x2064x2816 .f32 := Host.absf main_arg1
  let main_cst : FVec F S_ .f32 := constant S_ .f32 0x7F800000#32
  let main_v1 : FVec F S1x2064x2816 .f32 := broadcastInDim S1x2064x2816 ![] bcast_S_S1x2064x2816 main_cst
  let main_v2 : IVec S1x2064x2816 1 := cmpf .olt main_v0 main_v1
  let main_v3 : FVec F S2816x1024 .f32 := Host.absf main_arg2
  let main_cst_0 : FVec F S_ .f32 := constant S_ .f32 0x7F800000#32
  let main_v4 : FVec F S2816x1024 .f32 := broadcastInDim S2816x1024 ![] bcast_S_S2816x1024 main_cst_0
  let main_v5 : IVec S2816x1024 1 := cmpf .olt main_v3 main_v4
  let main_v6 : FVec F S1x2064x1024 .f32 := Host.absf main_arg3
  let main_cst_1 : FVec F S_ .f32 := constant S_ .f32 0x7F800000#32
  let main_v7 : FVec F S1x2064x1024 .f32 := broadcastInDim S1x2064x1024 ![] bcast_S_S1x2064x1024 main_cst_1
  let main_v8 : IVec S1x2064x1024 1 := cmpf .olt main_v6 main_v7
  (main_v2, main_v5, main_v8)
-- ==== Pre_finite_foxf.lean ====
abbrev S1x2064x256 : Shape := ⟨3, ![1, 2064, 256]⟩
abbrev S1x4x2064 : Shape := ⟨3, ![1, 4, 2064]⟩
abbrev S_ : Shape := ⟨0, ![]⟩

class Facts : Prop where
  bcast_S_S1x2064x256 : S_.BroadcastsInDim S1x2064x256 (![] : Fin 0 → Fin S1x2064x256.rank)
  bcast_S_S1x4x2064 : S_.BroadcastsInDim S1x4x2064 (![] : Fin 0 → Fin S1x4x2064.rank)

variable [Facts]

def fn {F : FTy → Type} [FloatOps F] (main_arg0 : FVec F S1x2064x256 .f32) (main_arg1 : FVec F S1x2064x256 .f32) (main_arg2 : FVec F S1x2064x256 .f32) (main_arg3 : FVec F S1x4x2064 .f32) : IVec S1x2064x256 1 × IVec S1x2064x256 1 × IVec S1x4x2064 1 :=
  let main_v0 : FVec F S1x2064x256 .f32 := Host.absf main_arg0
  let main_cst : FVec F S_ .f32 := constant S_ .f32 0x7F800000#32
  let main_v1 : FVec F S1x2064x256 .f32 := broadcastInDim S1x2064x256 ![] bcast_S_S1x2064x256 main_cst
  let main_v2 : IVec S1x2064x256 1 := cmpf .olt main_v0 main_v1
  let main_v3 : FVec F S1x2064x256 .f32 := Host.absf main_arg1
  let main_cst_0 : FVec F S_ .f32 := constant S_ .f32 0x7F800000#32
  let main_v4 : FVec F S1x2064x256 .f32 := broadcastInDim S1x2064x256 ![] bcast_S_S1x2064x256 main_cst_0
  let main_v5 : IVec S1x2064x256 1 := cmpf .olt main_v3 main_v4
  let main_v6 : FVec F S1x4x2064 .f32 := Host.absf main_arg3
  let main_cst_1 : FVec F S_ .f32 := constant S_ .f32 0x7F800000#32
  let main_v7 : FVec F S1x4x2064 .f32 := broadcastInDim S1x4x2064 ![] bcast_S_S1x4x2064 main_cst_1
  let main_v8 : IVec S1x4x2064 1 := cmpf .olt main_v6 main_v7
  (main_v2, main_v5, main_v8)
-- ==== Pre_finite_gate.lean ====
abbrev S1x2064x4 : Shape := ⟨3, ![1, 2064, 4]⟩
abbrev S4 : Shape := ⟨1, ![4]⟩
abbrev S1x4x2064 : Shape := ⟨3, ![1, 4, 2064]⟩
abbrev S_ : Shape := ⟨0, ![]⟩

class Facts : Prop where
  bcast_S_S1x2064x4 : S_.BroadcastsInDim S1x2064x4 (![] : Fin 0 → Fin S1x2064x4.rank)
  bcast_S_S1x4x2064 : S_.BroadcastsInDim S1x4x2064 (![] : Fin 0 → Fin S1x4x2064.rank)

variable [Facts]

def fn {F : FTy → Type} [FloatOps F] (main_arg0 : FVec F S1x2064x4 .f32) (main_arg1 : FVec F S4 .f32) (main_arg2 : FVec F S1x2064x4 .f32) (main_arg3 : FVec F S1x4x2064 .f32) : IVec S1x2064x4 1 × IVec S1x4x2064 1 :=
  let main_v0 : FVec F S1x2064x4 .f32 := Host.absf main_arg2
  let main_cst : FVec F S_ .f32 := constant S_ .f32 0x7F800000#32
  let main_v1 : FVec F S1x2064x4 .f32 := broadcastInDim S1x2064x4 ![] bcast_S_S1x2064x4 main_cst
  let main_v2 : IVec S1x2064x4 1 := cmpf .olt main_v0 main_v1
  let main_v3 : FVec F S1x4x2064 .f32 := Host.absf main_arg3
  let main_cst_0 : FVec F S_ .f32 := constant S_ .f32 0x7F800000#32
  let main_v4 : FVec F S1x4x2064 .f32 := broadcastInDim S1x4x2064 ![] bcast_S_S1x4x2064 main_cst_0
  let main_v5 : IVec S1x4x2064 1 := cmpf .olt main_v3 main_v4
  (main_v2, main_v5)
-- ==== Pre_finite_gatef.lean ====
abbrev S1x2064x4 : Shape := ⟨3, ![1, 2064, 4]⟩
abbrev S4 : Shape := ⟨1, ![4]⟩
abbrev S_ : Shape := ⟨0, ![]⟩

class Facts : Prop where
  bcast_S_S1x2064x4 : S_.BroadcastsInDim S1x2064x4 (![] : Fin 0 → Fin S1x2064x4.rank)
  bcast_S_S4 : S_.BroadcastsInDim S4 (![] : Fin 0 → Fin S4.rank)

variable [Facts]

def fn {F : FTy → Type} [FloatOps F] (main_arg0 : FVec F S1x2064x4 .f32) (main_arg1 : FVec F S4 .f32) : IVec S1x2064x4 1 × IVec S4 1 :=
  let main_v0 : FVec F S1x2064x4 .f32 := Host.absf main_arg0
  let main_cst : FVec F S_ .f32 := constant S_ .f32 0x7F800000#32
  let main_v1 : FVec F S1x2064x4 .f32 := broadcastInDim S1x2064x4 ![] bcast_S_S1x2064x4 main_cst
  let main_v2 : IVec S1x2064x4 1 := cmpf .olt main_v0 main_v1
  let main_v3 : FVec F S4 .f32 := Host.absf main_arg1
  let main_cst_0 : FVec F S_ .f32 := constant S_ .f32 0x7F800000#32
  let main_v4 : FVec F S4 .f32 := broadcastInDim S4 ![] bcast_S_S4 main_cst_0
  let main_v5 : IVec S4 1 := cmpf .olt main_v3 main_v4
  (main_v2, main_v5)
-- ==== Pre_finite_ln.lean ====
abbrev S1x2064x1024 : Shape := ⟨3, ![1, 2064, 1024]⟩
abbrev S1024 : Shape := ⟨1, ![1024]⟩
abbrev S_ : Shape := ⟨0, ![]⟩

class Facts : Prop where
  bcast_S_S1024 : S_.BroadcastsInDim S1024 (![] : Fin 0 → Fin S1024.rank)
  bcast_S_S1x2064x1024 : S_.BroadcastsInDim S1x2064x1024 (![] : Fin 0 → Fin S1x2064x1024.rank)

variable [Facts]

def fn {F : FTy → Type} [FloatOps F] (main_arg0 : FVec F S1x2064x1024 .f32) (main_arg1 : FVec F S1x2064x1024 .f32) (main_arg2 : FVec F S1024 .f32) (main_arg3 : FVec F S1024 .f32) (main_arg4 : FVec F S1x2064x1024 .f32) : IVec S1024 1 × IVec S1x2064x1024 1 :=
  let main_v0 : FVec F S1024 .f32 := Host.absf main_arg2
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1x2064x1024 .f32 := Host.absf main_arg4
  let main_cst_0 : FVec F S_ .f32 := constant S_ .f32 0x7F800000#32
  let main_v4 : FVec F S1x2064x1024 .f32 := broadcastInDim S1x2064x1024 ![] bcast_S_S1x2064x1024 main_cst_0
  let main_v5 : IVec S1x2064x1024 1 := cmpf .olt main_v3 main_v4
  (main_v2, main_v5)
-- ==== RopeKernel.lean ====
abbrev S1x2064x4x32 : Shape := ⟨4, ![1, 2064, 4, 32]⟩
abbrev S2064x16 : Shape := ⟨2, ![2064, 16]⟩
abbrev S_ : Shape := ⟨0, ![]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S2176x128 : Shape := ⟨2, ![2176, 128]⟩
abbrev S2064x4x32 : Shape := ⟨3, ![2064, 4, 32]⟩
abbrev S2064x4x2x16 : Shape := ⟨4, ![2064, 4, 2, 16]⟩
abbrev S2064x2x4x16 : Shape := ⟨4, ![2064, 2, 4, 16]⟩
abbrev S2064x128 : Shape := ⟨2, ![2064, 128]⟩
abbrev S544x128 : Shape := ⟨2, ![544, 128]⟩

abbrev nBuf : Space → Nat
  | .hbm => 35
  | .vmem => 12
  | .smem => 0
  | _ => 0

abbrev bufTy : (tb : Table) → Fin (tcTables nBuf tb) → BufTy
  | .hbm, ⟨0, _⟩ => ⟨S1x2064x4x32, .f32⟩
  | .hbm, ⟨1, _⟩ => ⟨S1x2064x4x32, .f32⟩
  | .hbm, ⟨2, _⟩ => ⟨S2064x16, .f32⟩
  | .hbm, ⟨3, _⟩ => ⟨S2064x16, .f32⟩
  | .hbm, ⟨4, _⟩ => ⟨S_, .i32⟩
  | .hbm, ⟨5, _⟩ => ⟨S_, .f32⟩
  | .hbm, ⟨6, _⟩ => ⟨S2176x16, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S_, .i32⟩
  | .hbm, ⟨11, _⟩ => ⟨S_, .f32⟩
  | .hbm, ⟨12, _⟩ => ⟨S2176x16, .f32⟩
  | .hbm, ⟨13, _⟩ => ⟨S1x2176x1x16, .f32⟩
  | .hbm, ⟨14, _⟩ => ⟨S1x2176x4x16, .f32⟩
  | .hbm, ⟨15, _⟩ => ⟨S2176x64, .f32⟩
  | .hbm, ⟨16, _⟩ => ⟨S2176x128, .f32⟩
  | .hbm, ⟨17, _⟩ => ⟨S2176x64, .f32⟩
  | .hbm, ⟨18, _⟩ => ⟨S2176x128, .f32⟩
  | .hbm, ⟨19, _⟩ => ⟨S2064x4x32, .f32⟩
  | .hbm, ⟨20, _⟩ => ⟨S2064x4x2x16, .f32⟩
  | .hbm, ⟨21, _⟩ => ⟨S2064x2x4x16, .f32⟩
  | .hbm, ⟨22, _⟩ => ⟨S2064x128, .f32⟩
  | .hbm, ⟨23, _⟩ => ⟨S_, .i32⟩
  | .hbm, ⟨24, _⟩ => ⟨S_, .f32⟩
  | .hbm, ⟨25, _⟩ => ⟨S2176x128, .f32⟩
  | .hbm, ⟨26, _⟩ => ⟨S2064x4x32, .f32⟩
  | .hbm, ⟨27, _⟩ => ⟨S2064x4x2x16, .f32⟩
  | .hbm, ⟨28, _⟩ => ⟨S2064x2x4x16, .f32⟩
  | .hbm, ⟨29, _⟩ => ⟨S2064x128, .f32⟩
  | .hbm, ⟨30, _⟩ => ⟨S_, .i32⟩
  | .hbm, ⟨31, _⟩ => ⟨S_, .f32⟩
  | .hbm, ⟨32, _⟩ => ⟨S2176x128, .f32⟩
  | .hbm, ⟨33, _⟩ => ⟨S2176x128, .f32⟩
  | .hbm, ⟨34, _⟩ => ⟨S2176x128, .f32⟩
  | .local _ .vmem, ⟨0, _⟩ => ⟨S544x128, .f32⟩
  | .local _ .vmem, ⟨1, _⟩ => ⟨S544x128, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x128, .f32⟩
  | _, _ => ⟨S1x2064x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call2_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call3_v0 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeReferenceIdeal.lean ====
abbrev S1x2064x4x32 : Shape := ⟨4, ![1, 2064, 4, 32]⟩
abbrev S2064x16 : Shape := ⟨2, ![2064, 16]⟩
abbrev S_ : Shape := ⟨0, ![]⟩
abbrev S1x2064x1x16 : Shape := ⟨4, ![1, 2064, 1, 16]⟩
abbrev S1x2064x4x16 : Shape := ⟨4, ![1, 2064, 4, 16]⟩
abbrev S2064x4x32 : Shape := ⟨3, ![2064, 4, 32]⟩
abbrev S2064x4x2x16 : Shape := ⟨4, ![2064, 4, 2, 16]⟩
abbrev S2064x2x4x16 : Shape := ⟨4, ![2064, 2, 4, 16]⟩
abbrev S2064x128 : Shape := ⟨2, ![2064, 128]⟩
abbrev S2176x128 : Shape := ⟨2, ![2176, 128]⟩

abbrev nBuf : Space → Nat
  | .hbm => 80
  | .vmem => 0
  | .smem => 0
  | _ => 0

abbrev bufTy : (tb : Table) → Fin (tcTables nBuf tb) → BufTy
  | .hbm, ⟨0, _⟩ => ⟨S1x2064x4x32, .f32⟩
  | .hbm, ⟨1, _⟩ => ⟨S1x2064x4x32, .f32⟩
  | .hbm, ⟨2, _⟩ => ⟨S2064x16, .f32⟩
  | .hbm, ⟨3, _⟩ => ⟨S2064x16, .f32⟩
  | .hbm, ⟨4, _⟩ => ⟨S_, .f32⟩
  | .hbm, ⟨5, _⟩ => ⟨S1x2064x4x32, .f32⟩
  | .hbm, ⟨6, _⟩ => ⟨S_, .f32⟩
  | .hbm, ⟨7, _⟩ => ⟨S1x2064x4x32, .f32⟩
  | .hbm, ⟨8, _⟩ => ⟨S1x2064x1x16, .f32⟩
  | .hbm, ⟨9, _⟩ => ⟨S1x2064x1x16, .f32⟩
  | .hbm, ⟨10, _⟩ => ⟨S1x2064x4x16, .f32⟩
  | .hbm, ⟨11, _⟩ => ⟨S1x2064x4x16, .f32⟩
  | .hbm, ⟨12, _⟩ => ⟨S1x2064x4x16, .f32⟩
  | .hbm, ⟨13, _⟩ => ⟨S1x2064x4x16, .f32⟩
  | .hbm, ⟨14, _⟩ => ⟨S1x2064x4x16, .f32⟩
  | .hbm, ⟨15, _⟩ => ⟨S1x2064x4x16, .f32⟩
  | .hbm, ⟨16, _⟩ => ⟨S1x2064x4x16, .f32⟩
  | .hbm, ⟨17, _⟩ => ⟨S1x2064x4x16, .f32⟩
  | .hbm, ⟨18, _⟩ => ⟨S1x2064x4x16, .f32⟩
  | .hbm, ⟨19, _⟩ => ⟨S1x2064x4x16, .f32⟩
  | .hbm, ⟨20, _⟩ => ⟨S1x2064x4x16, .f32⟩
  | .hbm, ⟨21, _⟩ => ⟨S1x2064x4x16, .f32⟩
  | .hbm, ⟨22, _⟩ => ⟨S1x2064x4x32, .f32⟩
  | .hbm, ⟨23, _⟩ => ⟨S1x2064x1x16, .f32⟩
  | .hbm, ⟨24, _⟩ => ⟨S1x2064x1x16, .f32⟩
  | .hbm, ⟨25, _⟩ => ⟨S1x2064x4x16, .f32⟩
  | .hbm, ⟨26, _⟩ => ⟨S1x2064x4x16, .f32⟩
  | .hbm, ⟨27, _⟩ => ⟨S1x2064x4x16, .f32⟩
  | .hbm, ⟨28, _⟩ => ⟨S1x2064x4x16, .f32⟩
  | .hbm, ⟨29, _⟩ => ⟨S1x2064x4x16, .f32⟩
  | .hbm, ⟨30, _⟩ => ⟨S1x2064x4x16, .f32⟩
  | .hbm, ⟨31, _⟩ => ⟨S1x2064x4x16, .f32⟩
  | .hbm, ⟨32, _⟩ => ⟨S1x2064x4x16, .f32⟩
  | .hbm, ⟨33, _⟩ => ⟨S1x2064x4x16, .f32⟩
  | .hbm, ⟨34, _⟩ => ⟨S1x2064x4x16, .f32⟩
  | .hbm, ⟨35, _⟩ => ⟨S1x2064x4x16, .f32⟩
  | .hbm, ⟨36, _⟩ => ⟨S1x2064x4x16, .f32⟩
  | .hbm, ⟨37, _⟩ => ⟨S1x2064x4x32, .f32⟩
  | .hbm, ⟨38, _⟩ => ⟨S1x2064x4x16, .f32⟩
  | .hbm, ⟨39, _⟩ => ⟨S1x2064x4x16, .f32⟩
  | .hbm, ⟨40, _⟩ => ⟨S1x2064x4x16, .f32⟩
  | .hbm, ⟨41, _⟩ => ⟨S1x2064x4x16, .f32⟩
  | .hbm, ⟨42, _⟩ => ⟨S1x2064x4x16, .f32⟩
  | .hbm, ⟨43, _⟩ => ⟨S1x2064x4x16, .f32⟩
  | .hbm, ⟨44, _⟩ => ⟨S1x2064x4x16, .f32⟩
  | .hbm, ⟨45, _⟩ => ⟨S1x2064x4x16, .f32⟩
  | .hbm, ⟨46, _⟩ => ⟨S1x2064x4x16, .f32⟩
  | .hbm, ⟨47, _⟩ => ⟨S1x2064x4x16, .f32⟩
  | .hbm, ⟨48, _⟩ => ⟨S1x2064x4x16, .f32⟩
  | .hbm, ⟨49, _⟩ => ⟨S1x2064x4x16, .f32⟩
  | .hbm, ⟨50, _⟩ => ⟨S1x2064x4x16, .f32⟩
  | .hbm, ⟨51, _⟩ => ⟨S1x2064x4x32, .f32⟩
  | .hbm, ⟨52, _⟩ => ⟨S1x2064x4x16, .f32⟩
  | .hbm, ⟨53, _⟩ => ⟨S1x2064x4x16, .f32⟩
  | .hbm, ⟨54, _⟩ => ⟨S1x2064x4x16, .f32⟩
  | .hbm, ⟨55, _⟩ => ⟨S1x2064x4x16, .f32⟩
  | .hbm, ⟨56, _⟩ => ⟨S1x2064x4x16, .f32⟩
  | .hbm, ⟨57, _⟩ => ⟨S1x2064x4x16, .f32⟩
  | .hbm, ⟨58, _⟩ => ⟨S1x2064x4x16, .f32⟩
  | .hbm, ⟨59, _⟩ => ⟨S1x2064x4x16, .f32⟩
  | .hbm, ⟨60, _⟩ => ⟨S1x2064x4x16, .f32⟩
  | .hbm, ⟨61, _⟩ => ⟨S1x2064x4x16, .f32⟩
  | .hbm, ⟨62, _⟩ => ⟨S1x2064x4x16, .f32⟩
  | .hbm, ⟨63, _⟩ => ⟨S1x2064x4x16, .f32⟩
  | .hbm, ⟨64, _⟩ => ⟨S1x2064x4x16, .f32⟩
  | .hbm, ⟨65, _⟩ => ⟨S1x2064x4x32, .f32⟩
  | .hbm, ⟨66, _⟩ => ⟨S2064x4x32, .f32⟩
  | .hbm, ⟨67, _⟩ => ⟨S2064x4x2x16, .f32⟩
  | .hbm, ⟨68, _⟩ => ⟨S2064x2x4x16, .f32⟩
  | .hbm, ⟨69, _⟩ => ⟨S2064x128, .f32⟩
  | .hbm, ⟨70, _⟩ => ⟨S_, .i32⟩
  | .hbm, ⟨71, _⟩ => ⟨S_, .f32⟩
  | .hbm, ⟨72, _⟩ => ⟨S2176x128, .f32⟩
  | .hbm, ⟨73, _⟩ => ⟨S2064x4x32, .f32⟩
  | .hbm, ⟨74, _⟩ => ⟨S2064x4x2x16, .f32⟩
  | .hbm, ⟨75, _⟩ => ⟨S2064x2x4x16, .f32⟩
  | .hbm, ⟨76, _⟩ => ⟨S2064x128, .f32⟩
  | .hbm, ⟨77, _⟩ => ⟨S_, .i32⟩
  | .hbm, ⟨78, _⟩ => ⟨S_, .f32⟩
  | .hbm, ⟨79, _⟩ => ⟨S2176x128, .f32⟩
  | _, _ => ⟨S1x2064x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_c : Ref sig .tc := ⟨.hbm, 70, rfl⟩
abbrev main_call0_v0 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_c_1 : Ref sig .tc := ⟨.hbm, 77, rfl⟩
abbrev main_call1_v0 : Ref sig .tc := ⟨.hbm, 78, rfl⟩
abbrev main_v69 : Ref sig .tc := ⟨.hbm, 79, rfl⟩

abbrev nD : Nat := 1
abbrev τ : Topo := Topo.v7x

variable {F : FTy → Type} [FloatOps F]
-- ==== LossKernel.lean ====
abbrev S1x2064x1024 : Shape := ⟨3, ![1, 2064, 1024]⟩
abbrev S1x2048x1024 : Shape := ⟨3, ![1, 2048, 1024]⟩
abbrev S2064x1024 : Shape := ⟨2, ![2064, 1024]⟩
abbrev S_ : Shape := ⟨0, ![]⟩
abbrev S2176x1024 : Shape := ⟨2, ![2176, 1024]⟩
abbrev S2048x1024 : Shape := ⟨2, ![2048, 1024]⟩
abbrev S1x128 : Shape := ⟨2, ![1, 128]⟩
abbrev S544x1024 : Shape := ⟨2, ![544, 1024]⟩
abbrev S544 : Shape := ⟨1, ![544]⟩
abbrev S544x1 : Shape := ⟨2, ![544, 1]⟩
abbrev S1 : Shape := ⟨1, ![1]⟩
abbrev S1x1 : Shape := ⟨2, ![1, 1]⟩

abbrev nBuf : Space → Nat
  | .hbm => 12
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1x2048x1024, .f32⟩
  | .hbm, ⟨2, _⟩ => ⟨S2064x1024, .f32⟩
  | .hbm, ⟨3, _⟩ => ⟨S_, .i32⟩
  | .hbm, ⟨4, _⟩ => ⟨S_, .f32⟩
  | .hbm, ⟨5, _⟩ => ⟨S2176x1024, .f32⟩
  | .hbm, ⟨6, _⟩ => ⟨S2048x1024, .f32⟩
  | .hbm, ⟨7, _⟩ => ⟨S_, .i32⟩
  | .hbm, ⟨8, _⟩ => ⟨S_, .f32⟩
  | .hbm, ⟨9, _⟩ => ⟨S2176x1024, .f32⟩
  | .hbm, ⟨10, _⟩ => ⟨S2176x1024, .f32⟩
  | .hbm, ⟨11, _⟩ => ⟨S1x128, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S544x1024, .f32⟩
  | .local _ .vmem, ⟨5, _⟩ => ⟨S544x1024, .f32⟩
  | .local _ .vmem, ⟨6, _⟩ => ⟨S1x128, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v27 : BitVec 1 := Scalar.cmpi .eq arg0 c0_i32
  let v28 : BitVec 32 := Scalar.extui v27
  let c0_i32_10 : BitVec 32 := 0#32
  let v29 : BitVec 1 := Scalar.cmpi .ne v28 c0_i32_10
  v29

def k0_cond2 (i : grid0.Coords) : BitVec 1 :=
  let arg0 : BitVec 32 := BitVec.ofNat 32 (i 0).val
  let c0_i32_11 : BitVec 32 := 0#32
  let v30 : BitVec 1 := Scalar.cmpi .sgt arg0 c0_i32_11
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S544x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x2064x1024 : Shape := ⟨3, ![1, 2064, 1024]⟩
abbrev S1x2048x1024 : Shape := ⟨3, ![1, 2048, 1024]⟩
abbrev S_ : Shape := ⟨0, ![]⟩
abbrev S1x2048 : Shape := ⟨2, ![1, 2048]⟩
abbrev S2064x1024 : Shape := ⟨2, ![2064, 1024]⟩
abbrev S2176x1024 : Shape := ⟨2, ![2176, 1024]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2048x1024, .f32⟩
  | .hbm, ⟨2, _⟩ => ⟨S1x2048x1024, .f32⟩
  | .hbm, ⟨3, _⟩ => ⟨S1x2048x1024, .f32⟩
  | .hbm, ⟨4, _⟩ => ⟨S1x2048x1024, .f32⟩
  | .hbm, ⟨5, _⟩ => ⟨S_, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S_, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S1x2048x1024, .f32⟩
  | .hbm, ⟨25, _⟩ => ⟨S1x2048x1024, .f32⟩
  | .hbm, ⟨26, _⟩ => ⟨S_, .f32⟩
  | .hbm, ⟨27, _⟩ => ⟨S1x2064x1024, .f32⟩
  | .hbm, ⟨28, _⟩ => ⟨S2064x1024, .f32⟩
  | .hbm, ⟨29, _⟩ => ⟨S_, .i32⟩
  | .hbm, ⟨30, _⟩ => ⟨S_, .f32⟩
  | .hbm, ⟨31, _⟩ => ⟨S2176x1024, .f32⟩
  | .hbm, ⟨32, _⟩ => ⟨S1x128, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]
-- ==== ConvKernel.lean ====
abbrev S1x2064x768 : Shape := ⟨3, ![1, 2064, 768]⟩
abbrev S4x768 : Shape := ⟨2, ![4, 768]⟩
abbrev S768 : Shape := ⟨1, ![768]⟩
abbrev S2064x768 : Shape := ⟨2, ![2064, 768]⟩
abbrev S_ : Shape := ⟨0, ![]⟩
abbrev S2176x2816 : Shape := ⟨2, ![2176, 2816]⟩
abbrev S1x768 : Shape := ⟨2, ![1, 768]⟩
abbrev S2176x768 : Shape := ⟨2, ![2176, 768]⟩
abbrev S2176x128 : Shape := ⟨2, ![2176, 128]⟩
abbrev S4x128 : Shape := ⟨2, ![4, 128]⟩
abbrev S1x128 : Shape := ⟨2, ![1, 128]⟩
abbrev S128 : Shape := ⟨1, ![128]⟩

abbrev nBuf : Space → Nat
  | .hbm => 16
  | .vmem => 14
  | .smem => 0
  | _ => 0

abbrev bufTy : (tb : Table) → Fin (tcTables nBuf tb) → BufTy
  | .hbm, ⟨0, _⟩ => ⟨S1x2064x768, .f32⟩
  | .hbm, ⟨1, _⟩ => ⟨S4x768, .f32⟩
  | .hbm, ⟨2, _⟩ => ⟨S768, .f32⟩
  | .hbm, ⟨3, _⟩ => ⟨S1x2064x768, .f32⟩
  | .hbm, ⟨4, _⟩ => ⟨S2064x768, .f32⟩
  | .hbm, ⟨5, _⟩ => ⟨S_, .i32⟩
  | .hbm, ⟨6, _⟩ => ⟨S_, .f32⟩
  | .hbm, ⟨7, _⟩ => ⟨S2176x2816, .f32⟩
  | .hbm, ⟨8, _⟩ => ⟨S1x768, .f32⟩
  | .hbm, ⟨9, _⟩ => ⟨S2064x768, .f32⟩
  | .hbm, ⟨10, _⟩ => ⟨S_, .i32⟩
  | .hbm, ⟨11, _⟩ => ⟨S_, .f32⟩
  | .hbm, ⟨12, _⟩ => ⟨S2176x768, .f32⟩
  | .hbm, ⟨13, _⟩ => ⟨S2176x768, .f32⟩
  | .hbm, ⟨14, _⟩ => ⟨S4x768, .f32⟩
  | .hbm, ⟨15, _⟩ => ⟨S1x768, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | .local _ .vmem, ⟨8, _⟩ => ⟨S2176x128, .f32⟩
  | .local _ .vmem, ⟨9, _⟩ => ⟨S2176x128, .f32⟩
  | .local _ .vmem, ⟨10, _⟩ => ⟨S4x128, .f32⟩
  | .local _ .vmem, ⟨11, _⟩ => ⟨S4x128, .f32⟩
  | .local _ .vmem, ⟨12, _⟩ => ⟨S1x128, .f32⟩
  | .local _ .vmem, ⟨13, _⟩ => ⟨S1x128, .f32⟩
  | _, _ => ⟨S1x2064x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvReferenceIdeal.lean ====
abbrev S1x2064x768 : Shape := ⟨3, ![1, 2064, 768]⟩
abbrev S4x768 : Shape := ⟨2, ![4, 768]⟩
abbrev S768 : Shape := ⟨1, ![768]⟩
abbrev S_ : Shape := ⟨0, ![]⟩
abbrev S1x3x768 : Shape := ⟨3, ![1, 3, 768]⟩
abbrev S1x2067x768 : Shape := ⟨3, ![1, 2067, 768]⟩
abbrev S1x768 : Shape := ⟨2, ![1, 768]⟩
abbrev S1x1x768 : Shape := ⟨3, ![1, 1, 768]⟩
abbrev S2064x768 : Shape := ⟨2, ![2064, 768]⟩
abbrev S2176x768 : Shape := ⟨2, ![2176, 768]⟩

abbrev nBuf : Space → Nat
  | .hbm => 129
  | .vmem => 0
  | .smem => 0
  | _ => 0

abbrev hbmTy0_0 (i : Nat) : BufTy := match i % 128 with
  | 0 => ⟨S1x2064x768, .f32⟩
  | 1 => ⟨S4x768, .f32⟩
  | 2 => ⟨S768, .f32⟩
  | 3 => ⟨S1x2064x768, .f32⟩
  | 4 => ⟨S_, .f32⟩
  | 5 => ⟨S1x3x768, .f32⟩
  | 6 => ⟨S1x2067x768, .f32⟩
  | 7 => ⟨S_, .f32⟩
  | 8 => ⟨S1x3x768, .f32⟩
  | 9 => ⟨S1x2064x768, .f32⟩
  | 10 => ⟨S1x768, .f32⟩
  | 11 => ⟨S768, .f32⟩
  | 12 => ⟨S1x1x768, .f32⟩
  | 13 => ⟨S1x2064x768, .f32⟩
  | 14 => ⟨S1x2064x768, .f32⟩
  | 15 => ⟨S_, .f32⟩
  | 16 => ⟨S1x2064x768, .f32⟩
  | 17 => ⟨S1x2064x768, .f32⟩
  | 18 => ⟨S1x2064x768, .f32⟩
  | 19 => ⟨S1x768, .f32⟩
  | 20 => ⟨S768, .f32⟩
  | 21 => ⟨S1x1x768, .f32⟩
  | 22 => ⟨S1x2064x768, .f32⟩
  | 23 => ⟨S1x2064x768, .f32⟩
  | 24 => ⟨S1x2064x768, .f32⟩
  | 25 => ⟨S1x2064x768, .f32⟩
  | 26 => ⟨S1x768, .f32⟩
  | 27 => ⟨S768, .f32⟩
  | 28 => ⟨S1x1x768, .f32⟩
  | 29 => ⟨S1x2064x768, .f32⟩
  | 30 => ⟨S1x2064x768, .f32⟩
  | 31 => ⟨S1x2064x768, .f32⟩
  | 32 => ⟨S1x2064x768, .f32⟩
  | 33 => ⟨S1x768, .f32⟩
  | 34 => ⟨S768, .f32⟩
  | 35 => ⟨S1x1x768, .f32⟩
  | 36 => ⟨S1x2064x768, .f32⟩
  | 37 => ⟨S1x2064x768, .f32⟩
  | 38 => ⟨S1x2064x768, .f32⟩
  | 39 => ⟨S1x1x768, .f32⟩
  | 40 => ⟨S1x2064x768, .f32⟩
  | 41 => ⟨S1x2064x768, .f32⟩
  | 42 => ⟨S1x2064x768, .f32⟩
  | 43 => ⟨S1x2064x768, .f32⟩
  | 44 => ⟨S_, .f32⟩
  | 45 => ⟨S1x2064x768, .f32⟩
  | 46 => ⟨S1x2064x768, .f32⟩
  | 47 => ⟨S_, .f32⟩
  | 48 => ⟨S1x2064x768, .f32⟩
  | 49 => ⟨S1x2064x768, .f32⟩
  | 50 => ⟨S_, .f32⟩
  | 51 => ⟨S1x2064x768, .f32⟩
  | 52 => ⟨S1x2064x768, .f32⟩
  | 53 => ⟨S1x2064x768, .f32⟩
  | 54 => ⟨S1x2064x768, .f32⟩
  | 55 => ⟨S1x2064x768, .f32⟩
  | 56 => ⟨S1x2064x768, .f32⟩
  | 57 => ⟨S1x2064x768, .f32⟩
  | 58 => ⟨S1x2064x768, .f32⟩
  | 59 => ⟨S_, .f32⟩
  | 60 => ⟨S1x768, .f32⟩
  | 61 => ⟨S1x1x768, .f32⟩
  | 62 => ⟨S_, .f32⟩
  | 63 => ⟨S768, .f32⟩
  | 64 => ⟨S1x2064x768, .f32⟩
  | 65 => ⟨S_, .f32⟩
  | 66 => ⟨S1x768, .f32⟩
  | 67 => ⟨S1x1x768, .f32⟩
  | 68 => ⟨S1x2064x768, .f32⟩
  | 69 => ⟨S1x2064x768, .f32⟩
  | 70 => ⟨S_, .f32⟩
  | 71 => ⟨S768, .f32⟩
  | 72 => ⟨S1x768, .f32⟩
  | 73 => ⟨S_, .f32⟩
  | 74 => ⟨S4x768, .f32⟩
  | 75 => ⟨S_, .f32⟩
  | 76 => ⟨S1x2067x768, .f32⟩
  | 77 => ⟨S1x2064x768, .f32⟩
  | 78 => ⟨S_, .f32⟩
  | 79 => ⟨S1x768, .f32⟩
  | 80 => ⟨S1x1x768, .f32⟩
  | 81 => ⟨S1x2064x768, .f32⟩
  | 82 => ⟨S1x2064x768, .f32⟩
  | 83 => ⟨S_, .f32⟩
  | 84 => ⟨S768, .f32⟩
  | 85 => ⟨S1x768, .f32⟩
  | 86 => ⟨S_, .f32⟩
  | 87 => ⟨S4x768, .f32⟩
  | 88 => ⟨S4x768, .f32⟩
  | 89 => ⟨S_, .f32⟩
  | 90 => ⟨S1x2067x768, .f32⟩
  | 91 => ⟨S1x2067x768, .f32⟩
  | 92 => ⟨S1x2064x768, .f32⟩
  | 93 => ⟨S_, .f32⟩
  | 94 => ⟨S1x768, .f32⟩
  | 95 => ⟨S1x1x768, .f32⟩
  | 96 => ⟨S1x2064x768, .f32⟩
  | 97 => ⟨S1x2064x768, .f32⟩
  | 98 => ⟨S_, .f32⟩
  | 99 => ⟨S768, .f32⟩
  | 100 => ⟨S1x768, .f32⟩
  | 101 => ⟨S_, .f32⟩
  | 102 => ⟨S4x768, .f32⟩
  | 103 => ⟨S4x768, .f32⟩
  | 104 => ⟨S_, .f32⟩
  | 105 => ⟨S1x2067x768, .f32⟩
  | 106 => ⟨S1x2067x768, .f32⟩
  | 107 => ⟨S1x2064x768, .f32⟩
  | 108 => ⟨S_, .f32⟩
  | 109 => ⟨S1x768, .f32⟩
  | 110 => ⟨S1x1x768, .f32⟩
  | 111 => ⟨S1x2064x768, .f32⟩
  | 112 => ⟨S1x2064x768, .f32⟩
  | 113 => ⟨S_, .f32⟩
  | 114 => ⟨S768, .f32⟩
  | 115 => ⟨S1x768, .f32⟩
  | 116 => ⟨S_, .f32⟩
  | 117 => ⟨S4x768, .f32⟩
  | 118 => ⟨S4x768, .f32⟩
  | 119 => ⟨S_, .f32⟩
  | 120 => ⟨S1x2067x768, .f32⟩
  | 121 => ⟨S1x2067x768, .f32⟩
  | 122 => ⟨S1x3x768, .f32⟩
  | 123 => ⟨S1x2064x768, .f32⟩
  | 124 => ⟨S2064x768, .f32⟩
  | 125 => ⟨S_, .i32⟩
  | 126 => ⟨S_, .f32⟩
  | 127 => ⟨S2176x768, .f32⟩
  | _ => ⟨S1x2064x768, .f32⟩

abbrev hbmTy0_1 (i : Nat) : BufTy := match i % 128 with
  | 0 => ⟨S1x768, .f32⟩
  | _ => ⟨S1x2064x768, .f32⟩

abbrev hbmTy (i : Nat) : BufTy := match i / 128 with
  | 0 => hbmTy0_0 i
  | 1 => hbmTy0_1 i
  | _ => ⟨S1x2064x768, .f32⟩

abbrev bufTy : (tb : Table) → Fin (tcTables nBuf tb) → BufTy
  | .hbm, ⟨i, _⟩ => hbmTy i
  | _, _ => ⟨S1x2064x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v35_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v35_1 : Ref sig .tc := ⟨.hbm, 53, rfl⟩
abbrev main_v35_0 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v36 : Ref sig .tc := ⟨.hbm, 58, rfl⟩
abbrev main_cst_2 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_cst_4 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_5 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_cst_14 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_17 : Ref sig .tc := ⟨.hbm, 113, rfl⟩
abbrev main_v76 : Ref sig .tc := ⟨.hbm, 114, rfl⟩
abbrev main_v77 : Ref sig .tc := ⟨.hbm, 115, rfl⟩
abbrev main_cst_18 : Ref sig .tc := ⟨.hbm, 116, rfl⟩
abbrev main_v78 : Ref sig .tc := ⟨.hbm, 117, rfl⟩
abbrev main_v79 : Ref sig .tc := ⟨.hbm, 118, rfl⟩
abbrev main_cst_19 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_c : Ref sig .tc := ⟨.hbm, 125, rfl⟩
abbrev main_call2_v0 : Ref sig .tc := ⟨.hbm, 126, rfl⟩
abbrev main_v85 : Ref sig .tc := ⟨.hbm, 127, rfl⟩
abbrev main_v86 : Ref sig .tc := ⟨.hbm, 128, rfl⟩

abbrev nD : Nat := 1
abbrev τ : Topo := Topo.v7x

variable {F : FTy → Type} [FloatOps F]
-- ==== DtKernel.lean ====
abbrev S1x2064x8 : Shape := ⟨3, ![1, 2064, 8]⟩
abbrev S8 : Shape := ⟨1, ![8]⟩
abbrev S1x8x2064 : Shape := ⟨3, ![1, 8, 2064]⟩
abbrev S2064x8 : Shape := ⟨2, ![2064, 8]⟩
abbrev S_ : Shape := ⟨0, ![]⟩
abbrev S2176x2816 : Shape := ⟨2, ![2176, 2816]⟩
abbrev S1x8 : Shape := ⟨2, ![1, 8]⟩
abbrev S1x128 : Shape := ⟨2, ![1, 128]⟩
abbrev S2064x128 : Shape := ⟨2, ![2064, 128]⟩
abbrev S2176x128 : Shape := ⟨2, ![2176, 128]⟩
abbrev S8x2064 : Shape := ⟨2, ![8, 2064]⟩
abbrev S128x2176 : Shape := ⟨2, ![128, 2176]⟩
abbrev S128 : Shape := ⟨1, ![128]⟩

abbrev nBuf : Space → Nat
  | .hbm => 25
  | .vmem => 6
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S1x2064x8, .f32⟩
  | .hbm, ⟨3, _⟩ => ⟨S1x8x2064, .f32⟩
  | .hbm, ⟨4, _⟩ => ⟨S2064x8, .f32⟩
  | .hbm, ⟨5, _⟩ => ⟨S_, .i32⟩
  | .hbm, ⟨6, _⟩ => ⟨S_, .f32⟩
  | .hbm, ⟨7, _⟩ => ⟨S2176x2816, .f32⟩
  | .hbm, ⟨8, _⟩ => ⟨S1x8, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S2064x8, .f32⟩
  | .hbm, ⟨13, _⟩ => ⟨S_, .i32⟩
  | .hbm, ⟨14, _⟩ => ⟨S_, .f32⟩
  | .hbm, ⟨15, _⟩ => ⟨S2064x128, .f32⟩
  | .hbm, ⟨16, _⟩ => ⟨S_, .i32⟩
  | .hbm, ⟨17, _⟩ => ⟨S_, .f32⟩
  | .hbm, ⟨18, _⟩ => ⟨S2176x128, .f32⟩
  | .hbm, ⟨19, _⟩ => ⟨S8x2064, .f32⟩
  | .hbm, ⟨20, _⟩ => ⟨S_, .i32⟩
  | .hbm, ⟨21, _⟩ => ⟨S_, .f32⟩
  | .hbm, ⟨22, _⟩ => ⟨S128x2176, .f32⟩
  | .hbm, ⟨23, _⟩ => ⟨S2176x128, .f32⟩
  | .hbm, ⟨24, _⟩ => ⟨S1x128, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S128x2176, .f32⟩
  | .local _ .vmem, ⟨4, _⟩ => ⟨S2176x128, .f32⟩
  | .local _ .vmem, ⟨5, _⟩ => ⟨S1x128, .f32⟩
  | _, _ => ⟨S1x2064x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_c_2 : Ref sig .tc := ⟨.hbm, 16, rfl⟩
abbrev main_call3_v0 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_call4_v0 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DtReferenceIdeal.lean ====
abbrev S1x2064x8 : Shape := ⟨3, ![1, 2064, 8]⟩
abbrev S8 : Shape := ⟨1, ![8]⟩
abbrev S1x8x2064 : Shape := ⟨3, ![1, 8, 2064]⟩
abbrev S1x1x8 : Shape := ⟨3, ![1, 1, 8]⟩
abbrev S_ : Shape := ⟨0, ![]⟩
abbrev S1x8 : Shape := ⟨2, ![1, 8]⟩
abbrev S2064x8 : Shape := ⟨2, ![2064, 8]⟩
abbrev S2064x128 : Shape := ⟨2, ![2064, 128]⟩
abbrev S2176x128 : Shape := ⟨2, ![2176, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S1x2064x8, .f32⟩
  | .hbm, ⟨3, _⟩ => ⟨S1x8x2064, .f32⟩
  | .hbm, ⟨4, _⟩ => ⟨S1x1x8, .f32⟩
  | .hbm, ⟨5, _⟩ => ⟨S1x2064x8, .f32⟩
  | .hbm, ⟨6, _⟩ => ⟨S1x2064x8, .f32⟩
  | .hbm, ⟨7, _⟩ => ⟨S_, .f32⟩
  | .hbm, ⟨8, _⟩ => ⟨S1x2064x8, .f32⟩
  | .hbm, ⟨9, _⟩ => ⟨S1x2064x8, .f32⟩
  | .hbm, ⟨10, _⟩ => ⟨S1x2064x8, .f32⟩
  | .hbm, ⟨11, _⟩ => ⟨S1x2064x8, .f32⟩
  | .hbm, ⟨12, _⟩ => ⟨S1x2064x8, .i1⟩
  | .hbm, ⟨13, _⟩ => ⟨S1x2064x8, .f32⟩
  | .hbm, ⟨14, _⟩ => ⟨S1x2064x8, .f32⟩
  | .hbm, ⟨15, _⟩ => ⟨S1x2064x8, .f32⟩
  | .hbm, ⟨16, _⟩ => ⟨S1x2064x8, .f32⟩
  | .hbm, ⟨17, _⟩ => ⟨S1x2064x8, .f32⟩
  | .hbm, ⟨18, _⟩ => ⟨S1x2064x8, .f32⟩
  | .hbm, ⟨19, _⟩ => ⟨S1x2064x8, .f32⟩
  | .hbm, ⟨20, _⟩ => ⟨S1x2064x8, .f32⟩
  | .hbm, ⟨21, _⟩ => ⟨S_, .f32⟩
  | .hbm, ⟨22, _⟩ => ⟨S1x2064x8, .f32⟩
  | .hbm, ⟨23, _⟩ => ⟨S1x2064x8, .i1⟩
  | .hbm, ⟨24, _⟩ => ⟨S_, .f32⟩
  | .hbm, ⟨25, _⟩ => ⟨S1x2064x8, .f32⟩
  | .hbm, ⟨26, _⟩ => ⟨S1x2064x8, .f32⟩
  | .hbm, ⟨27, _⟩ => ⟨S_, .f32⟩
  | .hbm, ⟨28, _⟩ => ⟨S1x2064x8, .f32⟩
  | .hbm, ⟨29, _⟩ => ⟨S1x2064x8, .i1⟩
  | .hbm, ⟨30, _⟩ => ⟨S_, .f32⟩
  | .hbm, ⟨31, _⟩ => ⟨S1x2064x8, .f32⟩
  | .hbm, ⟨32, _⟩ => ⟨S1x2064x8, .f32⟩
  | .hbm, ⟨33, _⟩ => ⟨S1x2064x8, .f32⟩
  | .hbm, ⟨34, _⟩ => ⟨S1x2064x8, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x2064x8, .f32⟩
  | .hbm, ⟨43, _⟩ => ⟨S1x2064x8, .i1⟩
  | .hbm, ⟨44, _⟩ => ⟨S_, .f32⟩
  | .hbm, ⟨45, _⟩ => ⟨S1x2064x8, .f32⟩
  | .hbm, ⟨46, _⟩ => ⟨S1x2064x8, .f32⟩
  | .hbm, ⟨47, _⟩ => ⟨S1x2064x8, .f32⟩
  | .hbm, ⟨48, _⟩ => ⟨S1x2064x8, .f32⟩
  | .hbm, ⟨49, _⟩ => ⟨S1x2064x8, .f32⟩
  | .hbm, ⟨50, _⟩ => ⟨S_, .f32⟩
  | .hbm, ⟨51, _⟩ => ⟨S1x2064x8, .f32⟩
  | .hbm, ⟨52, _⟩ => ⟨S1x2064x8, .f32⟩
  | .hbm, ⟨53, _⟩ => ⟨S1x8x2064, .f32⟩
  | .hbm, ⟨54, _⟩ => ⟨S1x2064x8, .f32⟩
  | .hbm, ⟨55, _⟩ => ⟨S1x2064x8, .f32⟩
  | .hbm, ⟨56, _⟩ => ⟨S1x2064x8, .f32⟩
  | .hbm, ⟨57, _⟩ => ⟨S1x2064x8, .f32⟩
  | .hbm, ⟨58, _⟩ => ⟨S1x2064x8, .f32⟩
  | .hbm, ⟨59, _⟩ => ⟨S_, .f32⟩
  | .hbm, ⟨60, _⟩ => ⟨S1x8, .f32⟩
  | .hbm, ⟨61, _⟩ => ⟨S1x1x8, .f32⟩
  | .hbm, ⟨62, _⟩ => ⟨S_, .f32⟩
  | .hbm, ⟨63, _⟩ => ⟨S8, .f32⟩
  | .hbm, ⟨64, _⟩ => ⟨S2064x8, .f32⟩
  | .hbm, ⟨65, _⟩ => ⟨S_, .i32⟩
  | .hbm, ⟨66, _⟩ => ⟨S_, .f32⟩
  | .hbm, ⟨67, _⟩ => ⟨S2064x128, .f32⟩
  | .hbm, ⟨68, _⟩ => ⟨S_, .i32⟩
  | .hbm, ⟨69, _⟩ => ⟨S_, .f32⟩
  | .hbm, ⟨70, _⟩ => ⟨S2176x128, .f32⟩
  | .hbm, ⟨71, _⟩ => ⟨S1x8, .f32⟩
  | .hbm, ⟨72, _⟩ => ⟨S_, .i32⟩
  | .hbm, ⟨73, _⟩ => ⟨S_, .f32⟩
  | .hbm, ⟨74, _⟩ => ⟨S1x128, .f32⟩
  | _, _ => ⟨S1x2064x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_v3_0 : Ref sig .tc := ⟨.hbm, 20, rfl⟩
abbrev main_call0_cst_0 : Ref sig .tc := ⟨.hbm, 21, rfl⟩
abbrev main_call0_v13 : Ref sig .tc := ⟨.hbm, 22, rfl⟩
abbrev main_call0_v14 : Ref sig .tc := ⟨.hbm, 23, rfl⟩
abbrev main_call0_cst_1 : Ref sig .tc := ⟨.hbm, 24, rfl⟩
abbrev main_call0_v15 : Ref sig .tc := ⟨.hbm, 25, rfl⟩
abbrev main_call0_v16 : Ref sig .tc := ⟨.hbm, 26, rfl⟩
abbrev main_call0_cst_2 : Ref sig .tc := ⟨.hbm, 27, rfl⟩
abbrev main_call0_v17 : Ref sig .tc := ⟨.hbm, 28, rfl⟩
abbrev main_call0_v18 : Ref sig .tc := ⟨.hbm, 29, rfl⟩
abbrev main_call0_cst_3 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_v3_1 : Ref sig .tc := ⟨.hbm, 34, rfl⟩
abbrev main_call0_cst_4 : Ref sig .tc := ⟨.hbm, 35, rfl⟩
abbrev main_call0_cst_5 : Ref sig .tc := ⟨.hbm, 36, rfl⟩
abbrev main_call0_v23 : Ref sig .tc := ⟨.hbm, 37, rfl⟩
abbrev main_call0_cst_6 : Ref sig .tc := ⟨.hbm, 38, rfl⟩
abbrev main_call0_cst_7 : Ref sig .tc := ⟨.hbm, 39, rfl⟩
abbrev main_call0_v24 : Ref sig .tc := ⟨.hbm, 40, rfl⟩
abbrev main_call0_cst_8 : Ref sig .tc := ⟨.hbm, 41, rfl⟩
abbrev main_call0_v25 : Ref sig .tc := ⟨.hbm, 42, rfl⟩
abbrev main_call0_v26 : Ref sig .tc := ⟨.hbm, 43, rfl⟩
abbrev main_call0_cst_9 : Ref sig .tc := ⟨.hbm, 44, rfl⟩
abbrev main_call0_v27 : Ref sig .tc := ⟨.hbm, 45, rfl⟩
abbrev main_call0_v28 : Ref sig .tc := ⟨.hbm, 46, rfl⟩
abbrev main_call0_v29 : Ref sig .tc := ⟨.hbm, 47, rfl⟩
abbrev main_call0_v30 : Ref sig .tc := ⟨.hbm, 48, rfl⟩
abbrev main_call0_v31 : Ref sig .tc := ⟨.hbm, 49, rfl⟩
abbrev main_call0_cst_10 : Ref sig .tc := ⟨.hbm, 50, rfl⟩
abbrev main_call0_v32 : Ref sig .tc := ⟨.hbm, 51, rfl⟩
abbrev main_v3_2 : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_call1_v0 : Ref sig .tc := ⟨.hbm, 56, rfl⟩
abbrev main_call1_v1 : Ref sig .tc := ⟨.hbm, 57, rfl⟩
abbrev main_v7 : Ref sig .tc := ⟨.hbm, 58, rfl⟩
abbrev main_cst : Ref sig .tc := ⟨.hbm, 59, rfl⟩
abbrev main_v8 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_c : Ref sig .tc := ⟨.hbm, 65, rfl⟩
abbrev main_call2_v0 : Ref sig .tc := ⟨.hbm, 66, rfl⟩
abbrev main_v12 : Ref sig .tc := ⟨.hbm, 67, rfl⟩
abbrev main_c_1 : Ref sig .tc := ⟨.hbm, 68, rfl⟩
abbrev main_call3_v0 : Ref sig .tc := ⟨.hbm, 69, rfl⟩
abbrev main_v13 : Ref sig .tc := ⟨.hbm, 70, rfl⟩
abbrev main_v14 : Ref sig .tc := ⟨.hbm, 71, rfl⟩
abbrev main_c_2 : Ref sig .tc := ⟨.hbm, 72, rfl⟩
abbrev main_call4_v0 : Ref sig .tc := ⟨.hbm, 73, rfl⟩
abbrev main_v15 : Ref sig .tc := ⟨.hbm, 74, rfl⟩

abbrev nD : Nat := 1
abbrev τ : Topo := Topo.v7x

variable {F : FTy → Type} [FloatOps F]
-- ==== GateKernel.lean ====
abbrev S1x2064x4 : Shape := ⟨3, ![1, 2064, 4]⟩
abbrev S4 : Shape := ⟨1, ![4]⟩
abbrev S1x4x2064 : Shape := ⟨3, ![1, 4, 2064]⟩
abbrev S2064x4 : Shape := ⟨2, ![2064, 4]⟩
abbrev S_ : Shape := ⟨0, ![]⟩
abbrev S2176x2816 : Shape := ⟨2, ![2176, 2816]⟩
abbrev S1x4 : Shape := ⟨2, ![1, 4]⟩
abbrev S1x128 : Shape := ⟨2, ![1, 128]⟩
abbrev S2064x128 : Shape := ⟨2, ![2064, 128]⟩
abbrev S2176x128 : Shape := ⟨2, ![2176, 128]⟩
abbrev S4x2064 : Shape := ⟨2, ![4, 2064]⟩
abbrev S128x2176 : Shape := ⟨2, ![128, 2176]⟩
abbrev S128x128 : Shape := ⟨2, ![128, 128]⟩
abbrev S128 : Shape := ⟨1, ![128]⟩

abbrev nBuf : Space → Nat
  | .hbm => 25
  | .vmem => 6
  | .smem => 0
  | _ => 0

abbrev bufTy : (tb : Table) → Fin (tcTables nBuf tb) → BufTy
  | .hbm, ⟨0, _⟩ => ⟨S1x2064x4, .f32⟩
  | .hbm, ⟨1, _⟩ => ⟨S4, .f32⟩
  | .hbm, ⟨2, _⟩ => ⟨S1x2064x4, .f32⟩
  | .hbm, ⟨3, _⟩ => ⟨S1x4x2064, .f32⟩
  | .hbm, ⟨4, _⟩ => ⟨S2064x4, .f32⟩
  | .hbm, ⟨5, _⟩ => ⟨S_, .i32⟩
  | .hbm, ⟨6, _⟩ => ⟨S_, .f32⟩
  | .hbm, ⟨7, _⟩ => ⟨S2176x2816, .f32⟩
  | .hbm, ⟨8, _⟩ => ⟨S1x4, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S2064x4, .f32⟩
  | .hbm, ⟨13, _⟩ => ⟨S_, .i32⟩
  | .hbm, ⟨14, _⟩ => ⟨S_, .f32⟩
  | .hbm, ⟨15, _⟩ => ⟨S2064x128, .f32⟩
  | .hbm, ⟨16, _⟩ => ⟨S_, .i32⟩
  | .hbm, ⟨17, _⟩ => ⟨S_, .f32⟩
  | .hbm, ⟨18, _⟩ => ⟨S2176x128, .f32⟩
  | .hbm, ⟨19, _⟩ => ⟨S4x2064, .f32⟩
  | .hbm, ⟨20, _⟩ => ⟨S_, .i32⟩
  | .hbm, ⟨21, _⟩ => ⟨S_, .f32⟩
  | .hbm, ⟨22, _⟩ => ⟨S128x2176, .f32⟩
  | .hbm, ⟨23, _⟩ => ⟨S2176x128, .f32⟩
  | .hbm, ⟨24, _⟩ => ⟨S1x128, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S128x2176, .f32⟩
  | .local _ .vmem, ⟨4, _⟩ => ⟨S2176x128, .f32⟩
  | .local _ .vmem, ⟨5, _⟩ => ⟨S1x128, .f32⟩
  | _, _ => ⟨S1x2064x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call2_v0 : Ref sig .tc := ⟨.hbm, 14, rfl⟩
abbrev main_v5 : Ref sig .tc := ⟨.hbm, 15, rfl⟩
abbrev main_c_2 : Ref sig .tc := ⟨.hbm, 16, rfl⟩
abbrev main_call3_v0 : Ref sig .tc := ⟨.hbm, 17, rfl⟩
abbrev main_v6 : Ref sig .tc := ⟨.hbm, 18, rfl⟩
abbrev main_v7 : Ref sig .tc := ⟨.hbm, 19, rfl⟩
abbrev main_c_3 : Ref sig .tc := ⟨.hbm, 20, rfl⟩
abbrev main_call4_v0 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GateReferenceIdeal.lean ====
abbrev S1x2064x4 : Shape := ⟨3, ![1, 2064, 4]⟩
abbrev S4 : Shape := ⟨1, ![4]⟩
abbrev S1x4x2064 : Shape := ⟨3, ![1, 4, 2064]⟩
abbrev S1x1x4 : Shape := ⟨3, ![1, 1, 4]⟩
abbrev S_ : Shape := ⟨0, ![]⟩
abbrev S1x4 : Shape := ⟨2, ![1, 4]⟩
abbrev S2064x4 : Shape := ⟨2, ![2064, 4]⟩
abbrev S2064x128 : Shape := ⟨2, ![2064, 128]⟩
abbrev S2176x128 : Shape := ⟨2, ![2176, 128]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S1x2064x4, .f32⟩
  | .hbm, ⟨1, _⟩ => ⟨S4, .f32⟩
  | .hbm, ⟨2, _⟩ => ⟨S1x2064x4, .f32⟩
  | .hbm, ⟨3, _⟩ => ⟨S1x4x2064, .f32⟩
  | .hbm, ⟨4, _⟩ => ⟨S1x1x4, .f32⟩
  | .hbm, ⟨5, _⟩ => ⟨S1x2064x4, .f32⟩
  | .hbm, ⟨6, _⟩ => ⟨S1x2064x4, .f32⟩
  | .hbm, ⟨7, _⟩ => ⟨S1x2064x4, .f32⟩
  | .hbm, ⟨8, _⟩ => ⟨S_, .f32⟩
  | .hbm, ⟨9, _⟩ => ⟨S1x2064x4, .f32⟩
  | .hbm, ⟨10, _⟩ => ⟨S1x2064x4, .f32⟩
  | .hbm, ⟨11, _⟩ => ⟨S1x2064x4, .f32⟩
  | .hbm, ⟨12, _⟩ => ⟨S1x2064x4, .f32⟩
  | .hbm, ⟨13, _⟩ => ⟨S1x2064x4, .i1⟩
  | .hbm, ⟨14, _⟩ => ⟨S1x2064x4, .f32⟩
  | .hbm, ⟨15, _⟩ => ⟨S1x2064x4, .f32⟩
  | .hbm, ⟨16, _⟩ => ⟨S1x2064x4, .f32⟩
  | .hbm, ⟨17, _⟩ => ⟨S1x2064x4, .f32⟩
  | .hbm, ⟨18, _⟩ => ⟨S1x2064x4, .f32⟩
  | .hbm, ⟨19, _⟩ => ⟨S1x2064x4, .f32⟩
  | .hbm, ⟨20, _⟩ => ⟨S1x2064x4, .f32⟩
  | .hbm, ⟨21, _⟩ => ⟨S1x2064x4, .f32⟩
  | .hbm, ⟨22, _⟩ => ⟨S_, .f32⟩
  | .hbm, ⟨23, _⟩ => ⟨S1x2064x4, .f32⟩
  | .hbm, ⟨24, _⟩ => ⟨S1x2064x4, .i1⟩
  | .hbm, ⟨25, _⟩ => ⟨S_, .f32⟩
  | .hbm, ⟨26, _⟩ => ⟨S1x2064x4, .f32⟩
  | .hbm, ⟨27, _⟩ => ⟨S1x2064x4, .f32⟩
  | .hbm, ⟨28, _⟩ => ⟨S_, .f32⟩
  | .hbm, ⟨29, _⟩ => ⟨S1x2064x4, .f32⟩
  | .hbm, ⟨30, _⟩ => ⟨S1x2064x4, .i1⟩
  | .hbm, ⟨31, _⟩ => ⟨S_, .f32⟩
  | .hbm, ⟨32, _⟩ => ⟨S1x2064x4, .f32⟩
  | .hbm, ⟨33, _⟩ => ⟨S1x2064x4, .f32⟩
  | .hbm, ⟨34, _⟩ => ⟨S1x2064x4, .f32⟩
  | .hbm, ⟨35, _⟩ => ⟨S1x2064x4, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S1x2064x4, .f32⟩
  | .hbm, ⟨44, _⟩ => ⟨S1x2064x4, .i1⟩
  | .hbm, ⟨45, _⟩ => ⟨S_, .f32⟩
  | .hbm, ⟨46, _⟩ => ⟨S1x2064x4, .f32⟩
  | .hbm, ⟨47, _⟩ => ⟨S1x2064x4, .f32⟩
  | .hbm, ⟨48, _⟩ => ⟨S1x2064x4, .f32⟩
  | .hbm, ⟨49, _⟩ => ⟨S1x2064x4, .f32⟩
  | .hbm, ⟨50, _⟩ => ⟨S1x2064x4, .f32⟩
  | .hbm, ⟨51, _⟩ => ⟨S_, .f32⟩
  | .hbm, ⟨52, _⟩ => ⟨S1x2064x4, .f32⟩
  | .hbm, ⟨53, _⟩ => ⟨S1x2064x4, .f32⟩
  | .hbm, ⟨54, _⟩ => ⟨S1x2064x4, .f32⟩
  | .hbm, ⟨55, _⟩ => ⟨S_, .f32⟩
  | .hbm, ⟨56, _⟩ => ⟨S_, .f32⟩
  | .hbm, ⟨57, _⟩ => ⟨S1x2064x4, .f32⟩
  | .hbm, ⟨58, _⟩ => ⟨S1x4x2064, .f32⟩
  | .hbm, ⟨59, _⟩ => ⟨S1x2064x4, .f32⟩
  | .hbm, ⟨60, _⟩ => ⟨S1x2064x4, .f32⟩
  | .hbm, ⟨61, _⟩ => ⟨S_, .f32⟩
  | .hbm, ⟨62, _⟩ => ⟨S_, .f32⟩
  | .hbm, ⟨63, _⟩ => ⟨S1x2064x4, .f32⟩
  | .hbm, ⟨64, _⟩ => ⟨S1x2064x4, .f32⟩
  | .hbm, ⟨65, _⟩ => ⟨S1x2064x4, .f32⟩
  | .hbm, ⟨66, _⟩ => ⟨S1x2064x4, .f32⟩
  | .hbm, ⟨67, _⟩ => ⟨S_, .f32⟩
  | .hbm, ⟨68, _⟩ => ⟨S1x4, .f32⟩
  | .hbm, ⟨69, _⟩ => ⟨S1x1x4, .f32⟩
  | .hbm, ⟨70, _⟩ => ⟨S_, .f32⟩
  | .hbm, ⟨71, _⟩ => ⟨S4, .f32⟩
  | .hbm, ⟨72, _⟩ => ⟨S2064x4, .f32⟩
  | .hbm, ⟨73, _⟩ => ⟨S_, .i32⟩
  | .hbm, ⟨74, _⟩ => ⟨S_, .f32⟩
  | .hbm, ⟨75, _⟩ => ⟨S2064x128, .f32⟩
  | .hbm, ⟨76, _⟩ => ⟨S_, .i32⟩
  | .hbm, ⟨77, _⟩ => ⟨S_, .f32⟩
  | .hbm, ⟨78, _⟩ => ⟨S2176x128, .f32⟩
  | .hbm, ⟨79, _⟩ => ⟨S1x4, .f32⟩
  | .hbm, ⟨80, _⟩ => ⟨S_, .i32⟩
  | .hbm, ⟨81, _⟩ => ⟨S_, .f32⟩
  | .hbm, ⟨82, _⟩ => ⟨S1x128, .f32⟩
  | _, _ => ⟨S1x2064x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_c : Ref sig .tc := ⟨.hbm, 73, rfl⟩
abbrev main_call4_v0 : Ref sig .tc := ⟨.hbm, 74, rfl⟩
abbrev main_v14 : Ref sig .tc := ⟨.hbm, 75, rfl⟩
abbrev main_c_1 : Ref sig .tc := ⟨.hbm, 76, rfl⟩
abbrev main_call5_v0 : Ref sig .tc := ⟨.hbm, 77, rfl⟩
abbrev main_v15 : Ref sig .tc := ⟨.hbm, 78, rfl⟩
abbrev main_v16 : Ref sig .tc := ⟨.hbm, 79, rfl⟩
abbrev main_c_2 : Ref sig .tc := ⟨.hbm, 80, rfl⟩
abbrev main_call6_v0 : Ref sig .tc := ⟨.hbm, 81, rfl⟩
abbrev main_v17 : Ref sig .tc := ⟨.hbm, 82, rfl⟩

abbrev nD : Nat := 1
abbrev τ : Topo := Topo.v7x

variable {F : FTy → Type} [FloatOps F]
-- ==== FfnKernel.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S4x704x1024 : Shape := ⟨3, ![4, 704, 1024]⟩
abbrev S_ : Shape := ⟨0, ![]⟩
abbrev S4x768x1024 : Shape := ⟨3, ![4, 768, 1024]⟩
abbrev S2064x1024 : Shape := ⟨2, ![2064, 1024]⟩
abbrev S2176x1024 : Shape := ⟨2, ![2176, 1024]⟩
abbrev S2064x2816 : Shape := ⟨2, ![2064, 2816]⟩
abbrev S2064x4x704 : Shape := ⟨3, ![2064, 4, 704]⟩
abbrev S2064x4x768 : Shape := ⟨3, ![2064, 4, 768]⟩
abbrev S2064x3072 : Shape := ⟨2, ![2064, 3072]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 34
  | .vmem => 12
  | .smem => 0
  | _ => 0

abbrev bufTy : (tb : Table) → Fin (tcTables nBuf tb) → BufTy
  | .hbm, ⟨0, _⟩ => ⟨S1x2064x2816, .f32⟩
  | .hbm, ⟨1, _⟩ => ⟨S1x2064x2816, .f32⟩
  | .hbm, ⟨2, _⟩ => ⟨S2816x1024, .f32⟩
  | .hbm, ⟨3, _⟩ => ⟨S1x2064x1024, .f32⟩
  | .hbm, ⟨4, _⟩ => ⟨S4x704x1024, .f32⟩
  | .hbm, ⟨5, _⟩ => ⟨S_, .i32⟩
  | .hbm, ⟨6, _⟩ => ⟨S_, .f32⟩
  | .hbm, ⟨7, _⟩ => ⟨S4x768x1024, .f32⟩
  | .hbm, ⟨8, _⟩ => ⟨S4x768x1024, .bf16⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .bf16⟩
  | .hbm, ⟨14, _⟩ => ⟨S2064x2816, .f32⟩
  | .hbm, ⟨15, _⟩ => ⟨S2064x4x704, .f32⟩
  | .hbm, ⟨16, _⟩ => ⟨S_, .i32⟩
  | .hbm, ⟨17, _⟩ => ⟨S_, .f32⟩
  | .hbm, ⟨18, _⟩ => ⟨S2064x4x768, .f32⟩
  | .hbm, ⟨19, _⟩ => ⟨S2064x3072, .f32⟩
  | .hbm, ⟨20, _⟩ => ⟨S_, .i32⟩
  | .hbm, ⟨21, _⟩ => ⟨S_, .f32⟩
  | .hbm, ⟨22, _⟩ => ⟨S2176x3072, .f32⟩
  | .hbm, ⟨23, _⟩ => ⟨S2064x2816, .f32⟩
  | .hbm, ⟨24, _⟩ => ⟨S2064x4x704, .f32⟩
  | .hbm, ⟨25, _⟩ => ⟨S_, .i32⟩
  | .hbm, ⟨26, _⟩ => ⟨S_, .f32⟩
  | .hbm, ⟨27, _⟩ => ⟨S2064x4x768, .f32⟩
  | .hbm, ⟨28, _⟩ => ⟨S2064x3072, .f32⟩
  | .hbm, ⟨29, _⟩ => ⟨S_, .i32⟩
  | .hbm, ⟨30, _⟩ => ⟨S_, .f32⟩
  | .hbm, ⟨31, _⟩ => ⟨S2176x3072, .f32⟩
  | .hbm, ⟨32, _⟩ => ⟨S2176x3072, .bf16⟩
  | .hbm, ⟨33, _⟩ => ⟨S2176x3072, .bf16⟩
  | .local _ .vmem, ⟨0, _⟩ => ⟨S1088x1024, .bf16⟩
  | .local _ .vmem, ⟨1, _⟩ => ⟨S1088x1024, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x768, .f32⟩
  | .local _ .vmem, ⟨5, _⟩ => ⟨S1088x768, .f32⟩
  | .local _ .vmem, ⟨6, _⟩ => ⟨S1088x768, .f32⟩
  | .local _ .vmem, ⟨7, _⟩ => ⟨S1088x768, .f32⟩
  | .local _ .vmem, ⟨8, _⟩ => ⟨S1088x768, .bf16⟩
  | .local _ .vmem, ⟨9, _⟩ => ⟨S1088x768, .bf16⟩
  | .local _ .vmem, ⟨10, _⟩ => ⟨S1088x768, .bf16⟩
  | .local _ .vmem, ⟨11, _⟩ => ⟨S1088x768, .bf16⟩
  | _, _ => ⟨S1x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_3 : Ref sig .tc := ⟨.hbm, 25, rfl⟩
abbrev main_call4_v0 : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_call5_v0 : Ref sig .tc := ⟨.hbm, 30, rfl⟩
abbrev main_v15 : Ref sig .tc := ⟨.hbm, 31, rfl⟩
abbrev main_v16_0 : Ref sig .tc := ⟨.hbm, 32, rfl⟩
abbrev main_v16_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnReferenceIdeal.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S_ : Shape := ⟨0, ![]⟩
abbrev S2064x2816 : Shape := ⟨2, ![2064, 2816]⟩
abbrev S2064x4x704 : Shape := ⟨3, ![2064, 4, 704]⟩
abbrev S2064x4x768 : Shape := ⟨3, ![2064, 4, 768]⟩
abbrev S2064x3072 : Shape := ⟨2, ![2064, 3072]⟩
abbrev S2176x3072 : Shape := ⟨2, ![2176, 3072]⟩

abbrev nBuf : Space → Nat
  | .hbm => 46
  | .vmem => 0
  | .smem => 0
  | _ => 0

abbrev bufTy : (tb : Table) → Fin (tcTables nBuf tb) → BufTy
  | .hbm, ⟨0, _⟩ => ⟨S1x2064x2816, .f32⟩
  | .hbm, ⟨1, _⟩ => ⟨S1x2064x2816, .f32⟩
  | .hbm, ⟨2, _⟩ => ⟨S2816x1024, .f32⟩
  | .hbm, ⟨3, _⟩ => ⟨S1x2064x1024, .f32⟩
  | .hbm, ⟨4, _⟩ => ⟨S1x2064x2816, .f32⟩
  | .hbm, ⟨5, _⟩ => ⟨S1x2064x2816, .f32⟩
  | .hbm, ⟨6, _⟩ => ⟨S_, .f32⟩
  | .hbm, ⟨7, _⟩ => ⟨S1x2064x2816, .f32⟩
  | .hbm, ⟨8, _⟩ => ⟨S1x2064x2816, .f32⟩
  | .hbm, ⟨9, _⟩ => ⟨S_, .f32⟩
  | .hbm, ⟨10, _⟩ => ⟨S1x2064x2816, .f32⟩
  | .hbm, ⟨11, _⟩ => ⟨S1x2064x2816, .f32⟩
  | .hbm, ⟨12, _⟩ => ⟨S_, .f32⟩
  | .hbm, ⟨13, _⟩ => ⟨S1x2064x2816, .f32⟩
  | .hbm, ⟨14, _⟩ => ⟨S1x2064x2816, .f32⟩
  | .hbm, ⟨15, _⟩ => ⟨S1x2064x2816, .f32⟩
  | .hbm, ⟨16, _⟩ => ⟨S1x2064x2816, .f32⟩
  | .hbm, ⟨17, _⟩ => ⟨S1x2064x2816, .f32⟩
  | .hbm, ⟨18, _⟩ => ⟨S1x2064x1024, .f32⟩
  | .hbm, ⟨19, _⟩ => ⟨S1x2064x2816, .f32⟩
  | .hbm, ⟨20, _⟩ => ⟨S1x2064x2816, .f32⟩
  | .hbm, ⟨21, _⟩ => ⟨S1x2064x2816, .f32⟩
  | .hbm, ⟨22, _⟩ => ⟨S1x2064x2816, .f32⟩
  | .hbm, ⟨23, _⟩ => ⟨S1x2064x2816, .f32⟩
  | .hbm, ⟨24, _⟩ => ⟨S1x2064x2816, .f32⟩
  | .hbm, ⟨25, _⟩ => ⟨S1x2064x2816, .f32⟩
  | .hbm, ⟨26, _⟩ => ⟨S2064x2816, .f32⟩
  | .hbm, ⟨27, _⟩ => ⟨S2064x4x704, .f32⟩
  | .hbm, ⟨28, _⟩ => ⟨S_, .i32⟩
  | .hbm, ⟨29, _⟩ => ⟨S_, .f32⟩
  | .hbm, ⟨30, _⟩ => ⟨S2064x4x768, .f32⟩
  | .hbm, ⟨31, _⟩ => ⟨S2064x3072, .f32⟩
  | .hbm, ⟨32, _⟩ => ⟨S_, .i32⟩
  | .hbm, ⟨33, _⟩ => ⟨S_, .f32⟩
  | .hbm, ⟨34, _⟩ => ⟨S2176x3072, .f32⟩
  | .hbm, ⟨35, _⟩ => ⟨S2176x3072, .bf16⟩
  | .hbm, ⟨36, _⟩ => ⟨S2064x2816, .f32⟩
  | .hbm, ⟨37, _⟩ => ⟨S2064x4x704, .f32⟩
  | .hbm, ⟨38, _⟩ => ⟨S_, .i32⟩
  | .hbm, ⟨39, _⟩ => ⟨S_, .f32⟩
  | .hbm, ⟨40, _⟩ => ⟨S2064x4x768, .f32⟩
  | .hbm, ⟨41, _⟩ => ⟨S2064x3072, .f32⟩
  | .hbm, ⟨42, _⟩ => ⟨S_, .i32⟩
  | .hbm, ⟨43, _⟩ => ⟨S_, .f32⟩
  | .hbm, ⟨44, _⟩ => ⟨S2176x3072, .f32⟩
  | .hbm, ⟨45, _⟩ => ⟨S2176x3072, .bf16⟩
  | _, _ => ⟨S1x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_c : Ref sig .tc := ⟨.hbm, 28, rfl⟩
abbrev main_call2_v0 : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_call3_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_1 : Ref sig .tc := ⟨.hbm, 38, rfl⟩
abbrev main_call4_v0 : Ref sig .tc := ⟨.hbm, 39, rfl⟩
abbrev main_v15 : Ref sig .tc := ⟨.hbm, 40, rfl⟩
abbrev main_v16 : Ref sig .tc := ⟨.hbm, 41, rfl⟩
abbrev main_c_2 : Ref sig .tc := ⟨.hbm, 42, rfl⟩
abbrev main_call5_v0 : Ref sig .tc := ⟨.hbm, 43, rfl⟩
abbrev main_v17 : Ref sig .tc := ⟨.hbm, 44, rfl⟩
abbrev main_v18 : Ref sig .tc := ⟨.hbm, 45, rfl⟩

abbrev nD : Nat := 1
abbrev τ : Topo := Topo.v7x

variable {F : FTy → Type} [FloatOps F]
-- ==== LnKernel.lean ====
abbrev S1x2064x1024 : Shape := ⟨3, ![1, 2064, 1024]⟩
abbrev S1024 : Shape := ⟨1, ![1024]⟩
abbrev S2064x1024 : Shape := ⟨2, ![2064, 1024]⟩
abbrev S_ : Shape := ⟨0, ![]⟩
abbrev S2176x1024 : Shape := ⟨2, ![2176, 1024]⟩
abbrev S1x1024 : Shape := ⟨2, ![1, 1024]⟩
abbrev S544x1024 : Shape := ⟨2, ![544, 1024]⟩
abbrev S544 : Shape := ⟨1, ![544]⟩
abbrev S544x1 : Shape := ⟨2, ![544, 1]⟩

abbrev nBuf : Space → Nat
  | .hbm => 23
  | .vmem => 14
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1024, .f32⟩
  | .hbm, ⟨3, _⟩ => ⟨S1024, .f32⟩
  | .hbm, ⟨4, _⟩ => ⟨S1x2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S1x1024, .f32⟩
  | .hbm, ⟨14, _⟩ => ⟨S1x1024, .f32⟩
  | .hbm, ⟨15, _⟩ => ⟨S2064x1024, .f32⟩
  | .hbm, ⟨16, _⟩ => ⟨S_, .i32⟩
  | .hbm, ⟨17, _⟩ => ⟨S_, .f32⟩
  | .hbm, ⟨18, _⟩ => ⟨S2176x1024, .f32⟩
  | .hbm, ⟨19, _⟩ => ⟨S2176x1024, .f32⟩
  | .hbm, ⟨20, _⟩ => ⟨S2176x1024, .bf16⟩
  | .hbm, ⟨21, _⟩ => ⟨S1x1024, .f32⟩
  | .hbm, ⟨22, _⟩ => ⟨S1x1024, .f32⟩
  | .local _ .vmem, ⟨0, _⟩ => ⟨S544x1024, .f32⟩
  | .local _ .vmem, ⟨1, _⟩ => ⟨S544x1024, .f32⟩
  | .local _ .vmem, ⟨2, _⟩ => ⟨S544x1024, .f32⟩
  | .local _ .vmem, ⟨3, _⟩ => ⟨S544x1024, .f32⟩
  | .local _ .vmem, ⟨4, _⟩ => ⟨S1x1024, .f32⟩
  | .local _ .vmem, ⟨5, _⟩ => ⟨S1x1024, .f32⟩
  | .local _ .vmem, ⟨6, _⟩ => ⟨S544x1024, .f32⟩
  | .local _ .vmem, ⟨7, _⟩ => ⟨S544x1024, .f32⟩
  | .local _ .vmem, ⟨8, _⟩ => ⟨S544x1024, .f32⟩
  | .local _ .vmem, ⟨9, _⟩ => ⟨S544x1024, .f32⟩
  | .local _ .vmem, ⟨10, _⟩ => ⟨S544x1024, .bf16⟩
  | .local _ .vmem, ⟨11, _⟩ => ⟨S544x1024, .bf16⟩
  | .local _ .vmem, ⟨12, _⟩ => ⟨S1x1024, .f32⟩
  | .local _ .vmem, ⟨13, _⟩ => ⟨S1x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v71 : BitVec 1 := Scalar.cmpi .eq arg1 c0_i32
  let v72 : BitVec 32 := Scalar.extui v71
  let c0_i32_29 : BitVec 32 := 0#32
  let v73 : BitVec 1 := Scalar.cmpi .ne v72 c0_i32_29
  v73

def k0_cond2 (i : grid0.Coords) : BitVec 1 :=
  let arg1 : BitVec 32 := BitVec.ofNat 32 (i 1).val
  let c0_i32_30 : BitVec 32 := 0#32
  let v74 : BitVec 1 := Scalar.cmpi .sgt arg1 c0_i32_30
  let v75 : BitVec 32 := Scalar.extui v74
  let c0_i32_31 : BitVec 32 := 0#32
  let v76 : BitVec 1 := Scalar.cmpi .ne v75 c0_i32_31
  v76

def k0_cond3 (i : grid0.Coords) : BitVec 1 :=
  let arg1 : BitVec 32 := BitVec.ofNat 32 (i 1).val
  let c0_i32_32 : BitVec 32 := 0#32
  let v77 : BitVec 1 := Scalar.cmpi .eq arg1 c0_i32_32
  let v78 : BitVec 32 := Scalar.extui v77
  let c0_i32_33 : BitVec 32 := 0#32
  let v79 : BitVec 1 := Scalar.cmpi .ne v78 c0_i32_33
  v79

def k0_cond4 (i : grid0.Coords) : BitVec 1 :=
  let arg1 : BitVec 32 := BitVec.ofNat 32 (i 1).val
  let c0_i32_34 : BitVec 32 := 0#32
  let v80 : BitVec 1 := Scalar.cmpi .sgt arg1 c0_i32_34
  let v81 : BitVec 32 := Scalar.extui v80
  let c0_i32_35 : BitVec 32 := 0#32
  let v82 : BitVec 1 := Scalar.cmpi .ne v81 c0_i32_35
  v82

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== LnReferenceIdeal.lean ====
abbrev S1x2064x1024 : Shape := ⟨3, ![1, 2064, 1024]⟩
abbrev S1024 : Shape := ⟨1, ![1024]⟩
abbrev S_ : Shape := ⟨0, ![]⟩
abbrev S1x2064 : Shape := ⟨2, ![1, 2064]⟩
abbrev S1x2064x1 : Shape := ⟨3, ![1, 2064, 1]⟩
abbrev S1x1x1024 : Shape := ⟨3, ![1, 1, 1024]⟩
abbrev S1x1024 : Shape := ⟨2, ![1, 1024]⟩
abbrev S2064 : Shape := ⟨1, ![2064]⟩
abbrev S2064x1024 : Shape := ⟨2, ![2064, 1024]⟩
abbrev S2176x1024 : Shape := ⟨2, ![2176, 1024]⟩

abbrev nBuf : Space → Nat
  | .hbm => 112
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1x2064x1024, .f32⟩
  | .hbm, ⟨2, _⟩ => ⟨S1024, .f32⟩
  | .hbm, ⟨3, _⟩ => ⟨S1024, .f32⟩
  | .hbm, ⟨4, _⟩ => ⟨S1x2064x1024, .f32⟩
  | .hbm, ⟨5, _⟩ => ⟨S_, .f32⟩
  | .hbm, ⟨6, _⟩ => ⟨S1x2064x1024, .f32⟩
  | .hbm, ⟨7, _⟩ => ⟨S1x2064x1024, .f32⟩
  | .hbm, ⟨8, _⟩ => ⟨S_, .f32⟩
  | .hbm, ⟨9, _⟩ => ⟨S1x2064x1024, .f32⟩
  | .hbm, ⟨10, _⟩ => ⟨S1x2064x1024, .f32⟩
  | .hbm, ⟨11, _⟩ => ⟨S1x2064x1024, .f32⟩
  | .hbm, ⟨12, _⟩ => ⟨S_, .f32⟩
  | .hbm, ⟨13, _⟩ => ⟨S1x2064, .f32⟩
  | .hbm, ⟨14, _⟩ => ⟨S1x2064x1, .f32⟩
  | .hbm, ⟨15, _⟩ => ⟨S_, .f32⟩
  | .hbm, ⟨16, _⟩ => ⟨S1x2064x1, .f32⟩
  | .hbm, ⟨17, _⟩ => ⟨S1x2064x1, .f32⟩
  | .hbm, ⟨18, _⟩ => ⟨S1x2064x1024, .f32⟩
  | .hbm, ⟨19, _⟩ => ⟨S1x2064x1024, .f32⟩
  | .hbm, ⟨20, _⟩ => ⟨S1x2064x1024, .f32⟩
  | .hbm, ⟨21, _⟩ => ⟨S_, .f32⟩
  | .hbm, ⟨22, _⟩ => ⟨S1x2064x1024, .f32⟩
  | .hbm, ⟨23, _⟩ => ⟨S1x2064x1024, .f32⟩
  | .hbm, ⟨24, _⟩ => ⟨S_, .f32⟩
  | .hbm, ⟨25, _⟩ => ⟨S1x2064, .f32⟩
  | .hbm, ⟨26, _⟩ => ⟨S1x2064x1, .f32⟩
  | .hbm, ⟨27, _⟩ => ⟨S_, .f32⟩
  | .hbm, ⟨28, _⟩ => ⟨S1x2064x1, .f32⟩
  | .hbm, ⟨29, _⟩ => ⟨S1x2064x1, .f32⟩
  | .hbm, ⟨30, _⟩ => ⟨S1x2064x1024, .f32⟩
  | .hbm, ⟨31, _⟩ => ⟨S1x2064x1024, .f32⟩
  | .hbm, ⟨32, _⟩ => ⟨S_, .f32⟩
  | .hbm, ⟨33, _⟩ => ⟨S1x2064x1, .f32⟩
  | .hbm, ⟨34, _⟩ => ⟨S1x2064x1, .f32⟩
  | .hbm, ⟨35, _⟩ => ⟨S1x2064x1, .f32⟩
  | .hbm, ⟨36, _⟩ => ⟨S1x2064x1, .f32⟩
  | .hbm, ⟨37, _⟩ => ⟨S_, .f32⟩
  | .hbm, ⟨38, _⟩ => ⟨S1x2064x1, .f32⟩
  | .hbm, ⟨39, _⟩ => ⟨S1x2064x1, .f32⟩
  | .hbm, ⟨40, _⟩ => ⟨S1x2064x1024, .f32⟩
  | .hbm, ⟨41, _⟩ => ⟨S1x2064x1024, .f32⟩
  | .hbm, ⟨42, _⟩ => ⟨S1x1x1024, .f32⟩
  | .hbm, ⟨43, _⟩ => ⟨S1x2064x1024, .f32⟩
  | .hbm, ⟨44, _⟩ => ⟨S1x2064x1024, .f32⟩
  | .hbm, ⟨45, _⟩ => ⟨S1x1x1024, .f32⟩
  | .hbm, ⟨46, _⟩ => ⟨S1x2064x1024, .f32⟩
  | .hbm, ⟨47, _⟩ => ⟨S1x2064x1024, .f32⟩
  | .hbm, ⟨48, _⟩ => ⟨S1x2064x1024, .f32⟩
  | .hbm, ⟨49, _⟩ => ⟨S_, .f32⟩
  | .hbm, ⟨50, _⟩ => ⟨S1x1024, .f32⟩
  | .hbm, ⟨51, _⟩ => ⟨S1x1x1024, .f32⟩
  | .hbm, ⟨52, _⟩ => ⟨S_, .f32⟩
  | .hbm, ⟨53, _⟩ => ⟨S1024, .f32⟩
  | .hbm, ⟨54, _⟩ => ⟨S1x2064x1024, .f32⟩
  | .hbm, ⟨55, _⟩ => ⟨S_, .f32⟩
  | .hbm, ⟨56, _⟩ => ⟨S1x1024, .f32⟩
  | .hbm, ⟨57, _⟩ => ⟨S1x1x1024, .f32⟩
  | .hbm, ⟨58, _⟩ => ⟨S1x2064x1024, .f32⟩
  | .hbm, ⟨59, _⟩ => ⟨S1x2064x1024, .f32⟩
  | .hbm, ⟨60, _⟩ => ⟨S_, .f32⟩
  | .hbm, ⟨61, _⟩ => ⟨S1024, .f32⟩
  | .hbm, ⟨62, _⟩ => ⟨S1x2064x1024, .f32⟩
  | .hbm, ⟨63, _⟩ => ⟨S_, .f32⟩
  | .hbm, ⟨64, _⟩ => ⟨S1x2064, .f32⟩
  | .hbm, ⟨65, _⟩ => ⟨S1x2064x1, .f32⟩
  | .hbm, ⟨66, _⟩ => ⟨S1x2064x1024, .f32⟩
  | .hbm, ⟨67, _⟩ => ⟨S1x2064x1024, .f32⟩
  | .hbm, ⟨68, _⟩ => ⟨S1x2064x1, .f32⟩
  | .hbm, ⟨69, _⟩ => ⟨S1x2064x1024, .f32⟩
  | .hbm, ⟨70, _⟩ => ⟨S_, .f32⟩
  | .hbm, ⟨71, _⟩ => ⟨S1x2064, .f32⟩
  | .hbm, ⟨72, _⟩ => ⟨S1x2064x1, .f32⟩
  | .hbm, ⟨73, _⟩ => ⟨S_, .f32⟩
  | .hbm, ⟨74, _⟩ => ⟨S1x2064x1, .f32⟩
  | .hbm, ⟨75, _⟩ => ⟨S1x2064x1, .f32⟩
  | .hbm, ⟨76, _⟩ => ⟨S_, .f32⟩
  | .hbm, ⟨77, _⟩ => ⟨S2064, .f32⟩
  | .hbm, ⟨78, _⟩ => ⟨S1x2064, .f32⟩
  | .hbm, ⟨79, _⟩ => ⟨S1x2064x1024, .f32⟩
  | .hbm, ⟨80, _⟩ => ⟨S1x2064x1024, .f32⟩
  | .hbm, ⟨81, _⟩ => ⟨S1x2064x1024, .f32⟩
  | .hbm, ⟨82, _⟩ => ⟨S_, .f32⟩
  | .hbm, ⟨83, _⟩ => ⟨S1x2064, .f32⟩
  | .hbm, ⟨84, _⟩ => ⟨S1x2064x1, .f32⟩
  | .hbm, ⟨85, _⟩ => ⟨S1x2064x1024, .f32⟩
  | .hbm, ⟨86, _⟩ => ⟨S1x2064x1, .f32⟩
  | .hbm, ⟨87, _⟩ => ⟨S_, .f32⟩
  | .hbm, ⟨88, _⟩ => ⟨S1x2064x1, .f32⟩
  | .hbm, ⟨89, _⟩ => ⟨S1x2064x1, .f32⟩
  | .hbm, ⟨90, _⟩ => ⟨S_, .f32⟩
  | .hbm, ⟨91, _⟩ => ⟨S2064, .f32⟩
  | .hbm, ⟨92, _⟩ => ⟨S1x2064, .f32⟩
  | .hbm, ⟨93, _⟩ => ⟨S1x2064x1024, .f32⟩
  | .hbm, ⟨94, _⟩ => ⟨S1x2064x1024, .f32⟩
  | .hbm, ⟨95, _⟩ => ⟨S_, .f32⟩
  | .hbm, ⟨96, _⟩ => ⟨S1x2064x1024, .f32⟩
  | .hbm, ⟨97, _⟩ => ⟨S1x2064x1024, .f32⟩
  | .hbm, ⟨98, _⟩ => ⟨S_, .f32⟩
  | .hbm, ⟨99, _⟩ => ⟨S1x2064x1024, .f32⟩
  | .hbm, ⟨100, _⟩ => ⟨S1x2064x1024, .f32⟩
  | .hbm, ⟨101, _⟩ => ⟨S2064x1024, .f32⟩
  | .hbm, ⟨102, _⟩ => ⟨S_, .i32⟩
  | .hbm, ⟨103, _⟩ => ⟨S_, .f32⟩
  | .hbm, ⟨104, _⟩ => ⟨S2176x1024, .f32⟩
  | .hbm, ⟨105, _⟩ => ⟨S2064x1024, .f32⟩
  | .hbm, ⟨106, _⟩ => ⟨S_, .i32⟩
  | .hbm, ⟨107, _⟩ => ⟨S_, .f32⟩
  | .hbm, ⟨108, _⟩ => ⟨S2176x1024, .f32⟩
  | .hbm, ⟨109, _⟩ => ⟨S2176x1024, .bf16⟩
  | .hbm, ⟨110, _⟩ => ⟨S1x1024, .f32⟩
  | .hbm, ⟨111, _⟩ => ⟨S1x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_8 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_cst_20 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c : Ref sig .tc := ⟨.hbm, 102, rfl⟩
abbrev main_call0_v0 : Ref sig .tc := ⟨.hbm, 103, rfl⟩
abbrev main_v75 : Ref sig .tc := ⟨.hbm, 104, rfl⟩
abbrev main_v76 : Ref sig .tc := ⟨.hbm, 105, rfl⟩
abbrev main_c_21 : Ref sig .tc := ⟨.hbm, 106, rfl⟩
abbrev main_call1_v0 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩

abbrev nD : Nat := 1
abbrev τ : Topo := Topo.v7x

variable {F : FTy → Type} [FloatOps F]
-- ==== MlaKernel.lean ====
abbrev S1x2064x256 : Shape := ⟨3, ![1, 2064, 256]⟩
abbrev S1x2064x128 : Shape := ⟨3, ![1, 2064, 128]⟩
abbrev S256 : Shape := ⟨1, ![256]⟩
abbrev S128 : Shape := ⟨1, ![128]⟩
abbrev S2064x256 : Shape := ⟨2, ![2064, 256]⟩
abbrev S2064x128 : Shape := ⟨2, ![2064, 128]⟩
abbrev S2064x384 : Shape := ⟨2, ![2064, 384]⟩
abbrev S_ : Shape := ⟨0, ![]⟩
abbrev S2176x2816 : Shape := ⟨2, ![2176, 2816]⟩
abbrev S1x256 : Shape := ⟨2, ![1, 256]⟩
abbrev S1x128 : Shape := ⟨2, ![1, 128]⟩
abbrev S2176x256 : Shape := ⟨2, ![2176, 256]⟩
abbrev S2176x128 : Shape := ⟨2, ![2176, 128]⟩
abbrev S544x256 : Shape := ⟨2, ![544, 256]⟩
abbrev S544x128 : Shape := ⟨2, ![544, 128]⟩
abbrev S544 : Shape := ⟨1, ![544]⟩
abbrev S544x1 : Shape := ⟨2, ![544, 1]⟩

abbrev nBuf : Space → Nat
  | .hbm => 26
  | .vmem => 16
  | .smem => 0
  | _ => 0

abbrev bufTy : (tb : Table) → Fin (tcTables nBuf tb) → BufTy
  | .hbm, ⟨0, _⟩ => ⟨S1x2064x256, .f32⟩
  | .hbm, ⟨1, _⟩ => ⟨S1x2064x128, .f32⟩
  | .hbm, ⟨2, _⟩ => ⟨S256, .f32⟩
  | .hbm, ⟨3, _⟩ => ⟨S128, .f32⟩
  | .hbm, ⟨4, _⟩ => ⟨S1x2064x256, .f32⟩
  | .hbm, ⟨5, _⟩ => ⟨S1x2064x128, .f32⟩
  | .hbm, ⟨6, _⟩ => ⟨S2064x256, .f32⟩
  | .hbm, ⟨7, _⟩ => ⟨S2064x128, .f32⟩
  | .hbm, ⟨8, _⟩ => ⟨S2064x384, .f32⟩
  | .hbm, ⟨9, _⟩ => ⟨S_, .i32⟩
  | .hbm, ⟨10, _⟩ => ⟨S_, .f32⟩
  | .hbm, ⟨11, _⟩ => ⟨S2176x2816, .f32⟩
  | .hbm, ⟨12, _⟩ => ⟨S1x256, .f32⟩
  | .hbm, ⟨13, _⟩ => ⟨S1x128, .f32⟩
  | .hbm, ⟨14, _⟩ => ⟨S2064x256, .f32⟩
  | .hbm, ⟨15, _⟩ => ⟨S_, .i32⟩
  | .hbm, ⟨16, _⟩ => ⟨S_, .f32⟩
  | .hbm, ⟨17, _⟩ => ⟨S2176x256, .f32⟩
  | .hbm, ⟨18, _⟩ => ⟨S2064x128, .f32⟩
  | .hbm, ⟨19, _⟩ => ⟨S_, .i32⟩
  | .hbm, ⟨20, _⟩ => ⟨S_, .f32⟩
  | .hbm, ⟨21, _⟩ => ⟨S2176x128, .f32⟩
  | .hbm, ⟨22, _⟩ => ⟨S2176x256, .f32⟩
  | .hbm, ⟨23, _⟩ => ⟨S2176x128, .f32⟩
  | .hbm, ⟨24, _⟩ => ⟨S1x256, .f32⟩
  | .hbm, ⟨25, _⟩ => ⟨S1x128, .f32⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S1x256, .f32⟩
  | .local _ .vmem, ⟨5, _⟩ => ⟨S1x128, .f32⟩
  | .local _ .vmem, ⟨6, _⟩ => ⟨S544x256, .f32⟩
  | .local _ .vmem, ⟨7, _⟩ => ⟨S544x256, .f32⟩
  | .local _ .vmem, ⟨8, _⟩ => ⟨S544x128, .f32⟩
  | .local _ .vmem, ⟨9, _⟩ => ⟨S544x128, .f32⟩
  | .local _ .vmem, ⟨10, _⟩ => ⟨S544x256, .f32⟩
  | .local _ .vmem, ⟨11, _⟩ => ⟨S544x256, .f32⟩
  | .local _ .vmem, ⟨12, _⟩ => ⟨S544x128, .f32⟩
  | .local _ .vmem, ⟨13, _⟩ => ⟨S544x128, .f32⟩
  | .local _ .vmem, ⟨14, _⟩ => ⟨S1x256, .f32⟩
  | .local _ .vmem, ⟨15, _⟩ => ⟨S1x128, .f32⟩
  | _, _ => ⟨S1x2064x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![1, 4], ![false, false]⟩

def k0_cond1 (i : grid0.Coords) : BitVec 1 :=
  let arg1 : BitVec 32 := BitVec.ofNat 32 (i 1).val
  let c0_i32 : BitVec 32 := 0#32
  let v80 : BitVec 1 := Scalar.cmpi .eq arg1 c0_i32
  let v81 : BitVec 32 := Scalar.extui v80
  let c0_i32_30 : BitVec 32 := 0#32
  let v82 : BitVec 1 := Scalar.cmpi .ne v81 c0_i32_30
  v82

def k0_cond2 (i : grid0.Coords) : BitVec 1 :=
  let arg1 : BitVec 32 := BitVec.ofNat 32 (i 1).val
  let c0_i32_31 : BitVec 32 := 0#32
  let v83 : BitVec 1 := Scalar.cmpi .sgt arg1 c0_i32_31
  let v84 : BitVec 32 := Scalar.extui v83
  let c0_i32_32 : BitVec 32 := 0#32
  let v85 : BitVec 1 := Scalar.cmpi .ne v84 c0_i32_32
  v85

def k0_cond3 (i : grid0.Coords) : BitVec 1 :=
  let arg1 : BitVec 32 := BitVec.ofNat 32 (i 1).val
  let c0_i32_33 : BitVec 32 := 0#32
  let v86 : BitVec 1 := Scalar.cmpi .eq arg1 c0_i32_33
  let v87 : BitVec 32 := Scalar.extui v86
  let c0_i32_34 : BitVec 32 := 0#32
  let v88 : BitVec 1 := Scalar.cmpi .ne v87 c0_i32_34
  v88

def k0_cond4 (i : grid0.Coords) : BitVec 1 :=
  let arg1 : BitVec 32 := BitVec.ofNat 32 (i 1).val
  let c0_i32_35 : BitVec 32 := 0#32
  let v89 : BitVec 1 := Scalar.cmpi .sgt arg1 c0_i32_35
  let v90 : BitVec 32 := Scalar.extui v89
  let c0_i32_36 : BitVec 32 := 0#32
  let v91 : BitVec 1 := Scalar.cmpi .ne v90 c0_i32_36
  v91

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== MlaReferenceIdeal.lean ====
abbrev S1x2064x256 : Shape := ⟨3, ![1, 2064, 256]⟩
abbrev S1x2064x128 : Shape := ⟨3, ![1, 2064, 128]⟩
abbrev S256 : Shape := ⟨1, ![256]⟩
abbrev S128 : Shape := ⟨1, ![128]⟩
abbrev S_ : Shape := ⟨0, ![]⟩
abbrev S1x2064 : Shape := ⟨2, ![1, 2064]⟩
abbrev S1x2064x1 : Shape := ⟨3, ![1, 2064, 1]⟩
abbrev S1x1x256 : Shape := ⟨3, ![1, 1, 256]⟩
abbrev S1x1x128 : Shape := ⟨3, ![1, 1, 128]⟩
abbrev S1x128 : Shape := ⟨2, ![1, 128]⟩
abbrev S2064 : Shape := ⟨1, ![2064]⟩
abbrev S1x256 : Shape := ⟨2, ![1, 256]⟩
abbrev S2064x256 : Shape := ⟨2, ![2064, 256]⟩
abbrev S2176x256 : Shape := ⟨2, ![2176, 256]⟩
abbrev S2064x128 : Shape := ⟨2, ![2064, 128]⟩
abbrev S2176x128 : Shape := ⟨2, ![2176, 128]⟩

abbrev nBuf : Space → Nat
  | .hbm => 110
  | .vmem => 0
  | .smem => 0
  | _ => 0

abbrev bufTy : (tb : Table) → Fin (tcTables nBuf tb) → BufTy
  | .hbm, ⟨0, _⟩ => ⟨S1x2064x256, .f32⟩
  | .hbm, ⟨1, _⟩ => ⟨S1x2064x128, .f32⟩
  | .hbm, ⟨2, _⟩ => ⟨S256, .f32⟩
  | .hbm, ⟨3, _⟩ => ⟨S128, .f32⟩
  | .hbm, ⟨4, _⟩ => ⟨S1x2064x256, .f32⟩
  | .hbm, ⟨5, _⟩ => ⟨S1x2064x128, .f32⟩
  | .hbm, ⟨6, _⟩ => ⟨S1x2064x256, .f32⟩
  | .hbm, ⟨7, _⟩ => ⟨S_, .f32⟩
  | .hbm, ⟨8, _⟩ => ⟨S1x2064x256, .f32⟩
  | .hbm, ⟨9, _⟩ => ⟨S1x2064x256, .f32⟩
  | .hbm, ⟨10, _⟩ => ⟨S_, .f32⟩
  | .hbm, ⟨11, _⟩ => ⟨S1x2064, .f32⟩
  | .hbm, ⟨12, _⟩ => ⟨S1x2064x1, .f32⟩
  | .hbm, ⟨13, _⟩ => ⟨S_, .f32⟩
  | .hbm, ⟨14, _⟩ => ⟨S1x2064x1, .f32⟩
  | .hbm, ⟨15, _⟩ => ⟨S1x2064x1, .f32⟩
  | .hbm, ⟨16, _⟩ => ⟨S_, .f32⟩
  | .hbm, ⟨17, _⟩ => ⟨S1x2064x1, .f32⟩
  | .hbm, ⟨18, _⟩ => ⟨S1x2064x1, .f32⟩
  | .hbm, ⟨19, _⟩ => ⟨S1x2064x1, .f32⟩
  | .hbm, ⟨20, _⟩ => ⟨S1x2064x1, .f32⟩
  | .hbm, ⟨21, _⟩ => ⟨S_, .f32⟩
  | .hbm, ⟨22, _⟩ => ⟨S1x2064x1, .f32⟩
  | .hbm, ⟨23, _⟩ => ⟨S1x2064x1, .f32⟩
  | .hbm, ⟨24, _⟩ => ⟨S1x2064x256, .f32⟩
  | .hbm, ⟨25, _⟩ => ⟨S1x2064x256, .f32⟩
  | .hbm, ⟨26, _⟩ => ⟨S1x1x256, .f32⟩
  | .hbm, ⟨27, _⟩ => ⟨S1x2064x256, .f32⟩
  | .hbm, ⟨28, _⟩ => ⟨S1x2064x256, .f32⟩
  | .hbm, ⟨29, _⟩ => ⟨S1x2064x128, .f32⟩
  | .hbm, ⟨30, _⟩ => ⟨S_, .f32⟩
  | .hbm, ⟨31, _⟩ => ⟨S1x2064x128, .f32⟩
  | .hbm, ⟨32, _⟩ => ⟨S1x2064x128, .f32⟩
  | .hbm, ⟨33, _⟩ => ⟨S_, .f32⟩
  | .hbm, ⟨34, _⟩ => ⟨S1x2064, .f32⟩
  | .hbm, ⟨35, _⟩ => ⟨S1x2064x1, .f32⟩
  | .hbm, ⟨36, _⟩ => ⟨S_, .f32⟩
  | .hbm, ⟨37, _⟩ => ⟨S1x2064x1, .f32⟩
  | .hbm, ⟨38, _⟩ => ⟨S1x2064x1, .f32⟩
  | .hbm, ⟨39, _⟩ => ⟨S_, .f32⟩
  | .hbm, ⟨40, _⟩ => ⟨S1x2064x1, .f32⟩
  | .hbm, ⟨41, _⟩ => ⟨S1x2064x1, .f32⟩
  | .hbm, ⟨42, _⟩ => ⟨S1x2064x1, .f32⟩
  | .hbm, ⟨43, _⟩ => ⟨S1x2064x1, .f32⟩
  | .hbm, ⟨44, _⟩ => ⟨S_, .f32⟩
  | .hbm, ⟨45, _⟩ => ⟨S1x2064x1, .f32⟩
  | .hbm, ⟨46, _⟩ => ⟨S1x2064x1, .f32⟩
  | .hbm, ⟨47, _⟩ => ⟨S1x2064x128, .f32⟩
  | .hbm, ⟨48, _⟩ => ⟨S1x2064x128, .f32⟩
  | .hbm, ⟨49, _⟩ => ⟨S1x1x128, .f32⟩
  | .hbm, ⟨50, _⟩ => ⟨S1x2064x128, .f32⟩
  | .hbm, ⟨51, _⟩ => ⟨S1x2064x128, .f32⟩
  | .hbm, ⟨52, _⟩ => ⟨S1x2064x128, .f32⟩
  | .hbm, ⟨53, _⟩ => ⟨S_, .f32⟩
  | .hbm, ⟨54, _⟩ => ⟨S1x128, .f32⟩
  | .hbm, ⟨55, _⟩ => ⟨S1x1x128, .f32⟩
  | .hbm, ⟨56, _⟩ => ⟨S1x2064x128, .f32⟩
  | .hbm, ⟨57, _⟩ => ⟨S1x2064x128, .f32⟩
  | .hbm, ⟨58, _⟩ => ⟨S_, .f32⟩
  | .hbm, ⟨59, _⟩ => ⟨S128, .f32⟩
  | .hbm, ⟨60, _⟩ => ⟨S1x2064x128, .f32⟩
  | .hbm, ⟨61, _⟩ => ⟨S_, .f32⟩
  | .hbm, ⟨62, _⟩ => ⟨S1x2064, .f32⟩
  | .hbm, ⟨63, _⟩ => ⟨S1x2064x1, .f32⟩
  | .hbm, ⟨64, _⟩ => ⟨S1x2064x128, .f32⟩
  | .hbm, ⟨65, _⟩ => ⟨S1x2064x128, .f32⟩
  | .hbm, ⟨66, _⟩ => ⟨S1x2064x1, .f32⟩
  | .hbm, ⟨67, _⟩ => ⟨S_, .f32⟩
  | .hbm, ⟨68, _⟩ => ⟨S1x2064x1, .f32⟩
  | .hbm, ⟨69, _⟩ => ⟨S1x2064x1, .f32⟩
  | .hbm, ⟨70, _⟩ => ⟨S_, .f32⟩
  | .hbm, ⟨71, _⟩ => ⟨S2064, .f32⟩
  | .hbm, ⟨72, _⟩ => ⟨S1x2064, .f32⟩
  | .hbm, ⟨73, _⟩ => ⟨S1x2064x128, .f32⟩
  | .hbm, ⟨74, _⟩ => ⟨S1x2064x128, .f32⟩
  | .hbm, ⟨75, _⟩ => ⟨S1x2064x128, .f32⟩
  | .hbm, ⟨76, _⟩ => ⟨S1x2064x256, .f32⟩
  | .hbm, ⟨77, _⟩ => ⟨S_, .f32⟩
  | .hbm, ⟨78, _⟩ => ⟨S1x256, .f32⟩
  | .hbm, ⟨79, _⟩ => ⟨S1x1x256, .f32⟩
  | .hbm, ⟨80, _⟩ => ⟨S1x2064x256, .f32⟩
  | .hbm, ⟨81, _⟩ => ⟨S1x2064x256, .f32⟩
  | .hbm, ⟨82, _⟩ => ⟨S_, .f32⟩
  | .hbm, ⟨83, _⟩ => ⟨S256, .f32⟩
  | .hbm, ⟨84, _⟩ => ⟨S1x2064x256, .f32⟩
  | .hbm, ⟨85, _⟩ => ⟨S_, .f32⟩
  | .hbm, ⟨86, _⟩ => ⟨S1x2064, .f32⟩
  | .hbm, ⟨87, _⟩ => ⟨S1x2064x1, .f32⟩
  | .hbm, ⟨88, _⟩ => ⟨S1x2064x256, .f32⟩
  | .hbm, ⟨89, _⟩ => ⟨S1x2064x256, .f32⟩
  | .hbm, ⟨90, _⟩ => ⟨S1x2064x1, .f32⟩
  | .hbm, ⟨91, _⟩ => ⟨S_, .f32⟩
  | .hbm, ⟨92, _⟩ => ⟨S1x2064x1, .f32⟩
  | .hbm, ⟨93, _⟩ => ⟨S1x2064x1, .f32⟩
  | .hbm, ⟨94, _⟩ => ⟨S_, .f32⟩
  | .hbm, ⟨95, _⟩ => ⟨S2064, .f32⟩
  | .hbm, ⟨96, _⟩ => ⟨S1x2064, .f32⟩
  | .hbm, ⟨97, _⟩ => ⟨S1x2064x256, .f32⟩
  | .hbm, ⟨98, _⟩ => ⟨S1x2064x256, .f32⟩
  | .hbm, ⟨99, _⟩ => ⟨S1x2064x256, .f32⟩
  | .hbm, ⟨100, _⟩ => ⟨S2064x256, .f32⟩
  | .hbm, ⟨101, _⟩ => ⟨S_, .i32⟩
  | .hbm, ⟨102, _⟩ => ⟨S_, .f32⟩
  | .hbm, ⟨103, _⟩ => ⟨S2176x256, .f32⟩
  | .hbm, ⟨104, _⟩ => ⟨S2064x128, .f32⟩
  | .hbm, ⟨105, _⟩ => ⟨S_, .i32⟩
  | .hbm, ⟨106, _⟩ => ⟨S_, .f32⟩
  | .hbm, ⟨107, _⟩ => ⟨S2176x128, .f32⟩
  | .hbm, ⟨108, _⟩ => ⟨S1x256, .f32⟩
  | .hbm, ⟨109, _⟩ => ⟨S1x128, .f32⟩
  | _, _ => ⟨S1x2064x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_15 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_17 : Ref sig .tc := ⟨.hbm, 91, rfl⟩
abbrev main_v67 : Ref sig .tc := ⟨.hbm, 92, rfl⟩
abbrev main_v68 : Ref sig .tc := ⟨.hbm, 93, rfl⟩
abbrev main_cst_18 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c : Ref sig .tc := ⟨.hbm, 101, rfl⟩
abbrev main_call0_v0 : Ref sig .tc := ⟨.hbm, 102, rfl⟩
abbrev main_v75 : Ref sig .tc := ⟨.hbm, 103, rfl⟩
abbrev main_v76 : Ref sig .tc := ⟨.hbm, 104, rfl⟩
abbrev main_c_19 : Ref sig .tc := ⟨.hbm, 105, rfl⟩
abbrev main_call1_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩

abbrev nD : Nat := 1
abbrev τ : Topo := Topo.v7x

variable {F : FTy → Type} [FloatOps F]
-- ==== PostKernel.lean ====
abbrev S1x2064x512 : Shape := ⟨3, ![1, 2064, 512]⟩
abbrev S8 : Shape := ⟨1, ![8]⟩
abbrev S512 : Shape := ⟨1, ![512]⟩
abbrev S2064x512 : Shape := ⟨2, ![2064, 512]⟩
abbrev S_ : Shape := ⟨0, ![]⟩
abbrev S2176x768 : Shape := ⟨2, ![2176, 768]⟩
abbrev S2176x512 : Shape := ⟨2, ![2176, 512]⟩
abbrev S2176x2816 : Shape := ⟨2, ![2176, 2816]⟩
abbrev S8x64 : Shape := ⟨2, ![8, 64]⟩
abbrev S1x512 : Shape := ⟨2, ![1, 512]⟩
abbrev S544x256 : Shape := ⟨2, ![544, 256]⟩
abbrev S1x256 : Shape := ⟨2, ![1, 256]⟩
abbrev S544 : Shape := ⟨1, ![544]⟩
abbrev S544x1 : Shape := ⟨2, ![544, 1]⟩
abbrev S256 : Shape := ⟨1, ![256]⟩

abbrev nBuf : Space → Nat
  | .hbm => 31
  | .vmem => 22
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S1x2064x512, .f32⟩
  | .hbm, ⟨3, _⟩ => ⟨S8, .f32⟩
  | .hbm, ⟨4, _⟩ => ⟨S512, .f32⟩
  | .hbm, ⟨5, _⟩ => ⟨S1x2064x512, .f32⟩
  | .hbm, ⟨6, _⟩ => ⟨S2064x512, .f32⟩
  | .hbm, ⟨7, _⟩ => ⟨S_, .i32⟩
  | .hbm, ⟨8, _⟩ => ⟨S_, .f32⟩
  | .hbm, ⟨9, _⟩ => ⟨S2176x768, .f32⟩
  | .hbm, ⟨10, _⟩ => ⟨S2064x512, .f32⟩
  | .hbm, ⟨11, _⟩ => ⟨S_, .i32⟩
  | .hbm, ⟨12, _⟩ => ⟨S_, .f32⟩
  | .hbm, ⟨13, _⟩ => ⟨S2176x512, .f32⟩
  | .hbm, ⟨14, _⟩ => ⟨S2064x512, .f32⟩
  | .hbm, ⟨15, _⟩ => ⟨S_, .i32⟩
  | .hbm, ⟨16, _⟩ => ⟨S_, .f32⟩
  | .hbm, ⟨17, _⟩ => ⟨S2176x2816, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S2064x512, .f32⟩
  | .hbm, ⟨23, _⟩ => ⟨S_, .i32⟩
  | .hbm, ⟨24, _⟩ => ⟨S_, .f32⟩
  | .hbm, ⟨25, _⟩ => ⟨S2176x512, .f32⟩
  | .hbm, ⟨26, _⟩ => ⟨S2176x512, .f32⟩
  | .hbm, ⟨27, _⟩ => ⟨S2176x512, .f32⟩
  | .hbm, ⟨28, _⟩ => ⟨S2176x512, .f32⟩
  | .hbm, ⟨29, _⟩ => ⟨S1x512, .f32⟩
  | .hbm, ⟨30, _⟩ => ⟨S1x512, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S544x256, .f32⟩
  | .local _ .vmem, ⟨11, _⟩ => ⟨S544x256, .f32⟩
  | .local _ .vmem, ⟨12, _⟩ => ⟨S544x256, .f32⟩
  | .local _ .vmem, ⟨13, _⟩ => ⟨S544x256, .f32⟩
  | .local _ .vmem, ⟨14, _⟩ => ⟨S544x256, .f32⟩
  | .local _ .vmem, ⟨15, _⟩ => ⟨S544x256, .f32⟩
  | .local _ .vmem, ⟨16, _⟩ => ⟨S544x256, .f32⟩
  | .local _ .vmem, ⟨17, _⟩ => ⟨S544x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | _, _ => ⟨S1x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_call1_v0 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_call2_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_call3_v0 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v81 : BitVec 1 := Scalar.cmpi .eq arg1 c0_i32
  let v82 : BitVec 32 := Scalar.extui v81
  let c0_i32_32 : BitVec 32 := 0#32
  let v83 : BitVec 1 := Scalar.cmpi .ne v82 c0_i32_32
  v83

def k0_cond2 (i : grid0.Coords) : BitVec 1 :=
  let arg1 : BitVec 32 := BitVec.ofNat 32 (i 1).val
  let c0_i32_33 : BitVec 32 := 0#32
  let v84 : BitVec 1 := Scalar.cmpi .sgt arg1 c0_i32_33
  let v85 : BitVec 32 := Scalar.extui v84
  let c0_i32_34 : BitVec 32 := 0#32
  let v86 : BitVec 1 := Scalar.cmpi .ne v85 c0_i32_34
  v86

def k0_cond3 (i : grid0.Coords) : BitVec 1 :=
  let arg1 : BitVec 32 := BitVec.ofNat 32 (i 1).val
  let c0_i32_35 : BitVec 32 := 0#32
  let v87 : BitVec 1 := Scalar.cmpi .eq arg1 c0_i32_35
  let v88 : BitVec 32 := Scalar.extui v87
  let c0_i32_36 : BitVec 32 := 0#32
  let v89 : BitVec 1 := Scalar.cmpi .ne v88 c0_i32_36
  v89

def k0_cond4 (i : grid0.Coords) : BitVec 1 :=
  let arg1 : BitVec 32 := BitVec.ofNat 32 (i 1).val
  let c0_i32_37 : BitVec 32 := 0#32
  let v90 : BitVec 1 := Scalar.cmpi .sgt arg1 c0_i32_37
  let v91 : BitVec 32 := Scalar.extui v90
  let c0_i32_38 : BitVec 32 := 0#32
  let v92 : BitVec 1 := Scalar.cmpi .ne v91 c0_i32_38
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S544x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S544x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S544x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== PostReferenceIdeal.lean ====
abbrev S1x2064x512 : Shape := ⟨3, ![1, 2064, 512]⟩
abbrev S8 : Shape := ⟨1, ![8]⟩
abbrev S512 : Shape := ⟨1, ![512]⟩
abbrev S8x64 : Shape := ⟨2, ![8, 64]⟩
abbrev S1x2064x8x64 : Shape := ⟨4, ![1, 2064, 8, 64]⟩
abbrev S1x1x8x64 : Shape := ⟨4, ![1, 1, 8, 64]⟩
abbrev S_ : Shape := ⟨0, ![]⟩
abbrev S1x2064x2x256 : Shape := ⟨4, ![1, 2064, 2, 256]⟩
abbrev S1x2064x2 : Shape := ⟨3, ![1, 2064, 2]⟩
abbrev S1x2064x2x1 : Shape := ⟨4, ![1, 2064, 2, 1]⟩
abbrev S1x1x512 : Shape := ⟨3, ![1, 1, 512]⟩
abbrev S1x512 : Shape := ⟨2, ![1, 512]⟩
abbrev S2064x2 : Shape := ⟨2, ![2064, 2]⟩
abbrev S1x8x64 : Shape := ⟨3, ![1, 8, 64]⟩
abbrev S2064x512 : Shape := ⟨2, ![2064, 512]⟩
abbrev S2176x512 : Shape := ⟨2, ![2176, 512]⟩

abbrev nBuf : Space → Nat
  | .hbm => 119
  | .vmem => 0
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S1x2064x512, .f32⟩
  | .hbm, ⟨3, _⟩ => ⟨S8, .f32⟩
  | .hbm, ⟨4, _⟩ => ⟨S512, .f32⟩
  | .hbm, ⟨5, _⟩ => ⟨S1x2064x512, .f32⟩
  | .hbm, ⟨6, _⟩ => ⟨S8x64, .f32⟩
  | .hbm, ⟨7, _⟩ => ⟨S512, .f32⟩
  | .hbm, ⟨8, _⟩ => ⟨S1x2064x8x64, .f32⟩
  | .hbm, ⟨9, _⟩ => ⟨S8x64, .f32⟩
  | .hbm, ⟨10, _⟩ => ⟨S1x2064x8x64, .f32⟩
  | .hbm, ⟨11, _⟩ => ⟨S1x1x8x64, .f32⟩
  | .hbm, ⟨12, _⟩ => ⟨S1x2064x8x64, .f32⟩
  | .hbm, ⟨13, _⟩ => ⟨S1x2064x8x64, .f32⟩
  | .hbm, ⟨14, _⟩ => ⟨S1x2064x8x64, .f32⟩
  | .hbm, ⟨15, _⟩ => ⟨S1x2064x512, .f32⟩
  | .hbm, ⟨16, _⟩ => ⟨S1x2064x512, .f32⟩
  | .hbm, ⟨17, _⟩ => ⟨S1x2064x512, .f32⟩
  | .hbm, ⟨18, _⟩ => ⟨S_, .f32⟩
  | .hbm, ⟨19, _⟩ => ⟨S1x2064x512, .f32⟩
  | .hbm, ⟨20, _⟩ => ⟨S1x2064x512, .f32⟩
  | .hbm, ⟨21, _⟩ => ⟨S_, .f32⟩
  | .hbm, ⟨22, _⟩ => ⟨S1x2064x512, .f32⟩
  | .hbm, ⟨23, _⟩ => ⟨S1x2064x512, .f32⟩
  | .hbm, ⟨24, _⟩ => ⟨S_, .f32⟩
  | .hbm, ⟨25, _⟩ => ⟨S1x2064x512, .f32⟩
  | .hbm, ⟨26, _⟩ => ⟨S1x2064x512, .f32⟩
  | .hbm, ⟨27, _⟩ => ⟨S1x2064x512, .f32⟩
  | .hbm, ⟨28, _⟩ => ⟨S1x2064x512, .f32⟩
  | .hbm, ⟨29, _⟩ => ⟨S1x2064x512, .f32⟩
  | .hbm, ⟨30, _⟩ => ⟨S1x2064x2x256, .f32⟩
  | .hbm, ⟨31, _⟩ => ⟨S1x2064x2x256, .f32⟩
  | .hbm, ⟨32, _⟩ => ⟨S_, .f32⟩
  | .hbm, ⟨33, _⟩ => ⟨S1x2064x2x256, .f32⟩
  | .hbm, ⟨34, _⟩ => ⟨S1x2064x2x256, .f32⟩
  | .hbm, ⟨35, _⟩ => ⟨S_, .f32⟩
  | .hbm, ⟨36, _⟩ => ⟨S1x2064x2, .f32⟩
  | .hbm, ⟨37, _⟩ => ⟨S1x2064x2x1, .f32⟩
  | .hbm, ⟨38, _⟩ => ⟨S_, .f32⟩
  | .hbm, ⟨39, _⟩ => ⟨S1x2064x2x1, .f32⟩
  | .hbm, ⟨40, _⟩ => ⟨S1x2064x2x1, .f32⟩
  | .hbm, ⟨41, _⟩ => ⟨S_, .f32⟩
  | .hbm, ⟨42, _⟩ => ⟨S1x2064x2x1, .f32⟩
  | .hbm, ⟨43, _⟩ => ⟨S1x2064x2x1, .f32⟩
  | .hbm, ⟨44, _⟩ => ⟨S1x2064x2x1, .f32⟩
  | .hbm, ⟨45, _⟩ => ⟨S1x2064x2x1, .f32⟩
  | .hbm, ⟨46, _⟩ => ⟨S_, .f32⟩
  | .hbm, ⟨47, _⟩ => ⟨S1x2064x2x1, .f32⟩
  | .hbm, ⟨48, _⟩ => ⟨S1x2064x2x1, .f32⟩
  | .hbm, ⟨49, _⟩ => ⟨S1x2064x2x256, .f32⟩
  | .hbm, ⟨50, _⟩ => ⟨S1x2064x2x256, .f32⟩
  | .hbm, ⟨51, _⟩ => ⟨S_, .f32⟩
  | .hbm, ⟨52, _⟩ => ⟨S1x2064x2x256, .f32⟩
  | .hbm, ⟨53, _⟩ => ⟨S1x2064x2x256, .f32⟩
  | .hbm, ⟨54, _⟩ => ⟨S1x2064x512, .f32⟩
  | .hbm, ⟨55, _⟩ => ⟨S1x1x512, .f32⟩
  | .hbm, ⟨56, _⟩ => ⟨S1x2064x512, .f32⟩
  | .hbm, ⟨57, _⟩ => ⟨S1x2064x512, .f32⟩
  | .hbm, ⟨58, _⟩ => ⟨S1x2064x512, .f32⟩
  | .hbm, ⟨59, _⟩ => ⟨S_, .f32⟩
  | .hbm, ⟨60, _⟩ => ⟨S1x512, .f32⟩
  | .hbm, ⟨61, _⟩ => ⟨S1x1x512, .f32⟩
  | .hbm, ⟨62, _⟩ => ⟨S1x2064x512, .f32⟩
  | .hbm, ⟨63, _⟩ => ⟨S1x2064x512, .f32⟩
  | .hbm, ⟨64, _⟩ => ⟨S_, .f32⟩
  | .hbm, ⟨65, _⟩ => ⟨S512, .f32⟩
  | .hbm, ⟨66, _⟩ => ⟨S1x2064x2x256, .f32⟩
  | .hbm, ⟨67, _⟩ => ⟨S_, .f32⟩
  | .hbm, ⟨68, _⟩ => ⟨S1x2064x2x256, .f32⟩
  | .hbm, ⟨69, _⟩ => ⟨S1x2064x2x256, .f32⟩
  | .hbm, ⟨70, _⟩ => ⟨S1x2064x2x256, .f32⟩
  | .hbm, ⟨71, _⟩ => ⟨S_, .f32⟩
  | .hbm, ⟨72, _⟩ => ⟨S1x2064x2, .f32⟩
  | .hbm, ⟨73, _⟩ => ⟨S1x2064x2x1, .f32⟩
  | .hbm, ⟨74, _⟩ => ⟨S1x2064x2x256, .f32⟩
  | .hbm, ⟨75, _⟩ => ⟨S1x2064x2x256, .f32⟩
  | .hbm, ⟨76, _⟩ => ⟨S1x2064x2x1, .f32⟩
  | .hbm, ⟨77, _⟩ => ⟨S_, .f32⟩
  | .hbm, ⟨78, _⟩ => ⟨S1x2064x2x1, .f32⟩
  | .hbm, ⟨79, _⟩ => ⟨S1x2064x2x1, .f32⟩
  | .hbm, ⟨80, _⟩ => ⟨S_, .f32⟩
  | .hbm, ⟨81, _⟩ => ⟨S2064x2, .f32⟩
  | .hbm, ⟨82, _⟩ => ⟨S1x2064x2, .f32⟩
  | .hbm, ⟨83, _⟩ => ⟨S1x2064x2x256, .f32⟩
  | .hbm, ⟨84, _⟩ => ⟨S1x2064x2x256, .f32⟩
  | .hbm, ⟨85, _⟩ => ⟨S1x2064x2x256, .f32⟩
  | .hbm, ⟨86, _⟩ => ⟨S1x2064x512, .f32⟩
  | .hbm, ⟨87, _⟩ => ⟨S1x2064x512, .f32⟩
  | .hbm, ⟨88, _⟩ => ⟨S1x2064x512, .f32⟩
  | .hbm, ⟨89, _⟩ => ⟨S1x2064x512, .f32⟩
  | .hbm, ⟨90, _⟩ => ⟨S1x2064x512, .f32⟩
  | .hbm, ⟨91, _⟩ => ⟨S1x2064x512, .f32⟩
  | .hbm, ⟨92, _⟩ => ⟨S1x2064x512, .f32⟩
  | .hbm, ⟨93, _⟩ => ⟨S1x2064x8x64, .f32⟩
  | .hbm, ⟨94, _⟩ => ⟨S1x2064x8x64, .f32⟩
  | .hbm, ⟨95, _⟩ => ⟨S1x2064x8x64, .f32⟩
  | .hbm, ⟨96, _⟩ => ⟨S1x2064x8x64, .f32⟩
  | .hbm, ⟨97, _⟩ => ⟨S_, .f32⟩
  | .hbm, ⟨98, _⟩ => ⟨S1x8x64, .f32⟩
  | .hbm, ⟨99, _⟩ => ⟨S1x1x8x64, .f32⟩
  | .hbm, ⟨100, _⟩ => ⟨S_, .f32⟩
  | .hbm, ⟨101, _⟩ => ⟨S8x64, .f32⟩
  | .hbm, ⟨102, _⟩ => ⟨S1x2064x512, .f32⟩
  | .hbm, ⟨103, _⟩ => ⟨S512, .f32⟩
  | .hbm, ⟨104, _⟩ => ⟨S1x2064x512, .f32⟩
  | .hbm, ⟨105, _⟩ => ⟨S2064x512, .f32⟩
  | .hbm, ⟨106, _⟩ => ⟨S_, .i32⟩
  | .hbm, ⟨107, _⟩ => ⟨S_, .f32⟩
  | .hbm, ⟨108, _⟩ => ⟨S2176x512, .f32⟩
  | .hbm, ⟨109, _⟩ => ⟨S2064x512, .f32⟩
  | .hbm, ⟨110, _⟩ => ⟨S_, .i32⟩
  | .hbm, ⟨111, _⟩ => ⟨S_, .f32⟩
  | .hbm, ⟨112, _⟩ => ⟨S2176x512, .f32⟩
  | .hbm, ⟨113, _⟩ => ⟨S2064x512, .f32⟩
  | .hbm, ⟨114, _⟩ => ⟨S_, .i32⟩
  | .hbm, ⟨115, _⟩ => ⟨S_, .f32⟩
  | .hbm, ⟨116, _⟩ => ⟨S2176x512, .f32⟩
  | .hbm, ⟨117, _⟩ => ⟨S1x512, .f32⟩
  | .hbm, ⟨118, _⟩ => ⟨S1x512, .f32⟩
  | _, _ => ⟨S1x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v10_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v10_1 : Ref sig .tc := ⟨.hbm, 27, rfl⟩
abbrev main_v10_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_cst_0 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_v18 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_4 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_9 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_11 : Ref sig .tc := ⟨.hbm, 97, rfl⟩
abbrev main_v64 : Ref sig .tc := ⟨.hbm, 98, rfl⟩
abbrev main_v65 : Ref sig .tc := ⟨.hbm, 99, rfl⟩
abbrev main_cst_12 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c : Ref sig .tc := ⟨.hbm, 106, rfl⟩
abbrev main_call2_v0 : Ref sig .tc := ⟨.hbm, 107, rfl⟩
abbrev main_v71 : Ref sig .tc := ⟨.hbm, 108, rfl⟩
abbrev main_v72 : Ref sig .tc := ⟨.hbm, 109, rfl⟩
abbrev main_c_13 : Ref sig .tc := ⟨.hbm, 110, rfl⟩
abbrev main_call3_v0 : Ref sig .tc := ⟨.hbm, 111, rfl⟩
abbrev main_v73 : Ref sig .tc := ⟨.hbm, 112, rfl⟩
abbrev main_v74 : Ref sig .tc := ⟨.hbm, 113, rfl⟩
abbrev main_c_14 : Ref sig .tc := ⟨.hbm, 114, rfl⟩
abbrev main_call4_v0 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩

abbrev nD : Nat := 1
abbrev τ : Topo := Topo.v7x

variable {F : FTy → Type} [FloatOps F]
-- ==== FoxfKernel.lean ====
abbrev S1x2064x256 : Shape := ⟨3, ![1, 2064, 256]⟩
abbrev S1x4x2064 : Shape := ⟨3, ![1, 4, 2064]⟩
abbrev S2064x256 : Shape := ⟨2, ![2064, 256]⟩
abbrev S2064x768 : Shape := ⟨2, ![2064, 768]⟩
abbrev S_ : Shape := ⟨0, ![]⟩
abbrev S2176x2816 : Shape := ⟨2, ![2176, 2816]⟩
abbrev S4x2064 : Shape := ⟨2, ![4, 2064]⟩
abbrev S2064x4 : Shape := ⟨2, ![2064, 4]⟩
abbrev S2064x128 : Shape := ⟨2, ![2064, 128]⟩
abbrev S2176x128 : Shape := ⟨2, ![2176, 128]⟩
abbrev S128x2176 : Shape := ⟨2, ![128, 2176]⟩
abbrev S2176x256 : Shape := ⟨2, ![2176, 256]⟩
abbrev S272x256 : Shape := ⟨2, ![272, 256]⟩
abbrev S272x128 : Shape := ⟨2, ![272, 128]⟩
abbrev S272x640 : Shape := ⟨2, ![272, 640]⟩
abbrev S640x256 : Shape := ⟨2, ![640, 256]⟩
abbrev S1x256 : Shape := ⟨2, ![1, 256]⟩
abbrev S1x128 : Shape := ⟨2, ![1, 128]⟩
abbrev S272 : Shape := ⟨1, ![272]⟩
abbrev S272x1 : Shape := ⟨2, ![272, 1]⟩
abbrev S1x640 : Shape := ⟨2, ![1, 640]⟩
abbrev S272x1152 : Shape := ⟨2, ![272, 1152]⟩
abbrev S1152x256 : Shape := ⟨2, ![1152, 256]⟩
abbrev S1x1152 : Shape := ⟨2, ![1, 1152]⟩
abbrev S272x1664 : Shape := ⟨2, ![272, 1664]⟩
abbrev S1664x256 : Shape := ⟨2, ![1664, 256]⟩
abbrev S1x1664 : Shape := ⟨2, ![1, 1664]⟩
abbrev S272x2176 : Shape := ⟨2, ![272, 2176]⟩
abbrev S1x2176 : Shape := ⟨2, ![1, 2176]⟩

abbrev nBuf : Space → Nat
  | .hbm => 25
  | .vmem => 11
  | .smem => 0
  | _ => 0

abbrev bufTy : (tb : Table) → Fin (tcTables nBuf tb) → BufTy
  | .hbm, ⟨0, _⟩ => ⟨S1x2064x256, .f32⟩
  | .hbm, ⟨1, _⟩ => ⟨S1x2064x256, .f32⟩
  | .hbm, ⟨2, _⟩ => ⟨S1x2064x256, .f32⟩
  | .hbm, ⟨3, _⟩ => ⟨S1x4x2064, .f32⟩
  | .hbm, ⟨4, _⟩ => ⟨S2064x256, .f32⟩
  | .hbm, ⟨5, _⟩ => ⟨S2064x256, .f32⟩
  | .hbm, ⟨6, _⟩ => ⟨S2064x256, .f32⟩
  | .hbm, ⟨7, _⟩ => ⟨S2064x768, .f32⟩
  | .hbm, ⟨8, _⟩ => ⟨S_, .i32⟩
  | .hbm, ⟨9, _⟩ => ⟨S_, .f32⟩
  | .hbm, ⟨10, _⟩ => ⟨S2176x2816, .f32⟩
  | .hbm, ⟨11, _⟩ => ⟨S4x2064, .f32⟩
  | .hbm, ⟨12, _⟩ => ⟨S2064x4, .f32⟩
  | .hbm, ⟨13, _⟩ => ⟨S_, .i32⟩
  | .hbm, ⟨14, _⟩ => ⟨S_, .f32⟩
  | .hbm, ⟨15, _⟩ => ⟨S2064x128, .f32⟩
  | .hbm, ⟨16, _⟩ => ⟨S_, .i32⟩
  | .hbm, ⟨17, _⟩ => ⟨S_, .f32⟩
  | .hbm, ⟨18, _⟩ => ⟨S2176x128, .f32⟩
  | .hbm, ⟨19, _⟩ => ⟨S4x2064, .f32⟩
  | .hbm, ⟨20, _⟩ => ⟨S_, .i32⟩
  | .hbm, ⟨21, _⟩ => ⟨S_, .f32⟩
  | .hbm, ⟨22, _⟩ => ⟨S128x2176, .f32⟩
  | .hbm, ⟨23, _⟩ => ⟨S2176x256, .f32⟩
  | .hbm, ⟨24, _⟩ => ⟨S2176x128, .f32⟩
  | .local _ .vmem, ⟨0, _⟩ => ⟨S272x256, .f32⟩
  | .local _ .vmem, ⟨1, _⟩ => ⟨S272x256, .f32⟩
  | .local _ .vmem, ⟨2, _⟩ => ⟨S2176x256, .f32⟩
  | .local _ .vmem, ⟨3, _⟩ => ⟨S2176x256, .f32⟩
  | .local _ .vmem, ⟨4, _⟩ => ⟨S272x128, .f32⟩
  | .local _ .vmem, ⟨5, _⟩ => ⟨S272x128, .f32⟩
  | .local _ .vmem, ⟨6, _⟩ => ⟨S128x2176, .f32⟩
  | .local _ .vmem, ⟨7, _⟩ => ⟨S272x256, .f32⟩
  | .local _ .vmem, ⟨8, _⟩ => ⟨S272x256, .f32⟩
  | .local _ .vmem, ⟨9, _⟩ => ⟨S272x128, .f32⟩
  | .local _ .vmem, ⟨10, _⟩ => ⟨S272x128, .f32⟩
  | _, _ => ⟨S1x2064x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg0 : BitVec 32 := BitVec.ofNat 32 (i 0).val
  let c0_i32_16 : BitVec 32 := 0#32
  let v41 : BitVec 1 := Scalar.cmpi .sgt arg0 c0_i32_16
  let v42 : BitVec 32 := Scalar.extui v41
  let c0_i32_17 : BitVec 32 := 0#32
  let v43 : BitVec 1 := Scalar.cmpi .slt arg0 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg0 c2_i32_15
  let c0_i32_20 : BitVec 32 := 0#32
  let v53 : BitVec 1 := Scalar.cmpi .ne v52 c0_i32_20
  let v54 : BitVec 1 := Scalar.andi v51 v53
  let v40 : BitVec 32 := Scalar.divsi arg0 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32_25 : BitVec 32 := 0#32
  let v61 : BitVec 1 := Scalar.cmpi .sgt arg0 c0_i32_25
  let v62 : BitVec 32 := Scalar.extui v61
  let c0_i32_26 : BitVec 32 := 0#32
  let v63 : BitVec 1 := Scalar.cmpi .slt arg0 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg0 c2_i32_24
  let c0_i32_29 : BitVec 32 := 0#32
  let v73 : BitVec 1 := Scalar.cmpi .ne v72 c0_i32_29
  let v74 : BitVec 1 := Scalar.andi v71 v73
  let v60 : BitVec 32 := Scalar.divsi arg0 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_2 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FoxfKernelIdeal.lean ====
variable {F : FTy → Type} [FloatOps F] [Named F]
def κ : String → Option EReal := fun
  | "mask" => some ⊥
  | _ => none
-- ==== FoxfReferenceIdeal.lean ====
abbrev S1x2064x256 : Shape := ⟨3, ![1, 2064, 256]⟩
abbrev S1x4x2064 : Shape := ⟨3, ![1, 4, 2064]⟩
abbrev S1x2064x4x64 : Shape := ⟨4, ![1, 2064, 4, 64]⟩
abbrev S1x4x2064x2064 : Shape := ⟨4, ![1, 4, 2064, 2064]⟩
abbrev S_ : Shape := ⟨0, ![]⟩
abbrev S1x4x2064x1 : Shape := ⟨4, ![1, 4, 2064, 1]⟩
abbrev S1x4x1x2064 : Shape := ⟨4, ![1, 4, 1, 2064]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x4x64x2064 : Shape := ⟨4, ![1, 4, 64, 2064]⟩
abbrev S2064x256 : Shape := ⟨2, ![2064, 256]⟩
abbrev S2176x256 : Shape := ⟨2, ![2176, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x2064x256, .f32⟩
  | .hbm, ⟨1, _⟩ => ⟨S1x2064x256, .f32⟩
  | .hbm, ⟨2, _⟩ => ⟨S1x2064x256, .f32⟩
  | .hbm, ⟨3, _⟩ => ⟨S1x4x2064, .f32⟩
  | .hbm, ⟨4, _⟩ => ⟨S1x2064x4x64, .f32⟩
  | .hbm, ⟨5, _⟩ => ⟨S1x2064x4x64, .f32⟩
  | .hbm, ⟨6, _⟩ => ⟨S1x2064x4x64, .f32⟩
  | .hbm, ⟨7, _⟩ => ⟨S1x4x2064x2064, .f32⟩
  | .hbm, ⟨8, _⟩ => ⟨S_, .f32⟩
  | .hbm, ⟨9, _⟩ => ⟨S1x4x2064x2064, .f32⟩
  | .hbm, ⟨10, _⟩ => ⟨S1x4x2064x2064, .f32⟩
  | .hbm, ⟨11, _⟩ => ⟨S1x4x2064x1, .f32⟩
  | .hbm, ⟨12, _⟩ => ⟨S1x4x1x2064, .f32⟩
  | .hbm, ⟨13, _⟩ => ⟨S1x4x2064x2064, .f32⟩
  | .hbm, ⟨14, _⟩ => ⟨S1x4x2064x2064, .f32⟩
  | .hbm, ⟨15, _⟩ => ⟨S1x4x2064x2064, .f32⟩
  | .hbm, ⟨16, _⟩ => ⟨S1x4x2064x2064, .f32⟩
  | .hbm, ⟨17, _⟩ => ⟨S2064, .i32⟩
  | .hbm, ⟨18, _⟩ => ⟨S1x2064, .i32⟩
  | .hbm, ⟨19, _⟩ => ⟨S2064, .i32⟩
  | .hbm, ⟨20, _⟩ => ⟨S2064x1, .i32⟩
  | .hbm, ⟨21, _⟩ => ⟨S2064x2064, .i32⟩
  | .hbm, ⟨22, _⟩ => ⟨S2064x2064, .i32⟩
  | .hbm, ⟨23, _⟩ => ⟨S2064x2064, .i1⟩
  | .hbm, ⟨24, _⟩ => ⟨S_, .f32⟩
  | .hbm, ⟨25, _⟩ => ⟨S_, .f32⟩
  | .hbm, ⟨26, _⟩ => ⟨S1x4x2064x2064, .i1⟩
  | .hbm, ⟨27, _⟩ => ⟨S1x4x2064x2064, .f32⟩
  | .hbm, ⟨28, _⟩ => ⟨S1x4x2064x2064, .f32⟩
  | .hbm, ⟨29, _⟩ => ⟨S_, .f32⟩
  | .hbm, ⟨30, _⟩ => ⟨S1x4x2064, .f32⟩
  | .hbm, ⟨31, _⟩ => ⟨S_, .f32⟩
  | .hbm, ⟨32, _⟩ => ⟨S1x4x2064, .f32⟩
  | .hbm, ⟨33, _⟩ => ⟨S1x4x2064, .f32⟩
  | .hbm, ⟨34, _⟩ => ⟨S1x4x2064x1, .f32⟩
  | .hbm, ⟨35, _⟩ => ⟨S1x4x2064x2064, .f32⟩
  | .hbm, ⟨36, _⟩ => ⟨S1x4x2064x2064, .f32⟩
  | .hbm, ⟨37, _⟩ => ⟨S1x4x2064x2064, .f32⟩
  | .hbm, ⟨38, _⟩ => ⟨S_, .f32⟩
  | .hbm, ⟨39, _⟩ => ⟨S1x4x2064, .f32⟩
  | .hbm, ⟨40, _⟩ => ⟨S1x4x2064x1, .f32⟩
  | .hbm, ⟨41, _⟩ => ⟨S1x4x2064x2064, .f32⟩
  | .hbm, ⟨42, _⟩ => ⟨S1x4x2064x2064, .f32⟩
  | .hbm, ⟨43, _⟩ => ⟨S1x4x64x2064, .f32⟩
  | .hbm, ⟨44, _⟩ => ⟨S1x2064x4x64, .f32⟩
  | .hbm, ⟨45, _⟩ => ⟨S1x2064x256, .f32⟩
  | .hbm, ⟨46, _⟩ => ⟨S2064x256, .f32⟩
  | .hbm, ⟨47, _⟩ => ⟨S_, .i32⟩
  | .hbm, ⟨48, _⟩ => ⟨S_, .f32⟩
  | .hbm, ⟨49, _⟩ => ⟨S2176x256, .f32⟩
  | _, _ => ⟨S1x2064x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c : Ref sig .tc := ⟨.hbm, 47, rfl⟩
abbrev main_call1_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== AttfKernel.lean ====
abbrev S1x2064x4x64 : Shape := ⟨4, ![1, 2064, 4, 64]⟩
abbrev S1x2064x4x32 : Shape := ⟨4, ![1, 2064, 4, 32]⟩
abbrev S1x2064x32 : Shape := ⟨3, ![1, 2064, 32]⟩
abbrev S2064x256 : Shape := ⟨2, ![2064, 256]⟩
abbrev S2064x4x32 : Shape := ⟨3, ![2064, 4, 32]⟩
abbrev S2064x4x2x16 : Shape := ⟨4, ![2064, 4, 2, 16]⟩
abbrev S2064x2x4x16 : Shape := ⟨4, ![2064, 2, 4, 16]⟩
abbrev S2064x128 : Shape := ⟨2, ![2064, 128]⟩
abbrev S2064x384 : Shape := ⟨2, ![2064, 384]⟩
abbrev S_ : Shape := ⟨0, ![]⟩
abbrev S2176x384 : Shape := ⟨2, ![2176, 384]⟩
abbrev S2064x512 : Shape := ⟨2, ![2064, 512]⟩
abbrev S2176x512 : Shape := ⟨2, ![2176, 512]⟩
abbrev S2064x32 : Shape := ⟨2, ![2064, 32]⟩
abbrev S2064x1x32 : Shape := ⟨3, ![2064, 1, 32]⟩
abbrev S2176x128 : Shape := ⟨2, ![2176, 128]⟩
abbrev S2176x256 : Shape := ⟨2, ![2176, 256]⟩
abbrev S272x256 : Shape := ⟨2, ![272, 256]⟩
abbrev S272x128 : Shape := ⟨2, ![272, 128]⟩
abbrev S272x640 : Shape := ⟨2, ![272, 640]⟩
abbrev S640x256 : Shape := ⟨2, ![640, 256]⟩
abbrev S1x256 : Shape := ⟨2, ![1, 256]⟩
abbrev S1x128 : Shape := ⟨2, ![1, 128]⟩
abbrev S640x128 : Shape := ⟨2, ![640, 128]⟩
abbrev S272 : Shape := ⟨1, ![272]⟩
abbrev S272x1 : Shape := ⟨2, ![272, 1]⟩
abbrev S272x1152 : Shape := ⟨2, ![272, 1152]⟩
abbrev S1152x256 : Shape := ⟨2, ![1152, 256]⟩
abbrev S1152x128 : Shape := ⟨2, ![1152, 128]⟩
abbrev S272x1664 : Shape := ⟨2, ![272, 1664]⟩
abbrev S1664x256 : Shape := ⟨2, ![1664, 256]⟩
abbrev S1664x128 : Shape := ⟨2, ![1664, 128]⟩
abbrev S272x2176 : Shape := ⟨2, ![272, 2176]⟩

abbrev nBuf : Space → Nat
  | .hbm => 38
  | .vmem => 11
  | .smem => 0
  | _ => 0

abbrev bufTy : (tb : Table) → Fin (tcTables nBuf tb) → BufTy
  | .hbm, ⟨0, _⟩ => ⟨S1x2064x4x64, .f32⟩
  | .hbm, ⟨1, _⟩ => ⟨S1x2064x4x32, .f32⟩
  | .hbm, ⟨2, _⟩ => ⟨S1x2064x4x64, .f32⟩
  | .hbm, ⟨3, _⟩ => ⟨S1x2064x32, .f32⟩
  | .hbm, ⟨4, _⟩ => ⟨S1x2064x4x64, .f32⟩
  | .hbm, ⟨5, _⟩ => ⟨S2064x256, .f32⟩
  | .hbm, ⟨6, _⟩ => ⟨S2064x4x32, .f32⟩
  | .hbm, ⟨7, _⟩ => ⟨S2064x4x2x16, .f32⟩
  | .hbm, ⟨8, _⟩ => ⟨S2064x2x4x16, .f32⟩
  | .hbm, ⟨9, _⟩ => ⟨S2064x128, .f32⟩
  | .hbm, ⟨10, _⟩ => ⟨S2064x384, .f32⟩
  | .hbm, ⟨11, _⟩ => ⟨S_, .i32⟩
  | .hbm, ⟨12, _⟩ => ⟨S_, .f32⟩
  | .hbm, ⟨13, _⟩ => ⟨S2176x384, .f32⟩
  | .hbm, ⟨14, _⟩ => ⟨S2064x256, .f32⟩
  | .hbm, ⟨15, _⟩ => ⟨S2064x256, .f32⟩
  | .hbm, ⟨16, _⟩ => ⟨S2064x512, .f32⟩
  | .hbm, ⟨17, _⟩ => ⟨S_, .i32⟩
  | .hbm, ⟨18, _⟩ => ⟨S_, .f32⟩
  | .hbm, ⟨19, _⟩ => ⟨S2176x512, .f32⟩
  | .hbm, ⟨20, _⟩ => ⟨S2064x32, .f32⟩
  | .hbm, ⟨21, _⟩ => ⟨S2064x1x32, .f32⟩
  | .hbm, ⟨22, _⟩ => ⟨S2064x4x32, .f32⟩
  | .hbm, ⟨23, _⟩ => ⟨S2064x4x32, .f32⟩
  | .hbm, ⟨24, _⟩ => ⟨S2064x4x2x16, .f32⟩
  | .hbm, ⟨25, _⟩ => ⟨S2064x2x4x16, .f32⟩
  | .hbm, ⟨26, _⟩ => ⟨S2064x128, .f32⟩
  | .hbm, ⟨27, _⟩ => ⟨S_, .i32⟩
  | .hbm, ⟨28, _⟩ => ⟨S_, .f32⟩
  | .hbm, ⟨29, _⟩ => ⟨S2176x128, .f32⟩
  | .hbm, ⟨30, _⟩ => ⟨S2064x4x2x16, .f32⟩
  | .hbm, ⟨31, _⟩ => ⟨S2064x2x4x16, .f32⟩
  | .hbm, ⟨32, _⟩ => ⟨S2064x128, .f32⟩
  | .hbm, ⟨33, _⟩ => ⟨S_, .i32⟩
  | .hbm, ⟨34, _⟩ => ⟨S_, .f32⟩
  | .hbm, ⟨35, _⟩ => ⟨S2176x128, .f32⟩
  | .hbm, ⟨36, _⟩ => ⟨S2176x256, .f32⟩
  | .hbm, ⟨37, _⟩ => ⟨S2176x128, .f32⟩
  | .local _ .vmem, ⟨0, _⟩ => ⟨S272x256, .f32⟩
  | .local _ .vmem, ⟨1, _⟩ => ⟨S272x256, .f32⟩
  | .local _ .vmem, ⟨2, _⟩ => ⟨S2176x256, .f32⟩
  | .local _ .vmem, ⟨3, _⟩ => ⟨S2176x256, .f32⟩
  | .local _ .vmem, ⟨4, _⟩ => ⟨S272x128, .f32⟩
  | .local _ .vmem, ⟨5, _⟩ => ⟨S272x128, .f32⟩
  | .local _ .vmem, ⟨6, _⟩ => ⟨S2176x128, .f32⟩
  | .local _ .vmem, ⟨7, _⟩ => ⟨S272x256, .f32⟩
  | .local _ .vmem, ⟨8, _⟩ => ⟨S272x256, .f32⟩
  | .local _ .vmem, ⟨9, _⟩ => ⟨S272x128, .f32⟩
  | .local _ .vmem, ⟨10, _⟩ => ⟨S272x128, .f32⟩
  | _, _ => ⟨S1x2064x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call1_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_call2_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_call3_v0 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32_7 : BitVec 32 := 0#32
  let v21 : BitVec 1 := Scalar.cmpi .sgt arg0 c0_i32_7
  let v22 : BitVec 32 := Scalar.extui v21
  let c0_i32_8 : BitVec 32 := 0#32
  let v23 : BitVec 1 := Scalar.cmpi .slt arg0 c0_i32_8
  let v24 : BitVec 32 := Scalar.extui v23
  let v25 : BitVec 32 := Scalar.subi v22 v24
  let c2_i32_6 : BitVec 32 := 2#32
  let c0_i32_9 : BitVec 32 := 0#32
  let v26 : BitVec 1 := Scalar.cmpi .sgt c2_i32_6 c0_i32_9
  let v27 : BitVec 32 := Scalar.extui v26
  let c0_i32_10 : BitVec 32 := 0#32
  let v28 : BitVec 1 := Scalar.cmpi .slt c2_i32_6 c0_i32_10
  let v29 : BitVec 32 := Scalar.extui v28
  let v30 : BitVec 32 := Scalar.subi v27 v29
  let v31 : BitVec 1 := Scalar.cmpi .ne v25 v30
  let v32 : BitVec 32 := Scalar.remsi arg0 c2_i32_6
  let c0_i32_11 : BitVec 32 := 0#32
  let v33 : BitVec 1 := Scalar.cmpi .ne v32 c0_i32_11
  let v34 : BitVec 1 := Scalar.andi v31 v33
  let v20 : BitVec 32 := Scalar.divsi arg0 c2_i32_6
  let c1_i32_12 : BitVec 32 := 1#32
  let v35 : BitVec 32 := Scalar.subi v20 c1_i32_12
  let v36 : BitVec 32 := Scalar.select v34 v35 v20
  let c1_i32_13 : BitVec 32 := 1#32
  let v37 : BitVec 1 := Scalar.cmpi .eq v36 c1_i32_13
  let v38 : BitVec 32 := Scalar.extui v37
  let c0_i32_14 : BitVec 32 := 0#32
  let v39 : BitVec 1 := Scalar.cmpi .ne v38 c0_i32_14
  v39

def k0_cond3 (i : grid0.Coords) : BitVec 1 :=
  let arg0 : BitVec 32 := BitVec.ofNat 32 (i 0).val
  let c0_i32_16 : BitVec 32 := 0#32
  let v41 : BitVec 1 := Scalar.cmpi .sgt arg0 c0_i32_16
  let v42 : BitVec 32 := Scalar.extui v41
  let c0_i32_17 : BitVec 32 := 0#32
  let v43 : BitVec 1 := Scalar.cmpi .slt arg0 c0_i32_17
  let v44 : BitVec 32 := Scalar.extui v43
  let v45 : BitVec 32 := Scalar.subi v42 v44
  let c2_i32_15 : BitVec 32 := 2#32
  let c0_i32_18 : BitVec 32 := 0#32
  let v46 : BitVec 1 := Scalar.cmpi .sgt c2_i32_15 c0_i32_18
  let v47 : BitVec 32 := Scalar.extui v46
  let c0_i32_19 : BitVec 32 := 0#32
  let v48 : BitVec 1 := Scalar.cmpi .slt c2_i32_15 c0_i32_19
  let v49 : BitVec 32 := Scalar.extui v48
  let v50 : BitVec 32 := Scalar.subi v47 v49
  let v51 : BitVec 1 := Scalar.cmpi .ne v45 v50
  let v52 : BitVec 32 := Scalar.remsi arg0 c2_i32_15
  let c0_i32_20 : BitVec 32 := 0#32
  let v53 : BitVec 1 := Scalar.cmpi .ne v52 c0_i32_20
  let v54 : BitVec 1 := Scalar.andi v51 v53
  let v40 : BitVec 32 := Scalar.divsi arg0 c2_i32_15
  let c1_i32_21 : BitVec 32 := 1#32
  let v55 : BitVec 32 := Scalar.subi v40 c1_i32_21
  let v56 : BitVec 32 := Scalar.select v54 v55 v40
  let c2_i32_22 : BitVec 32 := 2#32
  let v57 : BitVec 1 := Scalar.cmpi .eq v56 c2_i32_22
  let v58 : BitVec 32 := Scalar.extui v57
  let c0_i32_23 : BitVec 32 := 0#32
  let v59 : BitVec 1 := Scalar.cmpi .ne v58 c0_i32_23
  v59

def k0_cond4 (i : grid0.Coords) : BitVec 1 :=
  let arg0 : BitVec 32 := BitVec.ofNat 32 (i 0).val
  let c0_i32_25 : BitVec 32 := 0#32
  let v61 : BitVec 1 := Scalar.cmpi .sgt arg0 c0_i32_25
  let v62 : BitVec 32 := Scalar.extui v61
  let c0_i32_26 : BitVec 32 := 0#32
  let v63 : BitVec 1 := Scalar.cmpi .slt arg0 c0_i32_26
  let v64 : BitVec 32 := Scalar.extui v63
  let v65 : BitVec 32 := Scalar.subi v62 v64
  let c2_i32_24 : BitVec 32 := 2#32
  let c0_i32_27 : BitVec 32 := 0#32
  let v66 : BitVec 1 := Scalar.cmpi .sgt c2_i32_24 c0_i32_27
  let v67 : BitVec 32 := Scalar.extui v66
  let c0_i32_28 : BitVec 32 := 0#32
  let v68 : BitVec 1 := Scalar.cmpi .slt c2_i32_24 c0_i32_28
  let v69 : BitVec 32 := Scalar.extui v68
  let v70 : BitVec 32 := Scalar.subi v67 v69
  let v71 : BitVec 1 := Scalar.cmpi .ne v65 v70
  let v72 : BitVec 32 := Scalar.remsi arg0 c2_i32_24
  let c0_i32_29 : BitVec 32 := 0#32
  let v73 : BitVec 1 := Scalar.cmpi .ne v72 c0_i32_29
  let v74 : BitVec 1 := Scalar.andi v71 v73
  let v60 : BitVec 32 := Scalar.divsi arg0 c2_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S272x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S272x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttfKernelIdeal.lean ====
variable {F : FTy → Type} [FloatOps F] [Named F]
def κ : String → Option EReal := fun
  | "mask" => some ⊥
  | _ => none
-- ==== AttfReferenceIdeal.lean ====
abbrev S1x2064x4x64 : Shape := ⟨4, ![1, 2064, 4, 64]⟩
abbrev S1x2064x4x32 : Shape := ⟨4, ![1, 2064, 4, 32]⟩
abbrev S1x2064x32 : Shape := ⟨3, ![1, 2064, 32]⟩
abbrev S1x4x2064x2064 : Shape := ⟨4, ![1, 4, 2064, 2064]⟩
abbrev S1x2064x2064x4 : Shape := ⟨4, ![1, 2064, 2064, 4]⟩
abbrev S_ : Shape := ⟨0, ![]⟩
abbrev S2064 : Shape := ⟨1, ![2064]⟩
abbrev S1x2064 : Shape := ⟨2, ![1, 2064]⟩
abbrev S2064x1 : Shape := ⟨2, ![2064, 1]⟩
abbrev S2064x2064 : Shape := ⟨2, ![2064, 2064]⟩
abbrev S1x4x2064 : Shape := ⟨3, ![1, 4, 2064]⟩
abbrev S1x4x2064x1 : Shape := ⟨4, ![1, 4, 2064, 1]⟩
abbrev S1x4x64x2064 : Shape := ⟨4, ![1, 4, 64, 2064]⟩
abbrev S1x2064x256 : Shape := ⟨3, ![1, 2064, 256]⟩
abbrev S2064x256 : Shape := ⟨2, ![2064, 256]⟩
abbrev S2176x256 : Shape := ⟨2, ![2176, 256]⟩

abbrev nBuf : Space → Nat
  | .hbm => 45
  | .vmem => 0
  | .smem => 0
  | _ => 0

abbrev bufTy : (tb : Table) → Fin (tcTables nBuf tb) → BufTy
  | .hbm, ⟨0, _⟩ => ⟨S1x2064x4x64, .f32⟩
  | .hbm, ⟨1, _⟩ => ⟨S1x2064x4x32, .f32⟩
  | .hbm, ⟨2, _⟩ => ⟨S1x2064x4x64, .f32⟩
  | .hbm, ⟨3, _⟩ => ⟨S1x2064x32, .f32⟩
  | .hbm, ⟨4, _⟩ => ⟨S1x2064x4x64, .f32⟩
  | .hbm, ⟨5, _⟩ => ⟨S1x4x2064x2064, .f32⟩
  | .hbm, ⟨6, _⟩ => ⟨S1x2064x2064x4, .f32⟩
  | .hbm, ⟨7, _⟩ => ⟨S1x4x2064x2064, .f32⟩
  | .hbm, ⟨8, _⟩ => ⟨S1x4x2064x2064, .f32⟩
  | .hbm, ⟨9, _⟩ => ⟨S_, .f32⟩
  | .hbm, ⟨10, _⟩ => ⟨S1x4x2064x2064, .f32⟩
  | .hbm, ⟨11, _⟩ => ⟨S1x4x2064x2064, .f32⟩
  | .hbm, ⟨12, _⟩ => ⟨S2064, .i32⟩
  | .hbm, ⟨13, _⟩ => ⟨S1x2064, .i32⟩
  | .hbm, ⟨14, _⟩ => ⟨S2064, .i32⟩
  | .hbm, ⟨15, _⟩ => ⟨S2064x1, .i32⟩
  | .hbm, ⟨16, _⟩ => ⟨S2064x2064, .i32⟩
  | .hbm, ⟨17, _⟩ => ⟨S2064x2064, .i32⟩
  | .hbm, ⟨18, _⟩ => ⟨S2064x2064, .i1⟩
  | .hbm, ⟨19, _⟩ => ⟨S_, .f32⟩
  | .hbm, ⟨20, _⟩ => ⟨S_, .f32⟩
  | .hbm, ⟨21, _⟩ => ⟨S1x4x2064x2064, .i1⟩
  | .hbm, ⟨22, _⟩ => ⟨S1x4x2064x2064, .f32⟩
  | .hbm, ⟨23, _⟩ => ⟨S1x4x2064x2064, .f32⟩
  | .hbm, ⟨24, _⟩ => ⟨S_, .f32⟩
  | .hbm, ⟨25, _⟩ => ⟨S1x4x2064, .f32⟩
  | .hbm, ⟨26, _⟩ => ⟨S_, .f32⟩
  | .hbm, ⟨27, _⟩ => ⟨S1x4x2064, .f32⟩
  | .hbm, ⟨28, _⟩ => ⟨S1x4x2064, .f32⟩
  | .hbm, ⟨29, _⟩ => ⟨S1x4x2064x1, .f32⟩
  | .hbm, ⟨30, _⟩ => ⟨S1x4x2064x2064, .f32⟩
  | .hbm, ⟨31, _⟩ => ⟨S1x4x2064x2064, .f32⟩
  | .hbm, ⟨32, _⟩ => ⟨S1x4x2064x2064, .f32⟩
  | .hbm, ⟨33, _⟩ => ⟨S_, .f32⟩
  | .hbm, ⟨34, _⟩ => ⟨S1x4x2064, .f32⟩
  | .hbm, ⟨35, _⟩ => ⟨S1x4x2064x1, .f32⟩
  | .hbm, ⟨36, _⟩ => ⟨S1x4x2064x2064, .f32⟩
  | .hbm, ⟨37, _⟩ => ⟨S1x4x2064x2064, .f32⟩
  | .hbm, ⟨38, _⟩ => ⟨S1x4x64x2064, .f32⟩
  | .hbm, ⟨39, _⟩ => ⟨S1x2064x4x64, .f32⟩
  | .hbm, ⟨40, _⟩ => ⟨S1x2064x256, .f32⟩
  | .hbm, ⟨41, _⟩ => ⟨S2064x256, .f32⟩
  | .hbm, ⟨42, _⟩ => ⟨S_, .i32⟩
  | .hbm, ⟨43, _⟩ => ⟨S_, .f32⟩
  | .hbm, ⟨44, _⟩ => ⟨S2176x256, .f32⟩
  | _, _ => ⟨S1x2064x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c : Ref sig .tc := ⟨.hbm, 42, rfl⟩
abbrev main_call1_v0 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== RopefKernel.lean ====
abbrev S1x2064x4x32 : Shape := ⟨4, ![1, 2064, 4, 32]⟩
abbrev S2064x16 : Shape := ⟨2, ![2064, 16]⟩
abbrev S_ : Shape := ⟨0, ![]⟩
abbrev S2176x16 : Shape := ⟨2, ![2176, 16]⟩
abbrev S1x2176x1x16 : Shape := ⟨4, ![1, 2176, 1, 16]⟩
abbrev S1x2176x4x16 : Shape := ⟨4, ![1, 2176, 4, 16]⟩
abbrev S2176x64 : Shape := ⟨2, ![2176, 64]⟩
abbrev S2176x128 : Shape := ⟨2, ![2176, 128]⟩
abbrev S2064x4x32 : Shape := ⟨3, ![2064, 4, 32]⟩
abbrev S2064x4x2x16 : Shape := ⟨4, ![2064, 4, 2, 16]⟩
abbrev S2064x2x4x16 : Shape := ⟨4, ![2064, 2, 4, 16]⟩
abbrev S2064x128 : Shape := ⟨2, ![2064, 128]⟩
abbrev S544x128 : Shape := ⟨2, ![544, 128]⟩

abbrev nBuf : Space → Nat
  | .hbm => 35
  | .vmem => 12
  | .smem => 0
  | _ => 0

abbrev bufTy : (tb : Table) → Fin (tcTables nBuf tb) → BufTy
  | .hbm, ⟨0, _⟩ => ⟨S1x2064x4x32, .f32⟩
  | .hbm, ⟨1, _⟩ => ⟨S1x2064x4x32, .f32⟩
  | .hbm, ⟨2, _⟩ => ⟨S2064x16, .f32⟩
  | .hbm, ⟨3, _⟩ => ⟨S2064x16, .f32⟩
  | .hbm, ⟨4, _⟩ => ⟨S_, .i32⟩
  | .hbm, ⟨5, _⟩ => ⟨S_, .f32⟩
  | .hbm, ⟨6, _⟩ => ⟨S2176x16, .f32⟩
  | .hbm, ⟨7, _⟩ => ⟨S1x2176x1x16, .f32⟩
  | .hbm, ⟨8, _⟩ => ⟨S1x2176x4x16, .f32⟩
  | .hbm, ⟨9, _⟩ => ⟨S2176x64, .f32⟩
  | .hbm, ⟨10, _⟩ => ⟨S_, .i32⟩
  | .hbm, ⟨11, _⟩ => ⟨S_, .f32⟩
  | .hbm, ⟨12, _⟩ => ⟨S2176x16, .f32⟩
  | .hbm, ⟨13, _⟩ => ⟨S1x2176x1x16, .f32⟩
  | .hbm, ⟨14, _⟩ => ⟨S1x2176x4x16, .f32⟩
  | .hbm, ⟨15, _⟩ => ⟨S2176x64, .f32⟩
  | .hbm, ⟨16, _⟩ => ⟨S2176x128, .f32⟩
  | .hbm, ⟨17, _⟩ => ⟨S2176x64, .f32⟩
  | .hbm, ⟨18, _⟩ => ⟨S2176x128, .f32⟩
  | .hbm, ⟨19, _⟩ => ⟨S2064x4x32, .f32⟩
  | .hbm, ⟨20, _⟩ => ⟨S2064x4x2x16, .f32⟩
  | .hbm, ⟨21, _⟩ => ⟨S2064x2x4x16, .f32⟩
  | .hbm, ⟨22, _⟩ => ⟨S2064x128, .f32⟩
  | .hbm, ⟨23, _⟩ => ⟨S_, .i32⟩
  | .hbm, ⟨24, _⟩ => ⟨S_, .f32⟩
  | .hbm, ⟨25, _⟩ => ⟨S2176x128, .f32⟩
  | .hbm, ⟨26, _⟩ => ⟨S2064x4x32, .f32⟩
  | .hbm, ⟨27, _⟩ => ⟨S2064x4x2x16, .f32⟩
  | .hbm, ⟨28, _⟩ => ⟨S2064x2x4x16, .f32⟩
  | .hbm, ⟨29, _⟩ => ⟨S2064x128, .f32⟩
  | .hbm, ⟨30, _⟩ => ⟨S_, .i32⟩
  | .hbm, ⟨31, _⟩ => ⟨S_, .f32⟩
  | .hbm, ⟨32, _⟩ => ⟨S2176x128, .f32⟩
  | .hbm, ⟨33, _⟩ => ⟨S2176x128, .f32⟩
  | .hbm, ⟨34, _⟩ => ⟨S2176x128, .f32⟩
  | .local _ .vmem, ⟨0, _⟩ => ⟨S544x128, .f32⟩
  | .local _ .vmem, ⟨1, _⟩ => ⟨S544x128, .f32⟩
  | .local _ .vmem, ⟨2, _⟩ => ⟨S544x128, .f32⟩
  | .local _ .vmem, ⟨3, _⟩ => ⟨S544x128, .f32⟩
  | .local _ .vmem, ⟨4, _⟩ => ⟨S544x128, .f32⟩
  | .local _ .vmem, ⟨5, _⟩ => ⟨S544x128, .f32⟩
  | .local _ .vmem, ⟨6, _⟩ => ⟨S544x128, .f32⟩
  | .local _ .vmem, ⟨7, _⟩ => ⟨S544x128, .f32⟩
  | .local _ .vmem, ⟨8, _⟩ => ⟨S544x128, .f32⟩
  | .local _ .vmem, ⟨9, _⟩ => ⟨S544x128, .f32⟩
  | .local _ .vmem, ⟨10, _⟩ => ⟨S544x128, .f32⟩
  | .local _ .vmem, ⟨11, _⟩ => ⟨S544x128, .f32⟩
  | _, _ => ⟨S1x2064x4x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call2_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_call3_v0 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S544x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopefReferenceIdeal.lean ====
abbrev S1x2064x4x32 : Shape := ⟨4, ![1, 2064, 4, 32]⟩
abbrev S2064x16 : Shape := ⟨2, ![2064, 16]⟩
abbrev S1x2064x1x16 : Shape := ⟨4, ![1, 2064, 1, 16]⟩
abbrev S1x2064x4x16 : Shape := ⟨4, ![1, 2064, 4, 16]⟩
abbrev S2064x4x32 : Shape := ⟨3, ![2064, 4, 32]⟩
abbrev S2064x4x2x16 : Shape := ⟨4, ![2064, 4, 2, 16]⟩
abbrev S2064x2x4x16 : Shape := ⟨4, ![2064, 2, 4, 16]⟩
abbrev S2064x128 : Shape := ⟨2, ![2064, 128]⟩
abbrev S_ : Shape := ⟨0, ![]⟩
abbrev S2176x128 : Shape := ⟨2, ![2176, 128]⟩

abbrev nBuf : Space → Nat
  | .hbm => 48
  | .vmem => 0
  | .smem => 0
  | _ => 0

abbrev bufTy : (tb : Table) → Fin (tcTables nBuf tb) → BufTy
  | .hbm, ⟨0, _⟩ => ⟨S1x2064x4x32, .f32⟩
  | .hbm, ⟨1, _⟩ => ⟨S1x2064x4x32, .f32⟩
  | .hbm, ⟨2, _⟩ => ⟨S2064x16, .f32⟩
  | .hbm, ⟨3, _⟩ => ⟨S2064x16, .f32⟩
  | .hbm, ⟨4, _⟩ => ⟨S1x2064x1x16, .f32⟩
  | .hbm, ⟨5, _⟩ => ⟨S1x2064x1x16, .f32⟩
  | .hbm, ⟨6, _⟩ => ⟨S1x2064x4x16, .f32⟩
  | .hbm, ⟨7, _⟩ => ⟨S1x2064x4x16, .f32⟩
  | .hbm, ⟨8, _⟩ => ⟨S1x2064x4x16, .f32⟩
  | .hbm, ⟨9, _⟩ => ⟨S1x2064x4x16, .f32⟩
  | .hbm, ⟨10, _⟩ => ⟨S1x2064x4x16, .f32⟩
  | .hbm, ⟨11, _⟩ => ⟨S1x2064x4x16, .f32⟩
  | .hbm, ⟨12, _⟩ => ⟨S1x2064x4x16, .f32⟩
  | .hbm, ⟨13, _⟩ => ⟨S1x2064x4x16, .f32⟩
  | .hbm, ⟨14, _⟩ => ⟨S1x2064x4x16, .f32⟩
  | .hbm, ⟨15, _⟩ => ⟨S1x2064x4x16, .f32⟩
  | .hbm, ⟨16, _⟩ => ⟨S1x2064x4x16, .f32⟩
  | .hbm, ⟨17, _⟩ => ⟨S1x2064x4x16, .f32⟩
  | .hbm, ⟨18, _⟩ => ⟨S1x2064x4x32, .f32⟩
  | .hbm, ⟨19, _⟩ => ⟨S1x2064x1x16, .f32⟩
  | .hbm, ⟨20, _⟩ => ⟨S1x2064x1x16, .f32⟩
  | .hbm, ⟨21, _⟩ => ⟨S1x2064x4x16, .f32⟩
  | .hbm, ⟨22, _⟩ => ⟨S1x2064x4x16, .f32⟩
  | .hbm, ⟨23, _⟩ => ⟨S1x2064x4x16, .f32⟩
  | .hbm, ⟨24, _⟩ => ⟨S1x2064x4x16, .f32⟩
  | .hbm, ⟨25, _⟩ => ⟨S1x2064x4x16, .f32⟩
  | .hbm, ⟨26, _⟩ => ⟨S1x2064x4x16, .f32⟩
  | .hbm, ⟨27, _⟩ => ⟨S1x2064x4x16, .f32⟩
  | .hbm, ⟨28, _⟩ => ⟨S1x2064x4x16, .f32⟩
  | .hbm, ⟨29, _⟩ => ⟨S1x2064x4x16, .f32⟩
  | .hbm, ⟨30, _⟩ => ⟨S1x2064x4x16, .f32⟩
  | .hbm, ⟨31, _⟩ => ⟨S1x2064x4x16, .f32⟩
  | .hbm, ⟨32, _⟩ => ⟨S1x2064x4x16, .f32⟩
  | .hbm, ⟨33, _⟩ => ⟨S1x2064x4x32, .f32⟩
  | .hbm, ⟨34, _⟩ => ⟨S2064x4x32, .f32⟩
  | .hbm, ⟨35, _⟩ => ⟨S2064x4x2x16, .f32⟩
  | .hbm, ⟨36, _⟩ => ⟨S2064x2x4x16, .f32⟩
  | .hbm, ⟨37, _⟩ => ⟨S2064x128, .f32⟩
  | .hbm, ⟨38, _⟩ => ⟨S_, .i32⟩
  | .hbm, ⟨39, _⟩ => ⟨S_, .f32⟩
  | .hbm, ⟨40, _⟩ => ⟨S2176x128, .f32⟩
  | .hbm, ⟨41, _⟩ => ⟨S2064x4x32, .f32⟩
  | .hbm, ⟨42, _⟩ => ⟨S2064x4x2x16, .f32⟩
  | .hbm, ⟨43, _⟩ => ⟨S2064x2x4x16, .f32⟩
  | .hbm, ⟨44, _⟩ => ⟨S2064x128, .f32⟩
  | .hbm, ⟨45, _⟩ => ⟨S_, .i32⟩
  | .hbm, ⟨46, _⟩ => ⟨S_, .f32⟩
  | .hbm, ⟨47, _⟩ => ⟨S2176x128, .f32⟩
  | _, _ => ⟨S1x2064x4x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_c : Ref sig .tc := ⟨.hbm, 38, rfl⟩
abbrev main_call0_v0 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_c_0 : Ref sig .tc := ⟨.hbm, 45, rfl⟩
abbrev main_call1_v0 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== MlafKernel.lean ====
abbrev S1x2064x256 : Shape := ⟨3, ![1, 2064, 256]⟩
abbrev S1x2064x128 : Shape := ⟨3, ![1, 2064, 128]⟩
abbrev S256 : Shape := ⟨1, ![256]⟩
abbrev S128 : Shape := ⟨1, ![128]⟩
abbrev S2064x256 : Shape := ⟨2, ![2064, 256]⟩
abbrev S2064x128 : Shape := ⟨2, ![2064, 128]⟩
abbrev S2064x384 : Shape := ⟨2, ![2064, 384]⟩
abbrev S_ : Shape := ⟨0, ![]⟩
abbrev S2176x2816 : Shape := ⟨2, ![2176, 2816]⟩
abbrev S1x256 : Shape := ⟨2, ![1, 256]⟩
abbrev S1x128 : Shape := ⟨2, ![1, 128]⟩
abbrev S2176x256 : Shape := ⟨2, ![2176, 256]⟩
abbrev S2176x128 : Shape := ⟨2, ![2176, 128]⟩
abbrev S544x256 : Shape := ⟨2, ![544, 256]⟩
abbrev S544x128 : Shape := ⟨2, ![544, 128]⟩
abbrev S544 : Shape := ⟨1, ![544]⟩
abbrev S544x1 : Shape := ⟨2, ![544, 1]⟩

abbrev nBuf : Space → Nat
  | .hbm => 14
  | .vmem => 10
  | .smem => 0
  | _ => 0

abbrev bufTy : (tb : Table) → Fin (tcTables nBuf tb) → BufTy
  | .hbm, ⟨0, _⟩ => ⟨S1x2064x256, .f32⟩
  | .hbm, ⟨1, _⟩ => ⟨S1x2064x128, .f32⟩
  | .hbm, ⟨2, _⟩ => ⟨S256, .f32⟩
  | .hbm, ⟨3, _⟩ => ⟨S128, .f32⟩
  | .hbm, ⟨4, _⟩ => ⟨S2064x256, .f32⟩
  | .hbm, ⟨5, _⟩ => ⟨S2064x128, .f32⟩
  | .hbm, ⟨6, _⟩ => ⟨S2064x384, .f32⟩
  | .hbm, ⟨7, _⟩ => ⟨S_, .i32⟩
  | .hbm, ⟨8, _⟩ => ⟨S_, .f32⟩
  | .hbm, ⟨9, _⟩ => ⟨S2176x2816, .f32⟩
  | .hbm, ⟨10, _⟩ => ⟨S1x256, .f32⟩
  | .hbm, ⟨11, _⟩ => ⟨S1x128, .f32⟩
  | .hbm, ⟨12, _⟩ => ⟨S2176x256, .bf16⟩
  | .hbm, ⟨13, _⟩ => ⟨S2176x128, .bf16⟩
  | .local _ .vmem, ⟨0, _⟩ => ⟨S544x256, .f32⟩
  | .local _ .vmem, ⟨1, _⟩ => ⟨S544x256, .f32⟩
  | .local _ .vmem, ⟨2, _⟩ => ⟨S544x128, .f32⟩
  | .local _ .vmem, ⟨3, _⟩ => ⟨S544x128, .f32⟩
  | .local _ .vmem, ⟨4, _⟩ => ⟨S1x256, .f32⟩
  | .local _ .vmem, ⟨5, _⟩ => ⟨S1x128, .f32⟩
  | .local _ .vmem, ⟨6, _⟩ => ⟨S544x256, .bf16⟩
  | .local _ .vmem, ⟨7, _⟩ => ⟨S544x256, .bf16⟩
  | .local _ .vmem, ⟨8, _⟩ => ⟨S544x128, .bf16⟩
  | .local _ .vmem, ⟨9, _⟩ => ⟨S544x128, .bf16⟩
  | _, _ => ⟨S1x2064x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S544x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S544x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlafReferenceIdeal.lean ====
abbrev S1x2064x256 : Shape := ⟨3, ![1, 2064, 256]⟩
abbrev S1x2064x128 : Shape := ⟨3, ![1, 2064, 128]⟩
abbrev S256 : Shape := ⟨1, ![256]⟩
abbrev S128 : Shape := ⟨1, ![128]⟩
abbrev S_ : Shape := ⟨0, ![]⟩
abbrev S1x2064 : Shape := ⟨2, ![1, 2064]⟩
abbrev S1x2064x1 : Shape := ⟨3, ![1, 2064, 1]⟩
abbrev S1x1x256 : Shape := ⟨3, ![1, 1, 256]⟩
abbrev S2064x256 : Shape := ⟨2, ![2064, 256]⟩
abbrev S2176x256 : Shape := ⟨2, ![2176, 256]⟩
abbrev S1x1x128 : Shape := ⟨3, ![1, 1, 128]⟩
abbrev S2064x128 : Shape := ⟨2, ![2064, 128]⟩
abbrev S2176x128 : Shape := ⟨2, ![2176, 128]⟩

abbrev nBuf : Space → Nat
  | .hbm => 46
  | .vmem => 0
  | .smem => 0
  | _ => 0

abbrev bufTy : (tb : Table) → Fin (tcTables nBuf tb) → BufTy
  | .hbm, ⟨0, _⟩ => ⟨S1x2064x256, .f32⟩
  | .hbm, ⟨1, _⟩ => ⟨S1x2064x128, .f32⟩
  | .hbm, ⟨2, _⟩ => ⟨S256, .f32⟩
  | .hbm, ⟨3, _⟩ => ⟨S128, .f32⟩
  | .hbm, ⟨4, _⟩ => ⟨S1x2064x256, .f32⟩
  | .hbm, ⟨5, _⟩ => ⟨S_, .f32⟩
  | .hbm, ⟨6, _⟩ => ⟨S1x2064, .f32⟩
  | .hbm, ⟨7, _⟩ => ⟨S1x2064x1, .f32⟩
  | .hbm, ⟨8, _⟩ => ⟨S_, .f32⟩
  | .hbm, ⟨9, _⟩ => ⟨S1x2064x1, .f32⟩
  | .hbm, ⟨10, _⟩ => ⟨S1x2064x1, .f32⟩
  | .hbm, ⟨11, _⟩ => ⟨S_, .f32⟩
  | .hbm, ⟨12, _⟩ => ⟨S1x2064x1, .f32⟩
  | .hbm, ⟨13, _⟩ => ⟨S1x2064x1, .f32⟩
  | .hbm, ⟨14, _⟩ => ⟨S1x2064x1, .f32⟩
  | .hbm, ⟨15, _⟩ => ⟨S1x2064x256, .f32⟩
  | .hbm, ⟨16, _⟩ => ⟨S1x2064x256, .f32⟩
  | .hbm, ⟨17, _⟩ => ⟨S1x1x256, .f32⟩
  | .hbm, ⟨18, _⟩ => ⟨S1x2064x256, .f32⟩
  | .hbm, ⟨19, _⟩ => ⟨S1x2064x256, .f32⟩
  | .hbm, ⟨20, _⟩ => ⟨S2064x256, .f32⟩
  | .hbm, ⟨21, _⟩ => ⟨S_, .i32⟩
  | .hbm, ⟨22, _⟩ => ⟨S_, .f32⟩
  | .hbm, ⟨23, _⟩ => ⟨S2176x256, .f32⟩
  | .hbm, ⟨24, _⟩ => ⟨S2176x256, .bf16⟩
  | .hbm, ⟨25, _⟩ => ⟨S1x2064x128, .f32⟩
  | .hbm, ⟨26, _⟩ => ⟨S_, .f32⟩
  | .hbm, ⟨27, _⟩ => ⟨S1x2064, .f32⟩
  | .hbm, ⟨28, _⟩ => ⟨S1x2064x1, .f32⟩
  | .hbm, ⟨29, _⟩ => ⟨S_, .f32⟩
  | .hbm, ⟨30, _⟩ => ⟨S1x2064x1, .f32⟩
  | .hbm, ⟨31, _⟩ => ⟨S1x2064x1, .f32⟩
  | .hbm, ⟨32, _⟩ => ⟨S_, .f32⟩
  | .hbm, ⟨33, _⟩ => ⟨S1x2064x1, .f32⟩
  | .hbm, ⟨34, _⟩ => ⟨S1x2064x1, .f32⟩
  | .hbm, ⟨35, _⟩ => ⟨S1x2064x1, .f32⟩
  | .hbm, ⟨36, _⟩ => ⟨S1x2064x128, .f32⟩
  | .hbm, ⟨37, _⟩ => ⟨S1x2064x128, .f32⟩
  | .hbm, ⟨38, _⟩ => ⟨S1x1x128, .f32⟩
  | .hbm, ⟨39, _⟩ => ⟨S1x2064x128, .f32⟩
  | .hbm, ⟨40, _⟩ => ⟨S1x2064x128, .f32⟩
  | .hbm, ⟨41, _⟩ => ⟨S2064x128, .f32⟩
  | .hbm, ⟨42, _⟩ => ⟨S_, .i32⟩
  | .hbm, ⟨43, _⟩ => ⟨S_, .f32⟩
  | .hbm, ⟨44, _⟩ => ⟨S2176x128, .f32⟩
  | .hbm, ⟨45, _⟩ => ⟨S2176x128, .bf16⟩
  | _, _ => ⟨S1x2064x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_call1_v0 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== PostfKernel.lean ====
abbrev S1x2064x512 : Shape := ⟨3, ![1, 2064, 512]⟩
abbrev S8 : Shape := ⟨1, ![8]⟩
abbrev S512 : Shape := ⟨1, ![512]⟩
abbrev S2064x512 : Shape := ⟨2, ![2064, 512]⟩
abbrev S_ : Shape := ⟨0, ![]⟩
abbrev S2176x768 : Shape := ⟨2, ![2176, 768]⟩
abbrev S2176x512 : Shape := ⟨2, ![2176, 512]⟩
abbrev S2176x2816 : Shape := ⟨2, ![2176, 2816]⟩
abbrev S8x64 : Shape := ⟨2, ![8, 64]⟩
abbrev S1x512 : Shape := ⟨2, ![1, 512]⟩
abbrev S544x256 : Shape := ⟨2, ![544, 256]⟩
abbrev S1x256 : Shape := ⟨2, ![1, 256]⟩
abbrev S544 : Shape := ⟨1, ![544]⟩
abbrev S544x1 : Shape := ⟨2, ![544, 1]⟩

abbrev nBuf : Space → Nat
  | .hbm => 22
  | .vmem => 12
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S1x2064x512, .f32⟩
  | .hbm, ⟨3, _⟩ => ⟨S8, .f32⟩
  | .hbm, ⟨4, _⟩ => ⟨S512, .f32⟩
  | .hbm, ⟨5, _⟩ => ⟨S2064x512, .f32⟩
  | .hbm, ⟨6, _⟩ => ⟨S_, .i32⟩
  | .hbm, ⟨7, _⟩ => ⟨S_, .f32⟩
  | .hbm, ⟨8, _⟩ => ⟨S2176x768, .f32⟩
  | .hbm, ⟨9, _⟩ => ⟨S2064x512, .f32⟩
  | .hbm, ⟨10, _⟩ => ⟨S_, .i32⟩
  | .hbm, ⟨11, _⟩ => ⟨S_, .f32⟩
  | .hbm, ⟨12, _⟩ => ⟨S2176x512, .f32⟩
  | .hbm, ⟨13, _⟩ => ⟨S2064x512, .f32⟩
  | .hbm, ⟨14, _⟩ => ⟨S_, .i32⟩
  | .hbm, ⟨15, _⟩ => ⟨S_, .f32⟩
  | .hbm, ⟨16, _⟩ => ⟨S2176x2816, .f32⟩
  | .hbm, ⟨17, _⟩ => ⟨S8x64, .f32⟩
  | .hbm, ⟨18, _⟩ => ⟨S512, .f32⟩
  | .hbm, ⟨19, _⟩ => ⟨S1x512, .f32⟩
  | .hbm, ⟨20, _⟩ => ⟨S1x512, .f32⟩
  | .hbm, ⟨21, _⟩ => ⟨S2176x512, .f32⟩
  | .local _ .vmem, ⟨0, _⟩ => ⟨S544x256, .f32⟩
  | .local _ .vmem, ⟨1, _⟩ => ⟨S544x256, .f32⟩
  | .local _ .vmem, ⟨2, _⟩ => ⟨S544x256, .f32⟩
  | .local _ .vmem, ⟨3, _⟩ => ⟨S544x256, .f32⟩
  | .local _ .vmem, ⟨4, _⟩ => ⟨S544x256, .f32⟩
  | .local _ .vmem, ⟨5, _⟩ => ⟨S544x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S544x256, .f32⟩
  | .local _ .vmem, ⟨11, _⟩ => ⟨S544x256, .f32⟩
  | _, _ => ⟨S1x2064x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S544x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S544x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S544x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PostfReferenceIdeal.lean ====
abbrev S1x2064x512 : Shape := ⟨3, ![1, 2064, 512]⟩
abbrev S8 : Shape := ⟨1, ![8]⟩
abbrev S512 : Shape := ⟨1, ![512]⟩
abbrev S1x2064x8x64 : Shape := ⟨4, ![1, 2064, 8, 64]⟩
abbrev S1x1x8x1 : Shape := ⟨4, ![1, 1, 8, 1]⟩
abbrev S_ : Shape := ⟨0, ![]⟩
abbrev S1x2064x2x256 : Shape := ⟨4, ![1, 2064, 2, 256]⟩
abbrev S1x2064x2 : Shape := ⟨3, ![1, 2064, 2]⟩
abbrev S1x2064x2x1 : Shape := ⟨4, ![1, 2064, 2, 1]⟩
abbrev S1x1x512 : Shape := ⟨3, ![1, 1, 512]⟩
abbrev S2064x512 : Shape := ⟨2, ![2064, 512]⟩
abbrev S2176x512 : Shape := ⟨2, ![2176, 512]⟩

abbrev nBuf : Space → Nat
  | .hbm => 47
  | .vmem => 0
  | .smem => 0
  | _ => 0

abbrev bufTy : (tb : Table) → Fin (tcTables nBuf tb) → BufTy
  | .hbm, ⟨0, _⟩ => ⟨S1x2064x512, .f32⟩
  | .hbm, ⟨1, _⟩ => ⟨S1x2064x512, .f32⟩
  | .hbm, ⟨2, _⟩ => ⟨S1x2064x512, .f32⟩
  | .hbm, ⟨3, _⟩ => ⟨S8, .f32⟩
  | .hbm, ⟨4, _⟩ => ⟨S512, .f32⟩
  | .hbm, ⟨5, _⟩ => ⟨S1x2064x8x64, .f32⟩
  | .hbm, ⟨6, _⟩ => ⟨S1x2064x8x64, .f32⟩
  | .hbm, ⟨7, _⟩ => ⟨S1x1x8x1, .f32⟩
  | .hbm, ⟨8, _⟩ => ⟨S1x2064x8x64, .f32⟩
  | .hbm, ⟨9, _⟩ => ⟨S1x2064x8x64, .f32⟩
  | .hbm, ⟨10, _⟩ => ⟨S1x2064x8x64, .f32⟩
  | .hbm, ⟨11, _⟩ => ⟨S1x2064x512, .f32⟩
  | .hbm, ⟨12, _⟩ => ⟨S1x2064x512, .f32⟩
  | .hbm, ⟨13, _⟩ => ⟨S1x2064x512, .f32⟩
  | .hbm, ⟨14, _⟩ => ⟨S_, .f32⟩
  | .hbm, ⟨15, _⟩ => ⟨S1x2064x512, .f32⟩
  | .hbm, ⟨16, _⟩ => ⟨S1x2064x512, .f32⟩
  | .hbm, ⟨17, _⟩ => ⟨S_, .f32⟩
  | .hbm, ⟨18, _⟩ => ⟨S1x2064x512, .f32⟩
  | .hbm, ⟨19, _⟩ => ⟨S1x2064x512, .f32⟩
  | .hbm, ⟨20, _⟩ => ⟨S1x2064x512, .f32⟩
  | .hbm, ⟨21, _⟩ => ⟨S1x2064x512, .f32⟩
  | .hbm, ⟨22, _⟩ => ⟨S1x2064x2x256, .f32⟩
  | .hbm, ⟨23, _⟩ => ⟨S1x2064x2x256, .f32⟩
  | .hbm, ⟨24, _⟩ => ⟨S_, .f32⟩
  | .hbm, ⟨25, _⟩ => ⟨S1x2064x2, .f32⟩
  | .hbm, ⟨26, _⟩ => ⟨S1x2064x2x1, .f32⟩
  | .hbm, ⟨27, _⟩ => ⟨S_, .f32⟩
  | .hbm, ⟨28, _⟩ => ⟨S1x2064x2x1, .f32⟩
  | .hbm, ⟨29, _⟩ => ⟨S1x2064x2x1, .f32⟩
  | .hbm, ⟨30, _⟩ => ⟨S_, .f32⟩
  | .hbm, ⟨31, _⟩ => ⟨S1x2064x2x1, .f32⟩
  | .hbm, ⟨32, _⟩ => ⟨S1x2064x2x1, .f32⟩
  | .hbm, ⟨33, _⟩ => ⟨S1x2064x2x1, .f32⟩
  | .hbm, ⟨34, _⟩ => ⟨S1x2064x2x256, .f32⟩
  | .hbm, ⟨35, _⟩ => ⟨S1x2064x2x256, .f32⟩
  | .hbm, ⟨36, _⟩ => ⟨S_, .f32⟩
  | .hbm, ⟨37, _⟩ => ⟨S1x2064x2x256, .f32⟩
  | .hbm, ⟨38, _⟩ => ⟨S1x2064x2x256, .f32⟩
  | .hbm, ⟨39, _⟩ => ⟨S1x2064x512, .f32⟩
  | .hbm, ⟨40, _⟩ => ⟨S1x1x512, .f32⟩
  | .hbm, ⟨41, _⟩ => ⟨S1x2064x512, .f32⟩
  | .hbm, ⟨42, _⟩ => ⟨S1x2064x512, .f32⟩
  | .hbm, ⟨43, _⟩ => ⟨S2064x512, .f32⟩
  | .hbm, ⟨44, _⟩ => ⟨S_, .i32⟩
  | .hbm, ⟨45, _⟩ => ⟨S_, .f32⟩
  | .hbm, ⟨46, _⟩ => ⟨S2176x512, .f32⟩
  | _, _ => ⟨S1x2064x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_0 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c : Ref sig .tc := ⟨.hbm, 44, rfl⟩
abbrev main_call1_v0 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== FfnfKernel.lean ====
abbrev S1x2064x1024 : Shape := ⟨3, ![1, 2064, 1024]⟩
abbrev S1024x2816 : Shape := ⟨2, ![1024, 2816]⟩
abbrev S2064x1024 : Shape := ⟨2, ![2064, 1024]⟩
abbrev S_ : Shape := ⟨0, ![]⟩
abbrev S2176x1024 : Shape := ⟨2, ![2176, 1024]⟩
abbrev S1024x4x704 : Shape := ⟨3, ![1024, 4, 704]⟩
abbrev S4x704x1024 : Shape := ⟨3, ![4, 704, 1024]⟩
abbrev S4x768x1024 : Shape := ⟨3, ![4, 768, 1024]⟩
abbrev S2176x3072 : Shape := ⟨2, ![2176, 3072]⟩
abbrev S1088x1024 : Shape := ⟨2, ![1088, 1024]⟩
abbrev S1x768x1024 : Shape := ⟨3, ![1, 768, 1024]⟩
abbrev S1088x768 : Shape := ⟨2, ![1088, 768]⟩
abbrev S768x1024 : Shape := ⟨2, ![768, 1024]⟩

abbrev nBuf : Space → Nat
  | .hbm => 22
  | .vmem => 12
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S1024x4x704, .f32⟩
  | .hbm, ⟨8, _⟩ => ⟨S4x704x1024, .f32⟩
  | .hbm, ⟨9, _⟩ => ⟨S_, .i32⟩
  | .hbm, ⟨10, _⟩ => ⟨S_, .f32⟩
  | .hbm, ⟨11, _⟩ => ⟨S4x768x1024, .f32⟩
  | .hbm, ⟨12, _⟩ => ⟨S4x768x1024, .bf16⟩
  | .hbm, ⟨13, _⟩ => ⟨S1024x4x704, .f32⟩
  | .hbm, ⟨14, _⟩ => ⟨S4x704x1024, .f32⟩
  | .hbm, ⟨15, _⟩ => ⟨S_, .i32⟩
  | .hbm, ⟨16, _⟩ => ⟨S_, .f32⟩
  | .hbm, ⟨17, _⟩ => ⟨S4x768x1024, .f32⟩
  | .hbm, ⟨18, _⟩ => ⟨S4x768x1024, .bf16⟩
  | .hbm, ⟨19, _⟩ => ⟨S2176x3072, .f32⟩
  | .hbm, ⟨20, _⟩ => ⟨S2176x3072, .f32⟩
  | .hbm, ⟨21, _⟩ => ⟨S2176x3072, .bf16⟩
  | .local _ .vmem, ⟨0, _⟩ => ⟨S1088x1024, .f32⟩
  | .local _ .vmem, ⟨1, _⟩ => ⟨S1088x1024, .f32⟩
  | .local _ .vmem, ⟨2, _⟩ => ⟨S1x768x1024, .bf16⟩
  | .local _ .vmem, ⟨3, _⟩ => ⟨S1x768x1024, .bf16⟩
  | .local _ .vmem, ⟨4, _⟩ => ⟨S1x768x1024, .bf16⟩
  | .local _ .vmem, ⟨5, _⟩ => ⟨S1x768x1024, .bf16⟩
  | .local _ .vmem, ⟨6, _⟩ => ⟨S1088x768, .f32⟩
  | .local _ .vmem, ⟨7, _⟩ => ⟨S1088x768, .f32⟩
  | .local _ .vmem, ⟨8, _⟩ => ⟨S1088x768, .f32⟩
  | .local _ .vmem, ⟨9, _⟩ => ⟨S1088x768, .f32⟩
  | .local _ .vmem, ⟨10, _⟩ => ⟨S1088x768, .bf16⟩
  | .local _ .vmem, ⟨11, _⟩ => ⟨S1088x768, .bf16⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1088x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnfReferenceIdeal.lean ====
abbrev S1x2064x1024 : Shape := ⟨3, ![1, 2064, 1024]⟩
abbrev S1024x2816 : Shape := ⟨2, ![1024, 2816]⟩
abbrev S1x2064x2816 : Shape := ⟨3, ![1, 2064, 2816]⟩
abbrev S_ : Shape := ⟨0, ![]⟩
abbrev S2064x2816 : Shape := ⟨2, ![2064, 2816]⟩
abbrev S2064x4x704 : Shape := ⟨3, ![2064, 4, 704]⟩
abbrev S2064x4x768 : Shape := ⟨3, ![2064, 4, 768]⟩
abbrev S2064x3072 : Shape := ⟨2, ![2064, 3072]⟩
abbrev S2176x3072 : Shape := ⟨2, ![2176, 3072]⟩

abbrev nBuf : Space → Nat
  | .hbm => 43
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S1x2064x2816, .f32⟩
  | .hbm, ⟨4, _⟩ => ⟨S1x2064x2816, .f32⟩
  | .hbm, ⟨5, _⟩ => ⟨S1x2064x2816, .f32⟩
  | .hbm, ⟨6, _⟩ => ⟨S1x2064x2816, .f32⟩
  | .hbm, ⟨7, _⟩ => ⟨S_, .f32⟩
  | .hbm, ⟨8, _⟩ => ⟨S1x2064x2816, .f32⟩
  | .hbm, ⟨9, _⟩ => ⟨S1x2064x2816, .f32⟩
  | .hbm, ⟨10, _⟩ => ⟨S_, .f32⟩
  | .hbm, ⟨11, _⟩ => ⟨S1x2064x2816, .f32⟩
  | .hbm, ⟨12, _⟩ => ⟨S1x2064x2816, .f32⟩
  | .hbm, ⟨13, _⟩ => ⟨S1x2064x2816, .f32⟩
  | .hbm, ⟨14, _⟩ => ⟨S1x2064x2816, .f32⟩
  | .hbm, ⟨15, _⟩ => ⟨S2064x2816, .f32⟩
  | .hbm, ⟨16, _⟩ => ⟨S2064x4x704, .f32⟩
  | .hbm, ⟨17, _⟩ => ⟨S_, .i32⟩
  | .hbm, ⟨18, _⟩ => ⟨S_, .f32⟩
  | .hbm, ⟨19, _⟩ => ⟨S2064x4x768, .f32⟩
  | .hbm, ⟨20, _⟩ => ⟨S2064x3072, .f32⟩
  | .hbm, ⟨21, _⟩ => ⟨S_, .i32⟩
  | .hbm, ⟨22, _⟩ => ⟨S_, .f32⟩
  | .hbm, ⟨23, _⟩ => ⟨S2176x3072, .f32⟩
  | .hbm, ⟨24, _⟩ => ⟨S2064x2816, .f32⟩
  | .hbm, ⟨25, _⟩ => ⟨S2064x4x704, .f32⟩
  | .hbm, ⟨26, _⟩ => ⟨S_, .i32⟩
  | .hbm, ⟨27, _⟩ => ⟨S_, .f32⟩
  | .hbm, ⟨28, _⟩ => ⟨S2064x4x768, .f32⟩
  | .hbm, ⟨29, _⟩ => ⟨S2064x3072, .f32⟩
  | .hbm, ⟨30, _⟩ => ⟨S_, .i32⟩
  | .hbm, ⟨31, _⟩ => ⟨S_, .f32⟩
  | .hbm, ⟨32, _⟩ => ⟨S2176x3072, .f32⟩
  | .hbm, ⟨33, _⟩ => ⟨S2064x2816, .f32⟩
  | .hbm, ⟨34, _⟩ => ⟨S2064x4x704, .f32⟩
  | .hbm, ⟨35, _⟩ => ⟨S_, .i32⟩
  | .hbm, ⟨36, _⟩ => ⟨S_, .f32⟩
  | .hbm, ⟨37, _⟩ => ⟨S2064x4x768, .f32⟩
  | .hbm, ⟨38, _⟩ => ⟨S2064x3072, .f32⟩
  | .hbm, ⟨39, _⟩ => ⟨S_, .i32⟩
  | .hbm, ⟨40, _⟩ => ⟨S_, .f32⟩
  | .hbm, ⟨41, _⟩ => ⟨S2176x3072, .f32⟩
  | .hbm, ⟨42, _⟩ => ⟨S2176x3072, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call1_v0 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_1 : Ref sig .tc := ⟨.hbm, 26, rfl⟩
abbrev main_call3_v0 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_call4_v0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_3 : Ref sig .tc := ⟨.hbm, 35, rfl⟩
abbrev main_call5_v0 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_call6_v0 : Ref sig .tc := ⟨.hbm, 40, rfl⟩
abbrev main_v18 : Ref sig .tc := ⟨.hbm, 41, rfl⟩
abbrev main_v19 : Ref sig .tc := ⟨.hbm, 42, rfl⟩

abbrev nD : Nat := 1
abbrev τ : Topo := Topo.v7x

variable {F : FTy → Type} [FloatOps F]
-- ==== DtfKernel.lean ====
abbrev S1x2064x8 : Shape := ⟨3, ![1, 2064, 8]⟩
abbrev S8 : Shape := ⟨1, ![8]⟩
abbrev S2064x8 : Shape := ⟨2, ![2064, 8]⟩
abbrev S_ : Shape := ⟨0, ![]⟩
abbrev S2176x2816 : Shape := ⟨2, ![2176, 2816]⟩
abbrev S1x8 : Shape := ⟨2, ![1, 8]⟩
abbrev S1x128 : Shape := ⟨2, ![1, 128]⟩
abbrev S2176x128 : Shape := ⟨2, ![2176, 128]⟩
abbrev S128x2176 : Shape := ⟨2, ![128, 2176]⟩
abbrev S2176x8 : Shape := ⟨2, ![2176, 8]⟩
abbrev S8x2176 : Shape := ⟨2, ![8, 2176]⟩

abbrev nBuf : Space → Nat
  | .hbm => 14
  | .vmem => 4
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S2064x8, .f32⟩
  | .hbm, ⟨3, _⟩ => ⟨S_, .i32⟩
  | .hbm, ⟨4, _⟩ => ⟨S_, .f32⟩
  | .hbm, ⟨5, _⟩ => ⟨S2176x2816, .f32⟩
  | .hbm, ⟨6, _⟩ => ⟨S1x8, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S2176x128, .f32⟩
  | .hbm, ⟨11, _⟩ => ⟨S128x2176, .f32⟩
  | .hbm, ⟨12, _⟩ => ⟨S2176x8, .f32⟩
  | .hbm, ⟨13, _⟩ => ⟨S8x2176, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S128x2176, .f32⟩
  | _, _ => ⟨S1x2064x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c19_i32 : BitVec 32 := 19#32
  let c0_i32_0 : BitVec 32 := 0#32
  ![c0_i32.toNat, c19_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DtfReferenceIdeal.lean ====
abbrev S1x2064x8 : Shape := ⟨3, ![1, 2064, 8]⟩
abbrev S8 : Shape := ⟨1, ![8]⟩
abbrev S1x1x8 : Shape := ⟨3, ![1, 1, 8]⟩
abbrev S_ : Shape := ⟨0, ![]⟩
abbrev S2064x8 : Shape := ⟨2, ![2064, 8]⟩
abbrev S2176x8 : Shape := ⟨2, ![2176, 8]⟩
abbrev S8x2176 : Shape := ⟨2, ![8, 2176]⟩

abbrev nBuf : Space → Nat
  | .hbm => 24
  | .vmem => 0
  | .smem => 0
  | _ => 0

abbrev bufTy : (tb : Table) → Fin (tcTables nBuf tb) → BufTy
  | .hbm, ⟨0, _⟩ => ⟨S1x2064x8, .f32⟩
  | .hbm, ⟨1, _⟩ => ⟨S8, .f32⟩
  | .hbm, ⟨2, _⟩ => ⟨S1x1x8, .f32⟩
  | .hbm, ⟨3, _⟩ => ⟨S1x2064x8, .f32⟩
  | .hbm, ⟨4, _⟩ => ⟨S1x2064x8, .f32⟩
  | .hbm, ⟨5, _⟩ => ⟨S_, .f32⟩
  | .hbm, ⟨6, _⟩ => ⟨S1x2064x8, .f32⟩
  | .hbm, ⟨7, _⟩ => ⟨S1x2064x8, .f32⟩
  | .hbm, ⟨8, _⟩ => ⟨S1x2064x8, .f32⟩
  | .hbm, ⟨9, _⟩ => ⟨S1x2064x8, .f32⟩
  | .hbm, ⟨10, _⟩ => ⟨S1x2064x8, .i1⟩
  | .hbm, ⟨11, _⟩ => ⟨S1x2064x8, .f32⟩
  | .hbm, ⟨12, _⟩ => ⟨S1x2064x8, .f32⟩
  | .hbm, ⟨13, _⟩ => ⟨S1x2064x8, .f32⟩
  | .hbm, ⟨14, _⟩ => ⟨S1x2064x8, .f32⟩
  | .hbm, ⟨15, _⟩ => ⟨S1x2064x8, .f32⟩
  | .hbm, ⟨16, _⟩ => ⟨S1x2064x8, .f32⟩
  | .hbm, ⟨17, _⟩ => ⟨S1x2064x8, .f32⟩
  | .hbm, ⟨18, _⟩ => ⟨S1x2064x8, .f32⟩
  | .hbm, ⟨19, _⟩ => ⟨S2064x8, .f32⟩
  | .hbm, ⟨20, _⟩ => ⟨S_, .i32⟩
  | .hbm, ⟨21, _⟩ => ⟨S_, .f32⟩
  | .hbm, ⟨22, _⟩ => ⟨S2176x8, .f32⟩
  | .hbm, ⟨23, _⟩ => ⟨S8x2176, .f32⟩
  | _, _ => ⟨S1x2064x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩

abbrev nD : Nat := 1
abbrev τ : Topo := Topo.v7x

variable {F : FTy → Type} [FloatOps F]
-- ==== GatefKernel.lean ====
abbrev S1x2064x4 : Shape := ⟨3, ![1, 2064, 4]⟩
abbrev S4 : Shape := ⟨1, ![4]⟩
abbrev S2064x4 : Shape := ⟨2, ![2064, 4]⟩
abbrev S_ : Shape := ⟨0, ![]⟩
abbrev S2176x2816 : Shape := ⟨2, ![2176, 2816]⟩
abbrev S1x4 : Shape := ⟨2, ![1, 4]⟩
abbrev S1x128 : Shape := ⟨2, ![1, 128]⟩
abbrev S2176x128 : Shape := ⟨2, ![2176, 128]⟩
abbrev S128x2176 : Shape := ⟨2, ![128, 2176]⟩
abbrev S128x128 : Shape := ⟨2, ![128, 128]⟩
abbrev S128 : Shape := ⟨1, ![128]⟩
abbrev S2176x4 : Shape := ⟨2, ![2176, 4]⟩
abbrev S4x2176 : Shape := ⟨2, ![4, 2176]⟩

abbrev nBuf : Space → Nat
  | .hbm => 14
  | .vmem => 4
  | .smem => 0
  | _ => 0

abbrev bufTy : (tb : Table) → Fin (tcTables nBuf tb) → BufTy
  | .hbm, ⟨0, _⟩ => ⟨S1x2064x4, .f32⟩
  | .hbm, ⟨1, _⟩ => ⟨S4, .f32⟩
  | .hbm, ⟨2, _⟩ => ⟨S2064x4, .f32⟩
  | .hbm, ⟨3, _⟩ => ⟨S_, .i32⟩
  | .hbm, ⟨4, _⟩ => ⟨S_, .f32⟩
  | .hbm, ⟨5, _⟩ => ⟨S2176x2816, .f32⟩
  | .hbm, ⟨6, _⟩ => ⟨S1x4, .f32⟩
  | .hbm, ⟨7, _⟩ => ⟨S_, .i32⟩
  | .hbm, ⟨8, _⟩ => ⟨S_, .f32⟩
  | .hbm, ⟨9, _⟩ => ⟨S1x128, .f32⟩
  | .hbm, ⟨10, _⟩ => ⟨S2176x128, .f32⟩
  | .hbm, ⟨11, _⟩ => ⟨S128x2176, .f32⟩
  | .hbm, ⟨12, _⟩ => ⟨S2176x4, .f32⟩
  | .hbm, ⟨13, _⟩ => ⟨S4x2176, .f32⟩
  | .local _ .vmem, ⟨0, _⟩ => ⟨S2176x128, .f32⟩
  | .local _ .vmem, ⟨1, _⟩ => ⟨S1x128, .f32⟩
  | .local _ .vmem, ⟨2, _⟩ => ⟨S2176x128, .f32⟩
  | .local _ .vmem, ⟨3, _⟩ => ⟨S128x2176, .f32⟩
  | _, _ => ⟨S1x2064x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x2176 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GatefReferenceIdeal.lean ====
abbrev S1x2064x4 : Shape := ⟨3, ![1, 2064, 4]⟩
abbrev S4 : Shape := ⟨1, ![4]⟩
abbrev S1x1x4 : Shape := ⟨3, ![1, 1, 4]⟩
abbrev S_ : Shape := ⟨0, ![]⟩
abbrev S2064x4 : Shape := ⟨2, ![2064, 4]⟩
abbrev S2176x4 : Shape := ⟨2, ![2176, 4]⟩
abbrev S4x2176 : Shape := ⟨2, ![4, 2176]⟩

abbrev nBuf : Space → Nat
  | .hbm => 29
  | .vmem => 0
  | .smem => 0
  | _ => 0

abbrev bufTy : (tb : Table) → Fin (tcTables nBuf tb) → BufTy
  | .hbm, ⟨0, _⟩ => ⟨S1x2064x4, .f32⟩
  | .hbm, ⟨1, _⟩ => ⟨S4, .f32⟩
  | .hbm, ⟨2, _⟩ => ⟨S1x1x4, .f32⟩
  | .hbm, ⟨3, _⟩ => ⟨S1x2064x4, .f32⟩
  | .hbm, ⟨4, _⟩ => ⟨S1x2064x4, .f32⟩
  | .hbm, ⟨5, _⟩ => ⟨S1x2064x4, .f32⟩
  | .hbm, ⟨6, _⟩ => ⟨S_, .f32⟩
  | .hbm, ⟨7, _⟩ => ⟨S1x2064x4, .f32⟩
  | .hbm, ⟨8, _⟩ => ⟨S1x2064x4, .f32⟩
  | .hbm, ⟨9, _⟩ => ⟨S1x2064x4, .f32⟩
  | .hbm, ⟨10, _⟩ => ⟨S1x2064x4, .f32⟩
  | .hbm, ⟨11, _⟩ => ⟨S1x2064x4, .i1⟩
  | .hbm, ⟨12, _⟩ => ⟨S1x2064x4, .f32⟩
  | .hbm, ⟨13, _⟩ => ⟨S1x2064x4, .f32⟩
  | .hbm, ⟨14, _⟩ => ⟨S1x2064x4, .f32⟩
  | .hbm, ⟨15, _⟩ => ⟨S1x2064x4, .f32⟩
  | .hbm, ⟨16, _⟩ => ⟨S1x2064x4, .f32⟩
  | .hbm, ⟨17, _⟩ => ⟨S1x2064x4, .f32⟩
  | .hbm, ⟨18, _⟩ => ⟨S1x2064x4, .f32⟩
  | .hbm, ⟨19, _⟩ => ⟨S1x2064x4, .f32⟩
  | .hbm, ⟨20, _⟩ => ⟨S1x2064x4, .f32⟩
  | .hbm, ⟨21, _⟩ => ⟨S_, .f32⟩
  | .hbm, ⟨22, _⟩ => ⟨S_, .f32⟩
  | .hbm, ⟨23, _⟩ => ⟨S1x2064x4, .f32⟩
  | .hbm, ⟨24, _⟩ => ⟨S2064x4, .f32⟩
  | .hbm, ⟨25, _⟩ => ⟨S_, .i32⟩
  | .hbm, ⟨26, _⟩ => ⟨S_, .f32⟩
  | .hbm, ⟨27, _⟩ => ⟨S2176x4, .f32⟩
  | .hbm, ⟨28, _⟩ => ⟨S4x2176, .f32⟩
  | _, _ => ⟨S1x2064x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_call0_call0_v1 : Ref sig .tc := ⟨.hbm, 8, rfl⟩
abbrev main_call0_call0_v2 : Ref sig .tc := ⟨.hbm, 9, rfl⟩
abbrev main_call0_call0_v3 : Ref sig .tc := ⟨.hbm, 10, rfl⟩
abbrev main_call0_call0_v4 : Ref sig .tc := ⟨.hbm, 11, rfl⟩
abbrev main_call0_call0_v5 : Ref sig .tc := ⟨.hbm, 12, rfl⟩
abbrev main_call0_call0_v6 : Ref sig .tc := ⟨.hbm, 13, rfl⟩
abbrev main_call0_call0_v7 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_v1 : Ref sig .tc := ⟨.hbm, 19, rfl⟩
abbrev main_v3 : Ref sig .tc := ⟨.hbm, 20, rfl⟩
abbrev main_call1_call0_cst : Ref sig .tc := ⟨.hbm, 21, rfl⟩
abbrev main_call1_call0_v0 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_call2_v0 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== ConvfKernel.lean ====
abbrev S1x2064x768 : Shape := ⟨3, ![1, 2064, 768]⟩
abbrev S4x768 : Shape := ⟨2, ![4, 768]⟩
abbrev S768 : Shape := ⟨1, ![768]⟩
abbrev S2064x768 : Shape := ⟨2, ![2064, 768]⟩
abbrev S_ : Shape := ⟨0, ![]⟩
abbrev S2176x2816 : Shape := ⟨2, ![2176, 2816]⟩
abbrev S1x768 : Shape := ⟨2, ![1, 768]⟩
abbrev S2176x768 : Shape := ⟨2, ![2176, 768]⟩
abbrev S2176x128 : Shape := ⟨2, ![2176, 128]⟩
abbrev S4x128 : Shape := ⟨2, ![4, 128]⟩
abbrev S1x128 : Shape := ⟨2, ![1, 128]⟩

abbrev nBuf : Space → Nat
  | .hbm => 10
  | .vmem => 8
  | .smem => 0
  | _ => 0

abbrev bufTy : (tb : Table) → Fin (tcTables nBuf tb) → BufTy
  | .hbm, ⟨0, _⟩ => ⟨S1x2064x768, .f32⟩
  | .hbm, ⟨1, _⟩ => ⟨S4x768, .f32⟩
  | .hbm, ⟨2, _⟩ => ⟨S768, .f32⟩
  | .hbm, ⟨3, _⟩ => ⟨S2064x768, .f32⟩
  | .hbm, ⟨4, _⟩ => ⟨S_, .i32⟩
  | .hbm, ⟨5, _⟩ => ⟨S_, .f32⟩
  | .hbm, ⟨6, _⟩ => ⟨S2176x2816, .f32⟩
  | .hbm, ⟨7, _⟩ => ⟨S1x768, .f32⟩
  | .hbm, ⟨8, _⟩ => ⟨S2176x768, .f32⟩
  | .hbm, ⟨9, _⟩ => ⟨S2064x768, .f32⟩
  | .local _ .vmem, ⟨0, _⟩ => ⟨S2176x128, .f32⟩
  | .local _ .vmem, ⟨1, _⟩ => ⟨S2176x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S2176x128, .f32⟩
  | .local _ .vmem, ⟨7, _⟩ => ⟨S2176x128, .f32⟩
  | _, _ => ⟨S1x2064x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2176x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvfReferenceIdeal.lean ====
abbrev S1x2064x768 : Shape := ⟨3, ![1, 2064, 768]⟩
abbrev S4x768 : Shape := ⟨2, ![4, 768]⟩
abbrev S768 : Shape := ⟨1, ![768]⟩
abbrev S_ : Shape := ⟨0, ![]⟩
abbrev S1x3x768 : Shape := ⟨3, ![1, 3, 768]⟩
abbrev S1x2067x768 : Shape := ⟨3, ![1, 2067, 768]⟩
abbrev S1x768 : Shape := ⟨2, ![1, 768]⟩
abbrev S1x1x768 : Shape := ⟨3, ![1, 1, 768]⟩
abbrev S2064x768 : Shape := ⟨2, ![2064, 768]⟩

abbrev nBuf : Space → Nat
  | .hbm => 49
  | .vmem => 0
  | .smem => 0
  | _ => 0

abbrev bufTy : (tb : Table) → Fin (tcTables nBuf tb) → BufTy
  | .hbm, ⟨0, _⟩ => ⟨S1x2064x768, .f32⟩
  | .hbm, ⟨1, _⟩ => ⟨S4x768, .f32⟩
  | .hbm, ⟨2, _⟩ => ⟨S768, .f32⟩
  | .hbm, ⟨3, _⟩ => ⟨S_, .f32⟩
  | .hbm, ⟨4, _⟩ => ⟨S1x3x768, .f32⟩
  | .hbm, ⟨5, _⟩ => ⟨S1x2067x768, .f32⟩
  | .hbm, ⟨6, _⟩ => ⟨S1x2064x768, .f32⟩
  | .hbm, ⟨7, _⟩ => ⟨S1x768, .f32⟩
  | .hbm, ⟨8, _⟩ => ⟨S768, .f32⟩
  | .hbm, ⟨9, _⟩ => ⟨S1x1x768, .f32⟩
  | .hbm, ⟨10, _⟩ => ⟨S1x2064x768, .f32⟩
  | .hbm, ⟨11, _⟩ => ⟨S1x2064x768, .f32⟩
  | .hbm, ⟨12, _⟩ => ⟨S_, .f32⟩
  | .hbm, ⟨13, _⟩ => ⟨S1x2064x768, .f32⟩
  | .hbm, ⟨14, _⟩ => ⟨S1x2064x768, .f32⟩
  | .hbm, ⟨15, _⟩ => ⟨S1x2064x768, .f32⟩
  | .hbm, ⟨16, _⟩ => ⟨S1x768, .f32⟩
  | .hbm, ⟨17, _⟩ => ⟨S768, .f32⟩
  | .hbm, ⟨18, _⟩ => ⟨S1x1x768, .f32⟩
  | .hbm, ⟨19, _⟩ => ⟨S1x2064x768, .f32⟩
  | .hbm, ⟨20, _⟩ => ⟨S1x2064x768, .f32⟩
  | .hbm, ⟨21, _⟩ => ⟨S1x2064x768, .f32⟩
  | .hbm, ⟨22, _⟩ => ⟨S1x2064x768, .f32⟩
  | .hbm, ⟨23, _⟩ => ⟨S1x768, .f32⟩
  | .hbm, ⟨24, _⟩ => ⟨S768, .f32⟩
  | .hbm, ⟨25, _⟩ => ⟨S1x1x768, .f32⟩
  | .hbm, ⟨26, _⟩ => ⟨S1x2064x768, .f32⟩
  | .hbm, ⟨27, _⟩ => ⟨S1x2064x768, .f32⟩
  | .hbm, ⟨28, _⟩ => ⟨S1x2064x768, .f32⟩
  | .hbm, ⟨29, _⟩ => ⟨S1x2064x768, .f32⟩
  | .hbm, ⟨30, _⟩ => ⟨S1x768, .f32⟩
  | .hbm, ⟨31, _⟩ => ⟨S768, .f32⟩
  | .hbm, ⟨32, _⟩ => ⟨S1x1x768, .f32⟩
  | .hbm, ⟨33, _⟩ => ⟨S1x2064x768, .f32⟩
  | .hbm, ⟨34, _⟩ => ⟨S1x2064x768, .f32⟩
  | .hbm, ⟨35, _⟩ => ⟨S1x2064x768, .f32⟩
  | .hbm, ⟨36, _⟩ => ⟨S1x1x768, .f32⟩
  | .hbm, ⟨37, _⟩ => ⟨S1x2064x768, .f32⟩
  | .hbm, ⟨38, _⟩ => ⟨S1x2064x768, .f32⟩
  | .hbm, ⟨39, _⟩ => ⟨S1x2064x768, .f32⟩
  | .hbm, ⟨40, _⟩ => ⟨S1x2064x768, .f32⟩
  | .hbm, ⟨41, _⟩ => ⟨S_, .f32⟩
  | .hbm, ⟨42, _⟩ => ⟨S1x2064x768, .f32⟩
  | .hbm, ⟨43, _⟩ => ⟨S1x2064x768, .f32⟩
  | .hbm, ⟨44, _⟩ => ⟨S_, .f32⟩
  | .hbm, ⟨45, _⟩ => ⟨S1x2064x768, .f32⟩
  | .hbm, ⟨46, _⟩ => ⟨S1x2064x768, .f32⟩
  | .hbm, ⟨47, _⟩ => ⟨S1x2064x768, .f32⟩
  | .hbm, ⟨48, _⟩ => ⟨S2064x768, .f32⟩
  | _, _ => ⟨S1x2064x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== MixKernel.lean ====
abbrev S1x2064x1024 : Shape := ⟨3, ![1, 2064, 1024]⟩
abbrev S1024x1024 : Shape := ⟨2, ![1024, 1024]⟩
abbrev S1024 : Shape := ⟨1, ![1024]⟩
abbrev S2064x1024 : Shape := ⟨2, ![2064, 1024]⟩
abbrev S_ : Shape := ⟨0, ![]⟩
abbrev S2176x1024 : Shape := ⟨2, ![2176, 1024]⟩
abbrev S4x256x1024 : Shape := ⟨3, ![4, 256, 1024]⟩
abbrev S1x1024 : Shape := ⟨2, ![1, 1024]⟩
abbrev S1088x256 : Shape := ⟨2, ![1088, 256]⟩
abbrev S1x256x1024 : Shape := ⟨3, ![1, 256, 1024]⟩
abbrev S1088x1024 : Shape := ⟨2, ![1088, 1024]⟩
abbrev S256x1024 : Shape := ⟨2, ![256, 1024]⟩
abbrev S1088 : Shape := ⟨1, ![1088]⟩
abbrev S1088x1 : Shape := ⟨2, ![1088, 1]⟩

abbrev nBuf : Space → Nat
  | .hbm => 21
  | .vmem => 15
  | .smem => 0
  | _ => 0

abbrev bufTy : (tb : Table) → Fin (tcTables nBuf tb) → BufTy
  | .hbm, ⟨0, _⟩ => ⟨S1x2064x1024, .f32⟩
  | .hbm, ⟨1, _⟩ => ⟨S1024x1024, .f32⟩
  | .hbm, ⟨2, _⟩ => ⟨S1x2064x1024, .f32⟩
  | .hbm, ⟨3, _⟩ => ⟨S1024, .f32⟩
  | .hbm, ⟨4, _⟩ => ⟨S1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2176x1024, .bf16⟩
  | .hbm, ⟨10, _⟩ => ⟨S4x256x1024, .f32⟩
  | .hbm, ⟨11, _⟩ => ⟨S4x256x1024, .bf16⟩
  | .hbm, ⟨12, _⟩ => ⟨S2064x1024, .f32⟩
  | .hbm, ⟨13, _⟩ => ⟨S_, .i32⟩
  | .hbm, ⟨14, _⟩ => ⟨S_, .f32⟩
  | .hbm, ⟨15, _⟩ => ⟨S2176x1024, .f32⟩
  | .hbm, ⟨16, _⟩ => ⟨S1x1024, .f32⟩
  | .hbm, ⟨17, _⟩ => ⟨S1x1024, .f32⟩
  | .hbm, ⟨18, _⟩ => ⟨S2176x1024, .f32⟩
  | .hbm, ⟨19, _⟩ => ⟨S2176x1024, .f32⟩
  | .hbm, ⟨20, _⟩ => ⟨S2176x1024, .bf16⟩
  | .local _ .vmem, ⟨0, _⟩ => ⟨S1088x256, .bf16⟩
  | .local _ .vmem, ⟨1, _⟩ => ⟨S1088x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== MixReferenceIdeal.lean ====
abbrev S1x2064x1024 : Shape := ⟨3, ![1, 2064, 1024]⟩
abbrev S1024x1024 : Shape := ⟨2, ![1024, 1024]⟩
abbrev S1024 : Shape := ⟨1, ![1024]⟩
abbrev S2064x1024 : Shape := ⟨2, ![2064, 1024]⟩
abbrev S_ : Shape := ⟨0, ![]⟩
abbrev S2176x1024 : Shape := ⟨2, ![2176, 1024]⟩
abbrev S2176 : Shape := ⟨1, ![2176]⟩
abbrev S2176x1 : Shape := ⟨2, ![2176, 1]⟩
abbrev S1x1024 : Shape := ⟨2, ![1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x1024, .f32⟩
  | .hbm, ⟨2, _⟩ => ⟨S1x2064x1024, .f32⟩
  | .hbm, ⟨3, _⟩ => ⟨S1024, .f32⟩
  | .hbm, ⟨4, _⟩ => ⟨S1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .f32⟩
  | .hbm, ⟨14, _⟩ => ⟨S_, .f32⟩
  | .hbm, ⟨15, _⟩ => ⟨S2176x1024, .f32⟩
  | .hbm, ⟨16, _⟩ => ⟨S2176x1024, .f32⟩
  | .hbm, ⟨17, _⟩ => ⟨S2176x1024, .f32⟩
  | .hbm, ⟨18, _⟩ => ⟨S_, .f32⟩
  | .hbm, ⟨19, _⟩ => ⟨S2176, .f32⟩
  | .hbm, ⟨20, _⟩ => ⟨S2176x1, .f32⟩
  | .hbm, ⟨21, _⟩ => ⟨S_, .f32⟩
  | .hbm, ⟨22, _⟩ => ⟨S2176x1, .f32⟩
  | .hbm, ⟨23, _⟩ => ⟨S2176x1, .f32⟩
  | .hbm, ⟨24, _⟩ => ⟨S2176x1024, .f32⟩
  | .hbm, ⟨25, _⟩ => ⟨S2176x1024, .f32⟩
  | .hbm, ⟨26, _⟩ => ⟨S2176x1024, .f32⟩
  | .hbm, ⟨27, _⟩ => ⟨S_, .f32⟩
  | .hbm, ⟨28, _⟩ => ⟨S2176, .f32⟩
  | .hbm, ⟨29, _⟩ => ⟨S2176x1, .f32⟩
  | .hbm, ⟨30, _⟩ => ⟨S_, .f32⟩
  | .hbm, ⟨31, _⟩ => ⟨S2176x1, .f32⟩
  | .hbm, ⟨32, _⟩ => ⟨S2176x1, .f32⟩
  | .hbm, ⟨33, _⟩ => ⟨S2176x1024, .f32⟩
  | .hbm, ⟨34, _⟩ => ⟨S2176x1024, .f32⟩
  | .hbm, ⟨35, _⟩ => ⟨S_, .f32⟩
  | .hbm, ⟨36, _⟩ => ⟨S2176x1, .f32⟩
  | .hbm, ⟨37, _⟩ => ⟨S2176x1, .f32⟩
  | .hbm, ⟨38, _⟩ => ⟨S2176x1, .f32⟩
  | .hbm, ⟨39, _⟩ => ⟨S2176x1024, .f32⟩
  | .hbm, ⟨40, _⟩ => ⟨S2176x1024, .f32⟩
  | .hbm, ⟨41, _⟩ => ⟨S1x1024, .f32⟩
  | .hbm, ⟨42, _⟩ => ⟨S2176x1024, .f32⟩
  | .hbm, ⟨43, _⟩ => ⟨S2176x1024, .f32⟩
  | .hbm, ⟨44, _⟩ => ⟨S1x1024, .f32⟩
  | .hbm, ⟨45, _⟩ => ⟨S2176x1024, .f32⟩
  | .hbm, ⟨46, _⟩ => ⟨S2176x1024, .f32⟩
  | .hbm, ⟨47, _⟩ => ⟨S2176x1024, .bf16⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== DownfKernel.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S1024 : Shape := ⟨1, ![1024]⟩
abbrev S2064x2816 : Shape := ⟨2, ![2064, 2816]⟩
abbrev S2064x4x704 : Shape := ⟨3, ![2064, 4, 704]⟩
abbrev S_ : Shape := ⟨0, ![]⟩
abbrev S2064x4x768 : Shape := ⟨3, ![2064, 4, 768]⟩
abbrev S2064x3072 : Shape := ⟨2, ![2064, 3072]⟩
abbrev S2176x3072 : Shape := ⟨2, ![2176, 3072]⟩
abbrev S4x704x1024 : Shape := ⟨3, ![4, 704, 1024]⟩
abbrev S4x768x1024 : Shape := ⟨3, ![4, 768, 1024]⟩
abbrev S2064x1024 : Shape := ⟨2, ![2064, 1024]⟩
abbrev S2176x1024 : Shape := ⟨2, ![2176, 1024]⟩
abbrev S1x1024 : Shape := ⟨2, ![1, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩
abbrev S1088 : Shape := ⟨1, ![1088]⟩
abbrev S1088x1 : Shape := ⟨2, ![1088, 1]⟩

abbrev nBuf : Space → Nat
  | .hbm => 29
  | .vmem => 15
  | .smem => 0
  | _ => 0

abbrev bufTy : (tb : Table) → Fin (tcTables nBuf tb) → BufTy
  | .hbm, ⟨0, _⟩ => ⟨S1x2064x2816, .f32⟩
  | .hbm, ⟨1, _⟩ => ⟨S2816x1024, .f32⟩
  | .hbm, ⟨2, _⟩ => ⟨S1x2064x1024, .f32⟩
  | .hbm, ⟨3, _⟩ => ⟨S1024, .f32⟩
  | .hbm, ⟨4, _⟩ => ⟨S1024, .f32⟩
  | .hbm, ⟨5, _⟩ => ⟨S2064x2816, .f32⟩
  | .hbm, ⟨6, _⟩ => ⟨S2064x4x704, .f32⟩
  | .hbm, ⟨7, _⟩ => ⟨S_, .i32⟩
  | .hbm, ⟨8, _⟩ => ⟨S_, .f32⟩
  | .hbm, ⟨9, _⟩ => ⟨S2064x4x768, .f32⟩
  | .hbm, ⟨10, _⟩ => ⟨S2064x3072, .f32⟩
  | .hbm, ⟨11, _⟩ => ⟨S_, .i32⟩
  | .hbm, ⟨12, _⟩ => ⟨S_, .f32⟩
  | .hbm, ⟨13, _⟩ => ⟨S2176x3072, .f32⟩
  | .hbm, ⟨14, _⟩ => ⟨S2176x3072, .bf16⟩
  | .hbm, ⟨15, _⟩ => ⟨S4x704x1024, .f32⟩
  | .hbm, ⟨16, _⟩ => ⟨S_, .i32⟩
  | .hbm, ⟨17, _⟩ => ⟨S_, .f32⟩
  | .hbm, ⟨18, _⟩ => ⟨S4x768x1024, .f32⟩
  | .hbm, ⟨19, _⟩ => ⟨S4x768x1024, .bf16⟩
  | .hbm, ⟨20, _⟩ => ⟨S2064x1024, .f32⟩
  | .hbm, ⟨21, _⟩ => ⟨S_, .i32⟩
  | .hbm, ⟨22, _⟩ => ⟨S_, .f32⟩
  | .hbm, ⟨23, _⟩ => ⟨S2176x1024, .f32⟩
  | .hbm, ⟨24, _⟩ => ⟨S1x1024, .f32⟩
  | .hbm, ⟨25, _⟩ => ⟨S1x1024, .f32⟩
  | .hbm, ⟨26, _⟩ => ⟨S2176x1024, .f32⟩
  | .hbm, ⟨27, _⟩ => ⟨S2176x1024, .f32⟩
  | .hbm, ⟨28, _⟩ => ⟨S2176x1024, .bf16⟩
  | .local _ .vmem, ⟨0, _⟩ => ⟨S1088x768, .bf16⟩
  | .local _ .vmem, ⟨1, _⟩ => ⟨S1088x768, .bf16⟩
  | .local _ .vmem, ⟨2, _⟩ => ⟨S1x768x1024, .bf16⟩
  | .local _ .vmem, ⟨3, _⟩ => ⟨S1x768x1024, .bf16⟩
  | .local _ .vmem, ⟨4, _⟩ => ⟨S1088x1024, .f32⟩
  | .local _ .vmem, ⟨5, _⟩ => ⟨S1088x1024, .f32⟩
  | .local _ .vmem, ⟨6, _⟩ => ⟨S1x1024, .f32⟩
  | .local _ .vmem, ⟨7, _⟩ => ⟨S1x1024, .f32⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .bf16⟩
  | .local _ .vmem, ⟨13, _⟩ => ⟨S1088x1024, .bf16⟩
  | .local _ .vmem, ⟨14, _⟩ => ⟨S1088x1024, .f32⟩
  | _, _ => ⟨S1x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1088x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1088x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownfReferenceIdeal.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S1024 : Shape := ⟨1, ![1024]⟩
abbrev S2064x2816 : Shape := ⟨2, ![2064, 2816]⟩
abbrev S_ : Shape := ⟨0, ![]⟩
abbrev S2176x2816 : Shape := ⟨2, ![2176, 2816]⟩
abbrev S2064x1024 : Shape := ⟨2, ![2064, 1024]⟩
abbrev S2176x1024 : Shape := ⟨2, ![2176, 1024]⟩
abbrev S2176 : Shape := ⟨1, ![2176]⟩
abbrev S2176x1 : Shape := ⟨2, ![2176, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S1x2064x2816, .f32⟩
  | .hbm, ⟨1, _⟩ => ⟨S2816x1024, .f32⟩
  | .hbm, ⟨2, _⟩ => ⟨S1x2064x1024, .f32⟩
  | .hbm, ⟨3, _⟩ => ⟨S1024, .f32⟩
  | .hbm, ⟨4, _⟩ => ⟨S1024, .f32⟩
  | .hbm, ⟨5, _⟩ => ⟨S2064x2816, .f32⟩
  | .hbm, ⟨6, _⟩ => ⟨S_, .i32⟩
  | .hbm, ⟨7, _⟩ => ⟨S_, .f32⟩
  | .hbm, ⟨8, _⟩ => ⟨S2176x2816, .f32⟩
  | .hbm, ⟨9, _⟩ => ⟨S2064x1024, .f32⟩
  | .hbm, ⟨10, _⟩ => ⟨S_, .i32⟩
  | .hbm, ⟨11, _⟩ => ⟨S_, .f32⟩
  | .hbm, ⟨12, _⟩ => ⟨S2176x1024, .f32⟩
  | .hbm, ⟨13, _⟩ => ⟨S2176x1024, .f32⟩
  | .hbm, ⟨14, _⟩ => ⟨S_, .f32⟩
  | .hbm, ⟨15, _⟩ => ⟨S2176x1024, .f32⟩
  | .hbm, ⟨16, _⟩ => ⟨S2176x1024, .f32⟩
  | .hbm, ⟨17, _⟩ => ⟨S_, .f32⟩
  | .hbm, ⟨18, _⟩ => ⟨S2176x1024, .f32⟩
  | .hbm, ⟨19, _⟩ => ⟨S2176x1024, .f32⟩
  | .hbm, ⟨20, _⟩ => ⟨S2176x1024, .f32⟩
  | .hbm, ⟨21, _⟩ => ⟨S_, .f32⟩
  | .hbm, ⟨22, _⟩ => ⟨S2176, .f32⟩
  | .hbm, ⟨23, _⟩ => ⟨S2176x1, .f32⟩
  | .hbm, ⟨24, _⟩ => ⟨S_, .f32⟩
  | .hbm, ⟨25, _⟩ => ⟨S2176x1, .f32⟩
  | .hbm, ⟨26, _⟩ => ⟨S2176x1, .f32⟩
  | .hbm, ⟨27, _⟩ => ⟨S2176x1024, .f32⟩
  | .hbm, ⟨28, _⟩ => ⟨S2176x1024, .f32⟩
  | .hbm, ⟨29, _⟩ => ⟨S2176x1024, .f32⟩
  | .hbm, ⟨30, _⟩ => ⟨S_, .f32⟩
  | .hbm, ⟨31, _⟩ => ⟨S2176, .f32⟩
  | .hbm, ⟨32, _⟩ => ⟨S2176x1, .f32⟩
  | .hbm, ⟨33, _⟩ => ⟨S_, .f32⟩
  | .hbm, ⟨34, _⟩ => ⟨S2176x1, .f32⟩
  | .hbm, ⟨35, _⟩ => ⟨S2176x1, .f32⟩
  | .hbm, ⟨36, _⟩ => ⟨S2176x1024, .f32⟩
  | .hbm, ⟨37, _⟩ => ⟨S2176x1024, .f32⟩
  | .hbm, ⟨38, _⟩ => ⟨S_, .f32⟩
  | .hbm, ⟨39, _⟩ => ⟨S2176x1, .f32⟩
  | .hbm, ⟨40, _⟩ => ⟨S2176x1, .f32⟩
  | .hbm, ⟨41, _⟩ => ⟨S2176x1, .f32⟩
  | .hbm, ⟨42, _⟩ => ⟨S2176x1024, .f32⟩
  | .hbm, ⟨43, _⟩ => ⟨S2176x1024, .f32⟩
  | .hbm, ⟨44, _⟩ => ⟨S1x1024, .f32⟩
  | .hbm, ⟨45, _⟩ => ⟨S2176x1024, .f32⟩
  | .hbm, ⟨46, _⟩ => ⟨S2176x1024, .f32⟩
  | .hbm, ⟨47, _⟩ => ⟨S1x1024, .f32⟩
  | .hbm, ⟨48, _⟩ => ⟨S2176x1024, .f32⟩
  | .hbm, ⟨49, _⟩ => ⟨S2176x1024, .f32⟩
  | .hbm, ⟨50, _⟩ => ⟨S2176x1024, .bf16⟩
  | _, _ => ⟨S1x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== GudxKernel.lean ====
abbrev S1x2064x1024 : Shape := ⟨3, ![1, 2064, 1024]⟩
abbrev S1024x2816 : Shape := ⟨2, ![1024, 2816]⟩
abbrev S1x2064x2816 : Shape := ⟨3, ![1, 2064, 2816]⟩
abbrev S2064x2816 : Shape := ⟨2, ![2064, 2816]⟩
abbrev S2064x4x704 : Shape := ⟨3, ![2064, 4, 704]⟩
abbrev S_ : Shape := ⟨0, ![]⟩
abbrev S2064x4x768 : Shape := ⟨3, ![2064, 4, 768]⟩
abbrev S2064x3072 : Shape := ⟨2, ![2064, 3072]⟩
abbrev S2176x3072 : Shape := ⟨2, ![2176, 3072]⟩
abbrev S1024x4x704 : Shape := ⟨3, ![1024, 4, 704]⟩
abbrev S4x704x1024 : Shape := ⟨3, ![4, 704, 1024]⟩
abbrev S4x768x1024 : Shape := ⟨3, ![4, 768, 1024]⟩
abbrev S2064x1024 : Shape := ⟨2, ![2064, 1024]⟩
abbrev S2176x1024 : Shape := ⟨2, ![2176, 1024]⟩
abbrev S1088x768 : Shape := ⟨2, ![1088, 768]⟩
abbrev S1x768x1024 : Shape := ⟨3, ![1, 768, 1024]⟩
abbrev S1088x1024 : Shape := ⟨2, ![1088, 1024]⟩
abbrev S768x1024 : Shape := ⟨2, ![768, 1024]⟩

abbrev nBuf : Space → Nat
  | .hbm => 43
  | .vmem => 13
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S1x2064x2816, .f32⟩
  | .hbm, ⟨4, _⟩ => ⟨S1x2064x2816, .f32⟩
  | .hbm, ⟨5, _⟩ => ⟨S1x2064x1024, .f32⟩
  | .hbm, ⟨6, _⟩ => ⟨S2064x2816, .f32⟩
  | .hbm, ⟨7, _⟩ => ⟨S2064x4x704, .f32⟩
  | .hbm, ⟨8, _⟩ => ⟨S_, .i32⟩
  | .hbm, ⟨9, _⟩ => ⟨S_, .f32⟩
  | .hbm, ⟨10, _⟩ => ⟨S2064x4x768, .f32⟩
  | .hbm, ⟨11, _⟩ => ⟨S2064x3072, .f32⟩
  | .hbm, ⟨12, _⟩ => ⟨S_, .i32⟩
  | .hbm, ⟨13, _⟩ => ⟨S_, .f32⟩
  | .hbm, ⟨14, _⟩ => ⟨S2176x3072, .f32⟩
  | .hbm, ⟨15, _⟩ => ⟨S2176x3072, .bf16⟩
  | .hbm, ⟨16, _⟩ => ⟨S2064x2816, .f32⟩
  | .hbm, ⟨17, _⟩ => ⟨S2064x4x704, .f32⟩
  | .hbm, ⟨18, _⟩ => ⟨S_, .i32⟩
  | .hbm, ⟨19, _⟩ => ⟨S_, .f32⟩
  | .hbm, ⟨20, _⟩ => ⟨S2064x4x768, .f32⟩
  | .hbm, ⟨21, _⟩ => ⟨S2064x3072, .f32⟩
  | .hbm, ⟨22, _⟩ => ⟨S_, .i32⟩
  | .hbm, ⟨23, _⟩ => ⟨S_, .f32⟩
  | .hbm, ⟨24, _⟩ => ⟨S2176x3072, .f32⟩
  | .hbm, ⟨25, _⟩ => ⟨S2176x3072, .bf16⟩
  | .hbm, ⟨26, _⟩ => ⟨S1024x4x704, .f32⟩
  | .hbm, ⟨27, _⟩ => ⟨S4x704x1024, .f32⟩
  | .hbm, ⟨28, _⟩ => ⟨S_, .i32⟩
  | .hbm, ⟨29, _⟩ => ⟨S_, .f32⟩
  | .hbm, ⟨30, _⟩ => ⟨S4x768x1024, .f32⟩
  | .hbm, ⟨31, _⟩ => ⟨S4x768x1024, .bf16⟩
  | .hbm, ⟨32, _⟩ => ⟨S1024x4x704, .f32⟩
  | .hbm, ⟨33, _⟩ => ⟨S4x704x1024, .f32⟩
  | .hbm, ⟨34, _⟩ => ⟨S_, .i32⟩
  | .hbm, ⟨35, _⟩ => ⟨S_, .f32⟩
  | .hbm, ⟨36, _⟩ => ⟨S4x768x1024, .f32⟩
  | .hbm, ⟨37, _⟩ => ⟨S4x768x1024, .bf16⟩
  | .hbm, ⟨38, _⟩ => ⟨S2064x1024, .f32⟩
  | .hbm, ⟨39, _⟩ => ⟨S_, .i32⟩
  | .hbm, ⟨40, _⟩ => ⟨S_, .f32⟩
  | .hbm, ⟨41, _⟩ => ⟨S2176x1024, .f32⟩
  | .hbm, ⟨42, _⟩ => ⟨S2176x1024, .f32⟩
  | .local _ .vmem, ⟨0, _⟩ => ⟨S1088x768, .bf16⟩
  | .local _ .vmem, ⟨1, _⟩ => ⟨S1088x768, .bf16⟩
  | .local _ .vmem, ⟨2, _⟩ => ⟨S1088x768, .bf16⟩
  | .local _ .vmem, ⟨3, _⟩ => ⟨S1088x768, .bf16⟩
  | .local _ .vmem, ⟨4, _⟩ => ⟨S1x768x1024, .bf16⟩
  | .local _ .vmem, ⟨5, _⟩ => ⟨S1x768x1024, .bf16⟩
  | .local _ .vmem, ⟨6, _⟩ => ⟨S1x768x1024, .bf16⟩
  | .local _ .vmem, ⟨7, _⟩ => ⟨S1x768x1024, .bf16⟩
  | .local _ .vmem, ⟨8, _⟩ => ⟨S1088x1024, .f32⟩
  | .local _ .vmem, ⟨9, _⟩ => ⟨S1088x1024, .f32⟩
  | .local _ .vmem, ⟨10, _⟩ => ⟨S1088x1024, .f32⟩
  | .local _ .vmem, ⟨11, _⟩ => ⟨S1088x1024, .f32⟩
  | .local _ .vmem, ⟨12, _⟩ => ⟨S1088x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_call2_v0 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_call3_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_call4_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_call5_v0 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_call6_v0 : Ref sig .tc := ⟨.hbm, 40, rfl⟩
abbrev main_v21 : Ref sig .tc := ⟨.hbm, 41, rfl⟩
abbrev main_v22 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1088x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1088x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GudxReferenceIdeal.lean ====
abbrev S1x2064x1024 : Shape := ⟨3, ![1, 2064, 1024]⟩
abbrev S1024x2816 : Shape := ⟨2, ![1024, 2816]⟩
abbrev S1x2064x2816 : Shape := ⟨3, ![1, 2064, 2816]⟩
abbrev S2064x1024 : Shape := ⟨2, ![2064, 1024]⟩
abbrev S_ : Shape := ⟨0, ![]⟩
abbrev S2176x1024 : Shape := ⟨2, ![2176, 1024]⟩

abbrev nBuf : Space → Nat
  | .hbm => 16
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S1x2064x2816, .f32⟩
  | .hbm, ⟨4, _⟩ => ⟨S1x2064x2816, .f32⟩
  | .hbm, ⟨5, _⟩ => ⟨S1x2064x1024, .f32⟩
  | .hbm, ⟨6, _⟩ => ⟨S1x2064x2816, .f32⟩
  | .hbm, ⟨7, _⟩ => ⟨S1x2064x2816, .f32⟩
  | .hbm, ⟨8, _⟩ => ⟨S1x2064x1024, .f32⟩
  | .hbm, ⟨9, _⟩ => ⟨S1x2064x1024, .f32⟩
  | .hbm, ⟨10, _⟩ => ⟨S1x2064x1024, .f32⟩
  | .hbm, ⟨11, _⟩ => ⟨S1x2064x1024, .f32⟩
  | .hbm, ⟨12, _⟩ => ⟨S2064x1024, .f32⟩
  | .hbm, ⟨13, _⟩ => ⟨S_, .i32⟩
  | .hbm, ⟨14, _⟩ => ⟨S_, .f32⟩
  | .hbm, ⟨15, _⟩ => ⟨S2176x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== GudwKernel.lean ====
abbrev S1x2064x1024 : Shape := ⟨3, ![1, 2064, 1024]⟩
abbrev S1024x2816 : Shape := ⟨2, ![1024, 2816]⟩
abbrev S1x2064x2816 : Shape := ⟨3, ![1, 2064, 2816]⟩
abbrev S2064x2816 : Shape := ⟨2, ![2064, 2816]⟩
abbrev S2064x4x704 : Shape := ⟨3, ![2064, 4, 704]⟩
abbrev S_ : Shape := ⟨0, ![]⟩
abbrev S2064x4x768 : Shape := ⟨3, ![2064, 4, 768]⟩
abbrev S2064x3072 : Shape := ⟨2, ![2064, 3072]⟩
abbrev S2176x3072 : Shape := ⟨2, ![2176, 3072]⟩
abbrev S2064x1024 : Shape := ⟨2, ![2064, 1024]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 32
  | .vmem => 9
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S1x2064x2816, .f32⟩
  | .hbm, ⟨4, _⟩ => ⟨S1x2064x2816, .f32⟩
  | .hbm, ⟨5, _⟩ => ⟨S2064x2816, .f32⟩
  | .hbm, ⟨6, _⟩ => ⟨S2064x4x704, .f32⟩
  | .hbm, ⟨7, _⟩ => ⟨S_, .i32⟩
  | .hbm, ⟨8, _⟩ => ⟨S_, .f32⟩
  | .hbm, ⟨9, _⟩ => ⟨S2064x4x768, .f32⟩
  | .hbm, ⟨10, _⟩ => ⟨S2064x3072, .f32⟩
  | .hbm, ⟨11, _⟩ => ⟨S_, .i32⟩
  | .hbm, ⟨12, _⟩ => ⟨S_, .f32⟩
  | .hbm, ⟨13, _⟩ => ⟨S2176x3072, .f32⟩
  | .hbm, ⟨14, _⟩ => ⟨S2176x3072, .bf16⟩
  | .hbm, ⟨15, _⟩ => ⟨S2064x2816, .f32⟩
  | .hbm, ⟨16, _⟩ => ⟨S2064x4x704, .f32⟩
  | .hbm, ⟨17, _⟩ => ⟨S_, .i32⟩
  | .hbm, ⟨18, _⟩ => ⟨S_, .f32⟩
  | .hbm, ⟨19, _⟩ => ⟨S2064x4x768, .f32⟩
  | .hbm, ⟨20, _⟩ => ⟨S2064x3072, .f32⟩
  | .hbm, ⟨21, _⟩ => ⟨S_, .i32⟩
  | .hbm, ⟨22, _⟩ => ⟨S_, .f32⟩
  | .hbm, ⟨23, _⟩ => ⟨S2176x3072, .f32⟩
  | .hbm, ⟨24, _⟩ => ⟨S2176x3072, .bf16⟩
  | .hbm, ⟨25, _⟩ => ⟨S2064x1024, .f32⟩
  | .hbm, ⟨26, _⟩ => ⟨S_, .i32⟩
  | .hbm, ⟨27, _⟩ => ⟨S_, .f32⟩
  | .hbm, ⟨28, _⟩ => ⟨S2176x1024, .f32⟩
  | .hbm, ⟨29, _⟩ => ⟨S2176x1024, .bf16⟩
  | .hbm, ⟨30, _⟩ => ⟨S4x768x1024, .f32⟩
  | .hbm, ⟨31, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x768, .bf16⟩
  | .local _ .vmem, ⟨3, _⟩ => ⟨S2176x768, .bf16⟩
  | .local _ .vmem, ⟨4, _⟩ => ⟨S2176x1024, .bf16⟩
  | .local _ .vmem, ⟨5, _⟩ => ⟨S1x768x1024, .f32⟩
  | .local _ .vmem, ⟨6, _⟩ => ⟨S1x768x1024, .f32⟩
  | .local _ .vmem, ⟨7, _⟩ => ⟨S1x768x1024, .f32⟩
  | .local _ .vmem, ⟨8, _⟩ => ⟨S1x768x1024, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call2_v0 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_call3_v0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_3 : Ref sig .tc := ⟨.hbm, 26, rfl⟩
abbrev main_call4_v0 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2176x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GudwReferenceIdeal.lean ====
abbrev S1x2064x1024 : Shape := ⟨3, ![1, 2064, 1024]⟩
abbrev S1024x2816 : Shape := ⟨2, ![1024, 2816]⟩
abbrev S1x2064x2816 : Shape := ⟨3, ![1, 2064, 2816]⟩
abbrev S2064x1024 : Shape := ⟨2, ![2064, 1024]⟩
abbrev S2064x2816 : Shape := ⟨2, ![2064, 2816]⟩
abbrev S2816x1024 : Shape := ⟨2, ![2816, 1024]⟩
abbrev S1024x4x704 : Shape := ⟨3, ![1024, 4, 704]⟩
abbrev S4x704x1024 : Shape := ⟨3, ![4, 704, 1024]⟩
abbrev S_ : Shape := ⟨0, ![]⟩
abbrev S4x768x1024 : Shape := ⟨3, ![4, 768, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x2816, .f32⟩
  | .hbm, ⟨2, _⟩ => ⟨S1024x2816, .f32⟩
  | .hbm, ⟨3, _⟩ => ⟨S1x2064x2816, .f32⟩
  | .hbm, ⟨4, _⟩ => ⟨S1x2064x2816, .f32⟩
  | .hbm, ⟨5, _⟩ => ⟨S2064x1024, .f32⟩
  | .hbm, ⟨6, _⟩ => ⟨S2064x2816, .f32⟩
  | .hbm, ⟨7, _⟩ => ⟨S2064x1024, .f32⟩
  | .hbm, ⟨8, _⟩ => ⟨S2064x2816, .f32⟩
  | .hbm, ⟨9, _⟩ => ⟨S2064x2816, .f32⟩
  | .hbm, ⟨10, _⟩ => ⟨S2064x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S1024x4x704, .f32⟩
  | .hbm, ⟨16, _⟩ => ⟨S4x704x1024, .f32⟩
  | .hbm, ⟨17, _⟩ => ⟨S_, .i32⟩
  | .hbm, ⟨18, _⟩ => ⟨S_, .f32⟩
  | .hbm, ⟨19, _⟩ => ⟨S4x768x1024, .f32⟩
  | .hbm, ⟨20, _⟩ => ⟨S1024x4x704, .f32⟩
  | .hbm, ⟨21, _⟩ => ⟨S4x704x1024, .f32⟩
  | .hbm, ⟨22, _⟩ => ⟨S_, .i32⟩
  | .hbm, ⟨23, _⟩ => ⟨S_, .f32⟩
  | .hbm, ⟨24, _⟩ => ⟨S4x768x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== OutdxKernel.lean ====
abbrev S1x2064x1024 : Shape := ⟨3, ![1, 2064, 1024]⟩
abbrev S1024x1024 : Shape := ⟨2, ![1024, 1024]⟩
abbrev S2064x1024 : Shape := ⟨2, ![2064, 1024]⟩
abbrev S_ : Shape := ⟨0, ![]⟩
abbrev S2176x1024 : Shape := ⟨2, ![2176, 1024]⟩
abbrev S4x256x1024 : Shape := ⟨3, ![4, 256, 1024]⟩
abbrev S1088x1024 : Shape := ⟨2, ![1088, 1024]⟩
abbrev S1x256x1024 : Shape := ⟨3, ![1, 256, 1024]⟩
abbrev S1088x256 : Shape := ⟨2, ![1088, 256]⟩
abbrev S256x1024 : Shape := ⟨2, ![256, 1024]⟩

abbrev nBuf : Space → Nat
  | .hbm => 11
  | .vmem => 7
  | .smem => 0
  | _ => 0

abbrev bufTy : (tb : Table) → Fin (tcTables nBuf tb) → BufTy
  | .hbm, ⟨0, _⟩ => ⟨S1x2064x1024, .f32⟩
  | .hbm, ⟨1, _⟩ => ⟨S1024x1024, .f32⟩
  | .hbm, ⟨2, _⟩ => ⟨S1x2064x1024, .f32⟩
  | .hbm, ⟨3, _⟩ => ⟨S2064x1024, .f32⟩
  | .hbm, ⟨4, _⟩ => ⟨S_, .i32⟩
  | .hbm, ⟨5, _⟩ => ⟨S_, .f32⟩
  | .hbm, ⟨6, _⟩ => ⟨S2176x1024, .f32⟩
  | .hbm, ⟨7, _⟩ => ⟨S2176x1024, .bf16⟩
  | .hbm, ⟨8, _⟩ => ⟨S4x256x1024, .f32⟩
  | .hbm, ⟨9, _⟩ => ⟨S4x256x1024, .bf16⟩
  | .hbm, ⟨10, _⟩ => ⟨S2176x1024, .f32⟩
  | .local _ .vmem, ⟨0, _⟩ => ⟨S1088x1024, .bf16⟩
  | .local _ .vmem, ⟨1, _⟩ => ⟨S1088x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1088x256, .f32⟩
  | .local _ .vmem, ⟨5, _⟩ => ⟨S1088x256, .f32⟩
  | .local _ .vmem, ⟨6, _⟩ => ⟨S1088x256, .f32⟩
  | _, _ => ⟨S1x2064x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1088x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutdxReferenceIdeal.lean ====
abbrev S1x2064x1024 : Shape := ⟨3, ![1, 2064, 1024]⟩
abbrev S1024x1024 : Shape := ⟨2, ![1024, 1024]⟩
abbrev S2064x1024 : Shape := ⟨2, ![2064, 1024]⟩
abbrev S_ : Shape := ⟨0, ![]⟩
abbrev S2176x1024 : Shape := ⟨2, ![2176, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x2064x1024, .f32⟩
  | .hbm, ⟨1, _⟩ => ⟨S1024x1024, .f32⟩
  | .hbm, ⟨2, _⟩ => ⟨S1x2064x1024, .f32⟩
  | .hbm, ⟨3, _⟩ => ⟨S1x2064x1024, .f32⟩
  | .hbm, ⟨4, _⟩ => ⟨S1x2064x1024, .f32⟩
  | .hbm, ⟨5, _⟩ => ⟨S2064x1024, .f32⟩
  | .hbm, ⟨6, _⟩ => ⟨S_, .i32⟩
  | .hbm, ⟨7, _⟩ => ⟨S_, .f32⟩
  | .hbm, ⟨8, _⟩ => ⟨S2176x1024, .f32⟩
  | _, _ => ⟨S1x2064x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== DowndwKernel.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S2064x2816 : Shape := ⟨2, ![2064, 2816]⟩
abbrev S2064x4x704 : Shape := ⟨3, ![2064, 4, 704]⟩
abbrev S_ : Shape := ⟨0, ![]⟩
abbrev S2064x4x768 : Shape := ⟨3, ![2064, 4, 768]⟩
abbrev S2064x3072 : Shape := ⟨2, ![2064, 3072]⟩
abbrev S2176x3072 : Shape := ⟨2, ![2176, 3072]⟩
abbrev S2064x1024 : Shape := ⟨2, ![2064, 1024]⟩
abbrev S2176x1024 : Shape := ⟨2, ![2176, 1024]⟩
abbrev S4x768x1024 : Shape := ⟨3, ![4, 768, 1024]⟩
abbrev S2176x768 : Shape := ⟨2, ![2176, 768]⟩
abbrev S1x768x1024 : Shape := ⟨3, ![1, 768, 1024]⟩
abbrev S768x1024 : Shape := ⟨2, ![768, 1024]⟩

abbrev nBuf : Space → Nat
  | .hbm => 19
  | .vmem => 6
  | .smem => 0
  | _ => 0

abbrev bufTy : (tb : Table) → Fin (tcTables nBuf tb) → BufTy
  | .hbm, ⟨0, _⟩ => ⟨S1x2064x2816, .f32⟩
  | .hbm, ⟨1, _⟩ => ⟨S2816x1024, .f32⟩
  | .hbm, ⟨2, _⟩ => ⟨S1x2064x1024, .f32⟩
  | .hbm, ⟨3, _⟩ => ⟨S2064x2816, .f32⟩
  | .hbm, ⟨4, _⟩ => ⟨S2064x4x704, .f32⟩
  | .hbm, ⟨5, _⟩ => ⟨S_, .i32⟩
  | .hbm, ⟨6, _⟩ => ⟨S_, .f32⟩
  | .hbm, ⟨7, _⟩ => ⟨S2064x4x768, .f32⟩
  | .hbm, ⟨8, _⟩ => ⟨S2064x3072, .f32⟩
  | .hbm, ⟨9, _⟩ => ⟨S_, .i32⟩
  | .hbm, ⟨10, _⟩ => ⟨S_, .f32⟩
  | .hbm, ⟨11, _⟩ => ⟨S2176x3072, .f32⟩
  | .hbm, ⟨12, _⟩ => ⟨S2176x3072, .bf16⟩
  | .hbm, ⟨13, _⟩ => ⟨S2064x1024, .f32⟩
  | .hbm, ⟨14, _⟩ => ⟨S_, .i32⟩
  | .hbm, ⟨15, _⟩ => ⟨S_, .f32⟩
  | .hbm, ⟨16, _⟩ => ⟨S2176x1024, .f32⟩
  | .hbm, ⟨17, _⟩ => ⟨S2176x1024, .bf16⟩
  | .hbm, ⟨18, _⟩ => ⟨S4x768x1024, .f32⟩
  | .local _ .vmem, ⟨0, _⟩ => ⟨S2176x768, .bf16⟩
  | .local _ .vmem, ⟨1, _⟩ => ⟨S2176x768, .bf16⟩
  | .local _ .vmem, ⟨2, _⟩ => ⟨S2176x1024, .bf16⟩
  | .local _ .vmem, ⟨3, _⟩ => ⟨S1x768x1024, .f32⟩
  | .local _ .vmem, ⟨4, _⟩ => ⟨S1x768x1024, .f32⟩
  | .local _ .vmem, ⟨5, _⟩ => ⟨S768x1024, .f32⟩
  | _, _ => ⟨S1x2064x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call2_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2176x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DowndwReferenceIdeal.lean ====
abbrev S1x2064x2816 : Shape := ⟨3, ![1, 2064, 2816]⟩
abbrev S2816x1024 : Shape := ⟨2, ![2816, 1024]⟩
abbrev S1x2064x1024 : Shape := ⟨3, ![1, 2064, 1024]⟩
abbrev S2064x2816 : Shape := ⟨2, ![2064, 2816]⟩
abbrev S2064x1024 : Shape := ⟨2, ![2064, 1024]⟩
abbrev S1024x2816 : Shape := ⟨2, ![1024, 2816]⟩
abbrev S4x704x1024 : Shape := ⟨3, ![4, 704, 1024]⟩
abbrev S_ : Shape := ⟨0, ![]⟩
abbrev S4x768x1024 : Shape := ⟨3, ![4, 768, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1x2064x2816, .f32⟩
  | .hbm, ⟨1, _⟩ => ⟨S2816x1024, .f32⟩
  | .hbm, ⟨2, _⟩ => ⟨S1x2064x1024, .f32⟩
  | .hbm, ⟨3, _⟩ => ⟨S2064x2816, .f32⟩
  | .hbm, ⟨4, _⟩ => ⟨S2064x1024, .f32⟩
  | .hbm, ⟨5, _⟩ => ⟨S2064x1024, .f32⟩
  | .hbm, ⟨6, _⟩ => ⟨S1024x2816, .f32⟩
  | .hbm, ⟨7, _⟩ => ⟨S2816x1024, .f32⟩
  | .hbm, ⟨8, _⟩ => ⟨S4x704x1024, .f32⟩
  | .hbm, ⟨9, _⟩ => ⟨S_, .i32⟩
  | .hbm, ⟨10, _⟩ => ⟨S_, .f32⟩
  | .hbm, ⟨11, _⟩ => ⟨S4x768x1024, .f32⟩
  | _, _ => ⟨S1x2064x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AdamKernel.lean ====
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 12
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S1x256x1024, .f32⟩
  | .hbm, ⟨5, _⟩ => ⟨S256x1024, .f32⟩
  | .hbm, ⟨6, _⟩ => ⟨S1x256x1024, .f32⟩
  | .hbm, ⟨7, _⟩ => ⟨S256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamReferenceIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.RopeValue.lean ====
/- The rotary backward call: what the kernel's two result arrays hold, as a rotation of its
   four operands. -/
module

public import proofs.«01_k».proof.Proof.Gen.RopeKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopeKernelIdeal.Value

open Cert.RopeKernelIdeal Cert.RopeKernelIdeal.Gen

/-- The rotation by halves of the 128 columns: the value at a column plus the value 64 columns on. -/
def rot (x cosf sins : FVec Ideal S2176x128 .f32) : FVec Ideal S2176x128 .f32 := fun i =>
  x i * cosf i + x (ix2 (i 0) ⟨((i 1).val + 64) % 128, Nat.mod_lt _ (by decide)⟩)
    * sins (ix2 (i 0) ⟨((i 1).val + 64) % 128, Nat.mod_lt _ (by decide)⟩)

variable (m : (ℓ : Loc nD τ sig) → Buf (Elt Ideal) ℓ)

/-- The five windows' blocks move together down the rows. -/
theorem idx : ∀ t : Fin cfg0.N, win0_0.index t = ![(grid0.coords t 1).val, 0] ∧ win0_1.index t = ![(grid0.coords t 1).val, 0]
    ∧ win0_2.index t = ![(grid0.coords t 1).val, 0] ∧ win0_3.index t = ![(grid0.coords t 1).val, 0]
    ∧ win0_4.index t = ![(grid0.coords t 1).val, 0] ∧ win0_5.index t = ![(grid0.coords t 1).val, 0] :=
  (by decide +kernel : ∀ t : Fin grid0.N, _)

/-- One block of the first result. -/
theorem point4 (c : Dev nD) (t : Fin cfg0.N) (y) :
    k0_pay3 (iblk m c 0 t) (iblk m c 2 t) (iblk m c 3 t) y
      = rot (V m c main_v15) (V m c main_v8) (V m c main_v10) (((cfg0.win 4).blk t).view.emb y) := by
  pointwise [k0_pay3, k0_pay1, k0_pay2, rot]
  blk_point [iblk, idx t]

/-- One block of the second result. -/
theorem point5 (c : Dev nD) (t : Fin cfg0.N) (y) :
    k0_pay4 (iblk m c 1 t) (iblk m c 2 t) (iblk m c 3 t) y
      = rot (V m c main_v20) (V m c main_v8) (V m c main_v10) (((cfg0.win 5).blk t).view.emb y) := by
  pointwise [k0_pay4, k0_pay1, k0_pay2, rot]
  blk_point [iblk, idx t]

/-- The first result array. -/
theorem arr4 (c : Dev nD) : (dats m 0 c).arrAt 4 (cfgs 0).N = rot (V m c main_v15) (V m c main_v8) (V m c main_v10) := by
  refine (dats m 0 c).arrAt_eq_of_covers 4 _ (by decide +kernel) fun t _ y => ?_
  blk_simp; rw [after0_4]; frame_out; exact point4 m c t y

/-- The second result array. -/
theorem arr5 (c : Dev nD) : (dats m 0 c).arrAt 5 (cfgs 0).N = rot (V m c main_v20) (V m c main_v8) (V m c main_v10) := by
  refine (dats m 0 c).arrAt_eq_of_covers 5 _ (by decide +kernel) fun t _ y => ?_
  blk_simp; rw [after0_5]; frame_out; exact point5 m c t y

end Cert.RopeKernelIdeal.Value
-- ==== Proof.RopeFinal.lean ====
/- The rotary backward call's operands, and its results as the reference's gradients of the rotated queries and keys. -/
module

public import proofs.«01_k».proof.Proof.RopeValue
public import proofs.«01_k».proof.Proof.Gen.RopeReferenceIdeal.Read

@[expose] public section

set_option maxRecDepth 16384

noncomputable section

open Idealize.ShloMosaic Idealize.ShloMosaic.TcCoe Idealize.SL.Sem
open Idealize.ShloMosaic.Pipeline (Dat)

namespace Cert.RopeKernelIdeal.Value

open Cert.RopeKernelIdeal Cert.RopeKernelIdeal.Gen

variable (m : (ℓ : Loc nD τ sig) → Buf (Elt Ideal) ℓ)

/-- The row of the 2064 that a padded row holds. -/
def row (r : Fin 2176) : Fin 2064 := ⟨r.val - 112, by omega⟩

/-- The head, and the place within the head, that a column of the kernel's order holds. -/
def head (k : Fin 128) : Fin 4 := ⟨k.val / 16 % 4, by omega⟩
def place (k : Fin 128) : Fin 32 := ⟨k.val / 64 * 16 + k.val % 16, by omega⟩

/-- The columns of a head's gradient in the kernel's order (the heads' first halves, then their second halves), below
    112 rows of zeros. -/
def columns (x : FVec Ideal S1x2064x4x32 .f32) : FVec Ideal S2176x128 .f32 := fun i =>
  if 112 ≤ (i 0).val then x (ix4 0 (row (i 0)) (head (i 1)) (place (i 1))) else 0

/-- A table of 16 columns repeated along the 128 columns, below 112 rows of zeros. -/
def tiled (x : FVec Ideal S2064x16 .f32) : FVec Ideal S2176x128 .f32 := fun i =>
  if 112 ≤ (i 0).val then x (ix2 (row (i 0)) ⟨(i 1).val % 16, Nat.mod_lt _ (by decide)⟩) else 0

/-- The table of sines: negated over the first 64 columns. -/
def signed (x : FVec Ideal S2064x16 .f32) : FVec Ideal S2176x128 .f32 := fun i => if (i 1).val < 64 then -tiled x i else tiled x i

theorem sitofp_zero : (FloatOps.sitofp (F := Ideal) FTy.f32 (0#32 : BitVec 32)) = (0 : EReal) := by simp [FloatOps.sitofp]

/-- The first operand of the call is the first argument's columns. -/
theorem V_main_v15 (c : Dev nD) : V m c main_v15 = columns (m ((c : Thread nD τ).loc main_arg0)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [columns, row, head, place]
  simp only [sitofp_zero, show i0.val - 112 < 2064 by omega, and_true]
  rfl

/-- The second operand of the call is the second argument's columns. -/
theorem V_main_v20 (c : Dev nD) : V m c main_v20 = columns (m ((c : Thread nD τ).loc main_arg1)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [columns, row, head, place]
  simp only [sitofp_zero, show i0.val - 112 < 2064 by omega, and_true]
  rfl

/-- The third operand of the call is the table of cosines. -/
theorem V_main_v8 (c : Dev nD) : V m c main_v8 = tiled (m ((c : Thread nD τ).loc main_arg2)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [tiled, row]
  by_cases h : i1.val < 64
  · simp only [sitofp_zero, show i0.val - 112 < 2064 by omega, and_true, h, dite_true]; rfl
  · have e : (i1.val - 64) % 16 = i1.val % 16 := by omega
    simp only [sitofp_zero, show i0.val - 112 < 2064 by omega, and_true, h, e, dite_false]; rfl

/-- The fourth operand of the call is the signed table of sines. -/
theorem V_main_v10 (c : Dev nD) : V m c main_v10 = signed (m ((c : Thread nD τ).loc main_arg3)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [tiled, signed, row]
  by_cases h : i1.val < 64
  · simp only [sitofp_zero, show i0.val - 112 < 2064 by omega, and_true, h, dite_true, if_true]; rfl
  · have e : (i1.val - 64) % 16 = i1.val % 16 := by omega
    simp only [sitofp_zero, show i0.val - 112 < 2064 by omega, and_true, h, e, dite_false, if_false]; rfl

open Cert.RopeReferenceIdeal.Read in
/-- The rotation of a cotangent's columns is the gradient of the rotary embedding at that cotangent. -/
theorem rot_eq (x : FVec Ideal S1x2064x4x32 .f32) (co si : FVec Ideal S2064x16 .f32) :
    rot (columns x) (tiled co) (signed si) = val_main_v64 (F := Ideal) x co si := by
  funext i
  idx_vars i
  pointwise [rot, columns, tiled, signed, row, head, place, val_main_cst, val_main_v0, val_main_cst_0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_c, val_main_call0_v0, val_main_v64]
  have hi : i0.val - 112 < 2064 := by omega
  simp only [sitofp_zero, hi, and_true]
  by_cases h0 : 112 ≤ i0.val
  · have e3 : i1.val % 16 < 16 := by omega
    have e4 : (i1.val + 64) % 128 / 16 % 4 = i1.val / 16 % 4 := by omega
    have e6 : (i1.val + 64) % 128 % 16 = i1.val % 16 := by omega
    by_cases h1 : i1.val < 64
    · have e1 : ¬ (i1.val + 64) % 128 < 64 := by omega
      have e2 : i1.val / 64 = 0 := by omega
      have e5 : (i1.val + 64) % 128 / 64 = 1 := by omega
      simp [h0, e1, e2, e3, e4, e5, e6]
      exact add_comm _ _
    · have e1 : (i1.val + 64) % 128 < 64 := by omega
      have e2 : i1.val / 64 = 1 := by omega
      have e5 : (i1.val + 64) % 128 / 64 = 0 := by omega
      simp [h0, e1, e2, e3, e4, e5, e6]
  · simp [h0]

open Cert.RopeReferenceIdeal.Read in
/-- The first result is the reference's gradient of the queries before the rotation. -/
theorem final4 (c : Dev nD) : (dats m 0 c).arrAt 4 (cfgs 0).N
    = val_main_v64 (F := Ideal) (m ((c : Thread nD τ).loc main_arg0)) (m ((c : Thread nD τ).loc main_arg2)) (m ((c : Thread nD τ).loc main_arg3)) := by
  rw [arr4, V_main_v15, V_main_v8, V_main_v10, rot_eq]

open Cert.RopeReferenceIdeal.Read in
/-- The second result is the reference's gradient of the keys before the rotation. -/
theorem final5 (c : Dev nD) : (dats m 0 c).arrAt 5 (cfgs 0).N
    = val_main_v69 (F := Ideal) (m ((c : Thread nD τ).loc main_arg1)) (m ((c : Thread nD τ).loc main_arg2)) (m ((c : Thread nD τ).loc main_arg3)) := by
  rw [arr5, V_main_v20, V_main_v8, V_main_v10, rot_eq]
  rfl

end Cert.RopeKernelIdeal.Value
-- ==== Proof.RopeClaim.lean ====
/- The rotary backward call computes the reference's gradients of the queries and keys before the rotation. -/
module

public import proofs.«01_k».proof.Defs
public import proofs.«01_k».proof.Proof.RopeFinal
public import proofs.«01_k».proof.Proof.Gen.RopeReferenceIdeal.Read

@[expose] public section

set_option maxRecDepth 16384

noncomputable section

open Idealize.ShloMosaic Idealize.ShloMosaic.TcCoe Idealize.SL.Sem
open Idealize.ShloMosaic.Pipeline (Dat)

namespace Cert.RopeReferenceIdeal.Read

open Cert.RopeReferenceIdeal Cert.RopeReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v64) = val_main_v64 (F := Ideal) (m ((c.tc : Thread nD τ).loc main_arg0)) (m ((c.tc : Thread nD τ).loc main_arg2)) (m ((c.tc : Thread nD τ).loc main_arg3))
      ∧ r.2.mem ((c.tc : Thread nD τ).loc main_v69) = val_main_v69 (F := Ideal) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v64_eq _ _ _), (h c).2.1.trans (val_main_v69_eq _ _ _), (h c).2.2⟩) (Value.run m ρ)

end Cert.RopeReferenceIdeal.Read

namespace Cert.RopeKernelIdeal.Value

/-- The rotary backward call computes the reference's gradients of the queries and keys before the rotation. -/
theorem algebraic : Cert.algebraic_RopeKernelIdeal_RopeReferenceIdeal := by
  pair_intro
  · run_from Cert.RopeKernelIdeal.Gen.run_main m g & Cert.RopeKernelIdeal.Gen.unchanged m g
  · run_from Cert.RopeReferenceIdeal.Read.run m' g'
    · exact (final4 m c).symm
    · exact (final5 m c).symm

end Cert.RopeKernelIdeal.Value
-- ==== Proof.Reals.lean ====
/- Sums, products and literals of extended reals that the value proofs share. -/
module

public import Idealize.ShloMosaic.Lib.Pointwise
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.Reals

/-- A nonnegative real factor distributes over a sum of extended reals. -/
theorem mul_sum {ι : Type} (s : Finset ι) (a : ℝ) (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

/-- The same with the factor on the right. -/
theorem sum_mul {ι : Type} (s : Finset ι) (a : ℝ) (ha : 0 ≤ a) (f : ι → EReal) :
    (∑ i ∈ s, f i) * (a : EReal) = ∑ i ∈ s, f i * (a : EReal) := by
  rw [mul_comm, mul_sum s a ha]
  exact Finset.sum_congr rfl fun i _ => mul_comm _ _

/-- A sum of reals is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum whose first `a` terms vanish. -/
theorem sum_below (a b : ℕ) (f : Fin (a + b) → EReal) (h : ∀ k : Fin (a + b), k.val < a → f k = 0) : ∑ k, f k = ∑ r : Fin b, f ⟨r.val + a, by omega⟩ := by
  rw [Fin.sum_univ_add, Finset.sum_eq_zero fun i _ => h _ i.isLt, zero_add]
  exact Finset.sum_congr rfl fun r _ => congrArg f (Fin.ext (Nat.add_comm _ _))

/-- The comparison `t * n + r ≥ k` of words that do not wrap round, as a choice. -/
theorem select_sge (n t r k : ℕ) (h : t * n + r < 2 ^ 31) (hk : k < 2 ^ 31) (x y : EReal) :
    Scalar.select (IntOp.cmpi .sge (IntOp.addi (Scalar.muli (BitVec.ofNat 32 t) (BitVec.ofNat 32 n)) (BitVec.ofNat 32 r)) (BitVec.ofNat 32 k)) x y
      = if k ≤ t * n + r then x else y := by
  have e := WordCmp.cmpi_sge_mul_add_ofNat (w := 32) t n r k h hk
  refine (congrArg (fun b => Scalar.select b x y) e).trans ?_
  split <;> rfl

/-- The comparison `a ≥ k` of words, as a choice. -/
theorem select_sge_ofNat (a k : ℕ) (ha : a < 2 ^ 31) (hk : k < 2 ^ 31) (x y : EReal) :
    Scalar.select (IntOp.cmpi .sge (BitVec.ofNat 32 a) (BitVec.ofNat 32 k)) x y = if k ≤ a then x else y := by
  by_cases h : k ≤ a
  · rw [if_pos h]
    exact WordCmp.select_of_eq_one ((WordCmp.cmpi_sge_ofNat_eq_one_iff (w := 32) ha hk).2 h) x y
  · rw [if_neg h]
    exact WordCmp.select_of_eq_zero ((WordCmp.cmpi_sge_ofNat_eq_zero_iff (w := 32) ha hk).2 (by omega)) x y

/-- An extended real whose absolute value lies below infinity is a real. -/
theorem real_of_abs (v : EReal) (h : BitVec.ofBool (decide (FloatOps.absf (F := Ideal) (φ := .f32) v < Ideal.ofBits .f32 2139095040#32)) = 1#1) :
    ∃ r : ℝ, v = (r : EReal) := by
  have e : FloatOps.absf (F := Ideal) (φ := .f32) v < Ideal.ofBits .f32 2139095040#32 := by
    by_contra hn
    rw [decide_eq_false hn] at h
    exact absurd h (by decide)
  have i : Ideal.ofBits .f32 2139095040#32 = (⊤ : EReal) := by simp [Ideal.ofBits, Ideal.ieee]
  rw [i] at e
  induction v with
  | bot => exact absurd e (by simp [FloatOps.absf])
  | top => exact absurd e (by simp [FloatOps.absf])
  | coe r => exact ⟨r, rfl⟩

/-- The logistic function, as both kinds of program write it, at the reals and at the infinities. -/
theorem sigmoid_eq (c : EReal) : Ideal.div 1 (1 + Ideal.exp (0 - c)) = Ideal.logistic c := by
  rw [zero_sub]; rfl
theorem sigmoid_coe (c : ℝ) : Ideal.div 1 (1 + Ideal.exp (0 - (c : EReal))) = (((1 + Real.exp (-c))⁻¹ : ℝ) : EReal) := by
  rw [sigmoid_eq, Ideal.logistic_coe]
theorem sigmoid_top : Ideal.div 1 (1 + Ideal.exp (0 - (⊤ : EReal))) = 1 := by
  rw [sigmoid_eq]; exact Ideal.logistic_top
theorem sigmoid_bot : Ideal.div 1 (1 + Ideal.exp (0 - (⊥ : EReal))) = 0 := by
  rw [sigmoid_eq]; exact Ideal.logistic_bot

/-- The derivative of `c * logistic c` applied to a finite cotangent, in either order. -/
theorem silu_ct (c : EReal) (d : ℝ) : (d : EReal) * (Ideal.div 1 (1 + Ideal.exp (0 - c)) * (1 + c * (1 - Ideal.div 1 (1 + Ideal.exp (0 - c)))))
    = d * Ideal.div 1 (1 + Ideal.exp (0 - c)) + (c * d) * (Ideal.div 1 (1 + Ideal.exp (0 - c)) * (1 - Ideal.div 1 (1 + Ideal.exp (0 - c)))) := by
  have h1 : (1 : EReal) - 1 = 0 := by rw [← EReal.coe_one, ← EReal.coe_sub, sub_self, EReal.coe_zero]
  induction c with
  | bot => rw [sigmoid_bot]; simp
  | top => rw [sigmoid_top, h1]; simp
  | coe c =>
    rw [sigmoid_coe]
    simp only [← EReal.coe_one, ← EReal.coe_sub, ← EReal.coe_mul, ← EReal.coe_add]
    congr 1
    ring

/-- A host sum over the first two axes of three. -/
@[pointwise] theorem hostReduceAdd_first_two {a b n : ℕ} (h : (⟨3, ![a, b, n]⟩ : Shape).ReducesTo [0, 1] ⟨1, ![n]⟩) (v : (⟨3, ![a, b, n]⟩ : Shape).Idx → EReal) (z : EReal) (q : Fin n) :
    Ideal.hostReduceAdd h v z (ix1 q) = z + ∑ i : Fin a, ∑ j : Fin b, v (ix3 i j q) := by
  refine congrArg (z + ·) ?_
  refine (Finset.sum_filter_eq_sum_of_fiber _ (fun k : Fin a × Fin b => ix3 k.1 k.2 q) (fun _ _ e => Prod.ext (congrFun e 0) (congrFun e 1)) (fun i => ?_) v).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e (0 : Fin 1))).symm
    · rintro ⟨k, rfl⟩
      funext x; apply Fin.ext
      match x with
      | ⟨0, _⟩ => rfl
  · simp only [Fintype.sum_prod_type]

/-- The programs' softplus at a real, and the derivative they form from it. -/
theorem softplus_coe (x : ℝ) : max (x : EReal) 0 + Ideal.log1p (Ideal.exp (-FloatOps.absf (F := Ideal) (φ := .f32) (x : EReal))) = ((Real.log (1 + Real.exp x) : ℝ) : EReal) := by
  have ha : FloatOps.absf (F := Ideal) (φ := .f32) (x : EReal) = ((|x| : ℝ) : EReal) := by
    show max (x : EReal) (-(x : EReal)) = _
    rw [← EReal.coe_neg, ← EReal.coe_strictMono.monotone.map_max]; rfl
  have hp : (0 : ℝ) < 1 + Real.exp (-|x|) := by positivity
  have hl : Ideal.log1p (Ideal.exp (-((|x| : ℝ) : EReal))) = ((Real.log (1 + Real.exp (-|x|)) : ℝ) : EReal) := by
    rw [← EReal.coe_neg, Ideal.exp_coe]
    show Ideal.log (1 + _) = _
    rw [← EReal.coe_one, ← EReal.coe_add, Ideal.log_coe, if_neg (not_le.2 hp)]
  rw [ha, hl, ← EReal.coe_zero, ← EReal.coe_strictMono.monotone.map_max, ← EReal.coe_add]
  congr 1
  rcases le_total 0 x with h | h
  · rw [max_eq_left h, abs_of_nonneg h]
    have e : 1 + Real.exp x = Real.exp x * (1 + Real.exp (-x)) := by rw [mul_add, ← Real.exp_add]; simp [add_comm]
    rw [e, Real.log_mul (Real.exp_pos x).ne' (by positivity), Real.log_exp]
  · rw [max_eq_right h, abs_of_nonpos h, neg_neg, zero_add]
theorem exp_sub_softplus (x : ℝ) : Ideal.exp ((x : EReal) - ((Real.log (1 + Real.exp x) : ℝ) : EReal)) = Ideal.div 1 (1 + Ideal.exp (0 - (x : EReal))) := by
  rw [sigmoid_coe, ← EReal.coe_sub, Ideal.exp_coe]
  congr 1
  rw [Real.exp_sub, Real.exp_log (by positivity), eq_comm, inv_eq_one_div, div_eq_div_iff (by positivity) (by positivity), one_mul, mul_add, ← Real.exp_add]
  simp [add_comm]
/-- No real is infinity's word. -/
theorem coe_ne_inf (x : ℝ) : ¬ (x : EReal) = Ideal.ofBits .f32 2139095040#32 := by
  have i : Ideal.ofBits .f32 2139095040#32 = (⊤ : EReal) := by simp [Ideal.ofBits, Ideal.ieee]
  rw [i]; exact EReal.coe_ne_top x

/-- A sum of reals is a real. -/
theorem real_sum {ι : Type} [Fintype ι] (f : ι → EReal) (h : ∀ i, ∃ y : ℝ, f i = (y : EReal)) : ∃ y : ℝ, ∑ i, f i = (y : EReal) := by
  choose g hg using h
  exact ⟨∑ i, g i, by rw [coe_sum]; exact Finset.sum_congr rfl fun i _ => hg i⟩

/-- Infinity's word. -/
theorem lit_inf : Ideal.ofBits .f32 2139095040#32 = (⊤ : EReal) := by simp [Ideal.ofBits, Ideal.ieee]
/-- The derivative of the programs' softplus, with its guards against infinities, is the logistic function. -/
theorem softplus_ct (w : EReal) : Ideal.exp ((if w = Ideal.ofBits .f32 2139095040#32 then 0 else w) -
      if (if w ≠ w then w else max w 0 + Ideal.log1p (Ideal.exp (-FloatOps.absf (F := Ideal) (φ := .f32) w))) = Ideal.ofBits .f32 2139095040#32 then 0
      else if w ≠ w then w else max w 0 + Ideal.log1p (Ideal.exp (-FloatOps.absf (F := Ideal) (φ := .f32) w))) = Ideal.div 1 (1 + Ideal.exp (0 - w)) := by
  rw [if_neg (show ¬ w ≠ w from not_not.2 rfl)]
  have h0 : Ideal.log1p (Ideal.exp (-(⊤ : EReal))) = 0 := by
    rw [EReal.neg_top]
    show Ideal.log (1 + 0) = 0
    rw [add_zero, ← EReal.coe_one, Ideal.log_coe, if_neg (by norm_num), Real.log_one, EReal.coe_zero]
  induction w with
  | bot =>
    have ha : FloatOps.absf (F := Ideal) (φ := .f32) (⊥ : EReal) = ⊤ := by show max (⊥ : EReal) (-⊥) = ⊤; simp
    rw [ha, h0, lit_inf, sigmoid_bot, max_eq_right bot_le, add_zero, if_neg (show ¬ (⊥ : EReal) = ⊤ from bot_ne_top), if_neg EReal.zero_ne_top, sub_zero]; rfl
  | top =>
    have ha : FloatOps.absf (F := Ideal) (φ := .f32) (⊤ : EReal) = ⊤ := by show max (⊤ : EReal) (-⊤) = ⊤; simp
    rw [ha, h0, lit_inf, sigmoid_top, max_eq_left le_top, add_zero, if_pos rfl, sub_zero, ← EReal.coe_zero, Ideal.exp_coe, Real.exp_zero, EReal.coe_one]
  | coe x => rw [if_neg (coe_ne_inf _), softplus_coe, if_neg (coe_ne_inf _), exp_sub_softplus]
/-- One minus the logistic function is the logistic function of the negated argument. -/
theorem one_sub_sigmoid (w : EReal) : 1 - Ideal.div 1 (1 + Ideal.exp (0 - w)) = Ideal.div 1 (1 + Ideal.exp (0 - -w)) := by
  induction w with
  | bot => rw [EReal.neg_bot, sigmoid_bot, sigmoid_top, sub_zero]
  | top =>
    rw [EReal.neg_top, sigmoid_bot, sigmoid_top, ← EReal.coe_one, ← EReal.coe_sub, sub_self, EReal.coe_zero]
  | coe x =>
    rw [← EReal.coe_neg, sigmoid_coe, sigmoid_coe, ← EReal.coe_one, ← EReal.coe_sub]
    congr 1
    rw [neg_neg, Real.exp_neg]
    have := Real.exp_pos x
    field_simp
    ring

/-- The literals the programs write. -/
theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num

end Cert.Reals
-- ==== Proof.LossValue.lean ====
/- The loss head: what the kernel's two result arrays hold, as functions of its two operands. -/
module

public import proofs.«01_k».proof.Proof.Gen.LossKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen

/-- The error of an element: the difference of the operands from row 128 on, 0 above. -/
def err (x y : FVec Ideal S2176x1024 .f32) : FVec Ideal S2176x1024 .f32 := fun i => if 128 ≤ (i 0).val then x i - y i else 0

variable (m : (ℓ : Loc nD τ sig) → Buf (Elt Ideal) ℓ)

/-- The windows' blocks move together down the rows; the sum's block is the one block of its array. -/
theorem idx : ∀ t : Fin cfg0.N, win0_0.index t = ![t.val, 0] ∧ win0_1.index t = ![t.val, 0]
    ∧ win0_2.index t = ![t.val, 0] ∧ win0_3.index t = ![0, 0] ∧ (grid0.coords t 0).val = t.val :=
  (by decide +kernel : ∀ t : Fin grid0.N, _)

/-- The masked difference of two blocks. -/
theorem pay1_apply (t : Fin cfg0.N) (x y : FVec Ideal S544x1024 .f32) (r : Fin 544) (k : Fin 1024) :
    k0_pay1 (F := Ideal) (grid0.coords t) x y (ix2 r k) = if 128 ≤ t.val * 544 + r.val then x (ix2 r k) - y (ix2 r k) else 0 := by
  have ht : t.val < 4 := t.isLt
  pointwise [k0_pay1, (idx t).2.2.2.2]
  exact Reals.select_sge 544 t.val r.val 128 (by omega) (by omega) _ _

/-- The first result's payload. -/
theorem pay2_apply (t : Fin cfg0.N) (x y : FVec Ideal S544x1024 .f32) (r : Fin 544) (k : Fin 1024) :
    k0_pay2 (F := Ideal) (grid0.coords t) x y (ix2 r k)
      = (if 128 ≤ t.val * 544 + r.val then x (ix2 r k) - y (ix2 r k) else 0) * ((1 / 1024 : ℝ) : EReal) := by
  pointwise [k0_pay2]
  rw [pay1_apply, Reals.lit_inv_1024]

/-- The second result's payload: half the block's mean squared errors, added up. -/
theorem pay3_apply (t : Fin cfg0.N) (x y : FVec Ideal S544x1024 .f32) (j : S1x128.Idx) :
    k0_pay3 (F := Ideal) (grid0.coords t) x y j
      = ((1 / 2 : ℝ) : EReal) * ∑ r : Fin 544, (∑ k : Fin 1024, (if 128 ≤ t.val * 544 + r.val then x (ix2 r k) - y (ix2 r k) else 0)
          * (if 128 ≤ t.val * 544 + r.val then x (ix2 r k) - y (ix2 r k) else 0)) * ((1 / 1024 : ℝ) : EReal) := by
  pointwise [k0_pay3]
  simp only [pay1_apply, Reals.lit_inv_1024, Reals.lit_half]

/-- The accumulating payload adds the block's part. -/
theorem pay4_apply (t : Fin cfg0.N) (x y : FVec Ideal S544x1024 .f32) (a : FVec Ideal S1x128 .f32) (j : S1x128.Idx) :
    k0_pay4 (F := Ideal) (grid0.coords t) x y a j = a j + k0_pay3 (F := Ideal) (grid0.coords t) x y j := by
  pointwise [k0_pay4]

/-- The first result array: a 1024th of the errors. -/
theorem arr2 (c : Dev nD) : (dats m 0 c).arrAt 2 (cfgs 0).N
    = fun i => err (V m c main_v1) (V m c main_v3) i * ((1 / 1024 : ℝ) : EReal) := by
  refine (dats m 0 c).arrAt_eq_of_covers 2 _ (by decide +kernel) fun t _ y => ?_
  have point : k0_pay2 (F := Ideal) (grid0.coords t) (iblk m c 0 t) (iblk m c 1 t) y
      = err (V m c main_v1) (V m c main_v3) (((cfg0.win 2).blk t).view.emb y) * ((1 / 1024 : ℝ) : EReal) := by
    idx_vars y
    rw [pay2_apply]
    unfold err
    blk_point [iblk, idx t]
  blk_simp; rw [after0_2]
  have ht : t.val < 4 := t.isLt
  by_cases h : t.val % 4 = 0
  · rw [outsAt0_A m c t h (by omega)]; frame_out; exact point
  · rw [outsAt0_B m c t h (by omega)]; frame_out; exact point

/-- The second result array: half the sum of the rows' mean squared errors, in each of its 128 columns. -/
theorem arr3 (c : Dev nD) : (dats m 0 c).arrAt 3 (cfgs 0).N
    = fun _ => ∑ r : Fin 2176, ((1 / 2 : ℝ) : EReal) * ((∑ k : Fin 1024, err (V m c main_v1) (V m c main_v3) (ix2 r k)
        * err (V m c main_v1) (V m c main_v3) (ix2 r k)) * ((1 / 1024 : ℝ) : EReal)) := by
  refine (dats m 0 c).arrAt_eq_of_after_last 3 t0_3 (by decide +kernel) _ fun j => ?_
  blk_simp
  rw [after0_3, Pipeline.eq_sum_fin_of_reset_step_apply_last (fun n h => (outsAt0 m c n h).2) 4 (fun _ => 0) _
    (fun t h j => by have ht : t.val < 4 := t.isLt; rw [outsAt0_A m c t h (by omega)]; frame_out; rw [← zero_add (k0_pay3 _ _ _ _)])
    (fun t h j => by have ht : t.val < 4 := t.isLt; rw [outsAt0_B m c t h (by omega)]; frame_out; rw [pay4_apply])
    (le_of_eq N_0) t0_3 rfl j, zero_add]
  simp only [pay3_apply, Reals.mul_sum _ (1 / 2) (by norm_num)]
  refine Fin.sum_mul_add_congr fun t k hl => ?_
  refine congrArg (fun s => _ * (s * _)) (Finset.sum_congr rfl fun q _ => ?_)
  have e : k0_pay1 (F := Ideal) (grid0.coords t) (iblk m c 0 t) (iblk m c 1 t) (ix2 k q)
      = err (V m c main_v1) (V m c main_v3) (ix2 ⟨t.val * 544 + k.val, hl⟩ q) := by
    rw [pay1_apply]
    unfold err
    blk_point [iblk, idx t]
  rw [pay1_apply] at e
  exact congrArg₂ (· * ·) e e

end Cert.LossKernelIdeal.Value
-- ==== Proof.LossFinal.lean ====
/- The loss head's operands, and its results as the reference's loss and gradient. -/
module

public import proofs.«01_k».proof.Proof.LossValue
public import proofs.«01_k».proof.Proof.Gen.LossReferenceIdeal.Read

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen

variable (m : (ℓ : Loc nD τ sig) → Buf (Elt Ideal) ℓ)

/-- The row of the hidden states, and the row of the targets, that a padded row holds. -/
def row (r : Fin 2176) : Fin 2064 := ⟨r.val - 112, by omega⟩
def pos (r : Fin 2176) : Fin 2048 := ⟨r.val - 128, by omega⟩

/-- The hidden states below 112 rows of zeros, and the targets below 128. -/
def states (x : FVec Ideal S1x2064x1024 .f32) : FVec Ideal S2176x1024 .f32 := fun i =>
  if 112 ≤ (i 0).val then x (ix3 0 (row (i 0)) (i 1)) else 0
def targets (y : FVec Ideal S1x2048x1024 .f32) : FVec Ideal S2176x1024 .f32 := fun i =>
  if 128 ≤ (i 0).val then y (ix3 0 (pos (i 0)) (i 1)) else 0

theorem sitofp_zero : (FloatOps.sitofp (F := Ideal) FTy.f32 (0#32 : BitVec 32)) = (0 : EReal) := by simp [FloatOps.sitofp]

/-- The first operand is the padded hidden states. -/
theorem V_main_v1 (c : Dev nD) : V m c main_v1 = states (m ((c : Thread nD τ).loc main_arg0)) := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [states, row]
  simp only [sitofp_zero, show i0.val - 112 < 2064 by omega, and_true]
  rfl

/-- The factors of the reference's gradient are a 1024th together. -/
theorem scale (d : EReal) : Ideal.div (Ideal.ofBits .f32 0x3F000000#32) (Ideal.ofBits .f32 0x44800000#32) * (Ideal.ofBits .f32 0x40000000#32 * d)
    = ((1 / 1024 : ℝ) : EReal) * d := by
  rw [Reals.lit_half, Reals.lit_two, Reals.lit_1024, Ideal.div_coe (by norm_num), ← EReal.coe_mul, ← mul_assoc, ← EReal.coe_mul]
  norm_num

/-- The second operand is the padded targets. -/
theorem V_main_v3 (c : Dev nD) : V m c main_v3 = targets (m ((c : Thread nD τ).loc main_arg1)) := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [targets, pos]
  simp only [sitofp_zero, show i0.val - 128 < 2048 by omega, and_true]
  rfl

open Cert.LossReferenceIdeal.Read in
/-- The gradient of the loss at the hidden states. -/
theorem dy_eq (x : FVec Ideal S1x2064x1024 .f32) (y : FVec Ideal S1x2048x1024 .f32) :
    (fun i => err (states x) (targets y) i * ((1 / 1024 : ℝ) : EReal)) = val_main_v18 (F := Ideal) x y := by
  funext i
  idx_vars i
  pointwise [err, states, targets, row, pos, val_main_v0, val_main_v1, val_main_v2, val_main_cst, val_main_v3, val_main_v4, val_main_cst_0, val_main_v5, val_main_cst_1, val_main_v6, val_main_v7, val_main_cst_2, val_main_v8, val_main_cst_3, val_main_v9, val_main_cst_4, val_main_cst_5, val_main_v10, val_main_v11, val_main_cst_6, val_main_v12, val_main_v13, val_main_v14, val_main_v15, val_main_cst_7, val_main_v16, val_main_v17, val_main_c, val_main_call0_v0, val_main_v18, val_main_v19]
  simp only [scale, sitofp_zero, show i0.val - 112 < 2064 by omega, show i0.val - 112 - 16 < 2048 by omega, and_true]
  rw [mul_comm]
  by_cases h : 128 ≤ i0.val
  · have e1 : 112 ≤ i0.val := by omega
    have e2 : 16 ≤ i0.val - 112 := by omega
    have e5 : 16 + (i0.val - 128) = i0.val - 112 := by omega
    have e6 : i0.val - 112 - 16 = i0.val - 128 := by omega
    simp only [h, e1, e2, e5, e6, dite_true, if_true]
  · have e2 : ¬ 16 ≤ i0.val - 112 := by omega
    simp only [h, e2, dite_false, if_false, mul_zero]
    split <;> rfl

/-- A row of the 128 above the targets has no error, and a row below has the difference. -/
theorem err_above (x : FVec Ideal S1x2064x1024 .f32) (y : FVec Ideal S1x2048x1024 .f32) (r : Fin 128) (k : Fin 1024) :
    err (states x) (targets y) (ix2 (Fin.castAdd 2048 r) k) = 0 := by
  have := r.isLt
  exact if_neg (show ¬ 128 ≤ r.val by omega)

theorem err_below (x : FVec Ideal S1x2064x1024 .f32) (y : FVec Ideal S1x2048x1024 .f32) (r : Fin 2048) (k : Fin 1024) :
    err (states x) (targets y) (ix2 (Fin.natAdd 128 r) k) = x (ix3 0 ⟨16 + r.val, by omega⟩ k) - y (ix3 0 r k) := by
  have e1 : 128 + r.val - 112 = 16 + r.val := by omega
  pointwise [err, states, targets, row, pos]
  simp [e1, show 112 ≤ 128 + r.val by omega]

open Cert.LossReferenceIdeal.Read in
/-- The loss. -/
theorem loss_eq (x : FVec Ideal S1x2064x1024 .f32) (y : FVec Ideal S1x2048x1024 .f32) (j : S1x128.Idx) :
    ∑ r : Fin 2176, ((1 / 2 : ℝ) : EReal) * ((∑ k : Fin 1024, err (states x) (targets y) (ix2 r k)
        * err (states x) (targets y) (ix2 r k)) * ((1 / 1024 : ℝ) : EReal)) = val_main_v19 (F := Ideal) x y j := by
  idx_vars j
  pointwise [val_main_v0, val_main_v1, val_main_v2, val_main_cst, val_main_v3, val_main_v4, val_main_cst_0, val_main_v5, val_main_cst_1, val_main_v6, val_main_v7, val_main_cst_2, val_main_v8, val_main_cst_3, val_main_v9, val_main_cst_4, val_main_cst_5, val_main_v10, val_main_v11, val_main_cst_6, val_main_v12, val_main_v13, val_main_v14, val_main_v15, val_main_cst_7, val_main_v16, val_main_v17, val_main_c, val_main_call0_v0, val_main_v18, val_main_v19]
  rw [Reals.lit_half, Reals.lit_1024]
  simp only [Ideal.div_coe (show (1024 : ℝ) ≠ 0 by norm_num), Finset.univ_unique, Finset.sum_singleton]
  rw [Reals.mul_sum _ _ (by norm_num), Fin.sum_univ_add (a := 128) (b := 2048)]
  simp [err_above, err_below]

open Cert.LossReferenceIdeal.Read in
/-- The first result is the reference's gradient. -/
theorem final2 (c : Dev nD) : (dats m 0 c).arrAt 2 (cfgs 0).N = val_main_v18 (F := Ideal) (m ((c : Thread nD τ).loc main_arg0)) (m ((c : Thread nD τ).loc main_arg1)) := by
  rw [arr2, V_main_v1, V_main_v3, dy_eq]

open Cert.LossReferenceIdeal.Read in
/-- The second result is the reference's loss. -/
theorem final3 (c : Dev nD) : (dats m 0 c).arrAt 3 (cfgs 0).N = val_main_v19 (F := Ideal) (m ((c : Thread nD τ).loc main_arg0)) (m ((c : Thread nD τ).loc main_arg1)) := by
  rw [arr3, V_main_v1, V_main_v3]
  exact funext (loss_eq _ _)

end Cert.LossKernelIdeal.Value
-- ==== Proof.LossClaim.lean ====
/- The loss head computes the reference's gradient and loss. -/
module

public import proofs.«01_k».proof.Defs
public import proofs.«01_k».proof.Proof.LossFinal
public import proofs.«01_k».proof.Proof.Gen.LossReferenceIdeal.Read

@[expose] public section

set_option maxRecDepth 16384

noncomputable section

open Idealize.ShloMosaic Idealize.ShloMosaic.TcCoe Idealize.SL.Sem
open Idealize.ShloMosaic.Pipeline (Dat)

namespace Cert.LossReferenceIdeal.Read

open Cert.LossReferenceIdeal Cert.LossReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18) = val_main_v18 (F := Ideal) (m ((c.tc : Thread nD τ).loc main_arg0)) (m ((c.tc : Thread nD τ).loc main_arg1))
      ∧ r.2.mem ((c.tc : Thread nD τ).loc main_v19) = val_main_v19 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (val_main_v18_eq _ _), (h c).2.1.trans (val_main_v19_eq _ _), (h c).2.2⟩) (Value.run m ρ)

end Cert.LossReferenceIdeal.Read

namespace Cert.LossKernelIdeal.Value

/-- The loss head computes the reference's gradient and loss. -/
theorem algebraic : Cert.algebraic_LossKernelIdeal_LossReferenceIdeal := by
  pair_intro
  · run_from Cert.LossKernelIdeal.Gen.run_main m g & Cert.LossKernelIdeal.Gen.unchanged m g
  · run_from Cert.LossReferenceIdeal.Read.run m' g'
    · exact (final2 m c).symm
    · exact (final3 m c).symm

end Cert.LossKernelIdeal.Value
-- ==== Proof.ConvValue.lean ====
/- The convolution's backward call: what the kernel's three result arrays hold, as functions of its four operands. -/
module

public import proofs.«01_k».proof.Proof.Gen.ConvKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.ConvKernelIdeal.Value

open Cert.ConvKernelIdeal Cert.ConvKernelIdeal.Gen Cert.Reals

/-- The row `k` above a row, and the row `k` below, cyclically. -/
def back (k : ℕ) (r : Fin 2176) : Fin 2176 := ⟨(r.val + (2176 - k)) % 2176, Nat.mod_lt _ (by decide)⟩
def fwd (k : ℕ) (r : Fin 2176) : Fin 2176 := ⟨(r.val + k) % 2176, Nat.mod_lt _ (by decide)⟩

section channel
variable (x d : Fin 2176 → EReal) (w : Fin 4 → EReal) (b : EReal)

/-- One channel: its signal with 112 rows of zeros above, -/
def pad (r : Fin 2176) : EReal := if 112 ≤ r.val then x r else 0
/-- its convolution, -/
def pre (r : Fin 2176) : EReal := b + w 0 * pad x (back 3 r) + w 1 * pad x (back 2 r) + w 2 * pad x (back 1 r) + w 3 * pad x r
/-- the logistic of it, -/
def sg (r : Fin 2176) : EReal := Ideal.div 1 (1 + Ideal.exp (0 - pre x w b r))
/-- the cotangent of the convolution, -/
def cot (r : Fin 2176) : EReal := if 112 ≤ r.val then d r * (sg x w b r * (1 + pre x w b r * (1 - sg x w b r))) else 0
/-- the cotangent of the signal, -/
def dsig (r : Fin 2176) : EReal :=
  if 112 ≤ r.val then w 3 * cot x d w b r + w 0 * cot x d w b (fwd 3 r) + w 1 * cot x d w b (fwd 2 r) + w 2 * cot x d w b (fwd 1 r) else 0
/-- the cotangent of a tap. -/
def dtap (k : Fin 4) : EReal := ∑ r, cot x d w b r * pad x (back (3 - k.val) r)
end channel

variable (m : (ℓ : Loc nD τ sig) → Buf (Elt Ideal) ℓ)

/-- The windows' blocks move together along the columns; the signal's columns start at column 512 of its array. -/
theorem idx : ∀ t : Fin cfg0.N, win0_0.index t = ![0, t.val + 4] ∧ win0_1.index t = ![0, t.val] ∧ win0_2.index t = ![0, t.val] ∧ win0_3.index t = ![0, t.val]
    ∧ win0_4.index t = ![0, t.val] ∧ win0_5.index t = ![0, t.val] ∧ win0_6.index t = ![0, t.val] :=
  (by decide +kernel : ∀ t : Fin grid0.N, _)

/-- The four operands' channels. -/
def chx (c : Dev nD) (q : Fin 768) (r : Fin 2176) : EReal := V m c main_v1 (ix2 r ⟨q.val + 512, by omega⟩)
def chd (c : Dev nD) (q : Fin 768) (r : Fin 2176) : EReal := V m c main_v4 (ix2 r q)
def chw (c : Dev nD) (q : Fin 768) (k : Fin 4) : EReal := V m c main_arg1 (ix2 k q)
def chb (c : Dev nD) (q : Fin 768) : EReal := V m c main_v2 (ix2 0 q)

section block
variable (X D : FVec Ideal S2176x128 .f32) (w0 w1 w2 w3 b : FVec Ideal S1x128 .f32) (r : Fin 2176) (q : Fin 128)

/-- A block's channels. -/
def col (X : FVec Ideal S2176x128 .f32) (q : Fin 128) : Fin 2176 → EReal := fun r => X (ix2 r q)
def taps (w0 w1 w2 w3 : FVec Ideal S1x128 .f32) (q : Fin 128) : Fin 4 → EReal := ![w0 (ix2 0 q), w1 (ix2 0 q), w2 (ix2 0 q), w3 (ix2 0 q)]

theorem pay5_apply : k0_pay5 (F := Ideal) X (ix2 r q) = pad (col X q) r := by
  pointwise [k0_pay5, k0_pay4, pad, col]
  exact select_sge_ofNat _ _ (by have := r.isLt; omega) (by decide) _ _
theorem pay6_apply : k0_pay6 (F := Ideal) X (ix2 r q) = pad (col X q) (back 3 r) := by
  pointwise [k0_pay6]
  rw [pay5_apply]; rfl
theorem pay7_apply : k0_pay7 (F := Ideal) X (ix2 r q) = pad (col X q) (back 2 r) := by
  pointwise [k0_pay7]
  rw [pay5_apply]; rfl
theorem pay8_apply : k0_pay8 (F := Ideal) X (ix2 r q) = pad (col X q) (back 1 r) := by
  pointwise [k0_pay8]
  rw [pay5_apply]; rfl
theorem pay9_apply : k0_pay9 (F := Ideal) X b w0 w1 w2 w3 (ix2 r q) = pre (col X q) (taps w0 w1 w2 w3 q) (b (ix2 0 q)) r := by
  pointwise [k0_pay9]
  rw [pay5_apply, pay6_apply, pay7_apply, pay8_apply]; rfl
theorem pay10_apply : k0_pay10 (F := Ideal) X b w0 w1 w2 w3 (ix2 r q) = sg (col X q) (taps w0 w1 w2 w3 q) (b (ix2 0 q)) r := by
  pointwise [k0_pay10]
  rw [pay9_apply]; rfl
theorem pay11_apply : k0_pay11 (F := Ideal) k0_pay4 (k0_pay9 X b w0 w1 w2 w3) (k0_pay10 X b w0 w1 w2 w3) D (ix2 r q)
    = cot (col X q) (col D q) (taps w0 w1 w2 w3 q) (b (ix2 0 q)) r := by
  pointwise [k0_pay11, k0_pay4]
  rw [pay9_apply, pay10_apply]
  exact select_sge_ofNat _ _ (by have := r.isLt; omega) (by decide) _ _
theorem dx_apply : k0_pay3 (F := Ideal) k0_pay4 (k0_pay11 k0_pay4 (k0_pay9 X b w0 w1 w2 w3) (k0_pay10 X b w0 w1 w2 w3) D)
      (k0_pay15 k0_pay4 (k0_pay9 X b w0 w1 w2 w3) (k0_pay10 X b w0 w1 w2 w3) D w3 w0 w1) w2 (ix2 r q)
    = dsig (col X q) (col D q) (taps w0 w1 w2 w3 q) (b (ix2 0 q)) r := by
  generalize hc : k0_pay11 (F := Ideal) k0_pay4 (k0_pay9 X b w0 w1 w2 w3) (k0_pay10 X b w0 w1 w2 w3) D = C
  have e : ∀ r, C (ix2 r q) = cot (col X q) (col D q) (taps w0 w1 w2 w3 q) (b (ix2 0 q)) r := fun r => by rw [← hc, pay11_apply]
  have e15 : k0_pay15 (F := Ideal) k0_pay4 (k0_pay9 X b w0 w1 w2 w3) (k0_pay10 X b w0 w1 w2 w3) D w3 w0 w1 (ix2 r q)
      = w3 (ix2 0 q) * C (ix2 r q) + w0 (ix2 0 q) * C (ix2 (fwd 3 r) q) + w1 (ix2 0 q) * C (ix2 (fwd 2 r) q) := by
    unfold k0_pay15
    rw [hc]
    pointwise []
    rfl
  generalize k0_pay15 (F := Ideal) k0_pay4 (k0_pay9 X b w0 w1 w2 w3) (k0_pay10 X b w0 w1 w2 w3) D w3 w0 w1 = E at e15 ⊢
  have e3 : k0_pay3 (F := Ideal) k0_pay4 C E w2 (ix2 r q)
      = if 112 ≤ r.val then E (ix2 r q) + w2 (ix2 0 q) * C (ix2 (fwd 1 r) q) else 0 := by
    pointwise [k0_pay3, k0_pay4]
    exact select_sge_ofNat _ _ (by have := r.isLt; omega) (by decide) _ _
  rw [e3, e15, e, e, e, e]; rfl
theorem db_apply : k0_pay12 (F := Ideal) k0_pay4 (k0_pay9 X b w0 w1 w2 w3) (k0_pay10 X b w0 w1 w2 w3) D (ix2 0 q)
    = ∑ r, cot (col X q) (col D q) (taps w0 w1 w2 w3 q) (b (ix2 0 q)) r := by
  pointwise [k0_pay12]
  simp only [pay11_apply]
theorem dw0_apply : k0_pay13 (F := Ideal) k0_pay4 (k0_pay6 X) (k0_pay9 X b w0 w1 w2 w3) (k0_pay10 X b w0 w1 w2 w3) D (ix2 0 q)
    = dtap (col X q) (col D q) (taps w0 w1 w2 w3 q) (b (ix2 0 q)) 0 := by
  pointwise [k0_pay13]
  simp only [pay11_apply, pay6_apply]
  rfl
theorem dw1_apply : k0_pay14 (F := Ideal) k0_pay4 (k0_pay7 X) (k0_pay9 X b w0 w1 w2 w3) (k0_pay10 X b w0 w1 w2 w3) D (ix2 0 q)
    = dtap (col X q) (col D q) (taps w0 w1 w2 w3 q) (b (ix2 0 q)) 1 := by
  pointwise [k0_pay14]
  simp only [pay11_apply, pay7_apply]
  rfl
theorem dw2_apply : k0_pay1 (F := Ideal) (k0_pay16 k0_pay4 (k0_pay8 X) (k0_pay9 X b w0 w1 w2 w3) (k0_pay10 X b w0 w1 w2 w3) D) (ix2 0 q)
    = dtap (col X q) (col D q) (taps w0 w1 w2 w3 q) (b (ix2 0 q)) 2 := by
  pointwise [k0_pay1, k0_pay16]
  simp only [pay11_apply, pay8_apply]
  rfl
theorem dw3_apply : k0_pay2 (F := Ideal) (k0_pay5 X) (k0_pay11 k0_pay4 (k0_pay9 X b w0 w1 w2 w3) (k0_pay10 X b w0 w1 w2 w3) D) (ix2 0 q)
    = dtap (col X q) (col D q) (taps w0 w1 w2 w3 q) (b (ix2 0 q)) 3 := by
  pointwise [k0_pay2]
  simp only [pay11_apply, pay5_apply]
  refine Finset.sum_congr rfl fun r _ => congrArg (fun k => (cot (col X q) (col D q) (taps w0 w1 w2 w3 q) (b (ix2 0 q)) r * pad (col X q) k : EReal)) (Fin.ext ?_)
  show r.val = (r.val + 2176) % 2176
  have := r.isLt
  omega
end block

/-- The blocks the four input windows hold at a point, and where their channels come from. -/
theorem col0 (c : Dev nD) (t : Fin cfg0.N) (q : Fin 128) (h : t.val * 128 + q.val < 768) :
    col (View.ld (iblk m c 0 t) r0_0) q = chx m c ⟨t.val * 128 + q.val, h⟩ := by
  funext r
  blk_point [col, chx, iblk, V, idx t]
theorem col3 (c : Dev nD) (t : Fin cfg0.N) (q : Fin 128) (h : t.val * 128 + q.val < 768) :
    col (View.ld (iblk m c 3 t) r0_0) q = chd m c ⟨t.val * 128 + q.val, h⟩ := by
  funext r
  blk_point [col, chd, iblk, V, idx t]
theorem col3' (c : Dev nD) (t : Fin cfg0.N) (q : Fin 128) (h : t.val * 128 + q.val < 768) :
    col (iblk m c 3 t) q = chd m c ⟨t.val * 128 + q.val, h⟩ := by
  funext r
  blk_point [col, chd, iblk, V, idx t]
theorem taps1 (c : Dev nD) (t : Fin cfg0.N) (q : Fin 128) (h : t.val * 128 + q.val < 768) :
    taps (View.ld (iblk m c 1 t) r0_2) (View.ld (iblk m c 1 t) r0_3) (View.ld (iblk m c 1 t) r0_4) (View.ld (iblk m c 1 t) r0_5) q
      = chw m c ⟨t.val * 128 + q.val, h⟩ := by
  funext k
  have e : k = 0 ∨ k = 1 ∨ k = 2 ∨ k = 3 := by fin_cases k <;> simp
  rcases e with rfl | rfl | rfl | rfl
  · show View.ld (iblk m c 1 t) r0_2 (ix2 0 q) = _
    blk_point [chw, iblk, V, idx t]
  · show View.ld (iblk m c 1 t) r0_3 (ix2 0 q) = _
    blk_point [chw, iblk, V, idx t]
  · show View.ld (iblk m c 1 t) r0_4 (ix2 0 q) = _
    blk_point [chw, iblk, V, idx t]
  · show View.ld (iblk m c 1 t) r0_5 (ix2 0 q) = _
    blk_point [chw, iblk, V, idx t]
theorem bias2 (c : Dev nD) (t : Fin cfg0.N) (q : Fin 128) (h : t.val * 128 + q.val < 768) :
    View.ld (iblk m c 2 t) r0_1 (ix2 0 q) = chb m c ⟨t.val * 128 + q.val, h⟩ := by
  blk_point [chb, iblk, V, idx t]

/-- The results' channels. -/
def fdx (c : Dev nD) (r : Fin 2176) (q : Fin 768) : EReal := dsig (chx m c q) (chd m c q) (chw m c q) (chb m c q) r
def fdw (c : Dev nD) (k : Fin 4) (q : Fin 768) : EReal := dtap (chx m c q) (chd m c q) (chw m c q) (chb m c q) k
def fdb (c : Dev nD) (q : Fin 768) : EReal := ∑ r, cot (chx m c q) (chd m c q) (chw m c q) (chb m c q) r

section point
variable (c : Dev nD) (t : Fin cfg0.N) (q : Fin 128) (h : t.val * 128 + q.val < 768)
include h

/-- What a point leaves in the results' staging buffers. -/
theorem point4 (r : Fin 2176) : out0_4 (iblk m c 0 t) (iblk m c 1 t) (iblk m c 2 t) (iblk m c 3 t) (ix2 r q) = fdx m c r ⟨t.val * 128 + q.val, h⟩ := by
  unfold_out out0_4
  canon_tiles z hz
  have ez : z = ix2 r q := (eq_ix2 z).trans (congrArg₂ ix2 (Fin.ext (by have : r.val = (z 0).val := hz0; omega)) (Fin.ext (by have : q.val = (z 1).val := hz1; omega)))
  rw [ez]
  exact (dx_apply _ _ _ _ _ _ _ r q).trans (congrFun (congr (congr (congr (congrArg dsig (col0 m c t q h)) (col3 m c t q h)) (taps1 m c t q h)) (bias2 m c t q h)) r)
theorem point5 (k : Fin 4) : out0_5 (iblk m c 0 t) (iblk m c 1 t) (iblk m c 2 t) (iblk m c 3 t) (ix2 k q) = fdw m c k ⟨t.val * 128 + q.val, h⟩ := by
  have hc := congr (congr (congr (congrArg dtap (col0 m c t q h)) (col3 m c t q h)) (taps1 m c t q h)) (bias2 m c t q h)
  unfold_out out0_5
  canon_tiles z hz
  all_goals
    have ez : z = ix2 0 q := (eq_ix2 z).trans (congrArg₂ ix2 (Subsingleton.elim (α := Fin 1) _ _) (Fin.ext (by have : q.val = (z 1).val := hz1; omega)))
    rw [ez]
  · rw [show k = 3 from Fin.ext (by have : k.val = 3 + (z 0).val := hz0; omega)]
    exact (dw3_apply _ _ _ _ _ _ _ q).trans (congrFun hc 3)
  · rw [show k = 2 from Fin.ext (by have : k.val = 2 + (z 0).val := hz0; omega)]
    exact (dw2_apply _ _ _ _ _ _ _ q).trans (congrFun hc 2)
  · rw [show k = 1 from Fin.ext (by have : k.val = 1 + (z 0).val := hz0; omega)]
    exact (dw1_apply _ _ _ _ _ _ _ q).trans (congrFun hc 1)
  · rw [show k = 0 from Fin.ext (by have : k.val = (z 0).val := hz0; omega)]
    exact (dw0_apply _ _ _ _ _ _ _ q).trans (congrFun hc 0)
theorem point6 (k : Fin 1) : out0_6 (iblk m c 0 t) (iblk m c 1 t) (iblk m c 2 t) (iblk m c 3 t) (ix2 k q) = fdb m c ⟨t.val * 128 + q.val, h⟩ := by
  frame_out
  rw [Subsingleton.elim k 0]
  exact (db_apply _ _ _ _ _ _ _ q).trans (congrArg (fun f => ∑ r, f r) (congr (congr (congr (congrArg cot (col0 m c t q h)) (col3' m c t q h)) (taps1 m c t q h)) (bias2 m c t q h)))
end point

/-- The cotangent of the signal, channel by channel. -/
theorem arr4 (c : Dev nD) : (dats m 0 c).arrAt 4 (cfgs 0).N = fun i : S2176x768.Idx => fdx m c (i 0) (i 1) := by
  refine (dats m 0 c).arrAt_eq_of_covers 4 _ (by decide +kernel) fun t _ y => ?_
  blk_simp
  rw [after0_4]
  have hq : t.val * 128 + (y 1).val < 768 := by have : t.val < 6 := t.isLt; have : (y 1).val < 128 := (y 1).isLt; omega
  refine Eq.trans ((congrArg _ (eq_ix2 y)).trans (point4 m c t (y 1) hq (y 0))) (congrArg₂ (fdx m c) (Fin.ext ?_) (Fin.ext ?_))
  · blk_simp [idx t] <;> try omega
  · blk_simp [idx t] <;> try omega

/-- The cotangent of the taps. -/
theorem arr5 (c : Dev nD) : (dats m 0 c).arrAt 5 (cfgs 0).N = fun i : S4x768.Idx => fdw m c (i 0) (i 1) := by
  refine (dats m 0 c).arrAt_eq_of_covers 5 _ (by decide +kernel) fun t _ y => ?_
  blk_simp
  rw [after0_5]
  have hq : t.val * 128 + (y 1).val < 768 := by have : t.val < 6 := t.isLt; have : (y 1).val < 128 := (y 1).isLt; omega
  refine Eq.trans ((congrArg _ (eq_ix2 y)).trans (point5 m c t (y 1) hq (y 0))) (congrArg₂ (fdw m c) (Fin.ext ?_) (Fin.ext ?_))
  · blk_simp [idx t] <;> try omega
  · blk_simp [idx t] <;> try omega

/-- The cotangent of the bias. -/
theorem arr6 (c : Dev nD) : (dats m 0 c).arrAt 6 (cfgs 0).N = fun i : S1x768.Idx => fdb m c (i 1) := by
  refine (dats m 0 c).arrAt_eq_of_covers 6 _ (by decide +kernel) fun t _ y => ?_
  blk_simp
  rw [after0_6]
  have hq : t.val * 128 + (y 1).val < 768 := by have : t.val < 6 := t.isLt; have : (y 1).val < 128 := (y 1).isLt; omega
  refine Eq.trans ((congrArg _ (eq_ix2 y)).trans (point6 m c t (y 1) hq (y 0))) (congrArg (fdb m c) (Fin.ext ?_))
  blk_simp [idx t] <;> try omega

end Cert.ConvKernelIdeal.Value
-- ==== Proof.ConvFinal.lean ====
/- The convolution's backward call: the kernel's three result arrays are the reference's. -/
module

public import proofs.«01_k».proof.Defs
public import proofs.«01_k».proof.Proof.ConvValue
public import proofs.«01_k».proof.Proof.Gen.ConvReferenceIdeal.Read
public import proofs.«01_k».proof.Proof.Gen.Pre_finite_conv
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvKernelIdeal.Value

open Cert.ConvKernelIdeal Cert.ConvKernelIdeal.Gen Cert.ConvReferenceIdeal.Read

variable (m : (ℓ : Loc nD τ sig) → Buf (Elt Ideal) ℓ)

/-- A channel below 112 rows of zeros. -/
def under (x : FVec Ideal S1x2064x768 .f32) (q : Fin 768) (r : Fin 2176) : EReal := if 112 ≤ r.val then x (ix3 0 ⟨r.val - 112, by omega⟩ q) else 0
/-- A channel's taps and its bias. -/
def tap (w : FVec Ideal S4x768 .f32) (q : Fin 768) (k : Fin 4) : EReal := w (ix2 k q)
def bia (b : FVec Ideal S768 .f32) (q : Fin 768) : EReal := b (ix1 q)

theorem sitofp_zero : (FloatOps.sitofp (F := Ideal) FTy.f32 (0#32 : BitVec 32)) = (0 : EReal) := by simp [FloatOps.sitofp]

/-- The operands: the signal's channels from column 512 on, -/
theorem V1 (c : Dev nD) : V m c main_v1 = fun i : S2176x2816.Idx => if h : 512 ≤ (i 1).val ∧ (i 1).val < 1280 then under (m ((c : Thread nD τ).loc main_arg0)) ⟨(i 1).val - 512, by omega⟩ (i 0) else 0 := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [under]
  by_cases h1 : 112 ≤ i0.val <;> by_cases h2 : 512 ≤ i1.val ∧ i1.val < 1280
  · rw [dif_pos (by omega), dif_pos h2, if_pos h1]
  · rw [dif_neg (by omega), dif_neg h2]; exact sitofp_zero
  · rw [dif_neg (by omega), dif_pos h2, if_neg h1]; exact sitofp_zero
  · rw [dif_neg (by omega), dif_neg h2]; exact sitofp_zero
/-- the cotangent below 112 rows of zeros, -/
theorem V4 (c : Dev nD) : V m c main_v4 = fun i : S2176x768.Idx => under (m ((c : Thread nD τ).loc main_arg3)) (i 1) (i 0) := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [under]
  simp only [sitofp_zero, show i0.val - 112 < 2064 by omega, and_true]
  rfl
/-- the bias and the taps. -/
theorem V2 (c : Dev nD) : V m c main_v2 = fun i : S1x768.Idx => bia (m ((c : Thread nD τ).loc main_arg2)) (i 1) := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [bia]
theorem V_arg1 (c : Dev nD) : V m c main_arg1 = m ((c : Thread nD τ).loc main_arg1) := by
  unfold V
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results

/-- The precondition: the cotangent is finite. -/
theorem finite (h : Pre_ConvKernelIdeal_finite_conv m) (c : Dev nD) (i : S1x2064x768.Idx) : ∃ r : ℝ, m ((c : Thread nD τ).loc main_arg3) i = (r : EReal) := by
  have e := congrFun (h c) i
  pointwise [Cert.Pre_finite_conv.fn] at e
  exact Reals.real_of_abs _ e

variable (x d : FVec Ideal S1x2064x768 .f32) (w : FVec Ideal S4x768 .f32) (b : FVec Ideal S768 .f32) (r : Fin 2064) (q : Fin 768)

/-- A row of the array below the zeros. -/
abbrev below (r : Fin 2064) : Fin 2176 := ⟨r.val + 112, by omega⟩

/-- A padded row, some rows up. -/
theorem pad_up (j : ℕ) (hj : j ≤ 3) : pad (under x q) (back (3 - j) (below r)) = if h : j + r.val < 3 then 0 else x (ix3 0 ⟨j + r.val - 3, by omega⟩ q) := by
  have hr := r.isLt
  have hb : (r.val + 112 + (2176 - (3 - j))) % 2176 = r.val + 112 + j - 3 := by omega
  have e : back (3 - j) (below r) = ⟨r.val + 112 + j - 3, by omega⟩ := Fin.ext hb
  rw [e]
  unfold pad under
  by_cases h : j + r.val < 3
  · rw [dif_pos h]; exact if_neg (by show ¬ 112 ≤ r.val + 112 + j - 3; omega)
  · rw [dif_neg h]
    refine (if_pos (by show 112 ≤ r.val + 112 + j - 3; omega)).trans ((if_pos (by show 112 ≤ r.val + 112 + j - 3; omega)).trans ?_)
    exact congrArg x (congrArg (fun k => ix3 0 k q) (Fin.ext (by show r.val + 112 + j - 3 - 112 = j + r.val - 3; omega)))
theorem under_at : under x q (below r) = x (ix3 0 r q) := by
  unfold under
  rw [if_pos (by show 112 ≤ r.val + 112; omega)]
  exact congrArg x (congrArg (fun k => ix3 0 k q) (Fin.ext (by show r.val + 112 - 112 = r.val; omega)))
theorem pad_at : pad (under x q) (below r) = x (ix3 0 r q) := by
  unfold pad
  rw [if_pos (by show 112 ≤ r.val + 112; omega), under_at]

/-- The reference's four shifted signals. -/
theorem sh3 : val_main_v3 (F := Ideal) x (ix3 0 r q) = pad (under x q) (back 3 (below r)) := by
  have e := pad_up x r q 0 (by omega)
  simp only [Nat.zero_add, Nat.sub_zero] at e
  pointwise [val_main_cst, val_main_v0, val_main_v1, val_main_cst_0, val_main_v2, val_main_v3]
  exact e.symm
theorem sh11 : val_main_v11 (F := Ideal) x (ix3 0 r q) = pad (under x q) (back 2 (below r)) := by
  pointwise [val_main_cst, val_main_v0, val_main_v1, val_main_v11]
  exact (pad_up x r q 1 (by omega)).symm
theorem sh18 : val_main_v18 (F := Ideal) x (ix3 0 r q) = pad (under x q) (back 1 (below r)) := by
  pointwise [val_main_cst, val_main_v0, val_main_v1, val_main_v18]
  exact (pad_up x r q 2 (by omega)).symm
theorem back_zero : back 0 (below r) = below r := Fin.ext (by show (r.val + 112 + 2176) % 2176 = r.val + 112; omega)
theorem sh25 : val_main_v25 (F := Ideal) x (ix3 0 r q) = pad (under x q) (below r) := by
  pointwise [val_main_cst, val_main_v0, val_main_v1, val_main_v25]
  rw [pad_at]

theorem pre_comm (a0 a1 a2 a3 w0 w1 w2 w3 b : EReal) : a0 * w0 + a1 * w1 + a2 * w2 + a3 * w3 + b = b + w0 * a0 + w1 * a1 + w2 * a2 + w3 * a3 := by
  ac_rfl

/-- The reference's convolution. -/
theorem pre_eq : val_main_v34 (F := Ideal) x w b (ix3 0 r q) = pre (under x q) (tap w q) (bia b q) (below r) := by
  pointwise [val_main_v4, val_main_v5, val_main_v6, val_main_v7, val_main_v8, val_main_cst_1, val_main_v9, val_main_v10, val_main_v12, val_main_v13, val_main_v14, val_main_v15, val_main_v16, val_main_v17, val_main_v19, val_main_v20, val_main_v21, val_main_v22, val_main_v23, val_main_v24, val_main_v26, val_main_v27, val_main_v28, val_main_v29, val_main_v30, val_main_v31, val_main_v32, val_main_v33, val_main_v34]
  rw [sh3, sh11, sh18, sh25, pre]
  exact pre_comm _ _ _ _ _ _ _ _ _

/-- The reference's cotangent of the convolution, for a finite cotangent of the result. -/
theorem cot_eq (hd : ∃ e : ℝ, d (ix3 0 r q) = (e : EReal)) : val_main_v36 (F := Ideal) x w b d (ix3 0 r q) = cot (under x q) (under d q) (tap w q) (bia b q) (below r) := by
  obtain ⟨e, he⟩ := hd
  pointwise [val_main_call0_v0, val_main_call0_v1, val_main_call0_cst, val_main_call0_v2, val_main_call0_v3, val_main_call0_cst_0, val_main_call0_v4, val_main_v35_2, val_main_call0_cst_1, val_main_call0_v6, val_main_call0_v7, val_main_v35_1, val_main_v35_0, val_main_call1_v0, val_main_call1_v1, val_main_call1_v2, val_main_v36]
  rw [pre_eq, cot, if_pos (by show 112 ≤ r.val + 112; omega), under_at, he]
  simp only [sg, Reals.silu_ct]
  simp only [sub_eq_add_neg, zero_add]

theorem cot_above (k : Fin 2176) (hk : k.val < 112) : cot (under x q) (under d q) (tap w q) (bia b q) k = 0 := if_neg (by omega)

theorem sum_below (f : Fin 2176 → EReal) (h : ∀ k : Fin 2176, k.val < 112 → f k = 0) : ∑ k, f k = ∑ r : Fin 2064, f (below r) := by
  rw [Fin.sum_univ_add (a := 112) (b := 2064), Finset.sum_eq_zero fun i _ => h _ i.isLt, zero_add]
  exact Finset.sum_congr rfl fun r _ => congrArg f (Fin.ext (Nat.add_comm _ _))

/-- The cotangents of the bias, -/
theorem db_eq (hd : ∀ i, ∃ e : ℝ, d i = (e : EReal)) (k : Fin 1) : ∑ r, cot (under x q) (under d q) (tap w q) (bia b q) r = val_main_v86 (F := Ideal) x w b d (ix2 k q) := by
  pointwise [val_main_cst_2, val_main_v37, val_main_v38, val_main_cst_3, val_main_v39, val_main_v86]
  rw [sum_below _ fun k h => cot_above x d w b q k h]
  simp only [Fintype.sum_unique]
  exact Finset.sum_congr rfl fun r _ => (cot_eq x d w b r q (hd _)).symm
/-- of the taps, -/
theorem dw_eq (hd : ∀ i, ∃ e : ℝ, d i = (e : EReal)) (k : Fin 4) : dtap (under x q) (under d q) (tap w q) (bia b q) k = val_main_v79 (F := Ideal) x w b d (ix2 k q) := by
  have e : dtap (under x q) (under d q) (tap w q) (bia b q) k = ∑ r : Fin 2064, pad (under x q) (back (3 - k.val) (below r)) * val_main_v36 (F := Ideal) x w b d (ix3 0 r q) := by
    rw [dtap, sum_below _ fun k h => by rw [cot_above x d w b q k h, zero_mul]]
    exact Finset.sum_congr rfl fun r _ => by rw [cot_eq x d w b r q (hd _), mul_comm]
  rw [e]
  pointwise [val_main_v40, val_main_cst_4, val_main_v41, val_main_v42, val_main_v43, val_main_v44, val_main_cst_5, val_main_v45, val_main_v46, val_main_cst_6, val_main_v47, val_main_v49, val_main_cst_8, val_main_v50, val_main_v51, val_main_cst_9, val_main_v54, val_main_v55, val_main_cst_10, val_main_v56, val_main_v57, val_main_v60, val_main_cst_12, val_main_v61, val_main_v62, val_main_cst_13, val_main_v65, val_main_v66, val_main_cst_14, val_main_v67, val_main_v68, val_main_v71, val_main_cst_16, val_main_v72, val_main_v73, val_main_cst_17, val_main_v76, val_main_v77, val_main_cst_18, val_main_v78, val_main_v79]
  simp only [Fintype.sum_unique, sh3, sh11, sh18, sh25]
  fin_vals k with hk
  all_goals simp only [hk, Nat.reduceSub, Nat.reduceLT, Nat.reduceLeDiff, and_true, true_and, and_false, false_and, dite_true, dite_false, zero_add, add_zero, back_zero]
/-- A cotangent some rows down. -/
theorem cot_down (hd : ∀ i, ∃ e : ℝ, d i = (e : EReal)) (k : Fin 2176) (hk : 112 ≤ k.val) (j n : ℕ) (hj : j ≤ 3) (hn : n = k.val - 112 + j) :
    cot (under x q) (under d q) (tap w q) (bia b q) (fwd j k) = if h : n < 2064 then val_main_v36 (F := Ideal) x w b d (ix3 0 ⟨n, h⟩ q) else 0 := by
  have := k.isLt
  by_cases h : n < 2064
  · rw [dif_pos h, cot_eq _ _ _ _ _ _ (hd _)]
    exact congrArg _ (Fin.ext (by show (k.val + j) % 2176 = n + 112; omega))
  · rw [dif_neg h]
    exact cot_above x d w b q _ (by show (k.val + j) % 2176 < 112; omega)
theorem dx_comm (w0 w1 w2 w3 c0 c1 c2 c3 : EReal) : w3 * c0 + w0 * c3 + w1 * c2 + w2 * c1 = c0 * w3 + c1 * w2 + c2 * w1 + c3 * w0 := by
  ac_rfl
theorem dite_mul (P : Prop) [Decidable P] (f : P → EReal) (w : EReal) : (if h : P then f h * w else 0) = (if h : P then f h else 0) * w := by
  split <;> simp
theorem dx_read (k : Fin 2176) (h : 112 ≤ k.val) : val_main_v85 (F := Ideal) x w b d (ix2 k q)
    = (if h : k.val - 112 < 2064 then val_main_v36 (F := Ideal) x w b d (ix3 0 ⟨k.val - 112, h⟩ q) else 0) * w (ix2 3 q)
      + (if h : 3 + (k.val - 112) - 2 < 2064 then val_main_v36 (F := Ideal) x w b d (ix3 0 ⟨3 + (k.val - 112) - 2, h⟩ q) else 0) * w (ix2 2 q)
      + (if h : 3 + (k.val - 112) - 1 < 2064 then val_main_v36 (F := Ideal) x w b d (ix3 0 ⟨3 + (k.val - 112) - 1, h⟩ q) else 0) * w (ix2 1 q)
      + (if h : 3 + (k.val - 112) < 2064 then val_main_v36 (F := Ideal) x w b d (ix3 0 ⟨3 + (k.val - 112), h⟩ q) else 0) * w (ix2 0 q) := by
  pointwise [val_main_v4, val_main_v5, val_main_v6, val_main_v12, val_main_v13, val_main_v14, val_main_v19, val_main_v20, val_main_v21, val_main_v26, val_main_v27, val_main_v28, val_main_v43, val_main_v44, val_main_cst_7, val_main_v48, val_main_v52, val_main_v53, val_main_cst_11, val_main_v58, val_main_v59, val_main_v63, val_main_v64, val_main_cst_15, val_main_v69, val_main_v70, val_main_v74, val_main_v75, val_main_cst_19, val_main_v80, val_main_v81, val_main_v82, val_main_v83, val_main_v84, val_main_c, val_main_call2_v0, val_main_v85]
  have hk := k.isLt
  simp only [dif_pos (show 112 ≤ k.val ∧ k.val - 112 < 2064 by omega), show 2 ≤ 3 + (k.val - 112) by omega, show 1 ≤ 3 + (k.val - 112) by omega, true_and, dite_mul]
theorem dx_above (k : Fin 2176) (h : ¬ 112 ≤ k.val) : val_main_v85 (F := Ideal) x w b d (ix2 k q) = 0 := by
  pointwise [val_main_c, val_main_call2_v0, val_main_v85]
  rw [dif_neg (by omega)]
  exact sitofp_zero
/-- and of the signal. -/
theorem dx_eq (hd : ∀ i, ∃ e : ℝ, d i = (e : EReal)) (k : Fin 2176) : dsig (under x q) (under d q) (tap w q) (bia b q) k = val_main_v85 (F := Ideal) x w b d (ix2 k q) := by
  have hk := k.isLt
  by_cases h : 112 ≤ k.val
  · have e0 := cot_down x d w b q hd k h 0 (k.val - 112) (by omega) (by omega)
    have e1 := cot_down x d w b q hd k h 1 (3 + (k.val - 112) - 2) (by omega) (by omega)
    have e2 := cot_down x d w b q hd k h 2 (3 + (k.val - 112) - 1) (by omega) (by omega)
    have e3 := cot_down x d w b q hd k h 3 (3 + (k.val - 112)) (by omega) (by omega)
    have ez : fwd 0 k = k := Fin.ext (by show (k.val + 0) % 2176 = k.val; omega)
    rw [ez] at e0
    rw [dx_read x d w b q k h, ← e0, ← e1, ← e2, ← e3, ← dx_comm]
    exact if_pos h
  · rw [dx_above x d w b q k h]
    exact if_neg h

/-- The operands' channels are the arguments'. -/
theorem chx_eq (c : Dev nD) (q : Fin 768) : chx m c q = under (m ((c : Thread nD τ).loc main_arg0)) q := by
  funext r
  unfold chx
  rw [V1]
  have hq := q.isLt
  exact (dif_pos (show 512 ≤ q.val + 512 ∧ q.val + 512 < 1280 by omega)).trans (congrArg (fun k => under _ k r) (Fin.ext (Nat.add_sub_cancel _ _)))
theorem chd_eq (c : Dev nD) (q : Fin 768) : chd m c q = under (m ((c : Thread nD τ).loc main_arg3)) q := by
  funext r
  unfold chd
  rw [V4]; rfl
theorem chw_eq (c : Dev nD) (q : Fin 768) : chw m c q = tap (m ((c : Thread nD τ).loc main_arg1)) q := by
  funext k
  unfold chw tap
  rw [V_arg1]
theorem chb_eq (c : Dev nD) (q : Fin 768) : chb m c q = bia (m ((c : Thread nD τ).loc main_arg2)) q := by
  unfold chb
  rw [V2]; rfl

/-- The three result arrays. -/
theorem final4 (h : Pre_ConvKernelIdeal_finite_conv m) (c : Dev nD) : (dats m 0 c).arrAt 4 (cfgs 0).N = val_main_v85 (F := Ideal) (m ((c : Thread nD τ).loc main_arg0)) (m ((c : Thread nD τ).loc main_arg1)) (m ((c : Thread nD τ).loc main_arg2)) (m ((c : Thread nD τ).loc main_arg3)) := by
  rw [arr4]
  funext i
  idx_vars i
  show fdx m c i0 i1 = _
  rw [fdx, chx_eq, chd_eq, chw_eq, chb_eq]
  exact dx_eq _ _ _ _ _ (finite m h c) _
theorem final5 (h : Pre_ConvKernelIdeal_finite_conv m) (c : Dev nD) : (dats m 0 c).arrAt 5 (cfgs 0).N = val_main_v79 (F := Ideal) (m ((c : Thread nD τ).loc main_arg0)) (m ((c : Thread nD τ).loc main_arg1)) (m ((c : Thread nD τ).loc main_arg2)) (m ((c : Thread nD τ).loc main_arg3)) := by
  rw [arr5]
  funext i
  idx_vars i
  show fdw m c i0 i1 = _
  rw [fdw, chx_eq, chd_eq, chw_eq, chb_eq]
  exact dw_eq _ _ _ _ _ (finite m h c) _
theorem final6 (h : Pre_ConvKernelIdeal_finite_conv m) (c : Dev nD) : (dats m 0 c).arrAt 6 (cfgs 0).N = val_main_v86 (F := Ideal) (m ((c : Thread nD τ).loc main_arg0)) (m ((c : Thread nD τ).loc main_arg1)) (m ((c : Thread nD τ).loc main_arg2)) (m ((c : Thread nD τ).loc main_arg3)) := by
  rw [arr6]
  funext i
  idx_vars i
  show fdb m c i1 = _
  rw [fdb, chx_eq, chd_eq, chw_eq, chb_eq]
  exact db_eq _ _ _ _ _ (finite m h c) _

end Cert.ConvKernelIdeal.Value
-- ==== Proof.ConvClaim.lean ====
/- The convolution's backward call is the derivative of the reference's convolution and activation, where the cotangent is finite. -/
module

public import proofs.«01_k».proof.Defs
public import proofs.«01_k».proof.Proof.ConvFinal
public import proofs.«01_k».proof.Proof.Gen.ConvReferenceIdeal.Read

@[expose] public section

set_option maxRecDepth 16384

noncomputable section

open Idealize.ShloMosaic Idealize.ShloMosaic.TcCoe Idealize.SL.Sem
open Idealize.ShloMosaic.Pipeline (Dat)

namespace Cert.ConvReferenceIdeal.Read

open Cert.ConvReferenceIdeal Cert.ConvReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v85) = val_main_v85 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v79) = val_main_v79 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v86) = val_main_v86 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v85_eq m c), (h c).2.1.trans (val_main_v79_eq m c), (h c).2.2.1.trans (val_main_v86_eq m c), (h c).2.2.2⟩) (Value.run m ρ)

end Cert.ConvReferenceIdeal.Read

namespace Cert.ConvKernelIdeal.Value

/-- The convolution's backward call is the derivative of the reference's convolution and activation, where the cotangent is finite. -/
theorem algebraic : Cert.algebraic_ConvKernelIdeal_ConvReferenceIdeal_pre_finite_conv := by
  pair_intro
  · run_from Cert.ConvKernelIdeal.Gen.run_main m g & Cert.ConvKernelIdeal.Gen.unchanged m g
  · run_from Cert.ConvReferenceIdeal.Read.run m' g'
    · exact (final4 m hpre c).symm
    · exact (final5 m hpre c).symm
    · exact (final6 m hpre c).symm

end Cert.ConvKernelIdeal.Value
-- ==== Proof.DtValue.lean ====
/- The step size's backward call: what the kernel's two result arrays hold, as functions of its four operands. -/
module

public import proofs.«01_k».proof.Proof.Gen.DtKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.DtKernelIdeal.Value

open Cert.DtKernelIdeal Cert.DtKernelIdeal.Gen Cert.Reals

/-- The step size's cotangent at a row below the padding: both layouts' sum times the logistic of the biased input. -/
def draw (d e x b : EReal) : EReal := (d + e) * Ideal.div 1 (1 + Ideal.exp (0 - (x + b)))

section block
variable (D : FVec Ideal S2176x128 .f32) (E : FVec Ideal S128x2176 .f32) (X : FVec Ideal S2176x128 .f32) (B : FVec Ideal S1x128 .f32) (r : Fin 2176) (q : Fin 128)

theorem pay1_apply : k0_pay1 (F := Ideal) D E X B (ix2 r q) = if 112 ≤ r.val then draw (D (ix2 r q)) (E (ix2 q r)) (X (ix2 r q)) (B (ix2 0 q)) else 0 := by
  pointwise [k0_pay1, draw]
  exact select_sge_ofNat _ _ (by have := r.isLt; omega) (by decide) _ _
theorem pay2_apply (z : Fin 1) : k0_pay2 (F := Ideal) D E X B (ix2 z q) = ∑ r : Fin 2176, k0_pay1 (F := Ideal) D E X B (ix2 r q) := by
  pointwise [k0_pay2]
end block

variable (m : (ℓ : Loc nD τ sig) → Buf (Elt Ideal) ℓ)

/-- The one point's blocks: the input's starts at column 2432 of its array, the others are whole. -/
theorem idx : ∀ t : Fin cfg0.N, win0_0.index t = ![0, 19] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The first result at a row and a column. -/
def fdx (c : Dev nD) (r : Fin 2176) (q : Fin 128) : EReal :=
  if 112 ≤ r.val then draw (V m c main_v6 (ix2 r q)) (V m c main_v8 (ix2 q r)) (V m c main_v1 (ix2 r ⟨q.val + 2432, by omega⟩)) (V m c main_v3 (ix2 0 q)) else 0

section point
variable (c : Dev nD) (t : Fin cfg0.N) (r : Fin 2176) (q : Fin 128)

/-- The blocks the four input windows hold. -/
theorem blk0 : View.ld (iblk m c 0 t) r0_0 (ix2 r q) = V m c main_v1 (ix2 r ⟨q.val + 2432, by omega⟩) := by
  blk_point [iblk, V, idx t]
theorem blk1 : View.ld (iblk m c 1 t) r0_2 (ix2 0 q) = V m c main_v3 (ix2 0 q) := by
  blk_point [iblk, V, idx t]
theorem blk2 : View.ld (iblk m c 2 t) r0_0 (ix2 r q) = V m c main_v6 (ix2 r q) := by
  blk_point [iblk, V, idx t]
theorem blk3 : View.ld (iblk m c 3 t) r0_1 (ix2 q r) = V m c main_v8 (ix2 q r) := by
  blk_point [iblk, V, idx t]
theorem pay1_blk : k0_pay1 (F := Ideal) (View.ld (iblk m c 2 t) r0_0) (View.ld (iblk m c 3 t) r0_1) (View.ld (iblk m c 0 t) r0_0) (View.ld (iblk m c 1 t) r0_2) (ix2 r q) = fdx m c r q :=
  (pay1_apply _ _ _ _ r q).trans (congrArg (fun k : EReal => if 112 ≤ r.val then k else 0)
    (congr (congr (congr (congrArg draw (blk2 m c t r q)) (blk3 m c t r q)) (blk0 m c t r q)) (blk1 m c t q)))

/-- What the point leaves in the results' staging buffers. -/
theorem point4 : out0_4 (iblk m c 0 t) (iblk m c 1 t) (iblk m c 2 t) (iblk m c 3 t) (ix2 r q) = fdx m c r q := by
  unfold out0_4
  canon_tiles z hz
  have ez : z = ix2 r q := (eq_ix2 z).trans (congrArg₂ ix2 (Fin.ext (by have : r.val = (z 0).val := hz0; omega)) (Fin.ext (by have : q.val = (z 1).val := hz1; omega)))
  rw [ez]
  exact pay1_blk m c t r q
theorem point5 (k : Fin 1) : out0_5 (iblk m c 0 t) (iblk m c 1 t) (iblk m c 2 t) (iblk m c 3 t) (ix2 k q) = ∑ r, fdx m c r q := by
  unfold out0_5
  canon_tiles z hz
  have ez : z = ix2 k q := (eq_ix2 z).trans (congrArg₂ ix2 (Subsingleton.elim (α := Fin 1) _ _) (Fin.ext (by have : q.val = (z 1).val := hz1; omega)))
  rw [ez]
  exact (pay2_apply _ _ _ _ q k).trans (Finset.sum_congr rfl fun r _ => pay1_blk m c t r q)
end point

/-- The input's cotangent. -/
theorem arr4 (c : Dev nD) : (dats m 0 c).arrAt 4 (cfgs 0).N = fun i : S2176x128.Idx => fdx m c (i 0) (i 1) := by
  refine (dats m 0 c).arrAt_eq_of_covers 4 _ (by decide +kernel) fun t _ y => ?_
  blk_simp
  rw [after0_4]
  refine Eq.trans ((congrArg _ (eq_ix2 y)).trans (point4 m c t (y 0) (y 1))) (congrArg₂ (fdx m c) (Fin.ext ?_) (Fin.ext ?_))
  · blk_simp [idx t] <;> try omega
  · blk_simp [idx t] <;> try omega
/-- The bias's cotangent. -/
theorem arr5 (c : Dev nD) : (dats m 0 c).arrAt 5 (cfgs 0).N = fun i : S1x128.Idx => ∑ r, fdx m c r (i 1) := by
  refine (dats m 0 c).arrAt_eq_of_covers 5 _ (by decide +kernel) fun t _ y => ?_
  blk_simp
  rw [after0_5]
  refine Eq.trans ((congrArg _ (eq_ix2 y)).trans (point5 m c t (y 1) (y 0))) (congrArg (fun q => ∑ r, fdx m c r q) (Fin.ext ?_))
  blk_simp [idx t] <;> try omega

end Cert.DtKernelIdeal.Value
-- ==== Proof.DtFinal.lean ====
/- The step size's backward call: the kernel's two result arrays are the reference's. -/
module

public import proofs.«01_k».proof.Defs
public import proofs.«01_k».proof.Proof.DtValue
public import proofs.«01_k».proof.Proof.Gen.DtReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DtKernelIdeal.Value

open Cert.DtKernelIdeal Cert.DtKernelIdeal.Gen Cert.DtReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the input in columns 2432 to 2439 below 112 rows of zeros, -/
theorem V1 (c : Dev nD) (r : Fin 2176) (q : Fin 128) : V m c main_v1 (ix2 r ⟨q.val + 2432, by omega⟩)
    = if h : 112 ≤ r.val ∧ q.val < 8 then m ((c : Thread nD τ).loc main_arg0) (ix3 0 ⟨r.val - 112, by omega⟩ ⟨q.val, h.2⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | rfl | (exfalso; omega)
/-- the bias, -/
theorem V3 (c : Dev nD) (q : Fin 128) : V m c main_v3 (ix2 0 q) = if h : q.val < 8 then m ((c : Thread nD τ).loc main_arg1) (ix1 ⟨q.val, h⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]
/-- the cotangent by rows, -/
theorem V6 (c : Dev nD) (r : Fin 2176) (q : Fin 128) : V m c main_v6 (ix2 r q)
    = if h : 112 ≤ r.val ∧ q.val < 8 then m ((c : Thread nD τ).loc main_arg2) (ix3 0 ⟨r.val - 112, by omega⟩ ⟨q.val, h.2⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | rfl | (exfalso; omega)
/-- and by columns. -/
theorem V8 (c : Dev nD) (r : Fin 2176) (q : Fin 128) : V m c main_v8 (ix2 q r)
    = if h : 112 ≤ r.val ∧ q.val < 8 then m ((c : Thread nD τ).loc main_arg3) (ix3 0 ⟨q.val, h.2⟩ ⟨r.val - 112, by omega⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | rfl | (exfalso; omega)

variable (x d : FVec Ideal S1x2064x8 .f32) (b : FVec Ideal S8 .f32) (e : FVec Ideal S1x8x2064 .f32) (r : Fin 2064) (q : Fin 8)

theorem cot_eq : val_main_v7 (F := Ideal) x b d e (ix3 0 r q) = draw (d (ix3 0 r q)) (e (ix3 0 q r)) (x (ix3 0 r q)) (b (ix1 q)) := by
  pointwise [val_main_v0, val_main_v1, val_main_v2, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v3_0, val_main_call0_cst_0, val_main_call0_v13, val_main_call0_v14, val_main_call0_cst_1, val_main_call0_v15, val_main_call0_v16, val_main_call0_cst_2, val_main_call0_v17, val_main_call0_v18, val_main_call0_cst_3, val_main_call0_v19, val_main_call0_v20, val_main_call0_v21, val_main_v3_1, val_main_v5, val_main_v6, val_main_call1_v0, val_main_call1_v1, val_main_v7]
  exact congrArg _ (Reals.softplus_ct _)
theorem dx_read (k : Fin 2176) (q : Fin 128) : val_main_v13 (F := Ideal) x b d e (ix2 k q)
    = if h : 112 ≤ k.val ∧ q.val < 8 then val_main_v7 (F := Ideal) x b d e (ix3 0 ⟨k.val - 112, by omega⟩ ⟨q.val, h.2⟩) else (0 : EReal) := by
  pointwise [val_main_v11, val_main_c, val_main_call2_v0, val_main_v12, val_main_c_1, val_main_call3_v0, val_main_v13]
  have hr := k.isLt
  simp only [sitofp_zero]
  split_ifs <;> first | rfl | (exfalso; omega)
theorem db_read (z : Fin 1) (q : Fin 128) : val_main_v15 (F := Ideal) x b d e (ix2 z q)
    = if h : q.val < 8 then ∑ r : Fin 2064, val_main_v7 (F := Ideal) x b d e (ix3 0 r ⟨q.val, h⟩) else (0 : EReal) := by
  pointwise [val_main_cst, val_main_v8, val_main_v9, val_main_cst_0, val_main_v10, val_main_v14, val_main_c_2, val_main_call4_v0, val_main_v15]
  simp only [sitofp_zero, Fintype.sum_unique]

/-- The two result arrays. -/
theorem fdx_eq (c : Dev nD) (k : Fin 2176) (q : Fin 128) : fdx m c k q
    = if h : 112 ≤ k.val ∧ q.val < 8 then val_main_v7 (F := Ideal) (m ((c : Thread nD τ).loc main_arg0)) (m ((c : Thread nD τ).loc main_arg1)) (m ((c : Thread nD τ).loc main_arg2)) (m ((c : Thread nD τ).loc main_arg3)) (ix3 0 ⟨k.val - 112, by omega⟩ ⟨q.val, h.2⟩) else (0 : EReal) := by
  unfold fdx
  rw [V1, V3, V6, V8]
  by_cases h1 : 112 ≤ k.val
  · by_cases h2 : q.val < 8
    · simp only [h1, h2, and_self, if_true, dite_true]
      exact (cot_eq _ _ _ _ _ _).symm
    · simp only [h1, h2, and_false, if_true, dite_false, draw, add_zero, zero_mul]
  · rw [if_neg h1, dif_neg fun e => h1 e.1]
theorem final4 (c : Dev nD) : (dats m 0 c).arrAt 4 (cfgs 0).N = val_main_v13 (F := Ideal) (m ((c : Thread nD τ).loc main_arg0)) (m ((c : Thread nD τ).loc main_arg1)) (m ((c : Thread nD τ).loc main_arg2)) (m ((c : Thread nD τ).loc main_arg3)) := by
  rw [arr4]
  funext i
  idx_vars i
  rw [dx_read]
  exact fdx_eq m c i0 i1
theorem final5 (c : Dev nD) : (dats m 0 c).arrAt 5 (cfgs 0).N = val_main_v15 (F := Ideal) (m ((c : Thread nD τ).loc main_arg0)) (m ((c : Thread nD τ).loc main_arg1)) (m ((c : Thread nD τ).loc main_arg2)) (m ((c : Thread nD τ).loc main_arg3)) := by
  rw [arr5]
  funext i
  idx_vars i
  rw [db_read]
  show ∑ r, fdx m c r i1 = _
  simp only [fdx_eq m]
  by_cases h2 : i1.val < 8
  · rw [dif_pos h2, Reals.sum_below 112 2064 _ fun k hk => dif_neg fun e => absurd e.1 (by omega)]
    refine Finset.sum_congr rfl fun r _ => ?_
    rw [dif_pos ⟨Nat.le_add_left _ _, h2⟩]
    exact congrArg _ (congrArg (fun k => ix3 0 k (⟨i1.val, h2⟩ : Fin 8)) (Fin.ext (Nat.add_sub_cancel _ _)))
  · rw [dif_neg h2]
    exact Finset.sum_eq_zero fun k _ => dif_neg fun e => h2 e.2

end Cert.DtKernelIdeal.Value
-- ==== Proof.DtClaim.lean ====
/- The step size's backward call: the kernel's two result arrays are the reference's gradients. -/
module

public import proofs.«01_k».proof.Defs
public import proofs.«01_k».proof.Proof.DtFinal
public import proofs.«01_k».proof.Proof.Gen.DtReferenceIdeal.Read

@[expose] public section

set_option maxRecDepth 16384

noncomputable section

open Idealize.ShloMosaic Idealize.ShloMosaic.TcCoe Idealize.SL.Sem
open Idealize.ShloMosaic.Pipeline (Dat)

namespace Cert.DtReferenceIdeal.Read

open Cert.DtReferenceIdeal Cert.DtReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = val_main_v13 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v13_eq m c), (h c).2.1.trans (val_main_v15_eq m c), (h c).2.2⟩) (Value.run m ρ)

end Cert.DtReferenceIdeal.Read

namespace Cert.DtKernelIdeal.Value

/-- The step size's backward call: the kernel's two result arrays are the reference's gradients. -/
theorem algebraic : Cert.algebraic_DtKernelIdeal_DtReferenceIdeal := by
  pair_intro
  · run_from Cert.DtKernelIdeal.Gen.run_main m g & Cert.DtKernelIdeal.Gen.unchanged m g
  · run_from Cert.DtReferenceIdeal.Read.run m' g'
    · exact (final4 m c).symm
    · exact (final5 m c).symm

end Cert.DtKernelIdeal.Value
-- ==== Proof.GateValue.lean ====
/- The forget gate's backward call: the seventeen chunks of rows, the running column sum they carry, and what the two result arrays hold. -/
module

public import proofs.«01_k».proof.Proof.Gen.GateKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.GateKernelIdeal.Value

open Cert.GateKernelIdeal Cert.GateKernelIdeal.Gen Cert.Reals

/-- A sum over `b` consecutive rows, as a sum over all rows. -/
theorem sum_window {N : ℕ} (o b : ℕ) (h : o + b ≤ N) (f : Fin N → EReal) :
    ∑ a : Fin b, f ⟨o + a.val, by have := a.isLt; omega⟩ = ∑ s : Fin N, if o ≤ s.val ∧ s.val < o + b then f s else 0 := by
  rw [← Finset.sum_filter]
  refine Finset.sum_bij (fun a _ => ⟨o + a.val, by have := a.isLt; omega⟩) (fun a _ => ?_) (fun a _ a' _ e => ?_) (fun s hs => ?_) fun a _ => rfl
  · have := a.isLt
    simp
  · have := congrArg Fin.val e
    exact Fin.ext (by simpa using this)
  · have := (Finset.mem_filter.1 hs).2
    exact ⟨⟨s.val - o, by omega⟩, Finset.mem_univ _, Fin.ext (by show o + (s.val - o) = s.val; omega)⟩

/-- The rows from `o` on: the rows from `o + b` on and the `b` before them. -/
theorem sum_from {N : ℕ} (o b o' : ℕ) (ho : o' = o + b) (h : o + b ≤ N) (f : Fin N → EReal) :
    (∑ s : Fin N, if o' ≤ s.val then f s else 0) + ∑ a : Fin b, f ⟨o + a.val, by have := a.isLt; omega⟩ = ∑ s : Fin N, if o ≤ s.val then f s else 0 := by
  subst ho
  rw [sum_window o b h, ← Finset.sum_add_distrib]
  refine Finset.sum_congr rfl fun s _ => ?_
  by_cases h1 : o + b ≤ s.val
  · rw [if_pos h1, if_neg (by omega), if_pos (by omega), add_zero]
  · by_cases h2 : o ≤ s.val
    · rw [if_neg h1, if_pos (by omega), if_pos h2, zero_add]
    · rw [if_neg h1, if_neg (by omega), if_neg h2, zero_add]

section block
variable (X : FVec Ideal S2176x128 .f32) (B : FVec Ideal S1x128 .f32) (D : FVec Ideal S2176x128 .f32) (E : FVec Ideal S128x2176 .f32)

/-- Chunk `j`'s rows of a row-major array, and of a transposed one. -/
abbrev row (j : Fin 17) : Rect S2176x128 := Rect.unit (s := S2176x128) ![j.val * 128, 0] S128x128.size
  (by intro a; have := j.isLt; fin_cases a <;> simp [Shape.size] <;> omega)
abbrev col (j : Fin 17) : Rect S128x2176 := Rect.unit (s := S128x2176) ![0, j.val * 128] S128x128.size
  (by intro a; have := j.isLt; fin_cases a <;> simp [Shape.size] <;> omega)

/-- The chunk that is worked on after `n` others: they go from the last to the first. -/
abbrev nth (n : ℕ) : Fin 17 := ⟨16 - n, by omega⟩

/-- The column sum of the first `n` chunks worked on. -/
noncomputable def carry : ℕ → FVec Ideal S1x128 .f32
  | 0 => k0_pay4
  | n + 1 => k0_pay16 (carry n) (View.ld D (row (nth n))) (View.ld E (col (nth n)))

/-- The suffix sums of a chunk, from the sum carried into it. -/
noncomputable def suffix (n : ℕ) : FVec Ideal S128x128 .f32 :=
  k0_pay15 k0_pay3 (carry D E n) (View.ld D (row (nth n))) (View.ld E (col (nth n)))

/-- Whether a chunk's row lies below the padding. -/
noncomputable def below (j : Fin 17) : IVec S128x128 1 :=
  cmpi .sge (addi (broadcast S128x128 (BitVec.ofNat 32 (j.val * 128))) (iota .tc S128x128 32 [0] iota_S128x128_d0_w32)) (broadcast S128x128 112#32)

/-- What the chunk stores. -/
noncomputable def chunk (n : ℕ) : FVec Ideal S128x128 .f32 :=
  k0_pay12 (suffix D E n) (below (nth n)) (k0_pay10 (View.ld X (row (nth n)))) (k0_pay11 (View.ld B r0_2))

/-- The column sum of what the first `n` chunks store. -/
noncomputable def total : ℕ → FVec Ideal S1x128 .f32
  | 0 => k0_pay5
  | n + 1 => k0_pay13 (total n) (suffix D E n) (below (nth n)) (k0_pay10 (View.ld X (row (nth n)))) (k0_pay11 (View.ld B r0_2))

theorem out4_eq : out0_4 X B D E = View.canon (List.ofFn fun j : Fin 17 => (⟨row j, chunk X B D E (16 - j.val)⟩ : View.Piece (Elt Ideal) S2176x128 .f32)) := by
  rfl
theorem out5_eq : out0_5 X B D E = View.canon [(⟨r0_2, total X B D E 17⟩ : View.Piece (Elt Ideal) S1x128 .f32)] := by
  rfl

/-- The two layouts' sum, the suffix sum from a row on, and the gate's cotangent there. -/
def ct (s : Fin 2176) (q : Fin 128) : EReal := D (ix2 s q) + E (ix2 q s)
def rest (r : Fin 2176) (q : Fin 128) : EReal := ∑ s : Fin 2176, if r.val ≤ s.val then ct D E s q else 0
def grad (r : Fin 2176) (q : Fin 128) : EReal :=
  if 112 ≤ r.val then rest D E r q * (1 - Ideal.div 1 (1 + Ideal.exp (0 - (X (ix2 r q) + B (ix2 0 q))))) else 0

/-- A chunk's row of the whole array. -/
abbrev at_ (j : Fin 17) (a : Fin 128) : Fin 2176 := ⟨j.val * 128 + a.val, by have := j.isLt; have := a.isLt; omega⟩

theorem ld_row (A : FVec Ideal S2176x128 .f32) (j : Fin 17) (a q : Fin 128) : View.ld (Val := Elt Ideal) (e' := .f32) A (row j) (ix2 a q) = A (ix2 (at_ j a) q) := by
  rw [View.ld_apply]
  exact congrArg A (by funext k; fin_cases k <;> exact Fin.ext (by simp))
theorem ld_col (A : FVec Ideal S128x2176 .f32) (j : Fin 17) (a q : Fin 128) : View.ld (Val := Elt Ideal) (e' := .f32) A (col j) (ix2 q a) = A (ix2 q (at_ j a)) := by
  rw [View.ld_apply]
  exact congrArg A (by funext k; fin_cases k <;> exact Fin.ext (by simp))

theorem pay16_apply (C : FVec Ideal S1x128 .f32) (d e : FVec Ideal S128x128 .f32) (z : Fin 1) (q : Fin 128) :
    k0_pay16 (F := Ideal) C d e (ix2 z q) = C (ix2 z q) + ∑ a : Fin 128, (d (ix2 a q) + e (ix2 q a)) := by
  pointwise [k0_pay16, k0_pay14]
theorem pay13_apply (C : FVec Ideal S1x128 .f32) (v : FVec Ideal S128x128 .f32) (w : IVec S128x128 1) (x b : FVec Ideal S128x128 .f32) (z : Fin 1) (q : Fin 128) :
    k0_pay13 (F := Ideal) C v w x b (ix2 z q) = C (ix2 z q) + ∑ a : Fin 128, k0_pay12 (F := Ideal) v w x b (ix2 a q) := by
  pointwise [k0_pay13]
theorem pay15_apply (C : FVec Ideal S1x128 .f32) (d e : FVec Ideal S128x128 .f32) (a q : Fin 128)
    (h : ∀ k, (d (ix2 k q) + e (ix2 q k)) - (d (ix2 k q) + e (ix2 q k)) = 0) :
    k0_pay15 (F := Ideal) k0_pay3 C d e (ix2 a q) = (∑ k : Fin 128, if a.val ≤ k.val then d (ix2 k q) + e (ix2 q k) else 0) + C (ix2 0 q) := by
  pointwise [k0_pay15, k0_pay14, k0_pay3]
  simp only [h, sub_zero]
  have e : ∀ (k : Fin 128) (x : EReal), Scalar.select (IntOp.cmpi CmpIPredicate.sle (BitVec.ofNat 32 a.val) (BitVec.ofNat 32 k.val)) x 0 = if a.val ≤ k.val then x else 0 :=
    fun k x => select_sge_ofNat _ _ (by have := k.isLt; omega) (by have := a.isLt; omega) x 0
  simp only [e, ite_self, Finset.sum_const_zero, add_zero]
theorem chunk_apply (n : ℕ) (a q : Fin 128) :
    chunk X B D E n (ix2 a q) = if 112 ≤ (at_ (nth n) a).val then suffix D E n (ix2 a q) * (1 - Ideal.div 1 (1 + Ideal.exp (0 - (X (ix2 (at_ (nth n) a) q) + B (ix2 0 q))))) else 0 := by
  unfold chunk below
  pointwise [k0_pay12, k0_pay10, k0_pay11]
  rw [show IntOp.addi (BitVec.ofNat 32 ((16 - n) * 128)) (BitVec.ofNat 32 a.val) = BitVec.ofNat 32 ((16 - n) * 128 + a.val) from (BitVec.ofNat_add _ _).symm]
  exact select_sge_ofNat _ _ (by have := a.isLt; omega) (by decide) _ _

theorem carry_apply (n : ℕ) (hn : n ≤ 17) (z : Fin 1) (q : Fin 128) :
    carry D E n (ix2 z q) = ∑ s : Fin 2176, if (17 - n) * 128 ≤ s.val then ct D E s q else 0 := by
  induction n with
  | zero =>
    refine Eq.trans (by unfold carry; pointwise [k0_pay4]) (Finset.sum_eq_zero fun s _ => if_neg (by have := s.isLt; omega)).symm
  | succ n ih =>
    rw [carry, pay16_apply, ih (by omega), ← sum_from ((17 - (n + 1)) * 128) 128 ((17 - n) * 128) (by omega) (by omega)]
    congr 1
    refine Finset.sum_congr rfl fun a _ => ?_
    rw [ld_row, ld_col]
    exact congrArg (fun s => D (ix2 s q) + E (ix2 q s)) (Fin.ext (by show (16 - n) * 128 + a.val = (17 - (n + 1)) * 128 + a.val; omega))

variable (h : ∀ s q, ct D E s q - ct D E s q = 0)
include h
theorem suffix_apply (n : ℕ) (hn : n < 17) (a q : Fin 128) : suffix D E n (ix2 a q) = rest D E (at_ (nth n) a) q := by
  unfold suffix
  rw [pay15_apply _ _ _ _ _ (fun k => by rw [ld_row, ld_col]; exact h _ _), carry_apply D E n (by omega)]
  have e : ∀ k : Fin 128, (if a.val ≤ k.val then View.ld (Val := Elt Ideal) (e' := .f32) D (row (nth n)) (ix2 k q) + View.ld (Val := Elt Ideal) (e' := .f32) E (col (nth n)) (ix2 q k) else (0 : EReal))
      = (fun s : Fin 2176 => if (16 - n) * 128 + a.val ≤ s.val then ct D E s q else 0) ⟨(16 - n) * 128 + k.val, by have := k.isLt; omega⟩ := fun k => by
    rw [ld_row, ld_col]
    by_cases hk : a.val ≤ k.val
    · rw [if_pos hk]
      exact (if_pos (by show (16 - n) * 128 + a.val ≤ (16 - n) * 128 + k.val; omega)).symm
    · rw [if_neg hk]
      exact (if_neg (by show ¬ (16 - n) * 128 + a.val ≤ (16 - n) * 128 + k.val; omega)).symm
  rw [Finset.sum_congr rfl fun k _ => e k, sum_window ((16 - n) * 128) 128 (by omega) (fun s : Fin 2176 => if (16 - n) * 128 + a.val ≤ s.val then ct D E s q else 0), ← Finset.sum_add_distrib]
  unfold rest
  refine Finset.sum_congr rfl fun s _ => ?_
  have ha := a.isLt
  show _ = if (16 - n) * 128 + a.val ≤ s.val then _ else _
  by_cases h1 : (17 - n) * 128 ≤ s.val
  · rw [if_neg (by omega), if_pos h1, if_pos (by omega), zero_add]
  · by_cases h2 : (16 - n) * 128 ≤ s.val
    · rw [if_pos (by omega), if_neg h1, add_zero]
    · rw [if_neg (by omega), if_neg h1, if_neg (by omega), add_zero]

theorem grad_apply (n : ℕ) (hn : n < 17) (a q : Fin 128) : chunk X B D E n (ix2 a q) = grad X B D E (at_ (nth n) a) q := by
  rw [chunk_apply, suffix_apply D E h n hn]; rfl

theorem total_apply (n : ℕ) (hn : n ≤ 17) (z : Fin 1) (q : Fin 128) :
    total X B D E n (ix2 z q) = ∑ s : Fin 2176, if (17 - n) * 128 ≤ s.val then grad X B D E s q else 0 := by
  induction n with
  | zero =>
    refine Eq.trans (by unfold total; pointwise [k0_pay5]) (Finset.sum_eq_zero fun s _ => if_neg (by have := s.isLt; omega)).symm
  | succ n ih =>
    rw [total, pay13_apply, ih (by omega), ← sum_from ((17 - (n + 1)) * 128) 128 ((17 - n) * 128) (by omega) (by omega)]
    congr 1
    refine Finset.sum_congr rfl fun a _ => ?_
    exact (grad_apply X B D E h n (by omega) a q).trans (congrArg (fun s => grad X B D E s q) (Fin.ext (by show (16 - n) * 128 + a.val = (17 - (n + 1)) * 128 + a.val; omega)))

theorem out4_apply (r : Fin 2176) (q : Fin 128) : out0_4 (F := Ideal) X B D E (ix2 r q) = grad X B D E r q := by
  have hr := r.isLt
  rw [out4_eq]
  refine View.canon_ofFn_unit_eq_of_forall (S := S2176x128) (Val := Elt Ideal) (e := .f32) (fun j : Fin 17 => ![j.val * 128, 0]) S128x128.size
    (by intro j a; have := j.isLt; fin_cases a <;> simp [Shape.size] <;> omega) (fun j => chunk X B D E (16 - j.val)) (ix2 r q) (grad X B D E r q)
    ⟨⟨r.val / 128, by omega⟩, fun a => ?_⟩ fun j z hz => ?_
  · have hq := q.isLt
    fin_cases a
    · show r.val / 128 * 128 ≤ r.val ∧ r.val < r.val / 128 * 128 + 128
      omega
    · show 0 ≤ q.val ∧ q.val < 0 + 128
      omega
  · have h0 : r.val = j.val * 128 + (z 0).val := hz 0
    have h1 : q.val = 0 + (z 1).val := hz 1
    have hj := j.isLt
    refine (congrArg (chunk X B D E (16 - j.val)) (eq_ix2 z)).trans ((grad_apply X B D E h (16 - j.val) (by omega) (z 0) (z 1)).trans (congrArg₂ (grad X B D E) (Fin.ext ?_) (Fin.ext ?_)))
    · show (16 - (16 - j.val)) * 128 + (z 0).val = r.val
      omega
    · exact (h1.trans (Nat.zero_add _)).symm
theorem out5_apply (z : Fin 1) (q : Fin 128) : out0_5 (F := Ideal) X B D E (ix2 z q) = ∑ s : Fin 2176, grad X B D E s q := by
  rw [out5_eq]
  canon_tiles y hy
  have ez : y = ix2 z q := (eq_ix2 y).trans (congrArg₂ ix2 (Fin.ext (by have : z.val = (y 0).val := hy0; omega)) (Fin.ext (by have : q.val = (y 1).val := hy1; omega)))
  rw [ez, total_apply X B D E h 17 le_rfl]
  exact Finset.sum_congr rfl fun s _ => if_pos (by omega)
end block

variable (m : (ℓ : Loc nD τ sig) → Buf (Elt Ideal) ℓ)

/-- The one point's blocks: the input's starts at column 2560 of its array, the others are whole. -/
theorem idx : ∀ t : Fin cfg0.N, win0_0.index t = ![0, 20] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- The two layouts' sum and the first result, of the arrays the call is given. -/
def plus (a b : EReal) : EReal := a + b
def slope (x b : EReal) : EReal := 1 - Ideal.div 1 (1 + Ideal.exp (0 - (x + b)))
def fct (c : Dev nD) (s : Fin 2176) (q : Fin 128) : EReal := plus (V m c main_v6 (ix2 s q)) (V m c main_v8 (ix2 q s))
def fdx (c : Dev nD) (r : Fin 2176) (q : Fin 128) : EReal :=
  if 112 ≤ r.val then (∑ s : Fin 2176, if r.val ≤ s.val then fct m c s q else 0)
    * slope (V m c main_v1 (ix2 r ⟨q.val + 2560, by omega⟩)) (V m c main_v3 (ix2 0 q)) else 0

section point
variable (c : Dev nD) (t : Fin cfg0.N) (r : Fin 2176) (q : Fin 128)

/-- The four input windows' blocks, as arrays. -/
noncomputable def X0 : FVec Ideal S2176x128 .f32 := iblk m c 0 t
noncomputable def B0 : FVec Ideal S1x128 .f32 := iblk m c 1 t
noncomputable def D0 : FVec Ideal S2176x128 .f32 := iblk m c 2 t
noncomputable def E0 : FVec Ideal S128x2176 .f32 := iblk m c 3 t

theorem blk0 : X0 m c t (ix2 r q) = V m c main_v1 (ix2 r ⟨q.val + 2560, by omega⟩) := by
  unfold X0; blk_point [iblk, V, idx t]
theorem blk1 : B0 m c t (ix2 0 q) = V m c main_v3 (ix2 0 q) := by
  unfold B0; blk_point [iblk, V, idx t]
theorem blk2 : D0 m c t (ix2 r q) = V m c main_v6 (ix2 r q) := by
  unfold D0; blk_point [iblk, V, idx t]
theorem blk3 : E0 m c t (ix2 q r) = V m c main_v8 (ix2 q r) := by
  unfold E0; blk_point [iblk, V, idx t]
theorem ct_eq : ct (D0 m c t) (E0 m c t) r q = fct m c r q := congrArg₂ plus (blk2 m c t r q) (blk3 m c t r q)
theorem grad_eq : grad (X0 m c t) (B0 m c t) (D0 m c t) (E0 m c t) r q = fdx m c r q := by
  unfold grad rest fdx
  simp only [ct_eq]
  exact congrArg (fun z : EReal => if 112 ≤ r.val then (∑ s : Fin 2176, if r.val ≤ s.val then fct m c s q else 0) * z else 0) (congrArg₂ slope (blk0 m c t r q) (blk1 m c t q))

variable (h : ∀ s q, fct m c s q - fct m c s q = 0)
include h
/-- What the point leaves in the results' staging buffers. -/
theorem point4 : out0_4 (iblk m c 0 t) (iblk m c 1 t) (iblk m c 2 t) (iblk m c 3 t) (ix2 r q) = fdx m c r q :=
  (out4_apply (X0 m c t) (B0 m c t) (D0 m c t) (E0 m c t) (fun s q => by rw [ct_eq]; exact h s q) r q).trans (grad_eq m c t r q)
theorem point5 (k : Fin 1) : out0_5 (iblk m c 0 t) (iblk m c 1 t) (iblk m c 2 t) (iblk m c 3 t) (ix2 k q) = ∑ r, fdx m c r q :=
  (out5_apply (X0 m c t) (B0 m c t) (D0 m c t) (E0 m c t) (fun s q => by rw [ct_eq]; exact h s q) k q).trans (Finset.sum_congr rfl fun r _ => grad_eq m c t r q)
end point

variable (c : Dev nD) (h : ∀ s q, fct m c s q - fct m c s q = 0)
include h
/-- The input's cotangent. -/
theorem arr4 : (dats m 0 c).arrAt 4 (cfgs 0).N = fun i : S2176x128.Idx => fdx m c (i 0) (i 1) := by
  refine (dats m 0 c).arrAt_eq_of_covers 4 _ (by decide +kernel) fun t _ y => ?_
  blk_simp
  rw [after0_4]
  refine Eq.trans ((congrArg _ (eq_ix2 y)).trans (point4 m c t (y 0) (y 1) h)) (congrArg₂ (fdx m c) (Fin.ext ?_) (Fin.ext ?_))
  · blk_simp [idx t] <;> try omega
  · blk_simp [idx t] <;> try omega
/-- The bias's cotangent. -/
theorem arr5 : (dats m 0 c).arrAt 5 (cfgs 0).N = fun i : S1x128.Idx => ∑ r, fdx m c r (i 1) := by
  refine (dats m 0 c).arrAt_eq_of_covers 5 _ (by decide +kernel) fun t _ y => ?_
  blk_simp
  rw [after0_5]
  refine Eq.trans ((congrArg _ (eq_ix2 y)).trans (point5 m c t (y 1) h (y 0))) (congrArg (fun q => ∑ r, fdx m c r q) (Fin.ext ?_))
  blk_simp [idx t] <;> try omega

end Cert.GateKernelIdeal.Value
-- ==== Proof.Suffix.lean ====
/- Running sums from the far end: what the host's window sum over the rest of an axis holds. -/
module

public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Reals

/-- A fold of additions is a sum. -/
theorem foldl_add {α : Type} (g : α → EReal) (l : List α) (v : EReal) : l.foldl (fun r n => r + g n) v = v + (l.map g).sum := by
  induction l generalizing v with
  | nil => simp
  | cons a l ih => rw [List.foldl_cons, ih, List.map_cons, List.sum_cons, add_assoc]

/-- A sum over what is left of an axis from a place on, counted from that place or from the start. -/
theorem sum_rest {N : ℕ} (r : Fin N) (x : Fin N → EReal) :
    ∑ k : Fin N, (if h : r.val + k.val < N then x ⟨r.val + k.val, h⟩ else 0) = ∑ k : Fin N, if r.val ≤ k.val then x k else 0 := by
  classical
  have e1 : ∀ k : Fin N, (if h : r.val + k.val < N then x ⟨r.val + k.val, h⟩ else 0) = ∑ j : Fin N, if j.val = r.val + k.val then x j else 0 := fun k => by
    split
    · next h => rw [Finset.sum_eq_single ⟨r.val + k.val, h⟩ (fun j _ hj => if_neg fun e => hj (Fin.ext e)) (fun h => absurd (Finset.mem_univ _) h), if_pos rfl]
    · next h => exact (Finset.sum_eq_zero fun j _ => if_neg fun e => h (by have := j.isLt; omega)).symm
  have e2 : ∀ j : Fin N, (if r.val ≤ j.val then x j else 0) = ∑ k : Fin N, if j.val = r.val + k.val then x j else 0 := fun j => by
    have hj := j.isLt
    split
    · next h => rw [Finset.sum_eq_single ⟨j.val - r.val, by omega⟩ (fun k _ hk => if_neg fun e => hk (Fin.ext (by show k.val = j.val - r.val; omega))) (fun h => absurd (Finset.mem_univ _) h), if_pos (by show j.val = r.val + (j.val - r.val); omega)]
    · next h => exact (Finset.sum_eq_zero fun k _ => if_neg fun e => h (by omega)).symm
  simp only [e1, e2]
  exact Finset.sum_comm

/-- The host's window sum over the rest of the middle axis. -/
@[pointwise] theorem hostReduceWindowAdd_rest {N n M : ℕ} (h : (⟨3, ![1, N, n]⟩ : Shape).ReduceWindows ![1, N, 1] ![1, 1, 1] ![0, 0, 0] ![0, M, 0] ⟨3, ![1, N, n]⟩)
    (x : (⟨3, ![1, N, n]⟩ : Shape).Idx → EReal) (z : Fin 1) (r : Fin N) (q : Fin n) :
    Ideal.hostReduceWindowAdd ![1, N, 1] ![1, 1, 1] ![0, 0, 0] ![0, M, 0] h x 0 (ix3 z r q) = ∑ k : Fin N, if r.val ≤ k.val then x (ix3 z k q) else 0 := by
  refine Eq.trans ?_ (sum_rest r fun k => x (ix3 z k q))
  unfold Ideal.hostReduceWindowAdd Host.reduceWindow
  dsimp only
  rw [foldl_add, zero_add, ← List.ofFn_eq_map, List.sum_ofFn]
  refine (Fintype.sum_bijective (fun k : Fin N => (⟨3, ![1, N, 1]⟩ : Shape).rowMajor (ix3 0 k 0)) ?_ _ _ fun k => ?_).symm
  · refine (Equiv.bijective _).comp ⟨fun a b e => congrFun e 1, fun w => ⟨w 1, ?_⟩⟩
    refine Eq.trans ?_ (eq_ix3 w).symm
    exact congrArg₂ (fun a b => ix3 a (w 1) b) (Subsingleton.elim (α := Fin 1) _ _) (Subsingleton.elim (α := Fin 1) _ _)
  · simp only [Equiv.symm_apply_apply]
    by_cases hk : r.val + k.val < N
    · rw [dif_pos hk, dif_pos]
      · refine congrArg x (funext fun a => Fin.ext ?_)
        match a with
        | ⟨0, _⟩ => show z.val = z.val * 1 + 0 - 0; omega
        | ⟨1, _⟩ => show r.val + k.val = r.val * 1 + k.val - 0; omega
        | ⟨2, _⟩ => show q.val = q.val * 1 + 0 - 0; omega
      · intro a
        match a with
        | ⟨0, _⟩ => exact ⟨Nat.zero_le _, by show z.val * 1 + 0 - 0 < 1; omega⟩
        | ⟨1, _⟩ => exact ⟨Nat.zero_le _, by show r.val * 1 + k.val - 0 < N; omega⟩
        | ⟨2, _⟩ => exact ⟨Nat.zero_le _, by show q.val * 1 + 0 - 0 < n; omega⟩
    · rw [dif_neg hk, dif_neg]
      intro hin
      have h1 : r.val * 1 + k.val - 0 < N := (hin 1).2
      omega

end Cert.Reals
-- ==== Proof.GateFinal.lean ====
/- The forget gate's backward call: the kernel's two result arrays are the reference's. -/
module

public import proofs.«01_k».proof.Defs
public import proofs.«01_k».proof.Proof.GateValue
public import proofs.«01_k».proof.Proof.Gen.GateReferenceIdeal.Read
public import Idealize.ShloMosaic.Lib.Pipeline.ValueKit
public import proofs.«01_k».proof.Proof.Suffix
public import proofs.«01_k».proof.Proof.Gen.Pre_finite_gate

@[expose] public section

set_option maxRecDepth 16384

noncomputable section

open Idealize.ShloMosaic Idealize.ShloMosaic.TcCoe Idealize.SL.Sem
open Idealize.ShloMosaic.Pipeline (Dat)

namespace Cert.GateKernelIdeal.Value

open Cert.Reals Cert.GateKernelIdeal Cert.GateKernelIdeal.Gen Cert.GateReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the input in columns 2560 to 2563 below 112 rows of zeros, -/
theorem V1 (c : Dev nD) (r : Fin 2176) (q : Fin 128) : V m c main_v1 (ix2 r ⟨q.val + 2560, by omega⟩)
    = if h : 112 ≤ r.val ∧ q.val < 4 then m ((c : Thread nD τ).loc main_arg0) (ix3 0 ⟨r.val - 112, by omega⟩ ⟨q.val, h.2⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the bias, -/
theorem V3 (c : Dev nD) (q : Fin 128) : V m c main_v3 (ix2 0 q) = if h : q.val < 4 then m ((c : Thread nD τ).loc main_arg1) (ix1 ⟨q.val, h⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]
/-- the cotangent by rows, -/
theorem V6 (c : Dev nD) (r : Fin 2176) (q : Fin 128) : V m c main_v6 (ix2 r q)
    = if h : 112 ≤ r.val ∧ q.val < 4 then m ((c : Thread nD τ).loc main_arg2) (ix3 0 ⟨r.val - 112, by omega⟩ ⟨q.val, h.2⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- and by columns. -/
theorem V8 (c : Dev nD) (r : Fin 2176) (q : Fin 128) : V m c main_v8 (ix2 q r)
    = if h : 112 ≤ r.val ∧ q.val < 4 then m ((c : Thread nD τ).loc main_arg3) (ix3 0 ⟨q.val, h.2⟩ ⟨r.val - 112, by omega⟩) else (0 : EReal) := by
  unfold V
  simp only [hostOps0, hostOps0_1, hostOps0_2, hostOps0_3, hostOps0_4, hostOps0_5, hostOps0_6, hostOps0_7, hostOps0_8, hostOps0_9, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl

/-- The precondition: both cotangents are reals. -/
theorem finite2 (h : Pre_GateKernelIdeal_finite_gate m) (c : Dev nD) (i : S1x2064x4.Idx) : ∃ y : ℝ, m ((c : Thread nD τ).loc main_arg2) i = (y : EReal) := by
  have e := congrFun (h c).1 i
  pointwise [Cert.Pre_finite_gate.fn] at e
  exact Reals.real_of_abs _ e
theorem finite3 (h : Pre_GateKernelIdeal_finite_gate m) (c : Dev nD) (i : S1x4x2064.Idx) : ∃ y : ℝ, m ((c : Thread nD τ).loc main_arg3) i = (y : EReal) := by
  have e := congrFun (h c).2 i
  pointwise [Cert.Pre_finite_gate.fn] at e
  exact Reals.real_of_abs _ e

variable (x d : FVec Ideal S1x2064x4 .f32) (b : FVec Ideal S4 .f32) (e : FVec Ideal S1x4x2064 .f32) (r : Fin 2064) (q : Fin 4)

theorem rest_read : val_main_v8 (F := Ideal) d e (ix3 0 r q) = ∑ s : Fin 2064, if r.val ≤ s.val then plus (d (ix3 0 s q)) (e (ix3 0 q s)) else 0 := by
  unfold val_main_v8
  simp only [Host.reduceWindowAdd, Ideal.hostReduceWindowAdd_def]
  rw [show (val_main_call2_call0_v0 (F := Ideal)) (Shape.Idx.first GateReferenceIdeal.Gen.h_S_) = (0 : EReal) by pointwise [val_main_call2_call0_cst, val_main_call2_call0_v0]]
  rw [hostReduceWindowAdd_rest]
  pointwise [val_main_v6, val_main_v7, plus]
theorem cot_eq : val_main_v9 (F := Ideal) x b d e (ix3 0 r q) = val_main_v8 (F := Ideal) d e (ix3 0 r q) * slope (x (ix3 0 r q)) (b (ix1 q)) := by
  pointwise [val_main_v0, val_main_v1, val_main_v2, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1_0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21, val_main_v3_1, val_main_call0_call0_cst_4, val_main_call0_call0_cst_5, val_main_call0_call0_v23, val_main_call0_call0_cst_6, val_main_call0_call0_cst_7, val_main_call0_call0_v24, val_main_call0_call0_cst_8, val_main_call0_call0_v25, val_main_call0_call0_v26, val_main_call0_call0_cst_9, val_main_call0_call0_v27, val_main_call0_call0_v28, val_main_call0_call0_v29, val_main_call0_call0_v30, val_main_call0_call0_v31, val_main_call0_call0_cst_10, val_main_call0_call0_v32, val_main_v3_2, val_main_v3_0, val_main_call3_v0, val_main_call3_v1, val_main_v9, slope]
  rw [one_sub_sigmoid, ← softplus_ct (-(x (ix3 0 r q) + b (ix1 q))), EReal.neg_mul, neg_neg]
theorem dx_read (k : Fin 2176) (q : Fin 128) : val_main_v15 (F := Ideal) x b d e (ix2 k q)
    = if h : 112 ≤ k.val ∧ q.val < 4 then val_main_v9 (F := Ideal) x b d e (ix3 0 ⟨k.val - 112, by omega⟩ ⟨q.val, h.2⟩) else (0 : EReal) := by
  pointwise [val_main_v13, val_main_c, val_main_call4_v0, val_main_v14, val_main_c_1, val_main_call5_v0, val_main_v15]
  have hr := k.isLt
  simp only [sitofp_zero]
  split_ifs <;> first | (exfalso; omega) | rfl
theorem db_read (z : Fin 1) (q : Fin 128) : val_main_v17 (F := Ideal) x b d e (ix2 z q)
    = if h : q.val < 4 then ∑ r : Fin 2064, val_main_v9 (F := Ideal) x b d e (ix3 0 r ⟨q.val, h⟩) else (0 : EReal) := by
  pointwise [val_main_cst, val_main_v10, val_main_v11, val_main_cst_0, val_main_v12, val_main_v16, val_main_c_2, val_main_call6_v0, val_main_v17]
  simp only [sitofp_zero, Fintype.sum_unique]

/-- The two layouts' sum, and that it is a real. -/
theorem fct_eq (c : Dev nD) (k : Fin 2176) (q : Fin 128) : fct m c k q
    = if h : 112 ≤ k.val ∧ q.val < 4 then plus (m ((c : Thread nD τ).loc main_arg2) (ix3 0 ⟨k.val - 112, by omega⟩ ⟨q.val, h.2⟩)) (m ((c : Thread nD τ).loc main_arg3) (ix3 0 ⟨q.val, h.2⟩ ⟨k.val - 112, by omega⟩)) else (0 : EReal) := by
  unfold fct
  rw [V6, V8]
  by_cases h1 : 112 ≤ k.val ∧ q.val < 4
  · simp only [h1, and_self, dite_true]
  · rw [dif_neg h1, dif_neg h1, dif_neg h1]
    exact add_zero _
theorem fct_real (h : Pre_GateKernelIdeal_finite_gate m) (c : Dev nD) (k : Fin 2176) (q : Fin 128) : fct m c k q - fct m c k q = 0 := by
  rw [fct_eq]
  split_ifs with h1
  · obtain ⟨u, hu⟩ := finite2 m h c (ix3 0 ⟨k.val - 112, by omega⟩ ⟨q.val, h1.2⟩)
    obtain ⟨v, hv⟩ := finite3 m h c (ix3 0 ⟨q.val, h1.2⟩ ⟨k.val - 112, by omega⟩)
    rw [hu, hv]
    unfold plus
    rw [← EReal.coe_add, ← EReal.coe_sub, sub_self, EReal.coe_zero]
  · exact sub_zero _

/-- The two result arrays. -/
theorem fdx_eq (c : Dev nD) (k : Fin 2176) (q : Fin 128) : fdx m c k q
    = if h : 112 ≤ k.val ∧ q.val < 4 then val_main_v9 (F := Ideal) (m ((c : Thread nD τ).loc main_arg0)) (m ((c : Thread nD τ).loc main_arg1)) (m ((c : Thread nD τ).loc main_arg2)) (m ((c : Thread nD τ).loc main_arg3)) (ix3 0 ⟨k.val - 112, by omega⟩ ⟨q.val, h.2⟩) else (0 : EReal) := by
  unfold fdx
  simp only [fct_eq]
  rw [V1, V3]
  by_cases h1 : 112 ≤ k.val
  · by_cases h2 : q.val < 4
    · simp only [h1, h2, and_self, and_true, if_true, dite_true]
      rw [cot_eq, rest_read]
      refine congrArg (fun z : EReal => z * slope _ _) ?_
      rw [Reals.sum_below 112 2064 _ fun s hs => if_neg (by omega)]
      refine Finset.sum_congr rfl fun s _ => ?_
      have hs : ∀ p : s.val + 112 - 112 < 2064, (⟨s.val + 112 - 112, p⟩ : Fin 2064) = s := fun p => Fin.ext (Nat.add_sub_cancel _ _)
      by_cases h3 : k.val - 112 ≤ s.val
      · rw [if_pos (show k.val ≤ s.val + 112 by omega), if_pos h3, dif_pos (show 112 ≤ s.val + 112 by omega)]
        simp only [hs]
      · rw [if_neg (show ¬ k.val ≤ s.val + 112 by omega), if_neg h3]
    · simp only [h1, h2, and_false, if_true, dite_false, ite_self, Finset.sum_const_zero, zero_mul]
  · rw [if_neg h1, dif_neg fun e => h1 e.1]
theorem final4 (h : Pre_GateKernelIdeal_finite_gate m) (c : Dev nD) : (dats m 0 c).arrAt 4 (cfgs 0).N = val_main_v15 (F := Ideal) (m ((c : Thread nD τ).loc main_arg0)) (m ((c : Thread nD τ).loc main_arg1)) (m ((c : Thread nD τ).loc main_arg2)) (m ((c : Thread nD τ).loc main_arg3)) := by
  rw [arr4 m c (fct_real m h c)]
  funext i
  idx_vars i
  rw [dx_read]
  exact fdx_eq m c i0 i1
theorem final5 (h : Pre_GateKernelIdeal_finite_gate m) (c : Dev nD) : (dats m 0 c).arrAt 5 (cfgs 0).N = val_main_v17 (F := Ideal) (m ((c : Thread nD τ).loc main_arg0)) (m ((c : Thread nD τ).loc main_arg1)) (m ((c : Thread nD τ).loc main_arg2)) (m ((c : Thread nD τ).loc main_arg3)) := by
  rw [arr5 m c (fct_real m h c)]
  funext i
  idx_vars i
  rw [db_read]
  show ∑ r, fdx m c r i1 = _
  simp only [fdx_eq m]
  by_cases h2 : i1.val < 4
  · rw [dif_pos h2, Reals.sum_below 112 2064 _ fun k hk => dif_neg fun e => absurd e.1 (by omega)]
    refine Finset.sum_congr rfl fun r _ => ?_
    rw [dif_pos ⟨Nat.le_add_left _ _, h2⟩]
    exact congrArg _ (congrArg (fun k => ix3 0 k (⟨i1.val, h2⟩ : Fin 4)) (Fin.ext (Nat.add_sub_cancel _ _)))
  · rw [dif_neg h2]
    exact Finset.sum_eq_zero fun k _ => dif_neg fun e => h2 e.2

end Cert.GateKernelIdeal.Value
-- ==== Proof.GateClaim.lean ====
/- The forget gate's backward call: from finite cotangents, the kernel's two result arrays are the reference's gradients. -/
module

public import proofs.«01_k».proof.Defs
public import proofs.«01_k».proof.Proof.GateFinal
public import proofs.«01_k».proof.Proof.Gen.GateReferenceIdeal.Read

@[expose] public section

set_option maxRecDepth 16384

noncomputable section

open Idealize.ShloMosaic Idealize.ShloMosaic.TcCoe Idealize.SL.Sem
open Idealize.ShloMosaic.Pipeline (Dat)

namespace Cert.GateReferenceIdeal.Read

open Cert.GateReferenceIdeal Cert.GateReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = val_main_v17 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v15_eq m c), (h c).2.1.trans (val_main_v17_eq m c), (h c).2.2⟩) (Value.run m ρ)

end Cert.GateReferenceIdeal.Read

namespace Cert.GateKernelIdeal.Value

/-- The forget gate's backward call: from finite cotangents, the kernel's two result arrays are the reference's gradients. -/
theorem algebraic : Cert.algebraic_GateKernelIdeal_GateReferenceIdeal_pre_finite_gate := by
  pair_intro
  · run_from Cert.GateKernelIdeal.Gen.run_main m g & Cert.GateKernelIdeal.Gen.unchanged m g
  · run_from Cert.GateReferenceIdeal.Read.run m' g'
    · exact (final4 m hpre c).symm
    · exact (final5 m hpre c).symm

end Cert.GateKernelIdeal.Value
-- ==== Proof.FfnValue.lean ====
/- The feed-forward's backward call through the gated activation: what the kernel's two result arrays hold, as functions of its four operands. -/
module

public import proofs.«01_k».proof.Proof.Gen.FfnKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.FfnKernelIdeal.Value

open Cert.FfnKernelIdeal Cert.FfnKernelIdeal.Gen Cert.Reals

/-- The two cotangents, from that of the activation. -/
def logis (g : EReal) : EReal := Ideal.div 1 (1 + Ideal.exp (0 - g))
def dgate (a g u : EReal) : EReal := a * u * (logis g * (1 + g * (1 - logis g)))
def dup (a g : EReal) : EReal := a * (g * logis g)
/-- A product of two numbers. -/
def times (a b : EReal) : EReal := a * b

section block
variable (D : FVec Ideal S1088x1024 .bf16) (W : FVec Ideal S1x768x1024 .bf16) (G U : FVec Ideal S1088x768 .f32) (r : Fin 1088) (q : Fin 768)

theorem pay1_apply : k0_pay1 (F := Ideal) D W (ix2 r q) = ∑ k : Fin 1024, times (D (ix2 r k)) (W (ix3 0 q k)) := by
  pointwise [k0_pay1, times]
theorem pay4_apply : k0_pay4 (F := Ideal) D W G U (ix2 r q) = dgate (k0_pay1 (F := Ideal) D W (ix2 r q)) (G (ix2 r q)) (U (ix2 r q)) := by
  pointwise [k0_pay4, k0_pay3, k0_pay2, dgate, logis]
theorem pay5_apply : k0_pay5 (F := Ideal) D W G (ix2 r q) = dup (k0_pay1 (F := Ideal) D W (ix2 r q)) (G (ix2 r q)) := by
  pointwise [k0_pay5, k0_pay3, k0_pay2, dup, logis]
end block

variable (m : (ℓ : Loc nD τ sig) → Buf (Elt Ideal) ℓ)

/-- The blocks: point `t` works on row block `t / 4` and on the hidden columns of chip `t % 4`. -/
theorem idx : ∀ t : Fin cfg0.N, win0_0.index t = ![t.val / 4, 0] ∧ win0_1.index t = ![t.val % 4, 0, 0] ∧ win0_2.index t = ![t.val / 4, t.val % 4] ∧ win0_3.index t = ![t.val / 4, t.val % 4]
    ∧ win0_4.index t = ![t.val / 4, t.val % 4] ∧ win0_5.index t = ![t.val / 4, t.val % 4] :=
  (by decide +kernel : ∀ t : Fin grid0.N, _)

/-- The activation's cotangent and the two results, of the arrays the call is given. -/
def act (c : Dev nD) (r : Fin 2176) (q : Fin 3072) : EReal :=
  ∑ k : Fin 1024, times (V m c main_v5 (ix2 r k)) (V m c main_v2 (ix3 ⟨q.val / 768, by omega⟩ ⟨q.val % 768, by omega⟩ k))
def fdg (c : Dev nD) (r : Fin 2176) (q : Fin 3072) : EReal := dgate (act m c r q) (V m c main_v10 (ix2 r q)) (V m c main_v15 (ix2 r q))
def fdu (c : Dev nD) (r : Fin 2176) (q : Fin 3072) : EReal := dup (act m c r q) (V m c main_v10 (ix2 r q))

section point
variable (c : Dev nD) (t : Fin cfg0.N) (r : Fin 1088) (q : Fin 768)

/-- A block's row and column of the whole array. -/
abbrev ro : Fin 2176 := ⟨t.val / 4 * 1088 + r.val, by have : t.val < 8 := t.isLt; have := r.isLt; omega⟩
abbrev co : Fin 3072 := ⟨t.val % 4 * 768 + q.val, by have := q.isLt; omega⟩

theorem blk0 (k : Fin 1024) : View.ld (iblk m c 0 t) r0_0 (ix2 r k) = V m c main_v5 (ix2 (ro t r) k) := by
  blk_point [iblk, V, idx t]
theorem blk1 (k : Fin 1024) : View.ld (iblk m c 1 t) r0_1 (ix3 0 q k) = V m c main_v2 (ix3 ⟨t.val % 4, by omega⟩ q k) := by
  blk_point [iblk, V, idx t]
theorem blk2 : View.ld (iblk m c 2 t) r0_2 (ix2 r q) = V m c main_v10 (ix2 (ro t r) (co t q)) := by
  blk_point [iblk, V, idx t]
theorem blk3 : View.ld (iblk m c 3 t) r0_2 (ix2 r q) = V m c main_v15 (ix2 (ro t r) (co t q)) := by
  blk_point [iblk, V, idx t]
theorem act_eq : k0_pay1 (F := Ideal) (View.ld (iblk m c 0 t) r0_0) (View.ld (iblk m c 1 t) r0_1) (ix2 r q) = act m c (ro t r) (co t q) := by
  refine (pay1_apply _ _ r q).trans (Finset.sum_congr rfl fun k _ => congrArg₂ times (blk0 m c t r k) ((blk1 m c t q k).trans ?_))
  have hq := q.isLt
  exact congrArg₂ (fun a b => V m c main_v2 (ix3 a b k)) (Fin.ext (by show t.val % 4 = (t.val % 4 * 768 + q.val) / 768; omega)) (Fin.ext (by show q.val = (t.val % 4 * 768 + q.val) % 768; omega))

/-- What the point leaves in the results' staging buffers. -/
theorem point4 : out0_4 (iblk m c 0 t) (iblk m c 1 t) (iblk m c 2 t) (iblk m c 3 t) (ix2 r q) = fdg m c (ro t r) (co t q) := by
  unfold out0_4
  canon_tiles z hz
  have ez : z = ix2 r q := (eq_ix2 z).trans (congrArg₂ ix2 (Fin.ext (by have : r.val = (z 0).val := hz0; omega)) (Fin.ext (by have : q.val = (z 1).val := hz1; omega)))
  rw [ez]
  exact (pay4_apply _ _ _ _ r q).trans (congr (congr (congrArg dgate (act_eq m c t r q)) (blk2 m c t r q)) (blk3 m c t r q))
theorem point5 : out0_5 (iblk m c 0 t) (iblk m c 1 t) (iblk m c 2 t) (iblk m c 3 t) (ix2 r q) = fdu m c (ro t r) (co t q) := by
  unfold out0_5
  canon_tiles z hz
  have ez : z = ix2 r q := (eq_ix2 z).trans (congrArg₂ ix2 (Fin.ext (by have : r.val = (z 0).val := hz0; omega)) (Fin.ext (by have : q.val = (z 1).val := hz1; omega)))
  rw [ez]
  exact (pay5_apply _ _ _ r q).trans (congrArg₂ dup (act_eq m c t r q) (blk2 m c t r q))
end point

/-- The gate's cotangent. -/
theorem arr4 (c : Dev nD) : (dats m 0 c).arrAt 4 (cfgs 0).N = fun i : S2176x3072.Idx => fdg m c (i 0) (i 1) := by
  refine (dats m 0 c).arrAt_eq_of_covers 4 _ (by decide +kernel) fun t _ y => ?_
  blk_simp
  rw [after0_4]
  refine Eq.trans ((congrArg _ (eq_ix2 y)).trans (point4 m c t (y 0) (y 1))) (congrArg₂ (fdg m c) (Fin.ext ?_) (Fin.ext ?_))
  · blk_simp [idx t] <;> try omega
  · blk_simp [idx t] <;> try omega
/-- The other factor's cotangent. -/
theorem arr5 (c : Dev nD) : (dats m 0 c).arrAt 5 (cfgs 0).N = fun i : S2176x3072.Idx => fdu m c (i 0) (i 1) := by
  refine (dats m 0 c).arrAt_eq_of_covers 5 _ (by decide +kernel) fun t _ y => ?_
  blk_simp
  rw [after0_5]
  refine Eq.trans ((congrArg _ (eq_ix2 y)).trans (point5 m c t (y 0) (y 1))) (congrArg₂ (fdu m c) (Fin.ext ?_) (Fin.ext ?_))
  · blk_simp [idx t] <;> try omega
  · blk_simp [idx t] <;> try omega

end Cert.FfnKernelIdeal.Value
-- ==== Proof.FfnFinal.lean ====
/- The feed-forward's backward call through the gated activation: the kernel's two result arrays are the reference's. -/
module

public import proofs.«01_k».proof.Defs
public import proofs.«01_k».proof.Proof.FfnValue
public import proofs.«01_k».proof.Proof.Gen.FfnReferenceIdeal.Read
public import Idealize.ShloMosaic.Lib.Pipeline.ValueKit
public import proofs.«01_k».proof.Proof.Gen.Pre_finite_ffn

@[expose] public section

set_option maxRecDepth 16384

noncomputable section

open Idealize.ShloMosaic Idealize.ShloMosaic.TcCoe Idealize.SL.Sem
open Idealize.ShloMosaic.Pipeline (Dat)

namespace Cert.FfnKernelIdeal.Value

open Cert.Reals Cert.FfnKernelIdeal Cert.FfnKernelIdeal.Gen Cert.FfnReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- Where a hidden column of the chips' padded layout comes from. -/
abbrev from_ (q : Fin 3072) (h : q.val % 768 < 704) : Fin 2816 := ⟨q.val / 768 * 704 + q.val % 768, by have := q.isLt; omega⟩

/-- The operands: the cotangent below 112 rows of zeros, -/
theorem V5 (c : Dev nD) (r : Fin 2176) (k : Fin 1024) : V m c main_v5 (ix2 r k)
    = if h : 112 ≤ r.val then m ((c : Thread nD τ).loc main_arg3) (ix3 0 ⟨r.val - 112, by omega⟩ k) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the weight by chips, each chip's rows padded, -/
theorem V2 (c : Dev nD) (a : Fin 4) (q : Fin 768) (k : Fin 1024) : V m c main_v2 (ix3 a q k)
    = if h : q.val < 704 then m ((c : Thread nD τ).loc main_arg2) (ix2 ⟨a.val * 704 + q.val, by have := a.isLt; omega⟩ k) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]
/-- and the activation's two factors. -/
theorem V10 (c : Dev nD) (r : Fin 2176) (q : Fin 3072) : V m c main_v10 (ix2 r q)
    = if h : 112 ≤ r.val ∧ q.val % 768 < 704 then m ((c : Thread nD τ).loc main_arg0) (ix3 0 ⟨r.val - 112, by omega⟩ (from_ q h.2)) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
theorem V15 (c : Dev nD) (r : Fin 2176) (q : Fin 3072) : V m c main_v15 (ix2 r q)
    = if h : 112 ≤ r.val ∧ q.val % 768 < 704 then m ((c : Thread nD τ).loc main_arg1) (ix3 0 ⟨r.val - 112, by omega⟩ (from_ q h.2)) else (0 : EReal) := by
  unfold V
  simp only [hostOps0, hostOps0_1, hostOps0_2, hostOps0_3, hostOps0_4, hostOps0_5, hostOps0_6, hostOps0_7, hostOps0_8, hostOps0_9, hostOps0_10, hostOps0_11, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl

/-- The precondition: the second factor, the weight and the cotangent are reals. -/
theorem finite1 (h : Pre_FfnKernelIdeal_finite_ffn m) (c : Dev nD) (i : S1x2064x2816.Idx) : ∃ y : ℝ, m ((c : Thread nD τ).loc main_arg1) i = (y : EReal) := by
  have e := congrFun (h c).1 i
  pointwise [Cert.Pre_finite_ffn.fn] at e
  exact Reals.real_of_abs _ e
theorem finite2 (h : Pre_FfnKernelIdeal_finite_ffn m) (c : Dev nD) (i : S2816x1024.Idx) : ∃ y : ℝ, m ((c : Thread nD τ).loc main_arg2) i = (y : EReal) := by
  have e := congrFun (h c).2.1 i
  pointwise [Cert.Pre_finite_ffn.fn] at e
  exact Reals.real_of_abs _ e
theorem finite3 (h : Pre_FfnKernelIdeal_finite_ffn m) (c : Dev nD) (i : S1x2064x1024.Idx) : ∃ y : ℝ, m ((c : Thread nD τ).loc main_arg3) i = (y : EReal) := by
  have e := congrFun (h c).2.2 i
  pointwise [Cert.Pre_finite_ffn.fn] at e
  exact Reals.real_of_abs _ e

variable (g u : FVec Ideal S1x2064x2816 .f32) (w : FVec Ideal S2816x1024 .f32) (d : FVec Ideal S1x2064x1024 .f32) (r : Fin 2064) (q : Fin 2816)

theorem act_read : val_main_v3 (F := Ideal) w d (ix3 0 r q) = ∑ k : Fin 1024, times (d (ix3 0 r k)) (w (ix2 q k)) := by
  pointwise [val_main_v3, times]
theorem du_read : val_main_v4 (F := Ideal) g w d (ix3 0 r q) = dup (val_main_v3 (F := Ideal) w d (ix3 0 r q)) (g (ix3 0 r q)) := by
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v0_0, val_main_v4, dup, logis]
  rw [zero_sub, mul_comm]
theorem dg_read (a : ℝ) (ha : val_main_v3 (F := Ideal) w d (ix3 0 r q) * u (ix3 0 r q) = (a : EReal)) : val_main_v6 (F := Ideal) g u w d (ix3 0 r q) = dgate (val_main_v3 (F := Ideal) w d (ix3 0 r q)) (g (ix3 0 r q)) (u (ix3 0 r q)) := by
  pointwise [val_main_call0_v0, val_main_call0_v1, val_main_call0_cst, val_main_call0_v2, val_main_call0_v3, val_main_call0_cst_0, val_main_call0_v4, val_main_v0_2, val_main_call0_cst_1, val_main_call0_v6, val_main_call0_v7, val_main_v0_1, val_main_v5, val_main_call1_v0, val_main_call1_v1, val_main_call1_v2, val_main_v6, dgate, logis]
  rw [← zero_sub, ha]
  exact (silu_ct _ a).symm
theorem v12_read (k : Fin 2176) (q : Fin 3072) : val_main_v12 (F := Ideal) g u w d (ix2 k q)
    = if h : 112 ≤ k.val ∧ q.val % 768 < 704 then val_main_v6 (F := Ideal) g u w d (ix3 0 ⟨k.val - 112, by omega⟩ (from_ q h.2)) else (0 : EReal) := by
  pointwise [val_main_v7, val_main_v8, val_main_c, val_main_call2_v0, val_main_v9, val_main_v10, val_main_c_0, val_main_call3_v0, val_main_v11, val_main_v12]
  have hr := k.isLt
  simp only [sitofp_zero]
  split_ifs <;> first | (exfalso; omega) | rfl
theorem v18_read (k : Fin 2176) (q : Fin 3072) : val_main_v18 (F := Ideal) g w d (ix2 k q)
    = if h : 112 ≤ k.val ∧ q.val % 768 < 704 then val_main_v4 (F := Ideal) g w d (ix3 0 ⟨k.val - 112, by omega⟩ (from_ q h.2)) else (0 : EReal) := by
  pointwise [val_main_v13, val_main_v14, val_main_c_1, val_main_call4_v0, val_main_v15, val_main_v16, val_main_c_2, val_main_call5_v0, val_main_v17, val_main_v18]
  have hr := k.isLt
  simp only [sitofp_zero]
  split_ifs <;> first | (exfalso; omega) | rfl

/-- The activation's cotangent: the reference's on the columns that hold one, zero elsewhere. -/
theorem act_eq_read (c : Dev nD) (k : Fin 2176) (q : Fin 3072) : act m c k q
    = if h : 112 ≤ k.val ∧ q.val % 768 < 704 then val_main_v3 (F := Ideal) (m ((c : Thread nD τ).loc main_arg2)) (m ((c : Thread nD τ).loc main_arg3)) (ix3 0 ⟨k.val - 112, by omega⟩ (from_ q h.2)) else (0 : EReal) := by
  unfold act
  by_cases h1 : 112 ≤ k.val
  · by_cases h2 : q.val % 768 < 704
    · rw [dif_pos ⟨h1, h2⟩, act_read]
      refine Finset.sum_congr rfl fun s _ => ?_
      exact congrArg₂ times ((V5 m c k s).trans (dif_pos h1)) ((V2 m c _ _ s).trans (dif_pos h2))
    · rw [dif_neg fun e => h2 e.2]
      refine Finset.sum_eq_zero fun s _ => ?_
      exact (congrArg₂ times rfl ((V2 m c _ _ s).trans (dif_neg h2))).trans (mul_zero _)
  · rw [dif_neg fun e => h1 e.1]
    refine Finset.sum_eq_zero fun s _ => ?_
    exact (congrArg₂ times ((V5 m c k s).trans (dif_neg h1)) rfl).trans (zero_mul _)

/-- The two result arrays. -/
theorem fdu_eq (c : Dev nD) (k : Fin 2176) (q : Fin 3072) : fdu m c k q
    = if h : 112 ≤ k.val ∧ q.val % 768 < 704 then val_main_v4 (F := Ideal) (m ((c : Thread nD τ).loc main_arg0)) (m ((c : Thread nD τ).loc main_arg2)) (m ((c : Thread nD τ).loc main_arg3)) (ix3 0 ⟨k.val - 112, by omega⟩ (from_ q h.2)) else (0 : EReal) := by
  unfold fdu
  rw [act_eq_read, V10]
  by_cases h : 112 ≤ k.val ∧ q.val % 768 < 704
  · rw [dif_pos h, dif_pos h, dif_pos h, du_read]
  · rw [dif_neg h, dif_neg h, dif_neg h]
    exact zero_mul _
theorem fdg_eq (h : Pre_FfnKernelIdeal_finite_ffn m) (c : Dev nD) (k : Fin 2176) (q : Fin 3072) : fdg m c k q
    = if h : 112 ≤ k.val ∧ q.val % 768 < 704 then val_main_v6 (F := Ideal) (m ((c : Thread nD τ).loc main_arg0)) (m ((c : Thread nD τ).loc main_arg1)) (m ((c : Thread nD τ).loc main_arg2)) (m ((c : Thread nD τ).loc main_arg3)) (ix3 0 ⟨k.val - 112, by omega⟩ (from_ q h.2)) else (0 : EReal) := by
  unfold fdg
  rw [act_eq_read, V10, V15]
  by_cases h' : 112 ≤ k.val ∧ q.val % 768 < 704
  · rw [dif_pos h', dif_pos h', dif_pos h', dif_pos h']
    obtain ⟨a, ha⟩ : ∃ a : ℝ, val_main_v3 (F := Ideal) (m ((c : Thread nD τ).loc main_arg2)) (m ((c : Thread nD τ).loc main_arg3)) (ix3 0 ⟨k.val - 112, by omega⟩ (from_ q h'.2)) = (a : EReal) := by
      rw [act_read]
      refine real_sum _ fun s => ?_
      obtain ⟨x, hx⟩ := finite3 m h c (ix3 0 ⟨k.val - 112, by omega⟩ s)
      obtain ⟨y, hy⟩ := finite2 m h c (ix2 (from_ q h'.2) s)
      exact ⟨x * y, by rw [hx, hy]; exact (EReal.coe_mul _ _).symm⟩
    obtain ⟨b, hb⟩ := finite1 m h c (ix3 0 ⟨k.val - 112, by omega⟩ (from_ q h'.2))
    exact (dg_read _ _ _ _ _ _ (a * b) (by rw [ha, hb]; exact (EReal.coe_mul _ _).symm)).symm
  · rw [dif_neg h', dif_neg h', dif_neg h', dif_neg h']
    show (0 : EReal) * 0 * _ = 0
    rw [zero_mul, zero_mul]
theorem final4 (h : Pre_FfnKernelIdeal_finite_ffn m) (c : Dev nD) : (dats m 0 c).arrAt 4 (cfgs 0).N = val_main_v12 (F := Ideal) (m ((c : Thread nD τ).loc main_arg0)) (m ((c : Thread nD τ).loc main_arg1)) (m ((c : Thread nD τ).loc main_arg2)) (m ((c : Thread nD τ).loc main_arg3)) := by
  rw [arr4]
  funext i
  idx_vars i
  rw [v12_read]
  exact fdg_eq m h c i0 i1
theorem final5 (_h : Pre_FfnKernelIdeal_finite_ffn m) (c : Dev nD) : (dats m 0 c).arrAt 5 (cfgs 0).N = val_main_v18 (F := Ideal) (m ((c : Thread nD τ).loc main_arg0)) (m ((c : Thread nD τ).loc main_arg2)) (m ((c : Thread nD τ).loc main_arg3)) := by
  rw [arr5]
  funext i
  idx_vars i
  rw [v18_read]
  exact fdu_eq m c i0 i1

end Cert.FfnKernelIdeal.Value
-- ==== Proof.FfnClaim.lean ====
/- The feed-forward's backward call: from finite second factor, weight and cotangent, the kernel's two result arrays are the reference's gradients. -/
module

public import proofs.«01_k».proof.Defs
public import proofs.«01_k».proof.Proof.FfnFinal
public import proofs.«01_k».proof.Proof.Gen.FfnReferenceIdeal.Read

@[expose] public section

set_option maxRecDepth 16384

noncomputable section

open Idealize.ShloMosaic Idealize.ShloMosaic.TcCoe Idealize.SL.Sem
open Idealize.ShloMosaic.Pipeline (Dat)

namespace Cert.FfnReferenceIdeal.Read

open Cert.FfnReferenceIdeal Cert.FfnReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v18) = val_main_v18 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v12_eq _ _ _ _), (h c).2.1.trans (val_main_v18_eq _ _ _), (h c).2.2⟩) (Value.run m ρ)

end Cert.FfnReferenceIdeal.Read

namespace Cert.FfnKernelIdeal.Value

/-- The feed-forward's backward call: from finite second factor, weight and cotangent, the kernel's two result arrays are the reference's gradients. -/
theorem algebraic : Cert.algebraic_FfnKernelIdeal_FfnReferenceIdeal_pre_finite_ffn := by
  pair_intro
  · run_from Cert.FfnKernelIdeal.Gen.run_main m g & Cert.FfnKernelIdeal.Gen.unchanged m g
  · run_from Cert.FfnReferenceIdeal.Read.run m' g'
    · exact (final4 m hpre c).symm
    · exact (final5 m hpre c).symm

end Cert.FfnKernelIdeal.Value
-- ==== Proof.Norm.lean ====
/- The gradient of a norm of one row: as the kernels write it, and as the reference's derivative comes out. -/
module

public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.Reals

variable {n : ℕ}

/-- The mean of the squares, and a small constant. -/
def moment (d e : EReal) (x : Fin n → EReal) : EReal := Ideal.div (∑ k, x k * x k) d + e
/-- The cotangent of the mean of the squares, over the number of columns. -/
def factor (d e h : EReal) (x g : Fin n → EReal) : EReal :=
  Ideal.div ((∑ k, x k * g k) * (h * Ideal.div (Ideal.rsqrt (moment d e x)) (moment d e x))) d
/-- The cotangent of the normalised row, as the product rule gives it and as the square's derivative gives it. -/
def rowct (d e h : EReal) (x g : Fin n → EReal) (q : Fin n) : EReal :=
  g q * Ideal.rsqrt (moment d e x) + x q * factor d e h x g + factor d e h x g * x q
def rowctR (d e h two : EReal) (x g : Fin n → EReal) (q : Fin n) : EReal :=
  g q * Ideal.rsqrt (moment d e x) + factor d e h x g * (two * x q)

theorem add_self (a b : EReal) : a * b + b * a = b * (((2 : ℝ) : EReal) * a) := by
  have h : ((2 : ℝ) : EReal) * a = a + a := by
    have : ((2 : ℝ) : EReal) = 1 + 1 := by rw [← EReal.coe_one, ← EReal.coe_add]; norm_num
    rw [this, EReal.right_distrib_of_nonneg zero_le_one zero_le_one, one_mul]
  have h' : b * (((2 : ℝ) : EReal) * a) = ((2 : ℝ) : EReal) * (b * a) := by rw [← mul_assoc, mul_comm b, mul_assoc]
  have h2 : ((2 : ℝ) : EReal) * (b * a) = b * a + b * a := by
    have : ((2 : ℝ) : EReal) = 1 + 1 := by rw [← EReal.coe_one, ← EReal.coe_add]; norm_num
    rw [this, EReal.right_distrib_of_nonneg zero_le_one zero_le_one, one_mul]
  rw [h', h2, mul_comm a b]
theorem rowct_eq (d e h : EReal) (x g : Fin n → EReal) (q : Fin n) : rowct d e h x g q = rowctR d e h ((2 : ℝ) : EReal) x g q := by
  unfold rowct rowctR
  rw [add_assoc, add_self]

/-- A square is not negative, nor is a sum of squares. -/
theorem sq_nonneg (a : EReal) : 0 ≤ a * a := by
  induction a with
  | bot => simp
  | top => simp
  | coe r => rw [← EReal.coe_mul]; exact EReal.coe_nonneg.2 (mul_self_nonneg r)
theorem moment_pos {d e : ℝ} (hd : 0 < d) (he : 0 < e) (x : Fin n → EReal) : 0 < moment (d : EReal) (e : EReal) x := by
  unfold moment
  rw [Ideal.div_coe hd.ne']
  refine lt_of_lt_of_le (EReal.coe_pos.2 he) (le_add_of_nonneg_left ?_)
  exact mul_nonneg (Finset.sum_nonneg fun k _ => sq_nonneg (x k)) (EReal.coe_nonneg.2 (by positivity))
/-- The inverse root of the moment is a real, whatever the row. -/
theorem rsqrt_real {d e : ℝ} (hd : 0 < d) (he : 0 < e) (x : Fin n → EReal) : ∃ r : ℝ, Ideal.rsqrt (moment (d : EReal) (e : EReal) x) = (r : EReal) := by
  have h := moment_pos hd he x
  generalize moment (d : EReal) (e : EReal) x = s at h
  induction s with
  | bot => exact absurd h (by simp)
  | top => exact ⟨0, rfl⟩
  | coe r =>
    have hr : 0 < r := EReal.coe_pos.1 h
    exact ⟨(Real.sqrt r)⁻¹, by rw [Ideal.rsqrt_coe, if_neg hr.le.not_gt, if_neg hr.ne']⟩

/-- A row less its mean. -/
def center (d : EReal) (p : Fin n → EReal) (q : Fin n) : EReal := p q - Ideal.div (∑ k, p k) d
/-- The cotangent of the row before its mean was taken off, in the two forms. -/
def core (d e h : EReal) (p g : Fin n → EReal) (q : Fin n) : EReal :=
  rowct d e h (center d p) g q + Ideal.div (∑ k, (0 - rowct d e h (center d p) g k)) d
def coreR (d e h two : EReal) (p g : Fin n → EReal) (q : Fin n) : EReal :=
  rowctR d e h two (center d p) g q + Ideal.div ((∑ k, -(g k * Ideal.rsqrt (moment d e (center d p))))
    + ∑ k, -(factor d e h (center d p) g * (two * center d p k))) d
theorem core_eq {d e : ℝ} (hd : 0 < d) (he : 0 < e) (h : EReal) (p g : Fin n → EReal) (hg : ∀ k, ∃ r : ℝ, g k = (r : EReal)) (q : Fin n) :
    core (d : EReal) (e : EReal) h p g q = coreR (d : EReal) (e : EReal) h ((2 : ℝ) : EReal) p g q := by
  unfold core coreR
  simp only [rowct_eq]
  rw [← Finset.sum_add_distrib]
  refine congrArg (fun s => _ + Ideal.div s _) (Finset.sum_congr rfl fun k _ => ?_)
  unfold rowctR
  obtain ⟨a, ha⟩ := hg k
  obtain ⟨b, hb⟩ := rsqrt_real hd he (center (d : EReal) p)
  rw [ha, hb, ← EReal.coe_mul, zero_sub, EReal.neg_add (.inl (EReal.coe_ne_bot _)) (.inl (EReal.coe_ne_top _))]
  rfl
/-- A row whose cotangent is zero gives zero. -/
theorem rowct_zero (d e h : EReal) (x g : Fin n → EReal) (hd : Ideal.div 0 d = 0) (hg : ∀ k, g k = 0) (q : Fin n) : rowct d e h x g q = 0 := by
  have hf : factor d e h x g = 0 := by
    unfold factor
    rw [Finset.sum_eq_zero fun k _ => by rw [hg k, mul_zero], zero_mul, hd]
  unfold rowct
  rw [hf, hg q, zero_mul, mul_zero, zero_mul, add_zero, add_zero]
theorem core_zero (d e h : EReal) (p g : Fin n → EReal) (hd : Ideal.div 0 d = 0) (hg : ∀ k, g k = 0) (q : Fin n) : core d e h p g q = 0 := by
  unfold core
  rw [rowct_zero _ _ _ _ _ hd hg, Finset.sum_eq_zero fun k _ => by rw [rowct_zero _ _ _ _ _ hd hg, sub_zero], hd, add_zero]

/-- A host sum over the first and the last axis of three. -/
@[pointwise] theorem hostReduceAdd_outer {a b n : ℕ} (h : (⟨3, ![a, n, b]⟩ : Shape).ReducesTo [0, 2] ⟨1, ![n]⟩) (v : (⟨3, ![a, n, b]⟩ : Shape).Idx → EReal) (z : EReal) (q : Fin n) :
    Ideal.hostReduceAdd h v z (ix1 q) = z + ∑ i : Fin a, ∑ j : Fin b, v (ix3 i q j) := by
  refine congrArg (z + ·) ?_
  refine (Finset.sum_filter_eq_sum_of_fiber _ (fun k : Fin a × Fin b => ix3 k.1 q k.2) (fun _ _ e => Prod.ext (congrFun e 0) (congrFun e 2)) (fun i => ?_) v).trans ?_
  · constructor
    · intro e
      refine ⟨(i 0, i 2), ?_⟩
      funext x; apply Fin.ext
      match x with
      | ⟨0, _⟩ => rfl
      | ⟨1, _⟩ => exact (congrArg Fin.val (congrFun e (0 : Fin 1))).symm
      | ⟨2, _⟩ => rfl
    · rintro ⟨k, rfl⟩
      funext x; apply Fin.ext
      match x with
      | ⟨0, _⟩ => rfl
  · simp only [Fintype.sum_prod_type]

/-- The literals: the small constant and the numbers of columns. -/
theorem lit_eps : ∃ e : ℝ, 0 < e ∧ Ideal.ofBits .f32 0x3727C5AC#32 = (e : EReal) := by
  refine ⟨_, ?_, by simp [Ideal.ofBits, Ideal.ieee, -EReal.coe_mul]; rfl⟩
  norm_num
theorem lit_256 : Ideal.ofBits .f32 0x43800000#32 = ((256 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num

end Cert.Reals
-- ==== Proof.LnValue.lean ====
/- The residual's layer norm, backward: what the kernel's four result arrays hold, as functions of its operands. -/
module

public import proofs.«01_k».proof.Proof.Gen.LnKernelIdeal.Frame
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.LnKernelIdeal.Value

open Cert.LnKernelIdeal Cert.LnKernelIdeal.Gen Cert.Reals

/-- The literals: 1024, the small constant, minus a half. -/
abbrev D : EReal := Ideal.ofBits .f32 0x44800000#32
abbrev E : EReal := Ideal.ofBits .f32 0x3727C5AC#32
abbrev H : EReal := Ideal.ofBits .f32 0xBF000000#32
/-- The residual of two elements, the two factors, products and a normalised element's product. -/
def lin (a b : EReal) : EReal := Ideal.ofBits .f32 0x3FB504F3#32 * a + Ideal.ofBits .f32 0x3F000000#32 * b
def alpha (a : EReal) : EReal := Ideal.ofBits .f32 0x3FB504F3#32 * a
def half (a : EReal) : EReal := Ideal.ofBits .f32 0x3F000000#32 * a
def times (a b : EReal) : EReal := a * b
def normed (p : Fin 1024 → EReal) (y : EReal) (q : Fin 1024) : EReal := center D p q * Ideal.rsqrt (moment D E (center D p)) * y

section block
variable (h o y : FVec Ideal S544x1024 .f32) (g : FVec Ideal S1x1024 .f32) (r : Fin 544) (q : Fin 1024)

theorem pay2_apply : k0_pay2 (F := Ideal) h o (ix2 r q) = center D (fun k => lin (h (ix2 r k)) (o (ix2 r k))) q := by
  pointwise [k0_pay2, center, lin]
theorem pay3_apply (x : Fin 1) : k0_pay3 (F := Ideal) h o (ix2 r x) = moment D E (center D fun k => lin (h (ix2 r k)) (o (ix2 r k))) := by
  obtain rfl : x = 0 := Subsingleton.elim _ _
  pointwise [k0_pay3, moment]
  simp only [pay2_apply]
theorem pay12_apply : k0_pay12 (F := Ideal) (k0_pay2 h o) (k0_pay4 h o) (k0_pay5 h o) (k0_pay9 g y) (k0_pay10 h o g y) (ix2 r q)
    = alpha (core D E H (fun k => lin (h (ix2 r k)) (o (ix2 r k))) (fun k => times (y (ix2 r k)) (g (ix2 0 k))) q) := by
  pointwise [k0_pay12, k0_pay11, k0_pay10, k0_pay9, k0_pay6, k0_pay5, k0_pay4, alpha, core, rowct, factor, times]
  simp only [pay2_apply, pay3_apply, Fintype.sum_unique]
  try rfl
theorem pay13_apply : k0_pay13 (F := Ideal) (k0_pay2 h o) (k0_pay4 h o) (k0_pay5 h o) (k0_pay9 g y) (k0_pay10 h o g y) (ix2 r q)
    = half (core D E H (fun k => lin (h (ix2 r k)) (o (ix2 r k))) (fun k => times (y (ix2 r k)) (g (ix2 0 k))) q) := by
  pointwise [k0_pay13, k0_pay11, k0_pay10, k0_pay9, k0_pay6, k0_pay5, k0_pay4, half, core, rowct, factor, times]
  simp only [pay2_apply, pay3_apply, Fintype.sum_unique]
  try rfl
theorem pay7_apply : k0_pay7 (F := Ideal) y (ix2 0 q) = ∑ r : Fin 544, y (ix2 r q) := by
  pointwise [k0_pay7, k0_pay6]
theorem pay8_apply : k0_pay8 (F := Ideal) h o y (ix2 0 q) = ∑ r : Fin 544, normed (fun k => lin (h (ix2 r k)) (o (ix2 r k))) (y (ix2 r q)) q := by
  pointwise [k0_pay8, k0_pay6, k0_pay4, normed]
  simp only [pay2_apply, pay3_apply, Fintype.sum_unique]
  try rfl
theorem pay14_apply (v : FVec Ideal S1x1024 .f32) (a : FVec Ideal S1x1024 .f32) (j : S1x1024.Idx) : k0_pay14 (F := Ideal) v a j = a j + v j := by
  pointwise [k0_pay14]
theorem pay1_apply (v : FVec Ideal S1x1024 .f32) (a : FVec Ideal S1x1024 .f32) (j : S1x1024.Idx) : k0_pay1 (F := Ideal) v a j = a j + v j := by
  pointwise [k0_pay1]
end block

variable (m : (ℓ : Loc nD τ sig) → Buf (Elt Ideal) ℓ)

/-- The windows' blocks move together down the rows; the scale's and the sums' block is the one block of its array. -/
theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![t.val, 0] ∧ win0_7.index t = ![0, 0] ∧ win0_8.index t = ![0, 0] :=
  (by decide +kernel : ∀ t : Fin grid0.N, _)

/-- A row of the residual, and its cotangent scaled. -/
def pre (c : Dev nD) (r : Fin 2176) (k : Fin 1024) : EReal := lin (V m c main_v1 (ix2 r k)) (V m c main_v3 (ix2 r k))
def ct (c : Dev nD) (r : Fin 2176) (k : Fin 1024) : EReal := V m c main_v7 (ix2 r k)
def cot (c : Dev nD) (r : Fin 2176) (k : Fin 1024) : EReal := times (V m c main_v7 (ix2 r k)) (V m c main_v4 (ix2 0 k))

section point
variable (c : Dev nD) (t : Fin cfg0.N) (r : Fin 544) (q : Fin 1024)

abbrev ro : Fin 2176 := ⟨t.val * 544 + r.val, by have : t.val < 4 := t.isLt; have := r.isLt; omega⟩
theorem blk0 : iblk m c 0 t (ix2 r q) = V m c main_v1 (ix2 (ro t r) q) := by
  blk_point [iblk, V, idx t]
theorem blk1 : iblk m c 1 t (ix2 r q) = V m c main_v3 (ix2 (ro t r) q) := by
  blk_point [iblk, V, idx t]
theorem blk2 : iblk m c 2 t (ix2 0 q) = V m c main_v4 (ix2 0 q) := by
  blk_point [iblk, V, idx t]
theorem blk4 : iblk m c 4 t (ix2 r q) = V m c main_v7 (ix2 (ro t r) q) := by
  blk_point [iblk, V, idx t]
theorem pre_eq : (fun k => lin (iblk m c 0 t (ix2 r k)) (iblk m c 1 t (ix2 r k))) = pre m c (ro t r) :=
  funext fun k => congrArg₂ lin (blk0 m c t r k) (blk1 m c t r k)
theorem cot_eq : (fun k => times (iblk m c 4 t (ix2 r k)) (iblk m c 2 t (ix2 0 k))) = cot m c (ro t r) :=
  funext fun k => congrArg₂ times (blk4 m c t r k) (blk2 m c t k)
theorem point5 : (outsAt0 m c t.val t.isLt).1 (ix2 r q) = alpha (core D E H (pre m c (ro t r)) (cot m c (ro t r)) q) := by
  rw [← pre_eq, ← cot_eq, ← pay12_apply]
  have ht : t.val < 4 := t.isLt
  by_cases h : t.val % 4 = 0
  · rw [outsAt0_A m c t h (by omega) h (by omega)]; frame_out
  · rw [outsAt0_B m c t h (by omega) h (by omega)]; frame_out
theorem point6 : (outsAt0 m c t.val t.isLt).2.1 (ix2 r q) = half (core D E H (pre m c (ro t r)) (cot m c (ro t r)) q) := by
  rw [← pre_eq, ← cot_eq, ← pay13_apply]
  have ht : t.val < 4 := t.isLt
  by_cases h : t.val % 4 = 0
  · rw [outsAt0_A m c t h (by omega) h (by omega)]; frame_out
  · rw [outsAt0_B m c t h (by omega) h (by omega)]; frame_out
end point

/-- The first operand's cotangent. -/
theorem arr5 (c : Dev nD) : (dats m 0 c).arrAt 5 (cfgs 0).N = fun i : S2176x1024.Idx => alpha (core D E H (pre m c (i 0)) (cot m c (i 0)) (i 1)) := by
  refine (dats m 0 c).arrAt_eq_of_covers 5 _ (by decide +kernel) fun t _ y => ?_
  blk_simp
  rw [after0_5]
  refine Eq.trans ((congrArg _ (eq_ix2 y)).trans (point5 m c t (y 0) (y 1))) (congrArg₂ (fun a b => alpha (core D E H (pre m c a) (cot m c a) b)) (Fin.ext ?_) (Fin.ext ?_))
  · blk_simp [idx t] <;> try omega
  · blk_simp [idx t] <;> try omega
/-- The second's. -/
theorem arr6 (c : Dev nD) : (dats m 0 c).arrAt 6 (cfgs 0).N = fun i : S2176x1024.Idx => half (core D E H (pre m c (i 0)) (cot m c (i 0)) (i 1)) := by
  refine (dats m 0 c).arrAt_eq_of_covers 6 _ (by decide +kernel) fun t _ y => ?_
  blk_simp
  rw [after0_6]
  refine Eq.trans ((congrArg _ (eq_ix2 y)).trans (point6 m c t (y 0) (y 1))) (congrArg₂ (fun a b => half (core D E H (pre m c a) (cot m c a) b)) (Fin.ext ?_) (Fin.ext ?_))
  · blk_simp [idx t] <;> try omega
  · blk_simp [idx t] <;> try omega
/-- What the last point leaves in the sums' buffers: the points' parts added up. -/
theorem last7 (c : Dev nD) (j : S1x1024.Idx) : (outsAt0 m c t0_3.val t0_3.isLt).2.2.1 j = ∑ t : Fin 4, k0_pay8 (F := Ideal) (iblk m c 0 t) (iblk m c 1 t) (iblk m c 4 t) j := by
  rw [Pipeline.eq_sum_fin_of_reset_step_apply_last (fun n h => (outsAt0 m c n h).2.2.1) 4 (fun _ => 0) (fun t => k0_pay8 (F := Ideal) (iblk m c 0 t) (iblk m c 1 t) (iblk m c 4 t))
    (fun t h j => by have ht : t.val < 4 := t.isLt; rw [outsAt0_A m c t h (by omega) h (by omega)]; frame_out; rw [zero_add])
    (fun t h j => by have ht : t.val < 4 := t.isLt; rw [outsAt0_B m c t h (by omega) h (by omega)]; frame_out; rw [pay14_apply])
    (le_of_eq N_0) t0_3 rfl j, zero_add]
  rfl
theorem last8 (c : Dev nD) (j : S1x1024.Idx) : (outsAt0 m c t0_3.val t0_3.isLt).2.2.2 j = ∑ t : Fin 4, k0_pay7 (F := Ideal) (iblk m c 4 t) j := by
  rw [Pipeline.eq_sum_fin_of_reset_step_apply_last (fun n h => (outsAt0 m c n h).2.2.2) 4 (fun _ => 0) (fun t => k0_pay7 (F := Ideal) (iblk m c 4 t))
    (fun t h j => by have ht : t.val < 4 := t.isLt; rw [outsAt0_A m c t h (by omega) h (by omega)]; frame_out; rw [zero_add])
    (fun t h j => by have ht : t.val < 4 := t.isLt; rw [outsAt0_B m c t h (by omega) h (by omega)]; frame_out; rw [pay1_apply])
    (le_of_eq N_0) t0_3 rfl j, zero_add]
  rfl
theorem sum7 (c : Dev nD) (q : Fin 1024) : (outsAt0 m c t0_3.val t0_3.isLt).2.2.1 (ix2 0 q) = ∑ r : Fin 2176, normed (pre m c r) (V m c main_v7 (ix2 r q)) q := by
  rw [last7]
  refine (Finset.sum_congr rfl fun t _ => pay8_apply _ _ _ q).trans ?_
  refine Fin.sum_mul_add_congr fun t k hl => ?_
  exact congrArg₂ (fun a b => normed a b q) (pre_eq m c t k) (blk4 m c t k q)
theorem sum8 (c : Dev nD) (q : Fin 1024) : (outsAt0 m c t0_3.val t0_3.isLt).2.2.2 (ix2 0 q) = ∑ r : Fin 2176, ct m c r q := by
  rw [last8]
  refine (Finset.sum_congr rfl fun t _ => pay7_apply _ q).trans ?_
  refine Fin.sum_mul_add_congr fun t k hl => ?_
  exact blk4 m c t k q
/-- The scale's cotangent: a sum over all rows. -/
theorem arr7 (c : Dev nD) : (dats m 0 c).arrAt 7 (cfgs 0).N = fun i : S1x1024.Idx => ∑ r : Fin 2176, normed (pre m c r) (V m c main_v7 (ix2 r (i 1))) (i 1) := by
  refine (dats m 0 c).arrAt_eq_of_after_last 7 t0_3 (by decide +kernel) _ fun j => ?_
  blk_simp
  rw [after0_7]
  refine Eq.trans (congrArg _ ?_) (sum7 m c (j 1))
  exact (eq_ix2 j).trans (congrArg (fun a => ix2 a (j 1)) (Subsingleton.elim _ _))
/-- The shift's: the cotangent's sum over all rows. -/
theorem arr8 (c : Dev nD) : (dats m 0 c).arrAt 8 (cfgs 0).N = fun i : S1x1024.Idx => ∑ r : Fin 2176, ct m c r (i 1) := by
  refine (dats m 0 c).arrAt_eq_of_after_last 8 t0_3 (by decide +kernel) _ fun j => ?_
  blk_simp
  rw [after0_8]
  refine Eq.trans (congrArg _ ?_) (sum8 m c (j 1))
  exact (eq_ix2 j).trans (congrArg (fun a => ix2 a (j 1)) (Subsingleton.elim _ _))

end Cert.LnKernelIdeal.Value
-- ==== Proof.LnFinal.lean ====
/- The residual's layer norm, backward: the kernel's four result arrays are the reference's. -/
module

public import proofs.«01_k».proof.Defs
public import proofs.«01_k».proof.Proof.LnValue
public import proofs.«01_k».proof.Proof.Gen.LnReferenceIdeal.Read
public import Idealize.ShloMosaic.Lib.Pipeline.ValueKit
public import proofs.«01_k».proof.Proof.Gen.Pre_finite_ln

@[expose] public section

set_option maxRecDepth 16384

noncomputable section

open Idealize.ShloMosaic Idealize.ShloMosaic.TcCoe Idealize.SL.Sem
open Idealize.ShloMosaic.Pipeline (Dat)

namespace Cert.LnKernelIdeal.Value

open Cert.Reals Cert.LnKernelIdeal Cert.LnKernelIdeal.Gen Cert.LnReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the residual's two parts below 112 rows of zeros, -/
theorem V1 (c : Dev nD) (r : Fin 2176) (k : Fin 1024) : V m c main_v1 (ix2 r k)
    = if h : 112 ≤ r.val then m ((c : Thread nD τ).loc main_arg0) (ix3 0 ⟨r.val - 112, by omega⟩ k) else (0 : EReal) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
theorem V3 (c : Dev nD) (r : Fin 2176) (k : Fin 1024) : V m c main_v3 (ix2 r k)
    = if h : 112 ≤ r.val then m ((c : Thread nD τ).loc main_arg1) (ix3 0 ⟨r.val - 112, by omega⟩ k) else (0 : EReal) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the cotangent likewise, -/
theorem V7 (c : Dev nD) (r : Fin 2176) (k : Fin 1024) : V m c main_v7 (ix2 r k)
    = if h : 112 ≤ r.val then m ((c : Thread nD τ).loc main_arg4) (ix3 0 ⟨r.val - 112, by omega⟩ k) else (0 : EReal) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- and the scale. -/
theorem V4 (c : Dev nD) (k : Fin 1024) : V m c main_v4 (ix2 0 k) = m ((c : Thread nD τ).loc main_arg2) (ix1 k) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []

/-- The precondition: the scale and the cotangent are reals. -/
theorem finite2 (h : Pre_LnKernelIdeal_finite_ln m) (c : Dev nD) (i : S1024.Idx) : ∃ y : ℝ, m ((c : Thread nD τ).loc main_arg2) i = (y : EReal) := by
  have e := congrFun (h c).1 i
  pointwise [Cert.Pre_finite_ln.fn] at e
  exact Reals.real_of_abs _ e
theorem finite4 (h : Pre_LnKernelIdeal_finite_ln m) (c : Dev nD) (i : S1x2064x1024.Idx) : ∃ y : ℝ, m ((c : Thread nD τ).loc main_arg4) i = (y : EReal) := by
  have e := congrFun (h c).2 i
  pointwise [Cert.Pre_finite_ln.fn] at e
  exact Reals.real_of_abs _ e

variable (h o y : FVec Ideal S1x2064x1024 .f32) (g : FVec Ideal S1024 .f32) (r : Fin 2064) (q : Fin 1024)

theorem center_read : val_main_v10 (F := Ideal) h o (ix3 0 r q) = center D (fun k => lin (h (ix3 0 r k)) (o (ix3 0 r k))) q := by
  pointwise [val_main_cst, val_main_v0, val_main_v1, val_main_cst_0, val_main_v2, val_main_v3, val_main_v4, val_main_cst_1, val_main_v5, val_main_v6, val_main_cst_2, val_main_v7, val_main_v8, val_main_v9, val_main_v10, center, lin]
theorem center_read' : val_main_v19 (F := Ideal) h o (ix3 0 r q) = center D (fun k => lin (h (ix3 0 r k)) (o (ix3 0 r k))) q := by
  pointwise [val_main_cst, val_main_v0, val_main_v1, val_main_cst_0, val_main_v2, val_main_v3, val_main_v4, val_main_cst_1, val_main_v5, val_main_v6, val_main_cst_2, val_main_v7, val_main_v8, val_main_v9, val_main_v18, val_main_v19, center, lin]
theorem moment_read : val_main_v21 (F := Ideal) h o (ix3 0 r 0) = moment D E (center D fun k => lin (h (ix3 0 r k)) (o (ix3 0 r k))) := by
  pointwise [val_main_v11, val_main_cst_4, val_main_v14, val_main_v15, val_main_cst_5, val_main_v16, val_main_v17, val_main_cst_6, val_main_v20, val_main_v21, moment]
  simp only [center_read]
theorem core_read : val_main_v69 (F := Ideal) h o g y (ix3 0 r q)
    = coreR D E H (Ideal.ofBits .f32 0x40000000#32) (fun k => lin (h (ix3 0 r k)) (o (ix3 0 r k))) (fun k => times (y (ix3 0 r k)) (g (ix1 k))) q := by
  pointwise [val_main_cst_3, val_main_v12, val_main_v13, val_main_v22, val_main_v23, val_main_cst_7, val_main_v24, val_main_v25, val_main_v26, val_main_v28, val_main_v34, val_main_v41, val_main_v42, val_main_v44, val_main_cst_12, val_main_v45, val_main_v46, val_main_v47, val_main_v48, val_main_v49, val_main_v50, val_main_cst_13, val_main_v51, val_main_v52, val_main_cst_14, val_main_v53, val_main_v54, val_main_cst_15, val_main_v55, val_main_v56, val_main_v57, val_main_v58, val_main_v59, val_main_cst_16, val_main_v60, val_main_v61, val_main_v62, val_main_v63, val_main_cst_17, val_main_v64, val_main_v65, val_main_cst_18, val_main_v66, val_main_v67, val_main_v68, val_main_v69, coreR, rowctR, factor, times]
  simp only [center_read, center_read', moment_read, Fintype.sum_unique, Fin.default_eq_zero]
theorem scale_read : val_main_v79 (F := Ideal) h o y (ix2 0 q) = ∑ r : Fin 2064, normed (fun k => lin (h (ix3 0 r k)) (o (ix3 0 r k))) (y (ix3 0 r q)) q := by
  pointwise [val_main_v22, val_main_v26, val_main_v27, val_main_v34, val_main_v38, val_main_cst_10, val_main_v39, val_main_v40, val_main_cst_11, val_main_v43, val_main_v79, normed]
  simp only [center_read', moment_read, Fintype.sum_unique]
theorem shift_read : val_main_v80 (F := Ideal) y (ix2 0 q) = ∑ r : Fin 2064, (y (ix3 0 r q) : EReal) := by
  pointwise [val_main_v34, val_main_cst_8, val_main_v35, val_main_v36, val_main_cst_9, val_main_v37, val_main_v80]
  simp only [Fintype.sum_unique]
theorem v75_read (k : Fin 2176) (q : Fin 1024) : val_main_v75 (F := Ideal) h o g y (ix2 k q)
    = if hk : 112 ≤ k.val then alpha (val_main_v69 (F := Ideal) h o g y (ix3 0 ⟨k.val - 112, by omega⟩ q)) else (0 : EReal) := by
  pointwise [val_main_cst_20, val_main_v72, val_main_v73, val_main_v74, val_main_c, val_main_call0_v0, val_main_v75, alpha]
  have hr := k.isLt
  simp only [sitofp_zero]
  split_ifs <;> first | (exfalso; omega) | rfl
theorem v78_read (k : Fin 2176) (q : Fin 1024) : val_main_v78 (F := Ideal) h o g y (ix2 k q)
    = if hk : 112 ≤ k.val then half (val_main_v69 (F := Ideal) h o g y (ix3 0 ⟨k.val - 112, by omega⟩ q)) else (0 : EReal) := by
  pointwise [val_main_cst_19, val_main_v70, val_main_v71, val_main_v76, val_main_c_21, val_main_call1_v0, val_main_v77, val_main_v78, half]
  have hr := k.isLt
  simp only [sitofp_zero]
  split_ifs <;> first | (exfalso; omega) | rfl

theorem zero_div : Ideal.div 0 D = 0 := by
  rw [D, lit_1024, Ideal.div_coe (by norm_num), zero_mul]

/-- The row's cotangent: the reference's on the rows that hold one, zero above. -/
theorem core_at (hp : Pre_LnKernelIdeal_finite_ln m) (c : Dev nD) (k : Fin 2176) (q : Fin 1024) : core D E H (pre m c k) (cot m c k) q
    = if hk : 112 ≤ k.val then val_main_v69 (F := Ideal) (m ((c : Thread nD τ).loc main_arg0)) (m ((c : Thread nD τ).loc main_arg1)) (m ((c : Thread nD τ).loc main_arg2)) (m ((c : Thread nD τ).loc main_arg4)) (ix3 0 ⟨k.val - 112, by omega⟩ q) else (0 : EReal) := by
  by_cases hk : 112 ≤ k.val
  · rw [dif_pos hk, core_read]
    have ep : pre m c k = fun s => lin (m ((c : Thread nD τ).loc main_arg0) (ix3 0 ⟨k.val - 112, by omega⟩ s)) (m ((c : Thread nD τ).loc main_arg1) (ix3 0 ⟨k.val - 112, by omega⟩ s)) :=
      funext fun s => congrArg₂ lin ((V1 m c k s).trans (dif_pos hk)) ((V3 m c k s).trans (dif_pos hk))
    have ec : cot m c k = fun s => times (m ((c : Thread nD τ).loc main_arg4) (ix3 0 ⟨k.val - 112, by omega⟩ s)) (m ((c : Thread nD τ).loc main_arg2) (ix1 s)) :=
      funext fun s => congrArg₂ times ((V7 m c k s).trans (dif_pos hk)) (V4 m c s)
    obtain ⟨e, he, hE⟩ := lit_eps
    rw [ep, ec, D, E, lit_1024, hE, lit_two]
    refine core_eq (by norm_num) he H _ _ (fun s => ?_) q
    obtain ⟨a, ha⟩ := finite4 m hp c (ix3 0 ⟨k.val - 112, by omega⟩ s)
    obtain ⟨b, hb⟩ := finite2 m hp c (ix1 s)
    exact ⟨a * b, by rw [ha, hb]; exact (EReal.coe_mul _ _).symm⟩
  · rw [dif_neg hk]
    exact core_zero _ _ _ _ _ zero_div (fun s => (congrArg₂ times ((V7 m c k s).trans (dif_neg hk)) rfl).trans (zero_mul _)) q

theorem final5 (hp : Pre_LnKernelIdeal_finite_ln m) (c : Dev nD) : (dats m 0 c).arrAt 5 (cfgs 0).N = val_main_v75 (F := Ideal) (m ((c : Thread nD τ).loc main_arg0)) (m ((c : Thread nD τ).loc main_arg1)) (m ((c : Thread nD τ).loc main_arg2)) (m ((c : Thread nD τ).loc main_arg4)) := by
  rw [arr5]
  funext i
  obtain ⟨k, q, rfl⟩ : ∃ k q, i = ix2 k q := ⟨i 0, i 1, eq_ix2 i⟩
  refine (congrArg alpha (core_at m hp c k q)).trans ((v75_read _ _ _ _ k q).trans ?_).symm
  split_ifs
  · rfl
  · exact (mul_zero _).symm
theorem final6 (hp : Pre_LnKernelIdeal_finite_ln m) (c : Dev nD) : (dats m 0 c).arrAt 6 (cfgs 0).N = val_main_v78 (F := Ideal) (m ((c : Thread nD τ).loc main_arg0)) (m ((c : Thread nD τ).loc main_arg1)) (m ((c : Thread nD τ).loc main_arg2)) (m ((c : Thread nD τ).loc main_arg4)) := by
  rw [arr6]
  funext i
  obtain ⟨k, q, rfl⟩ : ∃ k q, i = ix2 k q := ⟨i 0, i 1, eq_ix2 i⟩
  refine (congrArg half (core_at m hp c k q)).trans ((v78_read _ _ _ _ k q).trans ?_).symm
  split_ifs
  · rfl
  · exact (mul_zero _).symm
theorem final7 (_hp : Pre_LnKernelIdeal_finite_ln m) (c : Dev nD) : (dats m 0 c).arrAt 7 (cfgs 0).N = val_main_v79 (F := Ideal) (m ((c : Thread nD τ).loc main_arg0)) (m ((c : Thread nD τ).loc main_arg1)) (m ((c : Thread nD τ).loc main_arg4)) := by
  rw [arr7]
  funext i
  obtain ⟨q, rfl⟩ : ∃ q, i = ix2 0 q := ⟨i 1, (eq_ix2 i).trans (congrArg (fun a => ix2 a (i 1)) (Subsingleton.elim _ _))⟩
  rw [scale_read]
  refine (sum_below 112 2064 (fun r => normed (pre m c r) (V m c main_v7 (ix2 r q)) q) fun k hk => ?_).trans (Finset.sum_congr rfl fun r _ => ?_)
  · exact (congrArg (fun a => normed (pre m c k) a q) ((V7 m c k q).trans (dif_neg (by omega)))).trans (mul_zero _)
  · exact congrArg₂ (fun a b => normed a b q)
      (funext fun s => congrArg₂ lin ((V1 m c _ s).trans (dif_pos (Nat.le_add_left _ _))) ((V3 m c _ s).trans (dif_pos (Nat.le_add_left _ _))))
      ((V7 m c _ q).trans (dif_pos (Nat.le_add_left _ _)))
theorem final8 (_hp : Pre_LnKernelIdeal_finite_ln m) (c : Dev nD) : (dats m 0 c).arrAt 8 (cfgs 0).N = val_main_v80 (F := Ideal) (m ((c : Thread nD τ).loc main_arg4)) := by
  rw [arr8]
  funext i
  obtain ⟨q, rfl⟩ : ∃ q, i = ix2 0 q := ⟨i 1, (eq_ix2 i).trans (congrArg (fun a => ix2 a (i 1)) (Subsingleton.elim _ _))⟩
  rw [shift_read]
  refine (sum_below 112 2064 (fun r => ct m c r q) fun k hk => ?_).trans (Finset.sum_congr rfl fun r _ => ?_)
  · exact (V7 m c k q).trans (dif_neg (by omega))
  · exact (V7 m c _ q).trans (dif_pos (Nat.le_add_left _ _))

end Cert.LnKernelIdeal.Value
-- ==== Proof.LnClaim.lean ====
/- The residual's layer norm, backward: from a finite scale and cotangent, the kernel's four result arrays are the reference's gradients. -/
module

public import proofs.«01_k».proof.Defs
public import proofs.«01_k».proof.Proof.LnFinal
public import proofs.«01_k».proof.Proof.Gen.LnReferenceIdeal.Read

@[expose] public section

set_option maxRecDepth 16384

noncomputable section

open Idealize.ShloMosaic Idealize.ShloMosaic.TcCoe Idealize.SL.Sem
open Idealize.ShloMosaic.Pipeline (Dat)

namespace Cert.LnReferenceIdeal.Read

open Cert.LnReferenceIdeal Cert.LnReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v79) = val_main_v79 (F := Ideal) (m ((c.tc : Thread nD τ).loc main_arg0)) (m ((c.tc : Thread nD τ).loc main_arg1)) (m ((c.tc : Thread nD τ).loc main_arg4))
      ∧ r.2.mem ((c.tc : Thread nD τ).loc main_v80) = val_main_v80 (F := Ideal) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v75_eq m c), (h c).2.1.trans (val_main_v78_eq m c), (h c).2.2.1.trans (val_main_v79_eq _ _ _), (h c).2.2.2.1.trans (val_main_v80_eq _), (h c).2.2.2.2⟩) (Value.run m ρ)

end Cert.LnReferenceIdeal.Read

namespace Cert.LnKernelIdeal.Value

/-- The residual's layer norm, backward: from a finite scale and cotangent, the kernel's four result arrays are the reference's gradients. -/
theorem algebraic : Cert.algebraic_LnKernelIdeal_LnReferenceIdeal_pre_finite_ln := by
  pair_intro
  · run_from Cert.LnKernelIdeal.Gen.run_main m g & Cert.LnKernelIdeal.Gen.unchanged m g
  · run_from Cert.LnReferenceIdeal.Read.run m' g'
    · exact (final5 m hpre c).symm
    · exact (final6 m hpre c).symm
    · exact (final7 m hpre c).symm
    · exact (final8 m hpre c).symm

end Cert.LnKernelIdeal.Value
-- ==== Proof.MlaValue.lean ====
/- The latents' RMS norms, backward: what the kernel's four result arrays hold, as functions of its operands. -/
module

public import proofs.«01_k».proof.Proof.Gen.MlaKernelIdeal.Frame
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.MlaKernelIdeal.Value

open Cert.MlaKernelIdeal Cert.MlaKernelIdeal.Gen Cert.Reals

/-- The literals: the numbers of columns, the small constant, minus a half. -/
abbrev Dq : EReal := Ideal.ofBits .f32 0x43800000#32
abbrev Dk : EReal := Ideal.ofBits .f32 0x43000000#32
abbrev E : EReal := Ideal.ofBits .f32 0x3727C5AC#32
abbrev H : EReal := Ideal.ofBits .f32 0xBF000000#32
/-- A product, and a normalised element's product. -/
def times (a b : EReal) : EReal := a * b
def normed {n : ℕ} (d : EReal) (p : Fin n → EReal) (y : EReal) (q : Fin n) : EReal := p q * Ideal.rsqrt (moment d E p) * y

section Q
variable (a y : FVec Ideal S544x256 .f32) (g : FVec Ideal S1x256 .f32) (r : Fin 544) (q : Fin 256)

theorem momentQ_apply (x : Fin 1) : k0_pay7 (F := Ideal) a (ix2 r x) = moment Dq E fun k => a (ix2 r k) := by
  obtain rfl : x = 0 := Subsingleton.elim _ _
  pointwise [k0_pay7, k0_pay3, moment]
theorem rowQ_apply : k0_pay20 (F := Ideal) (k0_pay3 a) (k0_pay5 g) (k0_pay8 a) (k0_pay9 a) (k0_pay15 y) (ix2 r q)
    = rowct Dq E H (fun k => a (ix2 r k)) (fun k => times (y (ix2 r k)) (g (ix2 0 k))) q := by
  pointwise [k0_pay20, k0_pay3, k0_pay5, k0_pay8, k0_pay9, k0_pay15, rowct, factor, times]
  simp only [momentQ_apply, Fintype.sum_unique]
  try rfl
theorem scaleQ_apply : k0_pay19 (F := Ideal) (k0_pay10 a) (k0_pay15 y) (ix2 0 q) = ∑ r : Fin 544, normed Dq (fun k => a (ix2 r k)) (y (ix2 r q)) q := by
  pointwise [k0_pay19, k0_pay10, k0_pay3, k0_pay8, k0_pay15, normed]
  simp only [momentQ_apply]
theorem accQ_apply (v s : FVec Ideal S1x256 .f32) (j : S1x256.Idx) : k0_pay1 (F := Ideal) v s j = s j + v j := by
  pointwise [k0_pay1]
end Q
section K
variable (a y : FVec Ideal S544x128 .f32) (g : FVec Ideal S1x128 .f32) (r : Fin 544) (q : Fin 128)

theorem momentK_apply (x : Fin 1) : k0_pay11 (F := Ideal) a (ix2 r x) = moment Dk E fun k => a (ix2 r k) := by
  obtain rfl : x = 0 := Subsingleton.elim _ _
  pointwise [k0_pay11, k0_pay4, moment]
theorem rowK_apply : k0_pay18 (F := Ideal) (k0_pay4 a) (k0_pay6 g) (k0_pay12 a) (k0_pay13 a) (k0_pay16 y) (ix2 r q)
    = rowct Dk E H (fun k => a (ix2 r k)) (fun k => times (y (ix2 r k)) (g (ix2 0 k))) q := by
  pointwise [k0_pay18, k0_pay4, k0_pay6, k0_pay12, k0_pay13, k0_pay16, rowct, factor, times]
  simp only [momentK_apply, Fintype.sum_unique]
  try rfl
theorem scaleK_apply : k0_pay17 (F := Ideal) (k0_pay14 a) (k0_pay16 y) (ix2 0 q) = ∑ r : Fin 544, normed Dk (fun k => a (ix2 r k)) (y (ix2 r q)) q := by
  pointwise [k0_pay17, k0_pay14, k0_pay4, k0_pay12, k0_pay16, normed]
  simp only [momentK_apply]
theorem accK_apply (v s : FVec Ideal S1x128 .f32) (j : S1x128.Idx) : k0_pay2 (F := Ideal) v s j = s j + v j := by
  pointwise [k0_pay2]
end K

variable (m : (ℓ : Loc nD τ sig) → Buf (Elt Ideal) ℓ)

/-- The windows' blocks move together down the rows; the scales' and the sums' block is the one block of its array. -/
theorem idx : ∀ t : Fin cfg0.N, win0_0.index t = ![t.val, 8] ∧ win0_1.index t = ![t.val, 18] ∧ win0_2.index t = ![0, 0] ∧ win0_3.index t = ![0, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0] :=
  (by decide +kernel : ∀ t : Fin grid0.N, _)

/-- A block's row of the whole array. -/
abbrev ro (t : Fin cfg0.N) (r : Fin 544) : Fin 2176 := ⟨t.val * 544 + r.val, by have : t.val < 4 := t.isLt; have := r.isLt; omega⟩

/-- The first latent: a row, its cotangent, and the cotangent scaled. -/
def preQ (c : Dev nD) (r : Fin 2176) (k : Fin 256) : EReal := V m c main_v3 (ix2 r ⟨k.val + 2048, by omega⟩)
def ctQ (c : Dev nD) (r : Fin 2176) (k : Fin 256) : EReal := V m c main_v7 (ix2 r k)
def cotQ (c : Dev nD) (r : Fin 2176) (k : Fin 256) : EReal := times (V m c main_v7 (ix2 r k)) (V m c main_v4 (ix2 0 k))

section Q
variable (c : Dev nD) (t : Fin cfg0.N) (r : Fin 544) (q : Fin 256)

theorem blk0 : iblk m c 0 t (ix2 r q) = preQ m c (ro t r) q := by
  unfold preQ
  blk_point [iblk, V, idx t]
theorem blk2 : iblk m c 2 t (ix2 0 q) = V m c main_v4 (ix2 0 q) := by
  blk_point [iblk, V, idx t]
theorem blk4 : iblk m c 4 t (ix2 r q) = V m c main_v7 (ix2 (ro t r) q) := by
  blk_point [iblk, V, idx t]
theorem preQ_eq : (fun k => iblk m c 0 t (ix2 r k)) = preQ m c (ro t r) := funext fun k => blk0 m c t r k
theorem cotQ_eq : (fun k => times (iblk m c 4 t (ix2 r k)) (iblk m c 2 t (ix2 0 k))) = cotQ m c (ro t r) :=
  funext fun k => congrArg₂ times (blk4 m c t r k) (blk2 m c t k)
theorem point6 : (outsAt0 m c t.val t.isLt).1 (ix2 r q) = rowct Dq E H (preQ m c (ro t r)) (cotQ m c (ro t r)) q := by
  rw [← preQ_eq, ← cotQ_eq, ← rowQ_apply]
  have ht : t.val < 4 := t.isLt
  by_cases h : t.val % 4 = 0
  · rw [outsAt0_A m c t h (by omega) h (by omega)]; frame_out
  · rw [outsAt0_B m c t h (by omega) h (by omega)]; frame_out
end Q
/-- The latent's cotangent. -/
theorem arr6 (c : Dev nD) : (dats m 0 c).arrAt 6 (cfgs 0).N = fun i : S2176x256.Idx => rowct Dq E H (preQ m c (i 0)) (cotQ m c (i 0)) (i 1) := by
  refine (dats m 0 c).arrAt_eq_of_covers 6 _ (by decide +kernel) fun t _ y => ?_
  blk_simp
  rw [after0_6]
  refine Eq.trans ((congrArg _ (eq_ix2 y)).trans (point6 m c t (y 0) (y 1))) (congrArg₂ (fun a b => rowct Dq E H (preQ m c a) (cotQ m c a) b) (Fin.ext ?_) (Fin.ext ?_))
  · blk_simp [idx t] <;> try omega
  · blk_simp [idx t] <;> try omega
/-- The scale's cotangent: the points' parts added up, which is a sum over all rows. -/
theorem last8 (c : Dev nD) (j : S1x256.Idx) : (outsAt0 m c t0_3.val t0_3.isLt).2.2.1 j = ∑ t : Fin 4, k0_pay19 (F := Ideal) (k0_pay10 (iblk m c 0 t)) (k0_pay15 (iblk m c 4 t)) j := by
  rw [Pipeline.eq_sum_fin_of_reset_step_apply_last (fun n h => (outsAt0 m c n h).2.2.1) 4 (fun _ => 0) (fun t => k0_pay19 (F := Ideal) (k0_pay10 (iblk m c 0 t)) (k0_pay15 (iblk m c 4 t)))
    (fun t h j => by have ht : t.val < 4 := t.isLt; rw [outsAt0_A m c t h (by omega) h (by omega)]; frame_out; rw [zero_add])
    (fun t h j => by have ht : t.val < 4 := t.isLt; rw [outsAt0_B m c t h (by omega) h (by omega)]; frame_out; rw [accQ_apply])
    (le_of_eq N_0) t0_3 rfl j, zero_add]
  rfl
theorem sum8 (c : Dev nD) (q : Fin 256) : (outsAt0 m c t0_3.val t0_3.isLt).2.2.1 (ix2 0 q) = ∑ r : Fin 2176, normed Dq (preQ m c r) (ctQ m c r q) q := by
  rw [last8]
  refine (Finset.sum_congr rfl fun t _ => scaleQ_apply _ _ q).trans ?_
  refine Fin.sum_mul_add_congr fun t k hl => ?_
  exact congrArg₂ (fun a b => normed Dq a b q) (preQ_eq m c t k) (blk4 m c t k q)
theorem arr8 (c : Dev nD) : (dats m 0 c).arrAt 8 (cfgs 0).N = fun i : S1x256.Idx => ∑ r : Fin 2176, normed Dq (preQ m c r) (ctQ m c r (i 1)) (i 1) := by
  refine (dats m 0 c).arrAt_eq_of_after_last 8 t0_3 (by decide +kernel) _ fun j => ?_
  blk_simp
  rw [after0_8]
  refine Eq.trans (congrArg _ ?_) (sum8 m c (j 1))
  exact (eq_ix2 j).trans (congrArg (fun a => ix2 a (j 1)) (Subsingleton.elim _ _))

/-- The second latent: a row, its cotangent, and the cotangent scaled. -/
def preK (c : Dev nD) (r : Fin 2176) (k : Fin 128) : EReal := V m c main_v3 (ix2 r ⟨k.val + 2304, by omega⟩)
def ctK (c : Dev nD) (r : Fin 2176) (k : Fin 128) : EReal := V m c main_v9 (ix2 r k)
def cotK (c : Dev nD) (r : Fin 2176) (k : Fin 128) : EReal := times (V m c main_v9 (ix2 r k)) (V m c main_v5 (ix2 0 k))

section K
variable (c : Dev nD) (t : Fin cfg0.N) (r : Fin 544) (q : Fin 128)

theorem blk1 : iblk m c 1 t (ix2 r q) = preK m c (ro t r) q := by
  unfold preK
  blk_point [iblk, V, idx t]
theorem blk3 : iblk m c 3 t (ix2 0 q) = V m c main_v5 (ix2 0 q) := by
  blk_point [iblk, V, idx t]
theorem blk5 : iblk m c 5 t (ix2 r q) = V m c main_v9 (ix2 (ro t r) q) := by
  blk_point [iblk, V, idx t]
theorem preK_eq : (fun k => iblk m c 1 t (ix2 r k)) = preK m c (ro t r) := funext fun k => blk1 m c t r k
theorem cotK_eq : (fun k => times (iblk m c 5 t (ix2 r k)) (iblk m c 3 t (ix2 0 k))) = cotK m c (ro t r) :=
  funext fun k => congrArg₂ times (blk5 m c t r k) (blk3 m c t k)
theorem point7 : (outsAt0 m c t.val t.isLt).2.1 (ix2 r q) = rowct Dk E H (preK m c (ro t r)) (cotK m c (ro t r)) q := by
  rw [← preK_eq, ← cotK_eq, ← rowK_apply]
  have ht : t.val < 4 := t.isLt
  by_cases h : t.val % 4 = 0
  · rw [outsAt0_A m c t h (by omega) h (by omega)]; frame_out
  · rw [outsAt0_B m c t h (by omega) h (by omega)]; frame_out
end K
/-- The latent's cotangent. -/
theorem arr7 (c : Dev nD) : (dats m 0 c).arrAt 7 (cfgs 0).N = fun i : S2176x128.Idx => rowct Dk E H (preK m c (i 0)) (cotK m c (i 0)) (i 1) := by
  refine (dats m 0 c).arrAt_eq_of_covers 7 _ (by decide +kernel) fun t _ y => ?_
  blk_simp
  rw [after0_7]
  refine Eq.trans ((congrArg _ (eq_ix2 y)).trans (point7 m c t (y 0) (y 1))) (congrArg₂ (fun a b => rowct Dk E H (preK m c a) (cotK m c a) b) (Fin.ext ?_) (Fin.ext ?_))
  · blk_simp [idx t] <;> try omega
  · blk_simp [idx t] <;> try omega
/-- The scale's cotangent: the points' parts added up, which is a sum over all rows. -/
theorem last9 (c : Dev nD) (j : S1x128.Idx) : (outsAt0 m c t0_3.val t0_3.isLt).2.2.2 j = ∑ t : Fin 4, k0_pay17 (F := Ideal) (k0_pay14 (iblk m c 1 t)) (k0_pay16 (iblk m c 5 t)) j := by
  rw [Pipeline.eq_sum_fin_of_reset_step_apply_last (fun n h => (outsAt0 m c n h).2.2.2) 4 (fun _ => 0) (fun t => k0_pay17 (F := Ideal) (k0_pay14 (iblk m c 1 t)) (k0_pay16 (iblk m c 5 t)))
    (fun t h j => by have ht : t.val < 4 := t.isLt; rw [outsAt0_A m c t h (by omega) h (by omega)]; frame_out; rw [zero_add])
    (fun t h j => by have ht : t.val < 4 := t.isLt; rw [outsAt0_B m c t h (by omega) h (by omega)]; frame_out; rw [accK_apply])
    (le_of_eq N_0) t0_3 rfl j, zero_add]
  rfl
theorem sum9 (c : Dev nD) (q : Fin 128) : (outsAt0 m c t0_3.val t0_3.isLt).2.2.2 (ix2 0 q) = ∑ r : Fin 2176, normed Dk (preK m c r) (ctK m c r q) q := by
  rw [last9]
  refine (Finset.sum_congr rfl fun t _ => scaleK_apply _ _ q).trans ?_
  refine Fin.sum_mul_add_congr fun t k hl => ?_
  exact congrArg₂ (fun a b => normed Dk a b q) (preK_eq m c t k) (blk5 m c t k q)
theorem arr9 (c : Dev nD) : (dats m 0 c).arrAt 9 (cfgs 0).N = fun i : S1x128.Idx => ∑ r : Fin 2176, normed Dk (preK m c r) (ctK m c r (i 1)) (i 1) := by
  refine (dats m 0 c).arrAt_eq_of_after_last 9 t0_3 (by decide +kernel) _ fun j => ?_
  blk_simp
  rw [after0_9]
  refine Eq.trans (congrArg _ ?_) (sum9 m c (j 1))
  exact (eq_ix2 j).trans (congrArg (fun a => ix2 a (j 1)) (Subsingleton.elim _ _))

end Cert.MlaKernelIdeal.Value
-- ==== Proof.MlaFinal.lean ====
/- The latents' RMS norms, backward: the kernel's four result arrays are the reference's. -/
module

public import proofs.«01_k».proof.Defs
public import proofs.«01_k».proof.Proof.MlaValue
public import proofs.«01_k».proof.Proof.Gen.MlaReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaKernelIdeal.Value

open Cert.Reals Cert.MlaKernelIdeal Cert.MlaKernelIdeal.Gen Cert.MlaReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]
theorem zero_divq : Ideal.div 0 Dq = 0 := by
  rw [Dq, lit_256, Ideal.div_coe (by norm_num), zero_mul]
theorem zero_divk : Ideal.div 0 Dk = 0 := by
  rw [Dk, lit_128, Ideal.div_coe (by norm_num), zero_mul]

/-- The first latent's operands: its columns of the projections below 112 rows of zeros, the cotangent likewise, the scale. -/
theorem preQ_read (c : Dev nD) (r : Fin 2176) (k : Fin 256) : preQ m c r k
    = if h : 112 ≤ r.val then m ((c : Thread nD τ).loc main_arg0) (ix3 0 ⟨r.val - 112, by omega⟩ k) else (0 : EReal) := by
  unfold preQ V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first
    | (exfalso; omega)
    | rfl
    | (rw [dif_pos (by omega)]; exact congrArg (fun s => m ((c : Thread nD τ).loc main_arg0) (ix3 0 ⟨r.val - 112, by omega⟩ s)) (Fin.ext (by dsimp only; omega)))
theorem ctQ_read (c : Dev nD) (r : Fin 2176) (k : Fin 256) : V m c main_v7 (ix2 r k)
    = if h : 112 ≤ r.val then m ((c : Thread nD τ).loc main_arg4) (ix3 0 ⟨r.val - 112, by omega⟩ k) else (0 : EReal) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
theorem gQ_read (c : Dev nD) (k : Fin 256) : V m c main_v4 (ix2 0 k) = m ((c : Thread nD τ).loc main_arg2) (ix1 k) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []

section Q
variable (a y : FVec Ideal S1x2064x256 .f32) (g : FVec Ideal S256 .f32) (r : Fin 2064) (q : Fin 256)

theorem momentQ_read : val_main_v8 (F := Ideal) a (ix3 0 r 0) = moment Dq E fun k => a (ix3 0 r k) := by
  pointwise [val_main_v0, val_main_cst_0, val_main_v3, val_main_v4, val_main_cst_1, val_main_v5, val_main_v6, val_main_cst_2, val_main_v7, val_main_v8, moment]
theorem rowQ_read : val_main_v73 (F := Ideal) a g y (ix3 0 r q)
    = rowctR Dq E H (Ideal.ofBits .f32 0x40000000#32) (fun k => a (ix3 0 r k)) (fun k => times (y (ix3 0 r k)) (g (ix1 k))) q := by
  pointwise [val_main_cst, val_main_v1, val_main_v2, val_main_v9, val_main_v10, val_main_cst_3, val_main_v11, val_main_v12, val_main_v15, val_main_v58, val_main_v59, val_main_v61, val_main_cst_16, val_main_v62, val_main_v63, val_main_v64, val_main_v65, val_main_v66, val_main_cst_17, val_main_v67, val_main_v68, val_main_cst_18, val_main_v69, val_main_v70, val_main_v71, val_main_v72, val_main_v73, rowctR, factor, times]
  simp only [momentQ_read, Fintype.sum_unique, Fin.default_eq_zero]
theorem scaleQ_read : val_main_v78 (F := Ideal) a y (ix2 0 q) = ∑ r : Fin 2064, normed Dq (fun k => a (ix3 0 r k)) (y (ix3 0 r q)) q := by
  pointwise [val_main_v9, val_main_v13, val_main_v14, val_main_v55, val_main_cst_14, val_main_v56, val_main_v57, val_main_cst_15, val_main_v60, val_main_v78, normed]
  simp only [momentQ_read, Fintype.sum_unique]
theorem padQ_read (k : Fin 2176) (q : Fin 256) : val_main_v75 (F := Ideal) a g y (ix2 k q)
    = if hk : 112 ≤ k.val then val_main_v73 (F := Ideal) a g y (ix3 0 ⟨k.val - 112, by omega⟩ q) else (0 : EReal) := by
  pointwise [val_main_v74, val_main_c, val_main_call0_v0, val_main_v75]
  have hr := k.isLt
  simp only [sitofp_zero]
  split_ifs <;> first | (exfalso; omega) | rfl
end Q

theorem final6 (c : Dev nD) : (dats m 0 c).arrAt 6 (cfgs 0).N = val_main_v75 (F := Ideal) (m ((c : Thread nD τ).loc main_arg0)) (m ((c : Thread nD τ).loc main_arg2)) (m ((c : Thread nD τ).loc main_arg4)) := by
  rw [arr6]
  funext i
  obtain ⟨k, q, rfl⟩ : ∃ k q, i = ix2 k q := ⟨i 0, i 1, eq_ix2 i⟩
  refine Eq.trans (b := rowct Dq E H (preQ m c k) (cotQ m c k) q) rfl ?_
  rw [padQ_read]
  by_cases hk : 112 ≤ k.val
  · rw [dif_pos hk, rowQ_read, rowct_eq, lit_two]
    exact congrArg₂ (fun a b => rowctR Dq E H _ a b q)
      (funext fun s => (preQ_read m c k s).trans (dif_pos hk))
      (funext fun s => congrArg₂ times ((ctQ_read m c k s).trans (dif_pos hk)) (gQ_read m c s))
  · rw [dif_neg hk]
    exact rowct_zero _ _ _ _ _ zero_divq (fun s => (congrArg₂ times ((ctQ_read m c k s).trans (dif_neg hk)) rfl).trans (zero_mul _)) q
theorem final8 (c : Dev nD) : (dats m 0 c).arrAt 8 (cfgs 0).N = val_main_v78 (F := Ideal) (m ((c : Thread nD τ).loc main_arg0)) (m ((c : Thread nD τ).loc main_arg4)) := by
  rw [arr8]
  funext i
  obtain ⟨q, rfl⟩ : ∃ q, i = ix2 0 q := ⟨i 1, (eq_ix2 i).trans (congrArg (fun a => ix2 a (i 1)) (Subsingleton.elim _ _))⟩
  rw [scaleQ_read]
  refine (sum_below 112 2064 (fun r => normed Dq (preQ m c r) (ctQ m c r q) q) fun k hk => ?_).trans (Finset.sum_congr rfl fun r _ => ?_)
  · exact (congrArg (fun a => normed Dq (preQ m c k) a q) ((ctQ_read m c k q).trans (dif_neg (by omega)))).trans (mul_zero _)
  · exact congrArg₂ (fun a b => normed Dq a b q)
      (funext fun s => (preQ_read m c _ s).trans (dif_pos (Nat.le_add_left _ _)))
      ((ctQ_read m c _ q).trans (dif_pos (Nat.le_add_left _ _)))

/-- The second latent's operands: its columns of the projections below 112 rows of zeros, the cotangent likewise, the scale. -/
theorem preK_read (c : Dev nD) (r : Fin 2176) (k : Fin 128) : preK m c r k
    = if h : 112 ≤ r.val then m ((c : Thread nD τ).loc main_arg1) (ix3 0 ⟨r.val - 112, by omega⟩ k) else (0 : EReal) := by
  unfold preK V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first
    | (exfalso; omega)
    | rfl
    | (rw [dif_pos (by omega)]; exact congrArg (fun s => m ((c : Thread nD τ).loc main_arg1) (ix3 0 ⟨r.val - 112, by omega⟩ s)) (Fin.ext (by dsimp only; omega)))
theorem ctK_read (c : Dev nD) (r : Fin 2176) (k : Fin 128) : V m c main_v9 (ix2 r k)
    = if h : 112 ≤ r.val then m ((c : Thread nD τ).loc main_arg5) (ix3 0 ⟨r.val - 112, by omega⟩ k) else (0 : EReal) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
theorem gK_read (c : Dev nD) (k : Fin 128) : V m c main_v5 (ix2 0 k) = m ((c : Thread nD τ).loc main_arg3) (ix1 k) := by
  unfold V
  simp only [hostOps0, hostOps0_1, hostOps0_2, hostOps0_3, hostOps0_4, hostOps0_5, List.flatten_cons, List.flatten_nil,
    List.append_nil, List.cons_append, List.nil_append, StableHlo.TRef.binary, StableHlo.TRef.unary, StableHlo.TRef.toBuf, StableHlo.TRef.ofBuf, cast_eq]
  after_results
  pointwise []

section K
variable (a y : FVec Ideal S1x2064x128 .f32) (g : FVec Ideal S128 .f32) (r : Fin 2064) (q : Fin 128)

theorem momentK_read : val_main_v26 (F := Ideal) a (ix3 0 r 0) = moment Dk E fun k => a (ix3 0 r k) := by
  pointwise [val_main_v18, val_main_cst_5, val_main_v21, val_main_v22, val_main_cst_6, val_main_v23, val_main_v24, val_main_cst_7, val_main_v25, val_main_v26, moment]
theorem rowK_read : val_main_v54 (F := Ideal) a g y (ix3 0 r q)
    = rowctR Dk E H (Ideal.ofBits .f32 0x40000000#32) (fun k => a (ix3 0 r k)) (fun k => times (y (ix3 0 r k)) (g (ix1 k))) q := by
  pointwise [val_main_cst_4, val_main_v19, val_main_v20, val_main_v27, val_main_v28, val_main_cst_8, val_main_v29, val_main_v30, val_main_v33, val_main_v39, val_main_v40, val_main_v42, val_main_cst_11, val_main_v43, val_main_v44, val_main_v45, val_main_v46, val_main_v47, val_main_cst_12, val_main_v48, val_main_v49, val_main_cst_13, val_main_v50, val_main_v51, val_main_v52, val_main_v53, val_main_v54, rowctR, factor, times]
  simp only [momentK_read, Fintype.sum_unique, Fin.default_eq_zero]
theorem scaleK_read : val_main_v79 (F := Ideal) a y (ix2 0 q) = ∑ r : Fin 2064, normed Dk (fun k => a (ix3 0 r k)) (y (ix3 0 r q)) q := by
  pointwise [val_main_v27, val_main_v31, val_main_v32, val_main_v36, val_main_cst_9, val_main_v37, val_main_v38, val_main_cst_10, val_main_v41, val_main_v79, normed]
  simp only [momentK_read, Fintype.sum_unique]
theorem padK_read (k : Fin 2176) (q : Fin 128) : val_main_v77 (F := Ideal) a g y (ix2 k q)
    = if hk : 112 ≤ k.val then val_main_v54 (F := Ideal) a g y (ix3 0 ⟨k.val - 112, by omega⟩ q) else (0 : EReal) := by
  pointwise [val_main_v76, val_main_c_19, val_main_call1_v0, val_main_v77]
  have hr := k.isLt
  simp only [sitofp_zero]
  split_ifs <;> first | (exfalso; omega) | rfl
end K

theorem final7 (c : Dev nD) : (dats m 0 c).arrAt 7 (cfgs 0).N = val_main_v77 (F := Ideal) (m ((c : Thread nD τ).loc main_arg1)) (m ((c : Thread nD τ).loc main_arg3)) (m ((c : Thread nD τ).loc main_arg5)) := by
  rw [arr7]
  funext i
  obtain ⟨k, q, rfl⟩ : ∃ k q, i = ix2 k q := ⟨i 0, i 1, eq_ix2 i⟩
  refine Eq.trans (b := rowct Dk E H (preK m c k) (cotK m c k) q) rfl ?_
  rw [padK_read]
  by_cases hk : 112 ≤ k.val
  · rw [dif_pos hk, rowK_read, rowct_eq, lit_two]
    exact congrArg₂ (fun a b => rowctR Dk E H _ a b q)
      (funext fun s => (preK_read m c k s).trans (dif_pos hk))
      (funext fun s => congrArg₂ times ((ctK_read m c k s).trans (dif_pos hk)) (gK_read m c s))
  · rw [dif_neg hk]
    exact rowct_zero _ _ _ _ _ zero_divk (fun s => (congrArg₂ times ((ctK_read m c k s).trans (dif_neg hk)) rfl).trans (zero_mul _)) q
theorem final9 (c : Dev nD) : (dats m 0 c).arrAt 9 (cfgs 0).N = val_main_v79 (F := Ideal) (m ((c : Thread nD τ).loc main_arg1)) (m ((c : Thread nD τ).loc main_arg5)) := by
  rw [arr9]
  funext i
  obtain ⟨q, rfl⟩ : ∃ q, i = ix2 0 q := ⟨i 1, (eq_ix2 i).trans (congrArg (fun a => ix2 a (i 1)) (Subsingleton.elim _ _))⟩
  rw [scaleK_read]
  refine (sum_below 112 2064 (fun r => normed Dk (preK m c r) (ctK m c r q) q) fun k hk => ?_).trans (Finset.sum_congr rfl fun r _ => ?_)
  · exact (congrArg (fun a => normed Dk (preK m c k) a q) ((ctK_read m c k q).trans (dif_neg (by omega)))).trans (mul_zero _)
  · exact congrArg₂ (fun a b => normed Dk a b q)
      (funext fun s => (preK_read m c _ s).trans (dif_pos (Nat.le_add_left _ _)))
      ((ctK_read m c _ q).trans (dif_pos (Nat.le_add_left _ _)))

end Cert.MlaKernelIdeal.Value
-- ==== Proof.MlaClaim.lean ====
/- The latents' RMS norms, backward: the kernel computes the reference's cotangents. -/
module

public import proofs.«01_k».proof.Defs
public import proofs.«01_k».proof.Proof.MlaFinal
public import proofs.«01_k».proof.Proof.Gen.MlaReferenceIdeal.Read

@[expose] public section

set_option maxRecDepth 16384

noncomputable section

open Idealize.ShloMosaic Idealize.ShloMosaic.TcCoe Idealize.SL.Sem
open Idealize.ShloMosaic.Pipeline (Dat)

namespace Cert.MlaReferenceIdeal.Read

open Cert.MlaReferenceIdeal Cert.MlaReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v75) = val_main_v75 (F := Ideal) (m ((c.tc : Thread nD τ).loc main_arg0)) (m ((c.tc : Thread nD τ).loc main_arg2)) (m ((c.tc : Thread nD τ).loc main_arg4))
      ∧ r.2.mem ((c.tc : Thread nD τ).loc main_v77) = val_main_v77 (F := Ideal) (m ((c.tc : Thread nD τ).loc main_arg1)) (m ((c.tc : Thread nD τ).loc main_arg3)) (m ((c.tc : Thread nD τ).loc main_arg5))
      ∧ r.2.mem ((c.tc : Thread nD τ).loc main_v78) = val_main_v78 (F := Ideal) (m ((c.tc : Thread nD τ).loc main_arg0)) (m ((c.tc : Thread nD τ).loc main_arg4))
      ∧ r.2.mem ((c.tc : Thread nD τ).loc main_v79) = val_main_v79 (F := Ideal) (m ((c.tc : Thread nD τ).loc main_arg1)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (val_main_v75_eq _ _ _), (h c).2.1.trans (val_main_v77_eq _ _ _), (h c).2.2.1.trans (val_main_v78_eq _ _), (h c).2.2.2.1.trans (val_main_v79_eq _ _), (h c).2.2.2.2⟩) (Value.run m ρ)

end Cert.MlaReferenceIdeal.Read

namespace Cert.MlaKernelIdeal.Value

/-- The latents' RMS norms, backward: the kernel computes the reference's cotangents. -/
theorem algebraic : Cert.algebraic_MlaKernelIdeal_MlaReferenceIdeal := by
  pair_intro
  · run_from Cert.MlaKernelIdeal.Gen.run_main m g & Cert.MlaKernelIdeal.Gen.unchanged m g
  · run_from Cert.MlaReferenceIdeal.Read.run m' g'
    · exact (final6 m c).symm
    · exact (final7 m c).symm
    · exact (final8 m c).symm
    · exact (final9 m c).symm

end Cert.MlaKernelIdeal.Value
-- ==== Proof.PostValue.lean ====
/- The state-space layer's gate and norm, backward: what the kernel's five result arrays hold, as functions of its operands. -/
module

public import proofs.«01_k».proof.Proof.Gen.PostKernelIdeal.Frame
public import Idealize.ShloMosaic.Lib.Pipeline.ValueKit
public import Idealize.ShloMosaic.Lib.Pointwise
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.PostKernelIdeal.Value

open Cert.PostKernelIdeal Cert.PostKernelIdeal.Gen Cert.Reals

/-- The literals: the number of columns, the small constant, minus a half. -/
abbrev D : EReal := Ideal.ofBits .f32 0x43800000#32
abbrev E : EReal := Ideal.ofBits .f32 0x3727C5AC#32
abbrev H : EReal := Ideal.ofBits .f32 0xBF000000#32
/-- The logistic function and the gate; the skip connection; the gated sum; products; a normalised element's product. -/
def sgm (z : EReal) : EReal := Ideal.div 1 (1 + Ideal.exp (0 - z))
def swish (z : EReal) : EReal := z * sgm z
def mix (y s x : EReal) : EReal := y + s * x
def gated (y s x z : EReal) : EReal := mix y s x * swish z
def times (a b : EReal) : EReal := a * b
def normed {n : ℕ} (p : Fin n → EReal) (y : EReal) (q : Fin n) : EReal := p q * Ideal.rsqrt (moment D E p) * y
/-- The gate's cotangent from its output's, as the kernel's quotient rule writes it. -/
def dgate (d z : EReal) : EReal :=
  d * sgm z + (0 - (0 - z * d * Ideal.div 1 ((1 + Ideal.exp (0 - z)) * (1 + Ideal.exp (0 - z)))) * Ideal.exp (0 - z))

section block
variable (y x z d : FVec Ideal S544x256 .f32) (s n : FVec Ideal S1x256 .f32) (r : Fin 544) (q : Fin 256)

/-- The block's results, of its operands. -/
abbrev bct : FVec Ideal S544x256 .f32 := k0_pay20 (F := Ideal) (k0_pay6 n) (k0_pay13 y x z s) (k0_pay15 y x z s) (k0_pay16 y x z s) d
abbrev bdy : FVec Ideal S544x256 .f32 := k0_pay21 (F := Ideal) (k0_pay6 n) (k0_pay12 z) (k0_pay13 y x z s) (k0_pay15 y x z s) (k0_pay16 y x z s) d
abbrev bdx : FVec Ideal S544x256 .f32 := k0_pay23 (F := Ideal) (k0_pay5 s) (k0_pay6 n) (k0_pay12 z) (k0_pay13 y x z s) (k0_pay15 y x z s) (k0_pay16 y x z s) d
abbrev bdz : FVec Ideal S544x256 .f32 := k0_pay22 (F := Ideal) (k0_pay4 z) (k0_pay6 n) (k0_pay7 y x s) (k0_pay8 z) (k0_pay10 z) (k0_pay11 z) (k0_pay13 y x z s) (k0_pay15 y x z s) (k0_pay16 y x z s) d
abbrev bds : FVec Ideal S1x256 .f32 := k0_pay24 (F := Ideal) (k0_pay3 x) (k0_pay6 n) (k0_pay12 z) (k0_pay13 y x z s) (k0_pay15 y x z s) (k0_pay16 y x z s) d
abbrev bdn : FVec Ideal S1x256 .f32 := k0_pay19 (F := Ideal) (k0_pay17 y x z s) d

theorem pay13_apply : k0_pay13 (F := Ideal) y x z s (ix2 r q) = gated (y (ix2 r q)) (s (ix2 0 q)) (x (ix2 r q)) (z (ix2 r q)) := by
  pointwise [k0_pay13, k0_pay12, k0_pay10, k0_pay9, k0_pay8, k0_pay7, k0_pay5, k0_pay4, k0_pay3, gated, mix, swish, sgm]
theorem moment_apply (u : Fin 1) : k0_pay14 (F := Ideal) y x z s (ix2 r u) = moment D E fun k => gated (y (ix2 r k)) (s (ix2 0 k)) (x (ix2 r k)) (z (ix2 r k)) := by
  obtain rfl : u = 0 := Subsingleton.elim _ _
  pointwise [k0_pay14, moment]
  simp only [pay13_apply]
theorem bct_apply : bct y x z d s n (ix2 r q)
    = rowct D E H (fun k => gated (y (ix2 r k)) (s (ix2 0 k)) (x (ix2 r k)) (z (ix2 r k))) (fun k => times (d (ix2 r k)) (n (ix2 0 k))) q := by
  pointwise [bct, k0_pay20, k0_pay18, k0_pay6, k0_pay15, k0_pay16, rowct, factor, times]
  simp only [moment_apply, pay13_apply, Fintype.sum_unique]
theorem bdy_apply : bdy y x z d s n (ix2 r q) = times (bct y x z d s n (ix2 r q)) (swish (z (ix2 r q))) := by
  pointwise [bdy, k0_pay21, k0_pay12, k0_pay10, k0_pay9, k0_pay8, k0_pay4, swish, sgm, times]
theorem bdx_apply : bdx y x z d s n (ix2 r q) = times (s (ix2 0 q)) (bdy y x z d s n (ix2 r q)) := by
  pointwise [bdx, k0_pay23, k0_pay5, times]
theorem bdz_apply : bdz y x z d s n (ix2 r q) = dgate (times (mix (y (ix2 r q)) (s (ix2 0 q)) (x (ix2 r q))) (bct y x z d s n (ix2 r q))) (z (ix2 r q)) := by
  pointwise [bdz, k0_pay22, k0_pay11, k0_pay10, k0_pay9, k0_pay8, k0_pay7, k0_pay5, k0_pay4, k0_pay3, dgate, sgm, times, mix, mul_one]
theorem bds_apply : bds y x z d s n (ix2 0 q) = ∑ r : Fin 544, times (bdy y x z d s n (ix2 r q)) (x (ix2 r q)) := by
  pointwise [bds, k0_pay24, k0_pay3, times]
theorem bdn_apply : bdn y x z d s (ix2 0 q) = ∑ r : Fin 544, normed (fun k => gated (y (ix2 r k)) (s (ix2 0 k)) (x (ix2 r k)) (z (ix2 r k))) (d (ix2 r q)) q := by
  pointwise [bdn, k0_pay19, k0_pay18, k0_pay17, k0_pay15, normed]
  simp only [moment_apply, pay13_apply]
theorem pay1_apply (v w : FVec Ideal S1x256 .f32) (j : S1x256.Idx) : k0_pay1 (F := Ideal) v w j = w j + v j := by
  pointwise [k0_pay1]
theorem pay2_apply (v w : FVec Ideal S1x256 .f32) (j : S1x256.Idx) : k0_pay2 (F := Ideal) v w j = w j + v j := by
  pointwise [k0_pay2]
end block

variable (m : (ℓ : Loc nD τ sig) → Buf (Elt Ideal) ℓ)

/-- Point `t` works on column group `t / 4` and row block `t % 4`. -/
theorem idx : ∀ t : Fin cfg0.N, win0_0.index t = ![t.val % 4, t.val / 4] ∧ win0_1.index t = ![t.val % 4, t.val / 4] ∧ win0_2.index t = ![t.val % 4, t.val / 4] ∧ win0_3.index t = ![0, t.val / 4] ∧ win0_4.index t = ![0, t.val / 4] ∧ win0_5.index t = ![t.val % 4, t.val / 4]
    ∧ win0_6.index t = ![t.val % 4, t.val / 4] ∧ win0_7.index t = ![t.val % 4, t.val / 4] ∧ win0_8.index t = ![t.val % 4, t.val / 4] ∧ win0_9.index t = ![0, t.val / 4] ∧ win0_10.index t = ![0, t.val / 4] :=
  (by decide +kernel : ∀ t : Fin grid0.N, _)

/-- A block's row and column of the whole array; a column of a group. -/
abbrev ro (t : Fin cfg0.N) (r : Fin 544) : Fin 2176 := ⟨t.val % 4 * 544 + r.val, by have := r.isLt; omega⟩
abbrev co (t : Fin cfg0.N) (q : Fin 256) : Fin 512 := ⟨t.val / 4 * 256 + q.val, by have : t.val < 8 := t.isLt; have := q.isLt; omega⟩
abbrev col (q : Fin 512) (k : Fin 256) : Fin 512 := ⟨q.val / 256 * 256 + k.val, by have := q.isLt; have := k.isLt; omega⟩
abbrev lane (q : Fin 512) : Fin 256 := ⟨q.val % 256, Nat.mod_lt _ (by norm_num)⟩

/-- The call's operands: the scan's output, its input, the gate, the skip's and the norm's scale, the cotangent. -/
def fy (c : Dev nD) (r : Fin 2176) (q : Fin 512) : EReal := V m c main_v3 (ix2 r q)
def fx (c : Dev nD) (r : Fin 2176) (q : Fin 512) : EReal := V m c main_v1 (ix2 r ⟨q.val, by omega⟩)
def fz (c : Dev nD) (r : Fin 2176) (q : Fin 512) : EReal := V m c main_v5 (ix2 r ⟨q.val, by omega⟩)
def fs (c : Dev nD) (q : Fin 512) : EReal := V m c main_v8 (ix2 0 q)
def fn (c : Dev nD) (q : Fin 512) : EReal := V m c main_v9 (ix2 0 q)
def fd (c : Dev nD) (r : Fin 2176) (q : Fin 512) : EReal := V m c main_v11 (ix2 r q)
/-- A column's group of a row: the gated sum, and the cotangent of its norm. -/
def pre (c : Dev nD) (r : Fin 2176) (q : Fin 512) (k : Fin 256) : EReal := gated (fy m c r (col q k)) (fs m c (col q k)) (fx m c r (col q k)) (fz m c r (col q k))
def cot (c : Dev nD) (r : Fin 2176) (q : Fin 512) (k : Fin 256) : EReal := times (fd m c r (col q k)) (fn m c (col q k))
/-- The results. -/
def gct (c : Dev nD) (r : Fin 2176) (q : Fin 512) : EReal := rowct D E H (pre m c r q) (cot m c r q) (lane q)
def gdy (c : Dev nD) (r : Fin 2176) (q : Fin 512) : EReal := times (gct m c r q) (swish (fz m c r q))
def gdx (c : Dev nD) (r : Fin 2176) (q : Fin 512) : EReal := times (fs m c q) (gdy m c r q)
def gdz (c : Dev nD) (r : Fin 2176) (q : Fin 512) : EReal := dgate (times (mix (fy m c r q) (fs m c q) (fx m c r q)) (gct m c r q)) (fz m c r q)
def gds (c : Dev nD) (r : Fin 2176) (q : Fin 512) : EReal := times (gdy m c r q) (fx m c r q)
def gdn (c : Dev nD) (r : Fin 2176) (q : Fin 512) : EReal := normed (pre m c r q) (fd m c r q) (lane q)

section point
variable (c : Dev nD) (t : Fin cfg0.N) (r : Fin 544) (q : Fin 256)

theorem blk0 : iblk m c 0 t (ix2 r q) = fy m c (ro t r) (co t q) := by
  unfold fy
  blk_point [iblk, V, idx t]
theorem blk1 : iblk m c 1 t (ix2 r q) = fx m c (ro t r) (co t q) := by
  unfold fx
  blk_point [iblk, V, idx t]
theorem blk2 : iblk m c 2 t (ix2 r q) = fz m c (ro t r) (co t q) := by
  unfold fz
  blk_point [iblk, V, idx t]
theorem blk3 : iblk m c 3 t (ix2 0 q) = fs m c (co t q) := by
  unfold fs
  blk_point [iblk, V, idx t]
theorem blk4 : iblk m c 4 t (ix2 0 q) = fn m c (co t q) := by
  unfold fn
  blk_point [iblk, V, idx t]
theorem blk5 : iblk m c 5 t (ix2 r q) = fd m c (ro t r) (co t q) := by
  unfold fd
  blk_point [iblk, V, idx t]
theorem col_co (k : Fin 256) : col (co t q) k = co t k := by
  have hq := q.isLt
  exact Fin.ext (by simp only [col, co]; omega)
theorem lane_co : lane (co t q) = q := by
  have hq := q.isLt
  exact Fin.ext (by simp only [lane, co]; omega)
theorem pre_eq : (fun k => gated (iblk m c 0 t (ix2 r k)) (iblk m c 3 t (ix2 0 k)) (iblk m c 1 t (ix2 r k)) (iblk m c 2 t (ix2 r k))) = pre m c (ro t r) (co t q) := by
  funext k
  unfold pre
  rw [col_co]
  exact congr (congr (congr (congrArg gated (blk0 m c t r k)) (blk3 m c t k)) (blk1 m c t r k)) (blk2 m c t r k)
theorem cot_eq : (fun k => times (iblk m c 5 t (ix2 r k)) (iblk m c 4 t (ix2 0 k))) = cot m c (ro t r) (co t q) := by
  funext k
  unfold cot
  rw [col_co]
  exact congrArg₂ times (blk5 m c t r k) (blk4 m c t k)

/-- The point's blocks' results at the array's rows and columns. -/
theorem gct_eq : bct (iblk m c 0 t) (iblk m c 1 t) (iblk m c 2 t) (iblk m c 5 t) (iblk m c 3 t) (iblk m c 4 t) (ix2 r q) = gct m c (ro t r) (co t q) := by
  rw [bct_apply, gct, lane_co, ← pre_eq, ← cot_eq]
theorem gdy_eq : bdy (iblk m c 0 t) (iblk m c 1 t) (iblk m c 2 t) (iblk m c 5 t) (iblk m c 3 t) (iblk m c 4 t) (ix2 r q) = gdy m c (ro t r) (co t q) :=
  (bdy_apply _ _ _ _ _ _ r q).trans (congrArg₂ (fun a b => times a (swish b)) (gct_eq m c t r q) (blk2 m c t r q))
theorem gdx_eq : bdx (iblk m c 0 t) (iblk m c 1 t) (iblk m c 2 t) (iblk m c 5 t) (iblk m c 3 t) (iblk m c 4 t) (ix2 r q) = gdx m c (ro t r) (co t q) :=
  (bdx_apply _ _ _ _ _ _ r q).trans (congrArg₂ times (blk3 m c t q) (gdy_eq m c t r q))
theorem gdz_eq : bdz (iblk m c 0 t) (iblk m c 1 t) (iblk m c 2 t) (iblk m c 5 t) (iblk m c 3 t) (iblk m c 4 t) (ix2 r q) = gdz m c (ro t r) (co t q) :=
  (bdz_apply _ _ _ _ _ _ r q).trans (congrArg₂ dgate (congrArg₂ times (congr (congr (congrArg mix (blk0 m c t r q)) (blk3 m c t q)) (blk1 m c t r q)) (gct_eq m c t r q)) (blk2 m c t r q))
theorem gds_eq : bds (iblk m c 0 t) (iblk m c 1 t) (iblk m c 2 t) (iblk m c 5 t) (iblk m c 3 t) (iblk m c 4 t) (ix2 0 q) = ∑ r : Fin 544, gds m c (ro t r) (co t q) :=
  (bds_apply _ _ _ _ _ _ q).trans (Finset.sum_congr rfl fun r _ => congrArg₂ times (gdy_eq m c t r q) (blk1 m c t r q))
theorem gdn_eq : bdn (iblk m c 0 t) (iblk m c 1 t) (iblk m c 2 t) (iblk m c 5 t) (iblk m c 3 t) (ix2 0 q) = ∑ r : Fin 544, gdn m c (ro t r) (co t q) := by
  refine (bdn_apply _ _ _ _ _ q).trans (Finset.sum_congr rfl fun r _ => ?_)
  rw [gdn, lane_co, ← pre_eq]
  exact congrArg (fun a => normed _ a q) (blk5 m c t r q)

theorem point6 : (outsAt0 m c t.val t.isLt).1 (ix2 r q) = gdy m c (ro t r) (co t q) := by
  rw [← gdy_eq]
  by_cases h : t.val % 4 = 0
  · rw [outsAt0_A m c t h (by omega) h (by omega)]; frame_out
  · rw [outsAt0_B m c t h (by omega) h (by omega)]; frame_out
theorem point7 : (outsAt0 m c t.val t.isLt).2.1 (ix2 r q) = gdx m c (ro t r) (co t q) := by
  rw [← gdx_eq]
  by_cases h : t.val % 4 = 0
  · rw [outsAt0_A m c t h (by omega) h (by omega)]; frame_out
  · rw [outsAt0_B m c t h (by omega) h (by omega)]; frame_out
theorem point8 : (outsAt0 m c t.val t.isLt).2.2.1 (ix2 r q) = gdz m c (ro t r) (co t q) := by
  rw [← gdz_eq]
  by_cases h : t.val % 4 = 0
  · rw [outsAt0_A m c t h (by omega) h (by omega)]; frame_out
  · rw [outsAt0_B m c t h (by omega) h (by omega)]; frame_out
/-- The point that ends a group's rows: the points' parts added up. -/
theorem last9 (ht : t.val % 4 = 4 - 1) (j : S1x256.Idx) : (outsAt0 m c t.val t.isLt).2.2.2.1 j = ∑ s : Fin 4, (fun t : Fin cfg0.N => bds (iblk m c 0 t) (iblk m c 1 t) (iblk m c 2 t) (iblk m c 5 t) (iblk m c 3 t) (iblk m c 4 t)) ⟨4 * (t.val / 4) + s.val, Pipeline.run_point_lt_of_flush t ht s⟩ j := by
  rw [Pipeline.eq_sum_fin_of_reset_step_apply_of_flush (fun n h => (outsAt0 m c n h).2.2.2.1) 4 (fun _ => 0) (fun t => bds (iblk m c 0 t) (iblk m c 1 t) (iblk m c 2 t) (iblk m c 5 t) (iblk m c 3 t) (iblk m c 4 t))
    (fun t h j => by rw [outsAt0_A m c t h (by omega) h (by omega)]; frame_out; rw [zero_add])
    (fun t h j => by rw [outsAt0_B m c t h (by omega) h (by omega)]; frame_out; rw [pay1_apply])
    t ht j, zero_add]
theorem last10 (ht : t.val % 4 = 4 - 1) (j : S1x256.Idx) : (outsAt0 m c t.val t.isLt).2.2.2.2 j = ∑ s : Fin 4, (fun t : Fin cfg0.N => bdn (iblk m c 0 t) (iblk m c 1 t) (iblk m c 2 t) (iblk m c 5 t) (iblk m c 3 t)) ⟨4 * (t.val / 4) + s.val, Pipeline.run_point_lt_of_flush t ht s⟩ j := by
  rw [Pipeline.eq_sum_fin_of_reset_step_apply_of_flush (fun n h => (outsAt0 m c n h).2.2.2.2) 4 (fun _ => 0) (fun t => bdn (iblk m c 0 t) (iblk m c 1 t) (iblk m c 2 t) (iblk m c 5 t) (iblk m c 3 t))
    (fun t h j => by rw [outsAt0_A m c t h (by omega) h (by omega)]; frame_out; rw [zero_add])
    (fun t h j => by rw [outsAt0_B m c t h (by omega) h (by omega)]; frame_out; rw [pay2_apply])
    t ht j, zero_add]
theorem sum9 (ht : t.val % 4 = 4 - 1) : (outsAt0 m c t.val t.isLt).2.2.2.1 (ix2 0 q) = ∑ r : Fin 2176, gds m c r (co t q) := by
  rw [last9 m c t ht]
  refine (Finset.sum_congr rfl fun s _ => gds_eq m c _ q).trans ?_
  refine Fin.sum_mul_add_congr fun s k hl => ?_
  have hs := s.isLt
  exact congrArg₂ (gds m c) (Fin.ext (by simp only [ro]; omega)) (Fin.ext (by simp only [co]; omega))
theorem sum10 (ht : t.val % 4 = 4 - 1) : (outsAt0 m c t.val t.isLt).2.2.2.2 (ix2 0 q) = ∑ r : Fin 2176, gdn m c r (co t q) := by
  rw [last10 m c t ht]
  refine (Finset.sum_congr rfl fun s _ => gdn_eq m c _ q).trans ?_
  refine Fin.sum_mul_add_congr fun s k hl => ?_
  have hs := s.isLt
  exact congrArg₂ (gdn m c) (Fin.ext (by simp only [ro]; omega)) (Fin.ext (by simp only [co]; omega))
end point

/-- The cotangents of the scan's output, of its input and of the gate. -/
theorem arr6 (c : Dev nD) : (dats m 0 c).arrAt 6 (cfgs 0).N = fun i : S2176x512.Idx => gdy m c (i 0) (i 1) := by
  refine (dats m 0 c).arrAt_eq_of_covers 6 _ (by decide +kernel) fun t _ y => ?_
  blk_simp
  rw [after0_6]
  refine Eq.trans ((congrArg _ (eq_ix2 y)).trans (point6 m c t (y 0) (y 1))) (congrArg₂ (gdy m c) (Fin.ext ?_) (Fin.ext ?_))
  · blk_simp [idx t] <;> try omega
  · blk_simp [idx t] <;> try omega
theorem arr7 (c : Dev nD) : (dats m 0 c).arrAt 7 (cfgs 0).N = fun i : S2176x512.Idx => gdx m c (i 0) (i 1) := by
  refine (dats m 0 c).arrAt_eq_of_covers 7 _ (by decide +kernel) fun t _ y => ?_
  blk_simp
  rw [after0_7]
  refine Eq.trans ((congrArg _ (eq_ix2 y)).trans (point7 m c t (y 0) (y 1))) (congrArg₂ (gdx m c) (Fin.ext ?_) (Fin.ext ?_))
  · blk_simp [idx t] <;> try omega
  · blk_simp [idx t] <;> try omega
theorem arr8 (c : Dev nD) : (dats m 0 c).arrAt 8 (cfgs 0).N = fun i : S2176x512.Idx => gdz m c (i 0) (i 1) := by
  refine (dats m 0 c).arrAt_eq_of_covers 8 _ (by decide +kernel) fun t _ y => ?_
  blk_simp
  rw [after0_8]
  refine Eq.trans ((congrArg _ (eq_ix2 y)).trans (point8 m c t (y 0) (y 1))) (congrArg₂ (gdz m c) (Fin.ext ?_) (Fin.ext ?_))
  · blk_simp [idx t] <;> try omega
  · blk_simp [idx t] <;> try omega
/-- The scales' cotangents: sums over all rows. -/
theorem arr9 (c : Dev nD) : (dats m 0 c).arrAt 9 (cfgs 0).N = fun i : S1x512.Idx => ∑ r : Fin 2176, gds m c r (i 1) := by
  refine (dats m 0 c).arrAt_eq_of_covers 9 _ (by decide +kernel) fun t hf y => ?_
  blk_simp
  rw [after0_9]
  refine Eq.trans (congrArg _ ?_) ((sum9 m c t (y 1) ((flush0_9 t).mp hf)).trans (congrArg (fun a => ∑ r : Fin 2176, gds m c r a) (Fin.ext ?_)))
  · exact (eq_ix2 y).trans (congrArg (fun a => ix2 a (y 1)) (Subsingleton.elim _ _))
  · blk_simp [idx t] <;> try omega
theorem arr10 (c : Dev nD) : (dats m 0 c).arrAt 10 (cfgs 0).N = fun i : S1x512.Idx => ∑ r : Fin 2176, gdn m c r (i 1) := by
  refine (dats m 0 c).arrAt_eq_of_covers 10 _ (by decide +kernel) fun t hf y => ?_
  blk_simp
  rw [after0_10]
  refine Eq.trans (congrArg _ ?_) ((sum10 m c t (y 1) ((flush0_10 t).mp hf)).trans (congrArg (fun a => ∑ r : Fin 2176, gdn m c r a) (Fin.ext ?_)))
  · exact (eq_ix2 y).trans (congrArg (fun a => ix2 a (y 1)) (Subsingleton.elim _ _))
  · blk_simp [idx t] <;> try omega

end Cert.PostKernelIdeal.Value
-- ==== Proof.PostFinal.lean ====
/- The state-space layer's gate and norm, backward: the kernel's five result arrays are the reference's. -/
module

public import proofs.«01_k».proof.Defs
public import proofs.«01_k».proof.Proof.PostValue
public import proofs.«01_k».proof.Proof.Gen.PostReferenceIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostKernelIdeal.Value

open Cert.Reals Cert.PostKernelIdeal Cert.PostKernelIdeal.Gen Cert.PostReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]
theorem zero_div : Ideal.div 0 D = 0 := by
  rw [D, lit_256, Ideal.div_coe (by norm_num), zero_mul]

/-- A host sum over the first and the last axis of four. -/
@[pointwise] theorem hostReduceAdd_ends {a b n l : ℕ} (h : (⟨4, ![a, n, l, b]⟩ : Shape).ReducesTo [0, 3] ⟨2, ![n, l]⟩) (v : (⟨4, ![a, n, l, b]⟩ : Shape).Idx → EReal) (z : EReal) (q : Fin n) (k : Fin l) :
    Ideal.hostReduceAdd h v z (ix2 q k) = z + ∑ i : Fin a, ∑ j : Fin b, v (ix4 i q k j) := by
  refine congrArg (z + ·) ?_
  refine (Finset.sum_filter_eq_sum_of_fiber _ (fun p : Fin a × Fin b => ix4 p.1 q k p.2) (fun _ _ e => Prod.ext (congrFun e 0) (congrFun e 3)) (fun i => ?_) v).trans ?_
  · constructor
    · intro e
      refine ⟨(i 0, i 3), ?_⟩
      funext x; apply Fin.ext
      match x with
      | ⟨0, _⟩ => rfl
      | ⟨1, _⟩ => exact (congrArg Fin.val (congrFun e (0 : Fin 2))).symm
      | ⟨2, _⟩ => exact (congrArg Fin.val (congrFun e (1 : Fin 2))).symm
      | ⟨3, _⟩ => rfl
    · rintro ⟨p, rfl⟩
      funext x; apply Fin.ext
      match x with
      | ⟨0, _⟩ => rfl
      | ⟨1, _⟩ => rfl
  · exact Fintype.sum_prod_type _

/-- A host sum over the first two axes of four. -/
@[pointwise] theorem hostReduceAdd_first_two_of_four {a b n l : ℕ} (h : (⟨4, ![a, b, n, l]⟩ : Shape).ReducesTo [0, 1] ⟨2, ![n, l]⟩) (v : (⟨4, ![a, b, n, l]⟩ : Shape).Idx → EReal) (z : EReal) (q : Fin n) (k : Fin l) :
    Ideal.hostReduceAdd h v z (ix2 q k) = z + ∑ i : Fin a, ∑ j : Fin b, v (ix4 i j q k) := by
  refine congrArg (z + ·) ?_
  refine (Finset.sum_filter_eq_sum_of_fiber _ (fun p : Fin a × Fin b => ix4 p.1 p.2 q k) (fun _ _ e => Prod.ext (congrFun e 0) (congrFun e 1)) (fun i => ?_) v).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e (0 : Fin 2))).symm
      | ⟨3, _⟩ => exact (congrArg Fin.val (congrFun e (1 : Fin 2))).symm
    · rintro ⟨p, rfl⟩
      funext x; apply Fin.ext
      match x with
      | ⟨0, _⟩ => rfl
      | ⟨1, _⟩ => rfl
  · exact Fintype.sum_prod_type _

/-- The gate's cotangent: the kernel's quotient rule and the derivative of the logistic function agree at every argument. -/
def dgateR (d z : EReal) : EReal := d * sgm z + z * d * (sgm z * (1 - sgm z))
theorem twice_neg (a e : EReal) : 0 - (0 - a) * e = a * e := by
  rw [zero_sub, zero_sub, EReal.neg_mul, neg_neg]
theorem quotient (z : EReal) : Ideal.div 1 ((1 + Ideal.exp (0 - z)) * (1 + Ideal.exp (0 - z))) * Ideal.exp (0 - z) = sgm z * (1 - sgm z) := by
  induction z with
  | bot =>
    rw [sgm, sigmoid_bot, zero_mul, zero_sub, EReal.neg_bot]
    have h : (1 : EReal) + Ideal.exp ⊤ = ⊤ := by rw [Ideal.exp_top]; rfl
    rw [h, EReal.top_mul_top]
    have h2 : Ideal.div 1 ⊤ = 0 := by simp [Ideal.div]
    rw [h2, zero_mul]
  | top =>
    have h1 : (1 : EReal) - 1 = 0 := by rw [← EReal.coe_one, ← EReal.coe_sub, sub_self, EReal.coe_zero]
    rw [sgm, sigmoid_top, h1, mul_zero, zero_sub, EReal.neg_top, Ideal.exp_bot, mul_zero]
  | coe z =>
    rw [sgm, sigmoid_coe, ← EReal.coe_zero, ← EReal.coe_sub, Ideal.exp_coe, ← EReal.coe_one, ← EReal.coe_add, ← EReal.coe_mul, Ideal.div_coe (by positivity),
      ← EReal.coe_sub, ← EReal.coe_mul, ← EReal.coe_mul, ← EReal.coe_mul, zero_sub]
    congr 1
    have hp : (1 + Real.exp (-z)) ≠ 0 := by positivity
    field_simp
    try ring
theorem dgate_eq (d z : EReal) : dgate d z = dgateR d z := by
  unfold dgate dgateR
  rw [twice_neg, mul_assoc (z * d), quotient]

/-- The kernel's operands: the arrays below 112 rows of zeros; the skip's scale once per head. -/
theorem fy_read (c : Dev nD) (r : Fin 2176) (q : Fin 512) : fy m c r q
    = if h : 112 ≤ r.val then m ((c : Thread nD τ).loc main_arg0) (ix3 0 ⟨r.val - 112, by omega⟩ q) else (0 : EReal) := by
  unfold fy V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
theorem fx_read (c : Dev nD) (r : Fin 2176) (q : Fin 512) : fx m c r q
    = if h : 112 ≤ r.val then m ((c : Thread nD τ).loc main_arg1) (ix3 0 ⟨r.val - 112, by omega⟩ q) else (0 : EReal) := by
  unfold fx V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hq := q.isLt
  simp only [sitofp_zero]
  split_ifs <;> first | (exfalso; omega) | rfl
theorem fz_read (c : Dev nD) (r : Fin 2176) (q : Fin 512) : fz m c r q
    = if h : 112 ≤ r.val then m ((c : Thread nD τ).loc main_arg2) (ix3 0 ⟨r.val - 112, by omega⟩ q) else (0 : EReal) := by
  unfold fz V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hq := q.isLt
  simp only [sitofp_zero]
  split_ifs <;> first | (exfalso; omega) | rfl
theorem fd_read (c : Dev nD) (r : Fin 2176) (q : Fin 512) : fd m c r q
    = if h : 112 ≤ r.val then m ((c : Thread nD τ).loc main_arg5) (ix3 0 ⟨r.val - 112, by omega⟩ q) else (0 : EReal) := by
  unfold fd V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
abbrev head (q : Fin 512) : Fin 8 := ⟨q.val / 64, by have := q.isLt; omega⟩
theorem fs_read (c : Dev nD) (q : Fin 512) : fs m c q = m ((c : Thread nD τ).loc main_arg3) (ix1 (head q)) := by
  unfold fs V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
theorem fn_read (c : Dev nD) (q : Fin 512) : fn m c q = m ((c : Thread nD τ).loc main_arg4) (ix1 q) := by
  unfold fn V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []

section reference
variable (y x z d : FVec Ideal S1x2064x512 .f32) (s : FVec Ideal S8 .f32) (n : FVec Ideal S512 .f32) (r : Fin 2064) (q : Fin 512) (b : Fin 2) (k : Fin 256)

abbrev gcol (b : Fin 2) (k : Fin 256) : Fin 512 := ⟨b.val * 256 + k.val, by have := b.isLt; have := k.isLt; omega⟩
theorem v9_read : val_main_v9 (F := Ideal) y x s (ix3 0 r q) = mix (y (ix3 0 r q)) (s (ix1 (head q))) (x (ix3 0 r q)) := by
  have hq := q.isLt
  have e : q.val / 64 * 64 + q.val % 64 = q.val := by omega
  pointwise [val_main_v0, val_main_v1, val_main_v2, val_main_v3, val_main_v4, val_main_v5, val_main_v6, val_main_v7, val_main_v8, val_main_v9, mix]
  try simp only [e]
theorem sgm_read : val_main_v10_2 (F := Ideal) z (ix3 0 r q) = sgm (z (ix3 0 r q)) := by
  pointwise [val_main_call0_v0, val_main_call0_v1, val_main_call0_cst, val_main_call0_v2, val_main_call0_v3, val_main_call0_cst_0, val_main_call0_v4, val_main_v10_2, sgm]
  try simp only [zero_sub]
theorem v10_read : val_main_v10_0 (F := Ideal) z (ix3 0 r q) = swish (z (ix3 0 r q)) := by
  pointwise [val_main_v10_0, swish]
  rw [sgm_read]
theorem v12_read : val_main_v12 (F := Ideal) y x z s (ix4 0 r b k) = gated (y (ix3 0 r (gcol b k))) (s (ix1 (head (gcol b k)))) (x (ix3 0 r (gcol b k))) (z (ix3 0 r (gcol b k))) := by
  pointwise [val_main_v12, val_main_v11, gated]
  rw [v9_read, v10_read]
theorem v42_read : val_main_v42 (F := Ideal) n d (ix4 0 r b k) = times (d (ix3 0 r (gcol b k))) (n (ix1 (gcol b k))) := by
  pointwise [val_main_v31, val_main_v37, val_main_v38, val_main_v40, val_main_cst_7, val_main_v41, val_main_v42, times, mul_one]
theorem v21_read (u : Fin 1) : val_main_v21 (F := Ideal) y x z s (ix4 0 r b u) = moment D E fun k => val_main_v12 (F := Ideal) y x z s (ix4 0 r b k) := by
  obtain rfl : u = 0 := Subsingleton.elim _ _
  pointwise [val_main_v13, val_main_cst, val_main_v14, val_main_v15, val_main_cst_0, val_main_v16, val_main_v17, val_main_cst_1, val_main_v18, val_main_v19, val_main_cst_2, val_main_v20, val_main_v21, moment]
theorem v55_read : val_main_v55 (F := Ideal) y x z s n d (ix4 0 r b k)
    = rowctR D E H (Ideal.ofBits .f32 0x40000000#32) (fun k => val_main_v12 (F := Ideal) y x z s (ix4 0 r b k)) (fun k => val_main_v42 (F := Ideal) n d (ix4 0 r b k)) k := by
  pointwise [val_main_cst, val_main_v14, val_main_v15, val_main_v22, val_main_v23, val_main_cst_3, val_main_v24, val_main_v25, val_main_v26, val_main_v43, val_main_cst_8, val_main_v44, val_main_v45, val_main_v46, val_main_v47, val_main_v48, val_main_cst_9, val_main_v49, val_main_v50, val_main_cst_10, val_main_v51, val_main_v52, val_main_v53, val_main_v54, val_main_v55, rowctR, factor]
  simp only [v21_read, Fintype.sum_unique, Fin.default_eq_zero]
theorem v56_read : val_main_v56 (F := Ideal) y x z s n d (ix3 0 r q)
    = rowctR D E H (Ideal.ofBits .f32 0x40000000#32) (fun k => val_main_v12 (F := Ideal) y x z s (ix4 0 r ⟨q.val / 256, by have := q.isLt; omega⟩ k)) (fun k => val_main_v42 (F := Ideal) n d (ix4 0 r ⟨q.val / 256, by have := q.isLt; omega⟩ k)) (lane q) := by
  rw [← v55_read]
  pointwise [val_main_v56]
theorem v58_read : val_main_v58 (F := Ideal) y x z s n d (ix3 0 r q) = times (val_main_v56 (F := Ideal) y x z s n d (ix3 0 r q)) (swish (z (ix3 0 r q))) := by
  pointwise [val_main_v58, times]
  rw [v10_read]
theorem v71_read (k : Fin 2176) : val_main_v71 (F := Ideal) y x z s n d (ix2 k q)
    = if hk : 112 ≤ k.val then val_main_v58 (F := Ideal) y x z s n d (ix3 0 ⟨k.val - 112, by omega⟩ q) else (0 : EReal) := by
  have hq := q.isLt
  have e : q.val / 64 * 64 + q.val % 64 = q.val := by omega
  pointwise [val_main_v60, val_main_v69, val_main_v70, val_main_c, val_main_call2_v0, val_main_v71]
  have hr := k.isLt
  simp only [sitofp_zero]
  try simp only [e]
  split_ifs <;> first | (exfalso; omega) | rfl
theorem v73_read (k : Fin 2176) : val_main_v73 (F := Ideal) y x z s n d (ix2 k q)
    = if hk : 112 ≤ k.val then times (s (ix1 (head q))) (val_main_v58 (F := Ideal) y x z s n d (ix3 0 ⟨k.val - 112, by omega⟩ q)) else (0 : EReal) := by
  have hq := q.isLt
  have e : q.val / 64 * 64 + q.val % 64 = q.val := by omega
  pointwise [val_main_v0, val_main_v1, val_main_v3, val_main_v5, val_main_v60, val_main_v61, val_main_v62, val_main_v67, val_main_v72, val_main_c_13, val_main_call3_v0, val_main_v73, times]
  have hr := k.isLt
  simp only [sitofp_zero]
  try simp only [e]
  split_ifs <;> first | (exfalso; omega) | rfl
theorem v59_read : val_main_v59 (F := Ideal) y x z s n d (ix3 0 r q)
    = dgateR (times (mix (y (ix3 0 r q)) (s (ix1 (head q))) (x (ix3 0 r q))) (val_main_v56 (F := Ideal) y x z s n d (ix3 0 r q))) (z (ix3 0 r q)) := by
  pointwise [val_main_call0_cst_1, val_main_call0_v6, val_main_call0_v7, val_main_v10_1, val_main_v57, val_main_call1_v0, val_main_call1_v1, val_main_call1_v2, val_main_v59, dgateR, times]
  simp only [v9_read, sgm_read]
theorem v75_read (k : Fin 2176) : val_main_v75 (F := Ideal) y x z s n d (ix2 k q)
    = if hk : 112 ≤ k.val then val_main_v59 (F := Ideal) y x z s n d (ix3 0 ⟨k.val - 112, by omega⟩ q) else (0 : EReal) := by
  pointwise [val_main_v74, val_main_c_14, val_main_call4_v0, val_main_v75]
  have hr := k.isLt
  simp only [sitofp_zero]
  split_ifs <;> first | (exfalso; omega) | rfl
theorem v76_read : val_main_v76 (F := Ideal) y x z s n d (ix2 0 q) = ∑ r : Fin 2064, times (val_main_v58 (F := Ideal) y x z s n d (ix3 0 r q)) (x (ix3 0 r q)) := by
  have hq := q.isLt
  have e : q.val / 64 * 64 + q.val % 64 = q.val := by omega
  pointwise [val_main_v4, val_main_v60, val_main_v63, val_main_cst_11, val_main_v64, val_main_v65, val_main_cst_12, val_main_v66, val_main_v68, val_main_v76, times]
  try simp only [e, Fintype.sum_unique]
theorem v77_read : val_main_v77 (F := Ideal) y x z s d (ix2 0 q)
    = ∑ r : Fin 2064, normed (fun k => val_main_v12 (F := Ideal) y x z s (ix4 0 r ⟨q.val / 256, by have := q.isLt; omega⟩ k)) (d (ix3 0 r q)) (lane q) := by
  have hq := q.isLt
  pointwise [val_main_v22, val_main_v26, val_main_v27, val_main_cst_4, val_main_v28, val_main_v29, val_main_v30, val_main_v34, val_main_cst_5, val_main_v35, val_main_v36, val_main_cst_6, val_main_v39, val_main_v77, normed, mul_one]
  try simp only [v21_read, Fintype.sum_unique]
end reference

/-- On the rows that hold one: the group's gated sums and cotangents are the reference's. -/
theorem col_eq (q : Fin 512) (s : Fin 256) (h : q.val / 256 < 2) : gcol ⟨q.val / 256, h⟩ s = col q s := rfl
theorem pre_at (c : Dev nD) (k : Fin 2176) (hk : 112 ≤ k.val) (q : Fin 512) : pre m c k q
    = fun s => val_main_v12 (F := Ideal) (m ((c : Thread nD τ).loc main_arg0)) (m ((c : Thread nD τ).loc main_arg1)) (m ((c : Thread nD τ).loc main_arg2)) (m ((c : Thread nD τ).loc main_arg3)) (ix4 0 ⟨k.val - 112, by omega⟩ ⟨q.val / 256, by have := q.isLt; omega⟩ s) := by
  funext s
  rw [v12_read]
  exact congr (congr (congr (congrArg gated ((fy_read m c k (col q s)).trans (dif_pos hk))) (fs_read m c (col q s))) ((fx_read m c k (col q s)).trans (dif_pos hk))) ((fz_read m c k (col q s)).trans (dif_pos hk))
theorem cot_at (c : Dev nD) (k : Fin 2176) (hk : 112 ≤ k.val) (q : Fin 512) : cot m c k q
    = fun s => val_main_v42 (F := Ideal) (m ((c : Thread nD τ).loc main_arg4)) (m ((c : Thread nD τ).loc main_arg5)) (ix4 0 ⟨k.val - 112, by omega⟩ ⟨q.val / 256, by have := q.isLt; omega⟩ s) := by
  funext s
  rw [v42_read]
  exact congrArg₂ times ((fd_read m c k (col q s)).trans (dif_pos hk)) (fn_read m c (col q s))
theorem gct_at (c : Dev nD) (k : Fin 2176) (hk : 112 ≤ k.val) (q : Fin 512) : gct m c k q
    = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 ⟨k.val - 112, by omega⟩ q) := by
  rw [v56_read, gct, rowct_eq, lit_two, pre_at m c k hk, cot_at m c k hk]
theorem gct_above (c : Dev nD) (k : Fin 2176) (hk : ¬112 ≤ k.val) (q : Fin 512) : gct m c k q = 0 :=
  rowct_zero _ _ _ _ _ zero_div (fun s => (congrArg₂ times ((fd_read m c k (col q s)).trans (dif_neg hk)) rfl).trans (zero_mul _)) _
theorem gdy_at (c : Dev nD) (k : Fin 2176) (hk : 112 ≤ k.val) (q : Fin 512) : gdy m c k q
    = val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 ⟨k.val - 112, by omega⟩ q) :=
  (congrArg₂ (fun a b => times a (swish b)) (gct_at m c k hk q) ((fz_read m c k q).trans (dif_pos hk))).trans (v58_read _ _ _ _ _ _ _ q).symm
theorem gdy_above (c : Dev nD) (k : Fin 2176) (hk : ¬112 ≤ k.val) (q : Fin 512) : gdy m c k q = 0 :=
  (congrArg (fun a => times a (swish (fz m c k q))) (gct_above m c k hk q)).trans (zero_mul _)
theorem dgateR_zero (z : EReal) : dgateR 0 z = 0 := by
  rw [dgateR, zero_mul, mul_zero, zero_mul, add_zero]

theorem final6 (c : Dev nD) : (dats m 0 c).arrAt 6 (cfgs 0).N = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr6]
  funext i
  obtain ⟨k, q, rfl⟩ : ∃ k q, i = ix2 k q := ⟨i 0, i 1, eq_ix2 i⟩
  refine Eq.trans (b := gdy m c k q) rfl ?_
  rw [v71_read]
  by_cases hk : 112 ≤ k.val
  · rw [dif_pos hk, gdy_at m c k hk]
  · rw [dif_neg hk, gdy_above m c k hk]
theorem final7 (c : Dev nD) : (dats m 0 c).arrAt 7 (cfgs 0).N = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr7]
  funext i
  obtain ⟨k, q, rfl⟩ : ∃ k q, i = ix2 k q := ⟨i 0, i 1, eq_ix2 i⟩
  refine Eq.trans (b := gdx m c k q) rfl ?_
  rw [v73_read]
  by_cases hk : 112 ≤ k.val
  · rw [dif_pos hk]
    exact congrArg₂ times (fs_read m c q) (gdy_at m c k hk q)
  · rw [dif_neg hk]
    exact (congrArg (times (fs m c q)) (gdy_above m c k hk q)).trans (mul_zero _)
theorem final8 (c : Dev nD) : (dats m 0 c).arrAt 8 (cfgs 0).N = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr8]
  funext i
  obtain ⟨k, q, rfl⟩ : ∃ k q, i = ix2 k q := ⟨i 0, i 1, eq_ix2 i⟩
  refine Eq.trans (b := gdz m c k q) rfl ?_
  rw [v75_read, gdz, dgate_eq]
  by_cases hk : 112 ≤ k.val
  · rw [dif_pos hk, v59_read, gct_at m c k hk]
    exact congrArg₂ (fun a b => dgateR (times a (val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 0 ⟨k.val - 112, by omega⟩ q))) b)
      (congr (congr (congrArg mix ((fy_read m c k q).trans (dif_pos hk))) (fs_read m c q)) ((fx_read m c k q).trans (dif_pos hk))) ((fz_read m c k q).trans (dif_pos hk))
  · rw [dif_neg hk, gct_above m c k hk]
    exact (congrArg (fun a => dgateR a (fz m c k q)) (mul_zero _)).trans (dgateR_zero _)
theorem final9 (c : Dev nD) : (dats m 0 c).arrAt 9 (cfgs 0).N = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr9]
  funext i
  obtain ⟨q, rfl⟩ : ∃ q, i = ix2 0 q := ⟨i 1, (eq_ix2 i).trans (congrArg (fun a => ix2 a (i 1)) (Subsingleton.elim _ _))⟩
  rw [v76_read]
  refine (sum_below 112 2064 (fun r => gds m c r q) fun k hk => ?_).trans (Finset.sum_congr rfl fun r _ => ?_)
  · exact (congrArg (fun a => times a (fx m c k q)) (gdy_above m c k (by omega) q)).trans (zero_mul _)
  · exact congrArg₂ times (gdy_at m c _ (Nat.le_add_left _ _) q) ((fx_read m c _ q).trans (dif_pos (Nat.le_add_left _ _)))
theorem final10 (c : Dev nD) : (dats m 0 c).arrAt 10 (cfgs 0).N = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  rw [arr10]
  funext i
  obtain ⟨q, rfl⟩ : ∃ q, i = ix2 0 q := ⟨i 1, (eq_ix2 i).trans (congrArg (fun a => ix2 a (i 1)) (Subsingleton.elim _ _))⟩
  rw [v77_read]
  refine (sum_below 112 2064 (fun r => gdn m c r q) fun k hk => ?_).trans (Finset.sum_congr rfl fun r _ => ?_)
  · exact (congrArg (fun a => normed (pre m c k q) a (lane q)) ((fd_read m c k q).trans (dif_neg (by omega)))).trans (mul_zero _)
  · exact congrArg₂ (fun a b => normed a b (lane q)) (pre_at m c _ (Nat.le_add_left _ _) q) ((fd_read m c _ q).trans (dif_pos (Nat.le_add_left _ _)))

end Cert.PostKernelIdeal.Value
-- ==== Proof.PostClaim.lean ====
/- The state-space layer's gate and norm, backward: the kernel computes the reference's cotangents. -/
module

public import proofs.«01_k».proof.Defs
public import proofs.«01_k».proof.Proof.PostFinal
public import proofs.«01_k».proof.Proof.Gen.PostReferenceIdeal.Read

@[expose] public section

set_option maxRecDepth 16384

noncomputable section

open Idealize.ShloMosaic Idealize.ShloMosaic.TcCoe Idealize.SL.Sem
open Idealize.ShloMosaic.Pipeline (Dat)

namespace Cert.PostReferenceIdeal.Read

open Cert.PostReferenceIdeal Cert.PostReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v73) = val_main_v73 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v75) = val_main_v75 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (val_main_v71_eq m c), (h c).2.1.trans (val_main_v73_eq m c), (h c).2.2.1.trans (val_main_v75_eq m c), (h c).2.2.2.1.trans (val_main_v76_eq m c), (h c).2.2.2.2.1.trans (val_main_v77_eq _ _ _ _ _), (h c).2.2.2.2.2⟩) (Value.run m ρ)

end Cert.PostReferenceIdeal.Read

namespace Cert.PostKernelIdeal.Value

set_option maxHeartbeats 2000000 in
/-- The state-space layer's gate and norm, backward: the kernel computes the reference's cotangents. -/
theorem algebraic : Cert.algebraic_PostKernelIdeal_PostReferenceIdeal := by
  pair_intro
  · run_from Cert.PostKernelIdeal.Gen.run_main m g & Cert.PostKernelIdeal.Gen.unchanged m g
  · run_from Cert.PostReferenceIdeal.Read.run m' g'
    · exact (final6 m c).symm
    · exact (final7 m c).symm
    · exact (final8 m c).symm
    · exact (final9 m c).symm
    · exact (final10 m c).symm

end Cert.PostKernelIdeal.Value
-- ==== Proof.Softmax.lean ====
/- A row of causal attention: the weighted mean that the kernel divides at the end and the one whose weights the reference divides first. -/
module

public import Idealize.ShloMosaic.Lib.Pointwise
public import Idealize.ShloMosaic.Lib.WordCmp
public import Idealize.ShloMosaic.Lib.Pipeline.ValueKit
public import proofs.«01_k».proof.Proof.Reals

@[expose] public section

set_option maxRecDepth 16384

noncomputable section

open Idealize.ShloMosaic Idealize.ShloMosaic.TcCoe Idealize.SL.Sem

namespace Cert.Soft

open Cert.Reals

/-- The head that a lane of 256 belongs to, a lane of 128, as the kernel's words compute them. -/
def hid (x : Fin 256) : BitVec 32 :=
  Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 x.val) 64#32) 0#32))
    (IntOp.subi (IntOp.divsi ArithUnit.vector (BitVec.ofNat 32 x.val) 64#32) 1#32)
    (IntOp.divsi ArithUnit.vector (BitVec.ofNat 32 x.val) 64#32)
def lid (x : Fin 128) : BitVec 32 :=
  Scalar.select
    (IntOp.andi
      (IntOp.cmpi CmpIPredicate.ne
        (IntOp.subi (BitVec.setWidth 32 (IntOp.cmpi CmpIPredicate.sgt (BitVec.ofNat 32 x.val) 0#32))
          (BitVec.setWidth 32 (IntOp.cmpi CmpIPredicate.slt (BitVec.ofNat 32 x.val) 0#32)))
        (Scalar.subi (Scalar.extui (Scalar.cmpi CmpIPredicate.sgt 1#32 0#32))
          (Scalar.extui (Scalar.cmpi CmpIPredicate.slt 1#32 0#32))))
      (IntOp.cmpi CmpIPredicate.ne (IntOp.remsi ArithUnit.vector (BitVec.ofNat 32 x.val) 1#32) 0#32))
    (IntOp.subi (IntOp.divsi ArithUnit.vector (BitVec.ofNat 32 x.val) 1#32) 1#32)
    (IntOp.divsi ArithUnit.vector (BitVec.ofNat 32 x.val) 1#32)

theorem hid_eq : ∀ (x : Fin 256) (h : Fin 4), IntOp.cmpi .eq (hid x) (BitVec.ofNat 32 h.val) = if x.val / 64 = h.val then 1#1 else 0#1 := by
  decide +kernel
theorem lid_eq : ∀ (x : Fin 128) (h : Fin 4), IntOp.cmpi .eq (lid x) (BitVec.ofNat 32 h.val) = if x.val = h.val then 1#1 else 0#1 := by
  decide +kernel

/-- A lane's value among the four heads' values, as the kernel selects it. -/
def heads (id : BitVec 32) (f : Fin 4 → EReal) : EReal :=
  Scalar.select (IntOp.cmpi .eq id 3#32) (f 3) (Scalar.select (IntOp.cmpi .eq id 2#32) (f 2) (Scalar.select (IntOp.cmpi .eq id 1#32) (f 1)
    (Scalar.select (IntOp.cmpi .eq id 0#32) (f 0) 0)))

/-- The head of a lane. -/
abbrev hd (x : Fin 256) : Fin 4 := ⟨x.val / 64, by omega⟩

theorem heads_hid (x : Fin 256) (f : Fin 4 → EReal) : heads (hid x) f = f (hd x) := by
  have e0 := hid_eq x 0
  have e1 := hid_eq x 1
  have e2 := hid_eq x 2
  have e3 := hid_eq x 3
  simp only [Fin.val_zero, Fin.val_one, Fin.val_two, show (3 : Fin 4).val = 3 from rfl] at e0 e1 e2 e3
  unfold heads
  rw [e0, e1, e2, e3]
  have hx : x.val / 64 < 4 := by omega
  rcases (by omega : x.val / 64 = 0 ∨ x.val / 64 = 1 ∨ x.val / 64 = 2 ∨ x.val / 64 = 3) with h | h | h | h <;>
    · simp only [h]
      exact congrArg f (Fin.ext (by simp [hd, h]))

/-- The lanes of a head: a product over all lanes, the others masked, is the product over the head's 64. -/
theorem sum_head (h : Fin 4) (f : Fin 256 → EReal) :
    ∑ x, Scalar.select (IntOp.cmpi .eq (hid x) (BitVec.ofNat 32 h.val)) (f x) 0 = ∑ y : Fin 64, f ⟨h.val * 64 + y.val, by omega⟩ := by
  have hh := h.isLt
  simp only [hid_eq]
  refine (Fin.sum_mul_add_fin (L := 256) 4 64 _).symm.trans ((Finset.sum_eq_single h ?_ ?_).trans ?_)
  · intro s _ hs
    refine Finset.sum_eq_zero fun y _ => ?_
    have hy := y.isLt
    rw [if_neg fun e => hs (Fin.ext (by simp only at e; omega))]
    rfl
  · intro hx
    exact absurd (Finset.mem_univ _) hx
  · refine Finset.sum_congr rfl fun y _ => ?_
    have hy := y.isLt
    rw [if_pos (by simp only; omega)]
    rfl
theorem sum_lane (h : Fin 4) (f : Fin 128 → EReal) :
    ∑ x, Scalar.select (IntOp.cmpi .eq (lid x) (BitVec.ofNat 32 h.val)) (f x) 0 = f ⟨h.val, by omega⟩ := by
  simp only [lid_eq]
  rw [Finset.sum_eq_single ⟨h.val, by omega⟩]
  · rw [if_pos rfl]; rfl
  · intro x _ hx
    rw [if_neg fun e => hx (Fin.ext e)]; rfl
  · intro hx
    exact absurd (Finset.mem_univ _) hx

/-- The largest score of a row, as both programs fold it. -/
def top {n : ℕ} (s : Fin n → EReal) : EReal := Finset.fold max (Ideal.ofBits .f32 0xFF800000#32) s Finset.univ

/-- The kernel's row: the exponentials' weighted sum over their sum. The reference's: each exponential over the sum, then the weighted sum. -/
def att {n : ℕ} (s v : Fin n → EReal) : EReal :=
  Ideal.div (∑ j, Ideal.exp (s j - top s) * v j) (∑ j, Ideal.exp (s j - top s))
def attR {n : ℕ} (s v : Fin n → EReal) : EReal :=
  ∑ j, v j * Ideal.div (Ideal.exp (s j - top s)) (∑ j, Ideal.exp (s j - top s))

/-- What both compute: the mean of `w` over the keys from `lo` to `hi`, weighted by the exponentials of the scores `a`. -/
def soft (lo hi : ℕ) (a w : ℕ → EReal) : EReal :=
  ∑ j ∈ Finset.Ico lo hi, ((Real.exp (a j).toReal / ∑ i ∈ Finset.Ico lo hi, Real.exp (a i).toReal : ℝ) : EReal) * w j

/-- An extended real that is a real. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {ι : Type} [Fintype ι] {f : ι → EReal} (h : ∀ i, IsReal (f i)) : IsReal (∑ i, f i) := real_sum f h
theorem IsReal.toReal {x : EReal} (hx : IsReal x) : ((x.toReal : ℝ) : EReal) = x := by
  obtain ⟨a, rfl⟩ := hx; rw [EReal.toReal_coe]

theorem lit_bot : Ideal.ofBits .f32 0xFF800000#32 = (⊥ : EReal) := by simp [Ideal.ofBits, Ideal.ieee]

/-- A sum over `n` indices whose terms vanish outside an interval. -/
theorem sum_Ico {M : Type} [AddCommMonoid M] (n lo hi : ℕ) (hn : hi ≤ n) (f : ℕ → M) :
    ∑ j : Fin n, (if lo ≤ j.val ∧ j.val < hi then f j.val else 0) = ∑ j ∈ Finset.Ico lo hi, f j := by
  rw [Fin.sum_univ_eq_sum_range (fun j => if lo ≤ j ∧ j < hi then f j else 0) n, ← Finset.sum_filter]
  refine Finset.sum_congr (Finset.ext fun j => ?_) fun _ _ => rfl
  simp only [Finset.mem_filter, Finset.mem_range, Finset.mem_Ico]
  omega

section row
variable {n : ℕ} (lo hi : ℕ) (hlo : lo < hi) (hn : hi ≤ n) (s v : Fin n → EReal) (a w : ℕ → EReal)
  (ha : ∀ j, lo ≤ j → j < hi → IsReal (a j)) (hs : ∀ j : Fin n, s j = if lo ≤ j.val ∧ j.val < hi then a j.val else ⊥) (hv : ∀ j : Fin n, v j = w j.val)
include hlo hn ha hs

/-- A row with an unmasked key has a real largest score. -/
theorem top_real : IsReal (top s) := by
  have e : top s = Finset.univ.sup s := by
    unfold top
    rw [lit_bot]
    rfl
  have hl : s ⟨lo, by omega⟩ ≤ top s := e ▸ Finset.le_sup (Finset.mem_univ _)
  rw [hs, if_pos ⟨le_refl _, hlo⟩] at hl
  obtain ⟨r, hr⟩ := ha lo (le_refl _) hlo
  have hne : (Finset.univ : Finset (Fin n)).Nonempty := Finset.univ_nonempty_iff.2 ⟨⟨lo, by omega⟩⟩
  obtain ⟨j, -, hj⟩ := Finset.exists_mem_eq_sup' hne s
  rw [Finset.sup'_eq_sup] at hj
  rw [e, hj, hs]
  by_cases h : lo ≤ j.val ∧ j.val < hi
  · rw [if_pos h]
    exact ha _ h.1 h.2
  · exfalso
    rw [e, hj, hs, if_neg h] at hl
    simp only [hr] at hl
    exact absurd (le_bot_iff.1 hl) (EReal.coe_ne_bot r)

/-- The exponentials: of an unmasked key's difference a real, of a masked one's zero. -/
theorem exp_eq (j : Fin n) : Ideal.exp (s j - top s)
    = if lo ≤ j.val ∧ j.val < hi then ((Real.exp ((a j.val).toReal - (top s).toReal) : ℝ) : EReal) else 0 := by
  obtain ⟨M, hM⟩ := top_real lo hi hlo hn s a ha hs
  rw [hM, EReal.toReal_coe, hs j]
  split
  · next h =>
    obtain ⟨r, hr⟩ := ha _ h.1 h.2
    rw [hr, EReal.toReal_coe, ← EReal.coe_sub, Ideal.exp_coe]
  · rw [EReal.bot_sub]
    exact Ideal.exp_bot

theorem sum_eq : ∑ j, Ideal.exp (s j - top s) = ((∑ j ∈ Finset.Ico lo hi, Real.exp ((a j).toReal - (top s).toReal) : ℝ) : EReal) := by
  rw [coe_sum, ← sum_Ico n lo hi hn]
  exact Finset.sum_congr rfl fun j _ => exp_eq lo hi hlo hn s a ha hs j

omit hn ha hs in
theorem sum_pos (M : ℝ) : 0 < ∑ j ∈ Finset.Ico lo hi, Real.exp ((a j).toReal - M) :=
  Finset.sum_pos (fun j _ => Real.exp_pos _) ⟨lo, Finset.mem_Ico.2 ⟨le_refl _, hlo⟩⟩

omit hlo hn ha hs in
/-- The largest score drops out. -/
theorem weight_eq (M : ℝ) (j : ℕ) : Real.exp ((a j).toReal - M) * (1 / ∑ i ∈ Finset.Ico lo hi, Real.exp ((a i).toReal - M))
    = Real.exp (a j).toReal / ∑ i ∈ Finset.Ico lo hi, Real.exp (a i).toReal := by
  have e : ∑ i ∈ Finset.Ico lo hi, Real.exp ((a i).toReal - M) = (∑ i ∈ Finset.Ico lo hi, Real.exp (a i).toReal) / Real.exp M := by
    rw [Finset.sum_div]
    exact Finset.sum_congr rfl fun i _ => Real.exp_sub _ _
  rw [e, Real.exp_sub]
  have := (Real.exp_pos M).ne'
  by_cases h : ∑ i ∈ Finset.Ico lo hi, Real.exp (a i).toReal = 0
  · simp [h]
  · field_simp

include hv

theorem att_eq : att s v = soft lo hi a w := by
  unfold att soft
  rw [sum_eq lo hi hlo hn s a ha hs, Ideal.div_coe (sum_pos lo hi hlo a _).ne', sum_mul _ _ (by have := sum_pos lo hi hlo a (top s).toReal; positivity), ← sum_Ico (M := EReal) n lo hi hn]
  refine Finset.sum_congr rfl fun j _ => ?_
  rw [exp_eq lo hi hlo hn s a ha hs j, hv j]
  split
  · rw [← weight_eq lo hi a (top s).toReal j.val, EReal.coe_mul]
    exact mul_right_comm _ _ _
  · rw [zero_mul, zero_mul]

theorem attR_eq : attR s v = soft lo hi a w := by
  unfold attR soft
  rw [← sum_Ico (M := EReal) n lo hi hn]
  refine Finset.sum_congr rfl fun j _ => ?_
  rw [sum_eq lo hi hlo hn s a ha hs, Ideal.div_coe (sum_pos lo hi hlo a _).ne', exp_eq lo hi hlo hn s a ha hs j, hv j]
  split
  · rw [← weight_eq lo hi a (top s).toReal j.val, EReal.coe_mul]
    exact mul_comm _ _
  · rw [zero_mul, mul_zero]
end row

/-- The mean of the keys `lo + d` onwards is the mean of the shifted scores. -/
theorem soft_shift (lo hi d : ℕ) (a w : ℕ → EReal) : soft (lo + d) (hi + d) a w = soft lo hi (fun j => a (j + d)) fun j => w (j + d) := by
  unfold soft
  rw [← Finset.sum_Ico_add' (fun j => Real.exp (a j).toReal), ← Finset.sum_Ico_add']

/-- The mean of zeros. -/
theorem soft_zero (lo hi : ℕ) (a w : ℕ → EReal) (h : ∀ j, lo ≤ j → j < hi → w j = 0) : soft lo hi a w = 0 :=
  Finset.sum_eq_zero fun j hj => by
    obtain ⟨h1, h2⟩ := Finset.mem_Ico.1 hj
    rw [h j h1 h2, mul_zero]

/-- The mean depends on the unmasked keys alone. -/
theorem soft_congr (lo hi : ℕ) (a w b x : ℕ → EReal) (h : ∀ j, lo ≤ j → j < hi → a j = b j ∧ w j = x j) : soft lo hi a w = soft lo hi b x := by
  unfold soft
  have e : ∑ i ∈ Finset.Ico lo hi, Real.exp (a i).toReal = ∑ i ∈ Finset.Ico lo hi, Real.exp (b i).toReal :=
    Finset.sum_congr rfl fun i hi => by
      obtain ⟨h1, h2⟩ := Finset.mem_Ico.1 hi
      rw [(h i h1 h2).1]
  rw [e]
  refine Finset.sum_congr rfl fun j hj => ?_
  obtain ⟨h1, h2⟩ := Finset.mem_Ico.1 hj
  rw [(h j h1 h2).1, (h j h1 h2).2]

/-- The first key that a row of the padded array reads. -/
abbrev first (r : ℕ) : ℕ := if r < 112 then 0 else 112

/-- A block's masked score: `i` the block, `r` the row in the block, `j` the key. -/
def msk (i : BitVec 32) (r j : ℕ) (s neg : EReal) : EReal :=
  Scalar.select (IntOp.andi
      (IntOp.cmpi CmpIPredicate.sle (BitVec.ofNat 32 j) (IntOp.addi (Scalar.muli i 272#32) (BitVec.ofNat 32 r)))
      (IntOp.ori (IntOp.cmpi CmpIPredicate.sge (BitVec.ofNat 32 j) 112#32)
        (IntOp.cmpi CmpIPredicate.slt (IntOp.addi (Scalar.muli i 272#32) (BitVec.ofNat 32 r)) 112#32))) s neg

theorem msk_eq (t r j : ℕ) (ht : t < 8) (hr : r < 272) (hj : j < 2176) (s neg : EReal) :
    msk (BitVec.ofNat 32 t) r j s neg = if first (t * 272 + r) ≤ j ∧ j < t * 272 + r + 1 then s else neg := by
  have e : IntOp.addi (Scalar.muli (BitVec.ofNat 32 t) 272#32) (BitVec.ofNat 32 r) = BitVec.ofNat 32 (t * 272 + r) := by
    simp only [IntOp.addi, Scalar.muli, IntOp.muli, BitVec.ofNat_add, BitVec.ofNat_mul]
  unfold msk
  rw [e, WordCmp.cmpi_sle_ofNat (w := 32) (by omega) (by omega), WordCmp.cmpi_sge_ofNat (w := 32) (by omega) (by omega), WordCmp.cmpi_slt_ofNat (w := 32) (by omega) (by omega)]
  by_cases h1 : j ≤ t * 272 + r <;> by_cases h2 : 112 ≤ j <;> by_cases h3 : t * 272 + r < 112 <;>
    simp [h1, h2, h3, first, IntOp.andi, IntOp.ori, Scalar.select] <;> omega

end Cert.Soft
-- ==== Proof.FoxfValue.lean ====
/- Attention with forget gates, forward: what the kernel's output array holds, as a function of its operands. -/
module

public import proofs.«01_k».proof.Proof.Gen.FoxfKernelIdeal.Frame
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.FoxfKernelIdeal.Value

open Cert.FoxfKernelIdeal Cert.FoxfKernelIdeal.Gen Cert.Soft

/-- One head's score; one head of a block's row, its keys masked. -/
def score (w : BitVec 32) (q k : Fin 256 → EReal) (c : Fin 128 → EReal) (ct : EReal) : EReal :=
  (∑ x, Scalar.select (IntOp.cmpi .eq (hid x) w) (q x * k x) 0) * Ideal.ofBits FTy.f32 1040187392#32
   + ((∑ x, Scalar.select (IntOp.cmpi .eq (lid x) w) (c x) 0) - ct)
def one {n : ℕ} (i : BitVec 32) (q : FVec Ideal S272x256 .f32) (k v : FVec Ideal ⟨2, ![n, 256]⟩ .f32) (c : FVec Ideal S272x128 .f32) (ct : FVec Ideal ⟨2, ![1, n]⟩ .f32) (r : Fin 272) (x : Fin 256) (w : BitVec 32) : EReal :=
  att (fun j : Fin n => msk i r.val j.val (score w (fun x => q (ix2 r x)) (fun x => k (ix2 j x)) (fun x => c (ix2 r x)) (ct (ix2 0 j))) (Named.named (F := Ideal) (φ := .f32) κ "mask" 4048155338#32))
    (fun j => v (ix2 j x))

section A
variable (i : BitVec 32) (q : FVec Ideal S272x256 .f32) (k v : FVec Ideal S640x256 .f32) (c : FVec Ideal S272x128 .f32) (t0 t1 t2 t3 : FVec Ideal S1x640 .f32) (r : Fin 272) (x : Fin 256)

/-- The block after each head, against the first 640 keys. -/
abbrev lanesA : IVec S1x256 32 := k0_pay9 k0_pay6 k0_pay7 k0_pay8
abbrev bA0 := k0_pay20 (F := Ideal) (k0_pay2 i) (k0_pay5 v) lanesA k0_pay11 0#32 (k0_pay13 (k0_pay3 q) (k0_pay4 k) k0_pay6 k0_pay7 k0_pay8) (k0_pay14 c) (Scalar.ofBits .f32 0#32) k0_pay15 t0
abbrev bA1 := k0_pay28 (F := Ideal) (k0_pay2 i) (k0_pay5 v) lanesA k0_pay10 (bA0 i q k v c t0) 1#32 (k0_pay22 (k0_pay3 q) (k0_pay4 k) lanesA) k0_pay23 c t1
abbrev bA2 := k0_pay36 (F := Ideal) (k0_pay2 i) (k0_pay3 q) (k0_pay4 k) (k0_pay5 v) lanesA k0_pay10 (bA1 i q k v c t0 t1) 2#32 (k0_pay30 lanesA) k0_pay31 c t2
abbrev bA3 := k0_pay42 (F := Ideal) (k0_pay2 i) (k0_pay3 q) (k0_pay4 k) (k0_pay5 v) lanesA k0_pay10 (bA2 i q k v c t0 t1 t2) 3#32 c t3

theorem bA0_apply : bA0 i q k v c t0 (ix2 r x) = Scalar.select (IntOp.cmpi .eq (hid x) 0#32) (one i q k v c t0 r x 0#32) 0 := by
  pointwise [bA0, lanesA, k0_pay20, k0_pay19, k0_pay18, k0_pay17, k0_pay16, k0_pay15, k0_pay14, k0_pay13, k0_pay11, k0_pay10, k0_pay9, k0_pay8, k0_pay7, k0_pay6, k0_pay5, k0_pay4, k0_pay3, k0_pay2, one, att, top, msk, score, hid, lid]
theorem bA1_apply : bA1 i q k v c t0 t1 (ix2 r x) = Scalar.select (IntOp.cmpi .eq (hid x) 1#32) (one i q k v c t1 r x 1#32) (bA0 i q k v c t0 (ix2 r x)) := by
  pointwise [bA1, lanesA, k0_pay28, k0_pay27, k0_pay26, k0_pay25, k0_pay24, k0_pay23, k0_pay22, k0_pay10, k0_pay9, k0_pay8, k0_pay7, k0_pay6, k0_pay5, k0_pay4, k0_pay3, k0_pay2, one, att, top, msk, score, hid, lid]
theorem bA2_apply : bA2 i q k v c t0 t1 t2 (ix2 r x) = Scalar.select (IntOp.cmpi .eq (hid x) 2#32) (one i q k v c t2 r x 2#32) (bA1 i q k v c t0 t1 (ix2 r x)) := by
  pointwise [bA2, lanesA, k0_pay36, k0_pay35, k0_pay34, k0_pay33, k0_pay32, k0_pay31, k0_pay30, k0_pay10, k0_pay9, k0_pay8, k0_pay7, k0_pay6, k0_pay5, k0_pay4, k0_pay3, k0_pay2, one, att, top, msk, score, hid, lid]
theorem bA3_apply : bA3 i q k v c t0 t1 t2 t3 (ix2 r x) = Scalar.select (IntOp.cmpi .eq (hid x) 3#32) (one i q k v c t3 r x 3#32) (bA2 i q k v c t0 t1 t2 (ix2 r x)) := by
  pointwise [bA3, lanesA, k0_pay42, k0_pay41, k0_pay40, k0_pay39, k0_pay38, k0_pay10, k0_pay9, k0_pay8, k0_pay7, k0_pay6, k0_pay5, k0_pay4, k0_pay3, k0_pay2, one, att, top, msk, score, hid, lid]
theorem blockA : bA3 i q k v c t0 t1 t2 t3 (ix2 r x) = heads (hid x) fun h => one i q k v c (![t0, t1, t2, t3] h) r x (BitVec.ofNat 32 h.val) := by
  rw [bA3_apply, bA2_apply, bA1_apply, bA0_apply]
  rfl
end A

section B
variable (i : BitVec 32) (q : FVec Ideal S272x256 .f32) (k v : FVec Ideal S1152x256 .f32) (c : FVec Ideal S272x128 .f32) (t0 t1 t2 t3 : FVec Ideal S1x1152 .f32) (r : Fin 272) (x : Fin 256)

/-- The block after each head, against the first 1152 keys. -/
abbrev lanesB : IVec S1x256 32 := k0_pay52 k0_pay49 k0_pay50 k0_pay51
abbrev bB0 := k0_pay63 (F := Ideal) (k0_pay45 i) (k0_pay48 v) lanesB k0_pay54 0#32 (k0_pay56 (k0_pay46 q) (k0_pay47 k) k0_pay49 k0_pay50 k0_pay51) (k0_pay57 c) (Scalar.ofBits .f32 0#32) k0_pay58 t0
abbrev bB1 := k0_pay71 (F := Ideal) (k0_pay45 i) (k0_pay48 v) lanesB k0_pay53 (bB0 i q k v c t0) 1#32 (k0_pay65 (k0_pay46 q) (k0_pay47 k) lanesB) k0_pay66 c t1
abbrev bB2 := k0_pay79 (F := Ideal) (k0_pay45 i) (k0_pay46 q) (k0_pay47 k) (k0_pay48 v) lanesB k0_pay53 (bB1 i q k v c t0 t1) 2#32 (k0_pay73 lanesB) k0_pay74 c t2
abbrev bB3 := k0_pay85 (F := Ideal) (k0_pay45 i) (k0_pay46 q) (k0_pay47 k) (k0_pay48 v) lanesB k0_pay53 (bB2 i q k v c t0 t1 t2) 3#32 c t3

theorem bB0_apply : bB0 i q k v c t0 (ix2 r x) = Scalar.select (IntOp.cmpi .eq (hid x) 0#32) (one i q k v c t0 r x 0#32) 0 := by
  pointwise [bB0, lanesB, k0_pay63, k0_pay62, k0_pay61, k0_pay60, k0_pay59, k0_pay58, k0_pay57, k0_pay56, k0_pay54, k0_pay53, k0_pay52, k0_pay51, k0_pay50, k0_pay49, k0_pay48, k0_pay47, k0_pay46, k0_pay45, one, att, top, msk, score, hid, lid]
theorem bB1_apply : bB1 i q k v c t0 t1 (ix2 r x) = Scalar.select (IntOp.cmpi .eq (hid x) 1#32) (one i q k v c t1 r x 1#32) (bB0 i q k v c t0 (ix2 r x)) := by
  pointwise [bB1, lanesB, k0_pay71, k0_pay70, k0_pay69, k0_pay68, k0_pay67, k0_pay66, k0_pay65, k0_pay53, k0_pay52, k0_pay51, k0_pay50, k0_pay49, k0_pay48, k0_pay47, k0_pay46, k0_pay45, one, att, top, msk, score, hid, lid]
theorem bB2_apply : bB2 i q k v c t0 t1 t2 (ix2 r x) = Scalar.select (IntOp.cmpi .eq (hid x) 2#32) (one i q k v c t2 r x 2#32) (bB1 i q k v c t0 t1 (ix2 r x)) := by
  pointwise [bB2, lanesB, k0_pay79, k0_pay78, k0_pay77, k0_pay76, k0_pay75, k0_pay74, k0_pay73, k0_pay53, k0_pay52, k0_pay51, k0_pay50, k0_pay49, k0_pay48, k0_pay47, k0_pay46, k0_pay45, one, att, top, msk, score, hid, lid]
theorem bB3_apply : bB3 i q k v c t0 t1 t2 t3 (ix2 r x) = Scalar.select (IntOp.cmpi .eq (hid x) 3#32) (one i q k v c t3 r x 3#32) (bB2 i q k v c t0 t1 t2 (ix2 r x)) := by
  pointwise [bB3, lanesB, k0_pay85, k0_pay84, k0_pay83, k0_pay82, k0_pay81, k0_pay53, k0_pay52, k0_pay51, k0_pay50, k0_pay49, k0_pay48, k0_pay47, k0_pay46, k0_pay45, one, att, top, msk, score, hid, lid]
theorem blockB : bB3 i q k v c t0 t1 t2 t3 (ix2 r x) = heads (hid x) fun h => one i q k v c (![t0, t1, t2, t3] h) r x (BitVec.ofNat 32 h.val) := by
  rw [bB3_apply, bB2_apply, bB1_apply, bB0_apply]
  rfl
end B

section C
variable (i : BitVec 32) (q : FVec Ideal S272x256 .f32) (k v : FVec Ideal S1664x256 .f32) (c : FVec Ideal S272x128 .f32) (t0 t1 t2 t3 : FVec Ideal S1x1664 .f32) (r : Fin 272) (x : Fin 256)

/-- The block after each head, against the first 1664 keys. -/
abbrev lanesC : IVec S1x256 32 := k0_pay95 k0_pay92 k0_pay93 k0_pay94
abbrev bC0 := k0_pay106 (F := Ideal) (k0_pay88 i) (k0_pay91 v) lanesC k0_pay97 0#32 (k0_pay99 (k0_pay89 q) (k0_pay90 k) k0_pay92 k0_pay93 k0_pay94) (k0_pay100 c) (Scalar.ofBits .f32 0#32) k0_pay101 t0
abbrev bC1 := k0_pay114 (F := Ideal) (k0_pay88 i) (k0_pay91 v) lanesC k0_pay96 (bC0 i q k v c t0) 1#32 (k0_pay108 (k0_pay89 q) (k0_pay90 k) lanesC) k0_pay109 c t1
abbrev bC2 := k0_pay122 (F := Ideal) (k0_pay88 i) (k0_pay89 q) (k0_pay90 k) (k0_pay91 v) lanesC k0_pay96 (bC1 i q k v c t0 t1) 2#32 (k0_pay116 lanesC) k0_pay117 c t2
abbrev bC3 := k0_pay128 (F := Ideal) (k0_pay88 i) (k0_pay89 q) (k0_pay90 k) (k0_pay91 v) lanesC k0_pay96 (bC2 i q k v c t0 t1 t2) 3#32 c t3

theorem bC0_apply : bC0 i q k v c t0 (ix2 r x) = Scalar.select (IntOp.cmpi .eq (hid x) 0#32) (one i q k v c t0 r x 0#32) 0 := by
  pointwise [bC0, lanesC, k0_pay106, k0_pay105, k0_pay104, k0_pay103, k0_pay102, k0_pay101, k0_pay100, k0_pay99, k0_pay97, k0_pay96, k0_pay95, k0_pay94, k0_pay93, k0_pay92, k0_pay91, k0_pay90, k0_pay89, k0_pay88, one, att, top, msk, score, hid, lid]
theorem bC1_apply : bC1 i q k v c t0 t1 (ix2 r x) = Scalar.select (IntOp.cmpi .eq (hid x) 1#32) (one i q k v c t1 r x 1#32) (bC0 i q k v c t0 (ix2 r x)) := by
  pointwise [bC1, lanesC, k0_pay114, k0_pay113, k0_pay112, k0_pay111, k0_pay110, k0_pay109, k0_pay108, k0_pay96, k0_pay95, k0_pay94, k0_pay93, k0_pay92, k0_pay91, k0_pay90, k0_pay89, k0_pay88, one, att, top, msk, score, hid, lid]
theorem bC2_apply : bC2 i q k v c t0 t1 t2 (ix2 r x) = Scalar.select (IntOp.cmpi .eq (hid x) 2#32) (one i q k v c t2 r x 2#32) (bC1 i q k v c t0 t1 (ix2 r x)) := by
  pointwise [bC2, lanesC, k0_pay122, k0_pay121, k0_pay120, k0_pay119, k0_pay118, k0_pay117, k0_pay116, k0_pay96, k0_pay95, k0_pay94, k0_pay93, k0_pay92, k0_pay91, k0_pay90, k0_pay89, k0_pay88, one, att, top, msk, score, hid, lid]
theorem bC3_apply : bC3 i q k v c t0 t1 t2 t3 (ix2 r x) = Scalar.select (IntOp.cmpi .eq (hid x) 3#32) (one i q k v c t3 r x 3#32) (bC2 i q k v c t0 t1 t2 (ix2 r x)) := by
  pointwise [bC3, lanesC, k0_pay128, k0_pay127, k0_pay126, k0_pay125, k0_pay124, k0_pay96, k0_pay95, k0_pay94, k0_pay93, k0_pay92, k0_pay91, k0_pay90, k0_pay89, k0_pay88, one, att, top, msk, score, hid, lid]
theorem blockC : bC3 i q k v c t0 t1 t2 t3 (ix2 r x) = heads (hid x) fun h => one i q k v c (![t0, t1, t2, t3] h) r x (BitVec.ofNat 32 h.val) := by
  rw [bC3_apply, bC2_apply, bC1_apply, bC0_apply]
  rfl
end C

section D
variable (i : BitVec 32) (q : FVec Ideal S272x256 .f32) (k v : FVec Ideal S2176x256 .f32) (c : FVec Ideal S272x128 .f32) (t0 t1 t2 t3 : FVec Ideal S1x2176 .f32) (r : Fin 272) (x : Fin 256)

/-- The block after each head, against the first 2176 keys. -/
abbrev lanesD : IVec S1x256 32 := k0_pay138 k0_pay135 k0_pay136 k0_pay137
abbrev bD0 := k0_pay149 (F := Ideal) (k0_pay131 i) (k0_pay134 v) lanesD k0_pay140 0#32 (k0_pay142 (k0_pay132 q) (k0_pay133 k) k0_pay135 k0_pay136 k0_pay137) (k0_pay143 c) (Scalar.ofBits .f32 0#32) k0_pay144 t0
abbrev bD1 := k0_pay157 (F := Ideal) (k0_pay131 i) (k0_pay134 v) lanesD k0_pay139 (bD0 i q k v c t0) 1#32 (k0_pay151 (k0_pay132 q) (k0_pay133 k) lanesD) k0_pay152 c t1
abbrev bD2 := k0_pay165 (F := Ideal) (k0_pay131 i) (k0_pay132 q) (k0_pay133 k) (k0_pay134 v) lanesD k0_pay139 (bD1 i q k v c t0 t1) 2#32 (k0_pay159 lanesD) k0_pay160 c t2
abbrev bD3 := k0_pay171 (F := Ideal) (k0_pay131 i) (k0_pay132 q) (k0_pay133 k) (k0_pay134 v) lanesD k0_pay139 (bD2 i q k v c t0 t1 t2) 3#32 c t3

theorem bD0_apply : bD0 i q k v c t0 (ix2 r x) = Scalar.select (IntOp.cmpi .eq (hid x) 0#32) (one i q k v c t0 r x 0#32) 0 := by
  pointwise [bD0, lanesD, k0_pay149, k0_pay148, k0_pay147, k0_pay146, k0_pay145, k0_pay144, k0_pay143, k0_pay142, k0_pay140, k0_pay139, k0_pay138, k0_pay137, k0_pay136, k0_pay135, k0_pay134, k0_pay133, k0_pay132, k0_pay131, one, att, top, msk, score, hid, lid]
theorem bD1_apply : bD1 i q k v c t0 t1 (ix2 r x) = Scalar.select (IntOp.cmpi .eq (hid x) 1#32) (one i q k v c t1 r x 1#32) (bD0 i q k v c t0 (ix2 r x)) := by
  pointwise [bD1, lanesD, k0_pay157, k0_pay156, k0_pay155, k0_pay154, k0_pay153, k0_pay152, k0_pay151, k0_pay139, k0_pay138, k0_pay137, k0_pay136, k0_pay135, k0_pay134, k0_pay133, k0_pay132, k0_pay131, one, att, top, msk, score, hid, lid]
theorem bD2_apply : bD2 i q k v c t0 t1 t2 (ix2 r x) = Scalar.select (IntOp.cmpi .eq (hid x) 2#32) (one i q k v c t2 r x 2#32) (bD1 i q k v c t0 t1 (ix2 r x)) := by
  pointwise [bD2, lanesD, k0_pay165, k0_pay164, k0_pay163, k0_pay162, k0_pay161, k0_pay160, k0_pay159, k0_pay139, k0_pay138, k0_pay137, k0_pay136, k0_pay135, k0_pay134, k0_pay133, k0_pay132, k0_pay131, one, att, top, msk, score, hid, lid]
theorem bD3_apply : bD3 i q k v c t0 t1 t2 t3 (ix2 r x) = Scalar.select (IntOp.cmpi .eq (hid x) 3#32) (one i q k v c t3 r x 3#32) (bD2 i q k v c t0 t1 t2 (ix2 r x)) := by
  pointwise [bD3, lanesD, k0_pay171, k0_pay170, k0_pay169, k0_pay168, k0_pay167, k0_pay139, k0_pay138, k0_pay137, k0_pay136, k0_pay135, k0_pay134, k0_pay133, k0_pay132, k0_pay131, one, att, top, msk, score, hid, lid]
theorem blockD : bD3 i q k v c t0 t1 t2 t3 (ix2 r x) = heads (hid x) fun h => one i q k v c (![t0, t1, t2, t3] h) r x (BitVec.ofNat 32 h.val) := by
  rw [bD3_apply, bD2_apply, bD1_apply, bD0_apply]
  rfl
end D

variable (m : (ℓ : Loc nD τ sig) → Buf (Elt Ideal) ℓ)

/-- Point `t` works on row block `t`; the keys and values are read whole. -/
theorem idx : ∀ t : Fin cfg0.N, win0_0.index t = ![t.val, 5] ∧ win0_1.index t = ![0, 6] ∧ win0_2.index t = ![0, 7] ∧ win0_3.index t = ![t.val, 0] ∧ win0_4.index t = ![0, 0] ∧ win0_5.index t = ![t.val, 0] :=
  (by decide +kernel : ∀ t : Fin grid0.N, _)
abbrev word (t : Fin cfg0.N) : BitVec 32 := BitVec.ofNat 32 (grid0.coords t 0).val
theorem word_eq : ∀ t : Fin cfg0.N, word t = BitVec.ofNat 32 t.val :=
  (by decide +kernel : ∀ t : Fin grid0.N, BitVec.ofNat 32 (grid0.coords t 0).val = BitVec.ofNat 32 t.val)

/-- A block's row of the whole array. -/
abbrev ro (t : Fin cfg0.N) (r : Fin 272) : Fin 2176 := ⟨t.val * 272 + r.val, by have : t.val < 8 := t.isLt; have := r.isLt; omega⟩

/-- The call's operands: queries, keys, values, the running gate of a row's heads and of a head's keys. -/
def fq (c : Dev nD) (r : Fin 2176) (x : Fin 256) : EReal := V m c main_v4 (ix2 r ⟨1280 + x.val, by omega⟩)
def fk (c : Dev nD) (r : Fin 2176) (x : Fin 256) : EReal := V m c main_v4 (ix2 r ⟨1536 + x.val, by omega⟩)
def fv (c : Dev nD) (r : Fin 2176) (x : Fin 256) : EReal := V m c main_v4 (ix2 r ⟨1792 + x.val, by omega⟩)
def fc (c : Dev nD) (r : Fin 2176) (x : Fin 128) : EReal := V m c main_v8 (ix2 r x)
def ft (c : Dev nD) (x : Fin 128) (r : Fin 2176) : EReal := V m c main_v10 (ix2 x r)

/-- A head's score of a row and a key. -/
def sc (c : Dev nD) (h : Fin 4) (r j : Fin 2176) : EReal :=
  (∑ y : Fin 64, fq m c r ⟨h.val * 64 + y.val, by omega⟩ * fk m c j ⟨h.val * 64 + y.val, by omega⟩) * Ideal.ofBits FTy.f32 1040187392#32
    + (fc m c r ⟨h.val, by omega⟩ - ft m c ⟨h.val, by omega⟩ j)
/-- A function of the array's rows at any number. -/
def ext (f : Fin 2176 → EReal) (j : ℕ) : EReal := if h : j < 2176 then f ⟨j, h⟩ else 0
/-- The result: the values' mean over the keys that the row reads. -/
def gout (c : Dev nD) (r : Fin 2176) (x : Fin 256) : EReal :=
  soft (first r.val) (r.val + 1) (ext (sc m c (hd x) r)) (ext fun j => fv m c j x)

theorem mask_bot : (Named.named (F := Ideal) (φ := .f32) κ "mask" 4048155338#32 : EReal) = ⊥ := rfl

section point
variable (c : Dev nD) (t : Fin cfg0.N)

theorem blk0 (r : Fin 272) (x : Fin 256) : iblk m c 0 t (ix2 r x) = fq m c (ro t r) x := by
  unfold fq
  blk_point [iblk, V, idx t]
theorem blk1 (r : Fin 2176) (x : Fin 256) : iblk m c 1 t (ix2 r x) = fk m c r x := by
  unfold fk
  blk_point [iblk, V, idx t]
theorem blk2 (r : Fin 2176) (x : Fin 256) : iblk m c 2 t (ix2 r x) = fv m c r x := by
  unfold fv
  blk_point [iblk, V, idx t]
theorem blk3 (r : Fin 272) (x : Fin 128) : iblk m c 3 t (ix2 r x) = fc m c (ro t r) x := by
  unfold fc
  blk_point [iblk, V, idx t]
theorem blk4 (x : Fin 128) (r : Fin 2176) : iblk m c 4 t (ix2 x r) = ft m c x r := by
  unfold ft
  blk_point [iblk, V, idx t]

/-- The first rows of a block; a row of one. -/
theorem ldk {n : ℕ} (v : FVec Ideal S2176x256 .f32) (h : ∀ a, (![0, 0] : Fin 2 → ℕ) a + (![n, 256] : Fin 2 → ℕ) a ≤ S2176x256.size a) (j : Fin n) (l : j.val < 2176) (x : Fin 256) :
    View.ld (Val := Elt Ideal) (e' := .f32) v (Rect.unit (s := S2176x256) ![0, 0] ![n, 256] h) (ix2 j x) = v (ix2 ⟨j.val, l⟩ x) := by
  refine View.ld_unit_apply_of (Val := Elt Ideal) (e := .f32) v _ _ h _ _ fun a => ?_
  fin_cases a
  · exact (Nat.zero_add _).symm
  · exact (Nat.zero_add _).symm
theorem ldt {n : ℕ} (o : ℕ) (ho : o < 128) (v : FVec Ideal S128x2176 .f32) (h : ∀ a, (![o, 0] : Fin 2 → ℕ) a + (![1, n] : Fin 2 → ℕ) a ≤ S128x2176.size a) (j : Fin n) (l : j.val < 2176) :
    View.ld (Val := Elt Ideal) (e' := .f32) v (Rect.unit (s := S128x2176) ![o, 0] ![1, n] h) (ix2 0 j) = v (ix2 ⟨o, ho⟩ ⟨j.val, l⟩) := by
  refine View.ld_unit_apply_of (Val := Elt Ideal) (e := .f32) v _ _ h _ _ fun a => ?_
  fin_cases a
  · exact (Nat.add_zero _).symm
  · exact (Nat.zero_add _).symm
theorem cts {n : ℕ} (hn : n ≤ 2176) (i0 : ∀ a, (![0, 0] : Fin 2 → ℕ) a + (![1, n] : Fin 2 → ℕ) a ≤ S128x2176.size a) (i1 : ∀ a, (![1, 0] : Fin 2 → ℕ) a + (![1, n] : Fin 2 → ℕ) a ≤ S128x2176.size a)
    (i2 : ∀ a, (![2, 0] : Fin 2 → ℕ) a + (![1, n] : Fin 2 → ℕ) a ≤ S128x2176.size a) (i3 : ∀ a, (![3, 0] : Fin 2 → ℕ) a + (![1, n] : Fin 2 → ℕ) a ≤ S128x2176.size a) (h : Fin 4) (j : Fin n) :
    (![View.ld (Val := Elt Ideal) (e' := .f32) (iblk m c 4 t) (Rect.unit (s := S128x2176) ![0, 0] ![1, n] i0), View.ld (Val := Elt Ideal) (e' := .f32) (iblk m c 4 t) (Rect.unit (s := S128x2176) ![1, 0] ![1, n] i1),
      View.ld (Val := Elt Ideal) (e' := .f32) (iblk m c 4 t) (Rect.unit (s := S128x2176) ![2, 0] ![1, n] i2), View.ld (Val := Elt Ideal) (e' := .f32) (iblk m c 4 t) (Rect.unit (s := S128x2176) ![3, 0] ![1, n] i3)] h : FVec Ideal ⟨2, ![1, n]⟩ .f32) (ix2 0 j)
      = ft m c ⟨h.val, by omega⟩ ⟨j.val, by omega⟩ := by
  refine Eq.trans ?_ (blk4 m c t ⟨h.val, by omega⟩ ⟨j.val, by omega⟩)
  revert h
  refine Fin.forall_fin_succ.2 ⟨?_, Fin.forall_fin_succ.2 ⟨?_, Fin.forall_fin_succ.2 ⟨?_, Fin.forall_fin_succ.2 ⟨?_, fun h => h.elim0⟩⟩⟩⟩
  · exact ldt 0 (by omega) (iblk m c 4 t) i0 j (by omega)
  · exact ldt 1 (by omega) (iblk m c 4 t) i1 j (by omega)
  · exact ldt 2 (by omega) (iblk m c 4 t) i2 j (by omega)
  · exact ldt 3 (by omega) (iblk m c 4 t) i3 j (by omega)

variable (hp : ∀ h r j, IsReal (sc m c h r j))
include hp

/-- One head of a point's row, against `n` keys that reach as far as the row. -/
theorem one_eq {n : ℕ} (hn : n ≤ 2176) {k v : FVec Ideal ⟨2, ![n, 256]⟩ .f32} {ct : Fin 4 → FVec Ideal ⟨2, ![1, n]⟩ .f32} (r : Fin 272) (x : Fin 256) (hr : (ro t r).val + 1 ≤ n)
    (hk : ∀ (j : Fin n) x, k (ix2 j x) = fk m c ⟨j.val, by omega⟩ x) (hv : ∀ (j : Fin n) x, v (ix2 j x) = fv m c ⟨j.val, by omega⟩ x)
    (ht : ∀ h (j : Fin n), ct h (ix2 0 j) = ft m c ⟨h.val, by omega⟩ ⟨j.val, by omega⟩) :
    one (word t) (iblk m c 0 t) k v (iblk m c 3 t) (ct (hd x)) r x (BitVec.ofNat 32 (hd x).val) = gout m c (ro t r) x := by
  unfold one gout
  have h8 : t.val < 8 := t.isLt
  have hx : x.val / 64 < 4 := by omega
  refine att_eq _ _ (by simp only [first, ro]; split_ifs <;> omega) hr _ _ _ _ (fun j _ hj => ?_) (fun j => ?_) fun j => ?_
  · have : j < 2176 := by have := (ro t r).isLt; omega
    rw [ext, dif_pos this]
    exact hp _ _ _
  · have hj := j.isLt
    rw [word_eq, msk_eq _ _ _ h8 r.isLt (by omega), mask_bot]
    refine if_congr Iff.rfl ?_ rfl
    rw [ext, dif_pos (by omega), sc, score, sum_head, sum_lane, ht]
    simp only [blk0, blk3, hk]
  · have hj := j.isLt
    rw [ext, dif_pos (by omega)]
    exact hv j x

omit hp in
theorem outA (h : t.val < 2) (y : S272x256.Idx) : (outsAt0 m c t.val t.isLt).1 y = bA3 (word t) (iblk m c 0 t) (View.ld (iblk m c 1 t) (Rect.unit ![0, 0] ![640, 256] inb_S2176x256_S640x256_0_0)) (View.ld (iblk m c 2 t) (Rect.unit ![0, 0] ![640, 256] inb_S2176x256_S640x256_0_0)) (iblk m c 3 t)
    (View.ld (iblk m c 4 t) (Rect.unit ![0, 0] ![1, 640] inb_S128x2176_S1x640_0_0)) (View.ld (iblk m c 4 t) (Rect.unit ![1, 0] ![1, 640] inb_S128x2176_S1x640_1_0))
    (View.ld (iblk m c 4 t) (Rect.unit ![2, 0] ![1, 640] inb_S128x2176_S1x640_2_0)) (View.ld (iblk m c 4 t) (Rect.unit ![3, 0] ![1, 640] inb_S128x2176_S1x640_3_0)) y := by
  rw [outsAt0_A m c t h (by omega) (by omega) (by omega)]
  frame_out
  rfl
theorem pointA (r : Fin 272) (x : Fin 256) (h : t.val < 2) : (outsAt0 m c t.val t.isLt).1 (ix2 r x) = gout m c (ro t r) x := by
  rw [outA m c t h, blockA, heads_hid]
  exact one_eq m c t hp (n := 640) (by omega) r x (by simp only [ro]; omega) (fun j x => (ldk _ inb_S2176x256_S640x256_0_0 j (by omega) x).trans (blk1 m c t _ x)) (fun j x => (ldk _ inb_S2176x256_S640x256_0_0 j (by omega) x).trans (blk2 m c t _ x))
    (cts m c t (by omega) inb_S128x2176_S1x640_0_0 inb_S128x2176_S1x640_1_0 inb_S128x2176_S1x640_2_0 inb_S128x2176_S1x640_3_0)

omit hp in
theorem outB (h : 2 ≤ t.val ∧ t.val ≤ 3) (y : S272x256.Idx) : (outsAt0 m c t.val t.isLt).1 y = bB3 (word t) (iblk m c 0 t) (View.ld (iblk m c 1 t) (Rect.unit ![0, 0] ![1152, 256] inb_S2176x256_S1152x256_0_0)) (View.ld (iblk m c 2 t) (Rect.unit ![0, 0] ![1152, 256] inb_S2176x256_S1152x256_0_0)) (iblk m c 3 t)
    (View.ld (iblk m c 4 t) (Rect.unit ![0, 0] ![1, 1152] inb_S128x2176_S1x1152_0_0)) (View.ld (iblk m c 4 t) (Rect.unit ![1, 0] ![1, 1152] inb_S128x2176_S1x1152_1_0))
    (View.ld (iblk m c 4 t) (Rect.unit ![2, 0] ![1, 1152] inb_S128x2176_S1x1152_2_0)) (View.ld (iblk m c 4 t) (Rect.unit ![3, 0] ![1, 1152] inb_S128x2176_S1x1152_3_0)) y := by
  rw [outsAt0_B m c t (by omega) (by omega) (by omega) (by omega)]
  frame_out
  rfl
theorem pointB (r : Fin 272) (x : Fin 256) (h : 2 ≤ t.val ∧ t.val ≤ 3) : (outsAt0 m c t.val t.isLt).1 (ix2 r x) = gout m c (ro t r) x := by
  rw [outB m c t h, blockB, heads_hid]
  exact one_eq m c t hp (n := 1152) (by omega) r x (by simp only [ro]; omega) (fun j x => (ldk _ inb_S2176x256_S1152x256_0_0 j (by omega) x).trans (blk1 m c t _ x)) (fun j x => (ldk _ inb_S2176x256_S1152x256_0_0 j (by omega) x).trans (blk2 m c t _ x))
    (cts m c t (by omega) inb_S128x2176_S1x1152_0_0 inb_S128x2176_S1x1152_1_0 inb_S128x2176_S1x1152_2_0 inb_S128x2176_S1x1152_3_0)

omit hp in
theorem outC (h : 4 ≤ t.val ∧ t.val ≤ 5) (y : S272x256.Idx) : (outsAt0 m c t.val t.isLt).1 y = bC3 (word t) (iblk m c 0 t) (View.ld (iblk m c 1 t) (Rect.unit ![0, 0] ![1664, 256] inb_S2176x256_S1664x256_0_0)) (View.ld (iblk m c 2 t) (Rect.unit ![0, 0] ![1664, 256] inb_S2176x256_S1664x256_0_0)) (iblk m c 3 t)
    (View.ld (iblk m c 4 t) (Rect.unit ![0, 0] ![1, 1664] inb_S128x2176_S1x1664_0_0)) (View.ld (iblk m c 4 t) (Rect.unit ![1, 0] ![1, 1664] inb_S128x2176_S1x1664_1_0))
    (View.ld (iblk m c 4 t) (Rect.unit ![2, 0] ![1, 1664] inb_S128x2176_S1x1664_2_0)) (View.ld (iblk m c 4 t) (Rect.unit ![3, 0] ![1, 1664] inb_S128x2176_S1x1664_3_0)) y := by
  rw [outsAt0_C m c t (by omega) (by omega) (by omega) (by omega)]
  frame_out
  rfl
theorem pointC (r : Fin 272) (x : Fin 256) (h : 4 ≤ t.val ∧ t.val ≤ 5) : (outsAt0 m c t.val t.isLt).1 (ix2 r x) = gout m c (ro t r) x := by
  rw [outC m c t h, blockC, heads_hid]
  exact one_eq m c t hp (n := 1664) (by omega) r x (by simp only [ro]; omega) (fun j x => (ldk _ inb_S2176x256_S1664x256_0_0 j (by omega) x).trans (blk1 m c t _ x)) (fun j x => (ldk _ inb_S2176x256_S1664x256_0_0 j (by omega) x).trans (blk2 m c t _ x))
    (cts m c t (by omega) inb_S128x2176_S1x1664_0_0 inb_S128x2176_S1x1664_1_0 inb_S128x2176_S1x1664_2_0 inb_S128x2176_S1x1664_3_0)

omit hp in
theorem outD (h : 6 ≤ t.val) (y : S272x256.Idx) : (outsAt0 m c t.val t.isLt).1 y = bD3 (word t) (iblk m c 0 t) (iblk m c 1 t) (iblk m c 2 t) (iblk m c 3 t)
    (View.ld (iblk m c 4 t) (Rect.unit ![0, 0] ![1, 2176] inb_S128x2176_S1x2176_0_0)) (View.ld (iblk m c 4 t) (Rect.unit ![1, 0] ![1, 2176] inb_S128x2176_S1x2176_1_0))
    (View.ld (iblk m c 4 t) (Rect.unit ![2, 0] ![1, 2176] inb_S128x2176_S1x2176_2_0)) (View.ld (iblk m c 4 t) (Rect.unit ![3, 0] ![1, 2176] inb_S128x2176_S1x2176_3_0)) y := by
  have h8 : t.val < 8 := t.isLt
  rw [outsAt0_D m c t (by omega) (by omega) (by omega) h]
  frame_out
  rfl
theorem pointD (r : Fin 272) (x : Fin 256) (h : 6 ≤ t.val) : (outsAt0 m c t.val t.isLt).1 (ix2 r x) = gout m c (ro t r) x := by
  have h8 : t.val < 8 := t.isLt
  rw [outD m c t h, blockD, heads_hid]
  exact one_eq m c t hp (n := 2176) (by omega) r x (by simp only [ro]; omega) (fun j x => blk1 m c t j x) (fun j x => blk2 m c t j x)
    (cts m c t (by omega) inb_S128x2176_S1x2176_0_0 inb_S128x2176_S1x2176_1_0 inb_S128x2176_S1x2176_2_0 inb_S128x2176_S1x2176_3_0)

theorem point (r : Fin 272) (x : Fin 256) : (outsAt0 m c t.val t.isLt).1 (ix2 r x) = gout m c (ro t r) x := by
  have h8 : t.val < 8 := t.isLt
  rcases (by omega : t.val < 2 ∨ (2 ≤ t.val ∧ t.val ≤ 3) ∨ (4 ≤ t.val ∧ t.val ≤ 5) ∨ 6 ≤ t.val) with h | h | h | h
  · exact pointA m c t hp r x h
  · exact pointB m c t hp r x h
  · exact pointC m c t hp r x h
  · exact pointD m c t hp r x h
end point

/-- The result array. -/
theorem arr5 (c : Dev nD) (hp : ∀ h r j, IsReal (sc m c h r j)) : (dats m 0 c).arrAt 5 (cfgs 0).N = fun i => gout m c (i 0) (i 1) := by
  refine (dats m 0 c).arrAt_eq_of_covers 5 _ (by decide +kernel) fun t _ y => ?_
  blk_simp
  rw [after0_5]
  refine Eq.trans ((congrArg _ (eq_ix2 y)).trans (point m c t hp (y 0) (y 1))) (congrArg₂ (fun a b => gout m c a b) (Fin.ext ?_) (Fin.ext ?_))
  · blk_simp [idx t] <;> try omega
  · blk_simp [idx t] <;> try omega

end Cert.FoxfKernelIdeal.Value
-- ==== Proof.FoxfFinal.lean ====
/- Attention with forget gates, forward: the kernel's result array is the reference's. -/
module

public import proofs.«01_k».proof.Defs
public import proofs.«01_k».proof.Proof.FoxfValue
public import proofs.«01_k».proof.Proof.Gen.FoxfReferenceIdeal.Read
public import Idealize.ShloMosaic.Lib.Pipeline.ValueKit
public import proofs.«01_k».proof.Proof.Gen.Pre_finite_foxf

@[expose] public section

set_option maxRecDepth 16384

noncomputable section

open Idealize.ShloMosaic Idealize.ShloMosaic.TcCoe Idealize.SL.Sem
open Idealize.ShloMosaic.Pipeline (Dat)

namespace Cert.FoxfKernelIdeal.Value

open Cert.Soft Cert.FoxfKernelIdeal Cert.FoxfKernelIdeal.Gen Cert.FoxfReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the queries, keys and values below 112 rows of zeros, -/
theorem fq_eq (c : Dev nD) (r : Fin 2176) (x : Fin 256) : fq m c r x
    = if h : 112 ≤ r.val then m ((c : Thread nD τ).loc main_arg0) (ix3 0 ⟨r.val - 112, by omega⟩ x) else (0 : EReal) := by
  unfold fq V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  dsimp only [Matrix.cons_val_zero, Matrix.cons_val_one, Matrix.cons_val]
  simp only [↓ StableHlo.readResult, ↓ StableHlo.readPieces, -eq_self]
  pointwise []
  have hr := r.isLt
  have hx := x.isLt
  simp only [sitofp_zero]
  split_ifs <;> first | (exfalso; omega) | rfl | rw [dif_pos (by omega)]
theorem fk_eq (c : Dev nD) (r : Fin 2176) (x : Fin 256) : fk m c r x
    = if h : 112 ≤ r.val then m ((c : Thread nD τ).loc main_arg1) (ix3 0 ⟨r.val - 112, by omega⟩ x) else (0 : EReal) := by
  unfold fk V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  dsimp only [Matrix.cons_val_zero, Matrix.cons_val_one, Matrix.cons_val]
  simp only [↓ StableHlo.readResult, ↓ StableHlo.readPieces, -eq_self]
  pointwise []
  have hr := r.isLt
  have hx := x.isLt
  simp only [sitofp_zero]
  split_ifs <;> first | (exfalso; omega) | rfl | (rw [dif_pos (by omega)]; exact congrArg (fun z => m ((c : Thread nD τ).loc main_arg1) (ix3 0 ⟨r.val - 112, by omega⟩ z)) (Fin.ext (by show _ = x.val; first | rfl | (dsimp only; omega))))
theorem fv_eq (c : Dev nD) (r : Fin 2176) (x : Fin 256) : fv m c r x
    = if h : 112 ≤ r.val then m ((c : Thread nD τ).loc main_arg2) (ix3 0 ⟨r.val - 112, by omega⟩ x) else (0 : EReal) := by
  unfold fv V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  dsimp only [Matrix.cons_val_zero, Matrix.cons_val_one, Matrix.cons_val]
  simp only [↓ StableHlo.readResult, ↓ StableHlo.readPieces, -eq_self]
  pointwise []
  have hr := r.isLt
  have hx := x.isLt
  simp only [sitofp_zero]
  split_ifs <;> first | (exfalso; omega) | rfl | (rw [dif_pos (by omega)]; exact congrArg (fun z => m ((c : Thread nD τ).loc main_arg2) (ix3 0 ⟨r.val - 112, by omega⟩ z)) (Fin.ext (by show _ = x.val; first | rfl | (dsimp only; omega))))
/-- and the running gates of a row's heads, and of a head's keys. -/
theorem fc_eq (c : Dev nD) (r : Fin 2176) (x : Fin 4) : fc m c r ⟨x.val, by omega⟩
    = if h : 112 ≤ r.val then m ((c : Thread nD τ).loc main_arg3) (ix3 0 x ⟨r.val - 112, by omega⟩) else (0 : EReal) := by
  unfold fc V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hx := x.isLt
  simp only [sitofp_zero]
  split_ifs <;> first | (exfalso; omega) | rfl
theorem ft_eq (c : Dev nD) (x : Fin 4) (r : Fin 2176) : ft m c ⟨x.val, by omega⟩ r
    = if h : 112 ≤ r.val then m ((c : Thread nD τ).loc main_arg3) (ix3 0 x ⟨r.val - 112, by omega⟩) else (0 : EReal) := by
  unfold ft V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hx := x.isLt
  simp only [sitofp_zero]
  split_ifs <;> first | (exfalso; omega) | rfl

/-- The precondition: queries, keys and running gates are reals. -/
theorem finite0 (h : Pre_FoxfKernelIdeal_finite_foxf m) (c : Dev nD) (i : S1x2064x256.Idx) : IsReal (m ((c : Thread nD τ).loc main_arg0) i) := by
  have e := congrFun (h c).1 i
  pointwise [Cert.Pre_finite_foxf.fn] at e
  exact Reals.real_of_abs _ e
theorem finite1 (h : Pre_FoxfKernelIdeal_finite_foxf m) (c : Dev nD) (i : S1x2064x256.Idx) : IsReal (m ((c : Thread nD τ).loc main_arg1) i) := by
  have e := congrFun (h c).2.1 i
  pointwise [Cert.Pre_finite_foxf.fn] at e
  exact Reals.real_of_abs _ e
theorem finite3 (h : Pre_FoxfKernelIdeal_finite_foxf m) (c : Dev nD) (i : S1x4x2064.Idx) : IsReal (m ((c : Thread nD τ).loc main_arg3) i) := by
  have e := congrFun (h c).2.2 i
  pointwise [Cert.Pre_finite_foxf.fn] at e
  exact Reals.real_of_abs _ e

theorem lit_eighth : IsReal (Ideal.ofBits FTy.f32 1040187392#32) :=
  ⟨1 / 8, by simp [Ideal.ofBits, Ideal.ieee]; rw [← EReal.coe_mul]; norm_num⟩

/-- All scores are reals. -/
theorem sc_real (hp : Pre_FoxfKernelIdeal_finite_foxf m) (c : Dev nD) (h : Fin 4) (r j : Fin 2176) : IsReal (sc m c h r j) := by
  unfold sc
  refine ((IsReal.sum fun y => ?_).mul lit_eighth).add (IsReal.sub ?_ ?_)
  · refine IsReal.mul ?_ ?_
    · rw [fq_eq]; split_ifs; exacts [finite0 m hp c _, IsReal.zero]
    · rw [fk_eq]; split_ifs; exacts [finite1 m hp c _, IsReal.zero]
  · rw [fc_eq]; split_ifs; exacts [finite3 m hp c _, IsReal.zero]
  · rw [ft_eq]; split_ifs; exacts [finite3 m hp c _, IsReal.zero]

section reference
variable (q k v : FVec Ideal S1x2064x256 .f32) (g : FVec Ideal S1x4x2064 .f32)

/-- The reference's score. -/
def rsc (h : Fin 4) (r j : Fin 2064) : EReal :=
  (∑ y : Fin 64, q (ix3 0 r ⟨h.val * 64 + y.val, by omega⟩) * k (ix3 0 j ⟨h.val * 64 + y.val, by omega⟩)) * Ideal.ofBits FTy.f32 1040187392#32
    + (g (ix3 0 h r) - g (ix3 0 h j))

theorem v11_read (h : Fin 4) (r j : Fin 2064) : val_main_v11 (F := Ideal) q k g (ix4 0 h r j) = rsc q k g h r j := by
  pointwise [val_main_v0, val_main_v1, val_main_v3, val_main_cst, val_main_v4, val_main_v5, val_main_v6, val_main_v7, val_main_v8, val_main_v9, val_main_v10, val_main_v11, rsc]
theorem v19_read (h : Fin 4) (r j : Fin 2064) : val_main_v19 (F := Ideal) q k g (ix4 0 h r j) = if j.val ≤ r.val then rsc q k g h r j else ⊥ := by
  rw [← v11_read]
  pointwise [val_main_v12, val_main_v13, val_main_v14, val_main_v15, val_main_v16, val_main_v17, val_main_v18, val_main_cst_0, val_main_call0_v0, val_main_call0_v1, val_main_call0_v2, val_main_v19]
  rw [WordCmp.cmpi_sle_ofNat (w := 32) (by omega) (by omega)]
  by_cases hj : j.val ≤ r.val
  · rw [if_pos hj, decide_eq_true hj]; rfl
  · rw [if_neg hj, decide_eq_false hj]; exact lit_bot
theorem v20_read (h : Fin 4) (r : Fin 2064) : val_main_v20 (F := Ideal) q k g (ix3 0 h r) = top fun j => val_main_v19 (F := Ideal) q k g (ix4 0 h r j) := by
  unfold val_main_v20
  generalize val_main_v19 (F := Ideal) q k g = y
  generalize hz : val_main_cst_1 (F := Ideal) = z
  simp only [pointwise]
  rw [← hz]
  rfl
theorem max_bot (t : EReal) : FloatOps.maximumf (F := Ideal) (φ := .f32) (FloatOps.ofBits .f32 0xFF800000#32) t = t := by
  rw [show FloatOps.ofBits (F := Ideal) .f32 0xFF800000#32 = (⊥ : EReal) from lit_bot]
  exact max_eq_right bot_le
theorem v22_read (h : Fin 4) (r : Fin 2064) : val_main_v22 (F := Ideal) q k g (ix3 0 h r) = top fun j => val_main_v19 (F := Ideal) q k g (ix4 0 h r j) := by
  rw [val_main_v22_apply, v20_read, val_main_v21_apply, val_main_cst_2_apply]
  exact max_bot _
theorem v35_read (r : Fin 2176) (x : Fin 256) : val_main_v35 (F := Ideal) q k v g (ix2 r x)
    = if hr : 112 ≤ r.val then attR (fun j => val_main_v19 (F := Ideal) q k g (ix4 0 (hd x) ⟨r.val - 112, by omega⟩ j)) (fun j => v (ix3 0 j x)) else (0 : EReal) := by
  pointwise [val_main_v2, val_main_v23, val_main_v24, val_main_v25, val_main_v26, val_main_cst_3, val_main_v27, val_main_v28, val_main_v29, val_main_v30, val_main_v31, val_main_v32, val_main_v33, val_main_v34, val_main_c, val_main_call1_v0, val_main_v35, attR]
  have hr := r.isLt
  simp only [v22_read, sitofp_zero]
  split_ifs <;> first | (exfalso; omega) | rfl
end reference

/-- A row of the result: the kernel's is the reference's, its 112 first rows zeros. -/
theorem gout_eq (hp : Pre_FoxfKernelIdeal_finite_foxf m) (c : Dev nD) (k : Fin 2176) (x : Fin 256) : gout m c k x
    = val_main_v35 (F := Ideal) (m ((c : Thread nD τ).loc main_arg0)) (m ((c : Thread nD τ).loc main_arg1)) (m ((c : Thread nD τ).loc main_arg2)) (m ((c : Thread nD τ).loc main_arg3)) (ix2 k x) := by
  have hk' := k.isLt
  rw [v35_read]
  unfold gout
  by_cases hk : 112 ≤ k.val
  · rw [dif_pos hk, first, if_neg (by omega)]
    refine Eq.trans ?_ (attR_eq 0 (k.val - 112 + 1) (by omega) (by omega : _ ≤ 2064) _ _
      (fun j => if h : j < 2064 then rsc (m ((c : Thread nD τ).loc main_arg0)) (m ((c : Thread nD τ).loc main_arg1)) (m ((c : Thread nD τ).loc main_arg3)) (hd x) ⟨k.val - 112, by omega⟩ ⟨j, h⟩ else 0)
      (fun j => if h : j < 2064 then (m ((c : Thread nD τ).loc main_arg2) (ix3 0 ⟨j, h⟩ x) : EReal) else 0) (fun j _ hj => ?_) (fun j => ?_) fun j => ?_).symm
    · have e : k.val + 1 = k.val - 112 + 1 + 112 := by omega
      refine Eq.trans ?_ (Eq.trans (soft_shift 0 (k.val - 112 + 1) 112 (ext (sc m c (hd x) k)) (ext fun j => fv m c j x)) ?_)
      · rw [Nat.zero_add, ← e]
      refine soft_congr _ _ _ _ _ _ fun j _ hj => ⟨?_, ?_⟩
      · rw [ext, dif_pos (by omega), dif_pos (by omega), sc, rsc]
        refine congrArg₂ (fun a b => a * Ideal.ofBits FTy.f32 1040187392#32 + b) (Finset.sum_congr rfl fun y _ => congrArg₂ (· * ·) ?_ ?_) (congrArg₂ (· - ·) ?_ ?_)
        · rw [fq_eq, dif_pos hk]
        · rw [fk_eq, dif_pos (Nat.le_add_left 112 j)]; simp only [Nat.add_sub_cancel]
        · rw [fc_eq, dif_pos hk]
        · rw [ft_eq, dif_pos (Nat.le_add_left 112 j)]; simp only [Nat.add_sub_cancel]
      · rw [ext, dif_pos (by omega), dif_pos (by omega), fv_eq, dif_pos (Nat.le_add_left 112 j)]
        simp only [Nat.add_sub_cancel]
    · rw [dif_pos (by omega)]
      unfold rsc
      exact ((IsReal.sum fun y => (finite0 m hp c _).mul (finite1 m hp c _)).mul lit_eighth).add ((finite3 m hp c _).sub (finite3 m hp c _))
    · have hj := j.isLt
      rw [v19_read, dif_pos hj]
      exact if_congr (by show j.val ≤ k.val - 112 ↔ _; omega) rfl rfl
    · rw [dif_pos j.isLt]
  · rw [dif_neg hk]
    refine soft_zero _ _ _ _ fun j _ hj => ?_
    rw [ext, dif_pos (by omega), fv_eq, dif_neg (by show ¬112 ≤ j; omega)]

theorem final5 (hp : Pre_FoxfKernelIdeal_finite_foxf m) (c : Dev nD) : (dats m 0 c).arrAt 5 (cfgs 0).N = val_main_v35 (F := Ideal) (m ((c : Thread nD τ).loc main_arg0)) (m ((c : Thread nD τ).loc main_arg1)) (m ((c : Thread nD τ).loc main_arg2)) (m ((c : Thread nD τ).loc main_arg3)) := by
  rw [arr5 m c fun h r j => sc_real m hp c h r j]
  funext i
  obtain ⟨k, x, rfl⟩ : ∃ k x, i = ix2 k x := ⟨i 0, i 1, eq_ix2 i⟩
  exact gout_eq m hp c k x

end Cert.FoxfKernelIdeal.Value
-- ==== Proof.FoxfClaim.lean ====
/- Attention with forget gates, forward: from finite queries, keys and running gates, the kernel's result is the reference's. -/
module

public import proofs.«01_k».proof.Defs
public import proofs.«01_k».proof.Proof.FoxfFinal
public import proofs.«01_k».proof.Proof.Gen.FoxfReferenceIdeal.Read

@[expose] public section

set_option maxRecDepth 16384

noncomputable section

open Idealize.ShloMosaic Idealize.ShloMosaic.TcCoe Idealize.SL.Sem
open Idealize.ShloMosaic.Pipeline (Dat)

namespace Cert.FoxfReferenceIdeal.Read

open Cert.FoxfReferenceIdeal Cert.FoxfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = val_main_v35 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v35_eq m c), (h c).2⟩) (Value.run m ρ)

end Cert.FoxfReferenceIdeal.Read

namespace Cert.FoxfKernelIdeal.Value

/-- Attention with forget gates, forward: from finite queries, keys and running gates, the kernel's result is the reference's. -/
theorem algebraic : Cert.algebraic_FoxfKernelIdeal_FoxfReferenceIdeal_pre_finite_foxf := by
  pair_intro
  · run_from Cert.FoxfKernelIdeal.Gen.run_main m g & Cert.FoxfKernelIdeal.Gen.unchanged m g
  · run_from Cert.FoxfReferenceIdeal.Read.run m' g'
    · exact (final5 m hpre c).symm

end Cert.FoxfKernelIdeal.Value
-- ==== Proof.AttfValue.lean ====
/- Latent attention, forward: what the kernel's output array holds, as a function of its operands. -/
module

public import proofs.«01_k».proof.Proof.Gen.AttfKernelIdeal.Frame
public import Idealize.ShloMosaic.Lib.Pipeline.ValueKit
public import Idealize.ShloMosaic.Lib.Pointwise
public import proofs.«01_k».proof.Proof.Softmax

@[expose] public section

set_option maxRecDepth 16384

noncomputable section

open Idealize.ShloMosaic Idealize.ShloMosaic.TcCoe Idealize.SL.Sem
open Idealize.ShloMosaic.Pipeline (Dat)

namespace Cert.AttfKernelIdeal.Value

open Cert.AttfKernelIdeal Cert.AttfKernelIdeal.Gen Cert.Soft

/-- The head that a lane of the rotated part belongs to, as the kernel's words compute it: the lane's number within its half, over 16. -/
def rwid : BitVec 32 := Scalar.select (Scalar.cmpi .eq 64#32 0#32) 1#32 64#32
def rrem (x : Fin 128) : BitVec 32 := IntOp.remsi ArithUnit.vector (BitVec.ofNat 32 x.val) rwid
def rmod (x : Fin 128) : BitVec 32 :=
  Scalar.select (IntOp.andi (IntOp.xori (IntOp.cmpi .slt (rrem x) 0#32) (Scalar.cmpi .slt rwid 0#32)) (IntOp.cmpi .ne (rrem x) 0#32)) (IntOp.addi (rrem x) rwid) (rrem x)
def rid (x : Fin 128) : BitVec 32 :=
  Scalar.select
    (IntOp.andi
      (IntOp.cmpi CmpIPredicate.ne
        (IntOp.subi (BitVec.setWidth 32 (IntOp.cmpi CmpIPredicate.sgt (rmod x) 0#32))
          (BitVec.setWidth 32 (IntOp.cmpi CmpIPredicate.slt (rmod x) 0#32)))
        (Scalar.subi (Scalar.extui (Scalar.cmpi CmpIPredicate.sgt 16#32 0#32))
          (Scalar.extui (Scalar.cmpi CmpIPredicate.slt 16#32 0#32))))
      (IntOp.cmpi CmpIPredicate.ne (IntOp.remsi ArithUnit.vector (rmod x) 16#32) 0#32))
    (IntOp.subi (IntOp.divsi ArithUnit.vector (rmod x) 16#32) 1#32)
    (IntOp.divsi ArithUnit.vector (rmod x) 16#32)
theorem rid_eq : ∀ (x : Fin 128) (h : Fin 4), IntOp.cmpi .eq (rid x) (BitVec.ofNat 32 h.val) = if x.val % 64 / 16 = h.val then 1#1 else 0#1 := by
  decide +kernel

/-- The lane of a head's rotated column: the heads' first halves, then their second halves. -/
abbrev lane (h : Fin 4) (y : Fin 32) : Fin 128 := ⟨y.val / 16 * 64 + h.val * 16 + y.val % 16, by omega⟩
theorem sum_rope (h : Fin 4) (f : Fin 128 → EReal) :
    ∑ x, Scalar.select (IntOp.cmpi .eq (rid x) (BitVec.ofNat 32 h.val)) (f x) 0 = ∑ y, f (lane h y) := by
  have hh := h.isLt
  have e : ∀ x : Fin 128, Scalar.select (IntOp.cmpi .eq (rid x) (BitVec.ofNat 32 h.val)) (f x) 0 = if x.val % 64 / 16 = h.val then f x else 0 := fun x => by
    rw [rid_eq]
    split_ifs <;> rfl
  simp only [e]
  rw [← Finset.sum_filter]
  refine Finset.sum_nbij' (fun x => (⟨x.val / 64 * 16 + x.val % 16, by omega⟩ : Fin 32)) (lane h) (fun x _ => Finset.mem_univ _) (fun y _ => ?_) (fun x hx => ?_) (fun y _ => ?_) fun x hx => ?_
  · refine Finset.mem_filter.2 ⟨Finset.mem_univ _, ?_⟩
    simp only
    omega
  · have := (Finset.mem_filter.1 hx).2
    refine Fin.ext ?_
    simp only
    omega
  · refine Fin.ext ?_
    simp only
    omega
  · have := (Finset.mem_filter.1 hx).2
    refine congrArg f (Fin.ext ?_)
    simp only
    omega

/-- One head's score; one head of a block's row, its keys masked. -/
def score (w : BitVec 32) (q k : Fin 256 → EReal) (a b : Fin 128 → EReal) : EReal :=
  ((∑ x, Scalar.select (IntOp.cmpi .eq (hid x) w) (q x * k x) 0) + ∑ x, Scalar.select (IntOp.cmpi .eq (rid x) w) (a x * b x) 0) * Ideal.ofBits FTy.f32 0x3DD105EC#32
def one {n : ℕ} (i : BitVec 32) (q : FVec Ideal S272x256 .f32) (k v : FVec Ideal ⟨2, ![n, 256]⟩ .f32) (a : FVec Ideal S272x128 .f32) (b : FVec Ideal ⟨2, ![n, 128]⟩ .f32) (r : Fin 272) (x : Fin 256) (w : BitVec 32) : EReal :=
  att (fun j : Fin n => msk i r.val j.val (score w (fun x => q (ix2 r x)) (fun x => k (ix2 j x)) (fun x => a (ix2 r x)) (fun x => b (ix2 j x))) (Named.named (F := Ideal) (φ := .f32) κ "mask" 4048155338#32))
    (fun j => v (ix2 j x))

section A
variable (i : BitVec 32) (q : FVec Ideal S272x256 .f32) (k v : FVec Ideal S640x256 .f32) (a : FVec Ideal S272x128 .f32) (b : FVec Ideal S640x128 .f32) (r : Fin 272) (x : Fin 256)

/-- The block after each head, against the first 640 keys. -/
abbrev lanesA : IVec S1x256 32 := k0_pay13 k0_pay10 k0_pay11 k0_pay12
abbrev ropeA : IVec S1x128 32 := k0_pay17 k0_pay15 16#32 k0_pay16
abbrev bA0 := k0_pay29 (F := Ideal) (k0_pay6 i) (k0_pay9 v) lanesA (k0_pay18 a) (k0_pay19 b) k0_pay20 0#32 (k0_pay22 (k0_pay7 q) (k0_pay8 k) lanesA) (k0_pay23 k0_pay15 16#32 k0_pay16) k0_pay24
abbrev bA1 := k0_pay36 (F := Ideal) (k0_pay6 i) (k0_pay9 v) lanesA (bA0 i q k v a b) 1#32 (k0_pay31 (k0_pay7 q) (k0_pay8 k) lanesA ropeA (k0_pay18 a) (k0_pay19 b))
abbrev bA2 := k0_pay43 (F := Ideal) (k0_pay6 i) (k0_pay9 v) lanesA (bA1 i q k v a b) 2#32 (k0_pay38 (k0_pay7 q) (k0_pay8 k) lanesA ropeA (k0_pay18 a) (k0_pay19 b)) (Named.named κ "mask" 0xF149F2CA#32)
abbrev bA3 := k0_pay173 (F := Ideal) (k0_pay9 v) lanesA (bA2 i q k v a b) 3#32 (k0_pay45 (k0_pay6 i) (k0_pay7 q) (k0_pay8 k) lanesA ropeA (k0_pay18 a) (k0_pay19 b)) (k0_pay46 (k0_pay6 i) (k0_pay7 q) (k0_pay8 k) lanesA ropeA (k0_pay18 a) (k0_pay19 b))

theorem bA0_apply : bA0 i q k v a b (ix2 r x) = Scalar.select (IntOp.cmpi .eq (hid x) 0#32) (one i q k v a b r x 0#32) 0 := by
  pointwise [bA0, lanesA, ropeA, k0_pay29, k0_pay28, k0_pay27, k0_pay26, k0_pay25, k0_pay24, k0_pay23, k0_pay22, k0_pay20, k0_pay9, k0_pay8, k0_pay7, k0_pay6, k0_pay19, k0_pay18, k0_pay13, k0_pay12, k0_pay11, k0_pay10, k0_pay17, k0_pay16, k0_pay15, one, att, top, msk, score, hid, rid, rmod, rrem, rwid]
theorem bA1_apply : bA1 i q k v a b (ix2 r x) = Scalar.select (IntOp.cmpi .eq (hid x) 1#32) (one i q k v a b r x 1#32) (bA0 i q k v a b (ix2 r x)) := by
  pointwise [bA1, lanesA, ropeA, k0_pay36, k0_pay35, k0_pay34, k0_pay33, k0_pay32, k0_pay31, k0_pay9, k0_pay8, k0_pay7, k0_pay6, k0_pay19, k0_pay18, k0_pay13, k0_pay12, k0_pay11, k0_pay10, k0_pay17, k0_pay16, k0_pay15, one, att, top, msk, score, hid, rid, rmod, rrem, rwid]
theorem bA2_apply : bA2 i q k v a b (ix2 r x) = Scalar.select (IntOp.cmpi .eq (hid x) 2#32) (one i q k v a b r x 2#32) (bA1 i q k v a b (ix2 r x)) := by
  pointwise [bA2, lanesA, ropeA, k0_pay43, k0_pay42, k0_pay41, k0_pay40, k0_pay39, k0_pay38, k0_pay9, k0_pay8, k0_pay7, k0_pay6, k0_pay19, k0_pay18, k0_pay13, k0_pay12, k0_pay11, k0_pay10, k0_pay17, k0_pay16, k0_pay15, one, att, top, msk, score, hid, rid, rmod, rrem, rwid]
theorem bA3_apply : bA3 i q k v a b (ix2 r x) = Scalar.select (IntOp.cmpi .eq (hid x) 3#32) (one i q k v a b r x 3#32) (bA2 i q k v a b (ix2 r x)) := by
  pointwise [bA3, lanesA, ropeA, k0_pay173, k0_pay172, k0_pay171, k0_pay170, k0_pay46, k0_pay45, k0_pay9, k0_pay8, k0_pay7, k0_pay6, k0_pay19, k0_pay18, k0_pay13, k0_pay12, k0_pay11, k0_pay10, k0_pay17, k0_pay16, k0_pay15, one, att, top, msk, score, hid, rid, rmod, rrem, rwid]
theorem blockA : bA3 i q k v a b (ix2 r x) = heads (hid x) fun h => one i q k v a b r x (BitVec.ofNat 32 h.val) := by
  rw [bA3_apply, bA2_apply, bA1_apply, bA0_apply]
  rfl
end A

section B
variable (i : BitVec 32) (q : FVec Ideal S272x256 .f32) (k v : FVec Ideal S1152x256 .f32) (a : FVec Ideal S272x128 .f32) (b : FVec Ideal S1152x128 .f32) (r : Fin 272) (x : Fin 256)

/-- The block after each head, against the first 1152 keys. -/
abbrev lanesB : IVec S1x256 32 := k0_pay54 k0_pay51 k0_pay52 k0_pay53
abbrev ropeB : IVec S1x128 32 := k0_pay58 k0_pay56 16#32 k0_pay57
abbrev bB0 := k0_pay70 (F := Ideal) (k0_pay47 i) (k0_pay50 v) lanesB (k0_pay59 a) (k0_pay60 b) k0_pay61 0#32 (k0_pay63 (k0_pay48 q) (k0_pay49 k) lanesB) (k0_pay64 k0_pay56 16#32 k0_pay57) k0_pay65
abbrev bB1 := k0_pay77 (F := Ideal) (k0_pay47 i) (k0_pay50 v) lanesB (bB0 i q k v a b) 1#32 (k0_pay72 (k0_pay48 q) (k0_pay49 k) lanesB ropeB (k0_pay59 a) (k0_pay60 b))
abbrev bB2 := k0_pay84 (F := Ideal) (k0_pay47 i) (k0_pay50 v) lanesB (bB1 i q k v a b) 2#32 (k0_pay79 (k0_pay48 q) (k0_pay49 k) lanesB ropeB (k0_pay59 a) (k0_pay60 b)) (Named.named κ "mask" 0xF149F2CA#32)
abbrev bB3 := k0_pay178 (F := Ideal) (k0_pay50 v) lanesB (bB2 i q k v a b) 3#32 (k0_pay86 (k0_pay47 i) (k0_pay48 q) (k0_pay49 k) lanesB ropeB (k0_pay59 a) (k0_pay60 b)) (k0_pay87 (k0_pay47 i) (k0_pay48 q) (k0_pay49 k) lanesB ropeB (k0_pay59 a) (k0_pay60 b))

theorem bB0_apply : bB0 i q k v a b (ix2 r x) = Scalar.select (IntOp.cmpi .eq (hid x) 0#32) (one i q k v a b r x 0#32) 0 := by
  pointwise [bB0, lanesB, ropeB, k0_pay70, k0_pay69, k0_pay68, k0_pay67, k0_pay66, k0_pay65, k0_pay64, k0_pay63, k0_pay61, k0_pay50, k0_pay49, k0_pay48, k0_pay47, k0_pay60, k0_pay59, k0_pay54, k0_pay53, k0_pay52, k0_pay51, k0_pay58, k0_pay57, k0_pay56, one, att, top, msk, score, hid, rid, rmod, rrem, rwid]
theorem bB1_apply : bB1 i q k v a b (ix2 r x) = Scalar.select (IntOp.cmpi .eq (hid x) 1#32) (one i q k v a b r x 1#32) (bB0 i q k v a b (ix2 r x)) := by
  pointwise [bB1, lanesB, ropeB, k0_pay77, k0_pay76, k0_pay75, k0_pay74, k0_pay73, k0_pay72, k0_pay50, k0_pay49, k0_pay48, k0_pay47, k0_pay60, k0_pay59, k0_pay54, k0_pay53, k0_pay52, k0_pay51, k0_pay58, k0_pay57, k0_pay56, one, att, top, msk, score, hid, rid, rmod, rrem, rwid]
theorem bB2_apply : bB2 i q k v a b (ix2 r x) = Scalar.select (IntOp.cmpi .eq (hid x) 2#32) (one i q k v a b r x 2#32) (bB1 i q k v a b (ix2 r x)) := by
  pointwise [bB2, lanesB, ropeB, k0_pay84, k0_pay83, k0_pay82, k0_pay81, k0_pay80, k0_pay79, k0_pay50, k0_pay49, k0_pay48, k0_pay47, k0_pay60, k0_pay59, k0_pay54, k0_pay53, k0_pay52, k0_pay51, k0_pay58, k0_pay57, k0_pay56, one, att, top, msk, score, hid, rid, rmod, rrem, rwid]
theorem bB3_apply : bB3 i q k v a b (ix2 r x) = Scalar.select (IntOp.cmpi .eq (hid x) 3#32) (one i q k v a b r x 3#32) (bB2 i q k v a b (ix2 r x)) := by
  pointwise [bB3, lanesB, ropeB, k0_pay178, k0_pay177, k0_pay176, k0_pay175, k0_pay87, k0_pay86, k0_pay50, k0_pay49, k0_pay48, k0_pay47, k0_pay60, k0_pay59, k0_pay54, k0_pay53, k0_pay52, k0_pay51, k0_pay58, k0_pay57, k0_pay56, one, att, top, msk, score, hid, rid, rmod, rrem, rwid]
theorem blockB : bB3 i q k v a b (ix2 r x) = heads (hid x) fun h => one i q k v a b r x (BitVec.ofNat 32 h.val) := by
  rw [bB3_apply, bB2_apply, bB1_apply, bB0_apply]
  rfl
end B

section C
variable (i : BitVec 32) (q : FVec Ideal S272x256 .f32) (k v : FVec Ideal S1664x256 .f32) (a : FVec Ideal S272x128 .f32) (b : FVec Ideal S1664x128 .f32) (r : Fin 272) (x : Fin 256)

/-- The block after each head, against the first 1664 keys. -/
abbrev lanesC : IVec S1x256 32 := k0_pay95 k0_pay92 k0_pay93 k0_pay94
abbrev ropeC : IVec S1x128 32 := k0_pay99 k0_pay97 16#32 k0_pay98
abbrev bC0 := k0_pay111 (F := Ideal) (k0_pay88 i) (k0_pay91 v) lanesC (k0_pay100 a) (k0_pay101 b) k0_pay102 0#32 (k0_pay104 (k0_pay89 q) (k0_pay90 k) lanesC) (k0_pay105 k0_pay97 16#32 k0_pay98) k0_pay106
abbrev bC1 := k0_pay118 (F := Ideal) (k0_pay88 i) (k0_pay91 v) lanesC (bC0 i q k v a b) 1#32 (k0_pay113 (k0_pay89 q) (k0_pay90 k) lanesC ropeC (k0_pay100 a) (k0_pay101 b))
abbrev bC2 := k0_pay125 (F := Ideal) (k0_pay88 i) (k0_pay91 v) lanesC (bC1 i q k v a b) 2#32 (k0_pay120 (k0_pay89 q) (k0_pay90 k) lanesC ropeC (k0_pay100 a) (k0_pay101 b)) (Named.named κ "mask" 0xF149F2CA#32)
abbrev bC3 := k0_pay183 (F := Ideal) (k0_pay91 v) lanesC (bC2 i q k v a b) 3#32 (k0_pay127 (k0_pay88 i) (k0_pay89 q) (k0_pay90 k) lanesC ropeC (k0_pay100 a) (k0_pay101 b)) (k0_pay128 (k0_pay88 i) (k0_pay89 q) (k0_pay90 k) lanesC ropeC (k0_pay100 a) (k0_pay101 b))

theorem bC0_apply : bC0 i q k v a b (ix2 r x) = Scalar.select (IntOp.cmpi .eq (hid x) 0#32) (one i q k v a b r x 0#32) 0 := by
  pointwise [bC0, lanesC, ropeC, k0_pay111, k0_pay110, k0_pay109, k0_pay108, k0_pay107, k0_pay106, k0_pay105, k0_pay104, k0_pay102, k0_pay91, k0_pay90, k0_pay89, k0_pay88, k0_pay101, k0_pay100, k0_pay95, k0_pay94, k0_pay93, k0_pay92, k0_pay99, k0_pay98, k0_pay97, one, att, top, msk, score, hid, rid, rmod, rrem, rwid]
theorem bC1_apply : bC1 i q k v a b (ix2 r x) = Scalar.select (IntOp.cmpi .eq (hid x) 1#32) (one i q k v a b r x 1#32) (bC0 i q k v a b (ix2 r x)) := by
  pointwise [bC1, lanesC, ropeC, k0_pay118, k0_pay117, k0_pay116, k0_pay115, k0_pay114, k0_pay113, k0_pay91, k0_pay90, k0_pay89, k0_pay88, k0_pay101, k0_pay100, k0_pay95, k0_pay94, k0_pay93, k0_pay92, k0_pay99, k0_pay98, k0_pay97, one, att, top, msk, score, hid, rid, rmod, rrem, rwid]
theorem bC2_apply : bC2 i q k v a b (ix2 r x) = Scalar.select (IntOp.cmpi .eq (hid x) 2#32) (one i q k v a b r x 2#32) (bC1 i q k v a b (ix2 r x)) := by
  pointwise [bC2, lanesC, ropeC, k0_pay125, k0_pay124, k0_pay123, k0_pay122, k0_pay121, k0_pay120, k0_pay91, k0_pay90, k0_pay89, k0_pay88, k0_pay101, k0_pay100, k0_pay95, k0_pay94, k0_pay93, k0_pay92, k0_pay99, k0_pay98, k0_pay97, one, att, top, msk, score, hid, rid, rmod, rrem, rwid]
theorem bC3_apply : bC3 i q k v a b (ix2 r x) = Scalar.select (IntOp.cmpi .eq (hid x) 3#32) (one i q k v a b r x 3#32) (bC2 i q k v a b (ix2 r x)) := by
  pointwise [bC3, lanesC, ropeC, k0_pay183, k0_pay182, k0_pay181, k0_pay180, k0_pay128, k0_pay127, k0_pay91, k0_pay90, k0_pay89, k0_pay88, k0_pay101, k0_pay100, k0_pay95, k0_pay94, k0_pay93, k0_pay92, k0_pay99, k0_pay98, k0_pay97, one, att, top, msk, score, hid, rid, rmod, rrem, rwid]
theorem blockC : bC3 i q k v a b (ix2 r x) = heads (hid x) fun h => one i q k v a b r x (BitVec.ofNat 32 h.val) := by
  rw [bC3_apply, bC2_apply, bC1_apply, bC0_apply]
  rfl
end C

section D
variable (i : BitVec 32) (q : FVec Ideal S272x256 .f32) (k v : FVec Ideal S2176x256 .f32) (a : FVec Ideal S272x128 .f32) (b : FVec Ideal S2176x128 .f32) (r : Fin 272) (x : Fin 256)

/-- The block after each head, against the first 2176 keys. -/
abbrev lanesD : IVec S1x256 32 := k0_pay136 k0_pay133 k0_pay134 k0_pay135
abbrev ropeD : IVec S1x128 32 := k0_pay140 k0_pay138 16#32 k0_pay139
abbrev bD0 := k0_pay152 (F := Ideal) (k0_pay129 i) (k0_pay132 v) lanesD (k0_pay141 a) (k0_pay142 b) k0_pay143 0#32 (k0_pay145 (k0_pay130 q) (k0_pay131 k) lanesD) (k0_pay146 k0_pay138 16#32 k0_pay139) k0_pay147
abbrev bD1 := k0_pay159 (F := Ideal) (k0_pay129 i) (k0_pay132 v) lanesD (bD0 i q k v a b) 1#32 (k0_pay154 (k0_pay130 q) (k0_pay131 k) lanesD ropeD (k0_pay141 a) (k0_pay142 b))
abbrev bD2 := k0_pay166 (F := Ideal) (k0_pay129 i) (k0_pay132 v) lanesD (bD1 i q k v a b) 2#32 (k0_pay161 (k0_pay130 q) (k0_pay131 k) lanesD ropeD (k0_pay141 a) (k0_pay142 b)) (Named.named κ "mask" 0xF149F2CA#32)
abbrev bD3 := k0_pay4 (F := Ideal) (k0_pay132 v) lanesD (bD2 i q k v a b) 3#32 (k0_pay168 (k0_pay129 i) (k0_pay130 q) (k0_pay131 k) lanesD ropeD (k0_pay141 a) (k0_pay142 b)) (k0_pay169 (k0_pay129 i) (k0_pay130 q) (k0_pay131 k) lanesD ropeD (k0_pay141 a) (k0_pay142 b))

theorem bD0_apply : bD0 i q k v a b (ix2 r x) = Scalar.select (IntOp.cmpi .eq (hid x) 0#32) (one i q k v a b r x 0#32) 0 := by
  pointwise [bD0, lanesD, ropeD, k0_pay152, k0_pay151, k0_pay150, k0_pay149, k0_pay148, k0_pay147, k0_pay146, k0_pay145, k0_pay143, k0_pay132, k0_pay131, k0_pay130, k0_pay129, k0_pay142, k0_pay141, k0_pay136, k0_pay135, k0_pay134, k0_pay133, k0_pay140, k0_pay139, k0_pay138, one, att, top, msk, score, hid, rid, rmod, rrem, rwid]
theorem bD1_apply : bD1 i q k v a b (ix2 r x) = Scalar.select (IntOp.cmpi .eq (hid x) 1#32) (one i q k v a b r x 1#32) (bD0 i q k v a b (ix2 r x)) := by
  pointwise [bD1, lanesD, ropeD, k0_pay159, k0_pay158, k0_pay157, k0_pay156, k0_pay155, k0_pay154, k0_pay132, k0_pay131, k0_pay130, k0_pay129, k0_pay142, k0_pay141, k0_pay136, k0_pay135, k0_pay134, k0_pay133, k0_pay140, k0_pay139, k0_pay138, one, att, top, msk, score, hid, rid, rmod, rrem, rwid]
theorem bD2_apply : bD2 i q k v a b (ix2 r x) = Scalar.select (IntOp.cmpi .eq (hid x) 2#32) (one i q k v a b r x 2#32) (bD1 i q k v a b (ix2 r x)) := by
  pointwise [bD2, lanesD, ropeD, k0_pay166, k0_pay165, k0_pay164, k0_pay163, k0_pay162, k0_pay161, k0_pay132, k0_pay131, k0_pay130, k0_pay129, k0_pay142, k0_pay141, k0_pay136, k0_pay135, k0_pay134, k0_pay133, k0_pay140, k0_pay139, k0_pay138, one, att, top, msk, score, hid, rid, rmod, rrem, rwid]
theorem bD3_apply : bD3 i q k v a b (ix2 r x) = Scalar.select (IntOp.cmpi .eq (hid x) 3#32) (one i q k v a b r x 3#32) (bD2 i q k v a b (ix2 r x)) := by
  pointwise [bD3, lanesD, ropeD, k0_pay4, k0_pay3, k0_pay2, k0_pay1, k0_pay169, k0_pay168, k0_pay132, k0_pay131, k0_pay130, k0_pay129, k0_pay142, k0_pay141, k0_pay136, k0_pay135, k0_pay134, k0_pay133, k0_pay140, k0_pay139, k0_pay138, one, att, top, msk, score, hid, rid, rmod, rrem, rwid]
theorem blockD : bD3 i q k v a b (ix2 r x) = heads (hid x) fun h => one i q k v a b r x (BitVec.ofNat 32 h.val) := by
  rw [bD3_apply, bD2_apply, bD1_apply, bD0_apply]
  rfl
end D

variable (m : (ℓ : Loc nD τ sig) → Buf (Elt Ideal) ℓ)

/-- Point `t` works on row block `t`; the keys and values are read whole. -/
theorem idx : ∀ t : Fin cfg0.N, win0_0.index t = ![t.val, 0] ∧ win0_1.index t = ![0, 0] ∧ win0_2.index t = ![0, 1] ∧ win0_3.index t = ![t.val, 0] ∧ win0_4.index t = ![0, 0] ∧ win0_5.index t = ![t.val, 0] :=
  (by decide +kernel : ∀ t : Fin grid0.N, _)
abbrev word (t : Fin cfg0.N) : BitVec 32 := BitVec.ofNat 32 (grid0.coords t 0).val
theorem word_eq : ∀ t : Fin cfg0.N, word t = BitVec.ofNat 32 t.val :=
  (by decide +kernel : ∀ t : Fin grid0.N, BitVec.ofNat 32 (grid0.coords t 0).val = BitVec.ofNat 32 t.val)

/-- A block's row of the whole array. -/
abbrev ro (t : Fin cfg0.N) (r : Fin 272) : Fin 2176 := ⟨t.val * 272 + r.val, by have : t.val < 8 := t.isLt; have := r.isLt; omega⟩

/-- The call's operands: queries, keys and values, and the rotated parts of the queries and keys. -/
def fq (c : Dev nD) (r : Fin 2176) (x : Fin 256) : EReal := V m c main_v6 (ix2 r ⟨x.val, by omega⟩)
def fk (c : Dev nD) (r : Fin 2176) (x : Fin 256) : EReal := V m c main_v10 (ix2 r ⟨x.val, by omega⟩)
def fv (c : Dev nD) (r : Fin 2176) (x : Fin 256) : EReal := V m c main_v10 (ix2 r ⟨256 + x.val, by omega⟩)
def fa (c : Dev nD) (r : Fin 2176) (x : Fin 128) : EReal := V m c main_v18 (ix2 r x)
def fb (c : Dev nD) (r : Fin 2176) (x : Fin 128) : EReal := V m c main_v22 (ix2 r x)

/-- A head's score of a row and a key. -/
def sc (c : Dev nD) (h : Fin 4) (r j : Fin 2176) : EReal :=
  ((∑ y : Fin 64, fq m c r ⟨h.val * 64 + y.val, by omega⟩ * fk m c j ⟨h.val * 64 + y.val, by omega⟩) + ∑ y, fa m c r (lane h y) * fb m c j (lane h y)) * Ideal.ofBits FTy.f32 0x3DD105EC#32
/-- A function of the array's rows at any number. -/
def ext (f : Fin 2176 → EReal) (j : ℕ) : EReal := if h : j < 2176 then f ⟨j, h⟩ else 0
/-- The result: the values' mean over the keys that the row reads. -/
def gout (c : Dev nD) (r : Fin 2176) (x : Fin 256) : EReal :=
  soft (first r.val) (r.val + 1) (ext (sc m c (hd x) r)) (ext fun j => fv m c j x)

theorem mask_bot : (Named.named (F := Ideal) (φ := .f32) κ "mask" 4048155338#32 : EReal) = ⊥ := rfl

section point
variable (c : Dev nD) (t : Fin cfg0.N)

theorem blk0 (r : Fin 272) (x : Fin 256) : X0_0 m c t (ix2 r x) = fq m c (ro t r) x := by
  unfold fq
  refine (dif_pos (moved0_0 t (ix2 r x))).trans ?_
  blk_point [iblk, V, idx t]
theorem blk1 (r : Fin 2176) (x : Fin 256) : iblk m c 1 t (ix2 r x) = fk m c r x := by
  unfold fk
  blk_point [iblk, V, idx t]
theorem blk2 (r : Fin 2176) (x : Fin 256) : iblk m c 2 t (ix2 r x) = fv m c r x := by
  unfold fv
  blk_point [iblk, V, idx t]
theorem blk3 (r : Fin 272) (x : Fin 128) : iblk m c 3 t (ix2 r x) = fa m c (ro t r) x := by
  unfold fa
  blk_point [iblk, V, idx t]
theorem blk4 (r : Fin 2176) (x : Fin 128) : iblk m c 4 t (ix2 r x) = fb m c r x := by
  unfold fb
  blk_point [iblk, V, idx t]

/-- The first rows of a block. -/
theorem ldk {n w : ℕ} (v : FVec Ideal ⟨2, ![2176, w]⟩ .f32) (h : ∀ a, (![0, 0] : Fin 2 → ℕ) a + (![n, w] : Fin 2 → ℕ) a ≤ (⟨2, ![2176, w]⟩ : Shape).size a) (j : Fin n) (l : j.val < 2176) (x : Fin w) :
    View.ld (Val := Elt Ideal) (e' := .f32) v (Rect.unit (s := ⟨2, ![2176, w]⟩) ![0, 0] ![n, w] h) (ix2 j x) = v (ix2 ⟨j.val, l⟩ x) := by
  refine View.ld_unit_apply_of (Val := Elt Ideal) (e := .f32) v _ _ h _ _ fun a => ?_
  fin_cases a
  · exact (Nat.zero_add _).symm
  · exact (Nat.zero_add _).symm

variable (hp : ∀ h r j, IsReal (sc m c h r j))
include hp

/-- One head of a point's row, against `n` keys that reach as far as the row. -/
theorem one_eq {n : ℕ} (hn : n ≤ 2176) {k v : FVec Ideal ⟨2, ![n, 256]⟩ .f32} {b : FVec Ideal ⟨2, ![n, 128]⟩ .f32} (r : Fin 272) (x : Fin 256) (hr : (ro t r).val + 1 ≤ n)
    (hk : ∀ (j : Fin n) x, k (ix2 j x) = fk m c ⟨j.val, by omega⟩ x) (hv : ∀ (j : Fin n) x, v (ix2 j x) = fv m c ⟨j.val, by omega⟩ x)
    (hb : ∀ (j : Fin n) x, b (ix2 j x) = fb m c ⟨j.val, by omega⟩ x) :
    one (word t) (X0_0 m c t) k v (iblk m c 3 t) b r x (BitVec.ofNat 32 (hd x).val) = gout m c (ro t r) x := by
  unfold one gout
  have h8 : t.val < 8 := t.isLt
  have hx : x.val / 64 < 4 := by omega
  refine att_eq _ _ (by simp only [first, ro]; split_ifs <;> omega) hr _ _ _ _ (fun j _ hj => ?_) (fun j => ?_) fun j => ?_
  · have : j < 2176 := by have := (ro t r).isLt; omega
    rw [ext, dif_pos this]
    exact hp _ _ _
  · have hj := j.isLt
    rw [word_eq, msk_eq _ _ _ h8 r.isLt (by omega), mask_bot]
    refine if_congr Iff.rfl ?_ rfl
    rw [ext, dif_pos (by omega), sc, score, sum_head, sum_rope]
    simp only [blk0, blk3, hk, hb]
  · have hj := j.isLt
    rw [ext, dif_pos (by omega)]
    exact hv j x

omit hp in
theorem outA (h : t.val < 2) (y : S272x256.Idx) : (outsAt0 m c t.val t.isLt).1 y = bA3 (word t) (X0_0 m c t) (View.ld (iblk m c 1 t) (Rect.unit ![0, 0] ![640, 256] inb_S2176x256_S640x256_0_0)) (View.ld (iblk m c 2 t) (Rect.unit ![0, 0] ![640, 256] inb_S2176x256_S640x256_0_0)) (iblk m c 3 t) (View.ld (iblk m c 4 t) (Rect.unit ![0, 0] ![640, 128] inb_S2176x128_S640x128_0_0)) y := by
  rw [outsAt0_A m c t h (by omega) (by omega) (by omega)]
  frame_out
  rfl
theorem pointA (r : Fin 272) (x : Fin 256) (h : t.val < 2) : (outsAt0 m c t.val t.isLt).1 (ix2 r x) = gout m c (ro t r) x := by
  rw [outA m c t h, blockA, heads_hid]
  exact one_eq m c t hp (n := 640) (by omega) r x (by simp only [ro]; omega) (fun j x => (ldk _ inb_S2176x256_S640x256_0_0 j (by omega) x).trans (blk1 m c t _ x)) (fun j x => (ldk _ inb_S2176x256_S640x256_0_0 j (by omega) x).trans (blk2 m c t _ x))
    (fun j x => (ldk _ inb_S2176x128_S640x128_0_0 j (by omega) x).trans (blk4 m c t _ x))

omit hp in
theorem outB (h : 2 ≤ t.val ∧ t.val ≤ 3) (y : S272x256.Idx) : (outsAt0 m c t.val t.isLt).1 y = bB3 (word t) (X0_0 m c t) (View.ld (iblk m c 1 t) (Rect.unit ![0, 0] ![1152, 256] inb_S2176x256_S1152x256_0_0)) (View.ld (iblk m c 2 t) (Rect.unit ![0, 0] ![1152, 256] inb_S2176x256_S1152x256_0_0)) (iblk m c 3 t) (View.ld (iblk m c 4 t) (Rect.unit ![0, 0] ![1152, 128] inb_S2176x128_S1152x128_0_0)) y := by
  rw [outsAt0_B m c t (by omega) (by omega) (by omega) (by omega)]
  frame_out
  rfl
theorem pointB (r : Fin 272) (x : Fin 256) (h : 2 ≤ t.val ∧ t.val ≤ 3) : (outsAt0 m c t.val t.isLt).1 (ix2 r x) = gout m c (ro t r) x := by
  rw [outB m c t h, blockB, heads_hid]
  exact one_eq m c t hp (n := 1152) (by omega) r x (by simp only [ro]; omega) (fun j x => (ldk _ inb_S2176x256_S1152x256_0_0 j (by omega) x).trans (blk1 m c t _ x)) (fun j x => (ldk _ inb_S2176x256_S1152x256_0_0 j (by omega) x).trans (blk2 m c t _ x))
    (fun j x => (ldk _ inb_S2176x128_S1152x128_0_0 j (by omega) x).trans (blk4 m c t _ x))

omit hp in
theorem outC (h : 4 ≤ t.val ∧ t.val ≤ 5) (y : S272x256.Idx) : (outsAt0 m c t.val t.isLt).1 y = bC3 (word t) (X0_0 m c t) (View.ld (iblk m c 1 t) (Rect.unit ![0, 0] ![1664, 256] inb_S2176x256_S1664x256_0_0)) (View.ld (iblk m c 2 t) (Rect.unit ![0, 0] ![1664, 256] inb_S2176x256_S1664x256_0_0)) (iblk m c 3 t) (View.ld (iblk m c 4 t) (Rect.unit ![0, 0] ![1664, 128] inb_S2176x128_S1664x128_0_0)) y := by
  rw [outsAt0_C m c t (by omega) (by omega) (by omega) (by omega)]
  frame_out
  rfl
theorem pointC (r : Fin 272) (x : Fin 256) (h : 4 ≤ t.val ∧ t.val ≤ 5) : (outsAt0 m c t.val t.isLt).1 (ix2 r x) = gout m c (ro t r) x := by
  rw [outC m c t h, blockC, heads_hid]
  exact one_eq m c t hp (n := 1664) (by omega) r x (by simp only [ro]; omega) (fun j x => (ldk _ inb_S2176x256_S1664x256_0_0 j (by omega) x).trans (blk1 m c t _ x)) (fun j x => (ldk _ inb_S2176x256_S1664x256_0_0 j (by omega) x).trans (blk2 m c t _ x))
    (fun j x => (ldk _ inb_S2176x128_S1664x128_0_0 j (by omega) x).trans (blk4 m c t _ x))

omit hp in
theorem outD (h : 6 ≤ t.val) (y : S272x256.Idx) : (outsAt0 m c t.val t.isLt).1 y = bD3 (word t) (X0_0 m c t) (iblk m c 1 t) (iblk m c 2 t) (iblk m c 3 t) (iblk m c 4 t) y := by
  have h8 : t.val < 8 := t.isLt
  rw [outsAt0_D m c t (by omega) (by omega) (by omega) h]
  frame_out
theorem pointD (r : Fin 272) (x : Fin 256) (h : 6 ≤ t.val) : (outsAt0 m c t.val t.isLt).1 (ix2 r x) = gout m c (ro t r) x := by
  have h8 : t.val < 8 := t.isLt
  rw [outD m c t h, blockD, heads_hid]
  exact one_eq m c t hp (n := 2176) (by omega) r x (by simp only [ro]; omega) (fun j x => blk1 m c t j x) (fun j x => blk2 m c t j x)
    (fun j x => blk4 m c t j x)

theorem point (r : Fin 272) (x : Fin 256) : (outsAt0 m c t.val t.isLt).1 (ix2 r x) = gout m c (ro t r) x := by
  have h8 : t.val < 8 := t.isLt
  rcases (by omega : t.val < 2 ∨ (2 ≤ t.val ∧ t.val ≤ 3) ∨ (4 ≤ t.val ∧ t.val ≤ 5) ∨ 6 ≤ t.val) with h | h | h | h
  · exact pointA m c t hp r x h
  · exact pointB m c t hp r x h
  · exact pointC m c t hp r x h
  · exact pointD m c t hp r x h
end point

/-- The result array. -/
theorem arr5 (c : Dev nD) (hp : ∀ h r j, IsReal (sc m c h r j)) : (dats m 0 c).arrAt 5 (cfgs 0).N = fun i => gout m c (i 0) (i 1) := by
  refine (dats m 0 c).arrAt_eq_of_covers 5 _ (by decide +kernel) fun t _ y => ?_
  blk_simp
  rw [after0_5]
  refine Eq.trans ((congrArg _ (eq_ix2 y)).trans (point m c t hp (y 0) (y 1))) (congrArg₂ (fun a b => gout m c a b) (Fin.ext ?_) (Fin.ext ?_))
  · blk_simp [idx t] <;> try omega
  · blk_simp [idx t] <;> try omega

end Cert.AttfKernelIdeal.Value
-- ==== Proof.AttfFinal.lean ====
/- Latent attention, forward: the kernel's result array is the reference's. -/
module

public import proofs.«01_k».proof.Defs
public import proofs.«01_k».proof.Proof.AttfValue
public import proofs.«01_k».proof.Proof.Gen.AttfReferenceIdeal.Read
public import Idealize.ShloMosaic.Lib.Pipeline.ValueKit
public import proofs.«01_k».proof.Proof.Gen.Pre_finite_attf

@[expose] public section

set_option maxRecDepth 16384

noncomputable section

open Idealize.ShloMosaic Idealize.ShloMosaic.TcCoe Idealize.SL.Sem
open Idealize.ShloMosaic.Pipeline (Dat)

namespace Cert.AttfKernelIdeal.Value

open Cert.Soft Cert.AttfKernelIdeal Cert.AttfKernelIdeal.Gen Cert.AttfReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The lane of a head that a lane is. -/
abbrev lo (x : Fin 256) : Fin 64 := ⟨x.val % 64, by omega⟩
/-- The head of a rotated lane, and its column in the head. -/
abbrev rh (x : Fin 128) : Fin 4 := ⟨x.val % 64 / 16, by omega⟩
abbrev rl (x : Fin 128) : Fin 32 := ⟨x.val / 64 * 16 + x.val % 16, by omega⟩

/-- The operands, below 112 rows of zeros: queries, keys and values, -/
theorem fq_eq (c : Dev nD) (r : Fin 2176) (x : Fin 256) : fq m c r x
    = if h : 112 ≤ r.val then m ((c : Thread nD τ).loc main_arg0) (ix4 0 ⟨r.val - 112, by omega⟩ (hd x) (lo x)) else (0 : EReal) := by
  unfold fq V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  simp only [↓ StableHlo.readResult, ↓ StableHlo.readPieces, -eq_self]
  pointwise []
  have hr := r.isLt
  have hx := x.isLt
  simp only [sitofp_zero]
  split_ifs <;> first | (exfalso; omega) | rfl | (refine congrArg (m _) ?_; ext a; fin_cases a <;> (simp <;> omega))
theorem fk_eq (c : Dev nD) (r : Fin 2176) (x : Fin 256) : fk m c r x
    = if h : 112 ≤ r.val then m ((c : Thread nD τ).loc main_arg2) (ix4 0 ⟨r.val - 112, by omega⟩ (hd x) (lo x)) else (0 : EReal) := by
  unfold fk V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  simp only [↓ StableHlo.readResult, ↓ StableHlo.readPieces, -eq_self]
  pointwise []
  have hr := r.isLt
  have hx := x.isLt
  simp only [sitofp_zero]
  split_ifs <;> first | (exfalso; omega) | rfl | (refine congrArg (m _) ?_; ext a; fin_cases a <;> (simp <;> omega))
theorem fv_eq (c : Dev nD) (r : Fin 2176) (x : Fin 256) : fv m c r x
    = if h : 112 ≤ r.val then m ((c : Thread nD τ).loc main_arg4) (ix4 0 ⟨r.val - 112, by omega⟩ (hd x) (lo x)) else (0 : EReal) := by
  unfold fv V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  simp only [↓ StableHlo.readResult, ↓ StableHlo.readPieces, -eq_self]
  pointwise []
  have hr := r.isLt
  have hx := x.isLt
  simp only [sitofp_zero]
  refine dite_congr (propext ⟨fun h => h.1.1, fun h => ⟨⟨h, by omega⟩, by omega⟩⟩) (fun h => ?_) fun h => rfl
  rfl
/-- and the rotated parts of the queries and keys. -/
theorem fa_eq (c : Dev nD) (r : Fin 2176) (x : Fin 128) : fa m c r x
    = if h : 112 ≤ r.val then m ((c : Thread nD τ).loc main_arg1) (ix4 0 ⟨r.val - 112, by omega⟩ (rh x) (rl x)) else (0 : EReal) := by
  unfold fa V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hx := x.isLt
  simp only [sitofp_zero]
  split_ifs <;> first | (exfalso; omega) | rfl | (refine congrArg (m _) ?_; ext a; fin_cases a <;> (simp <;> omega))
theorem fb_eq (c : Dev nD) (r : Fin 2176) (x : Fin 128) : fb m c r x
    = if h : 112 ≤ r.val then m ((c : Thread nD τ).loc main_arg3) (ix3 0 ⟨r.val - 112, by omega⟩ (rl x)) else (0 : EReal) := by
  unfold fb V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hx := x.isLt
  simp only [sitofp_zero]
  split_ifs <;> first | (exfalso; omega) | rfl | (refine congrArg (m _) ?_; ext a; fin_cases a <;> (simp <;> omega))

theorem head_of (h : Fin 4) (y : Fin 64) : hd ⟨h.val * 64 + y.val, by omega⟩ = h := Fin.ext (by simp only; omega)
theorem lane_of (h : Fin 4) (y : Fin 64) : lo ⟨h.val * 64 + y.val, by omega⟩ = y := Fin.ext (by simp only; omega)
theorem rh_of (h : Fin 4) (y : Fin 32) : rh (lane h y) = h := Fin.ext (by simp only; omega)
theorem rl_of (h : Fin 4) (y : Fin 32) : rl (lane h y) = y := Fin.ext (by simp only; omega)

/-- The precondition: queries and keys are reals. -/
theorem finite0 (h : Pre_AttfKernelIdeal_finite_attf m) (c : Dev nD) (i : S1x2064x4x64.Idx) : IsReal (m ((c : Thread nD τ).loc main_arg0) i) := by
  have e := congrFun (h c).1 i
  pointwise [Cert.Pre_finite_attf.fn] at e
  exact Reals.real_of_abs _ e
theorem finite1 (h : Pre_AttfKernelIdeal_finite_attf m) (c : Dev nD) (i : S1x2064x4x32.Idx) : IsReal (m ((c : Thread nD τ).loc main_arg1) i) := by
  have e := congrFun (h c).2.1 i
  pointwise [Cert.Pre_finite_attf.fn] at e
  exact Reals.real_of_abs _ e
theorem finite2 (h : Pre_AttfKernelIdeal_finite_attf m) (c : Dev nD) (i : S1x2064x4x64.Idx) : IsReal (m ((c : Thread nD τ).loc main_arg2) i) := by
  have e := congrFun (h c).2.2.1 i
  pointwise [Cert.Pre_finite_attf.fn] at e
  exact Reals.real_of_abs _ e
theorem finite3 (h : Pre_AttfKernelIdeal_finite_attf m) (c : Dev nD) (i : S1x2064x32.Idx) : IsReal (m ((c : Thread nD τ).loc main_arg3) i) := by
  have e := congrFun (h c).2.2.2 i
  pointwise [Cert.Pre_finite_attf.fn] at e
  exact Reals.real_of_abs _ e

theorem lit_real : IsReal (Ideal.ofBits FTy.f32 0x3DD105EC#32) :=
  ⟨13698540 / 134217728, by simp [Ideal.ofBits, Ideal.ieee]; rw [← EReal.coe_mul]; norm_num⟩

/-- All scores are reals. -/
theorem sc_real (hp : Pre_AttfKernelIdeal_finite_attf m) (c : Dev nD) (h : Fin 4) (r j : Fin 2176) : IsReal (sc m c h r j) := by
  unfold sc
  refine (IsReal.add (IsReal.sum fun y => ?_) (IsReal.sum fun y => ?_)).mul lit_real
  · refine IsReal.mul ?_ ?_
    · rw [fq_eq]; split_ifs; exacts [finite0 m hp c _, IsReal.zero]
    · rw [fk_eq]; split_ifs; exacts [finite2 m hp c _, IsReal.zero]
  · refine IsReal.mul ?_ ?_
    · rw [fa_eq]; split_ifs; exacts [finite1 m hp c _, IsReal.zero]
    · rw [fb_eq]; split_ifs; exacts [finite3 m hp c _, IsReal.zero]

section reference
variable (q k v : FVec Ideal S1x2064x4x64 .f32) (a : FVec Ideal S1x2064x4x32 .f32) (b : FVec Ideal S1x2064x32 .f32)

/-- The reference's score. -/
def rsc (h : Fin 4) (r j : Fin 2064) : EReal :=
  ((∑ y : Fin 64, q (ix4 0 r h y) * k (ix4 0 j h y)) + ∑ y : Fin 32, b (ix3 0 j y) * a (ix4 0 r h y)) * Ideal.ofBits FTy.f32 0x3DD105EC#32

theorem v5_read (h : Fin 4) (r j : Fin 2064) : val_main_v5 (F := Ideal) q a k b (ix4 0 h r j) = rsc q k a b h r j := by
  pointwise [val_main_v0, val_main_v1, val_main_v2, val_main_v3, val_main_cst, val_main_v4, val_main_v5, rsc]
theorem v13_read (h : Fin 4) (r j : Fin 2064) : val_main_v13 (F := Ideal) q a k b (ix4 0 h r j) = if j.val ≤ r.val then rsc q k a b h r j else ⊥ := by
  rw [← v5_read]
  pointwise [val_main_v6, val_main_v7, val_main_v8, val_main_v9, val_main_v10, val_main_v11, val_main_v12, val_main_cst_0, val_main_call0_v0, val_main_call0_v1, val_main_call0_v2, val_main_v13]
  rw [WordCmp.cmpi_sle_ofNat (w := 32) (by omega) (by omega)]
  by_cases hj : j.val ≤ r.val
  · rw [if_pos hj, decide_eq_true hj]; rfl
  · rw [if_neg hj, decide_eq_false hj]; exact lit_bot
theorem v14_read (h : Fin 4) (r : Fin 2064) : val_main_v14 (F := Ideal) q a k b (ix3 0 h r) = top fun j => val_main_v13 (F := Ideal) q a k b (ix4 0 h r j) := by
  unfold val_main_v14
  generalize val_main_v13 (F := Ideal) q a k b = y
  generalize hz : val_main_cst_1 (F := Ideal) = z
  simp only [pointwise]
  rw [← hz]
  rfl
theorem max_bot (t : EReal) : FloatOps.maximumf (F := Ideal) (φ := .f32) (FloatOps.ofBits .f32 0xFF800000#32) t = t := by
  rw [show FloatOps.ofBits (F := Ideal) .f32 0xFF800000#32 = (⊥ : EReal) from lit_bot]
  exact max_eq_right bot_le
theorem v16_read (h : Fin 4) (r : Fin 2064) : val_main_v16 (F := Ideal) q a k b (ix3 0 h r) = top fun j => val_main_v13 (F := Ideal) q a k b (ix4 0 h r j) := by
  rw [val_main_v16_apply, v14_read, val_main_v15_apply, val_main_cst_2_apply]
  exact max_bot _
theorem v29_read (r : Fin 2176) (x : Fin 256) : val_main_v29 (F := Ideal) q a k b v (ix2 r x)
    = if hr : 112 ≤ r.val then attR (fun j => val_main_v13 (F := Ideal) q a k b (ix4 0 (hd x) ⟨r.val - 112, by omega⟩ j)) (fun j => v (ix4 0 j (hd x) (lo x))) else (0 : EReal) := by
  pointwise [val_main_v17, val_main_v18, val_main_v19, val_main_v20, val_main_cst_3, val_main_v21, val_main_v22, val_main_v23, val_main_v24, val_main_v25, val_main_v26, val_main_v27, val_main_v28, val_main_c, val_main_call1_v0, val_main_v29, attR]
  have hr := r.isLt
  simp only [v16_read, sitofp_zero]
  split_ifs <;> first | (exfalso; omega) | rfl
end reference

/-- A score below the zero rows is the reference's, as is a value. -/
theorem sc_row (c : Dev nD) (h : Fin 4) (k : Fin 2176) (hk : 112 ≤ k.val) (j : ℕ) (hj : j < 2064) :
    sc m c h k ⟨j + 112, by omega⟩ = rsc (m ((c : Thread nD τ).loc main_arg0)) (m ((c : Thread nD τ).loc main_arg2)) (m ((c : Thread nD τ).loc main_arg1)) (m ((c : Thread nD τ).loc main_arg3)) h ⟨k.val - 112, by omega⟩ ⟨j, hj⟩ := by
  unfold sc rsc
  refine congrArg (· * Ideal.ofBits FTy.f32 0x3DD105EC#32) (congrArg₂ (· + ·) (Finset.sum_congr rfl fun y _ => congrArg₂ (· * ·) ?_ ?_) (Finset.sum_congr rfl fun y _ => (mul_comm _ _).trans (congrArg₂ (· * ·) ?_ ?_)))
  · rw [fq_eq, dif_pos hk, head_of, lane_of]
  · rw [fk_eq, dif_pos (Nat.le_add_left 112 j), head_of, lane_of]
    simp only [Nat.add_sub_cancel]
  · rw [fb_eq, dif_pos (Nat.le_add_left 112 j), rl_of]
    simp only [Nat.add_sub_cancel]
  · rw [fa_eq, dif_pos hk, rh_of, rl_of]
theorem fv_row (c : Dev nD) (x : Fin 256) (j : ℕ) (hj : j < 2064) :
    fv m c ⟨j + 112, by omega⟩ x = m ((c : Thread nD τ).loc main_arg4) (ix4 0 ⟨j, hj⟩ (hd x) (lo x)) := by
  rw [fv_eq, dif_pos (Nat.le_add_left 112 j)]
  simp only [Nat.add_sub_cancel]
theorem rsc_real (hp : Pre_AttfKernelIdeal_finite_attf m) (c : Dev nD) (h : Fin 4) (r j : Fin 2064) : IsReal (rsc (m ((c : Thread nD τ).loc main_arg0)) (m ((c : Thread nD τ).loc main_arg2)) (m ((c : Thread nD τ).loc main_arg1)) (m ((c : Thread nD τ).loc main_arg3)) h r j) := by
  unfold rsc
  exact ((IsReal.sum fun y => (finite0 m hp c _).mul (finite2 m hp c _)).add (IsReal.sum fun y => (finite3 m hp c _).mul (finite1 m hp c _))).mul lit_real

/-- A row of the result: the kernel's is the reference's, its 112 first rows zeros. -/
theorem gout_eq (hp : Pre_AttfKernelIdeal_finite_attf m) (c : Dev nD) (k : Fin 2176) (x : Fin 256) : gout m c k x = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 k x) := by
  have hk' := k.isLt
  rw [v29_read]
  unfold gout
  by_cases hk : 112 ≤ k.val
  · rw [dif_pos hk, first, if_neg (by omega)]
    refine Eq.trans ?_ (attR_eq 0 (k.val - 112 + 1) (by omega) (by omega : _ ≤ 2064) _ _
      (fun j => if h : j < 2064 then rsc (m ((c : Thread nD τ).loc main_arg0)) (m ((c : Thread nD τ).loc main_arg2)) (m ((c : Thread nD τ).loc main_arg1)) (m ((c : Thread nD τ).loc main_arg3)) (hd x) ⟨k.val - 112, by omega⟩ ⟨j, h⟩ else 0)
      (fun j => if h : j < 2064 then (m ((c : Thread nD τ).loc main_arg4) (ix4 0 ⟨j, h⟩ (hd x) (lo x)) : EReal) else 0) (fun j _ hj => ?_) (fun j => ?_) fun j => ?_).symm
    · have e : k.val + 1 = k.val - 112 + 1 + 112 := by omega
      refine Eq.trans ?_ (Eq.trans (soft_shift 0 (k.val - 112 + 1) 112 (ext (sc m c (hd x) k)) (ext fun j => fv m c j x)) ?_)
      · rw [Nat.zero_add, ← e]
      refine soft_congr _ _ _ _ _ _ fun j _ hj => ⟨?_, ?_⟩
      · rw [ext, dif_pos (by omega), dif_pos (by omega)]
        exact sc_row m c _ k hk j (by omega)
      · rw [ext, dif_pos (by omega), dif_pos (by omega)]
        exact fv_row m c x j (by omega)
    · rw [dif_pos (by omega)]
      exact rsc_real m hp c _ _ _
    · have hj := j.isLt
      rw [v13_read, dif_pos hj]
      exact if_congr (by show j.val ≤ k.val - 112 ↔ _; omega) rfl rfl
    · rw [dif_pos j.isLt]
  · rw [dif_neg hk]
    refine soft_zero _ _ _ _ fun j _ hj => ?_
    rw [ext, dif_pos (by omega), fv_eq, dif_neg (by show ¬112 ≤ j; omega)]

theorem final5 (hp : Pre_AttfKernelIdeal_finite_attf m) (c : Dev nD) : (dats m 0 c).arrAt 5 (cfgs 0).N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr5 m c fun h r j => sc_real m hp c h r j]
  funext i
  obtain ⟨k, x, rfl⟩ : ∃ k x, i = ix2 k x := ⟨i 0, i 1, eq_ix2 i⟩
  exact gout_eq m hp c k x

end Cert.AttfKernelIdeal.Value
-- ==== Proof.AttfClaim.lean ====
/- Latent attention, forward: from finite queries and keys, the kernel's result is the reference's. -/
module

public import proofs.«01_k».proof.Defs
public import proofs.«01_k».proof.Proof.AttfFinal
public import proofs.«01_k».proof.Proof.Gen.AttfReferenceIdeal.Read

@[expose] public section

set_option maxRecDepth 16384

noncomputable section

open Idealize.ShloMosaic Idealize.ShloMosaic.TcCoe Idealize.SL.Sem
open Idealize.ShloMosaic.Pipeline (Dat)

namespace Cert.AttfReferenceIdeal.Read

open Cert.AttfReferenceIdeal Cert.AttfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v29_eq m c), (h c).2⟩) (Value.run m ρ)

end Cert.AttfReferenceIdeal.Read

namespace Cert.AttfKernelIdeal.Value

/-- Latent attention, forward: from finite queries and keys, the kernel's result is the reference's. -/
theorem algebraic : Cert.algebraic_AttfKernelIdeal_AttfReferenceIdeal_pre_finite_attf := by
  pair_intro
  · run_from Cert.AttfKernelIdeal.Gen.run_main m g & Cert.AttfKernelIdeal.Gen.unchanged m g
  · run_from Cert.AttfReferenceIdeal.Read.run m' g'
    · exact (final5 m hpre c).symm

end Cert.AttfKernelIdeal.Value
-- ==== Proof.RopefValue.lean ====
/- The rotary forward call: what the kernel's two result arrays hold, as a rotation of its
   four operands. -/
module

public import proofs.«01_k».proof.Proof.Gen.RopefKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.RopefKernelIdeal.Value

open Cert.RopefKernelIdeal Cert.RopefKernelIdeal.Gen

/-- The rotation by halves of the 128 columns: the value at a column times its cosine plus the value 64 columns on times the column's signed sine. -/
def rot (x cosf sins : FVec Ideal S2176x128 .f32) : FVec Ideal S2176x128 .f32 := fun i =>
  x i * cosf i + x (ix2 (i 0) ⟨((i 1).val + 64) % 128, Nat.mod_lt _ (by decide)⟩)
    * sins i

variable (m : (ℓ : Loc nD τ sig) → Buf (Elt Ideal) ℓ)

/-- The five windows' blocks move together down the rows. -/
theorem idx : ∀ t : Fin cfg0.N, win0_0.index t = ![(grid0.coords t 1).val, 0] ∧ win0_1.index t = ![(grid0.coords t 1).val, 0]
    ∧ win0_2.index t = ![(grid0.coords t 1).val, 0] ∧ win0_3.index t = ![(grid0.coords t 1).val, 0]
    ∧ win0_4.index t = ![(grid0.coords t 1).val, 0] ∧ win0_5.index t = ![(grid0.coords t 1).val, 0] :=
  (by decide +kernel : ∀ t : Fin grid0.N, _)

/-- One block of the first result. -/
theorem point4 (c : Dev nD) (t : Fin cfg0.N) (y) :
    k0_pay3 (iblk m c 0 t) (iblk m c 2 t) (iblk m c 3 t) y
      = rot (V m c main_v15) (V m c main_v8) (V m c main_v10) (((cfg0.win 4).blk t).view.emb y) := by
  pointwise [k0_pay3, k0_pay1, k0_pay2, rot]
  blk_point [iblk, idx t]

/-- One block of the second result. -/
theorem point5 (c : Dev nD) (t : Fin cfg0.N) (y) :
    k0_pay4 (iblk m c 1 t) (iblk m c 2 t) (iblk m c 3 t) y
      = rot (V m c main_v20) (V m c main_v8) (V m c main_v10) (((cfg0.win 5).blk t).view.emb y) := by
  pointwise [k0_pay4, k0_pay1, k0_pay2, rot]
  blk_point [iblk, idx t]

/-- The first result array. -/
theorem arr4 (c : Dev nD) : (dats m 0 c).arrAt 4 (cfgs 0).N = rot (V m c main_v15) (V m c main_v8) (V m c main_v10) := by
  refine (dats m 0 c).arrAt_eq_of_covers 4 _ (by decide +kernel) fun t _ y => ?_
  blk_simp; rw [after0_4]; frame_out; exact point4 m c t y

/-- The second result array. -/
theorem arr5 (c : Dev nD) : (dats m 0 c).arrAt 5 (cfgs 0).N = rot (V m c main_v20) (V m c main_v8) (V m c main_v10) := by
  refine (dats m 0 c).arrAt_eq_of_covers 5 _ (by decide +kernel) fun t _ y => ?_
  blk_simp; rw [after0_5]; frame_out; exact point5 m c t y

end Cert.RopefKernelIdeal.Value
-- ==== Proof.RopefFinal.lean ====
/- The rotary forward call's operands, and its results as the reference's rotated queries and keys. -/
module

public import proofs.«01_k».proof.Proof.RopefValue
public import proofs.«01_k».proof.Proof.Gen.RopefReferenceIdeal.Read

@[expose] public section

set_option maxRecDepth 16384

noncomputable section

open Idealize.ShloMosaic Idealize.ShloMosaic.TcCoe Idealize.SL.Sem
open Idealize.ShloMosaic.Pipeline (Dat)

namespace Cert.RopefKernelIdeal.Value

open Cert.RopefKernelIdeal Cert.RopefKernelIdeal.Gen

variable (m : (ℓ : Loc nD τ sig) → Buf (Elt Ideal) ℓ)

/-- The row of the 2064 that a padded row holds. -/
def row (r : Fin 2176) : Fin 2064 := ⟨r.val - 112, by omega⟩

/-- The head, and the place within the head, that a column of the kernel's order holds. -/
def head (k : Fin 128) : Fin 4 := ⟨k.val / 16 % 4, by omega⟩
def place (k : Fin 128) : Fin 32 := ⟨k.val / 64 * 16 + k.val % 16, by omega⟩

/-- A head's columns in the kernel's order (the heads' first halves, then their second halves), below
    112 rows of zeros. -/
def columns (x : FVec Ideal S1x2064x4x32 .f32) : FVec Ideal S2176x128 .f32 := fun i =>
  if 112 ≤ (i 0).val then x (ix4 0 (row (i 0)) (head (i 1)) (place (i 1))) else 0

/-- A table of 16 columns repeated along the 128 columns, below 112 rows of zeros. -/
def tiled (x : FVec Ideal S2064x16 .f32) : FVec Ideal S2176x128 .f32 := fun i =>
  if 112 ≤ (i 0).val then x (ix2 (row (i 0)) ⟨(i 1).val % 16, Nat.mod_lt _ (by decide)⟩) else 0

/-- The table of sines: negated over the first 64 columns. -/
def signed (x : FVec Ideal S2064x16 .f32) : FVec Ideal S2176x128 .f32 := fun i => if (i 1).val < 64 then -tiled x i else tiled x i

theorem sitofp_zero : (FloatOps.sitofp (F := Ideal) FTy.f32 (0#32 : BitVec 32)) = (0 : EReal) := by simp [FloatOps.sitofp]

/-- The first operand of the call is the first argument's columns. -/
theorem V_main_v15 (c : Dev nD) : V m c main_v15 = columns (m ((c : Thread nD τ).loc main_arg0)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [columns, row, head, place]
  simp only [sitofp_zero, show i0.val - 112 < 2064 by omega, and_true]
  rfl

/-- The second operand of the call is the second argument's columns. -/
theorem V_main_v20 (c : Dev nD) : V m c main_v20 = columns (m ((c : Thread nD τ).loc main_arg1)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [columns, row, head, place]
  simp only [sitofp_zero, show i0.val - 112 < 2064 by omega, and_true]
  rfl

/-- The third operand of the call is the table of cosines. -/
theorem V_main_v8 (c : Dev nD) : V m c main_v8 = tiled (m ((c : Thread nD τ).loc main_arg2)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [tiled, row]
  by_cases h : i1.val < 64
  · simp only [sitofp_zero, show i0.val - 112 < 2064 by omega, and_true, h, dite_true]; rfl
  · have e : (i1.val - 64) % 16 = i1.val % 16 := by omega
    simp only [sitofp_zero, show i0.val - 112 < 2064 by omega, and_true, h, e, dite_false]; rfl

/-- The fourth operand of the call is the signed table of sines. -/
theorem V_main_v10 (c : Dev nD) : V m c main_v10 = signed (m ((c : Thread nD τ).loc main_arg3)) := by
  unfold V
  simp only [hostOps0, hostOps0_1, hostOps0_2, hostOps0_3, hostOps0_4, hostOps0_5, hostOps0_6, hostOps0_7, List.flatten_cons, List.flatten_nil,
    List.append_nil, List.cons_append, List.nil_append, StableHlo.TRef.binary, StableHlo.TRef.unary, StableHlo.TRef.toBuf, StableHlo.TRef.ofBuf, cast_eq]
  after_results
  funext i
  idx_vars i
  pointwise [tiled, signed, row]
  by_cases h : i1.val < 64
  · simp only [sitofp_zero, show i0.val - 112 < 2064 by omega, and_true, h, dite_true, if_true]; rfl
  · have e : (i1.val - 64) % 16 = i1.val % 16 := by omega
    simp only [sitofp_zero, show i0.val - 112 < 2064 by omega, and_true, h, e, dite_false, if_false]; rfl

open Cert.RopefReferenceIdeal.Read in
/-- The rotation of a head's columns is the rotary embedding of them. -/
theorem rot_eq (x : FVec Ideal S1x2064x4x32 .f32) (co si : FVec Ideal S2064x16 .f32) :
    rot (columns x) (tiled co) (signed si) = val_main_v34 (F := Ideal) x co si := by
  funext i
  idx_vars i
  pointwise [rot, columns, tiled, signed, row, head, place, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_c, val_main_call0_v0, val_main_v34, val_main_v35, val_main_v36, val_main_v37, val_main_v38, val_main_c_0, val_main_call1_v0, val_main_v39]
  have hi : i0.val - 112 < 2064 := by omega
  simp only [sitofp_zero, hi, and_true]
  by_cases h0 : 112 ≤ i0.val
  · have e3 : i1.val % 16 < 16 := by omega
    have e4 : (i1.val + 64) % 128 / 16 % 4 = i1.val / 16 % 4 := by omega
    have e6 : (i1.val + 64) % 128 % 16 = i1.val % 16 := by omega
    by_cases h1 : i1.val < 64
    · have e1 : ¬ (i1.val + 64) % 128 < 64 := by omega
      have e2 : i1.val / 64 = 0 := by omega
      have e5 : (i1.val + 64) % 128 / 64 = 1 := by omega
      simp [h0, h1, e1, e2, e3, e4, e5, e6]
      try exact (sub_eq_add_neg _ _).symm
    · have e1 : (i1.val + 64) % 128 < 64 := by omega
      have e2 : i1.val / 64 = 1 := by omega
      have e5 : (i1.val + 64) % 128 / 64 = 0 := by omega
      simp [h0, h1, e1, e2, e3, e4, e5, e6]
  · simp [h0]

open Cert.RopefReferenceIdeal.Read in
/-- The first result is the reference's rotated queries. -/
theorem final4 (c : Dev nD) : (dats m 0 c).arrAt 4 (cfgs 0).N
    = val_main_v34 (F := Ideal) (m ((c : Thread nD τ).loc main_arg0)) (m ((c : Thread nD τ).loc main_arg2)) (m ((c : Thread nD τ).loc main_arg3)) := by
  rw [arr4, V_main_v15, V_main_v8, V_main_v10, rot_eq]

open Cert.RopefReferenceIdeal.Read in
/-- The second result is the reference's rotated keys. -/
theorem final5 (c : Dev nD) : (dats m 0 c).arrAt 5 (cfgs 0).N
    = val_main_v39 (F := Ideal) (m ((c : Thread nD τ).loc main_arg1)) (m ((c : Thread nD τ).loc main_arg2)) (m ((c : Thread nD τ).loc main_arg3)) := by
  rw [arr5, V_main_v20, V_main_v8, V_main_v10, rot_eq]
  rfl

end Cert.RopefKernelIdeal.Value
-- ==== Proof.RopefClaim.lean ====
/- The rotary forward call computes the reference's rotated queries and keys. -/
module

public import proofs.«01_k».proof.Defs
public import proofs.«01_k».proof.Proof.RopefFinal
public import proofs.«01_k».proof.Proof.Gen.RopefReferenceIdeal.Read

@[expose] public section

set_option maxRecDepth 16384

noncomputable section

open Idealize.ShloMosaic Idealize.ShloMosaic.TcCoe Idealize.SL.Sem
open Idealize.ShloMosaic.Pipeline (Dat)

namespace Cert.RopefReferenceIdeal.Read

open Cert.RopefReferenceIdeal Cert.RopefReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = val_main_v34 (F := Ideal) (m ((c.tc : Thread nD τ).loc main_arg0)) (m ((c.tc : Thread nD τ).loc main_arg2)) (m ((c.tc : Thread nD τ).loc main_arg3))
      ∧ r.2.mem ((c.tc : Thread nD τ).loc main_v39) = val_main_v39 (F := Ideal) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v34_eq _ _ _), (h c).2.1.trans (val_main_v39_eq _ _ _), (h c).2.2⟩) (Value.run m ρ)

end Cert.RopefReferenceIdeal.Read

namespace Cert.RopefKernelIdeal.Value

/-- The rotary forward call computes the reference's rotated queries and keys. -/
theorem algebraic : Cert.algebraic_RopefKernelIdeal_RopefReferenceIdeal := by
  pair_intro
  · run_from Cert.RopefKernelIdeal.Gen.run_main m g & Cert.RopefKernelIdeal.Gen.unchanged m g
  · run_from Cert.RopefReferenceIdeal.Read.run m' g'
    · exact (final4 m c).symm
    · exact (final5 m c).symm

end Cert.RopefKernelIdeal.Value
-- ==== Proof.MlafValue.lean ====
/- The latents' RMS norms, forward: what the kernel's two result arrays hold, as functions of its operands. -/
module

public import proofs.«01_k».proof.Proof.Gen.MlafKernelIdeal.Frame
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MlafKernelIdeal.Value

open Cert.MlafKernelIdeal Cert.MlafKernelIdeal.Gen Cert.Reals

/-- The literals: the numbers of columns, the small constant. -/
abbrev Dq : EReal := Ideal.ofBits .f32 0x43800000#32
abbrev Dk : EReal := Ideal.ofBits .f32 0x43000000#32
abbrev E : EReal := Ideal.ofBits .f32 0x3727C5AC#32
/-- An element of a normalised row, times its scale. -/
def normed {n : ℕ} (d : EReal) (p : Fin n → EReal) (y : EReal) (q : Fin n) : EReal := p q * Ideal.rsqrt (moment d E p) * y

theorem idx : ∀ t : Fin cfg0.N, win0_0.index t = ![t.val, 8] ∧ win0_1.index t = ![t.val, 18] ∧ win0_2.index t = ![0, 0] ∧ win0_3.index t = ![0, 0]
    ∧ win0_4.index t = ![t.val, 0] ∧ win0_5.index t = ![t.val, 0] :=
  (by decide +kernel : ∀ t : Fin grid0.N, _)

/-- A block's row of the whole array. -/
abbrev ro (t : Fin cfg0.N) (r : Fin 544) : Fin 2176 := ⟨t.val * 544 + r.val, by have : t.val < 4 := t.isLt; have := r.isLt; omega⟩

/-- The First latent: a block's row, normalised and scaled. -/
theorem rowFirst_apply (a : FVec Ideal S544x256 .f32) (g : FVec Ideal S1x256 .f32) (r : Fin 544) (q : Fin 256) :
    k0_pay1 (F := Ideal) a g (ix2 r q) = normed Dq (fun k => a (ix2 r k)) (g (ix2 0 q)) q := by
  pointwise [k0_pay1, normed, moment]
/-- The First latent's row in the whole array. -/
def preFirst (m : (ℓ : Loc nD τ sig) → Buf (Elt Ideal) ℓ) (c : Dev nD) (r : Fin 2176) (k : Fin 256) : EReal := V m c main_v3 (ix2 r ⟨k.val + 2048, by omega⟩)

section First
variable (m : (ℓ : Loc nD τ sig) → Buf (Elt Ideal) ℓ) (c : Dev nD) (t : Fin cfg0.N) (r : Fin 544) (q : Fin 256)

theorem blk0 : iblk m c 0 t (ix2 r q) = preFirst m c (ro t r) q := by
  unfold preFirst
  blk_point [iblk, V, idx t]
theorem blk2 : iblk m c 2 t (ix2 0 q) = V m c main_v4 (ix2 0 q) := by
  blk_point [iblk, V, idx t]
theorem point4 : k0_pay1 (F := Ideal) (iblk m c 0 t) (iblk m c 2 t) (ix2 r q) = normed Dq (preFirst m c (ro t r)) (V m c main_v4 (ix2 0 q)) q := by
  rw [rowFirst_apply]
  exact congrArg₂ (fun p y => normed Dq p y q) (funext fun k => blk0 m c t r k) (blk2 m c t q)
/-- The First result array. -/
theorem arr4 : (dats m 0 c).arrAt 4 (cfgs 0).N = fun i : S2176x256.Idx => normed Dq (preFirst m c (i 0)) (V m c main_v4 (ix2 0 (i 1))) (i 1) := by
  refine (dats m 0 c).arrAt_eq_of_covers 4 _ (by decide +kernel) fun t _ y => ?_
  blk_simp
  rw [after0_4]
  frame_out
  refine Eq.trans ((congrArg _ (eq_ix2 y)).trans (point4 m c t (y 0) (y 1))) (congrArg₂ (fun a b => normed Dq (preFirst m c a) (V m c main_v4 (ix2 0 b)) b) (Fin.ext ?_) (Fin.ext ?_))
  · blk_simp [idx t] <;> try omega
  · blk_simp [idx t] <;> try omega
end First

/-- The Second latent: a block's row, normalised and scaled. -/
theorem rowSecond_apply (a : FVec Ideal S544x128 .f32) (g : FVec Ideal S1x128 .f32) (r : Fin 544) (q : Fin 128) :
    k0_pay2 (F := Ideal) a g (ix2 r q) = normed Dk (fun k => a (ix2 r k)) (g (ix2 0 q)) q := by
  pointwise [k0_pay2, normed, moment]
/-- The Second latent's row in the whole array. -/
def preSecond (m : (ℓ : Loc nD τ sig) → Buf (Elt Ideal) ℓ) (c : Dev nD) (r : Fin 2176) (k : Fin 128) : EReal := V m c main_v3 (ix2 r ⟨k.val + 2304, by omega⟩)

section Second
variable (m : (ℓ : Loc nD τ sig) → Buf (Elt Ideal) ℓ) (c : Dev nD) (t : Fin cfg0.N) (r : Fin 544) (q : Fin 128)

theorem blk1 : iblk m c 1 t (ix2 r q) = preSecond m c (ro t r) q := by
  unfold preSecond
  blk_point [iblk, V, idx t]
theorem blk3 : iblk m c 3 t (ix2 0 q) = V m c main_v5 (ix2 0 q) := by
  blk_point [iblk, V, idx t]
theorem point5 : k0_pay2 (F := Ideal) (iblk m c 1 t) (iblk m c 3 t) (ix2 r q) = normed Dk (preSecond m c (ro t r)) (V m c main_v5 (ix2 0 q)) q := by
  rw [rowSecond_apply]
  exact congrArg₂ (fun p y => normed Dk p y q) (funext fun k => blk1 m c t r k) (blk3 m c t q)
/-- The Second result array. -/
theorem arr5 : (dats m 0 c).arrAt 5 (cfgs 0).N = fun i : S2176x128.Idx => normed Dk (preSecond m c (i 0)) (V m c main_v5 (ix2 0 (i 1))) (i 1) := by
  refine (dats m 0 c).arrAt_eq_of_covers 5 _ (by decide +kernel) fun t _ y => ?_
  blk_simp
  rw [after0_5]
  frame_out
  refine Eq.trans ((congrArg _ (eq_ix2 y)).trans (point5 m c t (y 0) (y 1))) (congrArg₂ (fun a b => normed Dk (preSecond m c a) (V m c main_v5 (ix2 0 b)) b) (Fin.ext ?_) (Fin.ext ?_))
  · blk_simp [idx t] <;> try omega
  · blk_simp [idx t] <;> try omega
end Second

end Cert.MlafKernelIdeal.Value
-- ==== Proof.MlafFinal.lean ====
/- The latents' RMS norms, forward: the operands, and the results as the reference's. -/
module

public import proofs.«01_k».proof.Proof.MlafValue
public import proofs.«01_k».proof.Proof.Gen.MlafReferenceIdeal.Read

@[expose] public section

set_option maxRecDepth 16384

noncomputable section

open Idealize.ShloMosaic Idealize.ShloMosaic.TcCoe Idealize.SL.Sem
open Idealize.ShloMosaic.Pipeline (Dat)

namespace Cert.MlafKernelIdeal.Value

open Cert.Reals Cert.MlafKernelIdeal Cert.MlafKernelIdeal.Gen Cert.MlafReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

theorem preFirst_read (c : Dev nD) (r : Fin 2176) (k : Fin 256) : preFirst m c r k
    = if h : 112 ≤ r.val then m ((c : Thread nD τ).loc main_arg0) (ix3 0 ⟨r.val - 112, by omega⟩ k) else (0 : EReal) := by
  unfold preFirst V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first
    | (exfalso; omega)
    | rfl
    | (rw [dif_pos (by omega)]; exact congrArg (fun s => m ((c : Thread nD τ).loc main_arg0) (ix3 0 ⟨r.val - 112, by omega⟩ s)) (Fin.ext (by dsimp only; omega)))
theorem scaleFirst_read (c : Dev nD) (k : Fin 256) : V m c main_v4 (ix2 0 k) = m ((c : Thread nD τ).loc main_arg2) (ix1 k) := by
  unfold V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []
theorem refFirst_read (a : FVec Ideal S1x2064x256 .f32) (g : FVec Ideal S256 .f32) (r : Fin 2064) (q : Fin 256) :
    val_main_v12 (F := Ideal) a g (ix3 0 r q) = normed Dq (fun k => a (ix3 0 r k)) (g (ix1 q)) q := by
  pointwise [val_main_v0, val_main_cst, val_main_v1, val_main_v2, val_main_cst_0, val_main_v3, val_main_v4, val_main_cst_1, val_main_v5, val_main_v6, val_main_v7, val_main_v8, val_main_v9, val_main_v10, val_main_v11, val_main_v12, normed, moment]
theorem padFirst_read (a : FVec Ideal S1x2064x256 .f32) (g : FVec Ideal S256 .f32) (k : Fin 2176) (q : Fin 256) : val_main_v15 (F := Ideal) a g (ix2 k q)
    = if hk : 112 ≤ k.val then val_main_v12 (F := Ideal) a g (ix3 0 ⟨k.val - 112, by omega⟩ q) else (0 : EReal) := by
  pointwise [val_main_v13, val_main_c, val_main_call0_v0, val_main_v14, val_main_v15]
  have hr := k.isLt
  simp only [sitofp_zero]
  split_ifs <;> first | (exfalso; omega) | rfl
/-- The First result is the reference's. -/
theorem final4 (c : Dev nD) : (dats m 0 c).arrAt 4 (cfgs 0).N = val_main_v15 (F := Ideal) (m ((c : Thread nD τ).loc main_arg0)) (m ((c : Thread nD τ).loc main_arg2)) := by
  rw [arr4]
  funext i
  obtain ⟨k, q, rfl⟩ : ∃ k q, i = ix2 k q := ⟨i 0, i 1, eq_ix2 i⟩
  refine Eq.trans (b := normed Dq (preFirst m c k) (V m c main_v4 (ix2 0 q)) q) rfl ?_
  rw [padFirst_read]
  by_cases hk : 112 ≤ k.val
  · rw [dif_pos hk, refFirst_read]
    exact congrArg₂ (fun a b => normed Dq a b q) (funext fun s => (preFirst_read m c k s).trans (dif_pos hk)) (scaleFirst_read m c q)
  · rw [dif_neg hk, normed, (preFirst_read m c k q).trans (dif_neg hk), zero_mul, zero_mul]

theorem preSecond_read (c : Dev nD) (r : Fin 2176) (k : Fin 128) : preSecond m c r k
    = if h : 112 ≤ r.val then m ((c : Thread nD τ).loc main_arg1) (ix3 0 ⟨r.val - 112, by omega⟩ k) else (0 : EReal) := by
  unfold preSecond V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first
    | (exfalso; omega)
    | rfl
    | (rw [dif_pos (by omega)]; exact congrArg (fun s => m ((c : Thread nD τ).loc main_arg1) (ix3 0 ⟨r.val - 112, by omega⟩ s)) (Fin.ext (by dsimp only; omega)))
theorem scaleSecond_read (c : Dev nD) (k : Fin 128) : V m c main_v5 (ix2 0 k) = m ((c : Thread nD τ).loc main_arg3) (ix1 k) := by
  unfold V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []
theorem refSecond_read (a : FVec Ideal S1x2064x128 .f32) (g : FVec Ideal S128 .f32) (r : Fin 2064) (q : Fin 128) :
    val_main_v28 (F := Ideal) a g (ix3 0 r q) = normed Dk (fun k => a (ix3 0 r k)) (g (ix1 q)) q := by
  pointwise [val_main_v16, val_main_cst_2, val_main_v17, val_main_v18, val_main_cst_3, val_main_v19, val_main_v20, val_main_cst_4, val_main_v21, val_main_v22, val_main_v23, val_main_v24, val_main_v25, val_main_v26, val_main_v27, val_main_v28, normed, moment]
theorem padSecond_read (a : FVec Ideal S1x2064x128 .f32) (g : FVec Ideal S128 .f32) (k : Fin 2176) (q : Fin 128) : val_main_v31 (F := Ideal) a g (ix2 k q)
    = if hk : 112 ≤ k.val then val_main_v28 (F := Ideal) a g (ix3 0 ⟨k.val - 112, by omega⟩ q) else (0 : EReal) := by
  pointwise [val_main_v29, val_main_c_5, val_main_call1_v0, val_main_v30, val_main_v31]
  have hr := k.isLt
  simp only [sitofp_zero]
  split_ifs <;> first | (exfalso; omega) | rfl
/-- The Second result is the reference's. -/
theorem final5 (c : Dev nD) : (dats m 0 c).arrAt 5 (cfgs 0).N = val_main_v31 (F := Ideal) (m ((c : Thread nD τ).loc main_arg1)) (m ((c : Thread nD τ).loc main_arg3)) := by
  rw [arr5]
  funext i
  obtain ⟨k, q, rfl⟩ : ∃ k q, i = ix2 k q := ⟨i 0, i 1, eq_ix2 i⟩
  refine Eq.trans (b := normed Dk (preSecond m c k) (V m c main_v5 (ix2 0 q)) q) rfl ?_
  rw [padSecond_read]
  by_cases hk : 112 ≤ k.val
  · rw [dif_pos hk, refSecond_read]
    exact congrArg₂ (fun a b => normed Dk a b q) (funext fun s => (preSecond_read m c k s).trans (dif_pos hk)) (scaleSecond_read m c q)
  · rw [dif_neg hk, normed, (preSecond_read m c k q).trans (dif_neg hk), zero_mul, zero_mul]

end Cert.MlafKernelIdeal.Value
-- ==== Proof.MlafClaim.lean ====
/- The latents' RMS norms, forward, compute the reference's normed latents. -/
module

public import proofs.«01_k».proof.Defs
public import proofs.«01_k».proof.Proof.MlafFinal
public import proofs.«01_k».proof.Proof.Gen.MlafReferenceIdeal.Read

@[expose] public section

set_option maxRecDepth 16384

noncomputable section

open Idealize.ShloMosaic Idealize.ShloMosaic.TcCoe Idealize.SL.Sem
open Idealize.ShloMosaic.Pipeline (Dat)

namespace Cert.MlafReferenceIdeal.Read

open Cert.MlafReferenceIdeal Cert.MlafReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15) = val_main_v15 (F := Ideal) (m ((c.tc : Thread nD τ).loc main_arg0)) (m ((c.tc : Thread nD τ).loc main_arg2))
      ∧ r.2.mem ((c.tc : Thread nD τ).loc main_v31) = val_main_v31 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1.trans (val_main_v15_eq _ _), (h c).2.1.trans (val_main_v31_eq _ _), (h c).2.2⟩) (Value.run m ρ)

end Cert.MlafReferenceIdeal.Read

namespace Cert.MlafKernelIdeal.Value

/-- The latents' RMS norms, forward, compute the reference's normed latents. -/
theorem algebraic : Cert.algebraic_MlafKernelIdeal_MlafReferenceIdeal := by
  pair_intro
  · run_from Cert.MlafKernelIdeal.Gen.run_main m g & Cert.MlafKernelIdeal.Gen.unchanged m g
  · run_from Cert.MlafReferenceIdeal.Read.run m' g'
    · exact (final4 m c).symm
    · exact (final5 m c).symm

end Cert.MlafKernelIdeal.Value
-- ==== Proof.PostfValue.lean ====
/- The SSD's skip, gate and grouped RMS norm, forward: what the kernel's result array holds, as a function of its operands. -/
module

public import proofs.«01_k».proof.Proof.Gen.PostfKernelIdeal.Frame
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.PostfKernelIdeal.Value

open Cert.PostfKernelIdeal Cert.PostfKernelIdeal.Gen Cert.Reals

/-- The literals: the number of a group's columns, the small constant. -/
abbrev D : EReal := Ideal.ofBits .f32 0x43800000#32
abbrev E : EReal := Ideal.ofBits .f32 0x3727C5AC#32
/-- The gate, and the scan's output plus its skip connection, gated. -/
def swish (z : EReal) : EReal := z * Ideal.div 1 (1 + Ideal.exp (0 - z))
def gated (y s x z : EReal) : EReal := (y + s * x) * swish z
/-- An element of a normalised row, times its scale. -/
def normed {n : ℕ} (p : Fin n → EReal) (y : EReal) (q : Fin n) : EReal := p q * Ideal.rsqrt (moment D E p) * y

/-- A block's result. -/
theorem block_apply (y x z : FVec Ideal S544x256 .f32) (s n : FVec Ideal S1x256 .f32) (r : Fin 544) (q : Fin 256) :
    k0_pay1 (F := Ideal) y x z s n (ix2 r q)
      = normed (fun k => gated (y (ix2 r k)) (s (ix2 0 k)) (x (ix2 r k)) (z (ix2 r k))) (n (ix2 0 q)) q := by
  pointwise [k0_pay1, normed, moment, gated, swish]

variable (m : (ℓ : Loc nD τ sig) → Buf (Elt Ideal) ℓ)

/-- Point `t` works on column group `t / 4` and row block `t % 4`. -/
theorem idx : ∀ t : Fin cfg0.N, win0_0.index t = ![t.val % 4, t.val / 4] ∧ win0_1.index t = ![t.val % 4, t.val / 4] ∧ win0_2.index t = ![t.val % 4, t.val / 4]
    ∧ win0_3.index t = ![0, t.val / 4] ∧ win0_4.index t = ![0, t.val / 4] ∧ win0_5.index t = ![t.val % 4, t.val / 4] :=
  (by decide +kernel : ∀ t : Fin grid0.N, _)

/-- A block's row and column of the whole array; a column of a group; a column's place in its group. -/
abbrev ro (t : Fin cfg0.N) (r : Fin 544) : Fin 2176 := ⟨t.val % 4 * 544 + r.val, by have := r.isLt; omega⟩
abbrev co (t : Fin cfg0.N) (q : Fin 256) : Fin 512 := ⟨t.val / 4 * 256 + q.val, by have : t.val < 8 := t.isLt; have := q.isLt; omega⟩
abbrev col (q : Fin 512) (k : Fin 256) : Fin 512 := ⟨q.val / 256 * 256 + k.val, by have := q.isLt; have := k.isLt; omega⟩
abbrev lane (q : Fin 512) : Fin 256 := ⟨q.val % 256, Nat.mod_lt _ (by norm_num)⟩

/-- The call's operands: the scan's output, its input, the gate, the skip's and the norm's scale. -/
def fy (c : Dev nD) (r : Fin 2176) (q : Fin 512) : EReal := V m c main_v3 (ix2 r q)
def fx (c : Dev nD) (r : Fin 2176) (q : Fin 512) : EReal := V m c main_v1 (ix2 r ⟨q.val, by omega⟩)
def fz (c : Dev nD) (r : Fin 2176) (q : Fin 512) : EReal := V m c main_v5 (ix2 r ⟨q.val, by omega⟩)
def fs (c : Dev nD) (q : Fin 512) : EReal := V m c main_v8 (ix2 0 q)
def fn (c : Dev nD) (q : Fin 512) : EReal := V m c main_v9 (ix2 0 q)
/-- A column's group of a row, gated; the result. -/
def pre (c : Dev nD) (r : Fin 2176) (q : Fin 512) (k : Fin 256) : EReal := gated (fy m c r (col q k)) (fs m c (col q k)) (fx m c r (col q k)) (fz m c r (col q k))
def res (c : Dev nD) (r : Fin 2176) (q : Fin 512) : EReal := normed (pre m c r q) (fn m c q) (lane q)

section point
variable (c : Dev nD) (t : Fin cfg0.N) (r : Fin 544) (q : Fin 256)

theorem blk0 : iblk m c 0 t (ix2 r q) = fy m c (ro t r) (co t q) := by
  unfold fy
  blk_point [iblk, V, idx t]
theorem blk1 : iblk m c 1 t (ix2 r q) = fx m c (ro t r) (co t q) := by
  unfold fx
  blk_point [iblk, V, idx t]
theorem blk2 : iblk m c 2 t (ix2 r q) = fz m c (ro t r) (co t q) := by
  unfold fz
  blk_point [iblk, V, idx t]
theorem blk3 : iblk m c 3 t (ix2 0 q) = fs m c (co t q) := by
  unfold fs
  blk_point [iblk, V, idx t]
theorem blk4 : iblk m c 4 t (ix2 0 q) = fn m c (co t q) := by
  unfold fn
  blk_point [iblk, V, idx t]
theorem col_co (k : Fin 256) : col (co t q) k = co t k := by
  have := q.isLt
  exact Fin.ext (by dsimp only; omega)
theorem lane_co : lane (co t q) = q := by
  have := q.isLt
  exact Fin.ext (by dsimp only; omega)
theorem point5 : k0_pay1 (F := Ideal) (iblk m c 0 t) (iblk m c 1 t) (iblk m c 2 t) (iblk m c 3 t) (iblk m c 4 t) (ix2 r q) = res m c (ro t r) (co t q) := by
  rw [block_apply, res, lane_co]
  refine congrArg₂ (fun p y => normed p y q) (funext fun k => ?_) (blk4 m c t q)
  rw [blk0, blk1, blk2, blk3, pre, col_co]
end point

/-- The result array. -/
theorem arr5 (c : Dev nD) : (dats m 0 c).arrAt 5 (cfgs 0).N = fun i : S2176x512.Idx => res m c (i 0) (i 1) := by
  refine (dats m 0 c).arrAt_eq_of_covers 5 _ (by decide +kernel) fun t _ y => ?_
  blk_simp
  rw [after0_5]
  frame_out
  refine Eq.trans ((congrArg _ (eq_ix2 y)).trans (point5 m c t (y 0) (y 1))) (congrArg₂ (fun a b => res m c a b) (Fin.ext ?_) (Fin.ext ?_))
  · blk_simp [idx t] <;> try omega
  · blk_simp [idx t] <;> try omega

end Cert.PostfKernelIdeal.Value
-- ==== Proof.PostfFinal.lean ====
/- The SSD's skip, gate and grouped RMS norm, forward: the operands, and the result as the reference's. -/
module

public import proofs.«01_k».proof.Proof.PostfValue
public import proofs.«01_k».proof.Proof.Gen.PostfReferenceIdeal.Read

@[expose] public section

set_option maxRecDepth 16384

noncomputable section

open Idealize.ShloMosaic Idealize.ShloMosaic.TcCoe Idealize.SL.Sem
open Idealize.ShloMosaic.Pipeline (Dat)

namespace Cert.PostfKernelIdeal.Value

open Cert.Reals Cert.PostfKernelIdeal Cert.PostfKernelIdeal.Gen Cert.PostfReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: arguments below 112 rows of zeros, a head's scale along its columns, the norm's scale. -/
theorem fy_read (c : Dev nD) (r : Fin 2176) (q : Fin 512) : fy m c r q
    = if h : 112 ≤ r.val then m ((c : Thread nD τ).loc main_arg0) (ix3 0 ⟨r.val - 112, by omega⟩ q) else (0 : EReal) := by
  unfold fy V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hq := q.isLt
  simp only [sitofp_zero]
  split_ifs <;> first | (exfalso; omega) | rfl
theorem fx_read (c : Dev nD) (r : Fin 2176) (q : Fin 512) : fx m c r q
    = if h : 112 ≤ r.val then m ((c : Thread nD τ).loc main_arg1) (ix3 0 ⟨r.val - 112, by omega⟩ q) else (0 : EReal) := by
  unfold fx V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hq := q.isLt
  simp only [sitofp_zero]
  split_ifs <;> first | (exfalso; omega) | rfl
theorem fz_read (c : Dev nD) (r : Fin 2176) (q : Fin 512) : fz m c r q
    = if h : 112 ≤ r.val then m ((c : Thread nD τ).loc main_arg2) (ix3 0 ⟨r.val - 112, by omega⟩ q) else (0 : EReal) := by
  unfold fz V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hq := q.isLt
  simp only [sitofp_zero]
  split_ifs <;> first | (exfalso; omega) | rfl
abbrev head (q : Fin 512) : Fin 8 := ⟨q.val / 64, by have := q.isLt; omega⟩
theorem fs_read (c : Dev nD) (q : Fin 512) : fs m c q = m ((c : Thread nD τ).loc main_arg3) (ix1 (head q)) := by
  unfold fs V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
theorem fn_read (c : Dev nD) (q : Fin 512) : fn m c q = m ((c : Thread nD τ).loc main_arg4) (ix1 q) := by
  unfold fn V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []

section reference
variable (y x z : FVec Ideal S1x2064x512 .f32) (s : FVec Ideal S8 .f32) (n : FVec Ideal S512 .f32) (r : Fin 2064) (q : Fin 512) (b : Fin 2) (k : Fin 256)

abbrev gcol (b : Fin 2) (k : Fin 256) : Fin 512 := ⟨b.val * 256 + k.val, by have := b.isLt; have := k.isLt; omega⟩
/-- The reference's gated row. -/
theorem v8_read : val_main_v8 (F := Ideal) y x z s (ix3 0 r q) = gated (y (ix3 0 r q)) (s (ix1 (head q))) (x (ix3 0 r q)) (z (ix3 0 r q)) := by
  have hq := q.isLt
  have e : q.val / 64 * 64 + q.val % 64 = q.val := by omega
  pointwise [val_main_v0, val_main_v1, val_main_v2, val_main_v3, val_main_v4, val_main_v5, val_main_v6, val_main_call0_v0, val_main_call0_v1, val_main_call0_cst, val_main_call0_v2, val_main_call0_v3, val_main_call0_cst_0, val_main_call0_v4, val_main_call0_v5, val_main_v7, val_main_v8, gated, swish]
  try simp only [e, zero_sub]
theorem v9_read : val_main_v9 (F := Ideal) y x z s (ix4 0 r b k) = val_main_v8 (F := Ideal) y x z s (ix3 0 r (gcol b k)) := by
  pointwise [val_main_v9]
/-- The reference's norm of a group of the row. -/
theorem v21_read : val_main_v21 (F := Ideal) y x z s (ix4 0 r b k)
    = val_main_v9 (F := Ideal) y x z s (ix4 0 r b k) * Ideal.rsqrt (moment D E fun k => val_main_v9 (F := Ideal) y x z s (ix4 0 r b k)) := by
  pointwise [val_main_v10, val_main_cst, val_main_v11, val_main_v12, val_main_cst_0, val_main_v13, val_main_v14, val_main_cst_1, val_main_v15, val_main_v16, val_main_v17, val_main_v18, val_main_v19, val_main_cst_2, val_main_v20, val_main_v21, moment, mul_one]
theorem v25_read : val_main_v25 (F := Ideal) y x z s n (ix3 0 r q)
    = normed (fun k => val_main_v9 (F := Ideal) y x z s (ix4 0 r ⟨q.val / 256, by have := q.isLt; omega⟩ k)) (n (ix1 q)) (lane q) := by
  rw [normed, ← v21_read]
  pointwise [val_main_v22, val_main_v23, val_main_v24, val_main_v25]
theorem pad_read (r : Fin 2176) : val_main_v27 (F := Ideal) y x z s n (ix2 r q)
    = if hk : 112 ≤ r.val then val_main_v25 (F := Ideal) y x z s n (ix3 0 ⟨r.val - 112, by omega⟩ q) else (0 : EReal) := by
  pointwise [val_main_v26, val_main_c, val_main_call1_v0, val_main_v27]
  have hr := r.isLt
  simp only [sitofp_zero]
  split_ifs <;> first | (exfalso; omega) | rfl
end reference

/-- The result is the reference's. -/
theorem final5 (c : Dev nD) : (dats m 0 c).arrAt 5 (cfgs 0).N = val_main_v27 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr5]
  funext i
  obtain ⟨r, q, rfl⟩ : ∃ r q, i = ix2 r q := ⟨i 0, i 1, eq_ix2 i⟩
  refine Eq.trans (b := res m c r q) rfl ?_
  rw [pad_read, res]
  by_cases hr : 112 ≤ r.val
  · rw [dif_pos hr, v25_read]
    refine congrArg₂ (fun a b => normed a b (lane q)) (funext fun k => ?_) (fn_read m c q)
    rw [v9_read, v8_read, pre, fy_read, fx_read, fz_read, fs_read, dif_pos hr, dif_pos hr, dif_pos hr]
  · rw [dif_neg hr, normed, pre, gated, fy_read, fx_read, dif_neg hr, dif_neg hr, mul_zero, add_zero, zero_mul, zero_mul, zero_mul]

end Cert.PostfKernelIdeal.Value
-- ==== Proof.PostfClaim.lean ====
/- The SSD's skip, gate and grouped RMS norm, forward, compute the reference's. -/
module

public import proofs.«01_k».proof.Defs
public import proofs.«01_k».proof.Proof.PostfFinal
public import proofs.«01_k».proof.Proof.Gen.PostfReferenceIdeal.Read

@[expose] public section

set_option maxRecDepth 16384

noncomputable section

open Idealize.ShloMosaic Idealize.ShloMosaic.TcCoe Idealize.SL.Sem
open Idealize.ShloMosaic.Pipeline (Dat)

namespace Cert.PostfReferenceIdeal.Read

open Cert.PostfReferenceIdeal Cert.PostfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = val_main_v27 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v27_eq _ _ _ _ _), (h c).2⟩) (Value.run m ρ)

end Cert.PostfReferenceIdeal.Read

namespace Cert.PostfKernelIdeal.Value

/-- The SSD's skip, gate and grouped RMS norm, forward, compute the reference's. -/
theorem algebraic : Cert.algebraic_PostfKernelIdeal_PostfReferenceIdeal := by
  pair_intro
  · run_from Cert.PostfKernelIdeal.Gen.run_main m g & Cert.PostfKernelIdeal.Gen.unchanged m g
  · run_from Cert.PostfReferenceIdeal.Read.run m' g'
    · exact (final5 m c).symm

end Cert.PostfKernelIdeal.Value
-- ==== Proof.FfnfValue.lean ====
/- The feed-forward's two products and gated activation: what the kernel's three result arrays hold, as functions of its operands. -/
module

public import proofs.«01_k».proof.Proof.Gen.FfnfKernelIdeal.Frame
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.FfnfKernelIdeal.Value

open Cert.FfnfKernelIdeal Cert.FfnfKernelIdeal.Gen Cert.Reals

/-- A product of two numbers, and the gated activation. -/
def times (a b : EReal) : EReal := a * b
def gated (g u : EReal) : EReal := g * Ideal.div 1 (1 + Ideal.exp (0 - g)) * u

section block
variable (X : FVec Ideal S1088x1024 .f32) (W W' : FVec Ideal S1x768x1024 .bf16) (r : Fin 1088) (q : Fin 768)

theorem pay2_apply : k0_pay2 (F := Ideal) X W (ix2 r q) = ∑ k : Fin 1024, times (X (ix2 r k)) (W (ix3 0 q k)) := by
  pointwise [k0_pay2, k0_pay1, times]
theorem pay3_apply : k0_pay3 (F := Ideal) X W (ix2 r q) = ∑ k : Fin 1024, times (X (ix2 r k)) (W (ix3 0 q k)) := by
  pointwise [k0_pay3, k0_pay1, times]
theorem pay4_apply : k0_pay4 (F := Ideal) X W W' (ix2 r q) = gated (k0_pay2 (F := Ideal) X W (ix2 r q)) (k0_pay3 (F := Ideal) X W' (ix2 r q)) := by
  pointwise [k0_pay4, gated]
end block

variable (m : (ℓ : Loc nD τ sig) → Buf (Elt Ideal) ℓ)

/-- The blocks: point `t` works on row block `t / 4` and on the hidden columns of chip `t % 4`. -/
theorem idx : ∀ t : Fin cfg0.N, win0_0.index t = ![t.val / 4, 0] ∧ win0_1.index t = ![t.val % 4, 0, 0] ∧ win0_2.index t = ![t.val % 4, 0, 0]
    ∧ win0_3.index t = ![t.val / 4, t.val % 4] ∧ win0_4.index t = ![t.val / 4, t.val % 4] ∧ win0_5.index t = ![t.val / 4, t.val % 4] :=
  (by decide +kernel : ∀ t : Fin grid0.N, _)

/-- The two products and the activation, of the arrays the call is given. -/
def fg (c : Dev nD) (r : Fin 2176) (q : Fin 3072) : EReal :=
  ∑ k : Fin 1024, times (V m c main_v1 (ix2 r k)) (V m c main_v5 (ix3 ⟨q.val / 768, by omega⟩ ⟨q.val % 768, by omega⟩ k))
def fu (c : Dev nD) (r : Fin 2176) (q : Fin 3072) : EReal :=
  ∑ k : Fin 1024, times (V m c main_v1 (ix2 r k)) (V m c main_v9 (ix3 ⟨q.val / 768, by omega⟩ ⟨q.val % 768, by omega⟩ k))
def fa (c : Dev nD) (r : Fin 2176) (q : Fin 3072) : EReal := gated (fg m c r q) (fu m c r q)

section point
variable (c : Dev nD) (t : Fin cfg0.N) (r : Fin 1088) (q : Fin 768)

/-- A block's row and column of the whole array. -/
abbrev ro : Fin 2176 := ⟨t.val / 4 * 1088 + r.val, by have : t.val < 8 := t.isLt; have := r.isLt; omega⟩
abbrev co : Fin 3072 := ⟨t.val % 4 * 768 + q.val, by have := q.isLt; omega⟩

theorem blk0 (k : Fin 1024) : View.ld (iblk m c 0 t) r0_0 (ix2 r k) = V m c main_v1 (ix2 (ro t r) k) := by
  blk_point [iblk, V, idx t]
theorem blk1 (k : Fin 1024) : View.ld (iblk m c 1 t) r0_1 (ix3 0 q k) = V m c main_v5 (ix3 ⟨t.val % 4, by omega⟩ q k) := by
  blk_point [iblk, V, idx t]
theorem blk2 (k : Fin 1024) : View.ld (iblk m c 2 t) r0_1 (ix3 0 q k) = V m c main_v9 (ix3 ⟨t.val % 4, by omega⟩ q k) := by
  blk_point [iblk, V, idx t]
theorem col_eq : (⟨t.val % 4, by omega⟩ : Fin 4) = ⟨(co t q).val / 768, by omega⟩ ∧ q = (⟨(co t q).val % 768, by omega⟩ : Fin 768) := by
  have hq := q.isLt
  exact ⟨Fin.ext (by show t.val % 4 = (t.val % 4 * 768 + q.val) / 768; omega), Fin.ext (by show q.val = (t.val % 4 * 768 + q.val) % 768; omega)⟩
theorem fg_eq : k0_pay2 (F := Ideal) (View.ld (iblk m c 0 t) r0_0) (View.ld (iblk m c 1 t) r0_1) (ix2 r q) = fg m c (ro t r) (co t q) := by
  refine (pay2_apply _ _ r q).trans (Finset.sum_congr rfl fun k _ => congrArg₂ times (blk0 m c t r k) ((blk1 m c t q k).trans ?_))
  exact congrArg₂ (fun a b => V m c main_v5 (ix3 a b k)) (col_eq t q).1 (col_eq t q).2
theorem fu_eq : k0_pay3 (F := Ideal) (View.ld (iblk m c 0 t) r0_0) (View.ld (iblk m c 2 t) r0_1) (ix2 r q) = fu m c (ro t r) (co t q) := by
  refine (pay3_apply _ _ r q).trans (Finset.sum_congr rfl fun k _ => congrArg₂ times (blk0 m c t r k) ((blk2 m c t q k).trans ?_))
  exact congrArg₂ (fun a b => V m c main_v9 (ix3 a b k)) (col_eq t q).1 (col_eq t q).2

/-- What the point leaves in the results' staging buffers. -/
theorem point3 : out0_3 (iblk m c 0 t) (iblk m c 1 t) (iblk m c 2 t) (ix2 r q) = fg m c (ro t r) (co t q) := by
  unfold out0_3
  canon_tiles z hz
  have ez : z = ix2 r q := (eq_ix2 z).trans (congrArg₂ ix2 (Fin.ext (by have : r.val = (z 0).val := hz0; omega)) (Fin.ext (by have : q.val = (z 1).val := hz1; omega)))
  rw [ez]
  exact fg_eq m c t r q
theorem point4 : out0_4 (iblk m c 0 t) (iblk m c 1 t) (iblk m c 2 t) (ix2 r q) = fu m c (ro t r) (co t q) := by
  unfold out0_4
  canon_tiles z hz
  have ez : z = ix2 r q := (eq_ix2 z).trans (congrArg₂ ix2 (Fin.ext (by have : r.val = (z 0).val := hz0; omega)) (Fin.ext (by have : q.val = (z 1).val := hz1; omega)))
  rw [ez]
  exact fu_eq m c t r q
theorem point5 : out0_5 (iblk m c 0 t) (iblk m c 1 t) (iblk m c 2 t) (ix2 r q) = fa m c (ro t r) (co t q) := by
  unfold out0_5
  canon_tiles z hz
  have ez : z = ix2 r q := (eq_ix2 z).trans (congrArg₂ ix2 (Fin.ext (by have : r.val = (z 0).val := hz0; omega)) (Fin.ext (by have : q.val = (z 1).val := hz1; omega)))
  rw [ez]
  exact (pay4_apply _ _ _ r q).trans (congrArg₂ gated (fg_eq m c t r q) (fu_eq m c t r q))
end point

/-- The first product. -/
theorem arr3 (c : Dev nD) : (dats m 0 c).arrAt 3 (cfgs 0).N = fun i : S2176x3072.Idx => fg m c (i 0) (i 1) := by
  refine (dats m 0 c).arrAt_eq_of_covers 3 _ (by decide +kernel) fun t _ y => ?_
  blk_simp
  rw [after0_3]
  refine Eq.trans ((congrArg _ (eq_ix2 y)).trans (point3 m c t (y 0) (y 1))) (congrArg₂ (fg m c) (Fin.ext ?_) (Fin.ext ?_))
  · blk_simp [idx t] <;> try omega
  · blk_simp [idx t] <;> try omega
/-- The second product. -/
theorem arr4 (c : Dev nD) : (dats m 0 c).arrAt 4 (cfgs 0).N = fun i : S2176x3072.Idx => fu m c (i 0) (i 1) := by
  refine (dats m 0 c).arrAt_eq_of_covers 4 _ (by decide +kernel) fun t _ y => ?_
  blk_simp
  rw [after0_4]
  refine Eq.trans ((congrArg _ (eq_ix2 y)).trans (point4 m c t (y 0) (y 1))) (congrArg₂ (fu m c) (Fin.ext ?_) (Fin.ext ?_))
  · blk_simp [idx t] <;> try omega
  · blk_simp [idx t] <;> try omega
/-- The activation. -/
theorem arr5 (c : Dev nD) : (dats m 0 c).arrAt 5 (cfgs 0).N = fun i : S2176x3072.Idx => fa m c (i 0) (i 1) := by
  refine (dats m 0 c).arrAt_eq_of_covers 5 _ (by decide +kernel) fun t _ y => ?_
  blk_simp
  rw [after0_5]
  refine Eq.trans ((congrArg _ (eq_ix2 y)).trans (point5 m c t (y 0) (y 1))) (congrArg₂ (fa m c) (Fin.ext ?_) (Fin.ext ?_))
  · blk_simp [idx t] <;> try omega
  · blk_simp [idx t] <;> try omega

end Cert.FfnfKernelIdeal.Value
-- ==== Proof.FfnfFinal.lean ====
/- The feed-forward's two products and gated activation: the operands, and the results as the reference's. -/
module

public import proofs.«01_k».proof.Proof.FfnfValue
public import proofs.«01_k».proof.Proof.Gen.FfnfReferenceIdeal.Read

@[expose] public section

set_option maxRecDepth 16384

noncomputable section

open Idealize.ShloMosaic Idealize.ShloMosaic.TcCoe Idealize.SL.Sem
open Idealize.ShloMosaic.Pipeline (Dat)

namespace Cert.FfnfKernelIdeal.Value

open Cert.Reals Cert.FfnfKernelIdeal Cert.FfnfKernelIdeal.Gen Cert.FfnfReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- Where a hidden column of the chips' padded layout comes from. -/
abbrev from_ (q : Fin 3072) (h : q.val % 768 < 704) : Fin 2816 := ⟨q.val / 768 * 704 + q.val % 768, by have := q.isLt; omega⟩

/-- The operands: the rows below 112 rows of zeros, -/
theorem x_read (c : Dev nD) (r : Fin 2176) (k : Fin 1024) : V m c main_v1 (ix2 r k)
    = if h : 112 ≤ r.val then m ((c : Thread nD τ).loc main_arg0) (ix3 0 ⟨r.val - 112, by omega⟩ k) else (0 : EReal) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the gate's weight by chips, a chip's columns as rows, padded, -/
theorem v5_read (c : Dev nD) (a : Fin 4) (q : Fin 768) (k : Fin 1024) : V m c main_v5 (ix3 a q k)
    = if h : q.val < 704 then m ((c : Thread nD τ).loc main_arg1) (ix2 k ⟨a.val * 704 + q.val, by have := a.isLt; omega⟩) else (0 : EReal) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]
/-- and the other weight likewise. -/
theorem v9_read (c : Dev nD) (a : Fin 4) (q : Fin 768) (k : Fin 1024) : V m c main_v9 (ix3 a q k)
    = if h : q.val < 704 then m ((c : Thread nD τ).loc main_arg2) (ix2 k ⟨a.val * 704 + q.val, by have := a.isLt; omega⟩) else (0 : EReal) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]

section reference
variable (x : FVec Ideal S1x2064x1024 .f32) (w u : FVec Ideal S1024x2816 .f32) (r : Fin 2064) (q : Fin 2816)

theorem val_main_v0_read : val_main_v0 (F := Ideal) x w (ix3 0 r q) = ∑ k : Fin 1024, times (x (ix3 0 r k)) (w (ix2 k q)) := by
  pointwise [val_main_v0, times]
theorem val_main_v1_read : val_main_v1 (F := Ideal) x w (ix3 0 r q) = ∑ k : Fin 1024, times (x (ix3 0 r k)) (w (ix2 k q)) := by
  pointwise [val_main_v1, times]
theorem val_main_v3_read : val_main_v3 (F := Ideal) x w u (ix3 0 r q) = gated (val_main_v0 (F := Ideal) x w (ix3 0 r q)) (val_main_v1 (F := Ideal) x u (ix3 0 r q)) := by
  pointwise [val_main_call0_v0, val_main_call0_v1, val_main_call0_cst, val_main_call0_v2, val_main_call0_v3, val_main_call0_cst_0, val_main_call0_v4, val_main_call0_v5, val_main_v2, val_main_v3, gated]
  rw [zero_sub]
theorem val_main_v8_layout (k : Fin 2176) (q : Fin 3072) : val_main_v8 (F := Ideal) x w (ix2 k q)
    = if h : 112 ≤ k.val ∧ q.val % 768 < 704 then val_main_v0 (F := Ideal) x w (ix3 0 ⟨k.val - 112, by omega⟩ (from_ q h.2)) else (0 : EReal) := by
  pointwise [val_main_v4, val_main_v5, val_main_c, val_main_call1_v0, val_main_v6, val_main_v7, val_main_c_0, val_main_call2_v0, val_main_v8]
  have hr := k.isLt
  simp only [sitofp_zero]
  split_ifs <;> first | (exfalso; omega) | rfl
theorem val_main_v13_layout (k : Fin 2176) (q : Fin 3072) : val_main_v13 (F := Ideal) x w (ix2 k q)
    = if h : 112 ≤ k.val ∧ q.val % 768 < 704 then val_main_v1 (F := Ideal) x w (ix3 0 ⟨k.val - 112, by omega⟩ (from_ q h.2)) else (0 : EReal) := by
  pointwise [val_main_v9, val_main_v10, val_main_c_1, val_main_call3_v0, val_main_v11, val_main_v12, val_main_c_2, val_main_call4_v0, val_main_v13]
  have hr := k.isLt
  simp only [sitofp_zero]
  split_ifs <;> first | (exfalso; omega) | rfl
theorem val_main_v19_layout (k : Fin 2176) (q : Fin 3072) : val_main_v19 (F := Ideal) x w u (ix2 k q)
    = if h : 112 ≤ k.val ∧ q.val % 768 < 704 then val_main_v3 (F := Ideal) x w u (ix3 0 ⟨k.val - 112, by omega⟩ (from_ q h.2)) else (0 : EReal) := by
  pointwise [val_main_v14, val_main_v15, val_main_c_3, val_main_call5_v0, val_main_v16, val_main_v17, val_main_c_4, val_main_call6_v0, val_main_v18, val_main_v19]
  have hr := k.isLt
  simp only [sitofp_zero]
  split_ifs <;> first | (exfalso; omega) | rfl
end reference

/-- The three result arrays. -/
theorem fg_read (c : Dev nD) (k : Fin 2176) (q : Fin 3072) : fg m c k q
    = if h : 112 ≤ k.val ∧ q.val % 768 < 704 then val_main_v0 (F := Ideal) (m ((c : Thread nD τ).loc main_arg0)) (m ((c : Thread nD τ).loc main_arg1)) (ix3 0 ⟨k.val - 112, by omega⟩ (from_ q h.2)) else (0 : EReal) := by
  unfold fg
  by_cases h1 : 112 ≤ k.val
  · by_cases h2 : q.val % 768 < 704
    · rw [dif_pos ⟨h1, h2⟩, val_main_v0_read]
      refine Finset.sum_congr rfl fun s _ => ?_
      exact congrArg₂ times ((x_read m c k s).trans (dif_pos h1)) ((v5_read m c _ _ s).trans (dif_pos h2))
    · rw [dif_neg fun e => h2 e.2]
      refine Finset.sum_eq_zero fun s _ => ?_
      exact (congrArg₂ times rfl ((v5_read m c _ _ s).trans (dif_neg h2))).trans (mul_zero _)
  · rw [dif_neg fun e => h1 e.1]
    refine Finset.sum_eq_zero fun s _ => ?_
    exact (congrArg₂ times ((x_read m c k s).trans (dif_neg h1)) rfl).trans (zero_mul _)
theorem fu_read (c : Dev nD) (k : Fin 2176) (q : Fin 3072) : fu m c k q
    = if h : 112 ≤ k.val ∧ q.val % 768 < 704 then val_main_v1 (F := Ideal) (m ((c : Thread nD τ).loc main_arg0)) (m ((c : Thread nD τ).loc main_arg2)) (ix3 0 ⟨k.val - 112, by omega⟩ (from_ q h.2)) else (0 : EReal) := by
  unfold fu
  by_cases h1 : 112 ≤ k.val
  · by_cases h2 : q.val % 768 < 704
    · rw [dif_pos ⟨h1, h2⟩, val_main_v1_read]
      refine Finset.sum_congr rfl fun s _ => ?_
      exact congrArg₂ times ((x_read m c k s).trans (dif_pos h1)) ((v9_read m c _ _ s).trans (dif_pos h2))
    · rw [dif_neg fun e => h2 e.2]
      refine Finset.sum_eq_zero fun s _ => ?_
      exact (congrArg₂ times rfl ((v9_read m c _ _ s).trans (dif_neg h2))).trans (mul_zero _)
  · rw [dif_neg fun e => h1 e.1]
    refine Finset.sum_eq_zero fun s _ => ?_
    exact (congrArg₂ times ((x_read m c k s).trans (dif_neg h1)) rfl).trans (zero_mul _)
theorem fa_read (c : Dev nD) (k : Fin 2176) (q : Fin 3072) : fa m c k q
    = if h : 112 ≤ k.val ∧ q.val % 768 < 704 then val_main_v3 (F := Ideal) (m ((c : Thread nD τ).loc main_arg0)) (m ((c : Thread nD τ).loc main_arg1)) (m ((c : Thread nD τ).loc main_arg2)) (ix3 0 ⟨k.val - 112, by omega⟩ (from_ q h.2)) else (0 : EReal) := by
  unfold fa
  rw [fg_read, fu_read]
  by_cases h : 112 ≤ k.val ∧ q.val % 768 < 704
  · rw [dif_pos h, dif_pos h, dif_pos h, val_main_v3_read]
  · rw [dif_neg h, dif_neg h, dif_neg h]
    exact mul_zero _
theorem final3 (c : Dev nD) : (dats m 0 c).arrAt 3 (cfgs 0).N = val_main_v8 (F := Ideal) (m ((c : Thread nD τ).loc main_arg0)) (m ((c : Thread nD τ).loc main_arg1)) := by
  rw [arr3]
  funext i
  idx_vars i
  rw [val_main_v8_layout]
  exact fg_read m c i0 i1
theorem final4 (c : Dev nD) : (dats m 0 c).arrAt 4 (cfgs 0).N = val_main_v13 (F := Ideal) (m ((c : Thread nD τ).loc main_arg0)) (m ((c : Thread nD τ).loc main_arg2)) := by
  rw [arr4]
  funext i
  idx_vars i
  rw [val_main_v13_layout]
  exact fu_read m c i0 i1
theorem final5 (c : Dev nD) : (dats m 0 c).arrAt 5 (cfgs 0).N = val_main_v19 (F := Ideal) (m ((c : Thread nD τ).loc main_arg0)) (m ((c : Thread nD τ).loc main_arg1)) (m ((c : Thread nD τ).loc main_arg2)) := by
  rw [arr5]
  funext i
  idx_vars i
  rw [val_main_v19_layout]
  exact fa_read m c i0 i1

end Cert.FfnfKernelIdeal.Value
-- ==== Proof.FfnfClaim.lean ====
/- The feed-forward's products and gated activation are the reference's. -/
module

public import proofs.«01_k».proof.Defs
public import proofs.«01_k».proof.Proof.FfnfFinal
public import proofs.«01_k».proof.Proof.Gen.FfnfReferenceIdeal.Read

@[expose] public section

set_option maxRecDepth 16384

noncomputable section

open Idealize.ShloMosaic Idealize.ShloMosaic.TcCoe Idealize.SL.Sem
open Idealize.ShloMosaic.Pipeline (Dat)

namespace Cert.FfnfReferenceIdeal.Read

open Cert.FfnfReferenceIdeal Cert.FfnfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v8) = val_main_v8 (F := Ideal) (m ((c.tc : Thread nD τ).loc main_arg0)) (m ((c.tc : Thread nD τ).loc main_arg1))
      ∧ r.2.mem ((c.tc : Thread nD τ).loc main_v13) = val_main_v13 (F := Ideal) (m ((c.tc : Thread nD τ).loc main_arg0)) (m ((c.tc : Thread nD τ).loc main_arg2))
      ∧ r.2.mem ((c.tc : Thread nD τ).loc main_v19) = val_main_v19 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v8_eq _ _), (h c).2.1.trans (val_main_v13_eq _ _), (h c).2.2.1.trans (val_main_v19_eq _ _ _), (h c).2.2.2⟩) (Value.run m ρ)

end Cert.FfnfReferenceIdeal.Read

namespace Cert.FfnfKernelIdeal.Value

/-- The feed-forward's products and gated activation are the reference's. -/
theorem algebraic : Cert.algebraic_FfnfKernelIdeal_FfnfReferenceIdeal := by
  pair_intro
  · run_from Cert.FfnfKernelIdeal.Gen.run_main m g & Cert.FfnfKernelIdeal.Gen.unchanged m g
  · run_from Cert.FfnfReferenceIdeal.Read.run m' g'
    · exact (final3 m c).symm
    · exact (final4 m c).symm
    · exact (final5 m c).symm

end Cert.FfnfKernelIdeal.Value
-- ==== Proof.DtfValue.lean ====
/- The step size's forward call: what the kernel's two result arrays hold, as functions of its operands. -/
module

public import proofs.«01_k».proof.Proof.Gen.DtfKernelIdeal.Frame
public import Idealize.ShloMosaic.Lib.Pipeline.ValueKit
public import Idealize.ShloMosaic.Lib.Pointwise
public import proofs.«01_k».proof.Proof.Reals

@[expose] public section

set_option maxRecDepth 16384

noncomputable section

open Idealize.ShloMosaic Idealize.ShloMosaic.TcCoe Idealize.SL.Sem
open Idealize.ShloMosaic.Pipeline (Dat)

namespace Cert.DtfKernelIdeal.Value

open Cert.DtfKernelIdeal Cert.DtfKernelIdeal.Gen Cert.Reals

/-- The softplus of a biased input. -/
def soft (x b : EReal) : EReal := max (x + b) 0 + Ideal.log1p (Ideal.exp (-FloatOps.absf (F := Ideal) (φ := .f32) (x + b)))

section block
variable (X : FVec Ideal S2176x128 .f32) (B : FVec Ideal S1x128 .f32) (r : Fin 2176) (q : Fin 128)

theorem pay1_apply : k0_pay1 (F := Ideal) X B (ix2 r q) = if 112 ≤ r.val then soft (X (ix2 r q)) (B (ix2 0 q)) else 0 := by
  pointwise [k0_pay1]
  refine (select_sge_ofNat _ _ (by have := r.isLt; omega) (by decide) _ _).trans ?_
  refine congrArg (fun k : EReal => if 112 ≤ r.val then k else 0) ?_
  unfold soft
  rw [← zero_sub (FloatOps.absf _)]
  rfl
theorem pay2_apply : k0_pay2 (F := Ideal) X B (ix2 q r) = k0_pay1 (F := Ideal) X B (ix2 r q) := by
  pointwise [k0_pay2]
end block

variable (m : (ℓ : Loc nD τ sig) → Buf (Elt Ideal) ℓ)

/-- The one point's blocks: the input's starts at column 2432 of its array, the others are whole. -/
theorem idx : ∀ t : Fin cfg0.N, win0_0.index t = ![0, 19] ∧ win0_1.index t = ![0, 0] ∧ win0_2.index t = ![0, 0] ∧ win0_3.index t = ![0, 0] :=
  (by decide +kernel : ∀ t : Fin grid0.N, _)

/-- The step size at a row and a column. -/
def fdt (c : Dev nD) (r : Fin 2176) (q : Fin 128) : EReal :=
  if 112 ≤ r.val then soft (V m c main_v1 (ix2 r ⟨q.val + 2432, by omega⟩)) (V m c main_v3 (ix2 0 q)) else 0

section point
variable (c : Dev nD) (t : Fin cfg0.N) (r : Fin 2176) (q : Fin 128)

/-- The blocks the two input windows hold. -/
theorem blk0 : View.ld (iblk m c 0 t) r0_0 (ix2 r q) = V m c main_v1 (ix2 r ⟨q.val + 2432, by omega⟩) := by
  blk_point [iblk, V, idx t]
theorem blk1 : View.ld (iblk m c 1 t) r0_1 (ix2 0 q) = V m c main_v3 (ix2 0 q) := by
  blk_point [iblk, V, idx t]
theorem pay1_blk : k0_pay1 (F := Ideal) (View.ld (iblk m c 0 t) r0_0) (View.ld (iblk m c 1 t) r0_1) (ix2 r q) = fdt m c r q :=
  (pay1_apply _ _ r q).trans (congrArg (fun k : EReal => if 112 ≤ r.val then k else 0) (congr (congrArg soft (blk0 m c t r q)) (blk1 m c t q)))

/-- What the point leaves in the results' staging buffers. -/
theorem point2 : out0_2 (iblk m c 0 t) (iblk m c 1 t) (ix2 r q) = fdt m c r q := by
  unfold out0_2
  canon_tiles z hz
  have ez : z = ix2 r q := (eq_ix2 z).trans (congrArg₂ ix2 (Fin.ext (by have : r.val = (z 0).val := hz0; omega)) (Fin.ext (by have : q.val = (z 1).val := hz1; omega)))
  rw [ez]
  exact pay1_blk m c t r q
theorem point3 : out0_3 (iblk m c 0 t) (iblk m c 1 t) (ix2 q r) = fdt m c r q := by
  unfold out0_3
  canon_tiles z hz
  have ez : z = ix2 q r := (eq_ix2 z).trans (congrArg₂ ix2 (Fin.ext (by have : q.val = (z 0).val := hz0; omega)) (Fin.ext (by have : r.val = (z 1).val := hz1; omega)))
  rw [ez]
  exact (pay2_apply _ _ r q).trans (pay1_blk m c t r q)
end point

/-- The step sizes by rows, -/
theorem arr2 (c : Dev nD) : (dats m 0 c).arrAt 2 (cfgs 0).N = fun i : S2176x128.Idx => fdt m c (i 0) (i 1) := by
  refine (dats m 0 c).arrAt_eq_of_covers 2 _ (by decide +kernel) fun t _ y => ?_
  blk_simp
  rw [after0_2]
  refine Eq.trans ((congrArg _ (eq_ix2 y)).trans (point2 m c t (y 0) (y 1))) (congrArg₂ (fdt m c) (Fin.ext ?_) (Fin.ext ?_))
  · blk_simp [idx t] <;> try omega
  · blk_simp [idx t] <;> try omega
/-- and by columns. -/
theorem arr3 (c : Dev nD) : (dats m 0 c).arrAt 3 (cfgs 0).N = fun i : S128x2176.Idx => fdt m c (i 1) (i 0) := by
  refine (dats m 0 c).arrAt_eq_of_covers 3 _ (by decide +kernel) fun t _ y => ?_
  blk_simp
  rw [after0_3]
  refine Eq.trans ((congrArg _ (eq_ix2 y)).trans (point3 m c t (y 1) (y 0))) (congrArg₂ (fdt m c) (Fin.ext ?_) (Fin.ext ?_))
  · blk_simp [idx t] <;> try omega
  · blk_simp [idx t] <;> try omega

/-- The program's two results: the call's arrays, cut to their first eight columns and rows. -/
theorem tail5 (c : Dev nD) : Pipeline.afterTail₀ cfgs (dats m) 0 (V0 m) [hostOps1] c main_v5 = fun i : S2176x8.Idx => fdt m c (i 0) ⟨(i 1).val, by have : (i 1).val < 8 := (i 1).isLt; omega⟩ := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v4_0) = (dats m 0 c).arrAt 2 (cfgs 0).N from
    Pipeline.withArrays_arr (cfgs 0).spec (by decide) c (V0 m c) (fun w => (dats m 0 c).arrAt w (cfgs 0).N) 2, arr2]
  funext i
  idx_vars i
  pointwise []
theorem tail6 (c : Dev nD) : Pipeline.afterTail₀ cfgs (dats m) 0 (V0 m) [hostOps1] c main_v6 = fun i : S8x2176.Idx => fdt m c (i 1) ⟨(i 0).val, by have : (i 0).val < 8 := (i 0).isLt; omega⟩ := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v4_1) = (dats m 0 c).arrAt 3 (cfgs 0).N from
    Pipeline.withArrays_arr (cfgs 0).spec (by decide) c (V0 m c) (fun w => (dats m 0 c).arrAt w (cfgs 0).N) 3, arr3]
  funext i
  idx_vars i
  pointwise []

end Cert.DtfKernelIdeal.Value
-- ==== Proof.DtfFinal.lean ====
/- The step size's forward call: the program's two results are the reference's. -/
module

public import proofs.«01_k».proof.Proof.DtfValue
public import proofs.«01_k».proof.Proof.Gen.DtfReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DtfKernelIdeal.Value

open Cert.DtfKernelIdeal Cert.DtfKernelIdeal.Gen Cert.DtfReferenceIdeal.Read Cert.Reals

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the input in columns 2432 to 2439 below 112 rows of zeros, -/
theorem V1 (c : Dev nD) (r : Fin 2176) (q : Fin 128) : V m c main_v1 (ix2 r ⟨q.val + 2432, by omega⟩)
    = if h : 112 ≤ r.val ∧ q.val < 8 then m ((c : Thread nD τ).loc main_arg0) (ix3 0 ⟨r.val - 112, by omega⟩ ⟨q.val, h.2⟩) else (0 : EReal) := by
  unfold V V0
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | rfl | (exfalso; omega)
/-- and the bias. -/
theorem V3 (c : Dev nD) (q : Fin 128) : V m c main_v3 (ix2 0 q) = if h : q.val < 8 then m ((c : Thread nD τ).loc main_arg1) (ix1 ⟨q.val, h⟩) else (0 : EReal) := by
  unfold V V0
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]

variable (x : FVec Ideal S1x2064x8 .f32) (b : FVec Ideal S8 .f32)

theorem soft_eq (r : Fin 2064) (q : Fin 8) : val_main_v3 (F := Ideal) x b (ix3 0 r q) = soft (x (ix3 0 r q)) (b (ix1 q)) := by
  pointwise [val_main_v0, val_main_v1, val_main_v2, val_main_call0_cst, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_v3]
  rw [if_neg (by simp)]
  rfl
theorem read5 (k : Fin 2176) (q : Fin 8) : val_main_v5 (F := Ideal) x b (ix2 k q)
    = if h : 112 ≤ k.val then soft (x (ix3 0 ⟨k.val - 112, by omega⟩ q)) (b (ix1 q)) else (0 : EReal) := by
  pointwise [val_main_v4, val_main_c, val_main_call1_v0, val_main_v5]
  have hr := k.isLt
  simp only [sitofp_zero]
  split_ifs <;> first | exact soft_eq _ _ _ _ | rfl | (exfalso; omega)

/-- The step size at a row and a column, of the program's arguments. -/
theorem fdt_eq (c : Dev nD) (k : Fin 2176) (q : Fin 8) : fdt m c k ⟨q.val, by omega⟩ = val_main_v5 (F := Ideal) (m ((c : Thread nD τ).loc main_arg0)) (m ((c : Thread nD τ).loc main_arg1)) (ix2 k q) := by
  unfold fdt
  rw [V1, V3, read5]
  have hq := q.isLt
  by_cases h1 : 112 ≤ k.val
  · simp only [h1, hq, and_self, if_true, dite_true]
  · rw [if_neg h1, dif_neg h1]
theorem final5 (c : Dev nD) : Pipeline.afterTail₀ cfgs (dats m) 0 (V0 m) [hostOps1] c main_v5 = val_main_v5 (F := Ideal) (m ((c : Thread nD τ).loc main_arg0)) (m ((c : Thread nD τ).loc main_arg1)) := by
  rw [tail5]
  funext i
  idx_vars i
  exact fdt_eq m c i0 i1
theorem final6 (c : Dev nD) : Pipeline.afterTail₀ cfgs (dats m) 0 (V0 m) [hostOps1] c main_v6 = val_main_v6 (F := Ideal) (m ((c : Thread nD τ).loc main_arg0)) (m ((c : Thread nD τ).loc main_arg1)) := by
  rw [tail6]
  funext i
  idx_vars i
  pointwise [val_main_v6]
  exact fdt_eq m c i1 i0

end Cert.DtfKernelIdeal.Value
-- ==== Proof.DtfClaim.lean ====
/- The step size's forward call: the two results are the reference's. -/
module

public import proofs.«01_k».proof.Defs
public import proofs.«01_k».proof.Proof.DtfFinal
public import proofs.«01_k».proof.Proof.Gen.DtfReferenceIdeal.Read

@[expose] public section

set_option maxRecDepth 16384

noncomputable section

open Idealize.ShloMosaic Idealize.ShloMosaic.TcCoe Idealize.SL.Sem
open Idealize.ShloMosaic.Pipeline (Dat)

namespace Cert.DtfReferenceIdeal.Read

open Cert.DtfReferenceIdeal Cert.DtfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (val_main_v5_eq _ _), (h c).2.1.trans (val_main_v6_eq _ _), (h c).2.2⟩) (Value.run m ρ)

end Cert.DtfReferenceIdeal.Read

namespace Cert.DtfKernelIdeal.Value

/-- The step size's forward call: the two results are the reference's. -/
theorem algebraic : Cert.algebraic_DtfKernelIdeal_DtfReferenceIdeal := by
  pair_intro
  · run_from Cert.DtfKernelIdeal.Gen.run_main m g & Cert.DtfKernelIdeal.Gen.unchanged m g
  · run_from Cert.DtfReferenceIdeal.Read.run m' g'
    · exact (final5 m c).symm
    · exact (final6 m c).symm

end Cert.DtfKernelIdeal.Value
-- ==== Proof.ConvfValue.lean ====
/- The convolution's forward call: what the kernel's result array holds, as a function of its operands. -/
module

public import proofs.«01_k».proof.Proof.Gen.ConvfKernelIdeal.Frame
public import Idealize.ShloMosaic.Lib.Pipeline.ValueKit
public import Idealize.ShloMosaic.Lib.Pointwise
public import proofs.«01_k».proof.Proof.Reals
public import proofs.«01_k».proof.Proof.ConvValue

@[expose] public section

set_option maxRecDepth 16384

noncomputable section

open Idealize.ShloMosaic Idealize.ShloMosaic.TcCoe Idealize.SL.Sem
open Idealize.ShloMosaic.Pipeline (Dat)

namespace Cert.ConvfKernelIdeal.Value

open Cert.ConvfKernelIdeal Cert.ConvfKernelIdeal.Gen Cert.Reals
open Cert.ConvKernelIdeal.Value (pad pre sg back)

variable (m : (ℓ : Loc nD τ sig) → Buf (Elt Ideal) ℓ)

/-- The windows' blocks move together along the columns; the signal's columns start at column 512 of its array. -/
theorem idx : ∀ t : Fin cfg0.N, win0_0.index t = ![0, t.val + 4] ∧ win0_1.index t = ![0, t.val] ∧ win0_2.index t = ![0, t.val] ∧ win0_3.index t = ![0, t.val] :=
  (by decide +kernel : ∀ t : Fin grid0.N, _)

/-- The operands' channels. -/
def chx (c : Dev nD) (q : Fin 768) (r : Fin 2176) : EReal := V m c main_v1 (ix2 r ⟨q.val + 512, by omega⟩)
def chw (c : Dev nD) (q : Fin 768) (k : Fin 4) : EReal := V m c main_arg1 (ix2 k q)
def chb (c : Dev nD) (q : Fin 768) : EReal := V m c main_v2 (ix2 0 q)

/-- The silu of a channel's convolution. -/
def act (x : Fin 2176 → EReal) (w : Fin 4 → EReal) (b : EReal) (r : Fin 2176) : EReal := pre x w b r * sg x w b r

section block
variable (X : FVec Ideal S2176x128 .f32) (b w3 w0 w1 w2 : FVec Ideal S1x128 .f32) (r : Fin 2176) (q : Fin 128)

/-- A block's channels and their taps. -/
def col (X : FVec Ideal S2176x128 .f32) (q : Fin 128) : Fin 2176 → EReal := fun r => X (ix2 r q)
def taps (w0 w1 w2 w3 : FVec Ideal S1x128 .f32) (q : Fin 128) : Fin 4 → EReal := ![w0 (ix2 0 q), w1 (ix2 0 q), w2 (ix2 0 q), w3 (ix2 0 q)]

/-- The zeros above a channel, as the kernel chooses them. -/
theorem sel (k : Fin 2176) : Scalar.select (IntOp.cmpi .sge (BitVec.ofNat 32 k.val) 112#32) (X (ix2 k q)) (0 : EReal) = pad (col X q) k :=
  select_sge_ofNat _ _ (by have := k.isLt; omega) (by decide) _ _
theorem sum_comm (b a3 a0 a1 a2 : EReal) : b + a3 + a0 + a1 + a2 = b + a0 + a1 + a2 + a3 := by ac_rfl
theorem pay1_apply : k0_pay1 (F := Ideal) X b w3 w0 w1 w2 (ix2 r q) = act (col X q) (taps w0 w1 w2 w3 q) (b (ix2 0 q)) r := by
  have e : b (ix2 0 q) + w3 (ix2 0 q) * pad (col X q) r + w0 (ix2 0 q) * pad (col X q) (back 3 r) + w1 (ix2 0 q) * pad (col X q) (back 2 r) + w2 (ix2 0 q) * pad (col X q) (back 1 r)
      = pre (col X q) (taps w0 w1 w2 w3 q) (b (ix2 0 q)) r := sum_comm _ _ _ _ _
  unfold act sg
  rw [← e]
  simp only [← sel]
  pointwise [k0_pay1]
  rfl
end block

/-- The blocks the input windows hold at a point, and where their channels come from. -/
theorem col0 (c : Dev nD) (t : Fin cfg0.N) (q : Fin 128) (h : t.val * 128 + q.val < 768) :
    col (View.ld (iblk m c 0 t) r0_0) q = chx m c ⟨t.val * 128 + q.val, h⟩ := by
  funext r
  blk_point [col, chx, iblk, V, idx t]
theorem taps1 (c : Dev nD) (t : Fin cfg0.N) (q : Fin 128) (h : t.val * 128 + q.val < 768) :
    taps (View.ld (iblk m c 1 t) r0_3) (View.ld (iblk m c 1 t) r0_4) (View.ld (iblk m c 1 t) r0_5) (View.ld (iblk m c 1 t) r0_2) q
      = chw m c ⟨t.val * 128 + q.val, h⟩ := by
  funext k
  have e : k = 0 ∨ k = 1 ∨ k = 2 ∨ k = 3 := by fin_cases k <;> simp
  rcases e with rfl | rfl | rfl | rfl
  · show View.ld (iblk m c 1 t) r0_3 (ix2 0 q) = _
    blk_point [chw, iblk, V, idx t]
  · show View.ld (iblk m c 1 t) r0_4 (ix2 0 q) = _
    blk_point [chw, iblk, V, idx t]
  · show View.ld (iblk m c 1 t) r0_5 (ix2 0 q) = _
    blk_point [chw, iblk, V, idx t]
  · show View.ld (iblk m c 1 t) r0_2 (ix2 0 q) = _
    blk_point [chw, iblk, V, idx t]
theorem bias2 (c : Dev nD) (t : Fin cfg0.N) (q : Fin 128) (h : t.val * 128 + q.val < 768) :
    View.ld (iblk m c 2 t) r0_1 (ix2 0 q) = chb m c ⟨t.val * 128 + q.val, h⟩ := by
  blk_point [chb, iblk, V, idx t]

/-- The result's channels. -/
def fy (c : Dev nD) (r : Fin 2176) (q : Fin 768) : EReal := act (chx m c q) (chw m c q) (chb m c q) r

/-- What a point leaves in the result's staging buffer. -/
theorem point3 (c : Dev nD) (t : Fin cfg0.N) (q : Fin 128) (h : t.val * 128 + q.val < 768) (r : Fin 2176) :
    out0_3 (iblk m c 0 t) (iblk m c 1 t) (iblk m c 2 t) (ix2 r q) = fy m c r ⟨t.val * 128 + q.val, h⟩ := by
  unfold out0_3
  canon_tiles z hz
  have ez : z = ix2 r q := (eq_ix2 z).trans (congrArg₂ ix2 (Fin.ext (by have : r.val = (z 0).val := hz0; omega)) (Fin.ext (by have : q.val = (z 1).val := hz1; omega)))
  rw [ez]
  exact (pay1_apply _ _ _ _ _ _ r q).trans (congrFun (congr (congr (congrArg act (col0 m c t q h)) (taps1 m c t q h)) (bias2 m c t q h)) r)

/-- The convolved signal, channel by channel. -/
theorem arr3 (c : Dev nD) : (dats m 0 c).arrAt 3 (cfgs 0).N = fun i : S2176x768.Idx => fy m c (i 0) (i 1) := by
  refine (dats m 0 c).arrAt_eq_of_covers 3 _ (by decide +kernel) fun t _ y => ?_
  blk_simp
  rw [after0_3]
  have hq : t.val * 128 + (y 1).val < 768 := by have : t.val < 6 := t.isLt; have : (y 1).val < 128 := (y 1).isLt; omega
  refine Eq.trans ((congrArg _ (eq_ix2 y)).trans (point3 m c t (y 1) hq (y 0))) (congrArg₂ (fy m c) (Fin.ext ?_) (Fin.ext ?_))
  · blk_simp [idx t] <;> try omega
  · blk_simp [idx t] <;> try omega

/-- The program's result: the call's array below its first 112 rows. -/
theorem tail4 (c : Dev nD) : Pipeline.afterTail₀ cfgs (dats m) 0 (V0 m) [hostOps1] c main_v4 = fun i : S2064x768.Idx => fy m c ⟨(i 0).val + 112, by have : (i 0).val < 2064 := (i 0).isLt; omega⟩ (i 1) := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v3) = (dats m 0 c).arrAt 3 (cfgs 0).N from
    Pipeline.withArrays_arr (cfgs 0).spec (by decide) c (V0 m c) (fun w => (dats m 0 c).arrAt w (cfgs 0).N) 3, arr3]
  funext i
  idx_vars i
  pointwise []
  exact congrArg (fun k => fy m c k i1) (Fin.ext (Nat.add_comm _ _))

end Cert.ConvfKernelIdeal.Value
-- ==== Proof.ConvfFinal.lean ====
/- The convolution's forward call: the program's result is the reference's. -/
module

public import proofs.«01_k».proof.Proof.ConvfValue
public import proofs.«01_k».proof.Proof.ConvFinal
public import proofs.«01_k».proof.Proof.Gen.ConvfReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ConvfKernelIdeal.Value

open Cert.ConvfKernelIdeal Cert.ConvfKernelIdeal.Gen Cert.ConvfReferenceIdeal.Read Cert.Reals
open Cert.ConvKernelIdeal.Value (pad pre sg back under tap bia below pad_up pad_at pre_comm sitofp_zero)

variable (m : (ℓ : Loc nD τ sig) → Buf (Elt Ideal) ℓ)

/-- The operands: the signal's channels from column 512 on, -/
theorem chx_eq (c : Dev nD) (q : Fin 768) : chx m c q = under (m ((c : Thread nD τ).loc main_arg0)) q := by
  funext r
  unfold chx V V0
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise [under]
  have hr := r.isLt
  have hq := q.isLt
  by_cases h1 : 112 ≤ r.val
  · rw [dif_pos (by omega), if_pos h1]; rfl
  · rw [dif_neg (by omega), if_neg h1]; exact sitofp_zero
/-- the bias and the taps. -/
theorem chb_eq (c : Dev nD) (q : Fin 768) : chb m c q = bia (m ((c : Thread nD τ).loc main_arg2)) q := by
  unfold chb V V0
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise [bia]
theorem chw_eq (c : Dev nD) (q : Fin 768) : chw m c q = tap (m ((c : Thread nD τ).loc main_arg1)) q := by
  funext k
  unfold chw tap
  rw [V_main_arg1]

variable (x : FVec Ideal S1x2064x768 .f32) (w : FVec Ideal S4x768 .f32) (b : FVec Ideal S768 .f32) (r : Fin 2064) (q : Fin 768)

/-- The reference's four shifted signals. -/
theorem sh2 : val_main_v2 (F := Ideal) x (ix3 0 r q) = pad (under x q) (back 3 (below r)) := by
  have e0 := pad_up x r q 0 (by omega)
  simp only [Nat.zero_add, Nat.sub_zero] at e0
  pointwise [val_main_cst, val_main_v0, val_main_v1, val_main_v2]
  exact e0.symm
theorem sh10 : val_main_v10 (F := Ideal) x (ix3 0 r q) = pad (under x q) (back 2 (below r)) := by
  pointwise [val_main_cst, val_main_v0, val_main_v1, val_main_v10]
  exact (pad_up x r q 1 (by omega)).symm
theorem sh17 : val_main_v17 (F := Ideal) x (ix3 0 r q) = pad (under x q) (back 1 (below r)) := by
  pointwise [val_main_cst, val_main_v0, val_main_v1, val_main_v17]
  exact (pad_up x r q 2 (by omega)).symm
theorem sh24 : val_main_v24 (F := Ideal) x (ix3 0 r q) = pad (under x q) (below r) := by
  pointwise [val_main_cst, val_main_v0, val_main_v1, val_main_v24]
  exact (pad_at x r q).symm

/-- The reference's convolution, -/
theorem pre_eq : val_main_v33 (F := Ideal) x w b (ix3 0 r q) = pre (under x q) (tap w q) (bia b q) (below r) := by
  pointwise [val_main_v3, val_main_v4, val_main_v5, val_main_v6, val_main_v7, val_main_cst_0, val_main_v8, val_main_v9, val_main_v11, val_main_v12, val_main_v13, val_main_v14, val_main_v15, val_main_v16, val_main_v18, val_main_v19, val_main_v20, val_main_v21, val_main_v22, val_main_v23, val_main_v25, val_main_v26, val_main_v27, val_main_v28, val_main_v29, val_main_v30, val_main_v31, val_main_v32, val_main_v33]
  rw [sh2, sh10, sh17, sh24, pre]
  exact pre_comm _ _ _ _ _ _ _ _ _
/-- and its silu. -/
theorem act_eq : val_main_v35 (F := Ideal) x w b (ix2 r q) = act (under x q) (tap w q) (bia b q) (below r) := by
  pointwise [val_main_call0_v0, val_main_call0_v1, val_main_call0_cst, val_main_call0_v2, val_main_call0_v3, val_main_call0_cst_0, val_main_call0_v4, val_main_call0_v5, val_main_v34, val_main_v35]
  rw [pre_eq, act, sg, zero_sub]
theorem final4 (c : Dev nD) : Pipeline.afterTail₀ cfgs (dats m) 0 (V0 m) [hostOps1] c main_v4 = val_main_v35 (F := Ideal) (m ((c : Thread nD τ).loc main_arg0)) (m ((c : Thread nD τ).loc main_arg1)) (m ((c : Thread nD τ).loc main_arg2)) := by
  rw [tail4]
  funext i
  idx_vars i
  show fy m c (below i0) i1 = _
  unfold fy
  rw [act_eq, chx_eq, chw_eq, chb_eq]

end Cert.ConvfKernelIdeal.Value
-- ==== Proof.ConvfClaim.lean ====
/- The convolution's forward call: the result is the reference's. -/
module

public import proofs.«01_k».proof.Defs
public import proofs.«01_k».proof.Proof.ConvfFinal
public import proofs.«01_k».proof.Proof.Gen.ConvfReferenceIdeal.Read

@[expose] public section

set_option maxRecDepth 16384

noncomputable section

open Idealize.ShloMosaic Idealize.ShloMosaic.TcCoe Idealize.SL.Sem
open Idealize.ShloMosaic.Pipeline (Dat)

namespace Cert.ConvfReferenceIdeal.Read

open Cert.ConvfReferenceIdeal Cert.ConvfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35) = val_main_v35 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v35_eq m c), (h c).2⟩) (Value.run m ρ)

end Cert.ConvfReferenceIdeal.Read

namespace Cert.ConvfKernelIdeal.Value

/-- The convolution's forward call: the result is the reference's. -/
theorem algebraic : Cert.algebraic_ConvfKernelIdeal_ConvfReferenceIdeal := by
  pair_intro
  · run_from Cert.ConvfKernelIdeal.Gen.run_main m g & Cert.ConvfKernelIdeal.Gen.unchanged m g
  · run_from Cert.ConvfReferenceIdeal.Read.run m' g'
    · exact (final4 m c).symm

end Cert.ConvfKernelIdeal.Value
-- ==== Proof.GatefValue.lean ====
/- The forget gate's forward call: what the kernel's two result arrays hold, as functions of its operands. -/
module

public import proofs.«01_k».proof.Proof.Gen.GatefKernelIdeal.Frame
public import Idealize.ShloMosaic.Lib.Pipeline.ValueKit
public import Idealize.ShloMosaic.Lib.Pointwise
public import proofs.«01_k».proof.Proof.Reals
public import proofs.«01_k».proof.Proof.GateValue

@[expose] public section

set_option maxRecDepth 16384

noncomputable section

open Idealize.ShloMosaic Idealize.ShloMosaic.TcCoe Idealize.SL.Sem
open Idealize.ShloMosaic.Pipeline (Dat)

namespace Cert.GatefKernelIdeal.Value

open Cert.GatefKernelIdeal Cert.GatefKernelIdeal.Gen Cert.Reals
open Cert.GateKernelIdeal.Value (sum_window)

/-- The logarithm of a biased input's logistic. -/
def lsig (x b : EReal) : EReal := -(max (-(x + b)) 0 + Ideal.log1p (Ideal.exp (-FloatOps.absf (F := Ideal) (φ := .f32) (-(x + b)))))

/-- The rows before `o`, and the `b` rows from `o` on: the rows before `o + b`. -/
theorem sum_before {N : ℕ} (o b o' : ℕ) (ho : o' = o + b) (h : o + b ≤ N) (f : Fin N → EReal) :
    (∑ s : Fin N, if s.val < o then f s else 0) + ∑ a : Fin b, f ⟨o + a.val, by have := a.isLt; omega⟩ = ∑ s : Fin N, if s.val < o' then f s else 0 := by
  subst ho
  rw [sum_window o b h, ← Finset.sum_add_distrib]
  refine Finset.sum_congr rfl fun s _ => ?_
  by_cases h1 : s.val < o
  · rw [if_pos h1, if_neg (by omega), if_pos (by omega), add_zero]
  · by_cases h2 : s.val < o + b
    · rw [if_neg h1, if_pos (by omega), if_pos h2, zero_add]
    · rw [if_neg h1, if_neg (by omega), if_neg h2, zero_add]

section block
variable (X : FVec Ideal S2176x128 .f32) (B : FVec Ideal S1x128 .f32)

/-- Chunk `n`'s rows of a row-major array, and of a transposed one. -/
abbrev nth (n : ℕ) : Fin 17 := ⟨min n 16, by omega⟩
abbrev row (j : Fin 17) : Rect S2176x128 := Rect.unit (s := S2176x128) ![j.val * 128, 0] S128x128.size
  (by intro a; have := j.isLt; fin_cases a <;> simp [Shape.size] <;> omega)
abbrev col (j : Fin 17) : Rect S128x2176 := Rect.unit (s := S128x2176) ![0, j.val * 128] S128x128.size
  (by intro a; have := j.isLt; fin_cases a <;> simp [Shape.size] <;> omega)

/-- Whether a chunk's row lies below the padding. -/
noncomputable def below (j : Fin 17) : IVec S128x128 1 :=
  cmpi .sge (addi (broadcast S128x128 (BitVec.ofNat 32 (j.val * 128))) (iota .tc S128x128 32 [0] iota_S128x128_d0_w32)) (broadcast S128x128 112#32)

/-- The two summands of a chunk's softplus. -/
noncomputable def hi (n : ℕ) : FVec Ideal S128x128 .f32 := k0_pay23 (View.ld X (row (nth n))) (View.ld B r0_1)
noncomputable def lo (n : ℕ) : FVec Ideal S128x128 .f32 := k0_pay24 (View.ld X (row (nth n))) (View.ld B r0_1)

/-- A chunk's gates. -/
noncomputable def gates (n : ℕ) : FVec Ideal S128x128 .f32 := k0_pay25 (below (nth n)) (hi X B n) (lo X B n)

/-- The column sum of the first `n` chunks. -/
noncomputable def carry : ℕ → FVec Ideal S1x128 .f32
  | 0 => k0_pay4
  | n + 1 => k0_pay20 (carry n) (gates X B n)

/-- What a chunk stores in either layout. -/
noncomputable def chunk (n : ℕ) : FVec Ideal S128x128 .f32 := k0_pay26 k0_pay3 (carry X B n) (below (nth n)) (hi X B n) (lo X B n)
noncomputable def chunkT (n : ℕ) : FVec Ideal S128x128 .f32 := k0_pay27 k0_pay3 (carry X B n) (below (nth n)) (hi X B n) (lo X B n)

theorem out2_eq : out0_2 X B = View.canon (List.ofFn fun j : Fin 17 => (⟨row ⟨16 - j.val, by omega⟩, chunk X B (16 - j.val)⟩ : View.Piece (Elt Ideal) S2176x128 .f32)) := by
  rfl
theorem out3_eq : out0_3 X B = View.canon (List.ofFn fun j : Fin 17 => (⟨col ⟨16 - j.val, by omega⟩, chunkT X B (16 - j.val)⟩ : View.Piece (Elt Ideal) S128x2176 .f32)) := by
  rfl

/-- A gate of the whole array, and its running sum. -/
def gate (s : Fin 2176) (q : Fin 128) : EReal := if 112 ≤ s.val then lsig (X (ix2 s q)) (B (ix2 0 q)) else 0
def upto (r : Fin 2176) (q : Fin 128) : EReal := ∑ s : Fin 2176, if s.val ≤ r.val then gate X B s q else 0

/-- A chunk's row of the whole array. -/
abbrev at_ (j : Fin 17) (a : Fin 128) : Fin 2176 := ⟨j.val * 128 + a.val, by have := j.isLt; have := a.isLt; omega⟩

theorem ld_row (A : FVec Ideal S2176x128 .f32) (j : Fin 17) (a q : Fin 128) : View.ld (Val := Elt Ideal) (e' := .f32) A (row j) (ix2 a q) = A (ix2 (at_ j a) q) := by
  rw [View.ld_apply]
  exact congrArg A (by funext k; fin_cases k <;> exact Fin.ext (by simp))
theorem ld_bias (A : FVec Ideal S1x128 .f32) (q : Fin 128) : View.ld (Val := Elt Ideal) (e' := .f32) A r0_1 (ix2 0 q) = A (ix2 0 q) := by
  rw [View.ld_apply]
  exact congrArg A (by funext k; fin_cases k <;> exact Fin.ext (by simp))

theorem gates_apply (n : ℕ) (a q : Fin 128) : gates X B n (ix2 a q) = gate X B (at_ (nth n) a) q := by
  unfold gates gate hi lo below lsig
  pointwise [k0_pay25, k0_pay24, k0_pay23, k0_pay22]
  rw [show IntOp.addi (BitVec.ofNat 32 (min n 16 * 128)) (BitVec.ofNat 32 a.val) = BitVec.ofNat 32 (min n 16 * 128 + a.val) from (BitVec.ofNat_add _ _).symm]
  refine (select_sge_ofNat _ _ (by have := a.isLt; omega) (by decide) _ _).trans ?_
  simp only [zero_sub]
  rfl
theorem pay20_apply (C : FVec Ideal S1x128 .f32) (g : FVec Ideal S128x128 .f32) (z : Fin 1) (q : Fin 128) :
    k0_pay20 (F := Ideal) C g (ix2 z q) = C (ix2 z q) + ∑ a : Fin 128, g (ix2 a q) := by
  pointwise [k0_pay20]
theorem carry_apply (n : ℕ) (hn : n ≤ 17) (z : Fin 1) (q : Fin 128) :
    carry X B n (ix2 z q) = ∑ s : Fin 2176, if s.val < n * 128 then gate X B s q else 0 := by
  induction n with
  | zero =>
    refine Eq.trans (by unfold carry; pointwise [k0_pay4]) (Finset.sum_eq_zero fun s _ => if_neg (by omega)).symm
  | succ n ih =>
    rw [carry, pay20_apply, ih (by omega), ← sum_before (n * 128) 128 ((n + 1) * 128) (by omega) (by omega)]
    congr 1
    refine Finset.sum_congr rfl fun a _ => ?_
    rw [gates_apply]
    exact congrArg (fun s => gate X B s q) (Fin.ext (by show min n 16 * 128 + a.val = n * 128 + a.val; omega))
theorem pay26_apply (C : FVec Ideal S1x128 .f32) (w : IVec S128x128 1) (u v : FVec Ideal S128x128 .f32) (a q : Fin 128)
    (h : ∀ k, k0_pay25 (F := Ideal) w u v (ix2 k q) - k0_pay25 (F := Ideal) w u v (ix2 k q) = 0) :
    k0_pay26 (F := Ideal) k0_pay3 C w u v (ix2 a q) = (∑ k : Fin 128, if k.val ≤ a.val then k0_pay25 (F := Ideal) w u v (ix2 k q) else 0) + C (ix2 0 q) := by
  unfold k0_pay26
  generalize k0_pay25 (F := Ideal) w u v = G at h ⊢
  pointwise [k0_pay3]
  simp only [h, sub_zero]
  have e : ∀ (k : Fin 128) (x : EReal), Scalar.select (IntOp.cmpi CmpIPredicate.sge (BitVec.ofNat 32 a.val) (BitVec.ofNat 32 k.val)) x 0 = if k.val ≤ a.val then x else 0 :=
    fun k x => select_sge_ofNat _ _ (by have := a.isLt; omega) (by have := k.isLt; omega) x 0
  simp only [e, ite_self, Finset.sum_const_zero, add_zero]
theorem chunkT_apply (n : ℕ) (a q : Fin 128) : chunkT X B n (ix2 q a) = chunk X B n (ix2 a q) := by
  unfold chunkT chunk
  pointwise [k0_pay27]

variable (h : ∀ s q, gate X B s q - gate X B s q = 0)
include h
theorem chunk_apply (n : ℕ) (hn : n < 17) (a q : Fin 128) : chunk X B n (ix2 a q) = upto X B (at_ (nth n) a) q := by
  unfold chunk
  rw [pay26_apply _ _ _ _ _ _ (fun k => by rw [← gates, gates_apply]; exact h _ _), carry_apply X B n (by omega)]
  have hm : min n 16 = n := by omega
  have e : ∀ k : Fin 128, (if k.val ≤ a.val then k0_pay25 (F := Ideal) (below (nth n)) (hi X B n) (lo X B n) (ix2 k q) else (0 : EReal))
      = (fun s : Fin 2176 => if s.val ≤ n * 128 + a.val then gate X B s q else 0) ⟨n * 128 + k.val, by have := k.isLt; omega⟩ := fun k => by
    rw [← gates, gates_apply]
    have es : at_ (nth n) k = ⟨n * 128 + k.val, by have := k.isLt; omega⟩ := Fin.ext (by show min n 16 * 128 + k.val = n * 128 + k.val; omega)
    rw [es]
    by_cases hk : k.val ≤ a.val
    · rw [if_pos hk]
      exact (if_pos (by show n * 128 + k.val ≤ n * 128 + a.val; omega)).symm
    · rw [if_neg hk]
      exact (if_neg (by show ¬ n * 128 + k.val ≤ n * 128 + a.val; omega)).symm
  rw [Finset.sum_congr rfl fun k _ => e k, sum_window (n * 128) 128 (by omega) (fun s : Fin 2176 => if s.val ≤ n * 128 + a.val then gate X B s q else 0), ← Finset.sum_add_distrib]
  unfold upto
  refine Finset.sum_congr rfl fun s _ => ?_
  have ha := a.isLt
  show _ = if s.val ≤ min n 16 * 128 + a.val then _ else _
  rw [hm]
  by_cases h1 : s.val < n * 128
  · rw [if_neg (by omega), if_pos h1, if_pos (by omega), zero_add]
  · by_cases h2 : s.val < n * 128 + 128
    · rw [if_pos (by omega), if_neg h1, add_zero]
    · rw [if_neg (by omega), if_neg h1, if_neg (by omega), add_zero]

theorem out2_apply (r : Fin 2176) (q : Fin 128) : out0_2 (F := Ideal) X B (ix2 r q) = upto X B r q := by
  have hr := r.isLt
  rw [out2_eq]
  refine View.canon_ofFn_unit_eq_of_forall (S := S2176x128) (Val := Elt Ideal) (e := .f32) (fun j : Fin 17 => ![(16 - j.val) * 128, 0]) S128x128.size
    (by intro j a; have := j.isLt; fin_cases a <;> simp [Shape.size] <;> omega) (fun j => chunk X B (16 - j.val)) (ix2 r q) (upto X B r q)
    ⟨⟨16 - r.val / 128, by omega⟩, fun a => ?_⟩ fun j z hz => ?_
  · have hq := q.isLt
    fin_cases a
    · show (16 - (16 - r.val / 128)) * 128 ≤ r.val ∧ r.val < (16 - (16 - r.val / 128)) * 128 + 128
      omega
    · show 0 ≤ q.val ∧ q.val < 0 + 128
      omega
  · have h0 : r.val = (16 - j.val) * 128 + (z 0).val := hz 0
    have h1 : q.val = 0 + (z 1).val := hz 1
    have hj := j.isLt
    refine (congrArg (chunk X B (16 - j.val)) (eq_ix2 z)).trans ((chunk_apply X B h (16 - j.val) (by omega) (z 0) (z 1)).trans (congrArg₂ (upto X B) (Fin.ext ?_) (Fin.ext ?_)))
    · show min (16 - j.val) 16 * 128 + (z 0).val = r.val
      omega
    · exact (h1.trans (Nat.zero_add _)).symm
theorem out3_apply (r : Fin 2176) (q : Fin 128) : out0_3 (F := Ideal) X B (ix2 q r) = upto X B r q := by
  have hr := r.isLt
  rw [out3_eq]
  refine View.canon_ofFn_unit_eq_of_forall (S := S128x2176) (Val := Elt Ideal) (e := .f32) (fun j : Fin 17 => ![0, (16 - j.val) * 128]) S128x128.size
    (by intro j a; have := j.isLt; fin_cases a <;> simp [Shape.size] <;> omega) (fun j => chunkT X B (16 - j.val)) (ix2 q r) (upto X B r q)
    ⟨⟨16 - r.val / 128, by omega⟩, fun a => ?_⟩ fun j z hz => ?_
  · have hq := q.isLt
    fin_cases a
    · show 0 ≤ q.val ∧ q.val < 0 + 128
      omega
    · show (16 - (16 - r.val / 128)) * 128 ≤ r.val ∧ r.val < (16 - (16 - r.val / 128)) * 128 + 128
      omega
  · have h1 : r.val = (16 - j.val) * 128 + (z 1).val := hz 1
    have h0 : q.val = 0 + (z 0).val := hz 0
    have hj := j.isLt
    refine (congrArg (chunkT X B (16 - j.val)) (eq_ix2 z)).trans ((chunkT_apply X B (16 - j.val) (z 1) (z 0)).trans ((chunk_apply X B h (16 - j.val) (by omega) (z 1) (z 0)).trans (congrArg₂ (upto X B) (Fin.ext ?_) (Fin.ext ?_))))
    · show min (16 - j.val) 16 * 128 + (z 1).val = r.val
      omega
    · exact (h0.trans (Nat.zero_add _)).symm
end block

variable (m : (ℓ : Loc nD τ sig) → Buf (Elt Ideal) ℓ)

/-- The one point's blocks: the input's starts at column 2560 of its array, the others are whole. -/
theorem idx : ∀ t : Fin cfg0.N, win0_0.index t = ![0, 20] ∧ win0_1.index t = ![0, 0] ∧ win0_2.index t = ![0, 0] ∧ win0_3.index t = ![0, 0] :=
  (by decide +kernel : ∀ t : Fin grid0.N, _)

/-- A gate and its running sum, of the arrays the call is given. -/
def fg (c : Dev nD) (s : Fin 2176) (q : Fin 128) : EReal :=
  if 112 ≤ s.val then lsig (V m c main_v1 (ix2 s ⟨q.val + 2560, by omega⟩)) (V m c main_v3 (ix2 0 q)) else 0
def fc (c : Dev nD) (r : Fin 2176) (q : Fin 128) : EReal := ∑ s : Fin 2176, if s.val ≤ r.val then fg m c s q else 0

section point
variable (c : Dev nD) (t : Fin cfg0.N) (r : Fin 2176) (q : Fin 128)

/-- The two input windows' blocks, as arrays. -/
noncomputable def X0 : FVec Ideal S2176x128 .f32 := iblk m c 0 t
noncomputable def B0 : FVec Ideal S1x128 .f32 := iblk m c 1 t
theorem blk0 : X0 m c t (ix2 r q) = V m c main_v1 (ix2 r ⟨q.val + 2560, by omega⟩) := by
  unfold X0; blk_point [iblk, V, idx t]
theorem blk1 : B0 m c t (ix2 0 q) = V m c main_v3 (ix2 0 q) := by
  unfold B0; blk_point [iblk, V, idx t]
theorem gate_eq : gate (X0 m c t) (B0 m c t) r q = fg m c r q :=
  congrArg (fun k : EReal => if 112 ≤ r.val then k else 0) (congrArg₂ lsig (blk0 m c t r q) (blk1 m c t q))
theorem upto_eq : upto (X0 m c t) (B0 m c t) r q = fc m c r q := by
  unfold upto fc
  simp only [gate_eq]

variable (h : ∀ s q, fg m c s q - fg m c s q = 0)
include h
/-- What the point leaves in the results' staging buffers. -/
theorem point2 : out0_2 (iblk m c 0 t) (iblk m c 1 t) (ix2 r q) = fc m c r q :=
  (out2_apply (X0 m c t) (B0 m c t) (fun s q => by rw [gate_eq]; exact h s q) r q).trans (upto_eq m c t r q)
theorem point3 : out0_3 (iblk m c 0 t) (iblk m c 1 t) (ix2 q r) = fc m c r q :=
  (out3_apply (X0 m c t) (B0 m c t) (fun s q => by rw [gate_eq]; exact h s q) r q).trans (upto_eq m c t r q)
end point

variable (c : Dev nD) (h : ∀ s q, fg m c s q - fg m c s q = 0)
include h
/-- The running sums by rows, -/
theorem arr2 : (dats m 0 c).arrAt 2 (cfgs 0).N = fun i : S2176x128.Idx => fc m c (i 0) (i 1) := by
  refine (dats m 0 c).arrAt_eq_of_covers 2 _ (by decide +kernel) fun t _ y => ?_
  blk_simp
  rw [after0_2]
  refine Eq.trans ((congrArg _ (eq_ix2 y)).trans (point2 m c t (y 0) (y 1) h)) (congrArg₂ (fc m c) (Fin.ext ?_) (Fin.ext ?_))
  · blk_simp [idx t] <;> try omega
  · blk_simp [idx t] <;> try omega
/-- and by columns. -/
theorem arr3 : (dats m 0 c).arrAt 3 (cfgs 0).N = fun i : S128x2176.Idx => fc m c (i 1) (i 0) := by
  refine (dats m 0 c).arrAt_eq_of_covers 3 _ (by decide +kernel) fun t _ y => ?_
  blk_simp
  rw [after0_3]
  refine Eq.trans ((congrArg _ (eq_ix2 y)).trans (point3 m c t (y 1) (y 0) h)) (congrArg₂ (fc m c) (Fin.ext ?_) (Fin.ext ?_))
  · blk_simp [idx t] <;> try omega
  · blk_simp [idx t] <;> try omega

/-- The program's two results: the call's arrays, cut to their first four columns and rows. -/
theorem tail5 : Pipeline.afterTail₀ cfgs (dats m) 0 (V0 m) [hostOps1] c main_v5 = fun i : S2176x4.Idx => fc m c (i 0) ⟨(i 1).val, by have : (i 1).val < 4 := (i 1).isLt; omega⟩ := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v4_0) = (dats m 0 c).arrAt 2 (cfgs 0).N from
    Pipeline.withArrays_arr (cfgs 0).spec (by decide) c (V0 m c) (fun w => (dats m 0 c).arrAt w (cfgs 0).N) 2, arr2 m c h]
  funext i
  idx_vars i
  pointwise []
theorem tail6 : Pipeline.afterTail₀ cfgs (dats m) 0 (V0 m) [hostOps1] c main_v6 = fun i : S4x2176.Idx => fc m c (i 1) ⟨(i 0).val, by have : (i 0).val < 4 := (i 0).isLt; omega⟩ := by
  unfold Pipeline.afterTail₀
  simp only [hostOps1, List.flatten_cons, List.flatten_nil, List.append_nil, List.cons_append, List.nil_append]
  after_results
  rw [show Pipeline.withArrays (cfgs 0).spec c (V0 m c) (fun w => (dats m 0 c).arrAt w (cfgs 0).N) (Proc.devRef .tc main_v4_1) = (dats m 0 c).arrAt 3 (cfgs 0).N from
    Pipeline.withArrays_arr (cfgs 0).spec (by decide) c (V0 m c) (fun w => (dats m 0 c).arrAt w (cfgs 0).N) 3, arr3 m c h]
  funext i
  idx_vars i
  pointwise []

end Cert.GatefKernelIdeal.Value
-- ==== Proof.Prefix.lean ====
/- The host's running sum along an axis. -/
module

public import proofs.«01_k».proof.Proof.Suffix

@[expose] public section

set_option maxRecDepth 16384

noncomputable section

open Idealize.ShloMosaic Idealize.ShloMosaic.TcCoe Idealize.SL.Sem
open Idealize.ShloMosaic.Pipeline (Dat)

namespace Cert.Reals

/-- A sum over the places of a window that ends at a place, counted from the window's start or from the axis's. -/
theorem sum_upto {N : ℕ} (M : ℕ) (hM : M + 1 = N) (r : Fin N) (x : Fin N → EReal) :
    ∑ k : Fin N, (if h : M ≤ r.val + k.val then x ⟨r.val + k.val - M, by have := r.isLt; have := k.isLt; omega⟩ else 0) = ∑ k : Fin N, if k.val ≤ r.val then x k else 0 := by
  classical
  have hr := r.isLt
  have e1 : ∀ k : Fin N, (if h : M ≤ r.val + k.val then x ⟨r.val + k.val - M, by have := r.isLt; have := k.isLt; omega⟩ else 0) = ∑ j : Fin N, if j.val + M = r.val + k.val then x j else 0 := fun k => by
    have hk := k.isLt
    split
    · next h => rw [Finset.sum_eq_single ⟨r.val + k.val - M, by omega⟩ (fun j _ hj => if_neg fun e => hj (Fin.ext (by show j.val = r.val + k.val - M; omega))) (fun h => absurd (Finset.mem_univ _) h), if_pos (by show r.val + k.val - M + M = r.val + k.val; omega)]
    · next h => exact (Finset.sum_eq_zero fun j _ => if_neg fun e => h (by omega)).symm
  have e2 : ∀ j : Fin N, (if j.val ≤ r.val then x j else 0) = ∑ k : Fin N, if j.val + M = r.val + k.val then x j else 0 := fun j => by
    have hj := j.isLt
    split
    · next h => rw [Finset.sum_eq_single ⟨j.val + M - r.val, by omega⟩ (fun k _ hk => if_neg fun e => hk (Fin.ext (by show k.val = j.val + M - r.val; omega))) (fun h => absurd (Finset.mem_univ _) h), if_pos (by show j.val + M = r.val + (j.val + M - r.val); omega)]
    · next h => exact (Finset.sum_eq_zero fun k _ => if_neg fun e => h (by have := k.isLt; omega)).symm
  simp only [e1, e2]
  exact Finset.sum_comm

/-- The host's window sum over the middle axis up to a place. -/
theorem hostReduceWindowAdd_upto {N n M : ℕ} (hM : M + 1 = N) (h : (⟨3, ![1, N, n]⟩ : Shape).ReduceWindows ![1, N, 1] ![1, 1, 1] ![0, M, 0] ![0, 0, 0] ⟨3, ![1, N, n]⟩)
    (x : (⟨3, ![1, N, n]⟩ : Shape).Idx → EReal) (z : Fin 1) (r : Fin N) (q : Fin n) :
    Ideal.hostReduceWindowAdd ![1, N, 1] ![1, 1, 1] ![0, M, 0] ![0, 0, 0] h x 0 (ix3 z r q) = ∑ k : Fin N, if k.val ≤ r.val then x (ix3 z k q) else 0 := by
  refine Eq.trans ?_ (sum_upto M hM r fun k => x (ix3 z k q))
  unfold Ideal.hostReduceWindowAdd Host.reduceWindow
  dsimp only
  rw [foldl_add, zero_add, ← List.ofFn_eq_map, List.sum_ofFn]
  refine (Fintype.sum_bijective (fun k : Fin N => (⟨3, ![1, N, 1]⟩ : Shape).rowMajor (ix3 0 k 0)) ?_ _ _ fun k => ?_).symm
  · refine (Equiv.bijective _).comp ⟨fun a b e => congrFun e 1, fun w => ⟨w 1, ?_⟩⟩
    refine Eq.trans ?_ (eq_ix3 w).symm
    exact congrArg₂ (fun a b => ix3 a (w 1) b) (Subsingleton.elim (α := Fin 1) _ _) (Subsingleton.elim (α := Fin 1) _ _)
  · simp only [Equiv.symm_apply_apply]
    have hr := r.isLt
    have hk' := k.isLt
    by_cases hk : M ≤ r.val + k.val
    · rw [dif_pos hk, dif_pos]
      · refine congrArg x (funext fun a => Fin.ext ?_)
        match a with
        | ⟨0, _⟩ => show z.val = z.val * 1 + 0 - 0; omega
        | ⟨1, _⟩ => show r.val + k.val - M = r.val * 1 + k.val - M; omega
        | ⟨2, _⟩ => show q.val = q.val * 1 + 0 - 0; omega
      · intro a
        match a with
        | ⟨0, _⟩ => exact ⟨Nat.zero_le _, by show z.val * 1 + 0 - 0 < 1; omega⟩
        | ⟨1, _⟩ => exact ⟨by show M ≤ r.val * 1 + k.val; omega, by show r.val * 1 + k.val - M < N; omega⟩
        | ⟨2, _⟩ => exact ⟨Nat.zero_le _, by show q.val * 1 + 0 - 0 < n; omega⟩
    · rw [dif_neg hk, dif_neg]
      intro hin
      have h1 : M ≤ r.val * 1 + k.val := (hin 1).1
      omega

end Cert.Reals
-- ==== Proof.GatefFinal.lean ====
/- The forget gate's forward call: the program's two results are the reference's. -/
module

public import proofs.«01_k».proof.Defs
public import proofs.«01_k».proof.Proof.GatefValue
public import proofs.«01_k».proof.Proof.Prefix
public import proofs.«01_k».proof.Proof.Gen.GatefReferenceIdeal.Read
public import proofs.«01_k».proof.Proof.Gen.Pre_finite_gatef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GatefKernelIdeal.Value

open Cert.GatefKernelIdeal Cert.GatefKernelIdeal.Gen Cert.GatefReferenceIdeal.Read Cert.Reals

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the input in columns 2560 to 2563 below 112 rows of zeros, -/
theorem V1 (c : Dev nD) (r : Fin 2176) (q : Fin 128) : V m c main_v1 (ix2 r ⟨q.val + 2560, by omega⟩)
    = if h : 112 ≤ r.val ∧ q.val < 4 then m ((c : Thread nD τ).loc main_arg0) (ix3 0 ⟨r.val - 112, by omega⟩ ⟨q.val, h.2⟩) else (0 : EReal) := by
  unfold V V0
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- and the bias. -/
theorem V3 (c : Dev nD) (q : Fin 128) : V m c main_v3 (ix2 0 q) = if h : q.val < 4 then m ((c : Thread nD τ).loc main_arg1) (ix1 ⟨q.val, h⟩) else (0 : EReal) := by
  unfold V V0
  simp only [hostOps0, hostOps0_1, hostOps0_2, hostOps0_3, List.flatten_cons, List.flatten_nil,
    List.append_nil, List.cons_append, List.nil_append, StableHlo.TRef.binary, StableHlo.TRef.unary, StableHlo.TRef.toBuf, StableHlo.TRef.ofBuf, cast_eq]
  after_results
  pointwise []
  have hr := q.isLt
  simp only [sitofp_zero]

/-- The precondition: the input and the bias are reals. -/
theorem finite0 (h : Pre_GatefKernelIdeal_finite_gatef m) (c : Dev nD) (i : S1x2064x4.Idx) : ∃ y : ℝ, m ((c : Thread nD τ).loc main_arg0) i = (y : EReal) := by
  have e := congrFun (h c).1 i
  pointwise [Cert.Pre_finite_gatef.fn] at e
  exact Reals.real_of_abs _ e
theorem finite1 (h : Pre_GatefKernelIdeal_finite_gatef m) (c : Dev nD) (i : S4.Idx) : ∃ y : ℝ, m ((c : Thread nD τ).loc main_arg1) i = (y : EReal) := by
  have e := congrFun (h c).2 i
  pointwise [Cert.Pre_finite_gatef.fn] at e
  exact Reals.real_of_abs _ e

theorem lsig_real (x b : EReal) (hx : ∃ y : ℝ, x = (y : EReal)) (hb : ∃ y : ℝ, b = (y : EReal)) : lsig x b - lsig x b = 0 := by
  obtain ⟨y, rfl⟩ := hx
  obtain ⟨z, rfl⟩ := hb
  unfold lsig
  rw [← EReal.coe_add, ← EReal.coe_neg, softplus_coe, ← EReal.coe_neg, ← EReal.coe_sub, sub_self, EReal.coe_zero]
theorem fg_real (h : Pre_GatefKernelIdeal_finite_gatef m) (c : Dev nD) (s : Fin 2176) (q : Fin 128) : fg m c s q - fg m c s q = 0 := by
  unfold fg
  rw [V1, V3]
  split_ifs
  all_goals first
    | exact lsig_real _ _ (finite0 m h c _) (finite1 m h c _)
    | exact lsig_real _ _ (finite0 m h c _) ⟨0, EReal.coe_zero.symm⟩
    | exact lsig_real _ _ ⟨0, EReal.coe_zero.symm⟩ (finite1 m h c _)
    | exact lsig_real _ _ ⟨0, EReal.coe_zero.symm⟩ ⟨0, EReal.coe_zero.symm⟩
    | exact sub_zero _

variable (x : FVec Ideal S1x2064x4 .f32) (b : FVec Ideal S4 .f32)

theorem gate_read (r : Fin 2064) (q : Fin 4) : val_main_v3 (F := Ideal) x b (ix3 0 r q) = lsig (x (ix3 0 r q)) (b (ix1 q)) := by
  pointwise [val_main_v0, val_main_v1, val_main_v2, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11, val_main_call0_v1, val_main_v3]
  rw [if_neg (by simp)]
  rfl
theorem upto_read (r : Fin 2064) (q : Fin 4) : val_main_v4 (F := Ideal) x b (ix3 0 r q) = ∑ s : Fin 2064, if s.val ≤ r.val then lsig (x (ix3 0 s q)) (b (ix1 q)) else 0 := by
  unfold val_main_v4
  simp only [Host.reduceWindowAdd, Ideal.hostReduceWindowAdd_def]
  rw [show (val_main_call1_call0_v0 (F := Ideal)) (Shape.Idx.first GatefReferenceIdeal.Gen.h_S_) = (0 : EReal) by pointwise [val_main_call1_call0_cst, val_main_call1_call0_v0]]
  rw [hostReduceWindowAdd_upto rfl]
  simp only [gate_read]
theorem read6 (k : Fin 2176) (q : Fin 4) : val_main_v6 (F := Ideal) x b (ix2 k q)
    = if h : 112 ≤ k.val then val_main_v4 (F := Ideal) x b (ix3 0 ⟨k.val - 112, by omega⟩ q) else (0 : EReal) := by
  pointwise [val_main_v5, val_main_c, val_main_call2_v0, val_main_v6]
  have hr := k.isLt
  simp only [sitofp_zero]
  split_ifs <;> first | (exfalso; omega) | rfl

/-- The running sum at a row and a column, of the program's arguments. -/
theorem fc_eq (c : Dev nD) (k : Fin 2176) (q : Fin 4) : fc m c k ⟨q.val, by omega⟩ = val_main_v6 (F := Ideal) (m ((c : Thread nD τ).loc main_arg0)) (m ((c : Thread nD τ).loc main_arg1)) (ix2 k q) := by
  unfold fc fg
  rw [read6, Reals.sum_below 112 2064 _ fun s hs => by rw [if_neg (show ¬ 112 ≤ s.val by omega), ite_self]]
  have hq := q.isLt
  by_cases h1 : 112 ≤ k.val
  · rw [dif_pos h1, upto_read]
    refine Finset.sum_congr rfl fun s _ => ?_
    rw [if_pos (show 112 ≤ s.val + 112 by omega), V1, V3, dif_pos (show 112 ≤ s.val + 112 ∧ q.val < 4 from ⟨by omega, hq⟩), dif_pos hq]
    have hs : ∀ p : s.val + 112 - 112 < 2064, (⟨s.val + 112 - 112, p⟩ : Fin 2064) = s := fun p => Fin.ext (Nat.add_sub_cancel _ _)
    simp only [hs]
    by_cases h3 : s.val ≤ k.val - 112
    · rw [if_pos (show s.val + 112 ≤ k.val by omega), if_pos h3]
    · rw [if_neg (show ¬ s.val + 112 ≤ k.val by omega), if_neg h3]
  · rw [dif_neg h1]
    exact Finset.sum_eq_zero fun s _ => if_neg (show ¬ s.val + 112 ≤ k.val by omega)
theorem final5 (h : Pre_GatefKernelIdeal_finite_gatef m) (c : Dev nD) : Pipeline.afterTail₀ cfgs (dats m) 0 (V0 m) [hostOps1] c main_v5 = val_main_v6 (F := Ideal) (m ((c : Thread nD τ).loc main_arg0)) (m ((c : Thread nD τ).loc main_arg1)) := by
  rw [tail5 m c (fg_real m h c)]
  funext i
  idx_vars i
  exact fc_eq m c i0 i1
theorem final6 (h : Pre_GatefKernelIdeal_finite_gatef m) (c : Dev nD) : Pipeline.afterTail₀ cfgs (dats m) 0 (V0 m) [hostOps1] c main_v6 = val_main_v7 (F := Ideal) (m ((c : Thread nD τ).loc main_arg0)) (m ((c : Thread nD τ).loc main_arg1)) := by
  rw [tail6 m c (fg_real m h c)]
  funext i
  idx_vars i
  pointwise [val_main_v7]
  exact fc_eq m c i1 i0

end Cert.GatefKernelIdeal.Value
-- ==== Proof.GatefClaim.lean ====
/- The forget gate's forward call: both results are the reference's. -/
module

public import proofs.«01_k».proof.Defs
public import proofs.«01_k».proof.Proof.GatefFinal
public import proofs.«01_k».proof.Proof.Gen.GatefReferenceIdeal.Read

@[expose] public section

set_option maxRecDepth 16384

noncomputable section

open Idealize.ShloMosaic Idealize.ShloMosaic.TcCoe Idealize.SL.Sem
open Idealize.ShloMosaic.Pipeline (Dat)

namespace Cert.GatefReferenceIdeal.Read

open Cert.GatefReferenceIdeal Cert.GatefReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg1))
      ∧ r.2.mem ((c.tc : Thread nD τ).loc main_v7) = val_main_v7 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (val_main_v6_eq _ _), (h c).2.1.trans (val_main_v7_eq _ _), (h c).2.2⟩) (Value.run m ρ)

end Cert.GatefReferenceIdeal.Read

namespace Cert.GatefKernelIdeal.Value

/-- The forget gate's forward call: both results are the reference's. -/
theorem algebraic : Cert.algebraic_GatefKernelIdeal_GatefReferenceIdeal_pre_finite_gatef := by
  pair_intro
  · run_from Cert.GatefKernelIdeal.Gen.run_main m g & Cert.GatefKernelIdeal.Gen.unchanged m g
  · run_from Cert.GatefReferenceIdeal.Read.run m' g'
    · exact (final5 m hpre c).symm
    · exact (final6 m hpre c).symm

end Cert.GatefKernelIdeal.Value
-- ==== Proof.MixValue.lean ====
/- The output projection, deepnorm residual and layer norm: what the kernel's three result arrays hold, as functions of its operands. -/
module

public import proofs.«01_k».proof.Proof.Gen.MixKernelIdeal.Frame
public import proofs.«01_k».proof.Proof.Norm
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixKernelIdeal.Value

open Cert.MixKernelIdeal Cert.MixKernelIdeal.Gen Cert.Reals

/-- The literals: 1024 and the small constant. -/
abbrev D : EReal := Ideal.ofBits .f32 0x44800000#32
abbrev E : EReal := Ideal.ofBits .f32 0x3727C5AC#32
/-- A product, the residual of two elements, and an element of the normalised row scaled and shifted. -/
def times (a b : EReal) : EReal := a * b
def lin (h o : EReal) : EReal := Ideal.ofBits .f32 0x3FB504F3#32 * h + o
def normed (p : Fin 1024 → EReal) (g b : EReal) (q : Fin 1024) : EReal := center D p q * Ideal.rsqrt (moment D E (center D p)) * g + b

theorem lit_one : Ideal.ofBits .f32 0x3F800000#32 = (1 : EReal) := by
  simp [Ideal.ofBits, Ideal.ieee, -EReal.coe_mul]
  norm_num

section block
variable (A : FVec Ideal S1088x256 .bf16) (W : FVec Ideal S1x256x1024 .bf16) (o h : FVec Ideal S1088x1024 .f32) (g b : FVec Ideal S1x1024 .f32)
  (r : Fin 1088) (q : Fin 1024)

theorem pay1_apply : k0_pay1 (F := Ideal) (ix2 r q) = (0 : EReal) := by
  pointwise [k0_pay1]
theorem pay2_apply : k0_pay2 (F := Ideal) o A W (ix2 r q) = o (ix2 r q) + ∑ k : Fin 256, times (A (ix2 r k)) (W (ix3 0 k q)) := by
  pointwise [k0_pay2, times]
theorem pay3_apply : k0_pay3 (F := Ideal) o h g b (ix2 r q)
    = normed (fun k => lin (h (ix2 r k)) (o (ix2 r k))) (g (ix2 0 q)) (b (ix2 0 q)) q := by
  pointwise [k0_pay3, normed, center, moment, lin]
theorem pay4_apply : k0_pay4 (F := Ideal) o h g b (ix2 r q) = k0_pay3 (F := Ideal) o h g b (ix2 r q) := by
  pointwise [k0_pay4]
end block

variable (m : (ℓ : Loc nD τ sig) → Buf (Elt Ideal) ℓ)

/-- The blocks: point `t` works on row block `t / 4`, and adds the product over the columns of chip `t % 4`. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![0, 0] ∧ win0_5.index t = ![t.val / 4, 0] ∧ win0_6.index t = ![t.val / 4, 0] ∧ win0_7.index t = ![t.val / 4, 0] :=
  (by decide +kernel : ∀ t : Fin grid0.N, _)

/-- The product, and the layer norm of the residual, of the arrays the call is given. -/
def mix (c : Dev nD) (r : Fin 2176) (q : Fin 1024) : EReal :=
  ∑ l : Fin 1024, times (V m c main_v2 (ix2 r l)) (V m c main_v4 (ix3 ⟨l.val / 256, by omega⟩ ⟨l.val % 256, by omega⟩ q))
def out (c : Dev nD) (r : Fin 2176) (q : Fin 1024) : EReal :=
  normed (fun k => lin (V m c main_v6 (ix2 r k)) (mix m c r k)) (V m c main_v7 (ix2 0 q)) (V m c main_v8 (ix2 0 q)) q
/-- One chip's part of the product, for a row block. -/
def part (c : Dev nD) (a k : ℕ) (i : S1088x1024.Idx) : EReal :=
  ∑ s : Fin 256, times (V m c main_v2 (ix2 ⟨(a * 1088 + (i 0).val) % 2176, Nat.mod_lt _ (by decide)⟩ ⟨(k * 256 + s.val) % 1024, Nat.mod_lt _ (by decide)⟩))
    (V m c main_v4 (ix3 ⟨k % 4, Nat.mod_lt _ (by decide)⟩ s (i 1)))

section point
variable (c : Dev nD) (t : Fin cfg0.N) (r : Fin 1088) (q : Fin 1024)

/-- A block's row of the whole array. -/
abbrev ro : Fin 2176 := ⟨t.val / 4 * 1088 + r.val, by have : t.val < 8 := t.isLt; have := r.isLt; omega⟩

theorem blk0 (k : Fin 256) : iblk m c 0 t (ix2 r k)
    = V m c main_v2 (ix2 ⟨(t.val / 4 * 1088 + r.val) % 2176, Nat.mod_lt _ (by decide)⟩ ⟨(t.val % 4 * 256 + k.val) % 1024, Nat.mod_lt _ (by decide)⟩) := by
  have ht : t.val < 8 := t.isLt
  have hr := r.isLt
  have hk := k.isLt
  have e1 : (⟨(t.val / 4 * 1088 + r.val) % 2176, Nat.mod_lt _ (by decide)⟩ : Fin 2176) = ro t r := Fin.ext (Nat.mod_eq_of_lt (by omega))
  have e2 : (⟨(t.val % 4 * 256 + k.val) % 1024, Nat.mod_lt _ (by decide)⟩ : Fin 1024) = ⟨t.val % 4 * 256 + k.val, by omega⟩ := Fin.ext (Nat.mod_eq_of_lt (by omega))
  rw [e1, e2]
  blk_point [iblk, V, idx t]
theorem blk1 (k : Fin 256) : iblk m c 1 t (ix3 0 k q) = V m c main_v4 (ix3 ⟨t.val % 4 % 4, Nat.mod_lt _ (by decide)⟩ k q) := by
  have e : (⟨t.val % 4 % 4, Nat.mod_lt _ (by decide)⟩ : Fin 4) = ⟨t.val % 4, Nat.mod_lt _ (by decide)⟩ := Fin.ext (Nat.mod_mod _ _)
  rw [e]
  blk_point [iblk, V, idx t]
theorem blk2 (k : Fin 1024) : iblk m c 2 t (ix2 r k) = V m c main_v6 (ix2 (ro t r) k) := by
  blk_point [iblk, V, idx t]
theorem blk3 (k : Fin 1024) : iblk m c 3 t (ix2 0 k) = V m c main_v7 (ix2 0 k) := by
  blk_point [iblk, V, idx t]
theorem blk4 (k : Fin 1024) : iblk m c 4 t (ix2 0 k) = V m c main_v8 (ix2 0 k) := by
  blk_point [iblk, V, idx t]
/-- What a point adds to the sum it carries. -/
theorem step (o : FVec Ideal S1088x1024 .f32) : k0_pay2 (F := Ideal) o (iblk m c 0 t) (iblk m c 1 t) (ix2 r q) = o (ix2 r q) + part m c (t.val / 4) (t.val % 4) (ix2 r q) :=
  (pay2_apply _ _ _ r q).trans (congrArg (_ + ·) (Finset.sum_congr rfl fun s _ => congrArg₂ times (blk0 m c t r s) (blk1 m c t q s)))
end point

/-- The sum carried between the points: reset at a row block's first point, the chips' parts added up. -/
theorem carried_A (c : Dev nD) (t : Fin cfg0.N) (h : t.val % 4 = 0) (i : S1088x1024.Idx) :
    (outsAt0 m c t.val t.isLt).2.2.2 i = 0 + part m c (t.val / 4) (t.val % 4) i := by
  rw [outsAt0_A m c t h (by omega)]
  frame_out
  refine (congrArg _ (eq_ix2 i)).trans ((step m c t (i 0) (i 1) _).trans ?_)
  exact congrArg₂ (· + ·) (pay1_apply _ _) (congrArg _ (eq_ix2 i).symm)
theorem carried_BC (c : Dev nD) (t : Fin cfg0.N) (h : ¬t.val % 4 = 0) (i : S1088x1024.Idx) :
    (outsAt0 m c t.val t.isLt).2.2.2 i = (outsAt0 m c (t.val - 1) (Nat.lt_of_le_of_lt (Nat.sub_le _ _) t.isLt)).2.2.2 i + part m c (t.val / 4) (t.val % 4) i := by
  by_cases h3 : t.val % 4 = 3
  · rw [outsAt0_C m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
  · rw [outsAt0_B m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
theorem carried (c : Dev nD) (t : Fin cfg0.N) (h : t.val % 4 = 3) (r : Fin 1088) (q : Fin 1024) :
    (outsAt0 m c t.val t.isLt).2.2.2 (ix2 r q) = mix m c (ro t r) q := by
  rw [Pipeline.eq_sum_of_reset_step_apply_divmod (fun n h => (outsAt0 m c n h).2.2.2) 4 (fun _ => (0 : EReal)) (part m c)
    (carried_A m c) (carried_BC m c) t (ix2 r q), zero_add, h, Finset.sum_range]
  refine Fin.sum_mul_add_congr fun a s hl => ?_
  have ht : t.val < 8 := t.isLt
  have hr := r.isLt
  have ha : a.val < 4 := a.isLt
  have hs := s.isLt
  refine congrArg₂ times (congrArg₂ (fun x y => V m c main_v2 (ix2 x y)) (Fin.ext (Nat.mod_eq_of_lt ?_)) (Fin.ext (Nat.mod_eq_of_lt hl)))
    (congrArg₂ (fun x y => V m c main_v4 (ix3 x y q)) (Fin.ext ?_) (Fin.ext ?_))
  · show t.val / 4 * 1088 + r.val < 2176
    omega
  · show a.val % 4 = (a.val * 256 + s.val) / 256
    omega
  · show s.val = (a.val * 256 + s.val) % 256
    omega

section point
variable (c : Dev nD) (t : Fin cfg0.N) (r : Fin 1088) (q : Fin 1024)

/-- A row block's last point leaves the product, and the norm of the residual, in the results' buffers. -/
theorem point5 (h : t.val % 4 = 3) : (outsAt0 m c t.val t.isLt).1 (ix2 r q) = mix m c (ro t r) q := by
  rw [← carried m c t h r q, outsAt0_C m c t (by omega) h]
  frame_out
theorem norm_eq (h : t.val % 4 = 3) : k0_pay3 (F := Ideal) (outsAt0 m c t.val t.isLt).2.2.2 (iblk m c 2 t) (iblk m c 3 t) (iblk m c 4 t) (ix2 r q) = out m c (ro t r) q := by
  refine (pay3_apply _ _ _ _ r q).trans ?_
  unfold out
  rw [blk3, blk4]
  exact congrArg (fun p => normed p _ _ q) (funext fun k => congrArg₂ lin (blk2 m c t r k) (carried m c t h r k))
theorem point6 (h : t.val % 4 = 3) : (outsAt0 m c t.val t.isLt).2.1 (ix2 r q) = out m c (ro t r) q := by
  rw [← norm_eq m c t r q h, outsAt0_C m c t (by omega) h]
  frame_out
theorem point7 (h : t.val % 4 = 3) : (outsAt0 m c t.val t.isLt).2.2.1 (ix2 r q) = out m c (ro t r) q := by
  rw [← norm_eq m c t r q h, ← pay4_apply, outsAt0_C m c t (by omega) h]
  frame_out
end point

/-- A block is written back at its row block's last point. -/
theorem flush5 : ∀ t : Fin cfg0.N, (cfg0.win 5).flush t = true → t.val % 4 = 3 := (by decide +kernel : ∀ t : Fin grid0.N, _)
theorem flush6 : ∀ t : Fin cfg0.N, (cfg0.win 6).flush t = true → t.val % 4 = 3 := (by decide +kernel : ∀ t : Fin grid0.N, _)
theorem flush7 : ∀ t : Fin cfg0.N, (cfg0.win 7).flush t = true → t.val % 4 = 3 := (by decide +kernel : ∀ t : Fin grid0.N, _)

/-- The product. -/
theorem arr5 (c : Dev nD) : (dats m 0 c).arrAt 5 (cfgs 0).N = fun i : S2176x1024.Idx => mix m c (i 0) (i 1) := by
  refine (dats m 0 c).arrAt_eq_of_covers 5 _ (by decide +kernel) fun t hf y => ?_
  blk_simp
  rw [after0_5]
  refine Eq.trans ((congrArg _ (eq_ix2 y)).trans (point5 m c t (y 0) (y 1) (flush5 t hf))) (congrArg₂ (mix m c) (Fin.ext ?_) (Fin.ext ?_))
  · blk_simp [idx t] <;> try omega
  · blk_simp [idx t] <;> try omega
/-- The layer norm of the residual, -/
theorem arr6 (c : Dev nD) : (dats m 0 c).arrAt 6 (cfgs 0).N = fun i : S2176x1024.Idx => out m c (i 0) (i 1) := by
  refine (dats m 0 c).arrAt_eq_of_covers 6 _ (by decide +kernel) fun t hf y => ?_
  blk_simp
  rw [after0_6]
  refine Eq.trans ((congrArg _ (eq_ix2 y)).trans (point6 m c t (y 0) (y 1) (flush6 t hf))) (congrArg₂ (out m c) (Fin.ext ?_) (Fin.ext ?_))
  · blk_simp [idx t] <;> try omega
  · blk_simp [idx t] <;> try omega
/-- and once more for the next product. -/
theorem arr7 (c : Dev nD) : (dats m 0 c).arrAt 7 (cfgs 0).N = fun i : S2176x1024.Idx => out m c (i 0) (i 1) := by
  refine (dats m 0 c).arrAt_eq_of_covers 7 _ (by decide +kernel) fun t hf y => ?_
  blk_simp
  rw [after0_7]
  refine Eq.trans ((congrArg _ (eq_ix2 y)).trans (point7 m c t (y 0) (y 1) (flush7 t hf))) (congrArg₂ (out m c) (Fin.ext ?_) (Fin.ext ?_))
  · blk_simp [idx t] <;> try omega
  · blk_simp [idx t] <;> try omega

end Cert.MixKernelIdeal.Value
-- ==== Proof.MixFinal.lean ====
/- The output projection, deepnorm residual and layer norm: the operands, and the results as the reference's. -/
module

public import proofs.«01_k».proof.Proof.MixValue
public import proofs.«01_k».proof.Proof.Gen.MixReferenceIdeal.Read

@[expose] public section

set_option maxRecDepth 16384

noncomputable section

open Idealize.ShloMosaic Idealize.ShloMosaic.TcCoe Idealize.SL.Sem
open Idealize.ShloMosaic.Pipeline (Dat)

namespace Cert.MixKernelIdeal.Value

open Cert.Reals Cert.MixKernelIdeal Cert.MixKernelIdeal.Gen Cert.MixReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the rows below 112 rows of zeros, -/
theorem y_read (c : Dev nD) (r : Fin 2176) (k : Fin 1024) : V m c main_v2 (ix2 r k)
    = if h : 112 ≤ r.val then (m ((c : Thread nD τ).loc main_arg0)) (ix3 0 ⟨r.val - 112, by omega⟩ k) else (0 : EReal) := by
  unfold V
  simp only [hostOps0, hostOps0_1, hostOps0_2, hostOps0_3, hostOps0_4, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the weight's rows by chips, -/
theorem w_read (c : Dev nD) (a : Fin 4) (k : Fin 256) (q : Fin 1024) : V m c main_v4 (ix3 a k q)
    = (m ((c : Thread nD τ).loc main_arg1)) (ix2 ⟨a.val * 256 + k.val, by have := a.isLt; have := k.isLt; omega⟩ q) := by
  unfold V
  simp only [hostOps0, hostOps0_1, hostOps0_2, hostOps0_3, hostOps0_4, List.flatten_cons, List.flatten_nil,
    List.append_nil, List.cons_append, List.nil_append, StableHlo.TRef.binary, StableHlo.TRef.unary, StableHlo.TRef.toBuf, StableHlo.TRef.ofBuf, cast_eq]
  after_results
  pointwise []
/-- the residual's rows, -/
theorem h_read (c : Dev nD) (r : Fin 2176) (k : Fin 1024) : V m c main_v6 (ix2 r k)
    = if h : 112 ≤ r.val then (m ((c : Thread nD τ).loc main_arg2)) (ix3 0 ⟨r.val - 112, by omega⟩ k) else (0 : EReal) := by
  unfold V
  simp only [hostOps0, hostOps0_1, hostOps0_2, hostOps0_3, hostOps0_4, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the scale -/
theorem g_read (c : Dev nD) (k : Fin 1024) : V m c main_v7 (ix2 0 k)
    = (m ((c : Thread nD τ).loc main_arg3)) (ix1 k) := by
  unfold V
  simp only [hostOps0, hostOps0_1, hostOps0_2, hostOps0_3, hostOps0_4, List.flatten_cons, List.flatten_nil,
    List.append_nil, List.cons_append, List.nil_append, StableHlo.TRef.binary, StableHlo.TRef.unary, StableHlo.TRef.toBuf, StableHlo.TRef.ofBuf, cast_eq]
  after_results
  pointwise []
/-- and the shift. -/
theorem b_read (c : Dev nD) (k : Fin 1024) : V m c main_v8 (ix2 0 k)
    = (m ((c : Thread nD τ).loc main_arg4)) (ix1 k) := by
  unfold V
  simp only [hostOps0, hostOps0_1, hostOps0_2, hostOps0_3, hostOps0_4, List.flatten_cons, List.flatten_nil,
    List.append_nil, List.cons_append, List.nil_append, StableHlo.TRef.binary, StableHlo.TRef.unary, StableHlo.TRef.toBuf, StableHlo.TRef.ofBuf, cast_eq]
  after_results
  pointwise []

section reference
variable (y h : FVec Ideal S1x2064x1024 .f32) (w : FVec Ideal S1024x1024 .f32) (g b : FVec Ideal S1024 .f32) (r : Fin 2176) (q : Fin 1024)

theorem v1_read : val_main_v1 (F := Ideal) y (ix2 r q) = if h : 112 ≤ r.val then y (ix3 0 ⟨r.val - 112, by omega⟩ q) else (0 : EReal) := by
  pointwise [val_main_v0, val_main_c, val_main_call0_v0, val_main_v1]
  have hr := r.isLt
  simp only [sitofp_zero]
  split_ifs <;> first | (exfalso; omega) | rfl
theorem v3_read : val_main_v3 (F := Ideal) h (ix2 r q) = if e : 112 ≤ r.val then h (ix3 0 ⟨r.val - 112, by omega⟩ q) else (0 : EReal) := by
  pointwise [val_main_v2, val_main_c_0, val_main_call1_v0, val_main_v3]
  have hr := r.isLt
  simp only [sitofp_zero]
  split_ifs <;> first | (exfalso; omega) | rfl
theorem v4_read : val_main_v4 (F := Ideal) y w (ix2 r q) = ∑ k : Fin 1024, times (val_main_v1 (F := Ideal) y (ix2 r k)) (w (ix2 k q)) := by
  pointwise [val_main_v4, times]
theorem v7_read : val_main_v7 (F := Ideal) y w h (ix2 r q) = lin (val_main_v3 (F := Ideal) h (ix2 r q)) (val_main_v4 (F := Ideal) y w (ix2 r q)) := by
  pointwise [val_main_cst, val_main_v5, val_main_v6, val_main_v7, lin]
theorem v31_read : val_main_v31 (F := Ideal) y w h g b (ix2 r q)
    = normed (fun k => val_main_v7 (F := Ideal) y w h (ix2 r k)) (g (ix1 q)) (b (ix1 q)) q := by
  pointwise [val_main_cst_1, val_main_v8, val_main_v9, val_main_cst_2, val_main_v10, val_main_v11, val_main_v12, val_main_v13, val_main_v14, val_main_cst_3, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_v30, val_main_v31, normed, center, moment]
theorem v32_read : val_main_v32 (F := Ideal) y w h g b (ix2 r q) = val_main_v31 (F := Ideal) y w h g b (ix2 r q) := by
  pointwise [val_main_v32]
end reference

/-- The product, and the norm. -/
theorem mix_read (c : Dev nD) (r : Fin 2176) (q : Fin 1024) : mix m c r q = val_main_v4 (F := Ideal) (m ((c : Thread nD τ).loc main_arg0)) (m ((c : Thread nD τ).loc main_arg1)) (ix2 r q) := by
  unfold mix
  rw [v4_read]
  refine Finset.sum_congr rfl fun l _ => congrArg₂ times ((y_read m c r l).trans (v1_read _ r l).symm) ((w_read m c _ _ q).trans ?_)
  exact congrArg (fun z => (m ((c : Thread nD τ).loc main_arg1)) (ix2 z q)) (Fin.ext (by show l.val / 256 * 256 + l.val % 256 = l.val; omega))
theorem out_read (c : Dev nD) (r : Fin 2176) (q : Fin 1024) : out m c r q
    = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  unfold out
  rw [v31_read, g_read, b_read]
  refine congrArg (fun p => normed p _ _ q) (funext fun k => ?_)
  rw [v7_read, mix_read]
  exact congrArg (lin · _) ((h_read m c r k).trans (v3_read _ r k).symm)
theorem final5 (c : Dev nD) : (dats m 0 c).arrAt 5 (cfgs 0).N = val_main_v4 (F := Ideal) (m ((c : Thread nD τ).loc main_arg0)) (m ((c : Thread nD τ).loc main_arg1)) := by
  rw [arr5]
  funext i
  idx_vars i
  exact mix_read m c i0 i1
theorem final6 (c : Dev nD) : (dats m 0 c).arrAt 6 (cfgs 0).N = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr6]
  funext i
  idx_vars i
  exact out_read m c i0 i1
theorem final7 (c : Dev nD) : (dats m 0 c).arrAt 7 (cfgs 0).N = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr7]
  funext i
  idx_vars i
  exact (out_read m c i0 i1).trans (v32_read _ _ _ _ _ i0 i1).symm

end Cert.MixKernelIdeal.Value
-- ==== Proof.MixClaim.lean ====
/- The output projection with its residual and layer norm computes the reference's product and norm. -/
module

public import proofs.«01_k».proof.Defs
public import proofs.«01_k».proof.Proof.MixFinal
public import proofs.«01_k».proof.Proof.Gen.MixReferenceIdeal.Read

@[expose] public section

set_option maxRecDepth 16384

noncomputable section

open Idealize.ShloMosaic Idealize.ShloMosaic.TcCoe Idealize.SL.Sem
open Idealize.ShloMosaic.Pipeline (Dat)

namespace Cert.MixReferenceIdeal.Read

open Cert.MixReferenceIdeal Cert.MixReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v32) = val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v4_eq _ _), (h c).2.1.trans (val_main_v31_eq m c), (h c).2.2.1.trans (val_main_v32_eq m c), (h c).2.2.2⟩) (Value.run m ρ)

end Cert.MixReferenceIdeal.Read

namespace Cert.MixKernelIdeal.Value

/-- The output projection with its residual and layer norm computes the reference's product and norm. -/
theorem algebraic : Cert.algebraic_MixKernelIdeal_MixReferenceIdeal := by
  pair_intro
  · run_from Cert.MixKernelIdeal.Gen.run_main m g & Cert.MixKernelIdeal.Gen.unchanged m g
  · run_from Cert.MixReferenceIdeal.Read.run m' g'
    · exact (final5 m c).symm
    · exact (final6 m c).symm
    · exact (final7 m c).symm

end Cert.MixKernelIdeal.Value
-- ==== Proof.DownfValue.lean ====
/- The feed-forward's output product, deepnorm residual and layer norm: what the kernel's three result arrays hold, as functions of its operands. -/
module

public import proofs.«01_k».proof.Proof.Gen.DownfKernelIdeal.Frame
public import proofs.«01_k».proof.Proof.Norm
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownfKernelIdeal.Value

open Cert.DownfKernelIdeal Cert.DownfKernelIdeal.Gen Cert.Reals

/-- The literals: 1024 and the small constant. -/
abbrev D : EReal := Ideal.ofBits .f32 0x44800000#32
abbrev E : EReal := Ideal.ofBits .f32 0x3727C5AC#32
/-- A product, the residual of two elements, and an element of the normalised row scaled and shifted. -/
def times (a b : EReal) : EReal := a * b
def lin (h o : EReal) : EReal := Ideal.ofBits .f32 0x3FB504F3#32 * h + Ideal.ofBits .f32 0x3F000000#32 * o
def normed (p : Fin 1024 → EReal) (g b : EReal) (q : Fin 1024) : EReal := center D p q * Ideal.rsqrt (moment D E (center D p)) * g + b

theorem lit_one : Ideal.ofBits .f32 0x3F800000#32 = (1 : EReal) := by
  simp [Ideal.ofBits, Ideal.ieee, -EReal.coe_mul]
  norm_num

section block
variable (A : FVec Ideal S1088x768 .bf16) (W : FVec Ideal S1x768x1024 .bf16) (o h : FVec Ideal S1088x1024 .f32) (g b : FVec Ideal S1x1024 .f32)
  (r : Fin 1088) (q : Fin 1024)

theorem pay1_apply : k0_pay1 (F := Ideal) (ix2 r q) = (0 : EReal) := by
  pointwise [k0_pay1]
theorem pay2_apply : k0_pay2 (F := Ideal) o A W (ix2 r q) = o (ix2 r q) + ∑ k : Fin 768, times (A (ix2 r k)) (W (ix3 0 k q)) := by
  pointwise [k0_pay2, times]
theorem pay3_apply : k0_pay3 (F := Ideal) o h g b (ix2 r q)
    = normed (fun k => lin (h (ix2 r k)) (o (ix2 r k))) (g (ix2 0 q)) (b (ix2 0 q)) q := by
  pointwise [k0_pay3, normed, center, moment, lin]
theorem pay4_apply : k0_pay4 (F := Ideal) o h g b (ix2 r q) = k0_pay3 (F := Ideal) o h g b (ix2 r q) := by
  pointwise [k0_pay4]
end block

variable (m : (ℓ : Loc nD τ sig) → Buf (Elt Ideal) ℓ)

/-- The blocks: point `t` works on row block `t / 4`, and adds the product over the columns of chip `t % 4`. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![0, 0] ∧ win0_5.index t = ![t.val / 4, 0] ∧ win0_6.index t = ![t.val / 4, 0] ∧ win0_7.index t = ![t.val / 4, 0] :=
  (by decide +kernel : ∀ t : Fin grid0.N, _)

/-- The product, and the layer norm of the residual, of the arrays the call is given. -/
def mix (c : Dev nD) (r : Fin 2176) (q : Fin 1024) : EReal :=
  ∑ a : Fin 4, ∑ s : Fin 768, times (V m c main_v5 (ix2 r ⟨a.val * 768 + s.val, by have := a.isLt; have := s.isLt; omega⟩)) (V m c main_v8 (ix3 a s q))
def out (c : Dev nD) (r : Fin 2176) (q : Fin 1024) : EReal :=
  normed (fun k => lin (V m c main_v10 (ix2 r k)) (mix m c r k)) (V m c main_v11 (ix2 0 q)) (V m c main_v12 (ix2 0 q)) q
/-- One chip's part of the product, for a row block. -/
def part (c : Dev nD) (a k : ℕ) (i : S1088x1024.Idx) : EReal :=
  ∑ s : Fin 768, times (V m c main_v5 (ix2 ⟨(a * 1088 + (i 0).val) % 2176, Nat.mod_lt _ (by decide)⟩ ⟨(k * 768 + s.val) % 3072, Nat.mod_lt _ (by decide)⟩))
    (V m c main_v8 (ix3 ⟨k % 4, Nat.mod_lt _ (by decide)⟩ s (i 1)))

section point
variable (c : Dev nD) (t : Fin cfg0.N) (r : Fin 1088) (q : Fin 1024)

/-- A block's row of the whole array. -/
abbrev ro : Fin 2176 := ⟨t.val / 4 * 1088 + r.val, by have : t.val < 8 := t.isLt; have := r.isLt; omega⟩

theorem blk0 (k : Fin 768) : iblk m c 0 t (ix2 r k)
    = V m c main_v5 (ix2 ⟨(t.val / 4 * 1088 + r.val) % 2176, Nat.mod_lt _ (by decide)⟩ ⟨(t.val % 4 * 768 + k.val) % 3072, Nat.mod_lt _ (by decide)⟩) := by
  have ht : t.val < 8 := t.isLt
  have hr := r.isLt
  have hk := k.isLt
  have e1 : (⟨(t.val / 4 * 1088 + r.val) % 2176, Nat.mod_lt _ (by decide)⟩ : Fin 2176) = ro t r := Fin.ext (Nat.mod_eq_of_lt (by omega))
  have e2 : (⟨(t.val % 4 * 768 + k.val) % 3072, Nat.mod_lt _ (by decide)⟩ : Fin 3072) = ⟨t.val % 4 * 768 + k.val, by omega⟩ := Fin.ext (Nat.mod_eq_of_lt (by omega))
  rw [e1, e2]
  blk_point [iblk, V, idx t]
theorem blk1 (k : Fin 768) : iblk m c 1 t (ix3 0 k q) = V m c main_v8 (ix3 ⟨t.val % 4 % 4, Nat.mod_lt _ (by decide)⟩ k q) := by
  have e : (⟨t.val % 4 % 4, Nat.mod_lt _ (by decide)⟩ : Fin 4) = ⟨t.val % 4, Nat.mod_lt _ (by decide)⟩ := Fin.ext (Nat.mod_mod _ _)
  rw [e]
  blk_point [iblk, V, idx t]
theorem blk2 (k : Fin 1024) : iblk m c 2 t (ix2 r k) = V m c main_v10 (ix2 (ro t r) k) := by
  blk_point [iblk, V, idx t]
theorem blk3 (k : Fin 1024) : iblk m c 3 t (ix2 0 k) = V m c main_v11 (ix2 0 k) := by
  blk_point [iblk, V, idx t]
theorem blk4 (k : Fin 1024) : iblk m c 4 t (ix2 0 k) = V m c main_v12 (ix2 0 k) := by
  blk_point [iblk, V, idx t]
/-- What a point adds to the sum it carries. -/
theorem step (o : FVec Ideal S1088x1024 .f32) : k0_pay2 (F := Ideal) o (iblk m c 0 t) (iblk m c 1 t) (ix2 r q) = o (ix2 r q) + part m c (t.val / 4) (t.val % 4) (ix2 r q) :=
  (pay2_apply _ _ _ r q).trans (congrArg (_ + ·) (Finset.sum_congr rfl fun s _ => congrArg₂ times (blk0 m c t r s) (blk1 m c t q s)))
end point

/-- The sum carried between the points: reset at a row block's first point, the chips' parts added up. -/
theorem carried_A (c : Dev nD) (t : Fin cfg0.N) (h : t.val % 4 = 0) (i : S1088x1024.Idx) :
    (outsAt0 m c t.val t.isLt).2.2.2 i = 0 + part m c (t.val / 4) (t.val % 4) i := by
  rw [outsAt0_A m c t h (by omega)]
  frame_out
  refine (congrArg _ (eq_ix2 i)).trans ((step m c t (i 0) (i 1) _).trans ?_)
  exact congrArg₂ (· + ·) (pay1_apply _ _) (congrArg _ (eq_ix2 i).symm)
theorem carried_BC (c : Dev nD) (t : Fin cfg0.N) (h : ¬t.val % 4 = 0) (i : S1088x1024.Idx) :
    (outsAt0 m c t.val t.isLt).2.2.2 i = (outsAt0 m c (t.val - 1) (Nat.lt_of_le_of_lt (Nat.sub_le _ _) t.isLt)).2.2.2 i + part m c (t.val / 4) (t.val % 4) i := by
  by_cases h3 : t.val % 4 = 3
  · rw [outsAt0_C m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
  · rw [outsAt0_B m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
theorem carried (c : Dev nD) (t : Fin cfg0.N) (h : t.val % 4 = 3) (r : Fin 1088) (q : Fin 1024) :
    (outsAt0 m c t.val t.isLt).2.2.2 (ix2 r q) = mix m c (ro t r) q := by
  rw [Pipeline.eq_sum_of_reset_step_apply_divmod (fun n h => (outsAt0 m c n h).2.2.2) 4 (fun _ => (0 : EReal)) (part m c)
    (carried_A m c) (carried_BC m c) t (ix2 r q), zero_add, h, Finset.sum_range]
  refine Finset.sum_congr rfl fun a _ => Finset.sum_congr rfl fun s _ => ?_
  have ht : t.val < 8 := t.isLt
  have hr := r.isLt
  have ha : a.val < 4 := a.isLt
  have hs := s.isLt
  refine congrArg₂ times (congrArg₂ (fun x y => V m c main_v5 (ix2 x y)) (Fin.ext (Nat.mod_eq_of_lt ?_)) (Fin.ext (Nat.mod_eq_of_lt ?_)))
    (congrArg (fun x => V m c main_v8 (ix3 x s q)) (Fin.ext (Nat.mod_eq_of_lt ha)))
  · show t.val / 4 * 1088 + r.val < 2176
    omega
  · show a.val * 768 + s.val < 3072
    omega

section point
variable (c : Dev nD) (t : Fin cfg0.N) (r : Fin 1088) (q : Fin 1024)

/-- A row block's last point leaves the product, and the norm of the residual, in the results' buffers. -/
theorem point5 (h : t.val % 4 = 3) : (outsAt0 m c t.val t.isLt).1 (ix2 r q) = mix m c (ro t r) q := by
  rw [← carried m c t h r q, outsAt0_C m c t (by omega) h]
  frame_out
theorem norm_eq (h : t.val % 4 = 3) : k0_pay3 (F := Ideal) (outsAt0 m c t.val t.isLt).2.2.2 (iblk m c 2 t) (iblk m c 3 t) (iblk m c 4 t) (ix2 r q) = out m c (ro t r) q := by
  refine (pay3_apply _ _ _ _ r q).trans ?_
  unfold out
  rw [blk3, blk4]
  exact congrArg (fun p => normed p _ _ q) (funext fun k => congrArg₂ lin (blk2 m c t r k) (carried m c t h r k))
theorem point6 (h : t.val % 4 = 3) : (outsAt0 m c t.val t.isLt).2.1 (ix2 r q) = out m c (ro t r) q := by
  rw [← norm_eq m c t r q h, outsAt0_C m c t (by omega) h]
  frame_out
theorem point7 (h : t.val % 4 = 3) : (outsAt0 m c t.val t.isLt).2.2.1 (ix2 r q) = out m c (ro t r) q := by
  rw [← norm_eq m c t r q h, ← pay4_apply, outsAt0_C m c t (by omega) h]
  frame_out
end point

/-- A block is written back at its row block's last point. -/
theorem flush5 : ∀ t : Fin cfg0.N, (cfg0.win 5).flush t = true → t.val % 4 = 3 := (by decide +kernel : ∀ t : Fin grid0.N, _)
theorem flush6 : ∀ t : Fin cfg0.N, (cfg0.win 6).flush t = true → t.val % 4 = 3 := (by decide +kernel : ∀ t : Fin grid0.N, _)
theorem flush7 : ∀ t : Fin cfg0.N, (cfg0.win 7).flush t = true → t.val % 4 = 3 := (by decide +kernel : ∀ t : Fin grid0.N, _)

/-- The product. -/
theorem arr5 (c : Dev nD) : (dats m 0 c).arrAt 5 (cfgs 0).N = fun i : S2176x1024.Idx => mix m c (i 0) (i 1) := by
  refine (dats m 0 c).arrAt_eq_of_covers 5 _ (by decide +kernel) fun t hf y => ?_
  blk_simp
  rw [after0_5]
  refine Eq.trans ((congrArg _ (eq_ix2 y)).trans (point5 m c t (y 0) (y 1) (flush5 t hf))) (congrArg₂ (mix m c) (Fin.ext ?_) (Fin.ext ?_))
  · blk_simp [idx t] <;> try omega
  · blk_simp [idx t] <;> try omega
/-- The layer norm of the residual, -/
theorem arr6 (c : Dev nD) : (dats m 0 c).arrAt 6 (cfgs 0).N = fun i : S2176x1024.Idx => out m c (i 0) (i 1) := by
  refine (dats m 0 c).arrAt_eq_of_covers 6 _ (by decide +kernel) fun t hf y => ?_
  blk_simp
  rw [after0_6]
  refine Eq.trans ((congrArg _ (eq_ix2 y)).trans (point6 m c t (y 0) (y 1) (flush6 t hf))) (congrArg₂ (out m c) (Fin.ext ?_) (Fin.ext ?_))
  · blk_simp [idx t] <;> try omega
  · blk_simp [idx t] <;> try omega
/-- and once more for the next product. -/
theorem arr7 (c : Dev nD) : (dats m 0 c).arrAt 7 (cfgs 0).N = fun i : S2176x1024.Idx => out m c (i 0) (i 1) := by
  refine (dats m 0 c).arrAt_eq_of_covers 7 _ (by decide +kernel) fun t hf y => ?_
  blk_simp
  rw [after0_7]
  refine Eq.trans ((congrArg _ (eq_ix2 y)).trans (point7 m c t (y 0) (y 1) (flush7 t hf))) (congrArg₂ (out m c) (Fin.ext ?_) (Fin.ext ?_))
  · blk_simp [idx t] <;> try omega
  · blk_simp [idx t] <;> try omega

end Cert.DownfKernelIdeal.Value
-- ==== Proof.Chips.lean ====
/- Sums over padded rows and over columns split by chips. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Chips

/-- A sum over rows padded above by 112 rows of zeros. -/
theorem sum_rows (f : Fin 2176 → EReal) (g : Fin 2064 → EReal) (h0 : ∀ l : Fin 2176, l.val < 112 → f l = 0)
    (h : ∀ l : Fin 2064, f ⟨112 + l.val, by have := l.isLt; omega⟩ = g l) : ∑ l, f l = ∑ l, g l := by
  refine (Fin.sum_univ_add (a := 112) (b := 2064) f).trans ?_
  refine Eq.trans (congrArg₂ (· + ·) (Finset.sum_eq_zero fun l _ => h0 _ l.isLt) (Finset.sum_congr rfl fun l _ => h l)) (zero_add _)

/-- A sum over four chips' columns, each chip's 704 columns padded to 768. -/
theorem sum_chips (f : Fin 4 → Fin 768 → EReal) (g : Fin 2816 → EReal) (h0 : ∀ a (s : Fin 768), 704 ≤ s.val → f a s = 0)
    (h : ∀ (a : Fin 4) (s : Fin 768) (hs : s.val < 704), f a s = g ⟨a.val * 704 + s.val, by have := a.isLt; omega⟩) : ∑ a, ∑ s, f a s = ∑ l, g l := by
  rw [← Fin.sum_mul_add_congr (S := 4) (n := 704) (F := fun a (s : Fin 704) => f a ⟨s.val, by have := s.isLt; omega⟩) fun a s hl => h a _ s.isLt]
  refine Finset.sum_congr rfl fun a _ => (Fin.sum_univ_add (a := 704) (b := 64) (f a)).trans ?_
  refine Eq.trans (congrArg₂ (· + ·) rfl (Finset.sum_eq_zero fun l _ => h0 a _ (Nat.le_add_right _ _))) (add_zero _)

end Cert.Chips
-- ==== Proof.DownfFinal.lean ====
/- The feed-forward's output product, deepnorm residual and layer norm: the operands, and the results as the reference's. -/
module

public import proofs.«01_k».proof.Proof.DownfValue
public import proofs.«01_k».proof.Proof.Chips
public import proofs.«01_k».proof.Proof.Gen.DownfReferenceIdeal.Read

@[expose] public section

set_option maxRecDepth 16384

noncomputable section

open Idealize.ShloMosaic Idealize.ShloMosaic.TcCoe Idealize.SL.Sem
open Idealize.ShloMosaic.Pipeline (Dat)

namespace Cert.DownfKernelIdeal.Value

open Cert.Reals Cert.Chips Cert.DownfKernelIdeal Cert.DownfKernelIdeal.Gen Cert.DownfReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The operands: the rows below 112 rows of zeros, every chip's 704 columns before 64 columns of zeros, -/
theorem y_read (c : Dev nD) (r : Fin 2176) (k : Fin 3072) : V m c main_v5 (ix2 r k)
    = if h : 112 ≤ r.val ∧ k.val % 768 < 704 then (m ((c : Thread nD τ).loc main_arg0)) (ix3 0 ⟨r.val - 112, by omega⟩ ⟨k.val / 768 * 704 + k.val % 768, by omega⟩) else (0 : EReal) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  after_results
  pointwise []
  have hk := k.isLt
  have hr := r.isLt
  simp only [sitofp_zero]
  split_ifs <;> first | (exfalso; omega) | rfl
/-- the weight's rows by chips, -/
theorem w_read (c : Dev nD) (a : Fin 4) (k : Fin 768) (q : Fin 1024) : V m c main_v8 (ix3 a k q)
    = if h : k.val < 704 then (m ((c : Thread nD τ).loc main_arg1)) (ix2 ⟨a.val * 704 + k.val, by have := a.isLt; omega⟩ q) else (0 : EReal) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  after_results
  pointwise []
  simp only [sitofp_zero]
/-- the residual's rows, -/
theorem h_read (c : Dev nD) (r : Fin 2176) (k : Fin 1024) : V m c main_v10 (ix2 r k)
    = if h : 112 ≤ r.val then (m ((c : Thread nD τ).loc main_arg2)) (ix3 0 ⟨r.val - 112, by omega⟩ k) else (0 : EReal) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  simp only [sitofp_zero]
  split_ifs <;> first | (exfalso; omega) | rfl
/-- the scale -/
theorem g_read (c : Dev nD) (k : Fin 1024) : V m c main_v11 (ix2 0 k)
    = (m ((c : Thread nD τ).loc main_arg3)) (ix1 k) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  after_results
  pointwise []
/-- and the shift. -/
theorem b_read (c : Dev nD) (k : Fin 1024) : V m c main_v12 (ix2 0 k)
    = (m ((c : Thread nD τ).loc main_arg4)) (ix1 k) := by
  unfold V
  simp only [hostOps0, hostOps0_1, hostOps0_2, hostOps0_3, hostOps0_4, hostOps0_5, hostOps0_6, hostOps0_7, hostOps0_8, List.flatten_cons, List.flatten_nil,
    List.append_nil, List.cons_append, List.nil_append, StableHlo.TRef.binary, StableHlo.TRef.unary, StableHlo.TRef.toBuf, StableHlo.TRef.ofBuf, cast_eq]
  after_results
  pointwise []

section reference
variable (y : FVec Ideal S1x2064x2816 .f32) (h : FVec Ideal S1x2064x1024 .f32) (w : FVec Ideal S2816x1024 .f32) (g b : FVec Ideal S1024 .f32) (r : Fin 2176) (q : Fin 1024)

theorem v1_read (k : Fin 2816) : val_main_v1 (F := Ideal) y (ix2 r k) = if h : 112 ≤ r.val then y (ix3 0 ⟨r.val - 112, by omega⟩ k) else (0 : EReal) := by
  pointwise [val_main_v0, val_main_c, val_main_call0_v0, val_main_v1]
  have hr := r.isLt
  simp only [sitofp_zero]
  split_ifs <;> first | (exfalso; omega) | rfl
theorem v3_read : val_main_v3 (F := Ideal) h (ix2 r q) = if e : 112 ≤ r.val then h (ix3 0 ⟨r.val - 112, by omega⟩ q) else (0 : EReal) := by
  pointwise [val_main_v2, val_main_c_0, val_main_call1_v0, val_main_v3]
  have hr := r.isLt
  simp only [sitofp_zero]
  split_ifs <;> first | (exfalso; omega) | rfl
theorem v4_read : val_main_v4 (F := Ideal) y w (ix2 r q) = ∑ k : Fin 2816, times (val_main_v1 (F := Ideal) y (ix2 r k)) (w (ix2 k q)) := by
  pointwise [val_main_v4, times]
theorem v9_read : val_main_v9 (F := Ideal) y w h (ix2 r q) = lin (val_main_v3 (F := Ideal) h (ix2 r q)) (val_main_v4 (F := Ideal) y w (ix2 r q)) := by
  pointwise [val_main_cst, val_main_cst_1, val_main_v5, val_main_v6, val_main_v7, val_main_v8, val_main_v9, lin]
theorem norm_read : val_main_v33 (F := Ideal) y w h g b (ix2 r q)
    = normed (fun k => val_main_v9 (F := Ideal) y w h (ix2 r k)) (g (ix1 q)) (b (ix1 q)) q := by
  pointwise [val_main_cst_2, val_main_v10, val_main_v11, val_main_cst_3, val_main_v12, val_main_v13, val_main_v14, val_main_v15, val_main_v16, val_main_cst_4, val_main_v17, val_main_v18, val_main_cst_5, val_main_v19, val_main_v20, val_main_v21, val_main_v22, val_main_cst_6, val_main_v23, val_main_v24, val_main_v25, val_main_v26, val_main_v27, val_main_v28, val_main_v29, val_main_v30, val_main_v31, val_main_v32, val_main_v33, normed, center, moment]
theorem bf_read : val_main_v34 (F := Ideal) y w h g b (ix2 r q) = val_main_v33 (F := Ideal) y w h g b (ix2 r q) := by
  pointwise [val_main_v34]
end reference

/-- The rows at a chip's columns. -/
theorem y_at (c : Dev nD) (r : Fin 2176) (a : Fin 4) (s : Fin 768) : V m c main_v5 (ix2 r ⟨a.val * 768 + s.val, by have := a.isLt; have := s.isLt; omega⟩)
    = if h : 112 ≤ r.val ∧ s.val < 704 then (m ((c : Thread nD τ).loc main_arg0)) (ix3 0 ⟨r.val - 112, by omega⟩ ⟨a.val * 704 + s.val, by have := a.isLt; omega⟩) else (0 : EReal) := by
  have hs := s.isLt
  have ha := a.isLt
  have hr := r.isLt
  rw [y_read]
  by_cases h : 112 ≤ r.val ∧ s.val < 704
  · rw [dif_pos h, dif_pos ⟨h.1, by show (a.val * 768 + s.val) % 768 < 704; omega⟩]
    exact congrArg (fun z => (m ((c : Thread nD τ).loc main_arg0)) (ix3 0 ⟨r.val - 112, by omega⟩ z)) (Fin.ext (by show (a.val * 768 + s.val) / 768 * 704 + (a.val * 768 + s.val) % 768 = a.val * 704 + s.val; omega))
  · rw [dif_neg h, dif_neg fun e => h ⟨e.1, by have := e.2; change (a.val * 768 + s.val) % 768 < 704 at this; omega⟩]
/-- The product, and the norm. -/
theorem mix_read (c : Dev nD) (r : Fin 2176) (q : Fin 1024) : mix m c r q = val_main_v4 (F := Ideal) (m ((c : Thread nD τ).loc main_arg0)) (m ((c : Thread nD τ).loc main_arg1)) (ix2 r q) := by
  unfold mix
  rw [v4_read]
  refine sum_chips _ _ (fun a s h => ?_) fun a s h => ?_
  · rw [w_read, dif_neg (by omega)]
    exact mul_zero _
  · rw [w_read, dif_pos h, y_at, v1_read]
    refine congrArg (times · _) ?_
    by_cases e : 112 ≤ r.val
    · rw [dif_pos ⟨e, h⟩, dif_pos e]
    · rw [dif_neg fun k => e k.1, dif_neg e]
theorem out_read (c : Dev nD) (r : Fin 2176) (q : Fin 1024) : out m c r q
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r q) := by
  unfold out
  rw [norm_read, g_read, b_read]
  refine congrArg (fun p => normed p _ _ q) (funext fun k => ?_)
  rw [v9_read, mix_read]
  exact congrArg (lin · _) ((h_read m c r k).trans (v3_read _ r k).symm)
theorem final5 (c : Dev nD) : (dats m 0 c).arrAt 5 (cfgs 0).N = val_main_v4 (F := Ideal) (m ((c : Thread nD τ).loc main_arg0)) (m ((c : Thread nD τ).loc main_arg1)) := by
  rw [arr5]
  funext i
  idx_vars i
  exact mix_read m c i0 i1
theorem final6 (c : Dev nD) : (dats m 0 c).arrAt 6 (cfgs 0).N = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr6]
  funext i
  idx_vars i
  exact out_read m c i0 i1
theorem final7 (c : Dev nD) : (dats m 0 c).arrAt 7 (cfgs 0).N = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [arr7]
  funext i
  idx_vars i
  exact (out_read m c i0 i1).trans (bf_read _ _ _ _ _ i0 i1).symm

end Cert.DownfKernelIdeal.Value
-- ==== Proof.DownfClaim.lean ====
/- The feed-forward's output product with its deepnorm residual and layer norm is the reference's. -/
module

public import proofs.«01_k».proof.Defs
public import proofs.«01_k».proof.Proof.DownfFinal
public import proofs.«01_k».proof.Proof.Gen.DownfReferenceIdeal.Read

@[expose] public section

set_option maxRecDepth 16384

noncomputable section

open Idealize.ShloMosaic Idealize.ShloMosaic.TcCoe Idealize.SL.Sem
open Idealize.ShloMosaic.Pipeline (Dat)

namespace Cert.DownfReferenceIdeal.Read

open Cert.DownfReferenceIdeal Cert.DownfReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v4_eq _ _), (h c).2.1.trans (val_main_v33_eq m c), (h c).2.2.1.trans (val_main_v34_eq m c), (h c).2.2.2⟩) (Value.run m ρ)

end Cert.DownfReferenceIdeal.Read

namespace Cert.DownfKernelIdeal.Value

/-- The feed-forward's output product with its deepnorm residual and layer norm is the reference's. -/
theorem algebraic : Cert.algebraic_DownfKernelIdeal_DownfReferenceIdeal := by
  pair_intro
  · run_from Cert.DownfKernelIdeal.Gen.run_main m g & Cert.DownfKernelIdeal.Gen.unchanged m g
  · run_from Cert.DownfReferenceIdeal.Read.run m' g'
    · exact (final5 m c).symm
    · exact (final6 m c).symm
    · exact (final7 m c).symm

end Cert.DownfKernelIdeal.Value
-- ==== Proof.GudxValue.lean ====
/- The gradient of the feed-forward's input through its two input products: what the kernel's result array holds, as a function of its operands. -/
module

public import proofs.«01_k».proof.Proof.Gen.GudxKernelIdeal.Frame
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GudxKernelIdeal.Value

open Cert.GudxKernelIdeal Cert.GudxKernelIdeal.Gen

/-- A product. -/
def times (a b : EReal) : EReal := a * b

section block
variable (A B : FVec Ideal S1088x768 .bf16) (U W : FVec Ideal S1x768x1024 .bf16) (o h : FVec Ideal S1088x1024 .f32) (r : Fin 1088) (q : Fin 1024)

theorem pay1_apply : k0_pay1 (F := Ideal) (ix2 r q) = (0 : EReal) := by
  pointwise [k0_pay1]
theorem pay2_apply : k0_pay2 (F := Ideal) o A U B W (ix2 r q)
    = o (ix2 r q) + (∑ k : Fin 768, times (A (ix2 r k)) (U (ix3 0 k q)) + ∑ k : Fin 768, times (B (ix2 r k)) (W (ix3 0 k q))) := by
  pointwise [k0_pay2, times]
theorem pay3_apply : k0_pay3 (F := Ideal) o h (ix2 r q) = o (ix2 r q) + h (ix2 r q) := by
  pointwise [k0_pay3]
end block

variable (m : (ℓ : Loc nD τ sig) → Buf (Elt Ideal) ℓ)

/-- The blocks: point `t` works on row block `t / 4`, and adds the products over the columns of chip `t % 4`. -/
theorem idx : ∀ t : Fin cfg0.N, win0_0.index t = ![t.val / 4, t.val % 4] ∧ win0_1.index t = ![t.val / 4, t.val % 4] ∧ win0_2.index t = ![t.val % 4, 0, 0]
    ∧ win0_3.index t = ![t.val % 4, 0, 0] ∧ win0_4.index t = ![t.val / 4, 0] ∧ win0_5.index t = ![t.val / 4, 0] :=
  (by decide +kernel : ∀ t : Fin grid0.N, _)

/-- One chip's product of rows and columns of the arrays the call is given. -/
def prod (X : FVec Ideal S2176x3072 .bf16) (W : FVec Ideal S4x768x1024 .bf16) (r : Fin 2176) (a : Fin 4) (q : Fin 1024) : EReal :=
  ∑ s : Fin 768, times (X (ix2 r ⟨a.val * 768 + s.val, by have := a.isLt; have := s.isLt; omega⟩)) (W (ix3 a s q))
/-- The gradient: over the chips the two products added, and the residual's gradient. -/
def out (c : Dev nD) (r : Fin 2176) (q : Fin 1024) : EReal :=
  ∑ a : Fin 4, (prod (V m c main_v5) (V m c main_v15) r a q + prod (V m c main_v11) (V m c main_v19) r a q) + V m c main_v21 (ix2 r q)
/-- One chip's part, for a row block. -/
def part (c : Dev nD) (a k : ℕ) (i : S1088x1024.Idx) : EReal :=
  prod (V m c main_v5) (V m c main_v15) ⟨(a * 1088 + (i 0).val) % 2176, Nat.mod_lt _ (by decide)⟩ ⟨k % 4, Nat.mod_lt _ (by decide)⟩ (i 1)
    + prod (V m c main_v11) (V m c main_v19) ⟨(a * 1088 + (i 0).val) % 2176, Nat.mod_lt _ (by decide)⟩ ⟨k % 4, Nat.mod_lt _ (by decide)⟩ (i 1)

section point
variable (c : Dev nD) (t : Fin cfg0.N) (r : Fin 1088) (q : Fin 1024)

/-- A block's row of the whole array, and its chip. -/
abbrev ro : Fin 2176 := ⟨t.val / 4 * 1088 + r.val, by have : t.val < 8 := t.isLt; have := r.isLt; omega⟩
abbrev ch : Fin 4 := ⟨t.val % 4, Nat.mod_lt _ (by decide)⟩
abbrev co (k : Fin 768) : Fin 3072 := ⟨t.val % 4 * 768 + k.val, by have := k.isLt; omega⟩

theorem part_eq (k : ℕ) (hk : k % 4 = t.val % 4) : part m c (t.val / 4) k (ix2 r q)
    = prod (V m c main_v5) (V m c main_v15) (ro t r) (ch t) q + prod (V m c main_v11) (V m c main_v19) (ro t r) (ch t) q := by
  have ht : t.val < 8 := t.isLt
  have hr := r.isLt
  have e1 : (⟨(t.val / 4 * 1088 + r.val) % 2176, Nat.mod_lt _ (by decide)⟩ : Fin 2176) = ro t r := Fin.ext (Nat.mod_eq_of_lt (by omega))
  have e2 : (⟨k % 4, Nat.mod_lt _ (by decide)⟩ : Fin 4) = ch t := Fin.ext hk
  unfold part
  exact congrArg₂ (fun x y => prod (V m c main_v5) (V m c main_v15) x y q + prod (V m c main_v11) (V m c main_v19) x y q) e1 e2
theorem blk0 (k : Fin 768) : iblk m c 0 t (ix2 r k) = V m c main_v5 (ix2 (ro t r) (co t k)) := by
  blk_point [iblk, V, idx t]
theorem blk1 (k : Fin 768) : iblk m c 1 t (ix2 r k) = V m c main_v11 (ix2 (ro t r) (co t k)) := by
  blk_point [iblk, V, idx t]
theorem blk2 (k : Fin 768) : iblk m c 2 t (ix3 0 k q) = V m c main_v15 (ix3 (ch t) k q) := by
  blk_point [iblk, V, idx t]
theorem blk3 (k : Fin 768) : iblk m c 3 t (ix3 0 k q) = V m c main_v19 (ix3 (ch t) k q) := by
  blk_point [iblk, V, idx t]
theorem blk4 : iblk m c 4 t (ix2 r q) = V m c main_v21 (ix2 (ro t r) q) := by
  blk_point [iblk, V, idx t]
/-- What a point adds to the sum it carries. -/
theorem step (o : FVec Ideal S1088x1024 .f32) :
    k0_pay2 (F := Ideal) o (iblk m c 0 t) (iblk m c 2 t) (iblk m c 1 t) (iblk m c 3 t) (ix2 r q) = o (ix2 r q) + part m c (t.val / 4) (t.val % 4) (ix2 r q) := by
  refine (pay2_apply _ _ _ _ _ r q).trans ?_
  rw [part_eq m c t r q _ (Nat.mod_mod _ _)]
  exact congrArg (_ + ·) (congrArg₂ (· + ·) (Finset.sum_congr rfl fun s _ => congrArg₂ times (blk0 m c t r s) (blk2 m c t q s))
    (Finset.sum_congr rfl fun s _ => congrArg₂ times (blk1 m c t r s) (blk3 m c t q s)))
end point

/-- The sum carried between the points: reset at a row block's first point, the chips' parts added up. -/
theorem carried_A (c : Dev nD) (t : Fin cfg0.N) (h : t.val % 4 = 0) (i : S1088x1024.Idx) :
    (outsAt0 m c t.val t.isLt).2 i = 0 + part m c (t.val / 4) (t.val % 4) i := by
  rw [outsAt0_A m c t h (by omega)]
  frame_out
  refine (congrArg _ (eq_ix2 i)).trans ((step m c t (i 0) (i 1) _).trans ?_)
  exact congrArg₂ (· + ·) (pay1_apply _ _) (congrArg _ (eq_ix2 i).symm)
theorem carried_BC (c : Dev nD) (t : Fin cfg0.N) (h : ¬t.val % 4 = 0) (i : S1088x1024.Idx) :
    (outsAt0 m c t.val t.isLt).2 i = (outsAt0 m c (t.val - 1) (Nat.lt_of_le_of_lt (Nat.sub_le _ _) t.isLt)).2 i + part m c (t.val / 4) (t.val % 4) i := by
  by_cases h3 : t.val % 4 = 3
  · rw [outsAt0_C m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
  · rw [outsAt0_B m c t h h3]
    frame_out
    rw [read_unread_whole]
    refine (congrArg _ (eq_ix2 i)).trans ((step m c t (i 0) (i 1) _).trans ?_)
    exact congrArg₂ (· + ·) (congrArg _ (eq_ix2 i).symm) (congrArg _ (eq_ix2 i).symm)
theorem carried (c : Dev nD) (t : Fin cfg0.N) (h : t.val % 4 = 3) (r : Fin 1088) (q : Fin 1024) : (outsAt0 m c t.val t.isLt).2 (ix2 r q)
    = ∑ a : Fin 4, (prod (V m c main_v5) (V m c main_v15) (ro t r) a q + prod (V m c main_v11) (V m c main_v19) (ro t r) a q) := by
  rw [Pipeline.eq_sum_of_reset_step_apply_divmod (fun n h => (outsAt0 m c n h).2) 4 (fun _ => (0 : EReal)) (part m c)
    (carried_A m c) (carried_BC m c) t (ix2 r q), zero_add, h, Finset.sum_range]
  refine Finset.sum_congr rfl fun a _ => ?_
  have ht : t.val < 8 := t.isLt
  have hr := r.isLt
  have e1 : (⟨(t.val / 4 * 1088 + r.val) % 2176, Nat.mod_lt _ (by decide)⟩ : Fin 2176) = ro t r := Fin.ext (Nat.mod_eq_of_lt (by omega))
  have e2 : (⟨a.val % 4, Nat.mod_lt _ (by decide)⟩ : Fin 4) = a := Fin.ext (Nat.mod_eq_of_lt a.isLt)
  unfold part
  exact congrArg₂ (fun x y => prod (V m c main_v5) (V m c main_v15) x y q + prod (V m c main_v11) (V m c main_v19) x y q) e1 e2

/-- A row block's last point leaves the gradient in the result's buffer. -/
theorem point5 (c : Dev nD) (t : Fin cfg0.N) (r : Fin 1088) (q : Fin 1024) (h : t.val % 4 = 3) : (outsAt0 m c t.val t.isLt).1 (ix2 r q) = out m c (ro t r) q := by
  have e : (outsAt0 m c t.val t.isLt).1 = k0_pay3 (F := Ideal) (outsAt0 m c t.val t.isLt).2 (iblk m c 4 t) := by
    rw [outsAt0_C m c t (by omega) h]
    frame_out
  rw [e, pay3_apply, carried m c t h r q, blk4]
  rfl

/-- A block is written back at its row block's last point. -/
theorem flush5 : ∀ t : Fin cfg0.N, (cfg0.win 5).flush t = true → t.val % 4 = 3 := (by decide +kernel : ∀ t : Fin grid0.N, _)
/-- The result's array. -/
theorem arr5 (c : Dev nD) : (dats m 0 c).arrAt 5 (cfgs 0).N = fun i : S2176x1024.Idx => out m c (i 0) (i 1) := by
  refine (dats m 0 c).arrAt_eq_of_covers 5 _ (by decide +kernel) fun t hf y => ?_
  blk_simp
  rw [after0_5]
  refine Eq.trans ((congrArg _ (eq_ix2 y)).trans (point5 m c t (y 0) (y 1) (flush5 t hf))) (congrArg₂ (out m c) (Fin.ext ?_) (Fin.ext ?_))
  · blk_simp [idx t] <;> try omega
  · blk_simp [idx t] <;> try omega

end Cert.GudxKernelIdeal.Value
-- ==== Proof.GudxFinal.lean ====
/- The gradient of the feed-forward's input through its two input products: the operands, and the result as the reference's. -/
module

public import proofs.«01_k».proof.Proof.GudxValue
public import proofs.«01_k».proof.Proof.Chips
public import proofs.«01_k».proof.Proof.Gen.GudxReferenceIdeal.Read

@[expose] public section

set_option maxRecDepth 16384

noncomputable section

open Idealize.ShloMosaic Idealize.ShloMosaic.TcCoe Idealize.SL.Sem
open Idealize.ShloMosaic.Pipeline (Dat)

namespace Cert.GudxKernelIdeal.Value

open Cert.Chips Cert.GudxKernelIdeal Cert.GudxKernelIdeal.Gen Cert.GudxReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- Rows below 112 rows of zeros, every chip's 704 columns before 64 columns of zeros; and a weight's columns by chips, as rows before 64 rows of zeros. -/
def rows (x : FVec Ideal S1x2064x2816 .f32) (r : Fin 2176) (k : Fin 3072) : EReal :=
  if h : 112 ≤ r.val ∧ k.val % 768 < 704 then x (ix3 0 ⟨r.val - 112, by omega⟩ ⟨k.val / 768 * 704 + k.val % 768, by omega⟩) else 0
def weight (w : FVec Ideal S1024x2816 .f32) (a : Fin 4) (k : Fin 768) (q : Fin 1024) : EReal :=
  if h : k.val < 704 then w (ix2 q ⟨a.val * 704 + k.val, by have := a.isLt; omega⟩) else 0

/-- The operand is such rows. -/
theorem dg_read (c : Dev nD) (r : Fin 2176) (k : Fin 3072) : V m c main_v5 (ix2 r k)
    = rows (m ((c : Thread nD τ).loc main_arg3)) r k := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append, StableHlo.TRef.binary, StableHlo.TRef.unary, StableHlo.TRef.toBuf, StableHlo.TRef.ofBuf, cast_eq]
  after_results
  pointwise []
  unfold rows
  have hr := r.isLt
  have hk := k.isLt
  simp only [sitofp_zero]
  split_ifs <;> first | (exfalso; omega) | rfl
/-- The operand is such rows. -/
theorem du_read (c : Dev nD) (r : Fin 2176) (k : Fin 3072) : V m c main_v11 (ix2 r k)
    = rows (m ((c : Thread nD τ).loc main_arg4)) r k := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append, StableHlo.TRef.binary, StableHlo.TRef.unary, StableHlo.TRef.toBuf, StableHlo.TRef.ofBuf, cast_eq]
  after_results
  pointwise []
  unfold rows
  have hr := r.isLt
  have hk := k.isLt
  simp only [sitofp_zero]
  split_ifs <;> first | (exfalso; omega) | rfl
/-- The operand is such a weight. -/
theorem wg_read (c : Dev nD) (a : Fin 4) (k : Fin 768) (q : Fin 1024) : V m c main_v15 (ix3 a k q)
    = weight (m ((c : Thread nD τ).loc main_arg1)) a k q := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append, StableHlo.TRef.binary, StableHlo.TRef.unary, StableHlo.TRef.toBuf, StableHlo.TRef.ofBuf, cast_eq]
  after_results
  pointwise []
  unfold weight
  simp only [sitofp_zero]
/-- The operand is such a weight. -/
theorem wu_read (c : Dev nD) (a : Fin 4) (k : Fin 768) (q : Fin 1024) : V m c main_v19 (ix3 a k q)
    = weight (m ((c : Thread nD τ).loc main_arg2)) a k q := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append, StableHlo.TRef.binary, StableHlo.TRef.unary, StableHlo.TRef.toBuf, StableHlo.TRef.ofBuf, cast_eq]
  after_results
  pointwise []
  unfold weight
  simp only [sitofp_zero]
/-- The residual's gradient is rows below 112 rows of zeros. -/
theorem dh_read (c : Dev nD) (r : Fin 2176) (k : Fin 1024) : V m c main_v21 (ix2 r k)
    = if h : 112 ≤ r.val then (m ((c : Thread nD τ).loc main_arg5)) (ix3 0 ⟨r.val - 112, by omega⟩ k) else (0 : EReal) := by
  unfold V
  simp only [hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first | (exfalso; omega) | rfl

/-- The sum over the chips of such rows and weights is the product of the given arrays on the given rows, and zero on the padded ones. -/
theorem prod_read (X : FVec Ideal S2176x3072 .bf16) (W : FVec Ideal S4x768x1024 .bf16) (x : FVec Ideal S1x2064x2816 .f32) (w : FVec Ideal S1024x2816 .f32)
    (hx : ∀ r k, X (ix2 r k) = rows x r k) (hw : ∀ a k q, W (ix3 a k q) = weight w a k q) (r : Fin 2176) (q : Fin 1024) :
    ∑ a, prod X W r a q = if h : 112 ≤ r.val then ∑ l : Fin 2816, times (x (ix3 0 ⟨r.val - 112, by omega⟩ l)) (w (ix2 q l)) else 0 := by
  unfold prod
  have hr := r.isLt
  by_cases h : 112 ≤ r.val
  · rw [dif_pos h]
    refine sum_chips _ _ (fun a s e => ?_) fun a s e => ?_
    · rw [hw, weight, dif_neg (by omega)]
      exact mul_zero _
    · have ha := a.isLt
      rw [hw, weight, dif_pos e, hx, rows, dif_pos ⟨h, by show (a.val * 768 + s.val) % 768 < 704; omega⟩]
      exact congrArg (fun z => times (x (ix3 0 ⟨r.val - 112, by omega⟩ z)) _) (Fin.ext (by show (a.val * 768 + s.val) / 768 * 704 + (a.val * 768 + s.val) % 768 = a.val * 704 + s.val; omega))
  · rw [dif_neg h]
    refine Finset.sum_eq_zero fun a _ => Finset.sum_eq_zero fun s _ => ?_
    rw [hx, rows, dif_neg fun e => h e.1]
    exact zero_mul _

section reference
variable (x y : FVec Ideal S1x2064x2816 .f32) (h : FVec Ideal S1x2064x1024 .f32) (u w : FVec Ideal S1024x2816 .f32) (r : Fin 2176) (l : Fin 2064) (q : Fin 1024)

theorem v2_read : val_main_v2 (F := Ideal) w y (ix3 0 l q) = ∑ k : Fin 2816, times (y (ix3 0 l k)) (w (ix2 q k)) := by
  pointwise [val_main_v2, times]
theorem v3_read : val_main_v3 (F := Ideal) u x (ix3 0 l q) = ∑ k : Fin 2816, times (x (ix3 0 l k)) (u (ix2 q k)) := by
  pointwise [val_main_v3, times]
theorem v5_read : val_main_v5 (F := Ideal) u w x y h (ix3 0 l q) = val_main_v2 (F := Ideal) w y (ix3 0 l q) + val_main_v3 (F := Ideal) u x (ix3 0 l q) + h (ix3 0 l q) := by
  pointwise [val_main_v4, val_main_v5]
theorem v7_read : val_main_v7 (F := Ideal) u w x y h (ix2 r q) = if e : 112 ≤ r.val then val_main_v5 (F := Ideal) u w x y h (ix3 0 ⟨r.val - 112, by omega⟩ q) else (0 : EReal) := by
  pointwise [val_main_v6, val_main_c, val_main_call0_v0, val_main_v7]
  have hr := r.isLt
  simp only [sitofp_zero]
  split_ifs <;> first | (exfalso; omega) | rfl
end reference

/-- The result. -/
theorem out_read (c : Dev nD) (r : Fin 2176) (q : Fin 1024) : out m c r q = val_main_v7 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (ix2 r q) := by
  unfold out
  rw [Finset.sum_add_distrib, prod_read _ _ _ _ (dg_read m c) (wg_read m c) r q, prod_read _ _ _ _ (du_read m c) (wu_read m c) r q, dh_read, v7_read]
  by_cases h : 112 ≤ r.val
  · rw [dif_pos h, dif_pos h, dif_pos h, dif_pos h, v5_read, v2_read, v3_read]
    exact congrArg (· + _) (add_comm _ _)
  · rw [dif_neg h, dif_neg h, dif_neg h, dif_neg h, add_zero, add_zero]
theorem final5 (c : Dev nD) : (dats m 0 c).arrAt 5 (cfgs 0).N = val_main_v7 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  rw [arr5]
  funext i
  idx_vars i
  exact out_read m c i0 i1

end Cert.GudxKernelIdeal.Value
-- ==== Proof.GudxClaim.lean ====
/- The gradient of the feed-forward's input through its two input products is the reference's. -/
module

public import proofs.«01_k».proof.Defs
public import proofs.«01_k».proof.Proof.GudxFinal
public import proofs.«01_k».proof.Proof.Gen.GudxReferenceIdeal.Read

@[expose] public section

set_option maxRecDepth 16384

noncomputable section

open Idealize.ShloMosaic Idealize.ShloMosaic.TcCoe Idealize.SL.Sem
open Idealize.ShloMosaic.Pipeline (Dat)

namespace Cert.GudxReferenceIdeal.Read

open Cert.GudxReferenceIdeal Cert.GudxReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v7) = val_main_v7 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun _ h c => ⟨(h c).1.trans (val_main_v7_eq _ _ _ _ _), (h c).2⟩) (Value.run m ρ)

end Cert.GudxReferenceIdeal.Read

namespace Cert.GudxKernelIdeal.Value

/-- The gradient of the feed-forward's input through its two input products is the reference's. -/
theorem algebraic : Cert.algebraic_GudxKernelIdeal_GudxReferenceIdeal := by
  pair_intro
  · run_from Cert.GudxKernelIdeal.Gen.run_main m g & Cert.GudxKernelIdeal.Gen.unchanged m g
  · run_from Cert.GudxReferenceIdeal.Read.run m' g'
    · exact (final5 m c).symm

end Cert.GudxKernelIdeal.Value
-- ==== Proof.GudwValue.lean ====
/- The gradients of the feed-forward's two input weights: what the kernel's result arrays hold, as functions of its operands. -/
module

public import proofs.«01_k».proof.Proof.Gen.GudwKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GudwKernelIdeal.Value

open Cert.GudwKernelIdeal Cert.GudwKernelIdeal.Gen

/-- A product. -/
def times (a b : EReal) : EReal := a * b

section block
variable (A : FVec Ideal S2176x768 .bf16) (B : FVec Ideal S2176x1024 .bf16) (s : Fin 768) (q : Fin 1024)

theorem pay2_apply : k0_pay2 (F := Ideal) B A (ix3 0 s q) = ∑ r : Fin 2176, times (A (ix2 r s)) (B (ix2 r q)) := by
  pointwise [k0_pay2, k0_pay1, times]
theorem pay3_apply : k0_pay3 (F := Ideal) B A (ix3 0 s q) = ∑ r : Fin 2176, times (A (ix2 r s)) (B (ix2 r q)) := by
  pointwise [k0_pay3, k0_pay1, times]
end block

variable (m : (ℓ : Loc nD τ sig) → Buf (Elt Ideal) ℓ)

/-- The blocks: point `t` works on the columns of chip `t`. -/
theorem idx : ∀ t : Fin cfg0.N, win0_0.index t = ![0, t.val] ∧ win0_1.index t = ![0, t.val] ∧ win0_2.index t = ![0, 0]
    ∧ win0_3.index t = ![t.val, 0, 0] ∧ win0_4.index t = ![t.val, 0, 0] :=
  (by decide +kernel : ∀ t : Fin grid0.N, _)

/-- A chip's weight gradient: the product over the rows of a chip's column with another column. -/
def dw (X : FVec Ideal S2176x3072 .bf16) (Y : FVec Ideal S2176x1024 .bf16) (a : Fin 4) (s : Fin 768) (q : Fin 1024) : EReal :=
  ∑ r : Fin 2176, times (X (ix2 r ⟨a.val * 768 + s.val, by have := a.isLt; have := s.isLt; omega⟩)) (Y (ix2 r q))
/-- The results of the arrays the call is given. -/
def wg (c : Dev nD) (a : Fin 4) (s : Fin 768) (q : Fin 1024) : EReal := dw (V m c main_v5) (V m c main_v14) a s q
def wu (c : Dev nD) (a : Fin 4) (s : Fin 768) (q : Fin 1024) : EReal := dw (V m c main_v11) (V m c main_v14) a s q

section point
variable (c : Dev nD) (t : Fin cfg0.N) (s : Fin 768) (q : Fin 1024)

/-- A point's chip, and a block's column of the whole array. -/
abbrev ch : Fin 4 := ⟨t.val, t.isLt⟩
abbrev co : Fin 3072 := ⟨(ch t).val * 768 + s.val, by have : t.val < 4 := t.isLt; have := s.isLt; show t.val * 768 + s.val < 3072; omega⟩

theorem blk0 (r : Fin 2176) : View.ld (iblk m c 0 t) r0_1 (ix2 r s) = V m c main_v5 (ix2 r (co t s)) := by
  blk_point [iblk, V, idx t]
theorem blk1 (r : Fin 2176) : View.ld (iblk m c 1 t) r0_1 (ix2 r s) = V m c main_v11 (ix2 r (co t s)) := by
  blk_point [iblk, V, idx t]
theorem blk2 (r : Fin 2176) : View.ld (iblk m c 2 t) r0_0 (ix2 r q) = V m c main_v14 (ix2 r q) := by
  blk_point [iblk, V, idx t]
theorem wg_eq : k0_pay2 (F := Ideal) (View.ld (iblk m c 2 t) r0_0) (View.ld (iblk m c 0 t) r0_1) (ix3 0 s q) = wg m c (ch t) s q := by
  refine (pay2_apply _ _ s q).trans ?_
  unfold wg dw
  refine Finset.sum_congr rfl fun r _ => ?_
  rw [blk0, blk2]
theorem wu_eq : k0_pay3 (F := Ideal) (View.ld (iblk m c 2 t) r0_0) (View.ld (iblk m c 1 t) r0_1) (ix3 0 s q) = wu m c (ch t) s q := by
  refine (pay3_apply _ _ s q).trans ?_
  unfold wu dw
  refine Finset.sum_congr rfl fun r _ => ?_
  rw [blk1, blk2]
/-- What a point leaves in the results' staging buffers. -/
theorem point3 : out0_3 (iblk m c 0 t) (iblk m c 1 t) (iblk m c 2 t) (ix3 0 s q) = wg m c (ch t) s q := by
  unfold out0_3
  canon_tiles z hz
  have ez : z = ix3 0 s q := by
    refine (eq_ix3 z).trans ?_
    have e0 : z 0 = (0 : Fin 1) := Fin.ext (by have : (z 0).val < 1 := (z 0).isLt; show (z 0).val = 0; omega)
    have e1 : z 1 = s := Fin.ext (by have : s.val = (z 1).val := hz1; omega)
    have e2 : z 2 = q := Fin.ext (by have : q.val = (z 2).val := hz2; omega)
    rw [e0, e1, e2]
  rw [ez]
  exact wg_eq m c t s q
theorem point4 : out0_4 (iblk m c 0 t) (iblk m c 1 t) (iblk m c 2 t) (ix3 0 s q) = wu m c (ch t) s q := by
  unfold out0_4
  canon_tiles z hz
  have ez : z = ix3 0 s q := by
    refine (eq_ix3 z).trans ?_
    have e0 : z 0 = (0 : Fin 1) := Fin.ext (by have : (z 0).val < 1 := (z 0).isLt; show (z 0).val = 0; omega)
    have e1 : z 1 = s := Fin.ext (by have : s.val = (z 1).val := hz1; omega)
    have e2 : z 2 = q := Fin.ext (by have : q.val = (z 2).val := hz2; omega)
    rw [e0, e1, e2]
  rw [ez]
  exact wu_eq m c t s q
end point

/-- The first result's array, -/
theorem arr3 (c : Dev nD) : (dats m 0 c).arrAt 3 (cfgs 0).N = fun i : S4x768x1024.Idx => wg m c (i 0) (i 1) (i 2) := by
  refine (dats m 0 c).arrAt_eq_of_covers 3 _ (by decide +kernel) fun t _ y => ?_
  blk_simp
  rw [after0_3]
  have e : y = ix3 0 (y 1) (y 2) := (eq_ix3 y).trans (congrArg (fun z => ix3 z (y 1) (y 2)) (Fin.ext (by have : (y 0).val < 1 := (y 0).isLt; show (y 0).val = 0; omega)))
  refine Eq.trans ((congrArg _ e).trans (point3 m c t (y 1) (y 2))) ?_
  have e0 : (y 0).val = 0 := congrArg (fun z => (z 0).val) e
  refine congr (congrArg₂ (wg m c) (Fin.ext ?_) (Fin.ext ?_)) (Fin.ext ?_)
  · blk_simp [idx t] <;> try omega
  · blk_simp [idx t] <;> try omega
  · blk_simp [idx t] <;> try omega
/-- and the second's. -/
theorem arr4 (c : Dev nD) : (dats m 0 c).arrAt 4 (cfgs 0).N = fun i : S4x768x1024.Idx => wu m c (i 0) (i 1) (i 2) := by
  refine (dats m 0 c).arrAt_eq_of_covers 4 _ (by decide +kernel) fun t _ y => ?_
  blk_simp
  rw [after0_4]
  have e : y = ix3 0 (y 1) (y 2) := (eq_ix3 y).trans (congrArg (fun z => ix3 z (y 1) (y 2)) (Fin.ext (by have : (y 0).val < 1 := (y 0).isLt; show (y 0).val = 0; omega)))
  refine Eq.trans ((congrArg _ e).trans (point4 m c t (y 1) (y 2))) ?_
  have e0 : (y 0).val = 0 := congrArg (fun z => (z 0).val) e
  refine congr (congrArg₂ (wu m c) (Fin.ext ?_) (Fin.ext ?_)) (Fin.ext ?_)
  · blk_simp [idx t] <;> try omega
  · blk_simp [idx t] <;> try omega
  · blk_simp [idx t] <;> try omega

end Cert.GudwKernelIdeal.Value
-- ==== Proof.GudwFinal.lean ====
/- The gradients of the feed-forward's two input weights: the operands, and the results as the reference's. -/
module

public import proofs.«01_k».proof.Proof.GudwValue
public import proofs.«01_k».proof.Proof.Chips
public import proofs.«01_k».proof.Proof.Gen.GudwReferenceIdeal.Read

@[expose] public section

set_option maxRecDepth 16384

noncomputable section

open Idealize.ShloMosaic Idealize.ShloMosaic.TcCoe Idealize.SL.Sem
open Idealize.ShloMosaic.Pipeline (Dat)

namespace Cert.GudwKernelIdeal.Value

open Cert.Chips Cert.GudwKernelIdeal Cert.GudwKernelIdeal.Gen Cert.GudwReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- Rows below 112 rows of zeros, every chip's 704 columns before 64 columns of zeros. -/
def rows (x : FVec Ideal S1x2064x2816 .f32) (r : Fin 2176) (k : Fin 3072) : EReal :=
  if h : 112 ≤ r.val ∧ k.val % 768 < 704 then x (ix3 0 ⟨r.val - 112, by omega⟩ ⟨k.val / 768 * 704 + k.val % 768, by omega⟩) else 0

/-- The cotangent's operand is such rows. -/
theorem dg_read (c : Dev nD) (r : Fin 2176) (k : Fin 3072) : V m c main_v5 (ix2 r k)
    = rows (m ((c : Thread nD τ).loc main_arg3)) r k := by
  unfold V
  simp only [hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append, StableHlo.TRef.binary, StableHlo.TRef.unary, StableHlo.TRef.toBuf, StableHlo.TRef.ofBuf, cast_eq]
  after_results
  pointwise []
  unfold rows
  have hr := r.isLt
  have hk := k.isLt
  simp only [sitofp_zero]
  split_ifs <;> first | (exfalso; omega) | rfl
/-- The cotangent's operand is such rows. -/
theorem du_read (c : Dev nD) (r : Fin 2176) (k : Fin 3072) : V m c main_v11 (ix2 r k)
    = rows (m ((c : Thread nD τ).loc main_arg4)) r k := by
  unfold V
  simp only [hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append, StableHlo.TRef.binary, StableHlo.TRef.unary, StableHlo.TRef.toBuf, StableHlo.TRef.ofBuf, cast_eq]
  after_results
  pointwise []
  unfold rows
  have hr := r.isLt
  have hk := k.isLt
  simp only [sitofp_zero]
  split_ifs <;> first | (exfalso; omega) | rfl
/-- The input is rows below 112 rows of zeros. -/
theorem x_read (c : Dev nD) (r : Fin 2176) (k : Fin 1024) : V m c main_v14 (ix2 r k)
    = if h : 112 ≤ r.val then (m ((c : Thread nD τ).loc main_arg0)) (ix3 0 ⟨r.val - 112, by omega⟩ k) else (0 : EReal) := by
  unfold V
  simp only [hostOps0, hostOps0_1, hostOps0_2, hostOps0_3, hostOps0_4, hostOps0_5, hostOps0_6, hostOps0_7, hostOps0_8, hostOps0_9, hostOps0_10, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first | (exfalso; omega) | rfl

/-- The product of such rows with padded rows, on the columns of a chip, is the product of the given arrays, and zero on the padded columns. -/
theorem dw_read (X : FVec Ideal S2176x3072 .bf16) (Y : FVec Ideal S2176x1024 .bf16) (x : FVec Ideal S1x2064x2816 .f32) (y : FVec Ideal S1x2064x1024 .f32)
    (hx : ∀ r k, X (ix2 r k) = rows x r k) (hy : ∀ (r : Fin 2176) k, Y (ix2 r k) = if h : 112 ≤ r.val then y (ix3 0 ⟨r.val - 112, by omega⟩ k) else (0 : EReal))
    (a : Fin 4) (s : Fin 768) (q : Fin 1024) :
    dw X Y a s q = if h : s.val < 704 then ∑ l : Fin 2064, times (x (ix3 0 l ⟨a.val * 704 + s.val, by have := a.isLt; omega⟩)) (y (ix3 0 l q)) else 0 := by
  have ha := a.isLt
  have hs := s.isLt
  unfold dw
  by_cases h : s.val < 704
  · rw [dif_pos h]
    refine sum_rows _ _ (fun l e => ?_) fun l => ?_
    · rw [hx, rows, dif_neg (by omega)]
      exact zero_mul _
    · have hl := l.isLt
      rw [hx, rows, dif_pos ⟨Nat.le_add_right _ _, by show (a.val * 768 + s.val) % 768 < 704; omega⟩, hy, dif_pos (Nat.le_add_right _ _)]
      refine congrArg₂ times (congrArg₂ (fun u v => x (ix3 0 u v)) (Fin.ext ?_) (Fin.ext ?_)) (congrArg (fun u => y (ix3 0 u q)) (Fin.ext ?_))
      · show 112 + l.val - 112 = l.val
        omega
      · show (a.val * 768 + s.val) / 768 * 704 + (a.val * 768 + s.val) % 768 = a.val * 704 + s.val
        omega
      · show 112 + l.val - 112 = l.val
        omega
  · rw [dif_neg h]
    refine Finset.sum_eq_zero fun l _ => ?_
    rw [hx, rows, dif_neg fun e => h (by have := e.2; change (a.val * 768 + s.val) % 768 < 704 at this; omega)]
    exact zero_mul _

section reference
variable (x : FVec Ideal S1x2064x2816 .f32) (y : FVec Ideal S1x2064x1024 .f32) (a : Fin 4) (s : Fin 768) (k : Fin 2816) (q : Fin 1024)

theorem v8_read : val_main_v8 (F := Ideal) y x (ix2 k q) = ∑ l : Fin 2064, times (x (ix3 0 l k)) (y (ix3 0 l q)) := by
  pointwise [val_main_v0, val_main_v4, val_main_v8, times]
theorem v6_read : val_main_v6 (F := Ideal) y x (ix2 k q) = ∑ l : Fin 2064, times (x (ix3 0 l k)) (y (ix3 0 l q)) := by
  pointwise [val_main_v2, val_main_v5, val_main_v6, times]
theorem v12_read : val_main_v12 (F := Ideal) y x (ix3 a s q)
    = if h : s.val < 704 then val_main_v8 (F := Ideal) y x (ix2 ⟨a.val * 704 + s.val, by have := a.isLt; omega⟩ q) else (0 : EReal) := by
  pointwise [val_main_v9, val_main_v10, val_main_v11, val_main_c, val_main_call0_v0, val_main_v12]
  simp only [sitofp_zero]
theorem v15_read : val_main_v15 (F := Ideal) y x (ix3 a s q)
    = if h : s.val < 704 then val_main_v6 (F := Ideal) y x (ix2 ⟨a.val * 704 + s.val, by have := a.isLt; omega⟩ q) else (0 : EReal) := by
  pointwise [val_main_v7, val_main_v13, val_main_v14, val_main_c_0, val_main_call1_v0, val_main_v15]
  simp only [sitofp_zero]
end reference

/-- The results. -/
theorem final3 (c : Dev nD) : (dats m 0 c).arrAt 3 (cfgs 0).N = val_main_v12 (F := Ideal) (m ((c : Thread nD τ).loc main_arg0)) (m ((c : Thread nD τ).loc main_arg3)) := by
  rw [arr3]
  funext i
  idx_vars i
  refine (dw_read _ _ _ _ (dg_read m c) (x_read m c) i0 i1 i2).trans ((v12_read _ _ i0 i1 i2).trans ?_).symm
  by_cases h : i1.val < 704
  · rw [dif_pos h, dif_pos h, v8_read]
  · rw [dif_neg h, dif_neg h]
theorem final4 (c : Dev nD) : (dats m 0 c).arrAt 4 (cfgs 0).N = val_main_v15 (F := Ideal) (m ((c : Thread nD τ).loc main_arg0)) (m ((c : Thread nD τ).loc main_arg4)) := by
  rw [arr4]
  funext i
  idx_vars i
  refine (dw_read _ _ _ _ (du_read m c) (x_read m c) i0 i1 i2).trans ((v15_read _ _ i0 i1 i2).trans ?_).symm
  by_cases h : i1.val < 704
  · rw [dif_pos h, dif_pos h, v6_read]
  · rw [dif_neg h, dif_neg h]

end Cert.GudwKernelIdeal.Value
-- ==== Proof.GudwClaim.lean ====
/- The gradients of the feed-forward's two input weights are the reference's. -/
module

public import proofs.«01_k».proof.Defs
public import proofs.«01_k».proof.Proof.GudwFinal
public import proofs.«01_k».proof.Proof.Gen.GudwReferenceIdeal.Read

@[expose] public section

set_option maxRecDepth 16384

noncomputable section

open Idealize.ShloMosaic Idealize.ShloMosaic.TcCoe Idealize.SL.Sem
open Idealize.ShloMosaic.Pipeline (Dat)

namespace Cert.GudwReferenceIdeal.Read

open Cert.GudwReferenceIdeal Cert.GudwReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = val_main_v12 (F := Ideal) (m ((c.tc : Thread nD τ).loc main_arg0)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨(h c).1.trans (val_main_v12_eq _ _), (h c).2.1.trans (val_main_v15_eq _ _), (h c).2.2⟩) (Value.run m ρ)

end Cert.GudwReferenceIdeal.Read

namespace Cert.GudwKernelIdeal.Value

/-- The gradients of the feed-forward's two input weights are the reference's. -/
theorem algebraic : Cert.algebraic_GudwKernelIdeal_GudwReferenceIdeal := by
  pair_intro
  · run_from Cert.GudwKernelIdeal.Gen.run_main m g & Cert.GudwKernelIdeal.Gen.unchanged m g
  · run_from Cert.GudwReferenceIdeal.Read.run m' g'
    · exact (final3 m c).symm
    · exact (final4 m c).symm

end Cert.GudwKernelIdeal.Value
-- ==== Proof.OutdxValue.lean ====
/- The gradient of the output projection's input: what the kernel's result array holds, as a function of its operands. -/
module

public import proofs.«01_k».proof.Proof.Gen.OutdxKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutdxKernelIdeal.Value

open Cert.OutdxKernelIdeal Cert.OutdxKernelIdeal.Gen

/-- A product. -/
def times (a b : EReal) : EReal := a * b

section block
variable (A : FVec Ideal S1088x1024 .bf16) (W : FVec Ideal S1x256x1024 .bf16) (o : FVec Ideal S1088x256 .f32) (r : Fin 1088) (q : Fin 256)

theorem pay1_apply : k0_pay1 (F := Ideal) (ix2 r q) = (0 : EReal) := by
  pointwise [k0_pay1]
theorem pay2_apply : k0_pay2 (F := Ideal) o A W (ix2 r q) = o (ix2 r q) + ∑ l : Fin 1024, times (A (ix2 r l)) (W (ix3 0 q l)) := by
  pointwise [k0_pay2, times]
end block

variable (m : (ℓ : Loc nD τ sig) → Buf (Elt Ideal) ℓ)

/-- The blocks: point `t` works on row block `t / 4` and on the columns of chip `t % 4`. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The product with the transposed weight, of the arrays the call is given. -/
def out (c : Dev nD) (r : Fin 2176) (q : Fin 1024) : EReal :=
  ∑ l : Fin 1024, times (V m c main_v2 (ix2 r l)) (V m c main_v4 (ix3 ⟨q.val / 256, by omega⟩ ⟨q.val % 256, by omega⟩ l))

section point
variable (c : Dev nD) (t : Fin cfg0.N) (r : Fin 1088) (q : Fin 256)

/-- A block's row and column of the whole array. -/
abbrev ro : Fin 2176 := ⟨t.val / 4 * 1088 + r.val, by have : t.val < 8 := t.isLt; have := r.isLt; omega⟩
abbrev co : Fin 1024 := ⟨t.val % 4 * 256 + q.val, by have := q.isLt; omega⟩

theorem blk0 (l : Fin 1024) : iblk m c 0 t (ix2 r l) = V m c main_v2 (ix2 (ro t r) l) := by
  blk_point [iblk, V, idx t]
theorem blk1 (l : Fin 1024) : iblk m c 1 t (ix3 0 q l) = V m c main_v4 (ix3 ⟨t.val % 4, by omega⟩ q l) := by
  blk_point [iblk, V, idx t]
theorem col_eq : (⟨t.val % 4, by omega⟩ : Fin 4) = ⟨(co t q).val / 256, by omega⟩ ∧ q = (⟨(co t q).val % 256, by omega⟩ : Fin 256) := by
  have hq := q.isLt
  exact ⟨Fin.ext (by show t.val % 4 = (t.val % 4 * 256 + q.val) / 256; omega), Fin.ext (by show q.val = (t.val % 4 * 256 + q.val) % 256; omega)⟩
/-- What a point leaves in the result's staging buffer. -/
theorem point2 : outsAt0 m c t (ix2 r q) = out m c (ro t r) (co t q) := by
  have e : outsAt0 m c t = k0_pay2 (F := Ideal) (k0_pay1 (F := Ideal)) (iblk m c 0 t) (iblk m c 1 t) := by
    unfold outsAt0
    frame_out
  rw [e, pay2_apply, pay1_apply, zero_add]
  refine Finset.sum_congr rfl fun l _ => congrArg₂ times (blk0 m c t r l) ((blk1 m c t q l).trans ?_)
  exact congrArg₂ (fun a b => V m c main_v4 (ix3 a b l)) (col_eq t q).1 (col_eq t q).2
end point

/-- The result's array. -/
theorem arr2 (c : Dev nD) : (dats m 0 c).arrAt 2 (cfgs 0).N = fun i : S2176x1024.Idx => out m c (i 0) (i 1) := by
  refine (dats m 0 c).arrAt_eq_of_covers 2 _ (by decide +kernel) fun t _ y => ?_
  blk_simp
  rw [after0_2]
  refine Eq.trans ((congrArg _ (eq_ix2 y)).trans (point2 m c t (y 0) (y 1))) (congrArg₂ (out m c) (Fin.ext ?_) (Fin.ext ?_))
  · blk_simp [idx t] <;> try omega
  · blk_simp [idx t] <;> try omega

end Cert.OutdxKernelIdeal.Value
-- ==== Proof.OutdxFinal.lean ====
/- The gradient of the output projection's input: the operands, and the result as the reference's. -/
module

public import proofs.«01_k».proof.Proof.OutdxValue
public import proofs.«01_k».proof.Proof.Gen.OutdxReferenceIdeal.Read

@[expose] public section

set_option maxRecDepth 16384

noncomputable section

open Idealize.ShloMosaic Idealize.ShloMosaic.TcCoe Idealize.SL.Sem
open Idealize.ShloMosaic.Pipeline (Dat)

namespace Cert.OutdxKernelIdeal.Value

open Cert.OutdxKernelIdeal Cert.OutdxKernelIdeal.Gen Cert.OutdxReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- The cotangent is rows below 112 rows of zeros. -/
theorem do_read (c : Dev nD) (r : Fin 2176) (k : Fin 1024) : V m c main_v2 (ix2 r k)
    = if h : 112 ≤ r.val then (m ((c : Thread nD τ).loc main_arg2)) (ix3 0 ⟨r.val - 112, by omega⟩ k) else (0 : EReal) := by
  unfold V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first | (exfalso; omega) | rfl
/-- The weight's rows by chips. -/
theorem w_read (c : Dev nD) (a : Fin 4) (s : Fin 256) (l : Fin 1024) : V m c main_v4 (ix3 a s l)
    = (m ((c : Thread nD τ).loc main_arg1)) (ix2 ⟨a.val * 256 + s.val, by have := a.isLt; have := s.isLt; omega⟩ l) := by
  unfold V
  simp only [hostOps0, hostOps0_1, hostOps0_2, List.flatten_cons, List.flatten_nil,
    List.append_nil, List.cons_append, List.nil_append, StableHlo.TRef.binary, StableHlo.TRef.unary, StableHlo.TRef.toBuf, StableHlo.TRef.ofBuf, cast_eq]
  after_results
  pointwise []

section reference
variable (w : FVec Ideal S1024x1024 .f32) (y : FVec Ideal S1x2064x1024 .f32) (r : Fin 2176) (l : Fin 2064) (q : Fin 1024)

theorem v1_read : val_main_v1 (F := Ideal) w y (ix3 0 l q) = ∑ k : Fin 1024, times (y (ix3 0 l k)) (w (ix2 q k)) := by
  pointwise [val_main_v1, times]
theorem v3_read : val_main_v3 (F := Ideal) w y (ix2 r q) = if e : 112 ≤ r.val then val_main_v1 (F := Ideal) w y (ix3 0 ⟨r.val - 112, by omega⟩ q) else (0 : EReal) := by
  pointwise [val_main_v2, val_main_c, val_main_call0_v0, val_main_v3]
  have hr := r.isLt
  simp only [sitofp_zero]
  split_ifs <;> first | (exfalso; omega) | rfl
end reference

/-- The result. -/
theorem out_read (c : Dev nD) (r : Fin 2176) (q : Fin 1024) : out m c r q = val_main_v3 (F := Ideal) (m ((c : Thread nD τ).loc main_arg1)) (m ((c : Thread nD τ).loc main_arg2)) (ix2 r q) := by
  have hw : ∀ l : Fin 1024, V m c main_v4 (ix3 ⟨q.val / 256, by omega⟩ ⟨q.val % 256, by omega⟩ l) = (m ((c : Thread nD τ).loc main_arg1)) (ix2 q l) := fun l =>
    (w_read m c _ _ l).trans (congrArg (fun z => (m ((c : Thread nD τ).loc main_arg1)) (ix2 z l)) (Fin.ext (by show q.val / 256 * 256 + q.val % 256 = q.val; omega)))
  unfold out
  rw [v3_read]
  by_cases h : 112 ≤ r.val
  · rw [dif_pos h, v1_read]
    exact Finset.sum_congr rfl fun l _ => congrArg₂ times ((do_read m c r l).trans (dif_pos h)) (hw l)
  · rw [dif_neg h]
    refine Finset.sum_eq_zero fun l _ => ?_
    rw [do_read, dif_neg h]
    exact zero_mul _
theorem final2 (c : Dev nD) : (dats m 0 c).arrAt 2 (cfgs 0).N = val_main_v3 (F := Ideal) (m ((c : Thread nD τ).loc main_arg1)) (m ((c : Thread nD τ).loc main_arg2)) := by
  rw [arr2]
  funext i
  idx_vars i
  exact out_read m c i0 i1

end Cert.OutdxKernelIdeal.Value
-- ==== Proof.OutdxClaim.lean ====
/- The gradient of the output projection's input is the reference's. -/
module

public import proofs.«01_k».proof.Defs
public import proofs.«01_k».proof.Proof.OutdxFinal
public import proofs.«01_k».proof.Proof.Gen.OutdxReferenceIdeal.Read

@[expose] public section

set_option maxRecDepth 16384

noncomputable section

open Idealize.ShloMosaic Idealize.ShloMosaic.TcCoe Idealize.SL.Sem
open Idealize.ShloMosaic.Pipeline (Dat)

namespace Cert.OutdxReferenceIdeal.Read

open Cert.OutdxReferenceIdeal Cert.OutdxReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3) = val_main_v3 (F := Ideal) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v3_eq _ _), (h c).2⟩) (Value.run m ρ)

end Cert.OutdxReferenceIdeal.Read

namespace Cert.OutdxKernelIdeal.Value

/-- The gradient of the output projection's input is the reference's. -/
theorem algebraic : Cert.algebraic_OutdxKernelIdeal_OutdxReferenceIdeal := by
  pair_intro
  · run_from Cert.OutdxKernelIdeal.Gen.run_main m g & Cert.OutdxKernelIdeal.Gen.unchanged m g
  · run_from Cert.OutdxReferenceIdeal.Read.run m' g'
    · exact (final2 m c).symm

end Cert.OutdxKernelIdeal.Value
-- ==== Proof.DowndwValue.lean ====
/- The gradient of the feed-forward's output weight: what the kernel's result array holds, as a function of its operands. -/
module

public import proofs.«01_k».proof.Proof.Gen.DowndwKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DowndwKernelIdeal.Value

open Cert.DowndwKernelIdeal Cert.DowndwKernelIdeal.Gen

/-- A product. -/
def times (a b : EReal) : EReal := a * b

section block
variable (A : FVec Ideal S2176x768 .bf16) (B : FVec Ideal S2176x1024 .bf16) (o : FVec Ideal S768x1024 .f32) (s : Fin 768) (q : Fin 1024)

theorem pay1_apply : k0_pay1 (F := Ideal) (ix2 s q) = (0 : EReal) := by
  pointwise [k0_pay1]
theorem pay2_apply : k0_pay2 (F := Ideal) o A B (ix2 s q) = o (ix2 s q) + ∑ r : Fin 2176, times (A (ix2 r s)) (B (ix2 r q)) := by
  pointwise [k0_pay2, times]
theorem pay3_apply : k0_pay3 (F := Ideal) o (ix3 0 s q) = o (ix2 s q) := by
  pointwise [k0_pay3]
end block

variable (m : (ℓ : Loc nD τ sig) → Buf (Elt Ideal) ℓ)

/-- The blocks: point `t` works on the columns of chip `t`. -/
theorem idx : ∀ t : Fin cfg0.N, win0_0.index t = ![0, t.val] ∧ win0_1.index t = ![0, 0] ∧ win0_2.index t = ![t.val, 0, 0] :=
  (by decide +kernel : ∀ t : Fin grid0.N, _)

/-- A chip's weight gradient: the product over the rows of a chip's column with another column. -/
def dw (X : FVec Ideal S2176x3072 .bf16) (Y : FVec Ideal S2176x1024 .bf16) (a : Fin 4) (s : Fin 768) (q : Fin 1024) : EReal :=
  ∑ r : Fin 2176, times (X (ix2 r ⟨a.val * 768 + s.val, by have := a.isLt; have := s.isLt; omega⟩)) (Y (ix2 r q))
/-- The result of the arrays the call is given. -/
def out (c : Dev nD) (a : Fin 4) (s : Fin 768) (q : Fin 1024) : EReal := dw (V m c main_v5) (V m c main_v8) a s q

section point
variable (c : Dev nD) (t : Fin cfg0.N) (s : Fin 768) (q : Fin 1024)

/-- A point's chip. -/
abbrev ch : Fin 4 := ⟨t.val, t.isLt⟩

theorem blk0 (r : Fin 2176) : iblk m c 0 t (ix2 r s) = V m c main_v5 (ix2 r ⟨(ch t).val * 768 + s.val, by have : t.val < 4 := t.isLt; have := s.isLt; show t.val * 768 + s.val < 3072; omega⟩) := by
  blk_point [iblk, V, idx t]
theorem blk1 (r : Fin 2176) : iblk m c 1 t (ix2 r q) = V m c main_v8 (ix2 r q) := by
  blk_point [iblk, V, idx t]
/-- What a point leaves in the result's staging buffer. -/
theorem point2 : outsAt0 m c t (ix3 0 s q) = out m c (ch t) s q := by
  have e : outsAt0 m c t = k0_pay3 (F := Ideal) (k0_pay2 (k0_pay1 (F := Ideal)) (iblk m c 0 t) (iblk m c 1 t)) := by
    unfold outsAt0
    frame_out
  rw [e]
  refine (pay3_apply _ s q).trans ((pay2_apply _ _ _ s q).trans ?_)
  rw [pay1_apply, zero_add]
  unfold out dw
  refine Finset.sum_congr rfl fun r _ => ?_
  rw [blk0, blk1]
end point

/-- The result's array. -/
theorem arr2 (c : Dev nD) : (dats m 0 c).arrAt 2 (cfgs 0).N = fun i : S4x768x1024.Idx => out m c (i 0) (i 1) (i 2) := by
  refine (dats m 0 c).arrAt_eq_of_covers 2 _ (by decide +kernel) fun t _ y => ?_
  blk_simp
  rw [after0_2]
  have e : y = ix3 0 (y 1) (y 2) := (eq_ix3 y).trans (congrArg (fun z => ix3 z (y 1) (y 2)) (Fin.ext (by have : (y 0).val < 1 := (y 0).isLt; show (y 0).val = 0; omega)))
  refine Eq.trans ((congrArg _ e).trans (point2 m c t (y 1) (y 2))) ?_
  have e0 : (y 0).val = 0 := congrArg (fun z => (z 0).val) e
  refine congr (congrArg₂ (out m c) (Fin.ext ?_) (Fin.ext ?_)) (Fin.ext ?_)
  · blk_simp [idx t] <;> try omega
  · blk_simp [idx t] <;> try omega
  · blk_simp [idx t] <;> try omega

end Cert.DowndwKernelIdeal.Value
-- ==== Proof.DowndwFinal.lean ====
/- The gradient of the feed-forward's output weight: the operands, and the result as the reference's. -/
module

public import proofs.«01_k».proof.Proof.DowndwValue
public import proofs.«01_k».proof.Proof.Chips
public import proofs.«01_k».proof.Proof.Gen.DowndwReferenceIdeal.Read

@[expose] public section

set_option maxRecDepth 16384

noncomputable section

open Idealize.ShloMosaic Idealize.ShloMosaic.TcCoe Idealize.SL.Sem
open Idealize.ShloMosaic.Pipeline (Dat)

namespace Cert.DowndwKernelIdeal.Value

open Cert.Chips Cert.DowndwKernelIdeal Cert.DowndwKernelIdeal.Gen Cert.DowndwReferenceIdeal.Read

variable (m : (ℓ : Loc nD τ sig) → Buf (Elt Ideal) ℓ)

theorem sitofp_zero : (FloatOps.sitofp (F := Ideal) FTy.f32 (0#32 : BitVec 32)) = (0 : EReal) := by simp [FloatOps.sitofp]

/-- Rows below 112 rows of zeros, every chip's 704 columns before 64 columns of zeros. -/
def rows (x : FVec Ideal S1x2064x2816 .f32) (r : Fin 2176) (k : Fin 3072) : EReal :=
  if h : 112 ≤ r.val ∧ k.val % 768 < 704 then x (ix3 0 ⟨r.val - 112, by omega⟩ ⟨k.val / 768 * 704 + k.val % 768, by omega⟩) else 0

/-- The activation's operand is such rows. -/
theorem a_read (c : Dev nD) (r : Fin 2176) (k : Fin 3072) : V m c main_v5 (ix2 r k)
    = rows (m ((c : Thread nD τ).loc main_arg0)) r k := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  unfold rows
  have hr := r.isLt
  have hk := k.isLt
  simp only [sitofp_zero]
  split_ifs <;> first | (exfalso; omega) | rfl
/-- The cotangent is rows below 112 rows of zeros. -/
theorem do_read (c : Dev nD) (r : Fin 2176) (k : Fin 1024) : V m c main_v8 (ix2 r k)
    = if h : 112 ≤ r.val then (m ((c : Thread nD τ).loc main_arg2)) (ix3 0 ⟨r.val - 112, by omega⟩ k) else (0 : EReal) := by
  unfold V
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf, StableHlo.TRef.ofBuf, cast_eq]
  after_results
  pointwise []
  have hr := r.isLt
  have hk := k.isLt
  simp only [sitofp_zero]
  split_ifs <;> first | (exfalso; omega) | rfl

/-- The product of such rows with padded rows, on the columns of a chip, is the product of the given arrays, and zero on the padded columns. -/
theorem dw_read (X : FVec Ideal S2176x3072 .bf16) (Y : FVec Ideal S2176x1024 .bf16) (x : FVec Ideal S1x2064x2816 .f32) (y : FVec Ideal S1x2064x1024 .f32)
    (hx : ∀ r k, X (ix2 r k) = rows x r k) (hy : ∀ (r : Fin 2176) k, Y (ix2 r k) = if h : 112 ≤ r.val then y (ix3 0 ⟨r.val - 112, by omega⟩ k) else (0 : EReal))
    (a : Fin 4) (s : Fin 768) (q : Fin 1024) :
    dw X Y a s q = if h : s.val < 704 then ∑ l : Fin 2064, times (x (ix3 0 l ⟨a.val * 704 + s.val, by have := a.isLt; omega⟩)) (y (ix3 0 l q)) else 0 := by
  have ha := a.isLt
  have hs := s.isLt
  unfold dw
  by_cases h : s.val < 704
  · rw [dif_pos h]
    refine sum_rows _ _ (fun l e => ?_) fun l => ?_
    · rw [hx, rows, dif_neg (by omega)]
      exact zero_mul _
    · have hl := l.isLt
      rw [hx, rows, dif_pos ⟨Nat.le_add_right _ _, by show (a.val * 768 + s.val) % 768 < 704; omega⟩, hy, dif_pos (Nat.le_add_right _ _)]
      refine congrArg₂ times (congrArg₂ (fun u v => x (ix3 0 u v)) (Fin.ext ?_) (Fin.ext ?_)) (congrArg (fun u => y (ix3 0 u q)) (Fin.ext ?_))
      · show 112 + l.val - 112 = l.val
        omega
      · show (a.val * 768 + s.val) / 768 * 704 + (a.val * 768 + s.val) % 768 = a.val * 704 + s.val
        omega
      · show 112 + l.val - 112 = l.val
        omega
  · rw [dif_neg h]
    refine Finset.sum_eq_zero fun l _ => ?_
    rw [hx, rows, dif_neg fun e => h (by have := e.2; change (a.val * 768 + s.val) % 768 < 704 at this; omega)]
    exact zero_mul _

section reference
variable (x : FVec Ideal S1x2064x2816 .f32) (y : FVec Ideal S1x2064x1024 .f32) (a : Fin 4) (s : Fin 768) (k : Fin 2816) (q : Fin 1024)

theorem v4_read : val_main_v4 (F := Ideal) x y (ix2 k q) = ∑ l : Fin 2064, times (y (ix3 0 l q)) (x (ix3 0 l k)) := by
  pointwise [val_main_v0, val_main_v2, val_main_v3, val_main_v4, times]
theorem v6_read : val_main_v6 (F := Ideal) x y (ix3 a s q)
    = if h : s.val < 704 then val_main_v4 (F := Ideal) x y (ix2 ⟨a.val * 704 + s.val, by have := a.isLt; omega⟩ q) else (0 : EReal) := by
  pointwise [val_main_v5, val_main_c, val_main_call0_v0, val_main_v6]
  simp only [sitofp_zero]
end reference

/-- The result. -/
theorem final2 (c : Dev nD) : (dats m 0 c).arrAt 2 (cfgs 0).N = val_main_v6 (F := Ideal) (m ((c : Thread nD τ).loc main_arg0)) (m ((c : Thread nD τ).loc main_arg2)) := by
  rw [arr2]
  funext i
  idx_vars i
  refine (dw_read _ _ _ _ (a_read m c) (do_read m c) i0 i1 i2).trans ((v6_read _ _ i0 i1 i2).trans ?_).symm
  by_cases h : i1.val < 704
  · rw [dif_pos h, dif_pos h, v4_read]
    exact Finset.sum_congr rfl fun l _ => mul_comm _ _
  · rw [dif_neg h, dif_neg h]

end Cert.DowndwKernelIdeal.Value
-- ==== Proof.DowndwClaim.lean ====
/- The gradient of the feed-forward's output weight is the reference's. -/
module

public import proofs.«01_k».proof.Defs
public import proofs.«01_k».proof.Proof.DowndwFinal
public import proofs.«01_k».proof.Proof.Gen.DowndwReferenceIdeal.Read

@[expose] public section

set_option maxRecDepth 16384

noncomputable section

open Idealize.ShloMosaic Idealize.ShloMosaic.TcCoe Idealize.SL.Sem
open Idealize.ShloMosaic.Pipeline (Dat)

namespace Cert.DowndwReferenceIdeal.Read

open Cert.DowndwReferenceIdeal Cert.DowndwReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = val_main_v6 (F := Ideal) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v6_eq _ _), (h c).2⟩) (Value.run m ρ)

end Cert.DowndwReferenceIdeal.Read

namespace Cert.DowndwKernelIdeal.Value

/-- The gradient of the feed-forward's output weight is the reference's. -/
theorem algebraic : Cert.algebraic_DowndwKernelIdeal_DowndwReferenceIdeal := by
  pair_intro
  · run_from Cert.DowndwKernelIdeal.Gen.run_main m g & Cert.DowndwKernelIdeal.Gen.unchanged m g
  · run_from Cert.DowndwReferenceIdeal.Read.run m' g'
    · exact (final2 m c).symm

end Cert.DowndwKernelIdeal.Value
-- ==== Proof.AdamValue.lean ====
/- One AdamW step of the output projection's weights: what the kernel's result arrays hold, as functions of its operands. -/
module

public import proofs.«01_k».proof.Proof.Gen.AdamKernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AdamKernelIdeal.Value

open Cert.AdamKernelIdeal Cert.AdamKernelIdeal.Gen

/-- The first and second moments' updates, and the weight's step, of one element. -/
def mom (g m : EReal) : EReal := Ideal.ofBits .f32 0x3F666666#32 * m + Ideal.ofBits .f32 0x3DCCCCCD#32 * g
def sec (g v : EReal) : EReal := Ideal.ofBits .f32 0x3F7FBE77#32 * v + Ideal.ofBits .f32 0x3A83126F#32 * (g * g)
def delta (w g m v : EReal) : EReal :=
  Ideal.ofBits .f32 0xBA83126F#32 * (Ideal.div (Ideal.div (mom g m) (Ideal.ofBits .f32 0x3F26BD02#32))
    (Ideal.sqrt (Ideal.div (sec g v) (Ideal.ofBits .f32 0x3C231ACC#32)) + Ideal.ofBits .f32 0x322BCC77#32) + Ideal.ofBits .f32 0x3C23D70A#32 * w)

section block
variable (i : grid0.Coords) (A B N : FVec Ideal S256x1024 .f32) (W M X : FVec Ideal S1x256x1024 .f32) (r : Fin 256) (q : Fin 1024)

theorem pay1_apply : k0_pay1 (F := Ideal) N W (ix3 0 r q)
    = Ideal.ofBits .f32 0xBA83126F#32 * (N (ix2 r q) + Ideal.ofBits .f32 0x3C23D70A#32 * W (ix3 0 r q)) := by
  pointwise [k0_pay1]
theorem pay2_apply : k0_pay2 (F := Ideal) N (ix3 0 r q) = N (ix2 r q) := by
  pointwise [k0_pay2]
theorem pay3_apply : k0_pay3 (F := Ideal) N (ix3 0 r q) = N (ix2 r q) := by
  pointwise [k0_pay3]
theorem pay5_apply : k0_pay5 (F := Ideal) i A B M (ix2 r q) = mom (k0_pay4 (F := Ideal) i A B (ix2 r q)) (M (ix3 0 r q)) := by
  pointwise [k0_pay5, mom]
theorem pay6_apply : k0_pay6 (F := Ideal) i A B X (ix2 r q) = sec (k0_pay4 (F := Ideal) i A B (ix2 r q)) (X (ix3 0 r q)) := by
  pointwise [k0_pay6, sec]
theorem pay7_apply : k0_pay7 (F := Ideal) i A B (ix3 0 r q) = k0_pay4 (F := Ideal) i A B (ix2 r q) := by
  pointwise [k0_pay7]
theorem pay8_apply : k0_pay8 (F := Ideal) i A B M X (ix2 r q)
    = Ideal.div (Ideal.div (k0_pay5 (F := Ideal) i A B M (ix2 r q)) (Ideal.ofBits .f32 0x3F26BD02#32))
      (Ideal.sqrt (Ideal.div (k0_pay6 (F := Ideal) i A B X (ix2 r q)) (Ideal.ofBits .f32 0x3C231ACC#32)) + Ideal.ofBits .f32 0x322BCC77#32) := by
  pointwise [k0_pay8]
end block

/-- A point's layer decides which layer's gradient is read. -/
theorem layer : ∀ t : Fin cfg0.N, Scalar.cmpi .eq (BitVec.ofNat 32 (grid0.coords t 0).val) 1#32 = if t.val = 1 then 1#1 else 0#1 :=
  (by decide +kernel : ∀ t : Fin grid0.N, _)
theorem pay4_apply (t : Fin cfg0.N) (A B : FVec Ideal S256x1024 .f32) (r : Fin 256) (q : Fin 1024) :
    k0_pay4 (F := Ideal) (grid0.coords t) A B (ix2 r q) = if t.val = 1 then B (ix2 r q) else A (ix2 r q) := by
  unfold k0_pay4
  dsimp only
  rw [layer t]
  by_cases h : t.val = 1
  · rw [if_pos h, if_pos h]
    pointwise [Scalar.select]
    exact congrFun (if_pos rfl) _
  · rw [if_neg h, if_neg h]
    pointwise [Scalar.select]
    exact congrFun (if_neg (by decide : ¬ (0#1 : BitVec 1) = 1)) _

variable (m : (ℓ : Loc nD τ sig) → Buf (Elt Ideal) ℓ)

/-- The blocks: point `t` works on layer `t`. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] :=
  (by decide +kernel : ∀ t : Fin grid0.N, _)

/-- The gradient of a layer, and the results, of the arrays the call is given. -/
def grad (c : Dev nD) (l : Fin 2) (r : Fin 256) (q : Fin 1024) : EReal := if l.val = 1 then V m c main_v3 (ix2 r q) else V m c main_v1 (ix2 r q)
def fm (c : Dev nD) (l : Fin 2) (r : Fin 256) (q : Fin 1024) : EReal := mom (grad m c l r q) (V m c main_arg2 (ix3 l r q))
def fv (c : Dev nD) (l : Fin 2) (r : Fin 256) (q : Fin 1024) : EReal := sec (grad m c l r q) (V m c main_arg3 (ix3 l r q))
def fd (c : Dev nD) (l : Fin 2) (r : Fin 256) (q : Fin 1024) : EReal :=
  delta (V m c main_arg0 (ix3 l r q)) (grad m c l r q) (V m c main_arg2 (ix3 l r q)) (V m c main_arg3 (ix3 l r q))

section point
variable (c : Dev nD) (t : Fin cfg0.N) (r : Fin 256) (q : Fin 1024)

/-- A point's layer. -/
abbrev la : Fin 2 := ⟨t.val, t.isLt⟩

theorem blk0 : View.ld (iblk m c 0 t) r0_1 (ix3 0 r q) = V m c main_arg0 (ix3 (la t) r q) := by
  blk_point [iblk, V, idx t]
/-- The block read whole. -/
theorem whole : r0_0.idx (ix2 r q) = ix2 r q := by
  funext d
  refine Fin.ext ?_
  fin_cases d
  · show 0 + 1 * r.val = r.val
    omega
  · show 0 + 1 * q.val = q.val
    omega
theorem blk1 : View.ld (iblk m c 1 t) r0_0 (ix2 r q) = V m c main_v1 (ix2 r q) := by
  refine Eq.trans (b := iblk m c 1 t (ix2 r q)) (congrArg (iblk m c 1 t) (whole r q)) ?_
  · blk_point [iblk, V, idx t]
theorem blk2 : View.ld (iblk m c 2 t) r0_0 (ix2 r q) = V m c main_v3 (ix2 r q) := by
  refine Eq.trans (b := iblk m c 2 t (ix2 r q)) (congrArg (iblk m c 2 t) (whole r q)) ?_
  · blk_point [iblk, V, idx t]
theorem blk3 : View.ld (iblk m c 3 t) r0_1 (ix3 0 r q) = V m c main_arg2 (ix3 (la t) r q) := by
  blk_point [iblk, V, idx t]
theorem blk4 : View.ld (iblk m c 4 t) r0_1 (ix3 0 r q) = V m c main_arg3 (ix3 (la t) r q) := by
  blk_point [iblk, V, idx t]
/-- The updated values of a point's layer. -/
theorem g_eq : k0_pay4 (F := Ideal) (grid0.coords t) (View.ld (iblk m c 1 t) r0_0) (View.ld (iblk m c 2 t) r0_0) (ix2 r q) = grad m c (la t) r q := by
  refine (pay4_apply t _ _ r q).trans ?_
  rw [blk1, blk2]
  rfl
theorem m_eq : k0_pay5 (F := Ideal) (grid0.coords t) (View.ld (iblk m c 1 t) r0_0) (View.ld (iblk m c 2 t) r0_0) (View.ld (iblk m c 3 t) r0_1) (ix2 r q) = fm m c (la t) r q := by
  rw [pay5_apply, g_eq, blk3, fm]
theorem v_eq : k0_pay6 (F := Ideal) (grid0.coords t) (View.ld (iblk m c 1 t) r0_0) (View.ld (iblk m c 2 t) r0_0) (View.ld (iblk m c 4 t) r0_1) (ix2 r q) = fv m c (la t) r q := by
  rw [pay6_apply, g_eq, blk4, fv]
theorem d_eq : k0_pay1 (F := Ideal) (k0_pay8 (grid0.coords t) (View.ld (iblk m c 1 t) r0_0) (View.ld (iblk m c 2 t) r0_0) (View.ld (iblk m c 3 t) r0_1) (View.ld (iblk m c 4 t) r0_1))
    (View.ld (iblk m c 0 t) r0_1) (ix3 0 r q) = fd m c (la t) r q := by
  refine (pay1_apply _ _ r q).trans ?_
  rw [pay8_apply, m_eq, v_eq, blk0]
  rfl
/-- An index of a block. -/
theorem at_eq (z : S1x256x1024.Idx) (h1 : r.val = (z 1).val) (h2 : q.val = (z 2).val) : z = ix3 0 r q := by
  refine (eq_ix3 z).trans ?_
  have e0 : z 0 = (0 : Fin 1) := Fin.ext (by have : (z 0).val < 1 := (z 0).isLt; show (z 0).val = 0; omega)
  have e1 : z 1 = r := Fin.ext h1.symm
  have e2 : z 2 = q := Fin.ext h2.symm
  rw [e0, e1, e2]
/-- What the point leaves in the results' staging buffers. -/
theorem point5 : out0_5 (grid0.coords t) (iblk m c 0 t) (iblk m c 1 t) (iblk m c 2 t) (iblk m c 3 t) (iblk m c 4 t) (ix3 0 r q) = grad m c (la t) r q := by
  unfold out0_5
  canon_tiles z hz
  have ez : z = ix3 0 r q := at_eq r q z (by have : r.val = (z 1).val := hz1; omega) (by have : q.val = (z 2).val := hz2; omega)
  rw [ez]
  exact (pay7_apply _ _ _ r q).trans (g_eq m c t r q)
theorem point6 : out0_6 (grid0.coords t) (iblk m c 0 t) (iblk m c 1 t) (iblk m c 2 t) (iblk m c 3 t) (iblk m c 4 t) (ix3 0 r q) = fd m c (la t) r q := by
  unfold out0_6
  canon_tiles z hz
  have ez : z = ix3 0 r q := at_eq r q z (by have : r.val = (z 1).val := hz1; omega) (by have : q.val = (z 2).val := hz2; omega)
  rw [ez]
  exact d_eq m c t r q
theorem point7 : out0_7 (grid0.coords t) (iblk m c 0 t) (iblk m c 1 t) (iblk m c 2 t) (iblk m c 3 t) (iblk m c 4 t) (ix3 0 r q) = fm m c (la t) r q := by
  unfold out0_7
  canon_tiles z hz
  have ez : z = ix3 0 r q := at_eq r q z (by have : r.val = (z 1).val := hz1; omega) (by have : q.val = (z 2).val := hz2; omega)
  rw [ez]
  exact (pay2_apply _ r q).trans (m_eq m c t r q)
theorem point8 : out0_8 (grid0.coords t) (iblk m c 0 t) (iblk m c 1 t) (iblk m c 2 t) (iblk m c 3 t) (iblk m c 4 t) (ix3 0 r q) = fv m c (la t) r q := by
  unfold out0_8
  canon_tiles z hz
  have ez : z = ix3 0 r q := at_eq r q z (by have : r.val = (z 1).val := hz1; omega) (by have : q.val = (z 2).val := hz2; omega)
  rw [ez]
  exact (pay3_apply _ r q).trans (v_eq m c t r q)
end point

/-- The gradient's array, -/
theorem arr5 (c : Dev nD) : (dats m 0 c).arrAt 5 (cfgs 0).N = fun i : S2x256x1024.Idx => grad m c (i 0) (i 1) (i 2) := by
  refine (dats m 0 c).arrAt_eq_of_covers 5 _ (by decide +kernel) fun t _ y => ?_
  blk_simp
  rw [after0_5]
  have e : y = ix3 0 (y 1) (y 2) := at_eq (y 1) (y 2) y rfl rfl
  have e0 : (y 0).val = 0 := congrArg (fun z => (z 0).val) e
  refine Eq.trans ((congrArg _ e).trans (point5 m c t (y 1) (y 2))) (congr (congrArg₂ (grad m c) (Fin.ext ?_) (Fin.ext ?_)) (Fin.ext ?_))
  · blk_simp [idx t] <;> try omega
  · blk_simp [idx t] <;> try omega
  · blk_simp [idx t] <;> try omega
/-- the step's, -/
theorem arr6 (c : Dev nD) : (dats m 0 c).arrAt 6 (cfgs 0).N = fun i : S2x256x1024.Idx => fd m c (i 0) (i 1) (i 2) := by
  refine (dats m 0 c).arrAt_eq_of_covers 6 _ (by decide +kernel) fun t _ y => ?_
  blk_simp
  rw [after0_6]
  have e : y = ix3 0 (y 1) (y 2) := at_eq (y 1) (y 2) y rfl rfl
  have e0 : (y 0).val = 0 := congrArg (fun z => (z 0).val) e
  refine Eq.trans ((congrArg _ e).trans (point6 m c t (y 1) (y 2))) (congr (congrArg₂ (fd m c) (Fin.ext ?_) (Fin.ext ?_)) (Fin.ext ?_))
  · blk_simp [idx t] <;> try omega
  · blk_simp [idx t] <;> try omega
  · blk_simp [idx t] <;> try omega
/-- the first moment's, -/
theorem arr7 (c : Dev nD) : (dats m 0 c).arrAt 7 (cfgs 0).N = fun i : S2x256x1024.Idx => fm m c (i 0) (i 1) (i 2) := by
  refine (dats m 0 c).arrAt_eq_of_covers 7 _ (by decide +kernel) fun t _ y => ?_
  blk_simp
  rw [after0_7]
  have e : y = ix3 0 (y 1) (y 2) := at_eq (y 1) (y 2) y rfl rfl
  have e0 : (y 0).val = 0 := congrArg (fun z => (z 0).val) e
  refine Eq.trans ((congrArg _ e).trans (point7 m c t (y 1) (y 2))) (congr (congrArg₂ (fm m c) (Fin.ext ?_) (Fin.ext ?_)) (Fin.ext ?_))
  · blk_simp [idx t] <;> try omega
  · blk_simp [idx t] <;> try omega
  · blk_simp [idx t] <;> try omega
/-- the second moment's. -/
theorem arr8 (c : Dev nD) : (dats m 0 c).arrAt 8 (cfgs 0).N = fun i : S2x256x1024.Idx => fv m c (i 0) (i 1) (i 2) := by
  refine (dats m 0 c).arrAt_eq_of_covers 8 _ (by decide +kernel) fun t _ y => ?_
  blk_simp
  rw [after0_8]
  have e : y = ix3 0 (y 1) (y 2) := at_eq (y 1) (y 2) y rfl rfl
  have e0 : (y 0).val = 0 := congrArg (fun z => (z 0).val) e
  refine Eq.trans ((congrArg _ e).trans (point8 m c t (y 1) (y 2))) (congr (congrArg₂ (fv m c) (Fin.ext ?_) (Fin.ext ?_)) (Fin.ext ?_))
  · blk_simp [idx t] <;> try omega
  · blk_simp [idx t] <;> try omega
  · blk_simp [idx t] <;> try omega

end Cert.AdamKernelIdeal.Value
-- ==== Proof.AdamFinal.lean ====
/- One AdamW step of the output projection's weights: the operands, and the results as the reference's. -/
module

public import proofs.«01_k».proof.Proof.AdamValue
public import proofs.«01_k».proof.Proof.Gen.AdamReferenceIdeal.Read

@[expose] public section

set_option maxRecDepth 16384

noncomputable section

open Idealize.ShloMosaic Idealize.ShloMosaic.TcCoe Idealize.SL.Sem
open Idealize.ShloMosaic.Pipeline (Dat)

namespace Cert.AdamKernelIdeal.Value

open Cert.AdamKernelIdeal Cert.AdamKernelIdeal.Gen Cert.AdamReferenceIdeal.Read

variable (m : (ℓ : Loc nD τ sig) → Buf (Elt Ideal) ℓ)

/-- The operand is one layer's gradient. -/
theorem g0_read (c : Dev nD) (r : Fin 256) (q : Fin 1024) : V m c main_v1 (ix2 r q) = (m ((c : Thread nD τ).loc main_arg1)) (ix3 0 r q) := by
  unfold V
  simp only [hostOps0, List.flatten_cons, List.flatten_nil,
    List.append_nil, List.cons_append, List.nil_append, StableHlo.TRef.binary, StableHlo.TRef.unary, StableHlo.TRef.toBuf, StableHlo.TRef.ofBuf, cast_eq]
  after_results
  pointwise []
/-- The operand is one layer's gradient. -/
theorem g1_read (c : Dev nD) (r : Fin 256) (q : Fin 1024) : V m c main_v3 (ix2 r q) = (m ((c : Thread nD τ).loc main_arg1)) (ix3 1 r q) := by
  unfold V
  simp only [hostOps0, List.flatten_cons, List.flatten_nil,
    List.append_nil, List.cons_append, List.nil_append, StableHlo.TRef.binary, StableHlo.TRef.unary, StableHlo.TRef.toBuf, StableHlo.TRef.ofBuf, cast_eq]
  after_results
  pointwise []
/-- The operand is the given array. -/
theorem a0_read (c : Dev nD) (l : Fin 2) (r : Fin 256) (q : Fin 1024) : V m c main_arg0 (ix3 l r q) = (m ((c : Thread nD τ).loc main_arg0)) (ix3 l r q) := by
  unfold V
  simp only [hostOps0, List.flatten_cons, List.flatten_nil,
    List.append_nil, List.cons_append, List.nil_append, StableHlo.TRef.binary, StableHlo.TRef.unary, StableHlo.TRef.toBuf, StableHlo.TRef.ofBuf, cast_eq]
  after_results
/-- The operand is the given array. -/
theorem a2_read (c : Dev nD) (l : Fin 2) (r : Fin 256) (q : Fin 1024) : V m c main_arg2 (ix3 l r q) = (m ((c : Thread nD τ).loc main_arg2)) (ix3 l r q) := by
  unfold V
  simp only [hostOps0, List.flatten_cons, List.flatten_nil,
    List.append_nil, List.cons_append, List.nil_append, StableHlo.TRef.binary, StableHlo.TRef.unary, StableHlo.TRef.toBuf, StableHlo.TRef.ofBuf, cast_eq]
  after_results
/-- The operand is the given array. -/
theorem a3_read (c : Dev nD) (l : Fin 2) (r : Fin 256) (q : Fin 1024) : V m c main_arg3 (ix3 l r q) = (m ((c : Thread nD τ).loc main_arg3)) (ix3 l r q) := by
  unfold V
  simp only [hostOps0, List.flatten_cons, List.flatten_nil,
    List.append_nil, List.cons_append, List.nil_append, StableHlo.TRef.binary, StableHlo.TRef.unary, StableHlo.TRef.toBuf, StableHlo.TRef.ofBuf, cast_eq]
  after_results
/-- The gradient is the given one. -/
theorem grad_read (c : Dev nD) (l : Fin 2) (r : Fin 256) (q : Fin 1024) : grad m c l r q = (m ((c : Thread nD τ).loc main_arg1)) (ix3 l r q) := by
  unfold grad
  rw [g0_read, g1_read]
  by_cases h : l.val = 1
  · rw [if_pos h]
    exact congrArg (fun z => (m ((c : Thread nD τ).loc main_arg1)) (ix3 z r q)) (Fin.ext h.symm)
  · rw [if_neg h]
    exact congrArg (fun z => (m ((c : Thread nD τ).loc main_arg1)) (ix3 z r q)) (Fin.ext (by have := l.isLt; show 0 = l.val; omega))

section reference
variable (w g a v : FVec Ideal S2x256x1024 .f32) (i : Fin 2) (r : Fin 256) (q : Fin 1024)

theorem v4_read : val_main_v4 (F := Ideal) g a (ix3 i r q) = mom (g (ix3 i r q)) (a (ix3 i r q)) := by
  pointwise [val_main_cst, val_main_v0, val_main_v1, val_main_cst_0, val_main_v2, val_main_v3, val_main_v4, mom]
theorem v10_read : val_main_v10 (F := Ideal) g v (ix3 i r q) = sec (g (ix3 i r q)) (v (ix3 i r q)) := by
  pointwise [val_main_cst_1, val_main_v5, val_main_v6, val_main_v7, val_main_cst_2, val_main_v8, val_main_v9, val_main_v10, sec]
theorem v23_read : val_main_v23 (F := Ideal) w g a v (ix3 i r q) = delta (w (ix3 i r q)) (g (ix3 i r q)) (a (ix3 i r q)) (v (ix3 i r q)) := by
  unfold delta
  rw [← v4_read, ← v10_read]
  pointwise [val_main_cst_3, val_main_v11, val_main_v12, val_main_cst_4, val_main_v13, val_main_v14, val_main_v15, val_main_cst_5, val_main_v16, val_main_v17,
    val_main_v18, val_main_cst_6, val_main_v19, val_main_v20, val_main_v21, val_main_cst_7, val_main_v22, val_main_v23]
end reference

/-- The results. -/
theorem final5 (c : Dev nD) : (dats m 0 c).arrAt 5 (cfgs 0).N = (m ((c : Thread nD τ).loc main_arg1)) := by
  rw [arr5]
  funext i
  idx_vars i
  exact grad_read m c i0 i1 i2
theorem final6 (c : Dev nD) : (dats m 0 c).arrAt 6 (cfgs 0).N = val_main_v23 (F := Ideal) (m ((c : Thread nD τ).loc main_arg0)) (m ((c : Thread nD τ).loc main_arg1)) (m ((c : Thread nD τ).loc main_arg2)) (m ((c : Thread nD τ).loc main_arg3)) := by
  rw [arr6]
  funext i
  idx_vars i
  refine Eq.trans ?_ (v23_read _ _ _ _ i0 i1 i2).symm
  show fd m c i0 i1 i2 = _
  rw [fd, grad_read, a0_read, a2_read, a3_read]
theorem final7 (c : Dev nD) : (dats m 0 c).arrAt 7 (cfgs 0).N = val_main_v4 (F := Ideal) (m ((c : Thread nD τ).loc main_arg1)) (m ((c : Thread nD τ).loc main_arg2)) := by
  rw [arr7]
  funext i
  idx_vars i
  refine Eq.trans ?_ (v4_read _ _ i0 i1 i2).symm
  show fm m c i0 i1 i2 = _
  rw [fm, grad_read, a2_read]
theorem final8 (c : Dev nD) : (dats m 0 c).arrAt 8 (cfgs 0).N = val_main_v10 (F := Ideal) (m ((c : Thread nD τ).loc main_arg1)) (m ((c : Thread nD τ).loc main_arg3)) := by
  rw [arr8]
  funext i
  idx_vars i
  refine Eq.trans ?_ (v10_read _ _ i0 i1 i2).symm
  show fv m c i0 i1 i2 = _
  rw [fv, grad_read, a3_read]

end Cert.AdamKernelIdeal.Value
-- ==== Proof.AdamClaim.lean ====
/- One AdamW step of the output projection's weights is the reference's. -/
module

public import proofs.«01_k».proof.Defs
public import proofs.«01_k».proof.Proof.AdamFinal
public import proofs.«01_k».proof.Proof.Gen.AdamReferenceIdeal.Read

@[expose] public section

set_option maxRecDepth 16384

noncomputable section

open Idealize.ShloMosaic Idealize.ShloMosaic.TcCoe Idealize.SL.Sem
open Idealize.ShloMosaic.Pipeline (Dat)

namespace Cert.AdamReferenceIdeal.Read

open Cert.AdamReferenceIdeal Cert.AdamReferenceIdeal.Gen

/-- The reference runs to its end with its results at the last stages of its operations and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg1) = m ((c.tc : Thread nD τ).loc main_arg1)
      ∧ r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = val_main_v4 (F := Ideal) (m ((c.tc : Thread nD τ).loc main_arg1)) (m ((c.tc : Thread nD τ).loc main_arg2))
      ∧ r.2.mem ((c.tc : Thread nD τ).loc main_v10) = val_main_v10 (F := Ideal) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun _ h c => ⟨(h c).1, (h c).2.1.trans (val_main_v23_eq _ _ _ _), (h c).2.2.1.trans (val_main_v4_eq _ _), (h c).2.2.2.1.trans (val_main_v10_eq _ _), (h c).2.2.2.2⟩) (Value.run m ρ)

end Cert.AdamReferenceIdeal.Read

namespace Cert.AdamKernelIdeal.Value

/-- One AdamW step of the output projection's weights is the reference's. -/
theorem algebraic : Cert.algebraic_AdamKernelIdeal_AdamReferenceIdeal := by
  pair_intro
  · run_from Cert.AdamKernelIdeal.Gen.run_main m g & Cert.AdamKernelIdeal.Gen.unchanged m g
  · run_from Cert.AdamReferenceIdeal.Read.run m' g'
    · exact (final5 m c).symm
    · exact (final6 m c).symm
    · exact (final7 m c).symm
    · exact (final8 m c).symm

end Cert.AdamKernelIdeal.Value
-- ==== Proof.lean ====
/- The claim: the frames of the calls and of their references, and the value claims, each proved in its own module. -/
module

public import proofs.«01_k».proof.Defs
public import proofs.«01_k».proof.Proof.Gen.RopeKernel
public import proofs.«01_k».proof.Proof.Gen.RopeKernel.Skeleton
public import proofs.«01_k».proof.Proof.Gen.RopeKernel.Launch
public import proofs.«01_k».proof.Proof.Gen.RopeKernel.Points
public import proofs.«01_k».proof.Proof.Gen.RopeKernel.Frame
public import proofs.«01_k».proof.Proof.Gen.RopeKernelIdeal
public import proofs.«01_k».proof.Proof.Gen.RopeKernelIdeal.Skeleton
public import proofs.«01_k».proof.Proof.Gen.RopeKernelIdeal.Launch
public import proofs.«01_k».proof.Proof.Gen.RopeKernelIdeal.Points
public import proofs.«01_k».proof.Proof.Gen.RopeKernelIdeal.Frame
public import proofs.«01_k».proof.Proof.Gen.RopeReferenceIdeal
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossReferenceIdeal
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvReferenceIdeal
public import proofs.«01_k».proof.Proof.Gen.DtKernel
public import proofs.«01_k».proof.Proof.Gen.DtKernel.Skeleton
public import proofs.«01_k».proof.Proof.Gen.DtKernel.Launch
public import proofs.«01_k».proof.Proof.Gen.DtKernel.Points
public import proofs.«01_k».proof.Proof.Gen.DtKernel.Frame
public import proofs.«01_k».proof.Proof.Gen.DtKernelIdeal
public import proofs.«01_k».proof.Proof.Gen.DtKernelIdeal.Skeleton
public import proofs.«01_k».proof.Proof.Gen.DtKernelIdeal.Launch
public import proofs.«01_k».proof.Proof.Gen.DtKernelIdeal.Points
public import proofs.«01_k».proof.Proof.Gen.DtKernelIdeal.Frame
public import proofs.«01_k».proof.Proof.Gen.DtReferenceIdeal
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnReferenceIdeal
public import proofs.«01_k».proof.Proof.Gen.LnKernel
public import proofs.«01_k».proof.Proof.Gen.LnKernel.Skeleton
public import proofs.«01_k».proof.Proof.Gen.LnKernel.Launch
public import proofs.«01_k».proof.Proof.Gen.LnKernel.Points
public import proofs.«01_k».proof.Proof.Gen.LnKernel.Frame
public import proofs.«01_k».proof.Proof.Gen.LnKernelIdeal
public import proofs.«01_k».proof.Proof.Gen.LnKernelIdeal.Skeleton
public import proofs.«01_k».proof.Proof.Gen.LnKernelIdeal.Launch
public import proofs.«01_k».proof.Proof.Gen.LnKernelIdeal.Points
public import proofs.«01_k».proof.Proof.Gen.LnKernelIdeal.Frame
public import proofs.«01_k».proof.Proof.Gen.LnReferenceIdeal
public import proofs.«01_k».proof.Proof.Gen.MlaKernel
public import proofs.«01_k».proof.Proof.Gen.MlaKernel.Skeleton
public import proofs.«01_k».proof.Proof.Gen.MlaKernel.Launch
public import proofs.«01_k».proof.Proof.Gen.MlaKernel.Points
public import proofs.«01_k».proof.Proof.Gen.MlaKernel.Frame
public import proofs.«01_k».proof.Proof.Gen.MlaKernelIdeal
public import proofs.«01_k».proof.Proof.Gen.MlaKernelIdeal.Skeleton
public import proofs.«01_k».proof.Proof.Gen.MlaKernelIdeal.Launch
public import proofs.«01_k».proof.Proof.Gen.MlaKernelIdeal.Points
public import proofs.«01_k».proof.Proof.Gen.MlaKernelIdeal.Frame
public import proofs.«01_k».proof.Proof.Gen.MlaReferenceIdeal
public import proofs.«01_k».proof.Proof.Gen.PostKernel
public import proofs.«01_k».proof.Proof.Gen.PostKernel.Skeleton
public import proofs.«01_k».proof.Proof.Gen.PostKernel.Launch
public import proofs.«01_k».proof.Proof.Gen.PostKernel.Points
public import proofs.«01_k».proof.Proof.Gen.PostKernel.Frame
public import proofs.«01_k».proof.Proof.Gen.PostKernelIdeal
public import proofs.«01_k».proof.Proof.Gen.PostKernelIdeal.Skeleton
public import proofs.«01_k».proof.Proof.Gen.PostKernelIdeal.Launch
public import proofs.«01_k».proof.Proof.Gen.PostKernelIdeal.Points
public import proofs.«01_k».proof.Proof.Gen.PostKernelIdeal.Frame
public import proofs.«01_k».proof.Proof.Gen.PostReferenceIdeal
public import proofs.«01_k».proof.Proof.Gen.FoxfKernel
public import proofs.«01_k».proof.Proof.Gen.FoxfKernel.Skeleton
public import proofs.«01_k».proof.Proof.Gen.FoxfKernel.Launch
public import proofs.«01_k».proof.Proof.Gen.FoxfKernel.Points
public import proofs.«01_k».proof.Proof.Gen.FoxfKernel.Frame
public import proofs.«01_k».proof.Proof.Gen.FoxfKernelIdeal
public import proofs.«01_k».proof.Proof.Gen.FoxfKernelIdeal.Skeleton
public import proofs.«01_k».proof.Proof.Gen.FoxfKernelIdeal.Launch
public import proofs.«01_k».proof.Proof.Gen.FoxfKernelIdeal.Points
public import proofs.«01_k».proof.Proof.Gen.FoxfKernelIdeal.Frame
public import proofs.«01_k».proof.Proof.Gen.FoxfReferenceIdeal
public import proofs.«01_k».proof.Proof.Gen.AttfKernel
public import proofs.«01_k».proof.Proof.Gen.AttfKernel.Skeleton
public import proofs.«01_k».proof.Proof.Gen.AttfKernel.Launch
public import proofs.«01_k».proof.Proof.Gen.AttfKernel.Points
public import proofs.«01_k».proof.Proof.Gen.AttfKernel.Frame
public import proofs.«01_k».proof.Proof.Gen.AttfKernelIdeal
public import proofs.«01_k».proof.Proof.Gen.AttfKernelIdeal.Skeleton
public import proofs.«01_k».proof.Proof.Gen.AttfKernelIdeal.Launch
public import proofs.«01_k».proof.Proof.Gen.AttfKernelIdeal.Points
public import proofs.«01_k».proof.Proof.Gen.AttfKernelIdeal.Frame
public import proofs.«01_k».proof.Proof.Gen.AttfReferenceIdeal
public import proofs.«01_k».proof.Proof.Gen.RopefKernel
public import proofs.«01_k».proof.Proof.Gen.RopefKernel.Skeleton
public import proofs.«01_k».proof.Proof.Gen.RopefKernel.Launch
public import proofs.«01_k».proof.Proof.Gen.RopefKernel.Points
public import proofs.«01_k».proof.Proof.Gen.RopefKernel.Frame
public import proofs.«01_k».proof.Proof.Gen.RopefKernelIdeal
public import proofs.«01_k».proof.Proof.Gen.RopefKernelIdeal.Skeleton
public import proofs.«01_k».proof.Proof.Gen.RopefKernelIdeal.Launch
public import proofs.«01_k».proof.Proof.Gen.RopefKernelIdeal.Points
public import proofs.«01_k».proof.Proof.Gen.RopefKernelIdeal.Frame
public import proofs.«01_k».proof.Proof.Gen.RopefReferenceIdeal
public import proofs.«01_k».proof.Proof.Gen.MlafKernel
public import proofs.«01_k».proof.Proof.Gen.MlafKernel.Skeleton
public import proofs.«01_k».proof.Proof.Gen.MlafKernel.Launch
public import proofs.«01_k».proof.Proof.Gen.MlafKernel.Points
public import proofs.«01_k».proof.Proof.Gen.MlafKernel.Frame
public import proofs.«01_k».proof.Proof.Gen.MlafKernelIdeal
public import proofs.«01_k».proof.Proof.Gen.MlafKernelIdeal.Skeleton
public import proofs.«01_k».proof.Proof.Gen.MlafKernelIdeal.Launch
public import proofs.«01_k».proof.Proof.Gen.MlafKernelIdeal.Points
public import proofs.«01_k».proof.Proof.Gen.MlafKernelIdeal.Frame
public import proofs.«01_k».proof.Proof.Gen.MlafReferenceIdeal
public import proofs.«01_k».proof.Proof.Gen.PostfKernel
public import proofs.«01_k».proof.Proof.Gen.PostfKernel.Skeleton
public import proofs.«01_k».proof.Proof.Gen.PostfKernel.Launch
public import proofs.«01_k».proof.Proof.Gen.PostfKernel.Points
public import proofs.«01_k».proof.Proof.Gen.PostfKernel.Frame
public import proofs.«01_k».proof.Proof.Gen.PostfKernelIdeal
public import proofs.«01_k».proof.Proof.Gen.PostfKernelIdeal.Skeleton
public import proofs.«01_k».proof.Proof.Gen.PostfKernelIdeal.Launch
public import proofs.«01_k».proof.Proof.Gen.PostfKernelIdeal.Points
public import proofs.«01_k».proof.Proof.Gen.PostfKernelIdeal.Frame
public import proofs.«01_k».proof.Proof.Gen.PostfReferenceIdeal
public import proofs.«01_k».proof.Proof.Gen.FfnfKernel
public import proofs.«01_k».proof.Proof.Gen.FfnfKernel.Skeleton
public import proofs.«01_k».proof.Proof.Gen.FfnfKernel.Launch
public import proofs.«01_k».proof.Proof.Gen.FfnfKernel.Points
public import proofs.«01_k».proof.Proof.Gen.FfnfKernel.Frame
public import proofs.«01_k».proof.Proof.Gen.FfnfKernelIdeal
public import proofs.«01_k».proof.Proof.Gen.FfnfKernelIdeal.Skeleton
public import proofs.«01_k».proof.Proof.Gen.FfnfKernelIdeal.Launch
public import proofs.«01_k».proof.Proof.Gen.FfnfKernelIdeal.Points
public import proofs.«01_k».proof.Proof.Gen.FfnfKernelIdeal.Frame
public import proofs.«01_k».proof.Proof.Gen.FfnfReferenceIdeal
public import proofs.«01_k».proof.Proof.Gen.DtfKernel
public import proofs.«01_k».proof.Proof.Gen.DtfKernel.Skeleton
public import proofs.«01_k».proof.Proof.Gen.DtfKernel.Launch
public import proofs.«01_k».proof.Proof.Gen.DtfKernel.Points
public import proofs.«01_k».proof.Proof.Gen.DtfKernel.Frame
public import proofs.«01_k».proof.Proof.Gen.DtfKernelIdeal
public import proofs.«01_k».proof.Proof.Gen.DtfKernelIdeal.Skeleton
public import proofs.«01_k».proof.Proof.Gen.DtfKernelIdeal.Launch
public import proofs.«01_k».proof.Proof.Gen.DtfKernelIdeal.Points
public import proofs.«01_k».proof.Proof.Gen.DtfKernelIdeal.Frame
public import proofs.«01_k».proof.Proof.Gen.DtfReferenceIdeal
public import proofs.«01_k».proof.Proof.Gen.GatefKernel
public import proofs.«01_k».proof.Proof.Gen.GatefKernel.Skeleton
public import proofs.«01_k».proof.Proof.Gen.GatefKernel.Launch
public import proofs.«01_k».proof.Proof.Gen.GatefKernel.Points
public import proofs.«01_k».proof.Proof.Gen.GatefKernel.Frame
public import proofs.«01_k».proof.Proof.Gen.GatefKernelIdeal
public import proofs.«01_k».proof.Proof.Gen.GatefKernelIdeal.Skeleton
public import proofs.«01_k».proof.Proof.Gen.GatefKernelIdeal.Launch
public import proofs.«01_k».proof.Proof.Gen.GatefKernelIdeal.Points
public import proofs.«01_k».proof.Proof.Gen.GatefKernelIdeal.Frame
public import proofs.«01_k».proof.Proof.Gen.GatefReferenceIdeal
public import proofs.«01_k».proof.Proof.Gen.ConvfKernel
public import proofs.«01_k».proof.Proof.Gen.ConvfKernel.Skeleton
public import proofs.«01_k».proof.Proof.Gen.ConvfKernel.Launch
public import proofs.«01_k».proof.Proof.Gen.ConvfKernel.Points
public import proofs.«01_k».proof.Proof.Gen.ConvfKernel.Frame
public import proofs.«01_k».proof.Proof.Gen.ConvfKernelIdeal
public import proofs.«01_k».proof.Proof.Gen.ConvfKernelIdeal.Skeleton
public import proofs.«01_k».proof.Proof.Gen.ConvfKernelIdeal.Launch
public import proofs.«01_k».proof.Proof.Gen.ConvfKernelIdeal.Points
public import proofs.«01_k».proof.Proof.Gen.ConvfKernelIdeal.Frame
public import proofs.«01_k».proof.Proof.Gen.ConvfReferenceIdeal
public import proofs.«01_k».proof.Proof.Gen.MixKernel
public import proofs.«01_k».proof.Proof.Gen.MixKernel.Skeleton
public import proofs.«01_k».proof.Proof.Gen.MixKernel.Launch
public import proofs.«01_k».proof.Proof.Gen.MixKernel.Points
public import proofs.«01_k».proof.Proof.Gen.MixKernel.Frame
public import proofs.«01_k».proof.Proof.Gen.MixKernelIdeal
public import proofs.«01_k».proof.Proof.Gen.MixKernelIdeal.Skeleton
public import proofs.«01_k».proof.Proof.Gen.MixKernelIdeal.Launch
public import proofs.«01_k».proof.Proof.Gen.MixKernelIdeal.Points
public import proofs.«01_k».proof.Proof.Gen.MixKernelIdeal.Frame
public import proofs.«01_k».proof.Proof.Gen.MixReferenceIdeal
public import proofs.«01_k».proof.Proof.Gen.DownfKernel
public import proofs.«01_k».proof.Proof.Gen.DownfKernel.Skeleton
public import proofs.«01_k».proof.Proof.Gen.DownfKernel.Launch
public import proofs.«01_k».proof.Proof.Gen.DownfKernel.Points
public import proofs.«01_k».proof.Proof.Gen.DownfKernel.Frame
public import proofs.«01_k».proof.Proof.Gen.DownfKernelIdeal
public import proofs.«01_k».proof.Proof.Gen.DownfKernelIdeal.Skeleton
public import proofs.«01_k».proof.Proof.Gen.DownfKernelIdeal.Launch
public import proofs.«01_k».proof.Proof.Gen.DownfKernelIdeal.Points
public import proofs.«01_k».proof.Proof.Gen.DownfKernelIdeal.Frame
public import proofs.«01_k».proof.Proof.Gen.DownfReferenceIdeal
public import proofs.«01_k».proof.Proof.Gen.GudxKernel
public import proofs.«01_k».proof.Proof.Gen.GudxKernel.Skeleton
public import proofs.«01_k».proof.Proof.Gen.GudxKernel.Launch
public import proofs.«01_k».proof.Proof.Gen.GudxKernel.Points
public import proofs.«01_k».proof.Proof.Gen.GudxKernel.Frame
public import proofs.«01_k».proof.Proof.Gen.GudxKernelIdeal
public import proofs.«01_k».proof.Proof.Gen.GudxKernelIdeal.Skeleton
public import proofs.«01_k».proof.Proof.Gen.GudxKernelIdeal.Launch
public import proofs.«01_k».proof.Proof.Gen.GudxKernelIdeal.Points
public import proofs.«01_k».proof.Proof.Gen.GudxKernelIdeal.Frame
public import proofs.«01_k».proof.Proof.Gen.GudxReferenceIdeal
public import proofs.«01_k».proof.Proof.Gen.GudwKernel
public import proofs.«01_k».proof.Proof.Gen.GudwKernel.Skeleton
public import proofs.«01_k».proof.Proof.Gen.GudwKernel.Launch
public import proofs.«01_k».proof.Proof.Gen.GudwKernel.Points
public import proofs.«01_k».proof.Proof.Gen.GudwKernel.Frame
public import proofs.«01_k».proof.Proof.Gen.GudwKernelIdeal
public import proofs.«01_k».proof.Proof.Gen.GudwKernelIdeal.Skeleton
public import proofs.«01_k».proof.Proof.Gen.GudwKernelIdeal.Launch
public import proofs.«01_k».proof.Proof.Gen.GudwKernelIdeal.Points
public import proofs.«01_k».proof.Proof.Gen.GudwKernelIdeal.Frame
public import proofs.«01_k».proof.Proof.Gen.GudwReferenceIdeal
public import proofs.«01_k».proof.Proof.Gen.OutdxKernel
public import proofs.«01_k».proof.Proof.Gen.OutdxKernel.Skeleton
public import proofs.«01_k».proof.Proof.Gen.OutdxKernel.Launch
public import proofs.«01_k».proof.Proof.Gen.OutdxKernel.Points
public import proofs.«01_k».proof.Proof.Gen.OutdxKernel.Frame
public import proofs.«01_k».proof.Proof.Gen.OutdxKernelIdeal
public import proofs.«01_k».proof.Proof.Gen.OutdxKernelIdeal.Skeleton
public import proofs.«01_k».proof.Proof.Gen.OutdxKernelIdeal.Launch
public import proofs.«01_k».proof.Proof.Gen.OutdxKernelIdeal.Points
public import proofs.«01_k».proof.Proof.Gen.OutdxKernelIdeal.Frame
public import proofs.«01_k».proof.Proof.Gen.OutdxReferenceIdeal
public import proofs.«01_k».proof.Proof.Gen.DowndwKernel
public import proofs.«01_k».proof.Proof.Gen.DowndwKernel.Skeleton
public import proofs.«01_k».proof.Proof.Gen.DowndwKernel.Launch
public import proofs.«01_k».proof.Proof.Gen.DowndwKernel.Points
public import proofs.«01_k».proof.Proof.Gen.DowndwKernel.Frame
public import proofs.«01_k».proof.Proof.Gen.DowndwKernelIdeal
public import proofs.«01_k».proof.Proof.Gen.DowndwKernelIdeal.Skeleton
public import proofs.«01_k».proof.Proof.Gen.DowndwKernelIdeal.Launch
public import proofs.«01_k».proof.Proof.Gen.DowndwKernelIdeal.Points
public import proofs.«01_k».proof.Proof.Gen.DowndwKernelIdeal.Frame
public import proofs.«01_k».proof.Proof.Gen.DowndwReferenceIdeal
public import proofs.«01_k».proof.Proof.Gen.AdamKernel
public import proofs.«01_k».proof.Proof.Gen.AdamKernel.Skeleton
public import proofs.«01_k».proof.Proof.Gen.AdamKernel.Launch
public import proofs.«01_k».proof.Proof.Gen.AdamKernel.Points
public import proofs.«01_k».proof.Proof.Gen.AdamKernel.Frame
public import proofs.«01_k».proof.Proof.Gen.AdamKernelIdeal
public import proofs.«01_k».proof.Proof.Gen.AdamKernelIdeal.Skeleton
public import proofs.«01_k».proof.Proof.Gen.AdamKernelIdeal.Launch
public import proofs.«01_k».proof.Proof.Gen.AdamKernelIdeal.Points
public import proofs.«01_k».proof.Proof.Gen.AdamKernelIdeal.Frame
public import proofs.«01_k».proof.Proof.Gen.AdamReferenceIdeal
public import proofs.«01_k».proof.Proof.Gen.Pre_finite_conv
public import proofs.«01_k».proof.Proof.Gen.Pre_finite_gate
public import proofs.«01_k».proof.Proof.Gen.Pre_finite_ffn
public import proofs.«01_k».proof.Proof.Gen.Pre_finite_ln
public import proofs.«01_k».proof.Proof.Gen.Pre_finite_foxf
public import proofs.«01_k».proof.Proof.Gen.Pre_finite_attf
public import proofs.«01_k».proof.Proof.Gen.Pre_finite_gatef
public import proofs.«01_k».proof.Proof.Gen.RopeReferenceIdeal.Run
public import proofs.«01_k».proof.Proof.Gen.RopeReferenceIdeal.Read
public import proofs.«01_k».proof.Proof.Gen.LossReferenceIdeal.Run
public import proofs.«01_k».proof.Proof.Gen.LossReferenceIdeal.Read
public import proofs.«01_k».proof.Proof.Gen.ConvReferenceIdeal.Run
public import proofs.«01_k».proof.Proof.Gen.ConvReferenceIdeal.Read
public import proofs.«01_k».proof.Proof.Gen.DtReferenceIdeal.Run
public import proofs.«01_k».proof.Proof.Gen.DtReferenceIdeal.Read
public import proofs.«01_k».proof.Proof.Gen.GateReferenceIdeal.Run
public import proofs.«01_k».proof.Proof.Gen.GateReferenceIdeal.Read
public import proofs.«01_k».proof.Proof.Gen.FfnReferenceIdeal.Run
public import proofs.«01_k».proof.Proof.Gen.FfnReferenceIdeal.Read
public import proofs.«01_k».proof.Proof.Gen.LnReferenceIdeal.Run
public import proofs.«01_k».proof.Proof.Gen.LnReferenceIdeal.Read
public import proofs.«01_k».proof.Proof.Gen.MlaReferenceIdeal.Run
public import proofs.«01_k».proof.Proof.Gen.MlaReferenceIdeal.Read
public import proofs.«01_k».proof.Proof.Gen.PostReferenceIdeal.Run
public import proofs.«01_k».proof.Proof.Gen.PostReferenceIdeal.Read
public import proofs.«01_k».proof.Proof.Gen.FoxfReferenceIdeal.Run
public import proofs.«01_k».proof.Proof.Gen.FoxfReferenceIdeal.Read
public import proofs.«01_k».proof.Proof.Gen.AttfReferenceIdeal.Run
public import proofs.«01_k».proof.Proof.Gen.AttfReferenceIdeal.Read
public import proofs.«01_k».proof.Proof.Gen.RopefReferenceIdeal.Run
public import proofs.«01_k».proof.Proof.Gen.RopefReferenceIdeal.Read
public import proofs.«01_k».proof.Proof.Gen.DtfReferenceIdeal.Run
public import proofs.«01_k».proof.Proof.Gen.DtfReferenceIdeal.Read
public import proofs.«01_k».proof.Proof.Gen.GatefReferenceIdeal.Run
public import proofs.«01_k».proof.Proof.Gen.GatefReferenceIdeal.Read
public import proofs.«01_k».proof.Proof.Gen.ConvfReferenceIdeal.Run
public import proofs.«01_k».proof.Proof.Gen.ConvfReferenceIdeal.Read
public import proofs.«01_k».proof.Proof.Gen.MlafReferenceIdeal.Run
public import proofs.«01_k».proof.Proof.Gen.MlafReferenceIdeal.Read
public import proofs.«01_k».proof.Proof.Gen.PostfReferenceIdeal.Run
public import proofs.«01_k».proof.Proof.Gen.PostfReferenceIdeal.Read
public import proofs.«01_k».proof.Proof.Gen.FfnfReferenceIdeal.Run
public import proofs.«01_k».proof.Proof.Gen.FfnfReferenceIdeal.Read
public import proofs.«01_k».proof.Proof.Gen.MixReferenceIdeal.Run
public import proofs.«01_k».proof.Proof.Gen.MixReferenceIdeal.Read
public import proofs.«01_k».proof.Proof.Gen.DownfReferenceIdeal.Run
public import proofs.«01_k».proof.Proof.Gen.DownfReferenceIdeal.Read
public import proofs.«01_k».proof.Proof.Gen.GudxReferenceIdeal.Run
public import proofs.«01_k».proof.Proof.Gen.GudxReferenceIdeal.Read
public import proofs.«01_k».proof.Proof.Gen.GudwReferenceIdeal.Run
public import proofs.«01_k».proof.Proof.Gen.GudwReferenceIdeal.Read
public import proofs.«01_k».proof.Proof.Gen.OutdxReferenceIdeal.Run
public import proofs.«01_k».proof.Proof.Gen.OutdxReferenceIdeal.Read
public import proofs.«01_k».proof.Proof.Gen.DowndwReferenceIdeal.Run
public import proofs.«01_k».proof.Proof.Gen.DowndwReferenceIdeal.Read
public import proofs.«01_k».proof.Proof.Gen.AdamReferenceIdeal.Run
public import proofs.«01_k».proof.Proof.Gen.AdamReferenceIdeal.Read
public import proofs.«01_k».proof.Proof.RopeClaim
public import proofs.«01_k».proof.Proof.LossClaim
public import proofs.«01_k».proof.Proof.ConvClaim
public import proofs.«01_k».proof.Proof.DtClaim
public import proofs.«01_k».proof.Proof.GateClaim
public import proofs.«01_k».proof.Proof.FfnClaim
public import proofs.«01_k».proof.Proof.LnClaim
public import proofs.«01_k».proof.Proof.MlaClaim
public import proofs.«01_k».proof.Proof.PostClaim
public import proofs.«01_k».proof.Proof.FoxfClaim
public import proofs.«01_k».proof.Proof.AttfClaim
public import proofs.«01_k».proof.Proof.RopefClaim
public import proofs.«01_k».proof.Proof.MlafClaim
public import proofs.«01_k».proof.Proof.PostfClaim
public import proofs.«01_k».proof.Proof.FfnfClaim
public import proofs.«01_k».proof.Proof.DtfClaim
public import proofs.«01_k».proof.Proof.ConvfClaim
public import proofs.«01_k».proof.Proof.GatefClaim
public import proofs.«01_k».proof.Proof.MixClaim
public import proofs.«01_k».proof.Proof.DownfClaim
public import proofs.«01_k».proof.Proof.GudxClaim
public import proofs.«01_k».proof.Proof.GudwClaim
public import proofs.«01_k».proof.Proof.OutdxClaim
public import proofs.«01_k».proof.Proof.DowndwClaim
public import proofs.«01_k».proof.Proof.AdamClaim
public import Idealize.ShloMosaic.Adequacy
public import Idealize.ShloMosaic.Init

@[expose] public section

set_option maxRecDepth 16384

noncomputable section

namespace Cert.Proof

open Idealize.ShloMosaic Idealize.SL.Sem Cert.RopeKernel

/-! Each reference runs to its end and leaves its arguments as they were. -/

theorem RopeReferenceIdeal.quiescent : Cert.quiescent_RopeReferenceIdeal := fun m g _ =>
  (θ_run _ _ _).mono (fun _ h => ⟨fun c => (h c).2.2, funext fun l => nomatch l.2⟩) (Cert.RopeReferenceIdeal.Value.run m g)
theorem LossReferenceIdeal.quiescent : Cert.quiescent_LossReferenceIdeal := fun m g _ =>
  (θ_run _ _ _).mono (fun _ h => ⟨fun c => (h c).2.2, funext fun l => nomatch l.2⟩) (Cert.LossReferenceIdeal.Value.run m g)
theorem ConvReferenceIdeal.quiescent : Cert.quiescent_ConvReferenceIdeal := fun m g _ =>
  (θ_run _ _ _).mono (fun _ h => ⟨fun c => (h c).2.2.2, funext fun l => nomatch l.2⟩) (Cert.ConvReferenceIdeal.Value.run m g)
theorem ConvReferenceIdeal.quiescent_pre : Cert.quiescent_ConvReferenceIdeal_pre_finite_conv := fun m g _ =>
  (θ_run _ _ _).mono (fun _ h => ⟨fun c => (h c).2.2.2, funext fun l => nomatch l.2⟩) (Cert.ConvReferenceIdeal.Value.run m g)
theorem DtReferenceIdeal.quiescent : Cert.quiescent_DtReferenceIdeal := fun m g _ =>
  (θ_run _ _ _).mono (fun _ h => ⟨fun c => (h c).2.2, funext fun l => nomatch l.2⟩) (Cert.DtReferenceIdeal.Value.run m g)
theorem GateReferenceIdeal.quiescent : Cert.quiescent_GateReferenceIdeal := fun m g _ =>
  (θ_run _ _ _).mono (fun _ h => ⟨fun c => (h c).2.2, funext fun l => nomatch l.2⟩) (Cert.GateReferenceIdeal.Value.run m g)
theorem GateReferenceIdeal.quiescent_pre : Cert.quiescent_GateReferenceIdeal_pre_finite_gate := fun m g _ =>
  (θ_run _ _ _).mono (fun _ h => ⟨fun c => (h c).2.2, funext fun l => nomatch l.2⟩) (Cert.GateReferenceIdeal.Value.run m g)
theorem FfnReferenceIdeal.quiescent : Cert.quiescent_FfnReferenceIdeal := fun m g _ =>
  (θ_run _ _ _).mono (fun _ h => ⟨fun c => (h c).2.2, funext fun l => nomatch l.2⟩) (Cert.FfnReferenceIdeal.Value.run m g)
theorem FfnReferenceIdeal.quiescent_pre : Cert.quiescent_FfnReferenceIdeal_pre_finite_ffn := fun m g _ =>
  (θ_run _ _ _).mono (fun _ h => ⟨fun c => (h c).2.2, funext fun l => nomatch l.2⟩) (Cert.FfnReferenceIdeal.Value.run m g)
theorem LnReferenceIdeal.quiescent : Cert.quiescent_LnReferenceIdeal := fun m g _ =>
  (θ_run _ _ _).mono (fun _ h => ⟨fun c => (h c).2.2.2.2, funext fun l => nomatch l.2⟩) (Cert.LnReferenceIdeal.Value.run m g)
theorem LnReferenceIdeal.quiescent_pre : Cert.quiescent_LnReferenceIdeal_pre_finite_ln := fun m g _ =>
  (θ_run _ _ _).mono (fun _ h => ⟨fun c => (h c).2.2.2.2, funext fun l => nomatch l.2⟩) (Cert.LnReferenceIdeal.Value.run m g)
theorem MlaReferenceIdeal.quiescent : Cert.quiescent_MlaReferenceIdeal := fun m g _ =>
  (θ_run _ _ _).mono (fun _ h => ⟨fun c => (h c).2.2.2.2, funext fun l => nomatch l.2⟩) (Cert.MlaReferenceIdeal.Value.run m g)
theorem PostReferenceIdeal.quiescent : Cert.quiescent_PostReferenceIdeal := fun m g _ =>
  (θ_run _ _ _).mono (fun _ h => ⟨fun c => (h c).2.2.2.2.2, funext fun l => nomatch l.2⟩) (Cert.PostReferenceIdeal.Value.run m g)
theorem FoxfReferenceIdeal.quiescent : Cert.quiescent_FoxfReferenceIdeal := fun m g _ =>
  (θ_run _ _ _).mono (fun _ h => ⟨fun c => (h c).2, funext fun l => nomatch l.2⟩) (Cert.FoxfReferenceIdeal.Value.run m g)
theorem FoxfReferenceIdeal.quiescent_pre : Cert.quiescent_FoxfReferenceIdeal_pre_finite_foxf := fun m g _ =>
  (θ_run _ _ _).mono (fun _ h => ⟨fun c => (h c).2, funext fun l => nomatch l.2⟩) (Cert.FoxfReferenceIdeal.Value.run m g)
theorem AttfReferenceIdeal.quiescent : Cert.quiescent_AttfReferenceIdeal := fun m g _ =>
  (θ_run _ _ _).mono (fun _ h => ⟨fun c => (h c).2, funext fun l => nomatch l.2⟩) (Cert.AttfReferenceIdeal.Value.run m g)
theorem AttfReferenceIdeal.quiescent_pre : Cert.quiescent_AttfReferenceIdeal_pre_finite_attf := fun m g _ =>
  (θ_run _ _ _).mono (fun _ h => ⟨fun c => (h c).2, funext fun l => nomatch l.2⟩) (Cert.AttfReferenceIdeal.Value.run m g)
theorem RopefReferenceIdeal.quiescent : Cert.quiescent_RopefReferenceIdeal := fun m g _ =>
  (θ_run _ _ _).mono (fun _ h => ⟨fun c => (h c).2.2, funext fun l => nomatch l.2⟩) (Cert.RopefReferenceIdeal.Value.run m g)
theorem MlafReferenceIdeal.quiescent : Cert.quiescent_MlafReferenceIdeal := fun m g _ =>
  (θ_run _ _ _).mono (fun _ h => ⟨fun c => (h c).2.2, funext fun l => nomatch l.2⟩) (Cert.MlafReferenceIdeal.Value.run m g)
theorem PostfReferenceIdeal.quiescent : Cert.quiescent_PostfReferenceIdeal := fun m g _ =>
  (θ_run _ _ _).mono (fun _ h => ⟨fun c => (h c).2, funext fun l => nomatch l.2⟩) (Cert.PostfReferenceIdeal.Value.run m g)
theorem FfnfReferenceIdeal.quiescent : Cert.quiescent_FfnfReferenceIdeal := fun m g _ =>
  (θ_run _ _ _).mono (fun _ h => ⟨fun c => (h c).2.2.2, funext fun l => nomatch l.2⟩) (Cert.FfnfReferenceIdeal.Value.run m g)
theorem DtfReferenceIdeal.quiescent : Cert.quiescent_DtfReferenceIdeal := fun m g _ =>
  (θ_run _ _ _).mono (fun _ h => ⟨fun c => (h c).2.2, funext fun l => nomatch l.2⟩) (Cert.DtfReferenceIdeal.Value.run m g)
theorem GatefReferenceIdeal.quiescent : Cert.quiescent_GatefReferenceIdeal := fun m g _ =>
  (θ_run _ _ _).mono (fun _ h => ⟨fun c => (h c).2.2, funext fun l => nomatch l.2⟩) (Cert.GatefReferenceIdeal.Value.run m g)
theorem GatefReferenceIdeal.quiescent_pre : Cert.quiescent_GatefReferenceIdeal_pre_finite_gatef := fun m g _ =>
  (θ_run _ _ _).mono (fun _ h => ⟨fun c => (h c).2.2, funext fun l => nomatch l.2⟩) (Cert.GatefReferenceIdeal.Value.run m g)
theorem ConvfReferenceIdeal.quiescent : Cert.quiescent_ConvfReferenceIdeal := fun m g _ =>
  (θ_run _ _ _).mono (fun _ h => ⟨fun c => (h c).2, funext fun l => nomatch l.2⟩) (Cert.ConvfReferenceIdeal.Value.run m g)
theorem MixReferenceIdeal.quiescent : Cert.quiescent_MixReferenceIdeal := fun m g _ =>
  (θ_run _ _ _).mono (fun _ h => ⟨fun c => (h c).2.2.2, funext fun l => nomatch l.2⟩) (Cert.MixReferenceIdeal.Value.run m g)
theorem DownfReferenceIdeal.quiescent : Cert.quiescent_DownfReferenceIdeal := fun m g _ =>
  (θ_run _ _ _).mono (fun _ h => ⟨fun c => (h c).2.2.2, funext fun l => nomatch l.2⟩) (Cert.DownfReferenceIdeal.Value.run m g)
theorem GudxReferenceIdeal.quiescent : Cert.quiescent_GudxReferenceIdeal := fun m g _ =>
  (θ_run _ _ _).mono (fun _ h => ⟨fun c => (h c).2, funext fun l => nomatch l.2⟩) (Cert.GudxReferenceIdeal.Value.run m g)
theorem GudwReferenceIdeal.quiescent : Cert.quiescent_GudwReferenceIdeal := fun m g _ =>
  (θ_run _ _ _).mono (fun _ h => ⟨fun c => (h c).2.2, funext fun l => nomatch l.2⟩) (Cert.GudwReferenceIdeal.Value.run m g)
theorem OutdxReferenceIdeal.quiescent : Cert.quiescent_OutdxReferenceIdeal := fun m g _ =>
  (θ_run _ _ _).mono (fun _ h => ⟨fun c => (h c).2, funext fun l => nomatch l.2⟩) (Cert.OutdxReferenceIdeal.Value.run m g)
theorem DowndwReferenceIdeal.quiescent : Cert.quiescent_DowndwReferenceIdeal := fun m g _ =>
  (θ_run _ _ _).mono (fun _ h => ⟨fun c => (h c).2, funext fun l => nomatch l.2⟩) (Cert.DowndwReferenceIdeal.Value.run m g)
theorem AdamReferenceIdeal.quiescent : Cert.quiescent_AdamReferenceIdeal := fun m g _ =>
  (θ_run _ _ _).mono (fun _ h => ⟨fun c => (h c).2.2.2.2, funext fun l => nomatch l.2⟩) (Cert.AdamReferenceIdeal.Value.run m g)

/-- Everything the certificate claims. -/
theorem claim : Cert.Claim := ⟨Cert.RopeKernel.Gen.facts, Cert.RopeKernelIdeal.Gen.facts, Cert.RopeReferenceIdeal.Gen.facts, Cert.LossKernel.Gen.facts, Cert.LossKernelIdeal.Gen.facts, Cert.LossReferenceIdeal.Gen.facts, Cert.ConvKernel.Gen.facts, Cert.ConvKernelIdeal.Gen.facts, Cert.ConvReferenceIdeal.Gen.facts, Cert.DtKernel.Gen.facts, Cert.DtKernelIdeal.Gen.facts, Cert.DtReferenceIdeal.Gen.facts, Cert.GateKernel.Gen.facts, Cert.GateKernelIdeal.Gen.facts, Cert.GateReferenceIdeal.Gen.facts, Cert.FfnKernel.Gen.facts, Cert.FfnKernelIdeal.Gen.facts, Cert.FfnReferenceIdeal.Gen.facts, Cert.LnKernel.Gen.facts, Cert.LnKernelIdeal.Gen.facts, Cert.LnReferenceIdeal.Gen.facts, Cert.MlaKernel.Gen.facts, Cert.MlaKernelIdeal.Gen.facts, Cert.MlaReferenceIdeal.Gen.facts, Cert.PostKernel.Gen.facts, Cert.PostKernelIdeal.Gen.facts, Cert.PostReferenceIdeal.Gen.facts, Cert.FoxfKernel.Gen.facts, Cert.FoxfKernelIdeal.Gen.facts, Cert.FoxfReferenceIdeal.Gen.facts, Cert.AttfKernel.Gen.facts, Cert.AttfKernelIdeal.Gen.facts, Cert.AttfReferenceIdeal.Gen.facts, Cert.RopefKernel.Gen.facts, Cert.RopefKernelIdeal.Gen.facts, Cert.RopefReferenceIdeal.Gen.facts, Cert.MlafKernel.Gen.facts, Cert.MlafKernelIdeal.Gen.facts, Cert.MlafReferenceIdeal.Gen.facts, Cert.PostfKernel.Gen.facts, Cert.PostfKernelIdeal.Gen.facts, Cert.PostfReferenceIdeal.Gen.facts, Cert.FfnfKernel.Gen.facts, Cert.FfnfKernelIdeal.Gen.facts, Cert.FfnfReferenceIdeal.Gen.facts, Cert.DtfKernel.Gen.facts, Cert.DtfKernelIdeal.Gen.facts, Cert.DtfReferenceIdeal.Gen.facts, Cert.GatefKernel.Gen.facts, Cert.GatefKernelIdeal.Gen.facts, Cert.GatefReferenceIdeal.Gen.facts, Cert.ConvfKernel.Gen.facts, Cert.ConvfKernelIdeal.Gen.facts, Cert.ConvfReferenceIdeal.Gen.facts, Cert.MixKernel.Gen.facts, Cert.MixKernelIdeal.Gen.facts, Cert.MixReferenceIdeal.Gen.facts, Cert.DownfKernel.Gen.facts, Cert.DownfKernelIdeal.Gen.facts, Cert.DownfReferenceIdeal.Gen.facts, Cert.GudxKernel.Gen.facts, Cert.GudxKernelIdeal.Gen.facts, Cert.GudxReferenceIdeal.Gen.facts, Cert.GudwKernel.Gen.facts, Cert.GudwKernelIdeal.Gen.facts, Cert.GudwReferenceIdeal.Gen.facts, Cert.OutdxKernel.Gen.facts, Cert.OutdxKernelIdeal.Gen.facts, Cert.OutdxReferenceIdeal.Gen.facts, Cert.DowndwKernel.Gen.facts, Cert.DowndwKernelIdeal.Gen.facts, Cert.DowndwReferenceIdeal.Gen.facts, Cert.AdamKernel.Gen.facts, Cert.AdamKernelIdeal.Gen.facts, Cert.AdamReferenceIdeal.Gen.facts, Cert.Pre_finite_conv.Gen.facts, Cert.Pre_finite_gate.Gen.facts, Cert.Pre_finite_ffn.Gen.facts, Cert.Pre_finite_ln.Gen.facts, Cert.Pre_finite_foxf.Gen.facts, Cert.Pre_finite_attf.Gen.facts, Cert.Pre_finite_gatef.Gen.facts,
    fun m ρ _ => Cert.RopeKernel.Gen.frame m ρ,
    fun m ρ _ => Cert.RopeKernelIdeal.Gen.frame m ρ,
    RopeReferenceIdeal.quiescent,
    fun m ρ _ => Cert.LossKernel.Gen.frame m ρ,
    fun m ρ _ => Cert.LossKernelIdeal.Gen.frame m ρ,
    LossReferenceIdeal.quiescent,
    fun m ρ _ => Cert.ConvKernel.Gen.frame m ρ,
    fun m ρ _ => Cert.ConvKernelIdeal.Gen.frame m ρ,
    fun m ρ _ => Cert.ConvKernelIdeal.Gen.frame m ρ,
    ConvReferenceIdeal.quiescent,
    ConvReferenceIdeal.quiescent_pre,
    fun m ρ _ => Cert.DtKernel.Gen.frame m ρ,
    fun m ρ _ => Cert.DtKernelIdeal.Gen.frame m ρ,
    DtReferenceIdeal.quiescent,
    fun m ρ _ => Cert.GateKernel.Gen.frame m ρ,
    fun m ρ _ => Cert.GateKernelIdeal.Gen.frame m ρ,
    fun m ρ _ => Cert.GateKernelIdeal.Gen.frame m ρ,
    GateReferenceIdeal.quiescent,
    GateReferenceIdeal.quiescent_pre,
    fun m ρ _ => Cert.FfnKernel.Gen.frame m ρ,
    fun m ρ _ => Cert.FfnKernelIdeal.Gen.frame m ρ,
    fun m ρ _ => Cert.FfnKernelIdeal.Gen.frame m ρ,
    FfnReferenceIdeal.quiescent,
    FfnReferenceIdeal.quiescent_pre,
    fun m ρ _ => Cert.LnKernel.Gen.frame m ρ,
    fun m ρ _ => Cert.LnKernelIdeal.Gen.frame m ρ,
    fun m ρ _ => Cert.LnKernelIdeal.Gen.frame m ρ,
    LnReferenceIdeal.quiescent,
    LnReferenceIdeal.quiescent_pre,
    fun m ρ _ => Cert.MlaKernel.Gen.frame m ρ,
    fun m ρ _ => Cert.MlaKernelIdeal.Gen.frame m ρ,
    MlaReferenceIdeal.quiescent,
    fun m ρ _ => Cert.PostKernel.Gen.frame m ρ,
    fun m ρ _ => Cert.PostKernelIdeal.Gen.frame m ρ,
    PostReferenceIdeal.quiescent,
    fun m ρ _ => Cert.FoxfKernel.Gen.frame m ρ,
    fun m ρ _ => Cert.FoxfKernelIdeal.Gen.frame m ρ,
    fun m ρ _ => Cert.FoxfKernelIdeal.Gen.frame m ρ,
    FoxfReferenceIdeal.quiescent,
    FoxfReferenceIdeal.quiescent_pre,
    fun m ρ _ => Cert.AttfKernel.Gen.frame m ρ,
    fun m ρ _ => Cert.AttfKernelIdeal.Gen.frame m ρ,
    fun m ρ _ => Cert.AttfKernelIdeal.Gen.frame m ρ,
    AttfReferenceIdeal.quiescent,
    AttfReferenceIdeal.quiescent_pre,
    fun m ρ _ => Cert.RopefKernel.Gen.frame m ρ,
    fun m ρ _ => Cert.RopefKernelIdeal.Gen.frame m ρ,
    RopefReferenceIdeal.quiescent,
    fun m ρ _ => Cert.MlafKernel.Gen.frame m ρ,
    fun m ρ _ => Cert.MlafKernelIdeal.Gen.frame m ρ,
    MlafReferenceIdeal.quiescent,
    fun m ρ _ => Cert.PostfKernel.Gen.frame m ρ,
    fun m ρ _ => Cert.PostfKernelIdeal.Gen.frame m ρ,
    PostfReferenceIdeal.quiescent,
    fun m ρ _ => Cert.FfnfKernel.Gen.frame m ρ,
    fun m ρ _ => Cert.FfnfKernelIdeal.Gen.frame m ρ,
    FfnfReferenceIdeal.quiescent,
    fun m ρ _ => Cert.DtfKernel.Gen.frame m ρ,
    fun m ρ _ => Cert.DtfKernelIdeal.Gen.frame m ρ,
    DtfReferenceIdeal.quiescent,
    fun m ρ _ => Cert.GatefKernel.Gen.frame m ρ,
    fun m ρ _ => Cert.GatefKernelIdeal.Gen.frame m ρ,
    fun m ρ _ => Cert.GatefKernelIdeal.Gen.frame m ρ,
    GatefReferenceIdeal.quiescent,
    GatefReferenceIdeal.quiescent_pre,
    fun m ρ _ => Cert.ConvfKernel.Gen.frame m ρ,
    fun m ρ _ => Cert.ConvfKernelIdeal.Gen.frame m ρ,
    ConvfReferenceIdeal.quiescent,
    fun m ρ _ => Cert.MixKernel.Gen.frame m ρ,
    fun m ρ _ => Cert.MixKernelIdeal.Gen.frame m ρ,
    MixReferenceIdeal.quiescent,
    fun m ρ _ => Cert.DownfKernel.Gen.frame m ρ,
    fun m ρ _ => Cert.DownfKernelIdeal.Gen.frame m ρ,
    DownfReferenceIdeal.quiescent,
    fun m ρ _ => Cert.GudxKernel.Gen.frame m ρ,
    fun m ρ _ => Cert.GudxKernelIdeal.Gen.frame m ρ,
    GudxReferenceIdeal.quiescent,
    fun m ρ _ => Cert.GudwKernel.Gen.frame m ρ,
    fun m ρ _ => Cert.GudwKernelIdeal.Gen.frame m ρ,
    GudwReferenceIdeal.quiescent,
    fun m ρ _ => Cert.OutdxKernel.Gen.frame m ρ,
    fun m ρ _ => Cert.OutdxKernelIdeal.Gen.frame m ρ,
    OutdxReferenceIdeal.quiescent,
    fun m ρ _ => Cert.DowndwKernel.Gen.frame m ρ,
    fun m ρ _ => Cert.DowndwKernelIdeal.Gen.frame m ρ,
    DowndwReferenceIdeal.quiescent,
    fun m ρ _ => Cert.AdamKernel.Gen.frame m ρ,
    fun m ρ _ => Cert.AdamKernelIdeal.Gen.frame m ρ,
    AdamReferenceIdeal.quiescent,
    trivial,
    Cert.RopeKernelIdeal.Value.algebraic,
    trivial,
    Cert.LossKernelIdeal.Value.algebraic,
    trivial,
    Cert.ConvKernelIdeal.Value.algebraic,
    trivial,
    Cert.DtKernelIdeal.Value.algebraic,
    trivial,
    Cert.GateKernelIdeal.Value.algebraic,
    trivial,
    Cert.FfnKernelIdeal.Value.algebraic,
    trivial,
    Cert.LnKernelIdeal.Value.algebraic,
    trivial,
    Cert.MlaKernelIdeal.Value.algebraic,
    trivial,
    Cert.PostKernelIdeal.Value.algebraic,
    IdealRules.named_const.statement Cert.FoxfKernelIdeal.κ "mask" .f32 0xF149F2CA#32 ⊥ rfl,
    Cert.FoxfKernelIdeal.Value.algebraic,
    IdealRules.named_const.statement Cert.AttfKernelIdeal.κ "mask" .f32 0xF149F2CA#32 ⊥ rfl,
    Cert.AttfKernelIdeal.Value.algebraic,
    trivial,
    Cert.RopefKernelIdeal.Value.algebraic,
    trivial,
    Cert.MlafKernelIdeal.Value.algebraic,
    trivial,
    Cert.PostfKernelIdeal.Value.algebraic,
    trivial,
    Cert.FfnfKernelIdeal.Value.algebraic,
    trivial,
    Cert.DtfKernelIdeal.Value.algebraic,
    trivial,
    Cert.GatefKernelIdeal.Value.algebraic,
    trivial,
    Cert.ConvfKernelIdeal.Value.algebraic,
    trivial,
    Cert.MixKernelIdeal.Value.algebraic,
    trivial,
    Cert.DownfKernelIdeal.Value.algebraic,
    trivial,
    Cert.GudxKernelIdeal.Value.algebraic,
    trivial,
    Cert.GudwKernelIdeal.Value.algebraic,
    trivial,
    Cert.OutdxKernelIdeal.Value.algebraic,
    trivial,
    Cert.DowndwKernelIdeal.Value.algebraic,
    trivial,
    Cert.AdamKernelIdeal.Value.algebraic⟩

end Cert.Proof

end
